-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_queries_keys [hPre_finite_queries_keys : Cert.Pre_finite_queries_keys.Facts] (m : (ℓ : Loc Cert.KernelIdeal.nD Cert.KernelIdeal.τ Cert.KernelIdeal.sig) → Buf (Elt Ideal) ℓ) : Prop :=
  ∀ c : Dev Cert.KernelIdeal.nD,
    (Cert.Pre_finite_queries_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_queries_keys [hPre_finite_queries_keys : Cert.Pre_finite_queries_keys.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_queries_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_nonnegative_weights [hPre_nonnegative_weights : Cert.Pre_nonnegative_weights.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_nonnegative_weights.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_nonnegative_weights [hPre_nonnegative_weights : Cert.Pre_nonnegative_weights.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_nonnegative_weights.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_queries_keys [hKernelIdeal : Cert.KernelIdeal.Facts] [hPre_finite_queries_keys : Cert.Pre_finite_queries_keys.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_queries_keys m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_queries_keys [hReferenceIdeal : Cert.ReferenceIdeal.Facts] [hPre_finite_queries_keys : Cert.Pre_finite_queries_keys.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_queries_keys m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Kernel2Ideal_pre_nonnegative_weights [hKernel2Ideal : Cert.Kernel2Ideal.Facts] [hPre_nonnegative_weights : Cert.Pre_nonnegative_weights.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_nonnegative_weights m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Reference2Ideal_pre_nonnegative_weights [hReference2Ideal : Cert.Reference2Ideal.Facts] [hPre_nonnegative_weights : Cert.Pre_nonnegative_weights.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_nonnegative_weights m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11))
      ∧ r.2.sem = fun _ => 0)

def preserves_Kernel_KernelIdeal : Prop :=
  IdealRules.named_const.Statement Cert.KernelIdeal.κ "neg_log2e" .f32 0xBFB8AA3B#32 ((-((Real.log 2)⁻¹) : ℝ) : EReal)

def algebraic_KernelIdeal_ReferenceIdeal_pre_finite_queries_keys [hKernelIdeal : Cert.KernelIdeal.Facts] [hReferenceIdeal : Cert.ReferenceIdeal.Facts] [hPre_finite_queries_keys : Cert.Pre_finite_queries_keys.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_queries_keys m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal_pre_nonnegative_weights [hKernel2Ideal : Cert.Kernel2Ideal.Facts] [hReference2Ideal : Cert.Reference2Ideal.Facts] [hPre_nonnegative_weights : Cert.Pre_nonnegative_weights.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_nonnegative_weights m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v46)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v46) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v158) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v27) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)) →
    ∃ (v0 : (c : Dev Cert.Kernel4Ideal.nD) → Buf (Elt Ideal) ((c.tc : Thread Cert.Kernel4Ideal.nD Cert.Kernel4Ideal.τ).loc Cert.Kernel4Ideal.main_v6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v77) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite_queries_keys : Cert.Pre_finite_queries_keys.Facts) (hPre_nonnegative_weights : Cert.Pre_nonnegative_weights.Facts),
    quiescent_Kernel (hKernel := hKernel)
    ∧ quiescent_KernelIdeal (hKernelIdeal := hKernelIdeal)
    ∧ quiescent_KernelIdeal_pre_finite_queries_keys (hKernelIdeal := hKernelIdeal) (hPre_finite_queries_keys := hPre_finite_queries_keys)
    ∧ quiescent_ReferenceIdeal (hReferenceIdeal := hReferenceIdeal)
    ∧ quiescent_ReferenceIdeal_pre_finite_queries_keys (hReferenceIdeal := hReferenceIdeal) (hPre_finite_queries_keys := hPre_finite_queries_keys)
    ∧ quiescent_Kernel2 (hKernel2 := hKernel2)
    ∧ quiescent_Kernel2Ideal (hKernel2Ideal := hKernel2Ideal)
    ∧ quiescent_Kernel2Ideal_pre_nonnegative_weights (hKernel2Ideal := hKernel2Ideal) (hPre_nonnegative_weights := hPre_nonnegative_weights)
    ∧ quiescent_Reference2Ideal (hReference2Ideal := hReference2Ideal)
    ∧ quiescent_Reference2Ideal_pre_nonnegative_weights (hReference2Ideal := hReference2Ideal) (hPre_nonnegative_weights := hPre_nonnegative_weights)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite_queries_keys (hKernelIdeal := hKernelIdeal) (hReferenceIdeal := hReferenceIdeal) (hPre_finite_queries_keys := hPre_finite_queries_keys)
    ∧ preserves_Kernel2_Kernel2Ideal
    ∧ algebraic_Kernel2Ideal_Reference2Ideal_pre_nonnegative_weights (hKernel2Ideal := hKernel2Ideal) (hReference2Ideal := hReference2Ideal) (hPre_nonnegative_weights := hPre_nonnegative_weights)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite_queries_keys.lean ====
abbrev S8x4096x256 : Shape := ⟨3, ![8, 4096, 256]⟩
abbrev S_ : Shape := ⟨0, ![]⟩

class Facts : Prop where
  bcast_S_S8x4096x256 : S_.BroadcastsInDim S8x4096x256 (![] : Fin 0 → Fin S8x4096x256.rank)
  reducesTo_S8x4096x256_S_d0_1_2 : S8x4096x256.ReducesTo [0, 1, 2] S_
  h_S_ : 0 < S_.numel

variable [Facts]

def fn {F : FTy → Type} [FloatOps F] (main_arg0 : FVec F S8x4096x256 .f32) (main_arg1 : FVec F S8x4096x256 .f32) (main_arg2 : FVec F S8x4096x256 .f32) : IVec S_ 1 :=
  let main_v0 : FVec F S8x4096x256 .f32 := Host.absf main_arg0
  let main_cst : FVec F S_ .f32 := constant S_ .f32 0x7F800000#32
  let main_v1 : FVec F S8x4096x256 .f32 := broadcastInDim S8x4096x256 ![] bcast_S_S8x4096x256 main_cst
  let main_v2 : IVec S8x4096x256 1 := cmpf .olt main_v0 main_v1
  let main_c : IVec S_ 1 := constantI S_ 1 1#1
  let main_v3 : IVec S_ 1 := (fun x v => Host.reduce IntOp.andi x v reducesTo_S8x4096x256_S_d0_1_2 h_S_) main_v2 main_c
  let main_v4 : FVec F S8x4096x256 .f32 := Host.absf main_arg1
  let main_cst_0 : FVec F S_ .f32 := constant S_ .f32 0x7F800000#32
  let main_v5 : FVec F S8x4096x256 .f32 := broadcastInDim S8x4096x256 ![] bcast_S_S8x4096x256 main_cst_0
  let main_v6 : IVec S8x4096x256 1 := cmpf .olt main_v4 main_v5
  let main_c_1 : IVec S_ 1 := constantI S_ 1 1#1
  let main_v7 : IVec S_ 1 := (fun x v => Host.reduce IntOp.andi x v reducesTo_S8x4096x256_S_d0_1_2 h_S_) main_v6 main_c_1
  let main_v8 : IVec S_ 1 := andi main_v3 main_v7
  main_v8
-- ==== Pre_nonnegative_weights.lean ====
abbrev S8x4096x1024 : Shape := ⟨3, ![8, 4096, 1024]⟩
abbrev S1024 : Shape := ⟨1, ![1024]⟩
abbrev S8x1x1024 : Shape := ⟨3, ![8, 1, 1024]⟩
abbrev S32768x8 : Shape := ⟨2, ![32768, 8]⟩
abbrev S8x1024x3584 : Shape := ⟨3, ![8, 1024, 3584]⟩
abbrev S8x3584x1024 : Shape := ⟨3, ![8, 3584, 1024]⟩
abbrev S_ : Shape := ⟨0, ![]⟩

class Facts : Prop where
  bcast_S_S32768x8 : S_.BroadcastsInDim S32768x8 (![] : Fin 0 → Fin S32768x8.rank)
  reducesTo_S32768x8_S_d0_1 : S32768x8.ReducesTo [0, 1] S_
  h_S_ : 0 < S_.numel

variable [Facts]

def fn {F : FTy → Type} [FloatOps F] (main_arg0 : FVec F S8x4096x1024 .f32) (main_arg1 : FVec F S1024 .f32) (main_arg2 : FVec F S8x1x1024 .f32) (main_arg3 : FVec F S8x1x1024 .f32) (main_arg4 : FVec F S8x1x1024 .f32) (main_arg5 : FVec F S32768x8 .f32) (main_arg6 : FVec F S8x1024x3584 .f32) (main_arg7 : FVec F S8x1024x3584 .f32) (main_arg8 : FVec F S8x3584x1024 .f32) (main_arg9 : FVec F S1024 .f32) : IVec S_ 1 :=
  let main_cst : FVec F S_ .f32 := constant S_ .f32 0x00000000#32
  let main_v0 : FVec F S32768x8 .f32 := broadcastInDim S32768x8 ![] bcast_S_S32768x8 main_cst
  let main_v1 : IVec S32768x8 1 := cmpf .oge main_arg5 main_v0
  let main_c : IVec S_ 1 := constantI S_ 1 1#1
  let main_v2 : IVec S_ 1 := (fun x v => Host.reduce IntOp.andi x v reducesTo_S32768x8_S_d0_1 h_S_) main_v1 main_c
  main_v2
-- ==== Kernel.lean ====
abbrev S8x4096x256 : Shape := ⟨3, ![8, 4096, 256]⟩
abbrev S_ : Shape := ⟨0, ![]⟩
abbrev S8x32768x64 : Shape := ⟨3, ![8, 32768, 64]⟩
abbrev S32768x4x64 : Shape := ⟨3, ![32768, 4, 64]⟩
abbrev S4x32768x64 : Shape := ⟨3, ![4, 32768, 64]⟩
abbrev S16x32768x64 : Shape := ⟨3, ![16, 32768, 64]⟩
abbrev S36x32768x64 : Shape := ⟨3, ![36, 32768, 64]⟩
abbrev S4x512x64 : Shape := ⟨3, ![4, 512, 64]⟩
abbrev S4x4096x64 : Shape := ⟨3, ![4, 4096, 64]⟩
abbrev S256x256 : Shape := ⟨2, ![256, 256]⟩
abbrev S512x512 : Shape := ⟨2, ![512, 512]⟩
abbrev S512x1 : Shape := ⟨2, ![512, 1]⟩
abbrev S512x64 : Shape := ⟨2, ![512, 64]⟩
abbrev S1x512x64 : Shape := ⟨3, ![1, 512, 64]⟩
abbrev S512x256 : Shape := ⟨2, ![512, 256]⟩
abbrev S512 : Shape := ⟨1, ![512]⟩

abbrev nBuf : Space → Nat
  | .hbm => 21
  | .vmem => 8
  | .smem => 0
  | _ => 0

abbrev bufTy : (tb : Table) → Fin (tcTables nBuf tb) → BufTy
  | .hbm, ⟨0, _⟩ => ⟨S8x4096x256, .f32⟩
  | .hbm, ⟨1, _⟩ => ⟨S8x4096x256, .f32⟩
  | .hbm, ⟨2, _⟩ => ⟨S8x4096x256, .f32⟩
  | .hbm, ⟨3, _⟩ => ⟨S_, .bf16⟩
  | .hbm, ⟨4, _⟩ => ⟨S8x32768x64, .bf16⟩
  | .hbm, ⟨5, _⟩ => ⟨S_, .f32⟩
  | .hbm, ⟨6, _⟩ => ⟨S8x4096x256, .f32⟩
  | .hbm, ⟨7, _⟩ => ⟨S8x4096x256, .f32⟩
  | .hbm, ⟨8, _⟩ => ⟨S32768x4x64, .f32⟩
  | .hbm, ⟨9, _⟩ => ⟨S4x32768x64, .f32⟩
  | .hbm, ⟨10, _⟩ => ⟨S4x32768x64, .bf16⟩
  | .hbm, ⟨11, _⟩ => ⟨S32768x4x64, .f32⟩
  | .hbm, ⟨12, _⟩ => ⟨S4x32768x64, .f32⟩
  | .hbm, ⟨13, _⟩ => ⟨S4x32768x64, .bf16⟩
  | .hbm, ⟨14, _⟩ => ⟨S32768x4x64, .f32⟩
  | .hbm, ⟨15, _⟩ => ⟨S4x32768x64, .f32⟩
  | .hbm, ⟨16, _⟩ => ⟨S4x32768x64, .bf16⟩
  | .hbm, ⟨17, _⟩ => ⟨S_, .bf16⟩
  | .hbm, ⟨18, _⟩ => ⟨S16x32768x64, .bf16⟩
  | .hbm, ⟨19, _⟩ => ⟨S36x32768x64, .bf16⟩
  | .hbm, ⟨20, _⟩ => ⟨S4x32768x64, .bf16⟩
  | .local _ .vmem, ⟨0, _⟩ => ⟨S4x512x64, .bf16⟩
  | .local _ .vmem, ⟨1, _⟩ => ⟨S4x512x64, .bf16⟩
  | .local _ .vmem, ⟨2, _⟩ => ⟨S4x4096x64, .bf16⟩
  | .local _ .vmem, ⟨3, _⟩ => ⟨S4x4096x64, .bf16⟩
  | .local _ .vmem, ⟨4, _⟩ => ⟨S4x4096x64, .bf16⟩
  | .local _ .vmem, ⟨5, _⟩ => ⟨S4x4096x64, .bf16⟩
  | .local _ .vmem, ⟨6, _⟩ => ⟨S4x512x64, .bf16⟩
  | .local _ .vmem, ⟨7, _⟩ => ⟨S4x512x64, .bf16⟩
  | _, _ => ⟨S8x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c512_i32_5 : BitVec 32 := 512#32
  let v18 : BitVec 32 := Scalar.muli v17 c512_i32_5
  v18
def k0_off1 (i : grid0.Coords) : Fin 3 → Nat :=
  let c0_12 : Index := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c512_i32_5 : BitVec 32 := 512#32
  let v18 : BitVec 32 := Scalar.muli v17 c512_i32_5
  let v35 : BitVec 32 := v18
  let v38 : Index := Scalar.indexCast v35
  let c0_13 : Index := 0#32
  ![0, v38.toNat, 0]
def k0_off2 (i : grid0.Coords) : Fin 3 → Nat :=
  let c1_17 : Index := 1#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c512_i32_5 : BitVec 32 := 512#32
  let v18 : BitVec 32 := Scalar.muli v17 c512_i32_5
  let v35 : BitVec 32 := v18
  let v44 : Index := Scalar.indexCast v35
  let c0_18 : Index := 0#32
  ![1, v44.toNat, 0]
def k0_off3 (i : grid0.Coords) : Fin 3 → Nat :=
  let c2_22 : Index := 2#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c512_i32_5 : BitVec 32 := 512#32
  let v18 : BitVec 32 := Scalar.muli v17 c512_i32_5
  let v35 : BitVec 32 := v18
  let v50 : Index := Scalar.indexCast v35
  let c0_23 : Index := 0#32
  ![2, v50.toNat, 0]
def k0_off4 (i : grid0.Coords) : Fin 3 → Nat :=
  let c3_27 : Index := 3#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c512_i32_5 : BitVec 32 := 512#32
  let v18 : BitVec 32 := Scalar.muli v17 c512_i32_5
  let v35 : BitVec 32 := v18
  let v56 : Index := Scalar.indexCast v35
  let c0_28 : Index := 0#32
  ![3, v56.toNat, 0]
@[reducible] def k0_t1_loop (i : grid0.Coords) : Scf.Loop 32 :=
  let c0_i32_82 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let v228 : BitVec 32 := Scalar.subi v17 c0_i32_82
  let c1_i32_83 : BitVec 32 := 1#32
  let v230 : BitVec 32 := Scalar.divsi v228 c1_i32_83
  let v231 : BitVec 32 := Scalar.muli v230 c1_i32_83
  let v232 : BitVec 32 := Scalar.addi c0_i32_82 v231
  let c1_i32_84 : BitVec 32 := 1#32
  ⟨c0_i32_82, v232, c1_i32_84⟩
def k0_mult2 (i : grid0.Coords) (k0_t1 : Fin (k0_t1_loop i).trips) : BitVec 32 :=
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_98 : BitVec 32 := 1#32
  let v251 : BitVec 32 := Scalar.subi v17 c1_i32_98
  let c0_i32_82 : BitVec 32 := 0#32
  let c1_i32_84 : BitVec 32 := 1#32
  let arg6 : BitVec 32 := Scf.iv c0_i32_82 c1_i32_84 k0_t1
  let v252 : BitVec 32 := Scalar.subi v251 arg6
  let c512_i32_99 : BitVec 32 := 512#32
  let v253 : BitVec 32 := Scalar.muli v252 c512_i32_99
  v253
def k0_off5 (i : grid0.Coords) (k0_t1 : Fin (k0_t1_loop i).trips) : Fin 3 → Nat :=
  let c0_103 : Index := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_98 : BitVec 32 := 1#32
  let v251 : BitVec 32 := Scalar.subi v17 c1_i32_98
  let c0_i32_82 : BitVec 32 := 0#32
  let c1_i32_84 : BitVec 32 := 1#32
  let arg6 : BitVec 32 := Scf.iv c0_i32_82 c1_i32_84 k0_t1
  let v252 : BitVec 32 := Scalar.subi v251 arg6
  let c512_i32_99 : BitVec 32 := 512#32
  let v253 : BitVec 32 := Scalar.muli v252 c512_i32_99
  let v254 : BitVec 32 := v253
  let v257 : Index := Scalar.indexCast v254
  let c0_104 : Index := 0#32
  ![0, v257.toNat, 0]
def k0_off6 (i : grid0.Coords) (k0_t1 : Fin (k0_t1_loop i).trips) : Fin 3 → Nat :=
  let c1_109 : Index := 1#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_98 : BitVec 32 := 1#32
  let v251 : BitVec 32 := Scalar.subi v17 c1_i32_98
  let c0_i32_82 : BitVec 32 := 0#32
  let c1_i32_84 : BitVec 32 := 1#32
  let arg6 : BitVec 32 := Scf.iv c0_i32_82 c1_i32_84 k0_t1
  let v252 : BitVec 32 := Scalar.subi v251 arg6
  let c512_i32_99 : BitVec 32 := 512#32
  let v253 : BitVec 32 := Scalar.muli v252 c512_i32_99
  let v254 : BitVec 32 := v253
  let v263 : Index := Scalar.indexCast v254
  let c0_110 : Index := 0#32
  ![1, v263.toNat, 0]
def k0_off7 (i : grid0.Coords) (k0_t1 : Fin (k0_t1_loop i).trips) : Fin 3 → Nat :=
  let c2_115 : Index := 2#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_98 : BitVec 32 := 1#32
  let v251 : BitVec 32 := Scalar.subi v17 c1_i32_98
  let c0_i32_82 : BitVec 32 := 0#32
  let c1_i32_84 : BitVec 32 := 1#32
  let arg6 : BitVec 32 := Scf.iv c0_i32_82 c1_i32_84 k0_t1
  let v252 : BitVec 32 := Scalar.subi v251 arg6
  let c512_i32_99 : BitVec 32 := 512#32
  let v253 : BitVec 32 := Scalar.muli v252 c512_i32_99
  let v254 : BitVec 32 := v253
  let v269 : Index := Scalar.indexCast v254
  let c0_116 : Index := 0#32
  ![2, v269.toNat, 0]
def k0_off8 (i : grid0.Coords) (k0_t1 : Fin (k0_t1_loop i).trips) : Fin 3 → Nat :=
  let c3_121 : Index := 3#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_98 : BitVec 32 := 1#32
  let v251 : BitVec 32 := Scalar.subi v17 c1_i32_98
  let c0_i32_82 : BitVec 32 := 0#32
  let c1_i32_84 : BitVec 32 := 1#32
  let arg6 : BitVec 32 := Scf.iv c0_i32_82 c1_i32_84 k0_t1
  let v252 : BitVec 32 := Scalar.subi v251 arg6
  let c512_i32_99 : BitVec 32 := 512#32
  let v253 : BitVec 32 := Scalar.muli v252 c512_i32_99
  let v254 : BitVec 32 := v253
  let v275 : Index := Scalar.indexCast v254
  let c0_122 : Index := 0#32
  ![3, v275.toNat, 0]
@[reducible] def k0_t2_loop (i : grid0.Coords) : Scf.Loop 32 :=
  let c0_i32_82 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let v228 : BitVec 32 := Scalar.subi v17 c0_i32_82
  let c1_i32_83 : BitVec 32 := 1#32
  let v230 : BitVec 32 := Scalar.divsi v228 c1_i32_83
  let v231 : BitVec 32 := Scalar.muli v230 c1_i32_83
  let v232 : BitVec 32 := Scalar.addi c0_i32_82 v231
  let v229 : BitVec 32 := Scalar.addi c0_i32_82 v228
  let c1_i32_85 : BitVec 32 := 1#32
  ⟨v232, v229, c1_i32_85⟩
def k0_mult3 (i : grid0.Coords) (k0_t2 : Fin (k0_t2_loop i).trips) : BitVec 32 :=
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_98 : BitVec 32 := 1#32
  let v251 : BitVec 32 := Scalar.subi v17 c1_i32_98
  let c0_i32_82 : BitVec 32 := 0#32
  let v228 : BitVec 32 := Scalar.subi v17 c0_i32_82
  let c1_i32_83 : BitVec 32 := 1#32
  let v230 : BitVec 32 := Scalar.divsi v228 c1_i32_83
  let v231 : BitVec 32 := Scalar.muli v230 c1_i32_83
  let v232 : BitVec 32 := Scalar.addi c0_i32_82 v231
  let c1_i32_85 : BitVec 32 := 1#32
  let arg6 : BitVec 32 := Scf.iv v232 c1_i32_85 k0_t2
  let v252 : BitVec 32 := Scalar.subi v251 arg6
  let c512_i32_99 : BitVec 32 := 512#32
  let v253 : BitVec 32 := Scalar.muli v252 c512_i32_99
  v253
def k0_off9 (i : grid0.Coords) (k0_t2 : Fin (k0_t2_loop i).trips) : Fin 3 → Nat :=
  let c0_103 : Index := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_98 : BitVec 32 := 1#32
  let v251 : BitVec 32 := Scalar.subi v17 c1_i32_98
  let c0_i32_82 : BitVec 32 := 0#32
  let v228 : BitVec 32 := Scalar.subi v17 c0_i32_82
  let c1_i32_83 : BitVec 32 := 1#32
  let v230 : BitVec 32 := Scalar.divsi v228 c1_i32_83
  let v231 : BitVec 32 := Scalar.muli v230 c1_i32_83
  let v232 : BitVec 32 := Scalar.addi c0_i32_82 v231
  let c1_i32_85 : BitVec 32 := 1#32
  let arg6 : BitVec 32 := Scf.iv v232 c1_i32_85 k0_t2
  let v252 : BitVec 32 := Scalar.subi v251 arg6
  let c512_i32_99 : BitVec 32 := 512#32
  let v253 : BitVec 32 := Scalar.muli v252 c512_i32_99
  let v254 : BitVec 32 := v253
  let v257 : Index := Scalar.indexCast v254
  let c0_104 : Index := 0#32
  ![0, v257.toNat, 0]
def k0_off10 (i : grid0.Coords) (k0_t2 : Fin (k0_t2_loop i).trips) : Fin 3 → Nat :=
  let c1_109 : Index := 1#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_98 : BitVec 32 := 1#32
  let v251 : BitVec 32 := Scalar.subi v17 c1_i32_98
  let c0_i32_82 : BitVec 32 := 0#32
  let v228 : BitVec 32 := Scalar.subi v17 c0_i32_82
  let c1_i32_83 : BitVec 32 := 1#32
  let v230 : BitVec 32 := Scalar.divsi v228 c1_i32_83
  let v231 : BitVec 32 := Scalar.muli v230 c1_i32_83
  let v232 : BitVec 32 := Scalar.addi c0_i32_82 v231
  let c1_i32_85 : BitVec 32 := 1#32
  let arg6 : BitVec 32 := Scf.iv v232 c1_i32_85 k0_t2
  let v252 : BitVec 32 := Scalar.subi v251 arg6
  let c512_i32_99 : BitVec 32 := 512#32
  let v253 : BitVec 32 := Scalar.muli v252 c512_i32_99
  let v254 : BitVec 32 := v253
  let v263 : Index := Scalar.indexCast v254
  let c0_110 : Index := 0#32
  ![1, v263.toNat, 0]
def k0_off11 (i : grid0.Coords) (k0_t2 : Fin (k0_t2_loop i).trips) : Fin 3 → Nat :=
  let c2_115 : Index := 2#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_98 : BitVec 32 := 1#32
  let v251 : BitVec 32 := Scalar.subi v17 c1_i32_98
  let c0_i32_82 : BitVec 32 := 0#32
  let v228 : BitVec 32 := Scalar.subi v17 c0_i32_82
  let c1_i32_83 : BitVec 32 := 1#32
  let v230 : BitVec 32 := Scalar.divsi v228 c1_i32_83
  let v231 : BitVec 32 := Scalar.muli v230 c1_i32_83
  let v232 : BitVec 32 := Scalar.addi c0_i32_82 v231
  let c1_i32_85 : BitVec 32 := 1#32
  let arg6 : BitVec 32 := Scf.iv v232 c1_i32_85 k0_t2
  let v252 : BitVec 32 := Scalar.subi v251 arg6
  let c512_i32_99 : BitVec 32 := 512#32
  let v253 : BitVec 32 := Scalar.muli v252 c512_i32_99
  let v254 : BitVec 32 := v253
  let v269 : Index := Scalar.indexCast v254
  let c0_116 : Index := 0#32
  ![2, v269.toNat, 0]
def k0_off12 (i : grid0.Coords) (k0_t2 : Fin (k0_t2_loop i).trips) : Fin 3 → Nat :=
  let c3_121 : Index := 3#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_98 : BitVec 32 := 1#32
  let v251 : BitVec 32 := Scalar.subi v17 c1_i32_98
  let c0_i32_82 : BitVec 32 := 0#32
  let v228 : BitVec 32 := Scalar.subi v17 c0_i32_82
  let c1_i32_83 : BitVec 32 := 1#32
  let v230 : BitVec 32 := Scalar.divsi v228 c1_i32_83
  let v231 : BitVec 32 := Scalar.muli v230 c1_i32_83
  let v232 : BitVec 32 := Scalar.addi c0_i32_82 v231
  let c1_i32_85 : BitVec 32 := 1#32
  let arg6 : BitVec 32 := Scf.iv v232 c1_i32_85 k0_t2
  let v252 : BitVec 32 := Scalar.subi v251 arg6
  let c512_i32_99 : BitVec 32 := 512#32
  let v253 : BitVec 32 := Scalar.muli v252 c512_i32_99
  let v254 : BitVec 32 := v253
  let v275 : Index := Scalar.indexCast v254
  let c0_122 : Index := 0#32
  ![3, v275.toNat, 0]
def cc0_transform_0 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c2_i32 : BitVec 32 := 2#32
  let c0_i32 : BitVec 32 := 0#32
  let c0_i32_0 : BitVec 32 := 0#32
  ![c2_i32.toNat, v1.toNat, c0_i32.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  let c0_i32_0 : BitVec 32 := 0#32
  ![c4_i32.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

abbrev stage0_0 : Fin 2 → Memref sig .tc .vmem S4x512x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x4096x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4x4096x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S4x512x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelIdeal.lean ====
variable {F : FTy → Type} [FloatOps F] [Named F]
def κ : String → Option EReal := fun
  | "neg_log2e" => some ((-((Real.log 2)⁻¹) : ℝ) : EReal)
  | _ => none
-- ==== ReferenceIdeal.lean ====
abbrev S8x4096x256 : Shape := ⟨3, ![8, 4096, 256]⟩
abbrev S8x4096x4x64 : Shape := ⟨4, ![8, 4096, 4, 64]⟩
abbrev S4096 : Shape := ⟨1, ![4096]⟩
abbrev S8x4x4096x4096 : Shape := ⟨4, ![8, 4, 4096, 4096]⟩
abbrev S_ : Shape := ⟨0, ![]⟩
abbrev S1x4096 : Shape := ⟨2, ![1, 4096]⟩
abbrev S4096x1 : Shape := ⟨2, ![4096, 1]⟩
abbrev S4096x4096 : Shape := ⟨2, ![4096, 4096]⟩
abbrev S8x4x64x4096 : Shape := ⟨4, ![8, 4, 64, 4096]⟩
abbrev S4x8x4096x64 : Shape := ⟨4, ![4, 8, 4096, 64]⟩
abbrev S4x32768x64 : Shape := ⟨3, ![4, 32768, 64]⟩

abbrev nBuf : Space → Nat
  | .hbm => 71
  | .vmem => 0
  | .smem => 0
  | _ => 0

abbrev bufTy : (tb : Table) → Fin (tcTables nBuf tb) → BufTy
  | .hbm, ⟨0, _⟩ => ⟨S8x4096x256, .f32⟩
  | .hbm, ⟨1, _⟩ => ⟨S8x4096x256, .f32⟩
  | .hbm, ⟨2, _⟩ => ⟨S8x4096x256, .f32⟩
  | .hbm, ⟨3, _⟩ => ⟨S8x4096x4x64, .f32⟩
  | .hbm, ⟨4, _⟩ => ⟨S8x4096x4x64, .f32⟩
  | .hbm, ⟨5, _⟩ => ⟨S8x4096x4x64, .f32⟩
  | .hbm, ⟨6, _⟩ => ⟨S4096, .i32⟩
  | .hbm, ⟨7, _⟩ => ⟨S4096, .i32⟩
  | .hbm, ⟨8, _⟩ => ⟨S8x4x4096x4096, .f32⟩
  | .hbm, ⟨9, _⟩ => ⟨S_, .f32⟩
  | .hbm, ⟨10, _⟩ => ⟨S8x4x4096x4096, .f32⟩
  | .hbm, ⟨11, _⟩ => ⟨S8x4x4096x4096, .f32⟩
  | .hbm, ⟨12, _⟩ => ⟨S1x4096, .i32⟩
  | .hbm, ⟨13, _⟩ => ⟨S4096x1, .i32⟩
  | .hbm, ⟨14, _⟩ => ⟨S4096x4096, .i32⟩
  | .hbm, ⟨15, _⟩ => ⟨S4096x4096, .i32⟩
  | .hbm, ⟨16, _⟩ => ⟨S4096x4096, .i1⟩
  | .hbm, ⟨17, _⟩ => ⟨S8x4x4096x4096, .f32⟩
  | .hbm, ⟨18, _⟩ => ⟨S8x4x4096x4096, .f32⟩
  | .hbm, ⟨19, _⟩ => ⟨S_, .f32⟩
  | .hbm, ⟨20, _⟩ => ⟨S8x4x4096x4096, .f32⟩
  | .hbm, ⟨21, _⟩ => ⟨S8x4x4096x4096, .f32⟩
  | .hbm, ⟨22, _⟩ => ⟨S8x4x4096x4096, .f32⟩
  | .hbm, ⟨23, _⟩ => ⟨S8x4x4096x4096, .f32⟩
  | .hbm, ⟨24, _⟩ => ⟨S8x4x4096x4096, .i1⟩
  | .hbm, ⟨25, _⟩ => ⟨S8x4x4096x4096, .f32⟩
  | .hbm, ⟨26, _⟩ => ⟨S8x4x4096x4096, .f32⟩
  | .hbm, ⟨27, _⟩ => ⟨S8x4x4096x4096, .f32⟩
  | .hbm, ⟨28, _⟩ => ⟨S8x4x4096x4096, .f32⟩
  | .hbm, ⟨29, _⟩ => ⟨S8x4x4096x4096, .f32⟩
  | .hbm, ⟨30, _⟩ => ⟨S8x4x4096x4096, .f32⟩
  | .hbm, ⟨31, _⟩ => ⟨S8x4x4096x4096, .f32⟩
  | .hbm, ⟨32, _⟩ => ⟨S8x4x4096x4096, .f32⟩
  | .hbm, ⟨33, _⟩ => ⟨S8x4x4096x4096, .f32⟩
  | .hbm, ⟨34, _⟩ => ⟨S_, .f32⟩
  | .hbm, ⟨35, _⟩ => ⟨S_, .f32⟩
  | .hbm, ⟨36, _⟩ => ⟨S8x4x4096x4096, .i1⟩
  | .hbm, ⟨37, _⟩ => ⟨S8x4x4096x4096, .f32⟩
  | .hbm, ⟨38, _⟩ => ⟨S8x4x4096x4096, .f32⟩
  | .hbm, ⟨39, _⟩ => ⟨S_, .f32⟩
  | .hbm, ⟨40, _⟩ => ⟨S_, .f32⟩
  | .hbm, ⟨41, _⟩ => ⟨S8x4x4096x4096, .f32⟩
  | .hbm, ⟨42, _⟩ => ⟨S8x4x4096x4096, .f32⟩
  | .hbm, ⟨43, _⟩ => ⟨S8x4x4096x4096, .f32⟩
  | .hbm, ⟨44, _⟩ => ⟨S_, .f32⟩
  | .hbm, ⟨45, _⟩ => ⟨S8x4x4096x4096, .f32⟩
  | .hbm, ⟨46, _⟩ => ⟨S8x4x4096x4096, .f32⟩
  | .hbm, ⟨47, _⟩ => ⟨S8x4x4096x4096, .f32⟩
  | .hbm, ⟨48, _⟩ => ⟨S8x4x4096x4096, .f32⟩
  | .hbm, ⟨49, _⟩ => ⟨S8x4x4096x4096, .i1⟩
  | .hbm, ⟨50, _⟩ => ⟨S8x4x4096x4096, .f32⟩
  | .hbm, ⟨51, _⟩ => ⟨S8x4x4096x4096, .f32⟩
  | .hbm, ⟨52, _⟩ => ⟨S8x4x4096x4096, .f32⟩
  | .hbm, ⟨53, _⟩ => ⟨S8x4x4096x4096, .f32⟩
  | .hbm, ⟨54, _⟩ => ⟨S8x4x4096x4096, .f32⟩
  | .hbm, ⟨55, _⟩ => ⟨S8x4x4096x4096, .f32⟩
  | .hbm, ⟨56, _⟩ => ⟨S8x4x4096x4096, .f32⟩
  | .hbm, ⟨57, _⟩ => ⟨S8x4x4096x4096, .f32⟩
  | .hbm, ⟨58, _⟩ => ⟨S8x4x4096x4096, .f32⟩
  | .hbm, ⟨59, _⟩ => ⟨S8x4x4096x4096, .f32⟩
  | .hbm, ⟨60, _⟩ => ⟨S8x4x4096x4096, .f32⟩
  | .hbm, ⟨61, _⟩ => ⟨S_, .f32⟩
  | .hbm, ⟨62, _⟩ => ⟨S_, .f32⟩
  | .hbm, ⟨63, _⟩ => ⟨S8x4x4096x4096, .i1⟩
  | .hbm, ⟨64, _⟩ => ⟨S8x4x4096x4096, .f32⟩
  | .hbm, ⟨65, _⟩ => ⟨S8x4x4096x4096, .f32⟩
  | .hbm, ⟨66, _⟩ => ⟨S8x4x64x4096, .f32⟩
  | .hbm, ⟨67, _⟩ => ⟨S8x4096x4x64, .f32⟩
  | .hbm, ⟨68, _⟩ => ⟨S4x8x4096x64, .f32⟩
  | .hbm, ⟨69, _⟩ => ⟨S4x32768x64, .f32⟩
  | .hbm, ⟨70, _⟩ => ⟨S4x32768x64, .bf16⟩
  | _, _ => ⟨S8x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_call0_v0 : Ref sig .tc := ⟨.hbm, 18, rfl⟩
abbrev main_call0_call0_cst : Ref sig .tc := ⟨.hbm, 19, rfl⟩
abbrev main_call0_call0_v0 : Ref sig .tc := ⟨.hbm, 20, rfl⟩
abbrev main_call0_call0_v1 : Ref sig .tc := ⟨.hbm, 21, rfl⟩
abbrev main_call0_call0_v2 : Ref sig .tc := ⟨.hbm, 22, rfl⟩
abbrev main_call0_call0_v3 : Ref sig .tc := ⟨.hbm, 23, rfl⟩
abbrev main_call0_call0_v4 : Ref sig .tc := ⟨.hbm, 24, rfl⟩
abbrev main_call0_call0_v5 : Ref sig .tc := ⟨.hbm, 25, rfl⟩
abbrev main_call0_call0_v6 : Ref sig .tc := ⟨.hbm, 26, rfl⟩
abbrev main_call0_call0_v7 : Ref sig .tc := ⟨.hbm, 27, rfl⟩
abbrev main_call0_call0_v8 : Ref sig .tc := ⟨.hbm, 28, rfl⟩
abbrev main_call0_call0_v9 : Ref sig .tc := ⟨.hbm, 29, rfl⟩
abbrev main_call0_call0_v10 : Ref sig .tc := ⟨.hbm, 30, rfl⟩
abbrev main_call0_call0_v11 : Ref sig .tc := ⟨.hbm, 31, rfl⟩
abbrev main_call0_v1 : Ref sig .tc := ⟨.hbm, 32, rfl⟩
abbrev main_v14 : Ref sig .tc := ⟨.hbm, 33, rfl⟩
abbrev main_cst_0 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_v15 : Ref sig .tc := ⟨.hbm, 38, rfl⟩
abbrev main_call2_cst : Ref sig .tc := ⟨.hbm, 39, rfl⟩
abbrev main_call2_v0 : Ref sig .tc := ⟨.hbm, 40, rfl⟩
abbrev main_v16 : Ref sig .tc := ⟨.hbm, 41, rfl⟩
abbrev main_v17 : Ref sig .tc := ⟨.hbm, 42, rfl⟩
abbrev main_call3_v0 : Ref sig .tc := ⟨.hbm, 43, rfl⟩
abbrev main_call3_call0_cst : Ref sig .tc := ⟨.hbm, 44, rfl⟩
abbrev main_call3_call0_v0 : Ref sig .tc := ⟨.hbm, 45, rfl⟩
abbrev main_call3_call0_v1 : Ref sig .tc := ⟨.hbm, 46, rfl⟩
abbrev main_call3_call0_v2 : Ref sig .tc := ⟨.hbm, 47, rfl⟩
abbrev main_call3_call0_v3 : Ref sig .tc := ⟨.hbm, 48, rfl⟩
abbrev main_call3_call0_v4 : Ref sig .tc := ⟨.hbm, 49, rfl⟩
abbrev main_call3_call0_v5 : Ref sig .tc := ⟨.hbm, 50, rfl⟩
abbrev main_call3_call0_v6 : Ref sig .tc := ⟨.hbm, 51, rfl⟩
abbrev main_call3_call0_v7 : Ref sig .tc := ⟨.hbm, 52, rfl⟩
abbrev main_call3_call0_v8 : Ref sig .tc := ⟨.hbm, 53, rfl⟩
abbrev main_call3_call0_v9 : Ref sig .tc := ⟨.hbm, 54, rfl⟩
abbrev main_call3_call0_v10 : Ref sig .tc := ⟨.hbm, 55, rfl⟩
abbrev main_call3_call0_v11 : Ref sig .tc := ⟨.hbm, 56, rfl⟩
abbrev main_call3_v1 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_cst_1 : Ref sig .tc := ⟨.hbm, 61, rfl⟩
abbrev main_call4_v0 : Ref sig .tc := ⟨.hbm, 62, rfl⟩
abbrev main_call4_v1 : Ref sig .tc := ⟨.hbm, 63, rfl⟩
abbrev main_call4_v2 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩

abbrev nD : Nat := 1
abbrev τ : Topo := Topo.v7x

variable {F : FTy → Type} [FloatOps F]
-- ==== Kernel2.lean ====
abbrev S8x4096x1024 : Shape := ⟨3, ![8, 4096, 1024]⟩
abbrev S1024 : Shape := ⟨1, ![1024]⟩
abbrev S8x1x1024 : Shape := ⟨3, ![8, 1, 1024]⟩
abbrev S32768x8 : Shape := ⟨2, ![32768, 8]⟩
abbrev S8x1024x3584 : Shape := ⟨3, ![8, 1024, 3584]⟩
abbrev S8x3584x1024 : Shape := ⟨3, ![8, 3584, 1024]⟩
abbrev S_ : Shape := ⟨0, ![]⟩
abbrev S32768x120 : Shape := ⟨2, ![32768, 120]⟩
abbrev S32768x128 : Shape := ⟨2, ![32768, 128]⟩
abbrev S32x1024x8 : Shape := ⟨3, ![32, 1024, 8]⟩
abbrev S32x8 : Shape := ⟨2, ![32, 8]⟩
abbrev S256 : Shape := ⟨1, ![256]⟩
abbrev S32768x1024 : Shape := ⟨2, ![32768, 1024]⟩
abbrev S1x1024 : Shape := ⟨2, ![1, 1024]⟩
abbrev S1024x1024 : Shape := ⟨2, ![1024, 1024]⟩
abbrev S1x1x1024 : Shape := ⟨3, ![1, 1, 1024]⟩
abbrev S1024x128 : Shape := ⟨2, ![1024, 128]⟩
abbrev S1x1024x896 : Shape := ⟨3, ![1, 1024, 896]⟩
abbrev S1x896x1024 : Shape := ⟨3, ![1, 896, 1024]⟩
abbrev S128x1024 : Shape := ⟨2, ![128, 1024]⟩
abbrev S1 : Shape := ⟨1, ![1]⟩
abbrev S1024x1 : Shape := ⟨2, ![1024, 1]⟩
abbrev S192x1024 : Shape := ⟨2, ![192, 1024]⟩
abbrev S256x1024 : Shape := ⟨2, ![256, 1024]⟩
abbrev S320x1024 : Shape := ⟨2, ![320, 1024]⟩
abbrev S384x1024 : Shape := ⟨2, ![384, 1024]⟩
abbrev S448x1024 : Shape := ⟨2, ![448, 1024]⟩
abbrev S512x1024 : Shape := ⟨2, ![512, 1024]⟩
abbrev S1024x896 : Shape := ⟨2, ![1024, 896]⟩
abbrev S128x896 : Shape := ⟨2, ![128, 896]⟩
abbrev S896x1024 : Shape := ⟨2, ![896, 1024]⟩
abbrev S192x896 : Shape := ⟨2, ![192, 896]⟩
abbrev S256x896 : Shape := ⟨2, ![256, 896]⟩
abbrev S320x896 : Shape := ⟨2, ![320, 896]⟩
abbrev S384x896 : Shape := ⟨2, ![384, 896]⟩
abbrev S448x896 : Shape := ⟨2, ![448, 896]⟩
abbrev S512x896 : Shape := ⟨2, ![512, 896]⟩
abbrev S1024x192 : Shape := ⟨2, ![1024, 192]⟩
abbrev S1024x256 : Shape := ⟨2, ![1024, 256]⟩
abbrev S1024x320 : Shape := ⟨2, ![1024, 320]⟩
abbrev S1024x384 : Shape := ⟨2, ![1024, 384]⟩
abbrev S1024x448 : Shape := ⟨2, ![1024, 448]⟩
abbrev S1024x512 : Shape := ⟨2, ![1024, 512]⟩

abbrev nBuf : Space → Nat
  | .hbm => 84
  | .vmem => 27
  | .smem => 2
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S8x1x1024, .f32⟩
  | .hbm, ⟨3, _⟩ => ⟨S8x1x1024, .f32⟩
  | .hbm, ⟨4, _⟩ => ⟨S8x1x1024, .f32⟩
  | .hbm, ⟨5, _⟩ => ⟨S32768x8, .f32⟩
  | .hbm, ⟨6, _⟩ => ⟨S8x1024x3584, .f32⟩
  | .hbm, ⟨7, _⟩ => ⟨S8x1024x3584, .f32⟩
  | .hbm, ⟨8, _⟩ => ⟨S8x3584x1024, .f32⟩
  | .hbm, ⟨9, _⟩ => ⟨S1024, .f32⟩
  | .hbm, ⟨10, _⟩ => ⟨S_, .f32⟩
  | .hbm, ⟨11, _⟩ => ⟨S32768x120, .f32⟩
  | .hbm, ⟨12, _⟩ => ⟨S32768x128, .f32⟩
  | .hbm, ⟨13, _⟩ => ⟨S_, .f32⟩
  | .hbm, ⟨14, _⟩ => ⟨S32768x8, .f32⟩
  | .hbm, ⟨15, _⟩ => ⟨S32768x8, .i1⟩
  | .hbm, ⟨16, _⟩ => ⟨S32768x8, .i32⟩
  | .hbm, ⟨17, _⟩ => ⟨S32x1024x8, .i32⟩
  | .hbm, ⟨18, _⟩ => ⟨S_, .i32⟩
  | .hbm, ⟨19, _⟩ => ⟨S32x8, .i32⟩
  | .hbm, ⟨20, _⟩ => ⟨S256, .i32⟩
  | .hbm, ⟨21, _⟩ => ⟨S_, .i32⟩
  | .hbm, ⟨22, _⟩ => ⟨S256, .i32⟩
  | .hbm, ⟨23, _⟩ => ⟨S256, .i1⟩
  | .hbm, ⟨24, _⟩ => ⟨S256, .i32⟩
  | .hbm, ⟨25, _⟩ => ⟨S_, .i32⟩
  | .hbm, ⟨26, _⟩ => ⟨S256, .i32⟩
  | .hbm, ⟨27, _⟩ => ⟨S256, .i32⟩
  | .hbm, ⟨28, _⟩ => ⟨S_, .i32⟩
  | .hbm, ⟨29, _⟩ => ⟨S256, .i32⟩
  | .hbm, ⟨30, _⟩ => ⟨S256, .i1⟩
  | .hbm, ⟨31, _⟩ => ⟨S256, .i32⟩
  | .hbm, ⟨32, _⟩ => ⟨S256, .i32⟩
  | .hbm, ⟨33, _⟩ => ⟨S_, .i32⟩
  | .hbm, ⟨34, _⟩ => ⟨S256, .i32⟩
  | .hbm, ⟨35, _⟩ => ⟨S256, .i1⟩
  | .hbm, ⟨36, _⟩ => ⟨S256, .i32⟩
  | .hbm, ⟨37, _⟩ => ⟨S256, .i32⟩
  | .hbm, ⟨38, _⟩ => ⟨S_, .i32⟩
  | .hbm, ⟨39, _⟩ => ⟨S256, .i32⟩
  | .hbm, ⟨40, _⟩ => ⟨S256, .i1⟩
  | .hbm, ⟨41, _⟩ => ⟨S256, .i32⟩
  | .hbm, ⟨42, _⟩ => ⟨S256, .i32⟩
  | .hbm, ⟨43, _⟩ => ⟨S_, .i32⟩
  | .hbm, ⟨44, _⟩ => ⟨S256, .i32⟩
  | .hbm, ⟨45, _⟩ => ⟨S256, .i1⟩
  | .hbm, ⟨46, _⟩ => ⟨S256, .i32⟩
  | .hbm, ⟨47, _⟩ => ⟨S256, .i32⟩
  | .hbm, ⟨48, _⟩ => ⟨S_, .i32⟩
  | .hbm, ⟨49, _⟩ => ⟨S256, .i32⟩
  | .hbm, ⟨50, _⟩ => ⟨S256, .i1⟩
  | .hbm, ⟨51, _⟩ => ⟨S256, .i32⟩
  | .hbm, ⟨52, _⟩ => ⟨S256, .i32⟩
  | .hbm, ⟨53, _⟩ => ⟨S_, .i32⟩
  | .hbm, ⟨54, _⟩ => ⟨S256, .i32⟩
  | .hbm, ⟨55, _⟩ => ⟨S256, .i1⟩
  | .hbm, ⟨56, _⟩ => ⟨S256, .i32⟩
  | .hbm, ⟨57, _⟩ => ⟨S_, .i32⟩
  | .hbm, ⟨58, _⟩ => ⟨S256, .i32⟩
  | .hbm, ⟨59, _⟩ => ⟨S256, .i32⟩
  | .hbm, ⟨60, _⟩ => ⟨S_, .i32⟩
  | .hbm, ⟨61, _⟩ => ⟨S_, .i32⟩
  | .hbm, ⟨62, _⟩ => ⟨S256, .i32⟩
  | .hbm, ⟨63, _⟩ => ⟨S256, .i32⟩
  | .hbm, ⟨64, _⟩ => ⟨S256, .i32⟩
  | .hbm, ⟨65, _⟩ => ⟨S_, .i32⟩
  | .hbm, ⟨66, _⟩ => ⟨S256, .i32⟩
  | .hbm, ⟨67, _⟩ => ⟨S256, .i1⟩
  | .hbm, ⟨68, _⟩ => ⟨S256, .i32⟩
  | .hbm, ⟨69, _⟩ => ⟨S256, .i32⟩
  | .hbm, ⟨70, _⟩ => ⟨S_, .i32⟩
  | .hbm, ⟨71, _⟩ => ⟨S256, .i32⟩
  | .hbm, ⟨72, _⟩ => ⟨S256, .i1⟩
  | .hbm, ⟨73, _⟩ => ⟨S256, .i1⟩
  | .hbm, ⟨74, _⟩ => ⟨S_, .i32⟩
  | .hbm, ⟨75, _⟩ => ⟨S256, .i32⟩
  | .hbm, ⟨76, _⟩ => ⟨S256, .i32⟩
  | .hbm, ⟨77, _⟩ => ⟨S32768x1024, .f32⟩
  | .hbm, ⟨78, _⟩ => ⟨S1x1024, .f32⟩
  | .hbm, ⟨79, _⟩ => ⟨S8x1024x3584, .bf16⟩
  | .hbm, ⟨80, _⟩ => ⟨S8x1024x3584, .bf16⟩
  | .hbm, ⟨81, _⟩ => ⟨S8x3584x1024, .bf16⟩
  | .hbm, ⟨82, _⟩ => ⟨S1x1024, .f32⟩
  | .hbm, ⟨83, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1024x128, .f32⟩
  | .local _ .vmem, ⟨10, _⟩ => ⟨S1024x128, .f32⟩
  | .local _ .vmem, ⟨11, _⟩ => ⟨S1x1024x896, .bf16⟩
  | .local _ .vmem, ⟨12, _⟩ => ⟨S1x1024x896, .bf16⟩
  | .local _ .vmem, ⟨13, _⟩ => ⟨S1x1024x896, .bf16⟩
  | .local _ .vmem, ⟨14, _⟩ => ⟨S1x1024x896, .bf16⟩
  | .local _ .vmem, ⟨15, _⟩ => ⟨S1x896x1024, .bf16⟩
  | .local _ .vmem, ⟨16, _⟩ => ⟨S1x896x1024, .bf16⟩
  | .local _ .vmem, ⟨17, _⟩ => ⟨S1x1024, .f32⟩
  | .local _ .vmem, ⟨18, _⟩ => ⟨S1024x1024, .f32⟩
  | .local _ .vmem, ⟨19, _⟩ => ⟨S1024x1024, .f32⟩
  | .local _ .vmem, ⟨20, _⟩ => ⟨S1024x1024, .bf16⟩
  | .local _ .vmem, ⟨21, _⟩ => ⟨S1024x1024, .bf16⟩
  | .local _ .vmem, ⟨22, _⟩ => ⟨S1024x128, .f32⟩
  | .local _ .vmem, ⟨23, _⟩ => ⟨S128x1024, .f32⟩
  | .local _ .vmem, ⟨24, _⟩ => ⟨S1024x1024, .bf16⟩
  | .local _ .vmem, ⟨25, _⟩ => ⟨S1024x1024, .f32⟩
  | .local _ .vmem, ⟨26, _⟩ => ⟨S1024x1024, .f32⟩
  | .local _ .smem, ⟨0, _⟩ => ⟨S256, .i32⟩
  | .local _ .smem, ⟨1, _⟩ => ⟨S256, .i32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_cst_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_c : Ref sig .tc := ⟨.hbm, 18, rfl⟩
abbrev main_v6 : Ref sig .tc := ⟨.hbm, 19, rfl⟩
abbrev main_v7 : Ref sig .tc := ⟨.hbm, 20, rfl⟩
abbrev main_c_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c_2 : Ref sig .tc := ⟨.hbm, 25, rfl⟩
abbrev main_v11 : Ref sig .tc := ⟨.hbm, 26, rfl⟩
abbrev main_v12 : Ref sig .tc := ⟨.hbm, 27, rfl⟩
abbrev main_c_3 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_c_4 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_c_5 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c_6 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_c_7 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_c_8 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_c_9 : Ref sig .tc := ⟨.hbm, 57, rfl⟩
abbrev main_v37 : Ref sig .tc := ⟨.hbm, 58, rfl⟩
abbrev main_v38 : Ref sig .tc := ⟨.hbm, 59, rfl⟩
abbrev main_c_10 : Ref sig .tc := ⟨.hbm, 60, rfl⟩
abbrev main_call0_v0 : Ref sig .tc := ⟨.hbm, 61, rfl⟩
abbrev main_call0_v1 : Ref sig .tc := ⟨.hbm, 62, rfl⟩
abbrev main_call0_v2 : Ref sig .tc := ⟨.hbm, 63, rfl⟩
abbrev main_call0_v3 : Ref sig .tc := ⟨.hbm, 64, rfl⟩
abbrev main_call0_v4 : Ref sig .tc := ⟨.hbm, 65, rfl⟩
abbrev main_call0_v5 : Ref sig .tc := ⟨.hbm, 66, rfl⟩
abbrev main_call0_v6 : Ref sig .tc := ⟨.hbm, 67, rfl⟩
abbrev main_call0_v7 : Ref sig .tc := ⟨.hbm, 68, rfl⟩
abbrev main_call0_v8 : Ref sig .tc := ⟨.hbm, 69, rfl⟩
abbrev main_call0_c : Ref sig .tc := ⟨.hbm, 70, rfl⟩
abbrev main_call0_v9 : Ref sig .tc := ⟨.hbm, 71, rfl⟩
abbrev main_call0_v10 : Ref sig .tc := ⟨.hbm, 72, rfl⟩
abbrev main_call0_v11 : Ref sig .tc := ⟨.hbm, 73, rfl⟩
abbrev main_call0_c_0 : Ref sig .tc := ⟨.hbm, 74, rfl⟩
abbrev main_call0_v12 : Ref sig .tc := ⟨.hbm, 75, rfl⟩
abbrev main_call0_v13 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v36 : Ref sig .tc := ⟨.smem, 0, rfl⟩
abbrev main_v39 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_scratch5 : Ref sig .tc := ⟨.vmem, 25, rfl⟩
abbrev cc0_scratch6 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨3, ![32, 8, 4], ![false, false, false]⟩

abbrev pre0 : Pipeline.Prefetch sig := ⟨2, ![main_v36.idx, main_v39.idx], fun | 0 => main_v36.names | 1 => main_v39.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let v2 : Index := Scalar.indexCast v1
  ![v2.toNat]
def k0_cond3 (i : grid0.Coords) : BitVec 1 :=
  let arg2 : BitVec 32 := BitVec.ofNat 32 (i 2).val
  let c0_i32_7 : BitVec 32 := 0#32
  let v20 : BitVec 1 := Scalar.cmpi .eq arg2 c0_i32_7
  let v21 : BitVec 32 := Scalar.extui v20
  let c0_i32_8 : BitVec 32 := 0#32
  let v22 : BitVec 1 := Scalar.cmpi .ne v21 c0_i32_8
  v22

def k0_off2 (i : grid0.Coords) : Fin 2 → Nat :=
  let arg1 : BitVec 32 := BitVec.ofNat 32 (i 1).val
  let v54 : Index := Scalar.indexCast arg1
  let c0 : Index := 0#32
  ![v54.toNat, 0]
@[reducible] def k0_t1_loop (v7 : BitVec 32) : Scf.Loop 32 :=
  let c0_i32_38 : BitVec 32 := 0#32
  let v80 : BitVec 32 := Scalar.subi v7 c0_i32_38
  let c1_i32_40 : BitVec 32 := 1#32
  let v82 : BitVec 32 := Scalar.divsi v80 c1_i32_40
  let v83 : BitVec 32 := Scalar.muli v82 c1_i32_40
  let v84 : BitVec 32 := Scalar.addi c0_i32_38 v83
  let c1_i32_41 : BitVec 32 := 1#32
  ⟨c0_i32_38, v84, c1_i32_41⟩
def k0_cond11 (v3 : BitVec 32) : BitVec 1 :=
  let c7_i32_36 : BitVec 32 := 7#32
  let v77 : BitVec 1 := Scalar.cmpi .eq v3 c7_i32_36
  let v78 : BitVec 32 := Scalar.extui v77
  let c0_i32_37 : BitVec 32 := 0#32
  let v79 : BitVec 1 := Scalar.cmpi .ne v78 c0_i32_37
  v79

def k0_mult1 (v7 : BitVec 32) (k0_t1 : Fin (k0_t1_loop v7).trips) : BitVec 32 :=
  let c0_i32_38 : BitVec 32 := 0#32
  let c1_i32_41 : BitVec 32 := 1#32
  let arg23 : BitVec 32 := Scf.iv c0_i32_38 c1_i32_41 k0_t1
  let c512_i32_47 : BitVec 32 := 512#32
  let v102 : BitVec 32 := Scalar.muli arg23 c512_i32_47
  v102
def k0_off3 (v7 : BitVec 32) (k0_t1 : Fin (k0_t1_loop v7).trips) : Fin 2 → Nat :=
  let c0_i32_38 : BitVec 32 := 0#32
  let c1_i32_41 : BitVec 32 := 1#32
  let arg23 : BitVec 32 := Scf.iv c0_i32_38 c1_i32_41 k0_t1
  let c512_i32_47 : BitVec 32 := 512#32
  let v102 : BitVec 32 := Scalar.muli arg23 c512_i32_47
  let v103 : BitVec 32 := v102
  let v104 : Index := Scalar.indexCast v103
  let c0_48 : Index := 0#32
  ![v104.toNat, 0]
def k0_mult2 (v7 : BitVec 32) (k0_t1 : Fin (k0_t1_loop v7).trips) : BitVec 32 :=
  let c0_i32_38 : BitVec 32 := 0#32
  let c1_i32_41 : BitVec 32 := 1#32
  let arg23 : BitVec 32 := Scf.iv c0_i32_38 c1_i32_41 k0_t1
  let c512_i32_50 : BitVec 32 := 512#32
  let v109 : BitVec 32 := Scalar.muli arg23 c512_i32_50
  v109
@[reducible] def k0_t2_loop (v7 : BitVec 32) : Scf.Loop 32 :=
  let c0_i32_38 : BitVec 32 := 0#32
  let v80 : BitVec 32 := Scalar.subi v7 c0_i32_38
  let c1_i32_40 : BitVec 32 := 1#32
  let v82 : BitVec 32 := Scalar.divsi v80 c1_i32_40
  let v83 : BitVec 32 := Scalar.muli v82 c1_i32_40
  let v84 : BitVec 32 := Scalar.addi c0_i32_38 v83
  let v81 : BitVec 32 := Scalar.addi c0_i32_38 v80
  let c1_i32_42 : BitVec 32 := 1#32
  ⟨v84, v81, c1_i32_42⟩
def k0_mult3 (v7 : BitVec 32) (k0_t2 : Fin (k0_t2_loop v7).trips) : BitVec 32 :=
  let c0_i32_38 : BitVec 32 := 0#32
  let v80 : BitVec 32 := Scalar.subi v7 c0_i32_38
  let c1_i32_40 : BitVec 32 := 1#32
  let v82 : BitVec 32 := Scalar.divsi v80 c1_i32_40
  let v83 : BitVec 32 := Scalar.muli v82 c1_i32_40
  let v84 : BitVec 32 := Scalar.addi c0_i32_38 v83
  let c1_i32_42 : BitVec 32 := 1#32
  let arg23 : BitVec 32 := Scf.iv v84 c1_i32_42 k0_t2
  let c512_i32_47 : BitVec 32 := 512#32
  let v102 : BitVec 32 := Scalar.muli arg23 c512_i32_47
  v102
def k0_off4 (v7 : BitVec 32) (k0_t2 : Fin (k0_t2_loop v7).trips) : Fin 2 → Nat :=
  let c0_i32_38 : BitVec 32 := 0#32
  let v80 : BitVec 32 := Scalar.subi v7 c0_i32_38
  let c1_i32_40 : BitVec 32 := 1#32
  let v82 : BitVec 32 := Scalar.divsi v80 c1_i32_40
  let v83 : BitVec 32 := Scalar.muli v82 c1_i32_40
  let v84 : BitVec 32 := Scalar.addi c0_i32_38 v83
  let c1_i32_42 : BitVec 32 := 1#32
  let arg23 : BitVec 32 := Scf.iv v84 c1_i32_42 k0_t2
  let c512_i32_47 : BitVec 32 := 512#32
  let v102 : BitVec 32 := Scalar.muli arg23 c512_i32_47
  let v103 : BitVec 32 := v102
  let v104 : Index := Scalar.indexCast v103
  let c0_48 : Index := 0#32
  ![v104.toNat, 0]
def k0_mult4 (v7 : BitVec 32) (k0_t2 : Fin (k0_t2_loop v7).trips) : BitVec 32 :=
  let c0_i32_38 : BitVec 32 := 0#32
  let v80 : BitVec 32 := Scalar.subi v7 c0_i32_38
  let c1_i32_40 : BitVec 32 := 1#32
  let v82 : BitVec 32 := Scalar.divsi v80 c1_i32_40
  let v83 : BitVec 32 := Scalar.muli v82 c1_i32_40
  let v84 : BitVec 32 := Scalar.addi c0_i32_38 v83
  let c1_i32_42 : BitVec 32 := 1#32
  let arg23 : BitVec 32 := Scf.iv v84 c1_i32_42 k0_t2
  let c512_i32_50 : BitVec 32 := 512#32
  let v109 : BitVec 32 := Scalar.muli arg23 c512_i32_50
  v109
@[reducible] def k0_t3_loop (v7 : BitVec 32) : Scf.Loop 32 :=
  let c0_i32_22 : BitVec 32 := 0#32
  let v54 : BitVec 32 := Scalar.subi v7 c0_i32_22
  let c1_i32_24 : BitVec 32 := 1#32
  let v56 : BitVec 32 := Scalar.divsi v54 c1_i32_24
  let v57 : BitVec 32 := Scalar.muli v56 c1_i32_24
  let v58 : BitVec 32 := Scalar.addi c0_i32_22 v57
  let c1_i32_25 : BitVec 32 := 1#32
  ⟨c0_i32_22, v58, c1_i32_25⟩
def k0_cond19 (v3 : BitVec 32) : BitVec 1 :=
  let c7_i32 : BitVec 32 := 7#32
  let v44 : BitVec 1 := Scalar.cmpi .eq v3 c7_i32
  let v45 : BitVec 32 := Scalar.extui v44
  let c0_i32_17 : BitVec 32 := 0#32
  let v46 : BitVec 1 := Scalar.cmpi .ne v45 c0_i32_17
  v46

def k0_mult5 (v7 : BitVec 32) (k0_t3 : Fin (k0_t3_loop v7).trips) : BitVec 32 :=
  let c0_i32_22 : BitVec 32 := 0#32
  let c1_i32_25 : BitVec 32 := 1#32
  let arg23 : BitVec 32 := Scf.iv c0_i32_22 c1_i32_25 k0_t3
  let c512_i32 : BitVec 32 := 512#32
  let v61 : BitVec 32 := Scalar.muli arg23 c512_i32
  v61
def k0_off5 (v7 : BitVec 32) (k0_t3 : Fin (k0_t3_loop v7).trips) : Fin 2 → Nat :=
  let c0_i32_22 : BitVec 32 := 0#32
  let c1_i32_25 : BitVec 32 := 1#32
  let arg23 : BitVec 32 := Scf.iv c0_i32_22 c1_i32_25 k0_t3
  let c512_i32 : BitVec 32 := 512#32
  let v61 : BitVec 32 := Scalar.muli arg23 c512_i32
  let v62 : BitVec 32 := v61
  let v63 : Index := Scalar.indexCast v62
  let c0 : Index := 0#32
  ![v63.toNat, 0]
def k0_mult6 (v7 : BitVec 32) (k0_t3 : Fin (k0_t3_loop v7).trips) : BitVec 32 :=
  let c0_i32_22 : BitVec 32 := 0#32
  let c1_i32_25 : BitVec 32 := 1#32
  let arg23 : BitVec 32 := Scf.iv c0_i32_22 c1_i32_25 k0_t3
  let c512_i32_34 : BitVec 32 := 512#32
  let v74 : BitVec 32 := Scalar.muli arg23 c512_i32_34
  v74
@[reducible] def k0_t4_loop (v7 : BitVec 32) : Scf.Loop 32 :=
  let c0_i32_22 : BitVec 32 := 0#32
  let v54 : BitVec 32 := Scalar.subi v7 c0_i32_22
  let c1_i32_24 : BitVec 32 := 1#32
  let v56 : BitVec 32 := Scalar.divsi v54 c1_i32_24
  let v57 : BitVec 32 := Scalar.muli v56 c1_i32_24
  let v58 : BitVec 32 := Scalar.addi c0_i32_22 v57
  let v55 : BitVec 32 := Scalar.addi c0_i32_22 v54
  let c1_i32_26 : BitVec 32 := 1#32
  ⟨v58, v55, c1_i32_26⟩
def k0_mult7 (v7 : BitVec 32) (k0_t4 : Fin (k0_t4_loop v7).trips) : BitVec 32 :=
  let c0_i32_22 : BitVec 32 := 0#32
  let v54 : BitVec 32 := Scalar.subi v7 c0_i32_22
  let c1_i32_24 : BitVec 32 := 1#32
  let v56 : BitVec 32 := Scalar.divsi v54 c1_i32_24
  let v57 : BitVec 32 := Scalar.muli v56 c1_i32_24
  let v58 : BitVec 32 := Scalar.addi c0_i32_22 v57
  let c1_i32_26 : BitVec 32 := 1#32
  let arg23 : BitVec 32 := Scf.iv v58 c1_i32_26 k0_t4
  let c512_i32 : BitVec 32 := 512#32
  let v61 : BitVec 32 := Scalar.muli arg23 c512_i32
  v61
def k0_off6 (v7 : BitVec 32) (k0_t4 : Fin (k0_t4_loop v7).trips) : Fin 2 → Nat :=
  let c0_i32_22 : BitVec 32 := 0#32
  let v54 : BitVec 32 := Scalar.subi v7 c0_i32_22
  let c1_i32_24 : BitVec 32 := 1#32
  let v56 : BitVec 32 := Scalar.divsi v54 c1_i32_24
  let v57 : BitVec 32 := Scalar.muli v56 c1_i32_24
  let v58 : BitVec 32 := Scalar.addi c0_i32_22 v57
  let c1_i32_26 : BitVec 32 := 1#32
  let arg23 : BitVec 32 := Scf.iv v58 c1_i32_26 k0_t4
  let c512_i32 : BitVec 32 := 512#32
  let v61 : BitVec 32 := Scalar.muli arg23 c512_i32
  let v62 : BitVec 32 := v61
  let v63 : Index := Scalar.indexCast v62
  let c0 : Index := 0#32
  ![v63.toNat, 0]
def k0_mult8 (v7 : BitVec 32) (k0_t4 : Fin (k0_t4_loop v7).trips) : BitVec 32 :=
  let c0_i32_22 : BitVec 32 := 0#32
  let v54 : BitVec 32 := Scalar.subi v7 c0_i32_22
  let c1_i32_24 : BitVec 32 := 1#32
  let v56 : BitVec 32 := Scalar.divsi v54 c1_i32_24
  let v57 : BitVec 32 := Scalar.muli v56 c1_i32_24
  let v58 : BitVec 32 := Scalar.addi c0_i32_22 v57
  let c1_i32_26 : BitVec 32 := 1#32
  let arg23 : BitVec 32 := Scf.iv v58 c1_i32_26 k0_t4
  let c512_i32_34 : BitVec 32 := 512#32
  let v74 : BitVec 32 := Scalar.muli arg23 c512_i32_34
  v74
def k0_cond20 (i : grid0.Coords) : BitVec 1 :=
  let arg2 : BitVec 32 := BitVec.ofNat 32 (i 2).val
  let c3_i32_18 : BitVec 32 := 3#32
  let v47 : BitVec 1 := Scalar.cmpi .eq arg2 c3_i32_18
  let v48 : BitVec 32 := Scalar.extui v47
  let c0_i32_19 : BitVec 32 := 0#32
  let v49 : BitVec 1 := Scalar.cmpi .ne v48 c0_i32_19
  v49

@[reducible] def k0_t5_loop (v7 : BitVec 32) : Scf.Loop 32 :=
  let c0_i32_44 : BitVec 32 := 0#32
  let v92 : BitVec 32 := Scalar.subi v7 c0_i32_44
  let c1_i32_46 : BitVec 32 := 1#32
  let v94 : BitVec 32 := Scalar.divsi v92 c1_i32_46
  let v95 : BitVec 32 := Scalar.muli v94 c1_i32_46
  let v96 : BitVec 32 := Scalar.addi c0_i32_44 v95
  let c1_i32_47 : BitVec 32 := 1#32
  ⟨c0_i32_44, v96, c1_i32_47⟩
def k0_cond28 (v3 : BitVec 32) : BitVec 1 :=
  let c7_i32_42 : BitVec 32 := 7#32
  let v89 : BitVec 1 := Scalar.cmpi .eq v3 c7_i32_42
  let v90 : BitVec 32 := Scalar.extui v89
  let c0_i32_43 : BitVec 32 := 0#32
  let v91 : BitVec 1 := Scalar.cmpi .ne v90 c0_i32_43
  v91

def k0_mult9 (v7 : BitVec 32) (k0_t5 : Fin (k0_t5_loop v7).trips) : BitVec 32 :=
  let c0_i32_44 : BitVec 32 := 0#32
  let c1_i32_47 : BitVec 32 := 1#32
  let arg23 : BitVec 32 := Scf.iv c0_i32_44 c1_i32_47 k0_t5
  let c512_i32_53 : BitVec 32 := 512#32
  let v112 : BitVec 32 := Scalar.muli arg23 c512_i32_53
  v112
def k0_off7 (v7 : BitVec 32) (k0_t5 : Fin (k0_t5_loop v7).trips) : Fin 2 → Nat :=
  let c0_i32_44 : BitVec 32 := 0#32
  let c1_i32_47 : BitVec 32 := 1#32
  let arg23 : BitVec 32 := Scf.iv c0_i32_44 c1_i32_47 k0_t5
  let c512_i32_53 : BitVec 32 := 512#32
  let v112 : BitVec 32 := Scalar.muli arg23 c512_i32_53
  let v113 : BitVec 32 := v112
  let v114 : Index := Scalar.indexCast v113
  let c0_54 : Index := 0#32
  ![v114.toNat, 0]
@[reducible] def k0_t6_loop (v7 : BitVec 32) : Scf.Loop 32 :=
  let c0_i32_44 : BitVec 32 := 0#32
  let v92 : BitVec 32 := Scalar.subi v7 c0_i32_44
  let c1_i32_46 : BitVec 32 := 1#32
  let v94 : BitVec 32 := Scalar.divsi v92 c1_i32_46
  let v95 : BitVec 32 := Scalar.muli v94 c1_i32_46
  let v96 : BitVec 32 := Scalar.addi c0_i32_44 v95
  let v93 : BitVec 32 := Scalar.addi c0_i32_44 v92
  let c1_i32_48 : BitVec 32 := 1#32
  ⟨v96, v93, c1_i32_48⟩
def k0_mult10 (v7 : BitVec 32) (k0_t6 : Fin (k0_t6_loop v7).trips) : BitVec 32 :=
  let c0_i32_44 : BitVec 32 := 0#32
  let v92 : BitVec 32 := Scalar.subi v7 c0_i32_44
  let c1_i32_46 : BitVec 32 := 1#32
  let v94 : BitVec 32 := Scalar.divsi v92 c1_i32_46
  let v95 : BitVec 32 := Scalar.muli v94 c1_i32_46
  let v96 : BitVec 32 := Scalar.addi c0_i32_44 v95
  let c1_i32_48 : BitVec 32 := 1#32
  let arg23 : BitVec 32 := Scf.iv v96 c1_i32_48 k0_t6
  let c512_i32_53 : BitVec 32 := 512#32
  let v112 : BitVec 32 := Scalar.muli arg23 c512_i32_53
  v112
def k0_off8 (v7 : BitVec 32) (k0_t6 : Fin (k0_t6_loop v7).trips) : Fin 2 → Nat :=
  let c0_i32_44 : BitVec 32 := 0#32
  let v92 : BitVec 32 := Scalar.subi v7 c0_i32_44
  let c1_i32_46 : BitVec 32 := 1#32
  let v94 : BitVec 32 := Scalar.divsi v92 c1_i32_46
  let v95 : BitVec 32 := Scalar.muli v94 c1_i32_46
  let v96 : BitVec 32 := Scalar.addi c0_i32_44 v95
  let c1_i32_48 : BitVec 32 := 1#32
  let arg23 : BitVec 32 := Scf.iv v96 c1_i32_48 k0_t6
  let c512_i32_53 : BitVec 32 := 512#32
  let v112 : BitVec 32 := Scalar.muli arg23 c512_i32_53
  let v113 : BitVec 32 := v112
  let v114 : Index := Scalar.indexCast v113
  let c0_54 : Index := 0#32
  ![v114.toNat, 0]

def k0_chk1 (i : grid0.Coords) (v3 : BitVec 32) (v7 : BitVec 32) : Prop :=
  (∀ (k0_h3 : k0_cond3 i = 1#1), ∀ (k0_h11 : k0_cond11 v3 = 1#1), (k0_t1_loop v7).OK) ∧
  (∀ k0_t1 : Fin (k0_t1_loop v7).trips, ∀ (k0_h3 : k0_cond3 i = 1#1), ∀ (k0_h11 : k0_cond11 v3 = 1#1), 16 ∣ (k0_mult1 v7 k0_t1).toNat) ∧
  (∀ k0_t1 : Fin (k0_t1_loop v7).trips, ∀ (k0_h3 : k0_cond3 i = 1#1), ∀ (k0_h11 : k0_cond11 v3 = 1#1), ∀ a, (k0_off3 v7 k0_t1) a + S512x1024.size a ≤ S1024x1024.size a) ∧
  (∀ k0_t1 : Fin (k0_t1_loop v7).trips, ∀ (k0_h3 : k0_cond3 i = 1#1), ∀ (k0_h11 : k0_cond11 v3 = 1#1), ∀ (hinb : ∀ a, (k0_off3 v7 k0_t1) a + S512x1024.size a ≤ S1024x1024.size a), (Rect.unit (s := S1024x1024) (k0_off3 v7 k0_t1) S512x1024.size hinb).PackedRows (EltTy.packing .bf16)) ∧
  (∀ k0_t1 : Fin (k0_t1_loop v7).trips, ∀ (k0_h3 : k0_cond3 i = 1#1), ∀ (k0_h11 : k0_cond11 v3 = 1#1), 16 ∣ (k0_mult2 v7 k0_t1).toNat) ∧
  (∀ (k0_h3 : k0_cond3 i = 1#1), ∀ (k0_h11 : k0_cond11 v3 = 1#1), (k0_t2_loop v7).OK) ∧
  (∀ k0_t2 : Fin (k0_t2_loop v7).trips, ∀ (k0_h3 : k0_cond3 i = 1#1), ∀ (k0_h11 : k0_cond11 v3 = 1#1), 16 ∣ (k0_mult3 v7 k0_t2).toNat) ∧
  (∀ k0_t2 : Fin (k0_t2_loop v7).trips, ∀ (k0_h3 : k0_cond3 i = 1#1), ∀ (k0_h11 : k0_cond11 v3 = 1#1), ∀ a, (k0_off4 v7 k0_t2) a + S512x1024.size a ≤ S1024x1024.size a) ∧
  (∀ k0_t2 : Fin (k0_t2_loop v7).trips, ∀ (k0_h3 : k0_cond3 i = 1#1), ∀ (k0_h11 : k0_cond11 v3 = 1#1), ∀ (hinb : ∀ a, (k0_off4 v7 k0_t2) a + S512x1024.size a ≤ S1024x1024.size a), (Rect.unit (s := S1024x1024) (k0_off4 v7 k0_t2) S512x1024.size hinb).PackedRows (EltTy.packing .bf16)) ∧
  (∀ k0_t2 : Fin (k0_t2_loop v7).trips, ∀ (k0_h3 : k0_cond3 i = 1#1), ∀ (k0_h11 : k0_cond11 v3 = 1#1), 16 ∣ (k0_mult4 v7 k0_t2).toNat) ∧
  (∀ (k0_h19 : k0_cond19 v3 = 1#1), (k0_t3_loop v7).OK) ∧
  (∀ k0_t3 : Fin (k0_t3_loop v7).trips, ∀ (k0_h19 : k0_cond19 v3 = 1#1), 16 ∣ (k0_mult5 v7 k0_t3).toNat) ∧
  (∀ k0_t3 : Fin (k0_t3_loop v7).trips, ∀ (k0_h19 : k0_cond19 v3 = 1#1), ∀ a, (k0_off5 v7 k0_t3) a + S512x1024.size a ≤ S1024x1024.size a) ∧
  (∀ k0_t3 : Fin (k0_t3_loop v7).trips, ∀ (k0_h19 : k0_cond19 v3 = 1#1), 16 ∣ (k0_mult6 v7 k0_t3).toNat) ∧
  (∀ (k0_h19 : k0_cond19 v3 = 1#1), (k0_t4_loop v7).OK) ∧
  (∀ k0_t4 : Fin (k0_t4_loop v7).trips, ∀ (k0_h19 : k0_cond19 v3 = 1#1), 16 ∣ (k0_mult7 v7 k0_t4).toNat) ∧
  (∀ k0_t4 : Fin (k0_t4_loop v7).trips, ∀ (k0_h19 : k0_cond19 v3 = 1#1), ∀ a, (k0_off6 v7 k0_t4) a + S512x1024.size a ≤ S1024x1024.size a) ∧
  (∀ k0_t4 : Fin (k0_t4_loop v7).trips, ∀ (k0_h19 : k0_cond19 v3 = 1#1), 16 ∣ (k0_mult8 v7 k0_t4).toNat) ∧
  (∀ (k0_h20 : k0_cond20 i = 1#1), ∀ (k0_h28 : k0_cond28 v3 = 1#1), (k0_t5_loop v7).OK) ∧
  (∀ k0_t5 : Fin (k0_t5_loop v7).trips, ∀ (k0_h20 : k0_cond20 i = 1#1), ∀ (k0_h28 : k0_cond28 v3 = 1#1), 16 ∣ (k0_mult9 v7 k0_t5).toNat) ∧
  (∀ k0_t5 : Fin (k0_t5_loop v7).trips, ∀ (k0_h20 : k0_cond20 i = 1#1), ∀ (k0_h28 : k0_cond28 v3 = 1#1), ∀ a, (k0_off7 v7 k0_t5) a + S512x1024.size a ≤ S1024x1024.size a) ∧
  (∀ (k0_h20 : k0_cond20 i = 1#1), ∀ (k0_h28 : k0_cond28 v3 = 1#1), (k0_t6_loop v7).OK) ∧
  (∀ k0_t6 : Fin (k0_t6_loop v7).trips, ∀ (k0_h20 : k0_cond20 i = 1#1), ∀ (k0_h28 : k0_cond28 v3 = 1#1), 16 ∣ (k0_mult10 v7 k0_t6).toNat) ∧
  (∀ k0_t6 : Fin (k0_t6_loop v7).trips, ∀ (k0_h20 : k0_cond20 i = 1#1), ∀ (k0_h28 : k0_cond28 v3 = 1#1), ∀ a, (k0_off8 v7 k0_t6) a + S512x1024.size a ≤ S1024x1024.size a)
theorem k0_t1_ok : ∀ (i : grid0.Coords) (v3 : BitVec 32) (v7 : BitVec 32) (k0_hw1 : k0_chk1 i v3 v7), ∀ (k0_h3 : k0_cond3 i = 1#1), ∀ (k0_h11 : k0_cond11 v3 = 1#1), (k0_t1_loop v7).OK := fun i v3 v7 k0_hw1 k0_h3 k0_h11 => k0_hw1.1 k0_h3 k0_h11
theorem k0_mult1_dvd : ∀ (i : grid0.Coords) (v3 : BitVec 32) (v7 : BitVec 32) (k0_hw1 : k0_chk1 i v3 v7) (k0_t1 : Fin (k0_t1_loop v7).trips), ∀ (k0_h3 : k0_cond3 i = 1#1), ∀ (k0_h11 : k0_cond11 v3 = 1#1), 16 ∣ (k0_mult1 v7 k0_t1).toNat := fun i v3 v7 k0_hw1 k0_t1 k0_h3 k0_h11 => k0_hw1.2.1 k0_t1 k0_h3 k0_h11
theorem k0_off3_inb : ∀ (i : grid0.Coords) (v3 : BitVec 32) (v7 : BitVec 32) (k0_hw1 : k0_chk1 i v3 v7) (k0_t1 : Fin (k0_t1_loop v7).trips), ∀ (k0_h3 : k0_cond3 i = 1#1), ∀ (k0_h11 : k0_cond11 v3 = 1#1), ∀ a, (k0_off3 v7 k0_t1) a + S512x1024.size a ≤ S1024x1024.size a := fun i v3 v7 k0_hw1 k0_t1 k0_h3 k0_h11 => k0_hw1.2.2.1 k0_t1 k0_h3 k0_h11
theorem k0_off3_packedbf16 : ∀ (i : grid0.Coords) (v3 : BitVec 32) (v7 : BitVec 32) (k0_hw1 : k0_chk1 i v3 v7) (k0_t1 : Fin (k0_t1_loop v7).trips), ∀ (k0_h3 : k0_cond3 i = 1#1), ∀ (k0_h11 : k0_cond11 v3 = 1#1), (Rect.unit (s := S1024x1024) (k0_off3 v7 k0_t1) S512x1024.size (k0_off3_inb i v3 v7 k0_hw1 k0_t1 k0_h3 k0_h11)).PackedRows (EltTy.packing .bf16) := fun i v3 v7 k0_hw1 k0_t1 k0_h3 k0_h11 => k0_hw1.2.2.2.1 k0_t1 k0_h3 k0_h11 (k0_off3_inb i v3 v7 k0_hw1 k0_t1 k0_h3 k0_h11)
theorem k0_mult2_dvd : ∀ (i : grid0.Coords) (v3 : BitVec 32) (v7 : BitVec 32) (k0_hw1 : k0_chk1 i v3 v7) (k0_t1 : Fin (k0_t1_loop v7).trips), ∀ (k0_h3 : k0_cond3 i = 1#1), ∀ (k0_h11 : k0_cond11 v3 = 1#1), 16 ∣ (k0_mult2 v7 k0_t1).toNat := fun i v3 v7 k0_hw1 k0_t1 k0_h3 k0_h11 => k0_hw1.2.2.2.2.1 k0_t1 k0_h3 k0_h11
theorem k0_t2_ok : ∀ (i : grid0.Coords) (v3 : BitVec 32) (v7 : BitVec 32) (k0_hw1 : k0_chk1 i v3 v7), ∀ (k0_h3 : k0_cond3 i = 1#1), ∀ (k0_h11 : k0_cond11 v3 = 1#1), (k0_t2_loop v7).OK := fun i v3 v7 k0_hw1 k0_h3 k0_h11 => k0_hw1.2.2.2.2.2.1 k0_h3 k0_h11
theorem k0_mult3_dvd : ∀ (i : grid0.Coords) (v3 : BitVec 32) (v7 : BitVec 32) (k0_hw1 : k0_chk1 i v3 v7) (k0_t2 : Fin (k0_t2_loop v7).trips), ∀ (k0_h3 : k0_cond3 i = 1#1), ∀ (k0_h11 : k0_cond11 v3 = 1#1), 16 ∣ (k0_mult3 v7 k0_t2).toNat := fun i v3 v7 k0_hw1 k0_t2 k0_h3 k0_h11 => k0_hw1.2.2.2.2.2.2.1 k0_t2 k0_h3 k0_h11
theorem k0_off4_inb : ∀ (i : grid0.Coords) (v3 : BitVec 32) (v7 : BitVec 32) (k0_hw1 : k0_chk1 i v3 v7) (k0_t2 : Fin (k0_t2_loop v7).trips), ∀ (k0_h3 : k0_cond3 i = 1#1), ∀ (k0_h11 : k0_cond11 v3 = 1#1), ∀ a, (k0_off4 v7 k0_t2) a + S512x1024.size a ≤ S1024x1024.size a := fun i v3 v7 k0_hw1 k0_t2 k0_h3 k0_h11 => k0_hw1.2.2.2.2.2.2.2.1 k0_t2 k0_h3 k0_h11
theorem k0_off4_packedbf16 : ∀ (i : grid0.Coords) (v3 : BitVec 32) (v7 : BitVec 32) (k0_hw1 : k0_chk1 i v3 v7) (k0_t2 : Fin (k0_t2_loop v7).trips), ∀ (k0_h3 : k0_cond3 i = 1#1), ∀ (k0_h11 : k0_cond11 v3 = 1#1), (Rect.unit (s := S1024x1024) (k0_off4 v7 k0_t2) S512x1024.size (k0_off4_inb i v3 v7 k0_hw1 k0_t2 k0_h3 k0_h11)).PackedRows (EltTy.packing .bf16) := fun i v3 v7 k0_hw1 k0_t2 k0_h3 k0_h11 => k0_hw1.2.2.2.2.2.2.2.2.1 k0_t2 k0_h3 k0_h11 (k0_off4_inb i v3 v7 k0_hw1 k0_t2 k0_h3 k0_h11)
theorem k0_mult4_dvd : ∀ (i : grid0.Coords) (v3 : BitVec 32) (v7 : BitVec 32) (k0_hw1 : k0_chk1 i v3 v7) (k0_t2 : Fin (k0_t2_loop v7).trips), ∀ (k0_h3 : k0_cond3 i = 1#1), ∀ (k0_h11 : k0_cond11 v3 = 1#1), 16 ∣ (k0_mult4 v7 k0_t2).toNat := fun i v3 v7 k0_hw1 k0_t2 k0_h3 k0_h11 => k0_hw1.2.2.2.2.2.2.2.2.2.1 k0_t2 k0_h3 k0_h11
theorem k0_t3_ok : ∀ (i : grid0.Coords) (v3 : BitVec 32) (v7 : BitVec 32) (k0_hw1 : k0_chk1 i v3 v7), ∀ (k0_h19 : k0_cond19 v3 = 1#1), (k0_t3_loop v7).OK := fun i v3 v7 k0_hw1 k0_h19 => k0_hw1.2.2.2.2.2.2.2.2.2.2.1 k0_h19
theorem k0_mult5_dvd : ∀ (i : grid0.Coords) (v3 : BitVec 32) (v7 : BitVec 32) (k0_hw1 : k0_chk1 i v3 v7) (k0_t3 : Fin (k0_t3_loop v7).trips), ∀ (k0_h19 : k0_cond19 v3 = 1#1), 16 ∣ (k0_mult5 v7 k0_t3).toNat := fun i v3 v7 k0_hw1 k0_t3 k0_h19 => k0_hw1.2.2.2.2.2.2.2.2.2.2.2.1 k0_t3 k0_h19
theorem k0_off5_inb : ∀ (i : grid0.Coords) (v3 : BitVec 32) (v7 : BitVec 32) (k0_hw1 : k0_chk1 i v3 v7) (k0_t3 : Fin (k0_t3_loop v7).trips), ∀ (k0_h19 : k0_cond19 v3 = 1#1), ∀ a, (k0_off5 v7 k0_t3) a + S512x1024.size a ≤ S1024x1024.size a := fun i v3 v7 k0_hw1 k0_t3 k0_h19 => k0_hw1.2.2.2.2.2.2.2.2.2.2.2.2.1 k0_t3 k0_h19
theorem k0_mult6_dvd : ∀ (i : grid0.Coords) (v3 : BitVec 32) (v7 : BitVec 32) (k0_hw1 : k0_chk1 i v3 v7) (k0_t3 : Fin (k0_t3_loop v7).trips), ∀ (k0_h19 : k0_cond19 v3 = 1#1), 16 ∣ (k0_mult6 v7 k0_t3).toNat := fun i v3 v7 k0_hw1 k0_t3 k0_h19 => k0_hw1.2.2.2.2.2.2.2.2.2.2.2.2.2.1 k0_t3 k0_h19
theorem k0_t4_ok : ∀ (i : grid0.Coords) (v3 : BitVec 32) (v7 : BitVec 32) (k0_hw1 : k0_chk1 i v3 v7), ∀ (k0_h19 : k0_cond19 v3 = 1#1), (k0_t4_loop v7).OK := fun i v3 v7 k0_hw1 k0_h19 => k0_hw1.2.2.2.2.2.2.2.2.2.2.2.2.2.2.1 k0_h19
theorem k0_mult7_dvd : ∀ (i : grid0.Coords) (v3 : BitVec 32) (v7 : BitVec 32) (k0_hw1 : k0_chk1 i v3 v7) (k0_t4 : Fin (k0_t4_loop v7).trips), ∀ (k0_h19 : k0_cond19 v3 = 1#1), 16 ∣ (k0_mult7 v7 k0_t4).toNat := fun i v3 v7 k0_hw1 k0_t4 k0_h19 => k0_hw1.2.2.2.2.2.2.2.2.2.2.2.2.2.2.2.1 k0_t4 k0_h19
theorem k0_off6_inb : ∀ (i : grid0.Coords) (v3 : BitVec 32) (v7 : BitVec 32) (k0_hw1 : k0_chk1 i v3 v7) (k0_t4 : Fin (k0_t4_loop v7).trips), ∀ (k0_h19 : k0_cond19 v3 = 1#1), ∀ a, (k0_off6 v7 k0_t4) a + S512x1024.size a ≤ S1024x1024.size a := fun i v3 v7 k0_hw1 k0_t4 k0_h19 => k0_hw1.2.2.2.2.2.2.2.2.2.2.2.2.2.2.2.2.1 k0_t4 k0_h19
theorem k0_mult8_dvd : ∀ (i : grid0.Coords) (v3 : BitVec 32) (v7 : BitVec 32) (k0_hw1 : k0_chk1 i v3 v7) (k0_t4 : Fin (k0_t4_loop v7).trips), ∀ (k0_h19 : k0_cond19 v3 = 1#1), 16 ∣ (k0_mult8 v7 k0_t4).toNat := fun i v3 v7 k0_hw1 k0_t4 k0_h19 => k0_hw1.2.2.2.2.2.2.2.2.2.2.2.2.2.2.2.2.2.1 k0_t4 k0_h19
theorem k0_t5_ok : ∀ (i : grid0.Coords) (v3 : BitVec 32) (v7 : BitVec 32) (k0_hw1 : k0_chk1 i v3 v7), ∀ (k0_h20 : k0_cond20 i = 1#1), ∀ (k0_h28 : k0_cond28 v3 = 1#1), (k0_t5_loop v7).OK := fun i v3 v7 k0_hw1 k0_h20 k0_h28 => k0_hw1.2.2.2.2.2.2.2.2.2.2.2.2.2.2.2.2.2.2.1 k0_h20 k0_h28
theorem k0_mult9_dvd : ∀ (i : grid0.Coords) (v3 : BitVec 32) (v7 : BitVec 32) (k0_hw1 : k0_chk1 i v3 v7) (k0_t5 : Fin (k0_t5_loop v7).trips), ∀ (k0_h20 : k0_cond20 i = 1#1), ∀ (k0_h28 : k0_cond28 v3 = 1#1), 16 ∣ (k0_mult9 v7 k0_t5).toNat := fun i v3 v7 k0_hw1 k0_t5 k0_h20 k0_h28 => k0_hw1.2.2.2.2.2.2.2.2.2.2.2.2.2.2.2.2.2.2.2.1 k0_t5 k0_h20 k0_h28
theorem k0_off7_inb : ∀ (i : grid0.Coords) (v3 : BitVec 32) (v7 : BitVec 32) (k0_hw1 : k0_chk1 i v3 v7) (k0_t5 : Fin (k0_t5_loop v7).trips), ∀ (k0_h20 : k0_cond20 i = 1#1), ∀ (k0_h28 : k0_cond28 v3 = 1#1), ∀ a, (k0_off7 v7 k0_t5) a + S512x1024.size a ≤ S1024x1024.size a := fun i v3 v7 k0_hw1 k0_t5 k0_h20 k0_h28 => k0_hw1.2.2.2.2.2.2.2.2.2.2.2.2.2.2.2.2.2.2.2.2.1 k0_t5 k0_h20 k0_h28
theorem k0_t6_ok : ∀ (i : grid0.Coords) (v3 : BitVec 32) (v7 : BitVec 32) (k0_hw1 : k0_chk1 i v3 v7), ∀ (k0_h20 : k0_cond20 i = 1#1), ∀ (k0_h28 : k0_cond28 v3 = 1#1), (k0_t6_loop v7).OK := fun i v3 v7 k0_hw1 k0_h20 k0_h28 => k0_hw1.2.2.2.2.2.2.2.2.2.2.2.2.2.2.2.2.2.2.2.2.2.1 k0_h20 k0_h28
theorem k0_mult10_dvd : ∀ (i : grid0.Coords) (v3 : BitVec 32) (v7 : BitVec 32) (k0_hw1 : k0_chk1 i v3 v7) (k0_t6 : Fin (k0_t6_loop v7).trips), ∀ (k0_h20 : k0_cond20 i = 1#1), ∀ (k0_h28 : k0_cond28 v3 = 1#1), 16 ∣ (k0_mult10 v7 k0_t6).toNat := fun i v3 v7 k0_hw1 k0_t6 k0_h20 k0_h28 => k0_hw1.2.2.2.2.2.2.2.2.2.2.2.2.2.2.2.2.2.2.2.2.2.2.1 k0_t6 k0_h20 k0_h28
theorem k0_off8_inb : ∀ (i : grid0.Coords) (v3 : BitVec 32) (v7 : BitVec 32) (k0_hw1 : k0_chk1 i v3 v7) (k0_t6 : Fin (k0_t6_loop v7).trips), ∀ (k0_h20 : k0_cond20 i = 1#1), ∀ (k0_h28 : k0_cond28 v3 = 1#1), ∀ a, (k0_off8 v7 k0_t6) a + S512x1024.size a ≤ S1024x1024.size a := fun i v3 v7 k0_hw1 k0_t6 k0_h20 k0_h28 => k0_hw1.2.2.2.2.2.2.2.2.2.2.2.2.2.2.2.2.2.2.2.2.2.2.2 k0_t6 k0_h20 k0_h28

def k0_cond29 (i : grid0.Coords) : BitVec 1 :=
  let arg2 : BitVec 32 := BitVec.ofNat 32 (i 2).val
  let c3_i32_18 : BitVec 32 := 3#32
  let v47 : BitVec 1 := Scalar.cmpi .eq arg2 c3_i32_18
  let arg1 : BitVec 32 := BitVec.ofNat 32 (i 1).val
  let c7_i32_20 : BitVec 32 := 7#32
  let v50 : BitVec 1 := Scalar.cmpi .eq arg1 c7_i32_20
  let v51 : BitVec 1 := Scalar.andi v47 v50
  let v52 : BitVec 32 := Scalar.extui v51
  let c0_i32_21 : BitVec 32 := 0#32
  let v53 : BitVec 1 := Scalar.cmpi .ne v52 c0_i32_21
  v53

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S1x1024x896 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, true]

abbrev stage0_7 : Fin 2 → Memref sig .tc .vmem S1x1024x896 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, true]

abbrev stage0_8 : Fin 2 → Memref sig .tc .vmem S1x896x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true, true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]

abbrev stage0_10 : Fin 2 → Memref sig .tc .vmem S1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false, false]
-- ==== Reference2Ideal.lean ====
abbrev S8x4096x1024 : Shape := ⟨3, ![8, 4096, 1024]⟩
abbrev S1024 : Shape := ⟨1, ![1024]⟩
abbrev S8x1x1024 : Shape := ⟨3, ![8, 1, 1024]⟩
abbrev S32768x8 : Shape := ⟨2, ![32768, 8]⟩
abbrev S8x1024x3584 : Shape := ⟨3, ![8, 1024, 3584]⟩
abbrev S8x3584x1024 : Shape := ⟨3, ![8, 3584, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S32768x1024 : Shape := ⟨2, ![32768, 1024]⟩
abbrev S32768x1 : Shape := ⟨2, ![32768, 1]⟩
abbrev S1x1024x3584 : Shape := ⟨3, ![1, 1024, 3584]⟩
abbrev S1024x3584 : Shape := ⟨2, ![1024, 3584]⟩
abbrev S1x3584x1024 : Shape := ⟨3, ![1, 3584, 1024]⟩
abbrev S3584x1024 : Shape := ⟨2, ![3584, 1024]⟩
abbrev S32768x3584 : Shape := ⟨2, ![32768, 3584]⟩

abbrev nBuf : Space → Nat
  | .hbm => 241
  | .vmem => 0
  | .smem => 0
  | _ => 0

abbrev hbmTy0_0 (i : Nat) : BufTy := match i % 128 with
  | 0 => ⟨S8x4096x1024, .f32⟩
  | 1 => ⟨S1024, .f32⟩
  | 2 => ⟨S8x1x1024, .f32⟩
  | 3 => ⟨S8x1x1024, .f32⟩
  | 4 => ⟨S8x1x1024, .f32⟩
  | 5 => ⟨S32768x8, .f32⟩
  | 6 => ⟨S8x1024x3584, .f32⟩
  | 7 => ⟨S8x1024x3584, .f32⟩
  | 8 => ⟨S8x3584x1024, .f32⟩
  | 9 => ⟨S1024, .f32⟩
  | 10 => ⟨S8x4096x1024, .f32⟩
  | 11 => ⟨S_, .f32⟩
  | 12 => ⟨S8x4096, .f32⟩
  | 13 => ⟨S8x4096x1, .f32⟩
  | 14 => ⟨S_, .f32⟩
  | 15 => ⟨S8x4096x1, .f32⟩
  | 16 => ⟨S8x4096x1, .f32⟩
  | 17 => ⟨S_, .f32⟩
  | 18 => ⟨S8x4096x1, .f32⟩
  | 19 => ⟨S8x4096x1, .f32⟩
  | 20 => ⟨S8x4096x1, .f32⟩
  | 21 => ⟨S8x4096x1024, .f32⟩
  | 22 => ⟨S8x4096x1024, .f32⟩
  | 23 => ⟨S1x1x1024, .f32⟩
  | 24 => ⟨S8x4096x1024, .f32⟩
  | 25 => ⟨S8x4096x1024, .f32⟩
  | 26 => ⟨S_, .f32⟩
  | 27 => ⟨S8x1x1024, .f32⟩
  | 28 => ⟨S8x1x1024, .f32⟩
  | 29 => ⟨S8x4096x1024, .f32⟩
  | 30 => ⟨S8x4096x1024, .f32⟩
  | 31 => ⟨S8x4096x1024, .f32⟩
  | 32 => ⟨S8x4096x1024, .f32⟩
  | 33 => ⟨S32768x1024, .f32⟩
  | 34 => ⟨S_, .f32⟩
  | 35 => ⟨S32768x1024, .f32⟩
  | 36 => ⟨S32768x1, .f32⟩
  | 37 => ⟨S1x1024x3584, .f32⟩
  | 38 => ⟨S1024x3584, .f32⟩
  | 39 => ⟨S1x1024x3584, .f32⟩
  | 40 => ⟨S1024x3584, .f32⟩
  | 41 => ⟨S1x3584x1024, .f32⟩
  | 42 => ⟨S3584x1024, .f32⟩
  | 43 => ⟨S32768x3584, .f32⟩
  | 44 => ⟨S32768x3584, .f32⟩
  | 45 => ⟨S32768x3584, .f32⟩
  | 46 => ⟨S_, .f32⟩
  | 47 => ⟨S32768x3584, .f32⟩
  | 48 => ⟨S32768x3584, .f32⟩
  | 49 => ⟨S_, .f32⟩
  | 50 => ⟨S32768x3584, .f32⟩
  | 51 => ⟨S32768x3584, .f32⟩
  | 52 => ⟨S32768x3584, .f32⟩
  | 53 => ⟨S32768x3584, .f32⟩
  | 54 => ⟨S32768x3584, .f32⟩
  | 55 => ⟨S32768x1024, .f32⟩
  | 56 => ⟨S32768x1024, .f32⟩
  | 57 => ⟨S32768x1024, .f32⟩
  | 58 => ⟨S32768x1024, .f32⟩
  | 59 => ⟨S32768x1, .f32⟩
  | 60 => ⟨S1x1024x3584, .f32⟩
  | 61 => ⟨S1024x3584, .f32⟩
  | 62 => ⟨S1x1024x3584, .f32⟩
  | 63 => ⟨S1024x3584, .f32⟩
  | 64 => ⟨S1x3584x1024, .f32⟩
  | 65 => ⟨S3584x1024, .f32⟩
  | 66 => ⟨S32768x3584, .f32⟩
  | 67 => ⟨S32768x3584, .f32⟩
  | 68 => ⟨S32768x3584, .f32⟩
  | 69 => ⟨S_, .f32⟩
  | 70 => ⟨S32768x3584, .f32⟩
  | 71 => ⟨S32768x3584, .f32⟩
  | 72 => ⟨S_, .f32⟩
  | 73 => ⟨S32768x3584, .f32⟩
  | 74 => ⟨S32768x3584, .f32⟩
  | 75 => ⟨S32768x3584, .f32⟩
  | 76 => ⟨S32768x3584, .f32⟩
  | 77 => ⟨S32768x3584, .f32⟩
  | 78 => ⟨S32768x1024, .f32⟩
  | 79 => ⟨S32768x1024, .f32⟩
  | 80 => ⟨S32768x1024, .f32⟩
  | 81 => ⟨S32768x1024, .f32⟩
  | 82 => ⟨S32768x1, .f32⟩
  | 83 => ⟨S1x1024x3584, .f32⟩
  | 84 => ⟨S1024x3584, .f32⟩
  | 85 => ⟨S1x1024x3584, .f32⟩
  | 86 => ⟨S1024x3584, .f32⟩
  | 87 => ⟨S1x3584x1024, .f32⟩
  | 88 => ⟨S3584x1024, .f32⟩
  | 89 => ⟨S32768x3584, .f32⟩
  | 90 => ⟨S32768x3584, .f32⟩
  | 91 => ⟨S32768x3584, .f32⟩
  | 92 => ⟨S_, .f32⟩
  | 93 => ⟨S32768x3584, .f32⟩
  | 94 => ⟨S32768x3584, .f32⟩
  | 95 => ⟨S_, .f32⟩
  | 96 => ⟨S32768x3584, .f32⟩
  | 97 => ⟨S32768x3584, .f32⟩
  | 98 => ⟨S32768x3584, .f32⟩
  | 99 => ⟨S32768x3584, .f32⟩
  | 100 => ⟨S32768x3584, .f32⟩
  | 101 => ⟨S32768x1024, .f32⟩
  | 102 => ⟨S32768x1024, .f32⟩
  | 103 => ⟨S32768x1024, .f32⟩
  | 104 => ⟨S32768x1024, .f32⟩
  | 105 => ⟨S32768x1, .f32⟩
  | 106 => ⟨S1x1024x3584, .f32⟩
  | 107 => ⟨S1024x3584, .f32⟩
  | 108 => ⟨S1x1024x3584, .f32⟩
  | 109 => ⟨S1024x3584, .f32⟩
  | 110 => ⟨S1x3584x1024, .f32⟩
  | 111 => ⟨S3584x1024, .f32⟩
  | 112 => ⟨S32768x3584, .f32⟩
  | 113 => ⟨S32768x3584, .f32⟩
  | 114 => ⟨S32768x3584, .f32⟩
  | 115 => ⟨S_, .f32⟩
  | 116 => ⟨S32768x3584, .f32⟩
  | 117 => ⟨S32768x3584, .f32⟩
  | 118 => ⟨S_, .f32⟩
  | 119 => ⟨S32768x3584, .f32⟩
  | 120 => ⟨S32768x3584, .f32⟩
  | 121 => ⟨S32768x3584, .f32⟩
  | 122 => ⟨S32768x3584, .f32⟩
  | 123 => ⟨S32768x3584, .f32⟩
  | 124 => ⟨S32768x1024, .f32⟩
  | 125 => ⟨S32768x1024, .f32⟩
  | 126 => ⟨S32768x1024, .f32⟩
  | 127 => ⟨S32768x1024, .f32⟩
  | _ => ⟨S8x4096x1024, .f32⟩

abbrev hbmTy0_1 (i : Nat) : BufTy := match i % 128 with
  | 0 => ⟨S32768x1, .f32⟩
  | 1 => ⟨S1x1024x3584, .f32⟩
  | 2 => ⟨S1024x3584, .f32⟩
  | 3 => ⟨S1x1024x3584, .f32⟩
  | 4 => ⟨S1024x3584, .f32⟩
  | 5 => ⟨S1x3584x1024, .f32⟩
  | 6 => ⟨S3584x1024, .f32⟩
  | 7 => ⟨S32768x3584, .f32⟩
  | 8 => ⟨S32768x3584, .f32⟩
  | 9 => ⟨S32768x3584, .f32⟩
  | 10 => ⟨S_, .f32⟩
  | 11 => ⟨S32768x3584, .f32⟩
  | 12 => ⟨S32768x3584, .f32⟩
  | 13 => ⟨S_, .f32⟩
  | 14 => ⟨S32768x3584, .f32⟩
  | 15 => ⟨S32768x3584, .f32⟩
  | 16 => ⟨S32768x3584, .f32⟩
  | 17 => ⟨S32768x3584, .f32⟩
  | 18 => ⟨S32768x3584, .f32⟩
  | 19 => ⟨S32768x1024, .f32⟩
  | 20 => ⟨S32768x1024, .f32⟩
  | 21 => ⟨S32768x1024, .f32⟩
  | 22 => ⟨S32768x1024, .f32⟩
  | 23 => ⟨S32768x1, .f32⟩
  | 24 => ⟨S1x1024x3584, .f32⟩
  | 25 => ⟨S1024x3584, .f32⟩
  | 26 => ⟨S1x1024x3584, .f32⟩
  | 27 => ⟨S1024x3584, .f32⟩
  | 28 => ⟨S1x3584x1024, .f32⟩
  | 29 => ⟨S3584x1024, .f32⟩
  | 30 => ⟨S32768x3584, .f32⟩
  | 31 => ⟨S32768x3584, .f32⟩
  | 32 => ⟨S32768x3584, .f32⟩
  | 33 => ⟨S_, .f32⟩
  | 34 => ⟨S32768x3584, .f32⟩
  | 35 => ⟨S32768x3584, .f32⟩
  | 36 => ⟨S_, .f32⟩
  | 37 => ⟨S32768x3584, .f32⟩
  | 38 => ⟨S32768x3584, .f32⟩
  | 39 => ⟨S32768x3584, .f32⟩
  | 40 => ⟨S32768x3584, .f32⟩
  | 41 => ⟨S32768x3584, .f32⟩
  | 42 => ⟨S32768x1024, .f32⟩
  | 43 => ⟨S32768x1024, .f32⟩
  | 44 => ⟨S32768x1024, .f32⟩
  | 45 => ⟨S32768x1024, .f32⟩
  | 46 => ⟨S32768x1, .f32⟩
  | 47 => ⟨S1x1024x3584, .f32⟩
  | 48 => ⟨S1024x3584, .f32⟩
  | 49 => ⟨S1x1024x3584, .f32⟩
  | 50 => ⟨S1024x3584, .f32⟩
  | 51 => ⟨S1x3584x1024, .f32⟩
  | 52 => ⟨S3584x1024, .f32⟩
  | 53 => ⟨S32768x3584, .f32⟩
  | 54 => ⟨S32768x3584, .f32⟩
  | 55 => ⟨S32768x3584, .f32⟩
  | 56 => ⟨S_, .f32⟩
  | 57 => ⟨S32768x3584, .f32⟩
  | 58 => ⟨S32768x3584, .f32⟩
  | 59 => ⟨S_, .f32⟩
  | 60 => ⟨S32768x3584, .f32⟩
  | 61 => ⟨S32768x3584, .f32⟩
  | 62 => ⟨S32768x3584, .f32⟩
  | 63 => ⟨S32768x3584, .f32⟩
  | 64 => ⟨S32768x3584, .f32⟩
  | 65 => ⟨S32768x1024, .f32⟩
  | 66 => ⟨S32768x1024, .f32⟩
  | 67 => ⟨S32768x1024, .f32⟩
  | 68 => ⟨S32768x1024, .f32⟩
  | 69 => ⟨S32768x1, .f32⟩
  | 70 => ⟨S1x1024x3584, .f32⟩
  | 71 => ⟨S1024x3584, .f32⟩
  | 72 => ⟨S1x1024x3584, .f32⟩
  | 73 => ⟨S1024x3584, .f32⟩
  | 74 => ⟨S1x3584x1024, .f32⟩
  | 75 => ⟨S3584x1024, .f32⟩
  | 76 => ⟨S32768x3584, .f32⟩
  | 77 => ⟨S32768x3584, .f32⟩
  | 78 => ⟨S32768x3584, .f32⟩
  | 79 => ⟨S_, .f32⟩
  | 80 => ⟨S32768x3584, .f32⟩
  | 81 => ⟨S32768x3584, .f32⟩
  | 82 => ⟨S_, .f32⟩
  | 83 => ⟨S32768x3584, .f32⟩
  | 84 => ⟨S32768x3584, .f32⟩
  | 85 => ⟨S32768x3584, .f32⟩
  | 86 => ⟨S32768x3584, .f32⟩
  | 87 => ⟨S32768x3584, .f32⟩
  | 88 => ⟨S32768x1024, .f32⟩
  | 89 => ⟨S32768x1024, .f32⟩
  | 90 => ⟨S32768x1024, .f32⟩
  | 91 => ⟨S32768x1024, .f32⟩
  | 92 => ⟨S8x4096x1024, .f32⟩
  | 93 => ⟨S8x4096x1024, .f32⟩
  | 94 => ⟨S8x4096x1024, .f32⟩
  | 95 => ⟨S8x4096x1024, .f32⟩
  | 96 => ⟨S8x4096x1024, .f32⟩
  | 97 => ⟨S_, .f32⟩
  | 98 => ⟨S8x4096, .f32⟩
  | 99 => ⟨S8x4096x1, .f32⟩
  | 100 => ⟨S_, .f32⟩
  | 101 => ⟨S8x4096x1, .f32⟩
  | 102 => ⟨S8x4096x1, .f32⟩
  | 103 => ⟨S_, .f32⟩
  | 104 => ⟨S8x4096x1, .f32⟩
  | 105 => ⟨S8x4096x1, .f32⟩
  | 106 => ⟨S8x4096x1, .f32⟩
  | 107 => ⟨S8x4096x1024, .f32⟩
  | 108 => ⟨S8x4096x1024, .f32⟩
  | 109 => ⟨S1x1x1024, .f32⟩
  | 110 => ⟨S8x4096x1024, .f32⟩
  | 111 => ⟨S8x4096x1024, .f32⟩
  | 112 => ⟨S32768x1024, .f32⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_3 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_call0_v0 : Ref sig .tc := ⟨.hbm, 44, rfl⟩
abbrev main_call0_v1 : Ref sig .tc := ⟨.hbm, 45, rfl⟩
abbrev main_call0_cst : Ref sig .tc := ⟨.hbm, 46, rfl⟩
abbrev main_call0_v2 : Ref sig .tc := ⟨.hbm, 47, rfl⟩
abbrev main_call0_v3 : Ref sig .tc := ⟨.hbm, 48, rfl⟩
abbrev main_call0_cst_0 : Ref sig .tc := ⟨.hbm, 49, rfl⟩
abbrev main_call0_v4 : Ref sig .tc := ⟨.hbm, 50, rfl⟩
abbrev main_call0_v5 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_call1_v0 : Ref sig .tc := ⟨.hbm, 67, rfl⟩
abbrev main_call1_v1 : Ref sig .tc := ⟨.hbm, 68, rfl⟩
abbrev main_call1_cst : Ref sig .tc := ⟨.hbm, 69, rfl⟩
abbrev main_call1_v2 : Ref sig .tc := ⟨.hbm, 70, rfl⟩
abbrev main_call1_v3 : Ref sig .tc := ⟨.hbm, 71, rfl⟩
abbrev main_call1_cst_0 : Ref sig .tc := ⟨.hbm, 72, rfl⟩
abbrev main_call1_v4 : Ref sig .tc := ⟨.hbm, 73, rfl⟩
abbrev main_call1_v5 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_call2_v0 : Ref sig .tc := ⟨.hbm, 90, rfl⟩
abbrev main_call2_v1 : Ref sig .tc := ⟨.hbm, 91, rfl⟩
abbrev main_call2_cst : Ref sig .tc := ⟨.hbm, 92, rfl⟩
abbrev main_call2_v2 : Ref sig .tc := ⟨.hbm, 93, rfl⟩
abbrev main_call2_v3 : Ref sig .tc := ⟨.hbm, 94, rfl⟩
abbrev main_call2_cst_0 : Ref sig .tc := ⟨.hbm, 95, rfl⟩
abbrev main_call2_v4 : Ref sig .tc := ⟨.hbm, 96, rfl⟩
abbrev main_call2_v5 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_call3_v0 : Ref sig .tc := ⟨.hbm, 113, rfl⟩
abbrev main_call3_v1 : Ref sig .tc := ⟨.hbm, 114, rfl⟩
abbrev main_call3_cst : Ref sig .tc := ⟨.hbm, 115, rfl⟩
abbrev main_call3_v2 : Ref sig .tc := ⟨.hbm, 116, rfl⟩
abbrev main_call3_v3 : Ref sig .tc := ⟨.hbm, 117, rfl⟩
abbrev main_call3_cst_0 : Ref sig .tc := ⟨.hbm, 118, rfl⟩
abbrev main_call3_v4 : Ref sig .tc := ⟨.hbm, 119, rfl⟩
abbrev main_call3_v5 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_call4_v0 : Ref sig .tc := ⟨.hbm, 136, rfl⟩
abbrev main_call4_v1 : Ref sig .tc := ⟨.hbm, 137, rfl⟩
abbrev main_call4_cst : Ref sig .tc := ⟨.hbm, 138, rfl⟩
abbrev main_call4_v2 : Ref sig .tc := ⟨.hbm, 139, rfl⟩
abbrev main_call4_v3 : Ref sig .tc := ⟨.hbm, 140, rfl⟩
abbrev main_call4_cst_0 : Ref sig .tc := ⟨.hbm, 141, rfl⟩
abbrev main_call4_v4 : Ref sig .tc := ⟨.hbm, 142, rfl⟩
abbrev main_call4_v5 : Ref sig .tc := ⟨.hbm, 143, rfl⟩
abbrev main_v89 : Ref sig .tc := ⟨.hbm, 144, rfl⟩
abbrev main_v90 : Ref sig .tc := ⟨.hbm, 145, rfl⟩
abbrev main_v91 : Ref sig .tc := ⟨.hbm, 146, rfl⟩
abbrev main_v92 : Ref sig .tc := ⟨.hbm, 147, rfl⟩
abbrev main_v93 : Ref sig .tc := ⟨.hbm, 148, rfl⟩
abbrev main_v94 : Ref sig .tc := ⟨.hbm, 149, rfl⟩
abbrev main_v95 : Ref sig .tc := ⟨.hbm, 150, rfl⟩
abbrev main_v96 : Ref sig .tc := ⟨.hbm, 151, rfl⟩
abbrev main_v97 : Ref sig .tc := ⟨.hbm, 152, rfl⟩
abbrev main_v98 : Ref sig .tc := ⟨.hbm, 153, rfl⟩
abbrev main_v99 : Ref sig .tc := ⟨.hbm, 154, rfl⟩
abbrev main_v100 : Ref sig .tc := ⟨.hbm, 155, rfl⟩
abbrev main_v101 : Ref sig .tc := ⟨.hbm, 156, rfl⟩
abbrev main_v102 : Ref sig .tc := ⟨.hbm, 157, rfl⟩
abbrev main_v103 : Ref sig .tc := ⟨.hbm, 158, rfl⟩
abbrev main_call5_v0 : Ref sig .tc := ⟨.hbm, 159, rfl⟩
abbrev main_call5_v1 : Ref sig .tc := ⟨.hbm, 160, rfl⟩
abbrev main_call5_cst : Ref sig .tc := ⟨.hbm, 161, rfl⟩
abbrev main_call5_v2 : Ref sig .tc := ⟨.hbm, 162, rfl⟩
abbrev main_call5_v3 : Ref sig .tc := ⟨.hbm, 163, rfl⟩
abbrev main_call5_cst_0 : Ref sig .tc := ⟨.hbm, 164, rfl⟩
abbrev main_call5_v4 : Ref sig .tc := ⟨.hbm, 165, rfl⟩
abbrev main_call5_v5 : Ref sig .tc := ⟨.hbm, 166, rfl⟩
abbrev main_v104 : Ref sig .tc := ⟨.hbm, 167, rfl⟩
abbrev main_v105 : Ref sig .tc := ⟨.hbm, 168, rfl⟩
abbrev main_v106 : Ref sig .tc := ⟨.hbm, 169, rfl⟩
abbrev main_v107 : Ref sig .tc := ⟨.hbm, 170, rfl⟩
abbrev main_v108 : Ref sig .tc := ⟨.hbm, 171, rfl⟩
abbrev main_v109 : Ref sig .tc := ⟨.hbm, 172, rfl⟩
abbrev main_v110 : Ref sig .tc := ⟨.hbm, 173, rfl⟩
abbrev main_v111 : Ref sig .tc := ⟨.hbm, 174, rfl⟩
abbrev main_v112 : Ref sig .tc := ⟨.hbm, 175, rfl⟩
abbrev main_v113 : Ref sig .tc := ⟨.hbm, 176, rfl⟩
abbrev main_v114 : Ref sig .tc := ⟨.hbm, 177, rfl⟩
abbrev main_v115 : Ref sig .tc := ⟨.hbm, 178, rfl⟩
abbrev main_v116 : Ref sig .tc := ⟨.hbm, 179, rfl⟩
abbrev main_v117 : Ref sig .tc := ⟨.hbm, 180, rfl⟩
abbrev main_v118 : Ref sig .tc := ⟨.hbm, 181, rfl⟩
abbrev main_call6_v0 : Ref sig .tc := ⟨.hbm, 182, rfl⟩
abbrev main_call6_v1 : Ref sig .tc := ⟨.hbm, 183, rfl⟩
abbrev main_call6_cst : Ref sig .tc := ⟨.hbm, 184, rfl⟩
abbrev main_call6_v2 : Ref sig .tc := ⟨.hbm, 185, rfl⟩
abbrev main_call6_v3 : Ref sig .tc := ⟨.hbm, 186, rfl⟩
abbrev main_call6_cst_0 : Ref sig .tc := ⟨.hbm, 187, rfl⟩
abbrev main_call6_v4 : Ref sig .tc := ⟨.hbm, 188, rfl⟩
abbrev main_call6_v5 : Ref sig .tc := ⟨.hbm, 189, rfl⟩
abbrev main_v119 : Ref sig .tc := ⟨.hbm, 190, rfl⟩
abbrev main_v120 : Ref sig .tc := ⟨.hbm, 191, rfl⟩
abbrev main_v121 : Ref sig .tc := ⟨.hbm, 192, rfl⟩
abbrev main_v122 : Ref sig .tc := ⟨.hbm, 193, rfl⟩
abbrev main_v123 : Ref sig .tc := ⟨.hbm, 194, rfl⟩
abbrev main_v124 : Ref sig .tc := ⟨.hbm, 195, rfl⟩
abbrev main_v125 : Ref sig .tc := ⟨.hbm, 196, rfl⟩
abbrev main_v126 : Ref sig .tc := ⟨.hbm, 197, rfl⟩
abbrev main_v127 : Ref sig .tc := ⟨.hbm, 198, rfl⟩
abbrev main_v128 : Ref sig .tc := ⟨.hbm, 199, rfl⟩
abbrev main_v129 : Ref sig .tc := ⟨.hbm, 200, rfl⟩
abbrev main_v130 : Ref sig .tc := ⟨.hbm, 201, rfl⟩
abbrev main_v131 : Ref sig .tc := ⟨.hbm, 202, rfl⟩
abbrev main_v132 : Ref sig .tc := ⟨.hbm, 203, rfl⟩
abbrev main_v133 : Ref sig .tc := ⟨.hbm, 204, rfl⟩
abbrev main_call7_v0 : Ref sig .tc := ⟨.hbm, 205, rfl⟩
abbrev main_call7_v1 : Ref sig .tc := ⟨.hbm, 206, rfl⟩
abbrev main_call7_cst : Ref sig .tc := ⟨.hbm, 207, rfl⟩
abbrev main_call7_v2 : Ref sig .tc := ⟨.hbm, 208, rfl⟩
abbrev main_call7_v3 : Ref sig .tc := ⟨.hbm, 209, rfl⟩
abbrev main_call7_cst_0 : Ref sig .tc := ⟨.hbm, 210, rfl⟩
abbrev main_call7_v4 : Ref sig .tc := ⟨.hbm, 211, rfl⟩
abbrev main_call7_v5 : Ref sig .tc := ⟨.hbm, 212, rfl⟩
abbrev main_v134 : Ref sig .tc := ⟨.hbm, 213, rfl⟩
abbrev main_v135 : Ref sig .tc := ⟨.hbm, 214, rfl⟩
abbrev main_v136 : Ref sig .tc := ⟨.hbm, 215, rfl⟩
abbrev main_v137 : Ref sig .tc := ⟨.hbm, 216, rfl⟩
abbrev main_v138 : Ref sig .tc := ⟨.hbm, 217, rfl⟩
abbrev main_v139 : Ref sig .tc := ⟨.hbm, 218, rfl⟩
abbrev main_v140 : Ref sig .tc := ⟨.hbm, 219, rfl⟩
abbrev main_v141 : Ref sig .tc := ⟨.hbm, 220, rfl⟩
abbrev main_v142 : Ref sig .tc := ⟨.hbm, 221, rfl⟩
abbrev main_v143 : Ref sig .tc := ⟨.hbm, 222, rfl⟩
abbrev main_v144 : Ref sig .tc := ⟨.hbm, 223, rfl⟩
abbrev main_v145 : Ref sig .tc := ⟨.hbm, 224, rfl⟩
abbrev main_cst_4 : Ref sig .tc := ⟨.hbm, 225, rfl⟩
abbrev main_v146 : Ref sig .tc := ⟨.hbm, 226, rfl⟩
abbrev main_v147 : Ref sig .tc := ⟨.hbm, 227, rfl⟩
abbrev main_cst_5 : Ref sig .tc := ⟨.hbm, 228, rfl⟩
abbrev main_v148 : Ref sig .tc := ⟨.hbm, 229, rfl⟩
abbrev main_v149 : Ref sig .tc := ⟨.hbm, 230, rfl⟩
abbrev main_cst_6 : Ref sig .tc := ⟨.hbm, 231, rfl⟩
abbrev main_v150 : Ref sig .tc := ⟨.hbm, 232, rfl⟩
abbrev main_v151 : Ref sig .tc := ⟨.hbm, 233, rfl⟩
abbrev main_v152 : Ref sig .tc := ⟨.hbm, 234, rfl⟩
abbrev main_v153 : Ref sig .tc := ⟨.hbm, 235, rfl⟩
abbrev main_v154 : Ref sig .tc := ⟨.hbm, 236, rfl⟩
abbrev main_v155 : Ref sig .tc := ⟨.hbm, 237, rfl⟩
abbrev main_v156 : Ref sig .tc := ⟨.hbm, 238, rfl⟩
abbrev main_v157 : Ref sig .tc := ⟨.hbm, 239, rfl⟩
abbrev main_v158 : Ref sig .tc := ⟨.hbm, 240, rfl⟩

abbrev nD : Nat := 1
abbrev τ : Topo := Topo.v7x

variable {F : FTy → Type} [FloatOps F]
-- ==== Kernel3.lean ====
abbrev S8x4096x1024 : Shape := ⟨3, ![8, 4096, 1024]⟩
abbrev S1024 : Shape := ⟨1, ![1024]⟩
abbrev S8x1x1024 : Shape := ⟨3, ![8, 1, 1024]⟩
abbrev S1024x2816 : Shape := ⟨2, ![1024, 2816]⟩
abbrev S2816x1024 : Shape := ⟨2, ![2816, 1024]⟩
abbrev S32768x1024 : Shape := ⟨2, ![32768, 1024]⟩
abbrev S1x1024 : Shape := ⟨2, ![1, 1024]⟩
abbrev S512x1024 : Shape := ⟨2, ![512, 1024]⟩
abbrev S1x1x1024 : Shape := ⟨3, ![1, 1, 1024]⟩
abbrev S1024x1408 : Shape := ⟨2, ![1024, 1408]⟩
abbrev S1408x1024 : Shape := ⟨2, ![1408, 1024]⟩
abbrev S512 : Shape := ⟨1, ![512]⟩
abbrev S512x1 : Shape := ⟨2, ![512, 1]⟩
abbrev S512x1408 : Shape := ⟨2, ![512, 1408]⟩

abbrev nBuf : Space → Nat
  | .hbm => 14
  | .vmem => 19
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S8x1x1024, .f32⟩
  | .hbm, ⟨3, _⟩ => ⟨S8x1x1024, .f32⟩
  | .hbm, ⟨4, _⟩ => ⟨S8x1x1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S32768x1024, .f32⟩
  | .hbm, ⟨9, _⟩ => ⟨S1x1024, .f32⟩
  | .hbm, ⟨10, _⟩ => ⟨S1024x2816, .bf16⟩
  | .hbm, ⟨11, _⟩ => ⟨S1024x2816, .bf16⟩
  | .hbm, ⟨12, _⟩ => ⟨S2816x1024, .bf16⟩
  | .hbm, ⟨13, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1024x1408, .bf16⟩
  | .local _ .vmem, ⟨10, _⟩ => ⟨S1024x1408, .bf16⟩
  | .local _ .vmem, ⟨11, _⟩ => ⟨S1024x1408, .bf16⟩
  | .local _ .vmem, ⟨12, _⟩ => ⟨S1024x1408, .bf16⟩
  | .local _ .vmem, ⟨13, _⟩ => ⟨S1408x1024, .bf16⟩
  | .local _ .vmem, ⟨14, _⟩ => ⟨S1408x1024, .bf16⟩
  | .local _ .vmem, ⟨15, _⟩ => ⟨S512x1024, .f32⟩
  | .local _ .vmem, ⟨16, _⟩ => ⟨S512x1024, .f32⟩
  | .local _ .vmem, ⟨17, _⟩ => ⟨S512x1024, .bf16⟩
  | .local _ .vmem, ⟨18, _⟩ => ⟨S512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![64, 2], ![false, false]⟩

def k0_cond2 (i : grid0.Coords) : BitVec 1 :=
  let arg1 : BitVec 32 := BitVec.ofNat 32 (i 1).val
  let c1_i32 : BitVec 32 := 1#32
  let v22 : BitVec 1 := Scalar.cmpi .eq arg1 c1_i32
  let v23 : BitVec 32 := Scalar.extui v22
  let c0_i32_14 : BitVec 32 := 0#32
  let v24 : BitVec 1 := Scalar.cmpi .ne v23 c0_i32_14
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1408x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference3Ideal.lean ====
abbrev S8x4096x1024 : Shape := ⟨3, ![8, 4096, 1024]⟩
abbrev S1024 : Shape := ⟨1, ![1024]⟩
abbrev S8x1x1024 : Shape := ⟨3, ![8, 1, 1024]⟩
abbrev S1024x2816 : Shape := ⟨2, ![1024, 2816]⟩
abbrev S2816x1024 : Shape := ⟨2, ![2816, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x2816 : Shape := ⟨3, ![8, 4096, 2816]⟩
abbrev S32768x1024 : Shape := ⟨2, ![32768, 1024]⟩

abbrev nBuf : Space → Nat
  | .hbm => 48
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S8x1x1024, .f32⟩
  | .hbm, ⟨3, _⟩ => ⟨S8x1x1024, .f32⟩
  | .hbm, ⟨4, _⟩ => ⟨S8x1x1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S8x4096x1024, .f32⟩
  | .hbm, ⟨9, _⟩ => ⟨S_, .f32⟩
  | .hbm, ⟨10, _⟩ => ⟨S8x4096, .f32⟩
  | .hbm, ⟨11, _⟩ => ⟨S8x4096x1, .f32⟩
  | .hbm, ⟨12, _⟩ => ⟨S_, .f32⟩
  | .hbm, ⟨13, _⟩ => ⟨S8x4096x1, .f32⟩
  | .hbm, ⟨14, _⟩ => ⟨S8x4096x1, .f32⟩
  | .hbm, ⟨15, _⟩ => ⟨S_, .f32⟩
  | .hbm, ⟨16, _⟩ => ⟨S8x4096x1, .f32⟩
  | .hbm, ⟨17, _⟩ => ⟨S8x4096x1, .f32⟩
  | .hbm, ⟨18, _⟩ => ⟨S8x4096x1, .f32⟩
  | .hbm, ⟨19, _⟩ => ⟨S8x4096x1024, .f32⟩
  | .hbm, ⟨20, _⟩ => ⟨S8x4096x1024, .f32⟩
  | .hbm, ⟨21, _⟩ => ⟨S1x1x1024, .f32⟩
  | .hbm, ⟨22, _⟩ => ⟨S8x4096x1024, .f32⟩
  | .hbm, ⟨23, _⟩ => ⟨S8x4096x1024, .f32⟩
  | .hbm, ⟨24, _⟩ => ⟨S_, .f32⟩
  | .hbm, ⟨25, _⟩ => ⟨S8x1x1024, .f32⟩
  | .hbm, ⟨26, _⟩ => ⟨S8x1x1024, .f32⟩
  | .hbm, ⟨27, _⟩ => ⟨S8x4096x1024, .f32⟩
  | .hbm, ⟨28, _⟩ => ⟨S8x4096x1024, .f32⟩
  | .hbm, ⟨29, _⟩ => ⟨S8x4096x1024, .f32⟩
  | .hbm, ⟨30, _⟩ => ⟨S8x4096x1024, .f32⟩
  | .hbm, ⟨31, _⟩ => ⟨S8x4096x2816, .f32⟩
  | .hbm, ⟨32, _⟩ => ⟨S8x4096x2816, .f32⟩
  | .hbm, ⟨33, _⟩ => ⟨S8x4096x2816, .f32⟩
  | .hbm, ⟨34, _⟩ => ⟨S_, .f32⟩
  | .hbm, ⟨35, _⟩ => ⟨S8x4096x2816, .f32⟩
  | .hbm, ⟨36, _⟩ => ⟨S8x4096x2816, .f32⟩
  | .hbm, ⟨37, _⟩ => ⟨S_, .f32⟩
  | .hbm, ⟨38, _⟩ => ⟨S8x4096x2816, .f32⟩
  | .hbm, ⟨39, _⟩ => ⟨S8x4096x2816, .f32⟩
  | .hbm, ⟨40, _⟩ => ⟨S8x4096x2816, .f32⟩
  | .hbm, ⟨41, _⟩ => ⟨S8x4096x2816, .f32⟩
  | .hbm, ⟨42, _⟩ => ⟨S8x4096x2816, .f32⟩
  | .hbm, ⟨43, _⟩ => ⟨S8x4096x1024, .f32⟩
  | .hbm, ⟨44, _⟩ => ⟨S8x4096x1024, .f32⟩
  | .hbm, ⟨45, _⟩ => ⟨S8x4096x1024, .f32⟩
  | .hbm, ⟨46, _⟩ => ⟨S8x4096x1024, .f32⟩
  | .hbm, ⟨47, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩

abbrev nD : Nat := 1
abbrev τ : Topo := Topo.v7x

variable {F : FTy → Type} [FloatOps F]
-- ==== Kernel4.lean ====
abbrev S8x4096x1024 : Shape := ⟨3, ![8, 4096, 1024]⟩
abbrev S1024 : Shape := ⟨1, ![1024]⟩
abbrev S8x1x1024 : Shape := ⟨3, ![8, 1, 1024]⟩
abbrev S4x32768x64 : Shape := ⟨3, ![4, 32768, 64]⟩
abbrev S1024x6756 : Shape := ⟨2, ![1024, 6756]⟩
abbrev S4x256x1024 : Shape := ⟨3, ![4, 256, 1024]⟩
abbrev S1024x1024 : Shape := ⟨2, ![1024, 1024]⟩
abbrev S32768x1024 : Shape := ⟨2, ![32768, 1024]⟩
abbrev S1x1024 : Shape := ⟨2, ![1, 1024]⟩
abbrev S1024x4096 : Shape := ⟨2, ![1024, 4096]⟩
abbrev S512x1024 : Shape := ⟨2, ![512, 1024]⟩
abbrev S1x1x1024 : Shape := ⟨3, ![1, 1, 1024]⟩
abbrev S4x512x64 : Shape := ⟨3, ![4, 512, 64]⟩
abbrev S512 : Shape := ⟨1, ![512]⟩
abbrev S512x1 : Shape := ⟨2, ![512, 1]⟩
abbrev S1x512x64 : Shape := ⟨3, ![1, 512, 64]⟩
abbrev S512x64 : Shape := ⟨2, ![512, 64]⟩
abbrev S512x256 : Shape := ⟨2, ![512, 256]⟩
abbrev S1x256x1024 : Shape := ⟨3, ![1, 256, 1024]⟩
abbrev S256x1024 : Shape := ⟨2, ![256, 1024]⟩

abbrev nBuf : Space → Nat
  | .hbm => 19
  | .vmem => 22
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S8x1x1024, .f32⟩
  | .hbm, ⟨3, _⟩ => ⟨S8x1x1024, .f32⟩
  | .hbm, ⟨4, _⟩ => ⟨S8x1x1024, .f32⟩
  | .hbm, ⟨5, _⟩ => ⟨S4x32768x64, .bf16⟩
  | .hbm, ⟨6, _⟩ => ⟨S4x32768x64, .bf16⟩
  | .hbm, ⟨7, _⟩ => ⟨S4x32768x64, .bf16⟩
  | .hbm, ⟨8, _⟩ => ⟨S4x32768x64, .bf16⟩
  | .hbm, ⟨9, _⟩ => ⟨S1024x6756, .f32⟩
  | .hbm, ⟨10, _⟩ => ⟨S4x256x1024, .f32⟩
  | .hbm, ⟨11, _⟩ => ⟨S1024x1024, .f32⟩
  | .hbm, ⟨12, _⟩ => ⟨S32768x1024, .f32⟩
  | .hbm, ⟨13, _⟩ => ⟨S1x1024, .f32⟩
  | .hbm, ⟨14, _⟩ => ⟨S1024x4096, .f32⟩
  | .hbm, ⟨15, _⟩ => ⟨S1024x4096, .bf16⟩
  | .hbm, ⟨16, _⟩ => ⟨S4x256x1024, .bf16⟩
  | .hbm, ⟨17, _⟩ => ⟨S1024x1024, .bf16⟩
  | .hbm, ⟨18, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S4x512x64, .bf16⟩
  | .local _ .vmem, ⟨10, _⟩ => ⟨S4x512x64, .bf16⟩
  | .local _ .vmem, ⟨11, _⟩ => ⟨S4x512x64, .bf16⟩
  | .local _ .vmem, ⟨12, _⟩ => ⟨S4x512x64, .bf16⟩
  | .local _ .vmem, ⟨13, _⟩ => ⟨S4x512x64, .bf16⟩
  | .local _ .vmem, ⟨14, _⟩ => ⟨S4x512x64, .bf16⟩
  | .local _ .vmem, ⟨15, _⟩ => ⟨S4x512x64, .bf16⟩
  | .local _ .vmem, ⟨16, _⟩ => ⟨S4x512x64, .bf16⟩
  | .local _ .vmem, ⟨17, _⟩ => ⟨S1024x4096, .bf16⟩
  | .local _ .vmem, ⟨18, _⟩ => ⟨S4x256x1024, .bf16⟩
  | .local _ .vmem, ⟨19, _⟩ => ⟨S1024x1024, .bf16⟩
  | .local _ .vmem, ⟨20, _⟩ => ⟨S512x1024, .f32⟩
  | .local _ .vmem, ⟨21, _⟩ => ⟨S512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x512x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x512x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x512x64 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x512x64 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1024x4096 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x256x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference4Ideal.lean ====
abbrev S8x4096x1024 : Shape := ⟨3, ![8, 4096, 1024]⟩
abbrev S1024 : Shape := ⟨1, ![1024]⟩
abbrev S8x1x1024 : Shape := ⟨3, ![8, 1, 1024]⟩
abbrev S4x32768x64 : Shape := ⟨3, ![4, 32768, 64]⟩
abbrev S1024x6756 : Shape := ⟨2, ![1024, 6756]⟩
abbrev S4x256x1024 : Shape := ⟨3, ![4, 256, 1024]⟩
abbrev S1024x1024 : Shape := ⟨2, ![1024, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x6756 : Shape := ⟨3, ![8, 4096, 6756]⟩
abbrev S8x4096x4096 : Shape := ⟨3, ![8, 4096, 4096]⟩
abbrev S8x4096x4x1024 : Shape := ⟨4, ![8, 4096, 4, 1024]⟩
abbrev S4x8x4096x64 : Shape := ⟨4, ![4, 8, 4096, 64]⟩
abbrev S8x4096x4x64 : Shape := ⟨4, ![8, 4096, 4, 64]⟩
abbrev S8x4096x256 : Shape := ⟨3, ![8, 4096, 256]⟩
abbrev S8x4096x1x1024 : Shape := ⟨4, ![8, 4096, 1, 1024]⟩
abbrev S1x256x1024 : Shape := ⟨3, ![1, 256, 1024]⟩
abbrev S256x1024 : Shape := ⟨2, ![256, 1024]⟩
abbrev S32768x1024 : Shape := ⟨2, ![32768, 1024]⟩

abbrev nBuf : Space → Nat
  | .hbm => 97
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S8x1x1024, .f32⟩
  | .hbm, ⟨3, _⟩ => ⟨S8x1x1024, .f32⟩
  | .hbm, ⟨4, _⟩ => ⟨S8x1x1024, .f32⟩
  | .hbm, ⟨5, _⟩ => ⟨S4x32768x64, .bf16⟩
  | .hbm, ⟨6, _⟩ => ⟨S4x32768x64, .bf16⟩
  | .hbm, ⟨7, _⟩ => ⟨S4x32768x64, .bf16⟩
  | .hbm, ⟨8, _⟩ => ⟨S4x32768x64, .bf16⟩
  | .hbm, ⟨9, _⟩ => ⟨S1024x6756, .f32⟩
  | .hbm, ⟨10, _⟩ => ⟨S4x256x1024, .f32⟩
  | .hbm, ⟨11, _⟩ => ⟨S1024x1024, .f32⟩
  | .hbm, ⟨12, _⟩ => ⟨S8x4096x1024, .f32⟩
  | .hbm, ⟨13, _⟩ => ⟨S_, .f32⟩
  | .hbm, ⟨14, _⟩ => ⟨S8x4096, .f32⟩
  | .hbm, ⟨15, _⟩ => ⟨S8x4096x1, .f32⟩
  | .hbm, ⟨16, _⟩ => ⟨S_, .f32⟩
  | .hbm, ⟨17, _⟩ => ⟨S8x4096x1, .f32⟩
  | .hbm, ⟨18, _⟩ => ⟨S8x4096x1, .f32⟩
  | .hbm, ⟨19, _⟩ => ⟨S_, .f32⟩
  | .hbm, ⟨20, _⟩ => ⟨S8x4096x1, .f32⟩
  | .hbm, ⟨21, _⟩ => ⟨S8x4096x1, .f32⟩
  | .hbm, ⟨22, _⟩ => ⟨S8x4096x1, .f32⟩
  | .hbm, ⟨23, _⟩ => ⟨S8x4096x1024, .f32⟩
  | .hbm, ⟨24, _⟩ => ⟨S8x4096x1024, .f32⟩
  | .hbm, ⟨25, _⟩ => ⟨S1x1x1024, .f32⟩
  | .hbm, ⟨26, _⟩ => ⟨S8x4096x1024, .f32⟩
  | .hbm, ⟨27, _⟩ => ⟨S8x4096x1024, .f32⟩
  | .hbm, ⟨28, _⟩ => ⟨S_, .f32⟩
  | .hbm, ⟨29, _⟩ => ⟨S8x1x1024, .f32⟩
  | .hbm, ⟨30, _⟩ => ⟨S8x1x1024, .f32⟩
  | .hbm, ⟨31, _⟩ => ⟨S8x4096x1024, .f32⟩
  | .hbm, ⟨32, _⟩ => ⟨S8x4096x1024, .f32⟩
  | .hbm, ⟨33, _⟩ => ⟨S8x4096x1024, .f32⟩
  | .hbm, ⟨34, _⟩ => ⟨S8x4096x1024, .f32⟩
  | .hbm, ⟨35, _⟩ => ⟨S8x4096x6756, .f32⟩
  | .hbm, ⟨36, _⟩ => ⟨S8x4096x4096, .f32⟩
  | .hbm, ⟨37, _⟩ => ⟨S8x4096x4096, .f32⟩
  | .hbm, ⟨38, _⟩ => ⟨S8x4096x4096, .f32⟩
  | .hbm, ⟨39, _⟩ => ⟨S_, .f32⟩
  | .hbm, ⟨40, _⟩ => ⟨S8x4096x4096, .f32⟩
  | .hbm, ⟨41, _⟩ => ⟨S8x4096x4096, .f32⟩
  | .hbm, ⟨42, _⟩ => ⟨S_, .f32⟩
  | .hbm, ⟨43, _⟩ => ⟨S8x4096x4096, .f32⟩
  | .hbm, ⟨44, _⟩ => ⟨S8x4096x4096, .f32⟩
  | .hbm, ⟨45, _⟩ => ⟨S8x4096x4x1024, .f32⟩
  | .hbm, ⟨46, _⟩ => ⟨S_, .f32⟩
  | .hbm, ⟨47, _⟩ => ⟨S8x4096x1024, .f32⟩
  | .hbm, ⟨48, _⟩ => ⟨S4x32768x64, .f32⟩
  | .hbm, ⟨49, _⟩ => ⟨S4x8x4096x64, .f32⟩
  | .hbm, ⟨50, _⟩ => ⟨S8x4096x4x64, .f32⟩
  | .hbm, ⟨51, _⟩ => ⟨S8x4096x256, .f32⟩
  | .hbm, ⟨52, _⟩ => ⟨S8x4096x1x1024, .f32⟩
  | .hbm, ⟨53, _⟩ => ⟨S8x4096x1024, .f32⟩
  | .hbm, ⟨54, _⟩ => ⟨S1x256x1024, .f32⟩
  | .hbm, ⟨55, _⟩ => ⟨S256x1024, .f32⟩
  | .hbm, ⟨56, _⟩ => ⟨S8x4096x1024, .f32⟩
  | .hbm, ⟨57, _⟩ => ⟨S8x4096x1024, .f32⟩
  | .hbm, ⟨58, _⟩ => ⟨S8x4096x1024, .f32⟩
  | .hbm, ⟨59, _⟩ => ⟨S4x32768x64, .f32⟩
  | .hbm, ⟨60, _⟩ => ⟨S4x8x4096x64, .f32⟩
  | .hbm, ⟨61, _⟩ => ⟨S8x4096x4x64, .f32⟩
  | .hbm, ⟨62, _⟩ => ⟨S8x4096x256, .f32⟩
  | .hbm, ⟨63, _⟩ => ⟨S8x4096x1x1024, .f32⟩
  | .hbm, ⟨64, _⟩ => ⟨S8x4096x1024, .f32⟩
  | .hbm, ⟨65, _⟩ => ⟨S1x256x1024, .f32⟩
  | .hbm, ⟨66, _⟩ => ⟨S256x1024, .f32⟩
  | .hbm, ⟨67, _⟩ => ⟨S8x4096x1024, .f32⟩
  | .hbm, ⟨68, _⟩ => ⟨S8x4096x1024, .f32⟩
  | .hbm, ⟨69, _⟩ => ⟨S8x4096x1024, .f32⟩
  | .hbm, ⟨70, _⟩ => ⟨S4x32768x64, .f32⟩
  | .hbm, ⟨71, _⟩ => ⟨S4x8x4096x64, .f32⟩
  | .hbm, ⟨72, _⟩ => ⟨S8x4096x4x64, .f32⟩
  | .hbm, ⟨73, _⟩ => ⟨S8x4096x256, .f32⟩
  | .hbm, ⟨74, _⟩ => ⟨S8x4096x1x1024, .f32⟩
  | .hbm, ⟨75, _⟩ => ⟨S8x4096x1024, .f32⟩
  | .hbm, ⟨76, _⟩ => ⟨S1x256x1024, .f32⟩
  | .hbm, ⟨77, _⟩ => ⟨S256x1024, .f32⟩
  | .hbm, ⟨78, _⟩ => ⟨S8x4096x1024, .f32⟩
  | .hbm, ⟨79, _⟩ => ⟨S8x4096x1024, .f32⟩
  | .hbm, ⟨80, _⟩ => ⟨S8x4096x1024, .f32⟩
  | .hbm, ⟨81, _⟩ => ⟨S4x32768x64, .f32⟩
  | .hbm, ⟨82, _⟩ => ⟨S4x8x4096x64, .f32⟩
  | .hbm, ⟨83, _⟩ => ⟨S8x4096x4x64, .f32⟩
  | .hbm, ⟨84, _⟩ => ⟨S8x4096x256, .f32⟩
  | .hbm, ⟨85, _⟩ => ⟨S8x4096x1x1024, .f32⟩
  | .hbm, ⟨86, _⟩ => ⟨S8x4096x1024, .f32⟩
  | .hbm, ⟨87, _⟩ => ⟨S1x256x1024, .f32⟩
  | .hbm, ⟨88, _⟩ => ⟨S256x1024, .f32⟩
  | .hbm, ⟨89, _⟩ => ⟨S8x4096x1024, .f32⟩
  | .hbm, ⟨90, _⟩ => ⟨S8x4096x1024, .f32⟩
  | .hbm, ⟨91, _⟩ => ⟨S8x4096x1024, .f32⟩
  | .hbm, ⟨92, _⟩ => ⟨S8x4096x1024, .f32⟩
  | .hbm, ⟨93, _⟩ => ⟨S8x4096x1024, .f32⟩
  | .hbm, ⟨94, _⟩ => ⟨S8x4096x1024, .f32⟩
  | .hbm, ⟨95, _⟩ => ⟨S8x4096x1024, .f32⟩
  | .hbm, ⟨96, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_3 : Ref sig .tc := ⟨.hbm, 39, rfl⟩
abbrev main_v23 : Ref sig .tc := ⟨.hbm, 40, rfl⟩
abbrev main_v24 : Ref sig .tc := ⟨.hbm, 41, rfl⟩
abbrev main_cst_4 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_5 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩

abbrev nD : Nat := 1
abbrev τ : Topo := Topo.v7x

variable {F : FTy → Type} [FloatOps F]
-- ==== Proof.Step.lean ====
/- What one chunk of the stick-breaking body computes: the pieces of the four heads' updates under one name each, and
   the body's trips and first chunk as those pieces. -/
module

public import proofs.«01_k».proof.Proof.Gen.KernelIdeal.Value
public import Idealize.ShloMosaic.Lib.Pointwise
public import Idealize.ShloMosaic.Lib.Pipeline.ValueKit.Tiles

@[expose] public section

set_option maxRecDepth 16384

noncomputable section

namespace Cert.KernelIdeal.Stick

open Cert.KernelIdeal Cert.KernelIdeal.Gen Idealize.ShloMosaic Idealize.ShloMosaic.TcCoe Idealize.SL.Sem
open Idealize.ShloMosaic.Tactic

variable {F : FTy → Type} [FloatOps F] [Named F]

/-- The score block of one head: queries times keys. -/
abbrev scores (q k : Vec F S1x512x64 .bf16) : FVec F S512x512 .f32 := k0_pay2 q k

/-- `-(max z 0 + log (1 + 2 ^ (|z| * c)))`, the logarithm of `1 - sigmoid z`. -/
abbrev lsm (z : FVec F S512x512 .f32) : FVec F S512x512 .f32 := k0_pay14 z

/-- The lsm of the first chunk: zero where the key is not strictly before the query. -/
abbrev lsmMasked (v32 : IVec S512x512 1) (z : FVec F S512x512 .f32) : FVec F S512x512 .f32 := k0_pay81 v32 z

/-- The upper half of a block's columns. -/
abbrev hiHalf (l : FVec F S512x512 .f32) : FVec F S512x256 .f32 :=
  extractStridedSlice S512x256 ![0, 256] l slices_S512x512_o0_256_S512x256

/-- The lower half of a block's columns. -/
abbrev loHalf (l : FVec F S512x512 .f32) : FVec F S512x256 .f32 :=
  extractStridedSlice S512x256 ![0, 0] l slices_S512x512_o0_0_S512x256

/-- A running sum and the row sums of one half. -/
def addRows (r : FVec F S512x1 .f32) (x : FVec F S512x256 .f32) : FVec F S512x1 .f32 :=
  addf r (shapeCast S512x1 (multiReduction .add [1] S512 x 0x00000000#32 reduces_S512x256_S512 (.inl rfl) rfl)
    shapeCasts_S512_S512x1)

/-- The running sum after a chunk. -/
def chunkRun (r : FVec F S512x1 .f32) (l : FVec F S512x512 .f32) : FVec F S512x1 .f32 :=
  addRows (addRows r (hiHalf l)) (loHalf l)

/-- The sums strictly to the right of each column of one half, and the running sum. -/
def halfBetween (u : FVec F S256x256 .bf16) (r : FVec F S512x1 .f32) (x : FVec F S512x256 .f32) : FVec F S512x256 .f32 :=
  addf (matmul dot_S512x256_S256x256_S512x256_1_0_0_1_n_n none (truncf .bf16 x bitsLt_bf16_f32) u
    (constant S512x256 .f32 0x00000000#32)) (broadcastTo S512x256 r broadcasts_S512x1_S512x256)

/-- The sums strictly to the right of each column of a block, and the running sum. -/
def chunkBetween (u : FVec F S256x256 .bf16) (r : FVec F S512x1 .f32) (l : FVec F S512x512 .f32) : FVec F S512x512 .f32 :=
  concatenate S512x512 1 [⟨S512x256, halfBetween u (addRows r (hiHalf l)) (loHalf l)⟩,
    ⟨S512x256, halfBetween u r (hiHalf l)⟩] concatenates_S512x256_S512x256_S512x512_d1

/-- The logarithms of a block's weights. -/
def chunkArg (u : FVec F S256x256 .bf16) (r : FVec F S512x1 .f32) (z l : FVec F S512x512 .f32) : FVec F S512x512 .f32 :=
  addf (addf z l) (chunkBetween u r l)

/-- The masked logarithms of a block's weights. -/
def maskArg (v32 : IVec S512x512 1) (a : FVec F S512x512 .f32) : FVec F S512x512 .f32 :=
  select v32 a (broadcast S512x512 (Scalar.ofBits .f32 0xFF800000#32))

/-- The accumulator after a chunk whose weights' logarithms are `a`. -/
def chunkAcc (acc : FVec F S512x64 .f32) (a : FVec F S512x512 .f32) (v : Vec F S1x512x64 .bf16) : FVec F S512x64 .f32 :=
  addf acc (matmul dot_S512x512_S512x64_S512x64_1_0_0_1_n_n none (exp (truncf .bf16 a bitsLt_bf16_f32))
    (shapeCast S512x64 v shapeCasts_S1x512x64_S512x64) (constant S512x64 .f32 0x00000000#32))

/-- One head's update by a chunk that lies wholly before the queries. -/
abbrev fullStep (u : FVec F S256x256 .bf16) (s : FVec F S512x1 .f32 × FVec F S512x64 .f32) (q k v : Vec F S1x512x64 .bf16) :
    FVec F S512x1 .f32 × FVec F S512x64 .f32 :=
  (chunkRun s.1 (lsm (scores q k)), chunkAcc s.2 (chunkArg u s.1 (scores q k) (lsm (scores q k))) v)

/-- One head's state after the chunk that holds the queries' own positions. -/
abbrev diagStep (u : FVec F S256x256 .bf16) (w : IVec S512x512 1) (q k v : Vec F S1x512x64 .bf16) :
    FVec F S512x1 .f32 × FVec F S512x64 .f32 :=
  (chunkRun k0_pay68 (lsmMasked w (scores q k)),
    chunkAcc k0_pay69 (maskArg w (chunkArg u k0_pay68 (scores q k) (lsmMasked w (scores q k)))) v)

abbrev Carry (F : FTy → Type) : Type := FVec F S512x1 .f32 × FVec F S512x64 .f32 × FVec F S512x1 .f32 × FVec F S512x64 .f32 × FVec F S512x1 .f32 × FVec F S512x64 .f32 × FVec F S512x1 .f32 × FVec F S512x64 .f32

/-- Head `h`'s row block of the queries. -/
abbrev qBlk0 (x : Vec F S4x512x64 .bf16) : Vec F S1x512x64 .bf16 := View.ld x (Rect.unit (s := S4x512x64) ![0, 0, 0] S1x512x64.size inb_S4x512x64_S1x512x64_0_0_0)
abbrev qBlk1 (x : Vec F S4x512x64 .bf16) : Vec F S1x512x64 .bf16 := View.ld x (Rect.unit (s := S4x512x64) ![1, 0, 0] S1x512x64.size inb_S4x512x64_S1x512x64_1_0_0)
abbrev qBlk2 (x : Vec F S4x512x64 .bf16) : Vec F S1x512x64 .bf16 := View.ld x (Rect.unit (s := S4x512x64) ![2, 0, 0] S1x512x64.size inb_S4x512x64_S1x512x64_2_0_0)
abbrev qBlk3 (x : Vec F S4x512x64 .bf16) : Vec F S1x512x64 .bf16 := View.ld x (Rect.unit (s := S4x512x64) ![3, 0, 0] S1x512x64.size inb_S4x512x64_S1x512x64_3_0_0)
abbrev kBlk (x : Vec F S4x4096x64 .bf16) (off : Fin 3 → Nat) (h : ∀ a, off a + S1x512x64.size a ≤ S4x4096x64.size a) : Vec F S1x512x64 .bf16 :=
  View.ld x (Rect.unit (s := S4x4096x64) off S1x512x64.size h)

theorem trip_eq (𝒱 : Variants) (c : Dev nD) (bd : Option 𝒱.V) (i : grid0.Coords) (arg2 : Memref sig .tc .vmem S4x512x64 .bf16) (harg2 : arg2.IsWhole) (arg3 : Memref sig .tc .vmem S4x4096x64 .bf16) (harg3 : arg3.IsWhole) (arg4 : Memref sig .tc .vmem S4x4096x64 .bf16) (harg4 : arg4.IsWhole) (arg5 : Memref sig .tc .vmem S4x512x64 .bf16) (harg5 : arg5.IsWhole) (v17 : BitVec 32) (v25 : FVec F S256x256 .bf16) (v32 : IVec S512x512 1) (v34 : FVec F S512x64 .f32) (v35 : BitVec 32) (v59 : FVec F S512x512 .f32) (v89 : FVec F S512x1 .f32) (v101 : FVec F S512x64 .f32) (v131 : FVec F S512x1 .f32) (v143 : FVec F S512x64 .f32) (v173 : FVec F S512x1 .f32) (v185 : FVec F S512x64 .f32) (v199 : FVec F S512x512 .f32) (v204 : FVec F S512x256 .f32) (v207 : FVec F S512x1 .f32) (v208 : FVec F S512x256 .f32) (v212 : FVec F S512x256 .f32) (x0 : Vec F S4x512x64 .bf16) (x1 x2 : Vec F S4x4096x64 .bf16) (k : Fin (k0_t1_loop i).trips) (a : Carry F) :
  tripR_k0_t1 (F := F) 𝒱 c bd i arg2 harg2 arg3 harg3 arg4 harg4 arg5 harg5 v17 v25 v32 v34 v35 v59 v89 v101 v131 v143 v173 v185 v199 v204 v207 v208 v212 (harg2.unread x0) (harg3.unread x1) (harg4.unread x2) k a =
    (chunkRun a.1 (lsm (scores (qBlk0 x0) (kBlk x1 (k0_off5 i k) (k0_off5_inb i k)))),
     chunkAcc a.2.1 (chunkArg v25 a.1 (scores (qBlk0 x0) (kBlk x1 (k0_off5 i k) (k0_off5_inb i k))) (lsm (scores (qBlk0 x0) (kBlk x1 (k0_off5 i k) (k0_off5_inb i k))))) (kBlk x2 (k0_off5 i k) (k0_off5_inb i k)),
     chunkRun a.2.2.1 (lsm (scores (qBlk1 x0) (kBlk x1 (k0_off6 i k) (k0_off6_inb i k)))),
     chunkAcc a.2.2.2.1 (chunkArg v25 a.2.2.1 (scores (qBlk1 x0) (kBlk x1 (k0_off6 i k) (k0_off6_inb i k))) (lsm (scores (qBlk1 x0) (kBlk x1 (k0_off6 i k) (k0_off6_inb i k))))) (kBlk x2 (k0_off6 i k) (k0_off6_inb i k)),
     chunkRun a.2.2.2.2.1 (lsm (scores (qBlk2 x0) (kBlk x1 (k0_off7 i k) (k0_off7_inb i k)))),
     chunkAcc a.2.2.2.2.2.1 (chunkArg v25 a.2.2.2.2.1 (scores (qBlk2 x0) (kBlk x1 (k0_off7 i k) (k0_off7_inb i k))) (lsm (scores (qBlk2 x0) (kBlk x1 (k0_off7 i k) (k0_off7_inb i k))))) (kBlk x2 (k0_off7 i k) (k0_off7_inb i k)),
     chunkRun a.2.2.2.2.2.2.1 (lsm (scores (qBlk3 x0) (kBlk x1 (k0_off8 i k) (k0_off8_inb i k)))),
     chunkAcc a.2.2.2.2.2.2.2 (chunkArg v25 a.2.2.2.2.2.2.1 (scores (qBlk3 x0) (kBlk x1 (k0_off8 i k) (k0_off8_inb i k))) (lsm (scores (qBlk3 x0) (kBlk x1 (k0_off8 i k) (k0_off8_inb i k))))) (kBlk x2 (k0_off8 i k) (k0_off8_inb i k))) := by
  unfold tripR_k0_t1 trip_k0_t1
  dsimp only
  sl_unfold_words
  simp only [View.readAt_eq_ld, harg2.read_unread, harg3.read_unread, harg4.read_unread]
  rfl

/-- Head `h`'s 512 rows of the queries' block. -/
def qRows (x : Vec F S4x512x64 .bf16) (h : Fin 4) : Vec F S1x512x64 .bf16 :=
  fun j => x (ix3 h (j 1) (j 2))

/-- Head `h`'s rows `512 n`, …, `512 n + 511` of the keys (or of the values). -/
def kRows (x : Vec F S4x4096x64 .bf16) (h : Fin 4) (n : Nat) : Vec F S1x512x64 .bf16 :=
  fun j => x (ix3 h ⟨(512 * n + (j 1).val) % 4096, Nat.mod_lt _ (by norm_num)⟩ (j 2))

theorem qBlk_eq (x : Vec F S4x512x64 .bf16) (h : Fin 4) (off : Fin 3 → Nat) (ho : off = ![h.val, 0, 0])
    (inb : ∀ a, off a + S1x512x64.size a ≤ S4x512x64.size a) :
    View.ld x (Rect.unit (s := S4x512x64) off S1x512x64.size inb) = qRows x h := by
  subst ho
  funext j
  refine View.ld_unit_apply_of _ _ _ _ _ _ fun a => ?_
  have h0 : (j 0).val < 1 := (j 0).isLt
  fin_cases a
  · show h.val = h.val + (j 0).val
    omega
  · show (j 1).val = 0 + (j 1).val
    omega
  · show (j 2).val = 0 + (j 2).val
    omega

theorem kBlk_eq (x : Vec F S4x4096x64 .bf16) (h : Fin 4) (n : Nat) (hn : n < 8) (off : Fin 3 → Nat)
    (ho : off = ![h.val, 512 * n, 0]) (inb : ∀ a, off a + S1x512x64.size a ≤ S4x4096x64.size a) :
    kBlk x off inb = kRows x h n := by
  subst ho
  funext j
  refine View.ld_unit_apply_of _ _ _ _ _ _ fun a => ?_
  have h0 : (j 0).val < 1 := (j 0).isLt
  have h1 : (j 1).val < 512 := (j 1).isLt
  fin_cases a
  · show h.val = h.val + (j 0).val
    omega
  · show (512 * n + (j 1).val) % 4096 = 512 * n + (j 1).val
    omega
  · show (j 2).val = 0 + (j 2).val
    omega

theorem trips1 (i : grid0.Coords) : (k0_t1_loop i).trips = (i 1).val := by revert i; decide +kernel
theorem trips2 (i : grid0.Coords) : (k0_t2_loop i).trips = 0 := by revert i; decide +kernel

theorem off5 (i : grid0.Coords) (k : Fin (k0_t1_loop i).trips) :
    k0_off5 i k = ![0, 512 * ((i 1).val - (k.val + 1)), 0] := by revert i k; decide +kernel
theorem off6 (i : grid0.Coords) (k : Fin (k0_t1_loop i).trips) :
    k0_off6 i k = ![1, 512 * ((i 1).val - (k.val + 1)), 0] := by revert i k; decide +kernel
theorem off7 (i : grid0.Coords) (k : Fin (k0_t1_loop i).trips) :
    k0_off7 i k = ![2, 512 * ((i 1).val - (k.val + 1)), 0] := by revert i k; decide +kernel
theorem off8 (i : grid0.Coords) (k : Fin (k0_t1_loop i).trips) :
    k0_off8 i k = ![3, 512 * ((i 1).val - (k.val + 1)), 0] := by revert i k; decide +kernel

/-- One head's state after the diagonal chunk `m` and the `n` chunks before it. -/
def headState (w : IVec S512x512 1) (q : Vec F S1x512x64 .bf16) (k v : Nat → Vec F S1x512x64 .bf16) (m : Nat) :
    Nat → FVec F S512x1 .f32 × FVec F S512x64 .f32
  | 0 => diagStep k0_pay66 w q (k m) (v m)
  | n + 1 => fullStep k0_pay66 (headState w q k v m n) q (k (m - (n + 1))) (v (m - (n + 1)))

/-- Head `h`'s state in the body's run. -/
abbrev hSt (w : IVec S512x512 1) (x0 : Vec F S4x512x64 .bf16) (x1 x2 : Vec F S4x4096x64 .bf16) (m n : Nat) (h : Fin 4) :
    FVec F S512x1 .f32 × FVec F S512x64 .f32 :=
  headState w (qRows x0 h) (kRows x1 h) (kRows x2 h) m n

/-- The four heads' states. -/
def heads (w : IVec S512x512 1) (x0 : Vec F S4x512x64 .bf16) (x1 x2 : Vec F S4x4096x64 .bf16) (m n : Nat) : Carry F :=
  ((hSt w x0 x1 x2 m n 0).1, (hSt w x0 x1 x2 m n 0).2, (hSt w x0 x1 x2 m n 1).1, (hSt w x0 x1 x2 m n 1).2,
    (hSt w x0 x1 x2 m n 2).1, (hSt w x0 x1 x2 m n 2).2, (hSt w x0 x1 x2 m n 3).1, (hSt w x0 x1 x2 m n 3).2)

theorem st1_eq (𝒱 : Variants) (c : Dev nD) (bd : Option 𝒱.V) (i : grid0.Coords) (arg2 : Memref sig .tc .vmem S4x512x64 .bf16) (harg2 : arg2.IsWhole) (arg3 : Memref sig .tc .vmem S4x4096x64 .bf16) (harg3 : arg3.IsWhole) (arg4 : Memref sig .tc .vmem S4x4096x64 .bf16) (harg4 : arg4.IsWhole) (arg5 : Memref sig .tc .vmem S4x512x64 .bf16) (harg5 : arg5.IsWhole) (v17 : BitVec 32) (v32 w : IVec S512x512 1) (v34 : FVec F S512x64 .f32) (v35 : BitVec 32) (v59 : FVec F S512x512 .f32) (v89 : FVec F S512x1 .f32) (v101 : FVec F S512x64 .f32) (v131 : FVec F S512x1 .f32) (v143 : FVec F S512x64 .f32) (v173 : FVec F S512x1 .f32) (v185 : FVec F S512x64 .f32) (v199 : FVec F S512x512 .f32) (v204 : FVec F S512x256 .f32) (v207 : FVec F S512x1 .f32) (v208 : FVec F S512x256 .f32) (v212 : FVec F S512x256 .f32) (x0 : Vec F S4x512x64 .bf16) (x1 x2 : Vec F S4x4096x64 .bf16)
    (init : Carry F) (hinit : init = heads w x0 x1 x2 (i 1).val 0) :
    ∀ n, n ≤ (i 1).val →
      st_k0_t1 (F := F) 𝒱 c bd i arg2 harg2 arg3 harg3 arg4 harg4 arg5 harg5 v17 k0_pay66 v32 v34 v35 v59 v89 v101 v131 v143 v173 v185 v199 v204 v207 v208 v212 (harg2.unread x0) (harg3.unread x1) (harg4.unread x2) init n = heads w x0 x1 x2 (i 1).val n
  | 0, _ => by rw [st_k0_t1_zero, hinit]
  | n + 1, hn => by
    have ih := st1_eq 𝒱 c bd i arg2 harg2 arg3 harg3 arg4 harg4 arg5 harg5 v17 v32 w v34 v35 v59 v89 v101 v131 v143 v173 v185 v199 v204 v207 v208 v212 x0 x1 x2 init hinit n (by omega)
    have hi : (i 1).val < 8 := (i 1).isLt
    have hk : n < (k0_t1_loop i).trips := by rw [trips1]; omega
    have hs := st_k0_t1_succ (F := F) 𝒱 c bd i arg2 harg2 arg3 harg3 arg4 harg4 arg5 harg5 v17 k0_pay66 v32 v34 v35 v59 v89 v101 v131 v143 v173 v185 v199 v204 v207 v208 v212 (harg2.unread x0) (harg3.unread x1) (harg4.unread x2) init ⟨n, hk⟩
    refine hs.trans ?_
    rw [ih, trip_eq]
    rw [kBlk_eq x1 0 ((i 1).val - (n + 1)) (by omega) _ (off5 i ⟨n, hk⟩), kBlk_eq x2 0 ((i 1).val - (n + 1)) (by omega) _ (off5 i ⟨n, hk⟩),
      kBlk_eq x1 1 ((i 1).val - (n + 1)) (by omega) _ (off6 i ⟨n, hk⟩), kBlk_eq x2 1 ((i 1).val - (n + 1)) (by omega) _ (off6 i ⟨n, hk⟩),
      kBlk_eq x1 2 ((i 1).val - (n + 1)) (by omega) _ (off7 i ⟨n, hk⟩), kBlk_eq x2 2 ((i 1).val - (n + 1)) (by omega) _ (off7 i ⟨n, hk⟩),
      kBlk_eq x1 3 ((i 1).val - (n + 1)) (by omega) _ (off8 i ⟨n, hk⟩), kBlk_eq x2 3 ((i 1).val - (n + 1)) (by omega) _ (off8 i ⟨n, hk⟩),
      show qBlk0 x0 = _ from qBlk_eq x0 0 _ rfl _, show qBlk1 x0 = _ from qBlk_eq x0 1 _ rfl _,
      show qBlk2 x0 = _ from qBlk_eq x0 2 _ rfl _, show qBlk3 x0 = _ from qBlk_eq x0 3 _ rfl _]
    rfl

theorem st2_eq (𝒱 : Variants) (c : Dev nD) (bd : Option 𝒱.V) (i : grid0.Coords) (arg2 : Memref sig .tc .vmem S4x512x64 .bf16) (harg2 : arg2.IsWhole) (arg3 : Memref sig .tc .vmem S4x4096x64 .bf16) (harg3 : arg3.IsWhole) (arg4 : Memref sig .tc .vmem S4x4096x64 .bf16) (harg4 : arg4.IsWhole) (arg5 : Memref sig .tc .vmem S4x512x64 .bf16) (harg5 : arg5.IsWhole) (v17 : BitVec 32) (v25 : FVec F S256x256 .bf16) (v32 : IVec S512x512 1) (v34 : FVec F S512x64 .f32) (v35 : BitVec 32) (v59 : FVec F S512x512 .f32) (v89 : FVec F S512x1 .f32) (v101 : FVec F S512x64 .f32) (v131 : FVec F S512x1 .f32) (v143 : FVec F S512x64 .f32) (v173 : FVec F S512x1 .f32) (v185 : FVec F S512x64 .f32) (v199 : FVec F S512x512 .f32) (v204 : FVec F S512x256 .f32) (v207 : FVec F S512x1 .f32) (v208 : FVec F S512x256 .f32) (v212 : FVec F S512x256 .f32) (v232 : BitVec 32) (X2 : BufTy.Contents (Elt F) arg2.view.ty) (X3 : BufTy.Contents (Elt F) arg3.view.ty) (X4 : BufTy.Contents (Elt F) arg4.view.ty)
    (init : Carry F) (n : Nat) (hn : n = 0) :
      st_k0_t2 (F := F) 𝒱 c bd i arg2 harg2 arg3 harg3 arg4 harg4 arg5 harg5 v17 v25 v32 v34 v35 v59 v89 v101 v131 v143 v173 v185 v199 v204 v207 v208 v212 v232 X2 X3 X4 init n = init := by
  subst hn; rfl

/-- The block the body leaves: one store a head, of its accumulator. -/
theorem out_eq (c : Dev nD) (i : grid0.Coords) (arg2 : Memref sig .tc .vmem S4x512x64 .bf16) (harg2 : arg2.IsWhole) (arg3 : Memref sig .tc .vmem S4x4096x64 .bf16) (harg3 : arg3.IsWhole) (arg4 : Memref sig .tc .vmem S4x4096x64 .bf16) (harg4 : arg4.IsWhole) (arg5 : Memref sig .tc .vmem S4x512x64 .bf16) (harg5 : arg5.IsWhole) (x0 : Vec F S4x512x64 .bf16) (x1 x2 : Vec F S4x4096x64 .bf16) :
    out0_A_3 c i arg2 harg2 arg3 harg3 arg4 harg4 arg5 harg5 x0 x1 x2 =
      View.canon [⟨Rect.unit (s := S4x512x64) ![3, 0, 0] S1x512x64.size inb_S4x512x64_S1x512x64_3_0_0, k0_pay105 (hSt (k0_pay67 i) x0 x1 x2 (i 1).val (i 1).val 3).2⟩,
        ⟨Rect.unit (s := S4x512x64) ![2, 0, 0] S1x512x64.size inb_S4x512x64_S1x512x64_2_0_0, k0_pay105 (hSt (k0_pay67 i) x0 x1 x2 (i 1).val (i 1).val 2).2⟩,
        ⟨Rect.unit (s := S4x512x64) ![1, 0, 0] S1x512x64.size inb_S4x512x64_S1x512x64_1_0_0, k0_pay105 (hSt (k0_pay67 i) x0 x1 x2 (i 1).val (i 1).val 1).2⟩,
        ⟨Rect.unit (s := S4x512x64) ![0, 0, 0] S1x512x64.size inb_S4x512x64_S1x512x64_0_0_0, k0_pay105 (hSt (k0_pay67 i) x0 x1 x2 (i 1).val (i 1).val 0).2⟩] := by
  unfold out0_A_3
  rw [View.read_writes_eq_canon _ _ _ (cover0_A_3 c i arg2 harg2 arg3 harg3 arg4 harg4 arg5 harg5 x0 x1 x2)]
  unfold kernelRun0_A
  dsimp only
  sl_unfold_words
  simp only [View.readAt_eq_ld, harg2.read_unread, harg3.read_unread, harg4.read_unread]
  have hi : (i 1).val < 8 := (i 1).isLt
  rw [st2_eq]
  · rw [st1_eq (w := k0_pay67 i)]
    · rw [show Scf.trips _ _ _ = (i 1).val from trips1 i]
      rfl
    · have q1 := qBlk_eq x0 0 _ rfl inb_S4x512x64_S1x512x64_0_0_0
      have q2 := qBlk_eq x0 1 _ rfl inb_S4x512x64_S1x512x64_1_0_0
      have q3 := qBlk_eq x0 2 _ rfl inb_S4x512x64_S1x512x64_2_0_0
      have q4 := qBlk_eq x0 3 _ rfl inb_S4x512x64_S1x512x64_3_0_0
      have e1 := kBlk_eq x1 0 (i 1).val hi _ (k0_off1_eq i) (k0_off1_inb i)
      have e2 := kBlk_eq x1 1 (i 1).val hi _ (k0_off2_eq i) (k0_off2_inb i)
      have e3 := kBlk_eq x1 2 (i 1).val hi _ (k0_off3_eq i) (k0_off3_inb i)
      have e4 := kBlk_eq x1 3 (i 1).val hi _ (k0_off4_eq i) (k0_off4_inb i)
      have f1 := kBlk_eq x2 0 (i 1).val hi _ (k0_off1_eq i) (k0_off1_inb i)
      have f2 := kBlk_eq x2 1 (i 1).val hi _ (k0_off2_eq i) (k0_off2_inb i)
      have f3 := kBlk_eq x2 2 (i 1).val hi _ (k0_off3_eq i) (k0_off3_inb i)
      have f4 := kBlk_eq x2 3 (i 1).val hi _ (k0_off4_eq i) (k0_off4_inb i)
      unfold heads hSt headState
      rw [← e1, ← e2, ← e3, ← e4, ← f1, ← f2, ← f3, ← f4, ← q1, ← q2, ← q3, ← q4]
      rfl
    · exact le_of_eq (trips1 i)
  · exact trips2 i

end Cert.KernelIdeal.Stick
end
-- ==== Proof.Chunk.lean ====
/- The stick-breaking chunks over the extended reals: with real scores the running sum and the accumulator of a row are
   sums over the keys processed so far. -/
module

public import proofs.«01_k».proof.Proof.Step

@[expose] public section

set_option maxRecDepth 16384

noncomputable section

namespace Cert.KernelIdeal.Stick

open Cert.KernelIdeal Cert.KernelIdeal.Gen Idealize.ShloMosaic Idealize.ShloMosaic.TcCoe Idealize.SL.Sem
open Idealize.ShloMosaic.Tactic
open scoped BigOperators

/-- `log (1 - sigmoid x)`. -/
def lsr (x : ℝ) : ℝ := -(max x 0 + Real.log (1 + Real.exp (-|x|)))

theorem coe_sum {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

theorem coe_max (x y : ℝ) : max (x : EReal) (y : EReal) = ((max x y : ℝ) : EReal) := (EReal.coe_strictMono.monotone.map_max).symm

theorem absf_coe (x : ℝ) : (FloatOps.absf (F := Ideal) (φ := .f32) (x : EReal) : EReal) = ((|x| : ℝ) : EReal) := by
  show max (x : EReal) (-(x : EReal)) = _
  rw [← EReal.coe_neg, coe_max]
  rfl

theorem lsm_core (x : ℝ) :
    (0 - (max (x : EReal) 0 + Ideal.log (1 + FloatOps.exp2 (F := Ideal) (φ := .f32) (FloatOps.absf (F := Ideal) (φ := .f32) (x : EReal) * Named.named (F := Ideal) (φ := .f32) κ "neg_log2e" 0xBFB8AA3B#32))) : EReal)
      = ((lsr x : ℝ) : EReal) := by
  have hn : (Named.named (F := Ideal) (φ := .f32) κ "neg_log2e" 0xBFB8AA3B#32 : EReal) = ((-((Real.log 2)⁻¹) : ℝ) : EReal) :=
    IdealRules.named_const.ideal_named_scalar _ _ _ _ rfl
  rw [absf_coe, hn]
  have h2 : Real.log 2 ≠ 0 := by positivity
  have e2 : (2 : ℝ) ^ (|x| * -(Real.log 2)⁻¹) = Real.exp (-|x|) := by
    rw [Real.rpow_def_of_pos (by norm_num)]
    congr 1
    field_simp
  have e1 : FloatOps.exp2 (F := Ideal) (φ := .f32) (((|x| : ℝ) : EReal) * ((-((Real.log 2)⁻¹) : ℝ) : EReal))
      = ((Real.exp (-|x|) : ℝ) : EReal) := by
    rw [← EReal.coe_mul, ← e2]
    rfl
  have pos : 0 < 1 + Real.exp (-|x|) := by positivity
  have e3 : Ideal.log ((1 + Real.exp (-|x|) : ℝ) : EReal) = ((Real.log (1 + Real.exp (-|x|)) : ℝ) : EReal) := by
    show (if (1 + Real.exp (-|x|) : ℝ) ≤ 0 then ⊥ else ((Real.log (1 + Real.exp (-|x|)) : ℝ) : EReal)) = _
    rw [if_neg (not_le.mpr pos)]
  rw [e1, ← EReal.coe_one, ← EReal.coe_add, e3, ← EReal.coe_zero, coe_max, ← EReal.coe_add, ← EReal.coe_sub]
  simp [lsr]

theorem lsm_at (z : FVec Ideal S512x512 .f32) (i j : Fin 512) (x : ℝ) (h : z (ix2 i j) = (x : EReal)) :
    lsm z (ix2 i j) = ((lsr x : ℝ) : EReal) := by
  pointwise [lsm, k0_pay14]
  rw [h]
  exact lsm_core x

theorem lsmMasked_at (w : IVec S512x512 1) (z : FVec Ideal S512x512 .f32) (i j : Fin 512) (x : ℝ) (h : z (ix2 i j) = (x : EReal)) :
    lsmMasked w z (ix2 i j) = (((if w (ix2 i j) = 1#1 then lsr x else 0) : ℝ) : EReal) := by
  pointwise [lsmMasked, k0_pay81]
  rw [h]
  unfold Scalar.select
  change (if w (ix2 i j) = 1#1 then _ else _) = _
  by_cases hw : w (ix2 i j) = 1#1
  · rw [if_pos hw, if_pos hw]
    exact lsm_core x
  · rw [if_neg hw, if_neg hw]
    exact EReal.coe_zero.symm

theorem cmpi_slt_nat (a b : Nat) (ha : a < 2 ^ 31) (hb : b < 2 ^ 31) :
    IntOp.cmpi .slt (BitVec.ofNat 32 a) (BitVec.ofNat 32 b) = if a < b then 1#1 else 0#1 := by
  have e : (BitVec.ofNat 32 a).slt (BitVec.ofNat 32 b) = decide (a < b) := by
    rw [BitVec.slt, BitVec.toInt_ofNat', BitVec.toInt_ofNat', Int.bmod_eq_of_le (by omega) (by omega), Int.bmod_eq_of_le (by omega) (by omega)]
    simp
  show BitVec.ofBool ((BitVec.ofNat 32 a).slt (BitVec.ofNat 32 b)) = _
  rw [e]
  by_cases h : a < b <;> simp [h]

theorem cmpi_sgt_nat (a b : Nat) (ha : a < 2 ^ 31) (hb : b < 2 ^ 31) :
    IntOp.cmpi .sgt (BitVec.ofNat 32 a) (BitVec.ofNat 32 b) = if b < a then 1#1 else 0#1 := cmpi_slt_nat b a hb ha

theorem upper_at (i j : Fin 256) : (k0_pay66 (F := Ideal)) (ix2 i j) = if j.val < i.val then 1 else 0 := by
  pointwise [k0_pay66]
  rw [cmpi_sgt_nat _ _ (by omega) (by omega)]
  by_cases h : j.val < i.val <;> simp [h, Scalar.select]

theorem mask_at (a : grid0.Coords) (i j : Fin 512) : (k0_pay67 a) (ix2 i j) = if j.val < i.val then 1#1 else 0#1 := by
  pointwise [k0_pay67]
  have h0 : (Scalar.subi
          (Scalar.muli
            (Scalar.select
              (Scalar.andi
                (Scalar.cmpi CmpIPredicate.ne
                  (Scalar.subi
                    (Scalar.extui (Scalar.cmpi CmpIPredicate.sgt (Scalar.muli (BitVec.ofNat 32 (a 1).val) 512#32) 0#32) : BitVec 32)
                    (Scalar.extui (Scalar.cmpi CmpIPredicate.slt (Scalar.muli (BitVec.ofNat 32 (a 1).val) 512#32) 0#32)))
                  (Scalar.subi (Scalar.extui (Scalar.cmpi CmpIPredicate.sgt 512#32 0#32))
                    (Scalar.extui (Scalar.cmpi CmpIPredicate.slt 512#32 0#32))))
                (Scalar.cmpi CmpIPredicate.ne (Scalar.remsi (Scalar.muli (BitVec.ofNat 32 (a 1).val) 512#32) 512#32) 0#32))
              (Scalar.subi (Scalar.divsi (Scalar.muli (BitVec.ofNat 32 (a 1).val) 512#32) 512#32) 1#32)
              (Scalar.divsi (Scalar.muli (BitVec.ofNat 32 (a 1).val) 512#32) 512#32))
            512#32)
          (Scalar.muli (BitVec.ofNat 32 (a 1).val) 512#32)) = 0#32 := by
    revert a; decide +kernel
  rw [h0, show IntOp.addi (BitVec.ofNat 32 j.val) 0#32 = BitVec.ofNat 32 j.val from BitVec.add_zero _]
  exact cmpi_slt_nat _ _ (by omega) (by omega)

theorem sum_hi (f : ℕ → ℝ) : (∑ x : Fin 256, ((f (256 + x.val) : ℝ) : EReal)) = ((∑ s ∈ Finset.Ico 256 512, f s : ℝ) : EReal) := by
  rw [coe_sum, Fin.sum_univ_eq_sum_range (fun x => f (256 + x)) 256, Finset.range_eq_Ico, Finset.sum_Ico_add f 0 256 256]

theorem sum_lo (f : ℕ → ℝ) : (∑ x : Fin 256, ((f x.val : ℝ) : EReal)) = ((∑ s ∈ Finset.Ico 0 256, f s : ℝ) : EReal) := by
  rw [coe_sum, Fin.sum_univ_eq_sum_range f 256, Finset.range_eq_Ico]

theorem chunkRun_at (r : FVec Ideal S512x1 .f32) (l : FVec Ideal S512x512 .f32) (i : Fin 512) (R : ℝ) (f : ℕ → ℝ)
    (hr : r (ix2 i 0) = (R : EReal)) (hl : ∀ c : Fin 512, l (ix2 i c) = (f c.val : EReal)) :
    chunkRun r l (ix2 i 0) = ((R + ∑ c ∈ Finset.Ico 0 512, f c : ℝ) : EReal) := by
  pointwise [chunkRun, addRows, hiHalf, loHalf]
  simp only [hr, hl]
  rw [sum_hi, sum_lo, ← EReal.coe_add, ← EReal.coe_add, ← Finset.sum_Ico_consecutive f (Nat.zero_le 256) (by norm_num : 256 ≤ 512)]
  congr 1
  ring

theorem sum_right (g : ℕ → ℝ) (j : Nat) (hj : j < 256) :
    (∑ x : Fin 256, ((g x.val : ℝ) : EReal) * (if j < x.val then (1 : EReal) else 0)) = ((∑ s ∈ Finset.Ico (j + 1) 256, g s : ℝ) : EReal) := by
  have h1 : ∀ x : Fin 256, ((g x.val : ℝ) : EReal) * (if j < x.val then (1 : EReal) else 0) = (((fun s : ℕ => if j < s then g s else 0) x.val : ℝ) : EReal) := by
    intro x
    by_cases h : j < x.val <;> simp [h]
  rw [Finset.sum_congr rfl fun x _ => h1 x, sum_lo (fun s : ℕ => if j < s then g s else 0)]
  congr 1
  rw [← Finset.sum_Ico_consecutive _ (Nat.zero_le (j + 1)) (by omega : j + 1 ≤ 256)]
  rw [Finset.sum_eq_zero, zero_add]
  · refine Finset.sum_congr rfl fun s hs => ?_
    rw [Finset.mem_Ico] at hs
    exact if_pos (by omega)
  · intro s hs
    rw [Finset.mem_Ico] at hs
    exact if_neg (by omega)

theorem chunkBetween_at (r : FVec Ideal S512x1 .f32) (l : FVec Ideal S512x512 .f32) (i : Fin 512) (R : ℝ) (f : ℕ → ℝ)
    (hr : r (ix2 i 0) = (R : EReal)) (hl : ∀ c : Fin 512, l (ix2 i c) = (f c.val : EReal)) (j : Fin 512) :
    chunkBetween k0_pay66 r l (ix2 i j) = ((R + ∑ c ∈ Finset.Ico (j.val + 1) 512, f c : ℝ) : EReal) := by
  pointwise [chunkBetween, halfBetween, addRows, hiHalf, loHalf]
  simp only [hr, hl, upper_at]
  split
  · rename_i h
    rw [sum_hi, sum_right f j.val h, ← EReal.coe_add, ← EReal.coe_add, ← Finset.sum_Ico_consecutive f (by omega : j.val + 1 ≤ 256) (by norm_num : 256 ≤ 512)]
    congr 1
    ring
  · rename_i h
    rw [sum_right (fun s => f (256 + s)) (j.val - 256) (by omega), ← EReal.coe_add]
    congr 1
    rw [Finset.sum_Ico_add f, add_comm]
    congr 3
    omega

/-- The masked logarithm of `1 - sigmoid` of key `s`, for a query at position `t`. -/
def lm (z : ℕ → ℝ) (t : ℕ) (s : ℕ) : ℝ := if s < t then lsr (z s) else 0

/-- The stick-breaking weight of key `s` for a query at position `t`, the keys being those below `N`. -/
def wt (z : ℕ → ℝ) (t N : ℕ) (s : ℕ) : ℝ :=
  if s < t then Real.exp (z s + lsr (z s) + ∑ s' ∈ Finset.Ico (s + 1) N, lm z t s') else 0

theorem exp_coe (x : ℝ) : Ideal.exp (x : EReal) = ((Real.exp x : ℝ) : EReal) := rfl

theorem ninf_f32 : Ideal.ofBits .f32 0xFF800000#32 = (⊥ : EReal) := by
  simp [Ideal.ofBits, Ideal.ieee]

theorem sum_chunk (f : ℕ → ℝ) (n a : ℕ) (ha : a ≤ 512) :
    (∑ c ∈ Finset.Ico a 512, f (512 * n + c)) = ∑ s ∈ Finset.Ico (512 * n + a) (512 * (n + 1)), f s := by
  rw [Finset.sum_Ico_add f a 512 (512 * n), Nat.add_comm a, Nat.add_comm 512, Nat.mul_succ]

theorem sum_chunkE (f : ℕ → EReal) (n : ℕ) :
    (∑ x : Fin 512, f (512 * n + x.val)) = ∑ s ∈ Finset.Ico (512 * n) (512 * (n + 1)), f s := by
  rw [Fin.sum_univ_eq_sum_range (fun x => f (512 * n + x)) 512, Finset.range_eq_Ico, Finset.sum_Ico_add f 0 512 (512 * n), Nat.zero_add,
    Nat.add_comm 512, Nat.mul_succ]

section Row
variable (w : IVec S512x512 1) (q : Vec Ideal S1x512x64 .bf16) (k v : Nat → Vec Ideal S1x512x64 .bf16) (m : Nat)
  (i : Fin 512) (d : Fin 64) (z : ℕ → ℝ) (V : ℕ → EReal)

theorem headState_at
    (hw : ∀ j : Fin 512, w (ix2 i j) = if j.val < i.val then 1#1 else 0#1)
    (hz : ∀ n, n ≤ m → ∀ c : Fin 512, scores q (k n) (ix2 i c) = (z (512 * n + c.val) : EReal))
    (hv : ∀ n, n ≤ m → ∀ c : Fin 512, v n (ix3 0 c d) = V (512 * n + c.val)) :
    ∀ n, n ≤ m →
      (headState w q k v m n).1 (ix2 i 0) = ((∑ s ∈ Finset.Ico (512 * (m - n)) (512 * (m + 1)), lm z (512 * m + i.val) s : ℝ) : EReal) ∧
      (headState w q k v m n).2 (ix2 i d) = ∑ s ∈ Finset.Ico (512 * (m - n)) (512 * (m + 1)), ((wt z (512 * m + i.val) (512 * (m + 1)) s : ℝ) : EReal) * V s
  | 0, _ => by
    have hl : ∀ c : Fin 512, lsmMasked w (scores q (k m)) (ix2 i c) = ((lm z (512 * m + i.val) (512 * m + c.val) : ℝ) : EReal) := by
      intro c
      rw [lsmMasked_at w _ i c _ (hz m le_rfl c), hw]
      unfold lm
      by_cases h : c.val < i.val <;> simp [h]
    have h0 : (k0_pay68 (F := Ideal)) (ix2 i 0) = ((0 : ℝ) : EReal) := by
      pointwise [k0_pay68]
      exact EReal.coe_zero.symm
    have h9 : (k0_pay69 (F := Ideal)) (ix2 i d) = (0 : EReal) := by
      pointwise [k0_pay69]
    constructor
    · rw [show (headState w q k v m 0).1 = chunkRun k0_pay68 (lsmMasked w (scores q (k m))) from rfl,
        chunkRun_at _ _ i 0 (fun c => lm z (512 * m + i.val) (512 * m + c)) h0 hl, sum_chunk (lm z (512 * m + i.val)) m 0 (by norm_num), zero_add]
      rfl
    · rw [show (headState w q k v m 0).2 = chunkAcc k0_pay69 (maskArg w (chunkArg k0_pay66 k0_pay68 (scores q (k m)) (lsmMasked w (scores q (k m))))) (v m) from rfl]
      pointwise [chunkAcc]
      rw [h9, zero_add, ← sum_chunkE (fun s => ((wt z (512 * m + i.val) (512 * (m + 1)) s : ℝ) : EReal) * V s)]
      refine Finset.sum_congr rfl fun c _ => ?_
      rw [hv m le_rfl c]
      refine congrArg (· * V (512 * m + c.val)) ?_
      pointwise [maskArg, chunkArg]
      rw [chunkBetween_at _ _ i 0 (fun c => lm z (512 * m + i.val) (512 * m + c)) h0 hl c, hl c, hz m le_rfl c, hw, sum_chunk (lm z (512 * m + i.val)) m (c.val + 1) (by omega)]
      unfold wt
      by_cases h : c.val < i.val
      · have h' : 512 * m + c.val < 512 * m + i.val := by omega
        rw [if_pos h, if_pos h', show ∀ a b : EReal, Scalar.select (1#1) a b = a from fun _ _ => rfl, zero_add,
          show lm z (512 * m + i.val) (512 * m + c.val) = lsr (z (512 * m + c.val)) from if_pos h', ← EReal.coe_add, ← EReal.coe_add, exp_coe]
        rfl
      · rw [if_neg h, if_neg (by omega), show ∀ a b : EReal, Scalar.select (0#1) a b = b from fun _ _ => rfl, ninf_f32]
        exact EReal.coe_zero.symm
  | n + 1, hn => by
    obtain ⟨ih1, ih2⟩ := headState_at hw hz hv n (by omega)
    obtain ⟨e, he⟩ : ∃ e, m - (n + 1) = e := ⟨_, rfl⟩
    have hen : m - n = e + 1 := by omega
    have hem : e < m := by omega
    rw [hen] at ih1 ih2
    have hl : ∀ c : Fin 512, lsm (scores q (k e)) (ix2 i c) = ((lm z (512 * m + i.val) (512 * e + c.val) : ℝ) : EReal) := by
      intro c
      rw [lsm_at _ i c _ (hz e hem.le c)]
      unfold lm
      rw [if_pos (by omega)]
    have hsplit : ∀ a, a ≤ 512 → (∑ s ∈ Finset.Ico (512 * (e + 1)) (512 * (m + 1)), lm z (512 * m + i.val) s) +
        (∑ s ∈ Finset.Ico (512 * e + a) (512 * (e + 1)), lm z (512 * m + i.val) s) = ∑ s ∈ Finset.Ico (512 * e + a) (512 * (m + 1)), lm z (512 * m + i.val) s := by
      intro a ha
      rw [add_comm, Finset.sum_Ico_consecutive _ (by omega) (by omega)]
    constructor
    · rw [show (headState w q k v m (n + 1)).1 = chunkRun (headState w q k v m n).1 (lsm (scores q (k (m - (n + 1))))) from rfl, he,
        chunkRun_at _ _ i _ (fun c => lm z (512 * m + i.val) (512 * e + c)) ih1 hl, sum_chunk (lm z (512 * m + i.val)) e 0 (by norm_num), hsplit 0 (by norm_num)]
      rfl
    · rw [show (headState w q k v m (n + 1)).2 = chunkAcc (headState w q k v m n).2 (chunkArg k0_pay66 (headState w q k v m n).1 (scores q (k (m - (n + 1)))) (lsm (scores q (k (m - (n + 1)))))) (v (m - (n + 1))) from rfl, he]
      pointwise [chunkAcc]
      rw [ih2, ← Finset.sum_Ico_consecutive _ (by omega : 512 * e ≤ 512 * (e + 1)) (by omega : 512 * (e + 1) ≤ 512 * (m + 1)), add_comm]
      refine congrArg (· + _) ?_
      rw [← sum_chunkE (fun s => ((wt z (512 * m + i.val) (512 * (m + 1)) s : ℝ) : EReal) * V s)]
      refine Finset.sum_congr rfl fun c _ => ?_
      rw [hv e hem.le c]
      refine congrArg (· * V (512 * e + c.val)) ?_
      pointwise [chunkArg]
      rw [chunkBetween_at _ _ i _ (fun c => lm z (512 * m + i.val) (512 * e + c)) ih1 hl c, hl c, hz e hem.le c, sum_chunk (lm z (512 * m + i.val)) e (c.val + 1) (by omega), hsplit _ (by omega), ← EReal.coe_add, ← EReal.coe_add, exp_coe]
      unfold wt
      have hlt : 512 * e + c.val < 512 * m + i.val := by omega
      rw [if_pos hlt]
      simp only [lm, if_pos hlt]
      rfl

end Row

end Cert.KernelIdeal.Stick
end
-- ==== Proof.Blocks.lean ====
module

public import proofs.«01_k».proof.Proof.Chunk
public import Idealize.ShloMosaic.Lib.Pipeline.Value
public import Idealize.ShloMosaic.Lib.Pipeline.ValueKit.Point

@[expose] public section
noncomputable section
namespace Cert.KernelIdeal.Stick

open Cert.KernelIdeal Cert.KernelIdeal.Gen Idealize.ShloMosaic Idealize.ShloMosaic.TcCoe Idealize.SL.Sem Idealize.ShloMosaic.StableHlo

variable {F : FTy → Type} [FloatOps F]

/-- An array's four heads side by side: `[8, 4096, 4·64]` laid out as `[4, 8·4096, 64]` and rounded. -/
def headRows (x : Vec F S8x4096x256 .f32) : Vec F S4x32768x64 .bf16 :=
  truncf .bf16 (transpose S4x32768x64 [1, 0, 2] (shapeCast S32768x4x64 x shapeCasts_S8x4096x256_S32768x4x64)
    transposes_S32768x4x64_S4x32768x64_1_0_2) bitsLt_bf16_f32

/-- The scaled queries. -/
def scaledQ (x : Vec F S8x4096x256 .f32) : Vec F S8x4096x256 .f32 :=
  mulf x (broadcastInDim S8x4096x256 ![] bcast_S_S8x4096x256 (constant S_ .f32 0x3E000000#32))

/-- The array the kernel's windows look at: padding, the scaled queries, the keys, the values, padding. -/
def packed (x0 x1 x2 : Vec F S8x4096x256 .f32) : Vec F S36x32768x64 .bf16 :=
  concatenate S36x32768x64 0 [⟨S8x32768x64, broadcastInDim S8x32768x64 ![] bcast_S_S8x32768x64 (constant S_ .bf16 0x0000#16)⟩,
    ⟨S4x32768x64, headRows (scaledQ x0)⟩, ⟨S4x32768x64, headRows x1⟩, ⟨S4x32768x64, headRows x2⟩,
    ⟨S16x32768x64, broadcastInDim S16x32768x64 ![] bcast_S_S16x32768x64 (constant S_ .bf16 0x0000#16)⟩]
    concatenates_S8x32768x64_S4x32768x64_S4x32768x64_S4x32768x64_S16x32768x64_S36x32768x64_d0

variable (m : (ℓ : Loc nD τ sig) → Buf (Elt F) ℓ) (c : Dev nD)

theorem V_main_v13 : (Gen.V m c main_v13 : Vec F S36x32768x64 .bf16)
    = packed (m ((c.tc : Thread nD τ).loc main_arg0)) (m ((c.tc : Thread nD τ).loc main_arg1)) (m ((c.tc : Thread nD τ).loc main_arg2)) := by
  unfold_abbrev_sides
  unfold hostOps0
  simp only [after_cons, after_nil]
  rw [nary_result]
  unfold packed
  dsimp only
  have h0 : ∀ {a b : Vec F S8x32768x64 .bf16} {a1 b1 a2 b2 a3 b3: Vec F S4x32768x64 .bf16} {a4 b4: Vec F S16x32768x64 .bf16}
     (h : a = b) (h1 : a1 = b1) (h2 : a2 = b2) (h3 : a3 = b3) (h4 : a4 = b4),
     concatenate S36x32768x64 0 [⟨S8x32768x64, a⟩, ⟨S4x32768x64, a1⟩, ⟨S4x32768x64, a2⟩, ⟨S4x32768x64, a3⟩, ⟨S16x32768x64, a4⟩]
    concatenates_S8x32768x64_S4x32768x64_S4x32768x64_S4x32768x64_S16x32768x64_S36x32768x64_d0 =
      concatenate S36x32768x64 0 [⟨S8x32768x64, b⟩, ⟨S4x32768x64, b1⟩, ⟨S4x32768x64, b2⟩, ⟨S4x32768x64, b3⟩, ⟨S16x32768x64, b4⟩]
    concatenates_S8x32768x64_S4x32768x64_S4x32768x64_S4x32768x64_S16x32768x64_S36x32768x64_d0 := by
    intros; subst_vars; rfl
  refine h0 ?_ ?_ ?_ ?_ ?_
  · show HloOp.result _ _ (Proc.devRef .tc main_v0) = _
    after_results_simp
  · show HloOp.result _ _ (Proc.devRef .tc main_v5) = _
    after_results_simp
    rfl
  · show HloOp.result _ _ (Proc.devRef .tc main_v8) = _
    after_results_simp
    rfl
  · show HloOp.result _ _ (Proc.devRef .tc main_v11) = _
    after_results_simp
    rfl
  · show HloOp.result _ _ (Proc.devRef .tc main_v12) = _
    after_results_simp

variable (x0 x1 x2 : Vec Ideal S8x4096x256 .f32)

theorem headRows_at (x : Vec Ideal S8x4096x256 .f32) (b : Fin 8) (t : Fin 4096) (h : Fin 4) (d : Fin 64) :
    headRows x (ix3 h ⟨b.val * 4096 + t.val, by omega⟩ d) = x (ix3 b t ⟨h.val * 64 + d.val, by omega⟩) := by
  pointwise [headRows]

theorem scaledQ_at (x : Vec Ideal S8x4096x256 .f32) (b : Fin 8) (t : Fin 4096) (d : Fin 256) :
    scaledQ x (ix3 b t d) = x (ix3 b t d) * ((1 / 8 : ℝ) : EReal) := by
  pointwise [scaledQ]
  simp [Ideal.ofBits, Ideal.ieee, -EReal.coe_mul]
  norm_num

theorem packed_q (r : Fin 32768) (h : Fin 4) (d : Fin 64) (g : Fin 36) (hg : g.val = 8 + h.val) :
    packed x0 x1 x2 (ix3 g r d) = headRows (scaledQ x0) (ix3 h r d) := by
  rw [show g = ⟨8 + h.val, by omega⟩ from Fin.ext hg]
  pointwise [packed]

theorem packed_k (r : Fin 32768) (h : Fin 4) (d : Fin 64) (g : Fin 36) (hg : g.val = 12 + h.val) :
    packed x0 x1 x2 (ix3 g r d) = headRows x1 (ix3 h r d) := by
  rw [show g = ⟨12 + h.val, by omega⟩ from Fin.ext hg]
  pointwise [packed]
  rw [dif_neg (by omega), dif_neg (by omega), dif_pos (by omega)]
  exact congrArg (fun z => headRows x1 (ix3 z r d)) (Fin.ext (by show 12 + h.val - 8 - 4 = h.val; omega))

theorem packed_v (r : Fin 32768) (h : Fin 4) (d : Fin 64) (g : Fin 36) (hg : g.val = 16 + h.val) :
    packed x0 x1 x2 (ix3 g r d) = headRows x2 (ix3 h r d) := by
  rw [show g = ⟨16 + h.val, by omega⟩ from Fin.ext hg]
  pointwise [packed]
  rw [dif_neg (by omega), dif_neg (by omega), dif_neg (by omega), dif_pos (by omega)]
  exact congrArg (fun z => headRows x2 (ix3 z r d)) (Fin.ext (by show 16 + h.val - 8 - 4 - 4 = h.val; omega))

/-! ## The windows' blocks at an index -/

theorem idx0 : ∀ t : Fin cfg0.N, win0_0.index t 0 = 2 ∧ win0_0.index t 1 = t.val ∧ win0_0.index t 2 = 0 :=
  (by decide +kernel : ∀ t : Fin grid0.N, win0_0.index t 0 = 2 ∧ win0_0.index t 1 = t.val ∧ win0_0.index t 2 = 0)
theorem idx1 : ∀ t : Fin cfg0.N, win0_1.index t 0 = 3 ∧ win0_1.index t 1 = t.val / 8 ∧ win0_1.index t 2 = 0 :=
  (by decide +kernel : ∀ t : Fin grid0.N, win0_1.index t 0 = 3 ∧ win0_1.index t 1 = t.val / 8 ∧ win0_1.index t 2 = 0)
theorem idx2 : ∀ t : Fin cfg0.N, win0_2.index t 0 = 4 ∧ win0_2.index t 1 = t.val / 8 ∧ win0_2.index t 2 = 0 :=
  (by decide +kernel : ∀ t : Fin grid0.N, win0_2.index t 0 = 4 ∧ win0_2.index t 1 = t.val / 8 ∧ win0_2.index t 2 = 0)
theorem idx3 : ∀ t : Fin cfg0.N, win0_3.index t 0 = 0 ∧ win0_3.index t 1 = t.val ∧ win0_3.index t 2 = 0 :=
  (by decide +kernel : ∀ t : Fin grid0.N, win0_3.index t 0 = 0 ∧ win0_3.index t 1 = t.val ∧ win0_3.index t 2 = 0)
theorem coord1 : ∀ t : Fin cfg0.N, (grid0.coords t 1).val = t.val % 8 :=
  (by decide +kernel : ∀ t : Fin grid0.N, (grid0.coords t 1).val = t.val % 8)

theorem iblk0_at (t : Fin cfg0.N) (h : Fin 4) (r : Fin 512) (d : Fin 64) (g : Fin 36) (hg : g.val = 8 + h.val)
    (s : Fin 32768) (hs : s.val = 512 * t.val + r.val) :
    (iblk m c 0 t : Vec F S4x512x64 .bf16) (ix3 h r d) = (Gen.V m c main_v13 : Vec F S36x32768x64 .bf16) (ix3 g s d) := by
  have := idx0 t
  blk_ext [iblk, this.1, this.2.1, this.2.2, hg, hs]

theorem iblk1_at (t : Fin cfg0.N) (h : Fin 4) (r : Fin 4096) (d : Fin 64) (g : Fin 36) (hg : g.val = 12 + h.val)
    (s : Fin 32768) (hs : s.val = 4096 * (t.val / 8) + r.val) :
    (iblk m c 1 t : Vec F S4x4096x64 .bf16) (ix3 h r d) = (Gen.V m c main_v13 : Vec F S36x32768x64 .bf16) (ix3 g s d) := by
  have := idx1 t
  blk_ext [iblk, this.1, this.2.1, this.2.2, hg, hs]

theorem iblk2_at (t : Fin cfg0.N) (h : Fin 4) (r : Fin 4096) (d : Fin 64) (g : Fin 36) (hg : g.val = 16 + h.val)
    (s : Fin 32768) (hs : s.val = 4096 * (t.val / 8) + r.val) :
    (iblk m c 2 t : Vec F S4x4096x64 .bf16) (ix3 h r d) = (Gen.V m c main_v13 : Vec F S36x32768x64 .bf16) (ix3 g s d) := by
  have := idx2 t
  blk_ext [iblk, this.1, this.2.1, this.2.2, hg, hs]

/-! ## The arrays by batch, head, position and feature -/

/-- Entry `(batch b, position s, head h, feature d)` of an array of four heads of width 64. -/
def at3 (x : Vec Ideal S8x4096x256 .f32) (b h s d : Nat) : EReal :=
  x (ix3 ⟨b % 8, Nat.mod_lt _ (by decide)⟩ ⟨s % 4096, Nat.mod_lt _ (by decide)⟩ ⟨(h * 64 + d) % 256, Nat.mod_lt _ (by decide)⟩)

theorem headRows_at3 (x : Vec Ideal S8x4096x256 .f32) (h : Fin 4) (s : Fin 32768) (d : Fin 64) :
    headRows x (ix3 h s d) = at3 x (s.val / 4096) h.val (s.val % 4096) d.val := by
  have hs : s = ⟨(⟨s.val / 4096, by omega⟩ : Fin 8).val * 4096 + (⟨s.val % 4096, by omega⟩ : Fin 4096).val, by dsimp only; omega⟩ :=
    Fin.ext (by dsimp only; omega)
  conv_lhs => rw [hs]
  rw [headRows_at]
  unfold at3
  congr 2 <;> exact Fin.ext (by dsimp only; omega)

variable (m : (ℓ : Loc nD τ sig) → Buf (Elt Ideal) ℓ) (c : Dev nD)

theorem q_at (t : Fin cfg0.N) (h : Fin 4) (r : Fin 512) (d : Fin 64) :
    (iblk m c 0 t : Vec Ideal S4x512x64 .bf16) (ix3 h r d)
      = at3 (m ((c.tc : Thread nD τ).loc main_arg0)) (t.val / 8) h.val (512 * (t.val % 8) + r.val) d.val * ((1 / 8 : ℝ) : EReal) := by
  have hN : t.val < 64 := lt_of_lt_of_eq t.isLt N_0
  rw [iblk0_at m c t h r d ⟨8 + h.val, by omega⟩ rfl ⟨512 * t.val + r.val, by omega⟩ rfl, V_main_v13, packed_q _ _ _ _ _ _ _ rfl,
    headRows_at3]
  unfold at3
  rw [scaledQ_at]
  congr 3 <;> exact Fin.ext (by dsimp only; omega)

theorem k_at (t : Fin cfg0.N) (h : Fin 4) (r : Fin 4096) (d : Fin 64) :
    (iblk m c 1 t : Vec Ideal S4x4096x64 .bf16) (ix3 h r d)
      = at3 (m ((c.tc : Thread nD τ).loc main_arg1)) (t.val / 8) h.val r.val d.val := by
  have hN : t.val < 64 := lt_of_lt_of_eq t.isLt N_0
  rw [iblk1_at m c t h r d ⟨12 + h.val, by omega⟩ rfl ⟨4096 * (t.val / 8) + r.val, by omega⟩ rfl, V_main_v13, packed_k _ _ _ _ _ _ _ rfl,
    headRows_at3]
  unfold at3
  congr 2 <;> exact Fin.ext (by dsimp only; omega)

theorem v_at (t : Fin cfg0.N) (h : Fin 4) (r : Fin 4096) (d : Fin 64) :
    (iblk m c 2 t : Vec Ideal S4x4096x64 .bf16) (ix3 h r d)
      = at3 (m ((c.tc : Thread nD τ).loc main_arg2)) (t.val / 8) h.val r.val d.val := by
  have hN : t.val < 64 := lt_of_lt_of_eq t.isLt N_0
  rw [iblk2_at m c t h r d ⟨16 + h.val, by omega⟩ rfl ⟨4096 * (t.val / 8) + r.val, by omega⟩ rfl, V_main_v13, packed_v _ _ _ _ _ _ _ rfl,
    headRows_at3]
  unfold at3
  congr 2 <;> exact Fin.ext (by dsimp only; omega)

/-! ## The block a grid point leaves, at an index -/

/-- The block a grid point leaves: row `r` of head `h` is row `r` of that head's accumulator. -/
def blockOf (i : grid0.Coords) (x0 : Vec Ideal S4x512x64 .bf16) (x1 x2 : Vec Ideal S4x4096x64 .bf16) : S4x512x64.Idx → Elt Ideal .bf16 :=
  fun y => (hSt (k0_pay67 i) x0 x1 x2 (i 1).val (i 1).val (y 0)).2 (ix2 (y 1) (y 2))

theorem block_at (i : grid0.Coords) (arg2 : Memref sig .tc .vmem S4x512x64 .bf16) (harg2 : arg2.IsWhole) (arg3 : Memref sig .tc .vmem S4x4096x64 .bf16) (harg3 : arg3.IsWhole) (arg4 : Memref sig .tc .vmem S4x4096x64 .bf16) (harg4 : arg4.IsWhole) (arg5 : Memref sig .tc .vmem S4x512x64 .bf16) (harg5 : arg5.IsWhole) (x0 : Vec Ideal S4x512x64 .bf16) (x1 x2 : Vec Ideal S4x4096x64 .bf16)
    (h : Fin 4) (r : Fin 512) (d : Fin 64) :
    out0_A_3 c i arg2 harg2 arg3 harg3 arg4 harg4 arg5 harg5 x0 x1 x2 (ix3 h r d)
      = (hSt (k0_pay67 i) x0 x1 x2 (i 1).val (i 1).val h).2 (ix2 r d) := by
  rw [out_eq]
  have piece : ∀ (g : Fin 4) (off : Fin 3 → Nat) (inb : ∀ a, off a + S1x512x64.size a ≤ S4x512x64.size a) (hoff : off = ![g.val, 0, 0])
      (y : S1x512x64.Idx), k0_pay105 (hSt (k0_pay67 i) x0 x1 x2 (i 1).val (i 1).val g).2 y
        = blockOf i x0 x1 x2 ((Rect.unit (s := S4x512x64) off S1x512x64.size inb).emb y) := by
    rintro g off inb rfl y
    idx_vars y
    pointwise [k0_pay105]
    have e : (Rect.unit (s := S4x512x64) ![g.val, 0, 0] S1x512x64.size inb).emb (ix3 y0 y1 y2) = ix3 g y1 y2 := by
      funext a
      apply Fin.ext
      rw [Rect.emb_apply]
      match a with
      | ⟨0, _⟩ => show g.val + 1 * y0.val = g.val; omega
      | ⟨1, _⟩ => show 0 + 1 * y1.val = y1.val; omega
      | ⟨2, _⟩ => show 0 + 1 * y2.val = y2.val; omega
    exact (congrArg (blockOf i x0 x1 x2) e).symm
  refine View.canon_apply_of_pieces (blockOf i x0 x1 x2) _ ?_ _ ?_
  · intro p hp x
    simp only [List.mem_cons, List.not_mem_nil, or_false] at hp
    rcases hp with rfl | rfl | rfl | rfl
    · exact piece 3 _ inb_S4x512x64_S1x512x64_3_0_0 rfl x
    · exact piece 2 _ inb_S4x512x64_S1x512x64_2_0_0 rfl x
    · exact piece 1 _ inb_S4x512x64_S1x512x64_1_0_0 rfl x
    · exact piece 0 _ inb_S4x512x64_S1x512x64_0_0_0 rfl x
  · exact View.cover_of_tiled_head _ _ _ rfl _

/-! ## The result -/

/-- The scaled score of a query at position `t` with the key at position `s`. -/
def zR (x0 x1 : Vec Ideal S8x4096x256 .f32) (b h t s : ℕ) : ℝ :=
  (∑ d : Fin 64, (at3 x0 b h t d.val).toReal * (at3 x1 b h s d.val).toReal) * (1 / 8)

/-- Stick-breaking attention, batch `b`, head `h`, query position `t`, feature `d`. -/
def stick (x0 x1 x2 : Vec Ideal S8x4096x256 .f32) (b h t d : ℕ) : EReal :=
  ∑ s ∈ Finset.Ico 0 4096, ((wt (zR x0 x1 b h t) t 4096 s : ℝ) : EReal) * at3 x2 b h s d

/-- … as the array the kernel writes: head, then batch and position, then feature. -/
def stickRows (x0 x1 x2 : Vec Ideal S8x4096x256 .f32) : Vec Ideal S4x32768x64 .bf16 :=
  fun j => stick x0 x1 x2 ((j 1).val / 4096) (j 0).val ((j 1).val % 4096) (j 2).val

/-- Keys at or above the query's position have no weight, so the sum may stop at the end of the query's chunk. -/
theorem sum_upto (z : ℕ → ℝ) (t M : ℕ) (ht : t < M) (hM : M ≤ 4096) (V : ℕ → EReal) :
    ∑ s ∈ Finset.Ico 0 M, ((wt z t M s : ℝ) : EReal) * V s = ∑ s ∈ Finset.Ico 0 4096, ((wt z t 4096 s : ℝ) : EReal) * V s := by
  rw [← Finset.sum_Ico_consecutive _ (Nat.zero_le M) hM]
  have h2 : ∑ s ∈ Finset.Ico M 4096, ((wt z t 4096 s : ℝ) : EReal) * V s = 0 := by
    refine Finset.sum_eq_zero fun s hs => ?_
    have := (Finset.mem_Ico.1 hs).1
    rw [show wt z t 4096 s = 0 from if_neg (by omega), EReal.coe_zero, zero_mul]
  rw [h2, add_zero]
  refine Finset.sum_congr rfl fun s hs => ?_
  have hs' := (Finset.mem_Ico.1 hs).2
  have : wt z t M s = wt z t 4096 s := by
    unfold wt
    rw [← Finset.sum_Ico_consecutive (lm z t) (show s + 1 ≤ M by omega) hM,
      show ∑ s' ∈ Finset.Ico M 4096, lm z t s' = 0 from Finset.sum_eq_zero fun s' h' =>
        if_neg (by have := (Finset.mem_Ico.1 h').1; omega), add_zero]
  rw [this]

/-- Every entry of an array is a real number. -/
def Finite (x : Vec Ideal S8x4096x256 .f32) : Prop := ∀ j, x j = ((x j : EReal).toReal : EReal)

theorem acc_at (t : Fin cfg0.N) (h : Fin 4) (r : Fin 512) (d : Fin 64)
    (f0 : Finite (m ((c.tc : Thread nD τ).loc main_arg0))) (f1 : Finite (m ((c.tc : Thread nD τ).loc main_arg1))) :
    (hSt (k0_pay67 (grid0.coords t)) (iblk m c 0 t : Vec Ideal S4x512x64 .bf16) (iblk m c 1 t : Vec Ideal S4x4096x64 .bf16) (iblk m c 2 t : Vec Ideal S4x4096x64 .bf16)
        (grid0.coords t 1).val (grid0.coords t 1).val h).2 (ix2 r d)
      = stick (m ((c.tc : Thread nD τ).loc main_arg0)) (m ((c.tc : Thread nD τ).loc main_arg1)) (m ((c.tc : Thread nD τ).loc main_arg2))
          (t.val / 8) h.val (512 * (t.val % 8) + r.val) d.val := by
  have hN : t.val < 64 := lt_of_lt_of_eq t.isLt N_0
  rw [coord1 t]
  have key := headState_at (k0_pay67 (grid0.coords t)) (qRows (iblk m c 0 t : Vec Ideal S4x512x64 .bf16) h) (kRows (iblk m c 1 t : Vec Ideal S4x4096x64 .bf16) h)
    (kRows (iblk m c 2 t : Vec Ideal S4x4096x64 .bf16) h) (t.val % 8) r d
    (zR (m ((c.tc : Thread nD τ).loc main_arg0)) (m ((c.tc : Thread nD τ).loc main_arg1)) (t.val / 8) h.val (512 * (t.val % 8) + r.val))
    (fun s => at3 (m ((c.tc : Thread nD τ).loc main_arg2)) (t.val / 8) h.val s d.val)
    (fun j => mask_at _ r j) ?_ ?_ (t.val % 8) le_rfl
  · refine key.2.trans ?_
    rw [show 512 * (t.val % 8 - t.val % 8) = 0 by omega]
    exact sum_upto _ _ _ (by omega) (by omega) _
  · intro n hn k
    pointwise [scores, k0_pay2]
    have e : ∀ x : Fin 64, qRows (iblk m c 0 t : Vec Ideal S4x512x64 .bf16) h (ix3 0 r x) * kRows (iblk m c 1 t : Vec Ideal S4x4096x64 .bf16) h n (ix3 0 k x)
        = ((((at3 (m ((c.tc : Thread nD τ).loc main_arg0)) (t.val / 8) h.val (512 * (t.val % 8) + r.val) x.val).toReal * (1 / 8))
          * (at3 (m ((c.tc : Thread nD τ).loc main_arg1)) (t.val / 8) h.val (512 * n + k.val) x.val).toReal : ℝ) : EReal) := by
      intro x
      have eq : qRows (iblk m c 0 t : Vec Ideal S4x512x64 .bf16) h (ix3 0 r x) = _ := q_at m c t h r x
      have ek : kRows (iblk m c 1 t : Vec Ideal S4x4096x64 .bf16) h n (ix3 0 k x) = _ := k_at m c t h ⟨(512 * n + k.val) % 4096, Nat.mod_lt _ (by decide)⟩ x
      rw [eq, ek]
      dsimp only
      rw [show at3 _ (t.val / 8) h.val ((512 * n + k.val) % 4096) x.val = at3 (m ((c.tc : Thread nD τ).loc main_arg1)) (t.val / 8) h.val (512 * n + k.val) x.val
        from by unfold at3; congr 2; exact Fin.ext (by dsimp only; omega)]
      rw [EReal.coe_mul, EReal.coe_mul]
      unfold at3
      rw [← f0, ← f1]
    rw [Finset.sum_congr rfl fun x _ => e x, coe_sum]
    unfold zR
    rw [Finset.sum_mul]
    congr 1
    exact Finset.sum_congr rfl fun x _ => by ring
  · intro n hn k
    show (iblk m c 2 t : Vec Ideal S4x4096x64 .bf16) (ix3 h ⟨(512 * n + k.val) % 4096, _⟩ d) = _
    rw [v_at]
    unfold at3; congr 2; exact Fin.ext (by dsimp only; omega)

theorem flushed_eq (t : Fin cfg0.N)
    (f0 : Finite (m ((c.tc : Thread nD τ).loc main_arg0))) (f1 : Finite (m ((c.tc : Thread nD τ).loc main_arg1))) :
    (dats m 0 c).flushed 3 t = (win0_3.blk t).view.read (Elt Ideal)
      (stickRows (m ((c.tc : Thread nD τ).loc main_arg0)) (m ((c.tc : Thread nD τ).loc main_arg1)) (m ((c.tc : Thread nD τ).loc main_arg2))) := by
  have hN : t.val < 64 := lt_of_lt_of_eq t.isLt N_0
  rw [Value.flushed3_A]
  have hi := idx3 t
  funext y
  refine (show _ = out0_A_3 c (grid0.coords t) (ms0_0 t) (hs0_0 t) (ms0_1 t) (hs0_1 t) (ms0_2 t) (hs0_2 t) (ms0_3 t) (hs0_3 t) (iblk m c 0 t) (iblk m c 1 t) (iblk m c 2 t)
    (ix3 (y 0) (y 1) (y 2)) from ?_).trans ((block_at c _ _ _ _ _ _ _ _ _ _ _ _ _ _ _).trans ((acc_at m c t _ _ _ f0 f1).trans ?_))
  · blk_ext
  · have hy1 : (y 1).val < 512 := (y 1).isLt
    show _ = stick _ _ _ _ _ _ _
    blk_simp [hi.1, hi.2.1, hi.2.2]
    congr 1 <;> omega

theorem mem_blk (t : Fin cfg0.N) (i : S4x32768x64.Idx) :
    i ∈ ((cfg0.win 3).blk t).view.set ↔ t.val * 512 ≤ (i 1 : Nat) ∧ (i 1 : Nat) < t.val * 512 + 512 := by
  show i ∈ ((View.whole main_v14).slice (win0_3.rect t)).set ↔ _
  rw [View.set_slice_whole, Rect.mem_set_unit]
  have h0 : (i 0 : Nat) < 4 := (i 0).isLt
  have h2 : (i 2 : Nat) < 64 := (i 2).isLt
  have e := idx3 t
  refine ⟨fun h => ?_, fun h a => ?_⟩
  · have : win0_3.index t 1 * 512 ≤ (i 1 : Nat) ∧ (i 1 : Nat) < win0_3.index t 1 * 512 + 512 := h 1
    rw [e.2.1] at this; exact this
  · match a with
    | ⟨0, _⟩ => show win0_3.index t 0 * 4 ≤ (i 0 : Nat) ∧ (i 0 : Nat) < win0_3.index t 0 * 4 + 4
                rw [e.1]; omega
    | ⟨1, _⟩ => show win0_3.index t 1 * 512 ≤ (i 1 : Nat) ∧ (i 1 : Nat) < win0_3.index t 1 * 512 + 512
                rw [e.2.1]; exact h
    | ⟨2, _⟩ => show win0_3.index t 2 * 64 ≤ (i 2 : Nat) ∧ (i 2 : Nat) < win0_3.index t 2 * 64 + 64
                rw [e.2.2]; omega

/-- The blocks tile the result. -/
theorem cover (i : S4x32768x64.Idx) :
    ∃ t : Fin cfg0.N, (cfg0.win 3).flush t = true ∧ i ∈ ((cfg0.win 3).blk t).view.set := by
  have h1 : (i 1 : Nat) < 32768 := (i 1).isLt
  have hN : cfg0.N = 64 := N_0
  refine ⟨⟨(i 1 : Nat) / 512, by omega⟩, flush0_3 _, ?_⟩
  rw [mem_blk]
  dsimp only
  omega

/-- The result array ends holding the stick-breaking attention of the arguments. -/
theorem final (f0 : Finite (m ((c.tc : Thread nD τ).loc main_arg0))) (f1 : Finite (m ((c.tc : Thread nD τ).loc main_arg1))) :
    (dats m 0 c).arrAt 3 cfg0.N
      = stickRows (m ((c.tc : Thread nD τ).loc main_arg0)) (m ((c.tc : Thread nD τ).loc main_arg1)) (m ((c.tc : Thread nD τ).loc main_arg2)) :=
  (dats m 0 c).arrAt_eq_of_cover 3 _ (fun t _ => flushed_eq m c t f0 f1) cover

end Cert.KernelIdeal.Stick
-- ==== Proof.RefRead.lean ====
/- The reference at an index: the scores, the logarithms of the complements, their suffix sums, the weights and the result. -/
module

public import proofs.«01_k».proof.Proof.Blocks
public import proofs.«01_k».proof.Proof.Gen.ReferenceIdeal.Read

@[expose] public section
noncomputable section
namespace Cert.ReferenceIdeal.Stick

open Cert.ReferenceIdeal Cert.ReferenceIdeal.Gen Cert.ReferenceIdeal.Read Idealize.ShloMosaic Idealize.ShloMosaic.TcCoe Idealize.SL.Sem
open Idealize.ShloMosaic.Tactic
open Cert.KernelIdeal.Stick (lsr lm wt zR at3 stick stickRows Finite coe_sum coe_max exp_coe cmpi_slt_nat)
open scoped BigOperators

/-! ## A running sum from the end -/

theorem foldl_add {ι : Type} (f : ι → EReal) (l : List ι) (v : EReal) :
    l.foldl (fun r n => r + f n) v = v + (l.map f).sum := by
  induction l generalizing v with
  | nil => simp
  | cons a l ih => rw [List.foldl_cons, ih, List.map_cons, List.sum_cons, add_assoc]

/-- The window's shape: one row of `4096`. -/
abbrev SW : Shape := ⟨4, ![1, 1, 1, 4096]⟩

theorem numelW : SW.numel = 4096 := by
  show ∏ a : Fin 4, (![1, 1, 1, 4096] : Fin 4 → Nat) a = 4096
  simp [Fin.prod_univ_succ]

theorem symmW (n : Fin SW.numel) : SW.rowMajor.symm n = ix4 0 0 0 (n.cast numelW) :=
  (SW.rowMajor.symm_apply_eq).2 (Fin.ext (by
    rw [Shape.rowMajor_val_four]
    show n.val = ((0 * 1 + 0) * 1 + 0) * 4096 + n.val
    omega))

/-- Entry `s` of a reversed running sum along the last axis is the sum of the entries from `s` on. -/
theorem suffix_at (x : FVec Ideal S8x4x4096x4096 .f32) (init : S_.Idx → EReal) (hinit : ∀ j, init j = 0)
    (hw) (hu) (b : Fin 8) (h : Fin 4) (t s : Fin 4096) (f : ℕ → ℝ) (hx : ∀ s : Fin 4096, x (ix4 b h t s) = (f s.val : EReal)) :
    Host.reduceWindowAdd (F := Ideal) (φ := .f32) (s := S8x4x4096x4096) (t := S8x4x4096x4096) (u := S_) ![1, 1, 1, 4096] ![1, 1, 1, 1] ![0, 0, 0, 0] ![0, 0, 0, 4095] x init hw hu (ix4 b h t s)
      = ((∑ s' ∈ Finset.Ico s.val 4096, f s' : ℝ) : EReal) := by
  unfold Host.reduceWindowAdd
  rw [Ideal.hostReduceWindowAdd_def]
  unfold Ideal.hostReduceWindowAdd Host.reduceWindow
  refine (List.foldl_ext _ (fun r (n : Fin SW.numel) => r + (if s.val + n.val < 4096 then ((f (s.val + n.val) : ℝ) : EReal) else 0)) _ ?_).trans ((foldl_add _ _ _).trans ?_)
  · intro r n _
    show r + _ = r + _
    congr 1
    have hn : n.val < 4096 := lt_of_lt_of_eq n.isLt numelW
    have e3 : (SW.rowMajor.symm n 3).val = n.val := by rw [symmW]; rfl
    have e0 : (SW.rowMajor.symm n 0).val = 0 := by rw [symmW]; rfl
    have e1 : (SW.rowMajor.symm n 1).val = 0 := by rw [symmW]; rfl
    have e2 : (SW.rowMajor.symm n 2).val = 0 := by rw [symmW]; rfl
    split
    · next hin =>
      have h3 := (hin 3).2
      change s.val * 1 + (SW.rowMajor.symm n 3).val - 0 < 4096 at h3
      rw [if_pos (by omega), ← hx ⟨s.val + n.val, by omega⟩]
      congr 1
      funext a
      apply Fin.ext
      match a with
      | ⟨0, _⟩ => show b.val * 1 + (SW.rowMajor.symm n 0).val - 0 = b.val; omega
      | ⟨1, _⟩ => show h.val * 1 + (SW.rowMajor.symm n 1).val - 0 = h.val; omega
      | ⟨2, _⟩ => show t.val * 1 + (SW.rowMajor.symm n 2).val - 0 = t.val; omega
      | ⟨3, _⟩ => show s.val * 1 + (SW.rowMajor.symm n 3).val - 0 = s.val + n.val; omega
    · next hin =>
      rw [if_neg, hinit]
      intro hlt
      apply hin
      intro a
      match a with
      | ⟨0, _⟩ => show 0 ≤ b.val * 1 + (SW.rowMajor.symm n 0).val ∧ b.val * 1 + (SW.rowMajor.symm n 0).val - 0 < 8; omega
      | ⟨1, _⟩ => show 0 ≤ h.val * 1 + (SW.rowMajor.symm n 1).val ∧ h.val * 1 + (SW.rowMajor.symm n 1).val - 0 < 4; omega
      | ⟨2, _⟩ => show 0 ≤ t.val * 1 + (SW.rowMajor.symm n 2).val ∧ t.val * 1 + (SW.rowMajor.symm n 2).val - 0 < 4096; omega
      | ⟨3, _⟩ => show 0 ≤ s.val * 1 + (SW.rowMajor.symm n 3).val ∧ s.val * 1 + (SW.rowMajor.symm n 3).val - 0 < 4096; omega
  · rw [hinit, zero_add, ← Fin.sum_univ_def,
      Fintype.sum_equiv (finCongr numelW) (fun n : Fin SW.numel => if s.val + n.val < 4096 then ((f (s.val + n.val) : ℝ) : EReal) else 0) (fun n : Fin 4096 => if s.val + n.val < 4096 then ((f (s.val + n.val) : ℝ) : EReal) else 0) (fun n => rfl),
      Fin.sum_univ_eq_sum_range (fun n => if s.val + n < 4096 then ((f (s.val + n) : ℝ) : EReal) else 0) 4096,
      ← Finset.sum_filter, coe_sum]
    congr 1
    refine Finset.sum_bij' (fun n _ => s.val + n) (fun n _ => n - s.val) ?_ ?_ ?_ ?_ ?_ <;> intro n hn <;>
      simp only [Finset.mem_filter, Finset.mem_range, Finset.mem_Ico] at hn ⊢ <;> omega

/-! ## The logistic function's logarithm -/

theorem log1p_exp (x : ℝ) : FloatOps.hostUnary (F := Ideal) (φ := .f32) .log1p ((Real.exp x : ℝ) : EReal) = ((Real.log (1 + Real.exp x) : ℝ) : EReal) := by
  have pos : 0 < 1 + Real.exp x := by positivity
  show Ideal.log (1 + ((Real.exp x : ℝ) : EReal)) = _
  rw [← EReal.coe_one, ← EReal.coe_add]
  show (if (1 + Real.exp x : ℝ) ≤ 0 then ⊥ else ((Real.log (1 + Real.exp x) : ℝ) : EReal)) = _
  rw [if_neg (not_le.mpr pos)]

theorem softplus_core (x : ℝ) :
    FloatOps.hostNegf (F := Ideal) (φ := .f32) (Scalar.select (FloatOps.cmpf (F := Ideal) (φ := .f32) .une (FloatOps.subf (F := Ideal) (φ := .f32) (x : EReal) (FloatOps.ofBits .f32 0x00000000#32)) (FloatOps.subf (F := Ideal) (φ := .f32) (x : EReal) (FloatOps.ofBits .f32 0x00000000#32)))
      (FloatOps.addf (F := Ideal) (φ := .f32) (x : EReal) (FloatOps.ofBits .f32 0x00000000#32))
      (FloatOps.addf (F := Ideal) (φ := .f32) (FloatOps.maximumf (F := Ideal) (φ := .f32) (x : EReal) (FloatOps.ofBits .f32 0x00000000#32))
        (FloatOps.hostUnary (F := Ideal) (φ := .f32) .log1p (FloatOps.hostUnary (F := Ideal) (φ := .f32) .exp (FloatOps.hostNegf (F := Ideal) (φ := .f32) (FloatOps.hostAbsf (F := Ideal) (φ := .f32) (FloatOps.subf (F := Ideal) (φ := .f32) (x : EReal) (FloatOps.ofBits .f32 0x00000000#32))))))))
    = ((lsr x : ℝ) : EReal) := by
  have z : (FloatOps.ofBits (F := Ideal) .f32 0x00000000#32 : EReal) = ((0 : ℝ) : EReal) := by
    show Ideal.ofBits .f32 0x00000000#32 = _
    simp [Ideal.ofBits, Ideal.ieee]
  rw [z]
  have e1 : FloatOps.subf (F := Ideal) (φ := .f32) (x : EReal) ((0 : ℝ) : EReal) = (x : EReal) := by
    show (x : EReal) - ((0 : ℝ) : EReal) = _
    rw [← EReal.coe_sub, sub_zero]
  rw [e1]
  have e2 : FloatOps.cmpf (F := Ideal) (φ := .f32) .une (x : EReal) (x : EReal) = 0#1 := by
    show BitVec.ofBool (decide ((x : EReal) ≠ x)) = 0#1
    simp
  rw [e2, show ∀ a b : Ideal .f32, Scalar.select (0#1) a b = b from fun _ _ => rfl]
  have e3 : FloatOps.hostAbsf (F := Ideal) (φ := .f32) (x : EReal) = ((|x| : ℝ) : EReal) := Cert.KernelIdeal.Stick.absf_coe x
  have e4 : FloatOps.hostNegf (F := Ideal) (φ := .f32) ((|x| : ℝ) : EReal) = ((-|x| : ℝ) : EReal) := (EReal.coe_neg _).symm
  have e5 : FloatOps.hostUnary (F := Ideal) (φ := .f32) .exp ((-|x| : ℝ) : EReal) = ((Real.exp (-|x|) : ℝ) : EReal) := rfl
  rw [e3, e4, e5, log1p_exp]
  show -(max (x : EReal) ((0 : ℝ) : EReal) + ((Real.log (1 + Real.exp (-|x|)) : ℝ) : EReal)) = _
  rw [coe_max, ← EReal.coe_add, ← EReal.coe_neg]
  rfl

theorem lsr_neg (x : ℝ) : lsr (-x) = x + lsr x := by
  unfold lsr
  rw [abs_neg]
  have : max (-x) 0 = max x 0 - x := by
    rcases le_total x 0 with h | h
    · rw [max_eq_left (by linarith), max_eq_right h]; ring
    · rw [max_eq_right (by linarith), max_eq_left h]; ring
  rw [this]; ring

/-! ## The stages -/

variable (x0 x1 x2 : Vec Ideal S8x4096x256 .f32)

theorem v7_at (f0 : Finite x0) (f1 : Finite x1) (b : Fin 8) (h : Fin 4) (t s : Fin 4096) :
    val_main_v7 (F := Ideal) x0 x1 (ix4 b h t s) = ((zR x0 x1 b.val h.val t.val s.val : ℝ) : EReal) := by
  pointwise [val_main_v7, val_main_v6, val_main_cst, val_main_v5, val_main_v0, val_main_v1]
  have e8 : Ideal.ofBits FTy.f32 1040187392#32 = ((1 / 8 : ℝ) : EReal) := by
    simp [Ideal.ofBits, Ideal.ieee, -EReal.coe_mul]
    norm_num
  have e : ∀ k : Fin 64, x0 (ix3 b t ⟨h.val * 64 + k.val, by omega⟩) * x1 (ix3 b s ⟨h.val * 64 + k.val, by omega⟩)
      = (((at3 x0 b.val h.val t.val k.val).toReal * (at3 x1 b.val h.val s.val k.val).toReal : ℝ) : EReal) := by
    intro k
    have a0 : ∀ (x : Vec Ideal S8x4096x256 .f32) (t : Fin 4096), at3 x b.val h.val t.val k.val = x (ix3 b t ⟨h.val * 64 + k.val, by omega⟩) := by
      intro x t; unfold at3; congr 2 <;> exact Fin.ext (by dsimp only; omega)
    rw [EReal.coe_mul, a0, a0, ← f0, ← f1]
  rw [Finset.sum_congr rfl fun k _ => e k, coe_sum, e8, ← EReal.coe_mul]
  rfl

theorem v12_at (t s : Fin 4096) : val_main_v12 (F := Ideal) (ix2 t s) = if s.val < t.val then 1#1 else 0#1 := by
  pointwise [val_main_v12, val_main_v10, val_main_v11, val_main_v8, val_main_v9, val_main_v3, val_main_v4]
  exact cmpi_slt_nat _ _ (by omega) (by omega)

theorem v14_at (i) (z : ℝ) (hz : val_main_v7 (F := Ideal) x0 x1 i = (z : EReal)) :
    val_main_v14 (F := Ideal) x0 x1 i = ((lsr z : ℝ) : EReal) := by
  have e : val_main_call0_v0 (F := Ideal) x0 x1 i = (z : EReal) := by
    show -(-(val_main_v7 (F := Ideal) x0 x1 i)) = _
    rw [hz, neg_neg]
  rw [← softplus_core, ← e]
  rfl

theorem v18_at (i) (z : ℝ) (hz : val_main_v7 (F := Ideal) x0 x1 i = (z : EReal)) :
    val_main_v18 (F := Ideal) x0 x1 i = ((z + lsr z : ℝ) : EReal) := by
  have e : val_main_call3_v0 (F := Ideal) x0 x1 i = ((-z : ℝ) : EReal) := by
    show -(val_main_v7 (F := Ideal) x0 x1 i) = _
    rw [hz, EReal.coe_neg]
  rw [← lsr_neg, ← softplus_core, ← e]
  rfl

theorem select_if {p : Prop} [Decidable p] (a b : EReal) : (Scalar.select (if p then 1#1 else 0#1) a b : EReal) = if p then a else b := by
  split <;> rfl

theorem v15_at (f0 : Finite x0) (f1 : Finite x1) (b : Fin 8) (h : Fin 4) (t s : Fin 4096) :
    val_main_v15 (F := Ideal) x0 x1 (ix4 b h t s) = ((lm (zR x0 x1 b.val h.val t.val) t.val s.val : ℝ) : EReal) := by
  rw [val_main_v15_apply, v14_at x0 x1 _ _ (v7_at x0 x1 f0 f1 b h t s)]
  have e1 : val_main_call1_v1 (F := Ideal) (ix4 b h t s) = if s.val < t.val then 1#1 else 0#1 := by
    rw [← v12_at]
    pointwise [val_main_call1_v1]
  have e2 : (val_main_call1_v2 (F := Ideal) (ix4 b h t s) : EReal) = ((0 : ℝ) : EReal) := by
    pointwise [val_main_call1_v2, val_main_call1_v0, val_main_cst_0]
    show Ideal.ofBits .f32 0x00000000#32 = _
    simp [Ideal.ofBits, Ideal.ieee]
  rw [e1, e2]
  unfold lm
  refine (select_if _ _).trans ?_
  split <;> rfl

theorem v17_at (f0 : Finite x0) (f1 : Finite x1) (b : Fin 8) (h : Fin 4) (t s : Fin 4096) :
    val_main_v17 (F := Ideal) x0 x1 (ix4 b h t s) = ((∑ s' ∈ Finset.Ico (s.val + 1) 4096, lm (zR x0 x1 b.val h.val t.val) t.val s' : ℝ) : EReal) := by
  have e : val_main_v16 (F := Ideal) x0 x1 (ix4 b h t s) = _ :=
    suffix_at (val_main_v15 (F := Ideal) x0 x1) (val_main_call2_v0 (F := Ideal)) (fun j => by
      show Ideal.ofBits .f32 0x00000000#32 = 0
      simp [Ideal.ofBits, Ideal.ieee]) _ _ b h t s (lm (zR x0 x1 b.val h.val t.val) t.val) (fun s => v15_at x0 x1 f0 f1 b h t s)
  rw [val_main_v17_apply, e, v15_at x0 x1 f0 f1]
  show (_ : EReal) - _ = _
  rw [← EReal.coe_sub, Finset.sum_eq_sum_Ico_succ_bot s.isLt, add_sub_cancel_left]

theorem v21_at (f0 : Finite x0) (f1 : Finite x1) (b : Fin 8) (h : Fin 4) (t s : Fin 4096) :
    val_main_v21 (F := Ideal) x0 x1 (ix4 b h t s) = ((wt (zR x0 x1 b.val h.val t.val) t.val 4096 s.val : ℝ) : EReal) := by
  have e1 : val_main_call4_v1 (F := Ideal) (ix4 b h t s) = if s.val < t.val then 1#1 else 0#1 := by
    rw [← v12_at]
    pointwise [val_main_call4_v1]
  have e2 : (val_main_call4_v2 (F := Ideal) (ix4 b h t s) : EReal) = ((0 : ℝ) : EReal) := by
    pointwise [val_main_call4_v2, val_main_call4_v0, val_main_cst_1]
    show Ideal.ofBits .f32 0x00000000#32 = _
    simp [Ideal.ofBits, Ideal.ieee]
  have e3 : val_main_v20 (F := Ideal) x0 x1 (ix4 b h t s) = ((Real.exp (zR x0 x1 b.val h.val t.val s.val + lsr (zR x0 x1 b.val h.val t.val s.val)
      + ∑ s' ∈ Finset.Ico (s.val + 1) 4096, lm (zR x0 x1 b.val h.val t.val) t.val s') : ℝ) : EReal) := by
    rw [val_main_v20_apply, val_main_v19_apply, v17_at x0 x1 f0 f1, v18_at x0 x1 _ _ (v7_at x0 x1 f0 f1 b h t s)]
    rw [← exp_coe, EReal.coe_add _ (∑ s' ∈ Finset.Ico (s.val + 1) 4096, lm (zR x0 x1 b.val h.val t.val) t.val s')]
    rfl
  rw [val_main_v21_apply, e1, e2, e3]
  unfold wt
  refine (select_if _ _).trans ?_
  split <;> rfl

/-- The reference's result at an index. -/
theorem v26_at (f0 : Finite x0) (f1 : Finite x1) :
    val_main_v26 (F := Ideal) x0 x1 x2 = stickRows x0 x1 x2 := by
  funext j
  idx_vars j
  have e : val_main_v26 (F := Ideal) x0 x1 x2 (ix3 j0 j1 j2)
      = val_main_v22 (F := Ideal) x0 x1 x2 (ix4 ⟨j1.val / 4096, by omega⟩ j0 j2 ⟨j1.val % 4096, by omega⟩) := by
    pointwise [val_main_v26, val_main_v25, val_main_v24, val_main_v23]
  rw [e]
  have e' : val_main_v22 (F := Ideal) x0 x1 x2 (ix4 ⟨j1.val / 4096, by omega⟩ j0 j2 ⟨j1.val % 4096, by omega⟩)
     = ∑ k : Fin 4096, at3 x2 (j1.val / 4096) j0.val k.val j2.val * val_main_v21 (F := Ideal) x0 x1 (ix4 ⟨j1.val / 4096, by omega⟩ j0 ⟨j1.val % 4096, by omega⟩ k) := by
    pointwise [val_main_v22, val_main_v2]
    refine Finset.sum_congr rfl fun k _ => ?_
    unfold at3
    congr 3 <;> exact Fin.ext (by dsimp only; omega)
  rw [e']
  show _ = stick x0 x1 x2 (j1.val / 4096) j0.val (j1.val % 4096) j2.val
  unfold stick
  rw [← Finset.range_eq_Ico, ← Fin.sum_univ_eq_sum_range (fun s => ((wt (zR x0 x1 (j1.val / 4096) j0.val (j1.val % 4096)) (j1.val % 4096) 4096 s : ℝ) : EReal) * at3 x2 (j1.val / 4096) j0.val s j2.val) 4096]
  refine Finset.sum_congr rfl fun k _ => ?_
  rw [v21_at x0 x1 f0 f1, mul_comm]

end Cert.ReferenceIdeal.Stick
-- ==== Proof.Finite.lean ====
/- The precondition read: the queries and the keys are real numbers. -/
module

public import proofs.«01_k».proof.Defs
public import proofs.«01_k».proof.Proof.RefRead
public import Idealize.ShloMosaic.Lib.ReduceAll

@[expose] public section
noncomputable section
namespace Cert.Pre_finite_queries_keys.Stick

open Cert.Pre_finite_queries_keys Idealize.ShloMosaic Idealize.SL.Sem

/-- The side conditions of the precondition's operations. -/
theorem facts : Facts where
  bcast_S_S8x4096x256 := by decide
  reducesTo_S8x4096x256_S_d0_1_2 := by decide
  h_S_ := by decide

instance : Subsingleton S_.Idx := ⟨fun a b => funext fun i => i.elim0⟩

theorem finite_of_lt (x : EReal) (h : (FloatOps.cmpf (F := Ideal) (φ := .f32) .olt (FloatOps.hostAbsf (F := Ideal) (φ := .f32) x) (FloatOps.ofBits .f32 0x7F800000#32)) = 1#1) :
    x = (x.toReal : EReal) := by
  have top : (FloatOps.ofBits (F := Ideal) .f32 0x7F800000#32 : EReal) = ⊤ := by
    show Ideal.ofBits .f32 0x7F800000#32 = _
    simp [Ideal.ofBits, Ideal.ieee]
  rw [top] at h
  have hlt : max x (-x) < ⊤ := by
    by_contra hn
    have : (FloatOps.cmpf (F := Ideal) (φ := .f32) .olt (FloatOps.hostAbsf (F := Ideal) (φ := .f32) x) ⊤) = 0#1 := by
      show BitVec.ofBool (decide (max x (-x) < ⊤)) = 0#1
      simp [hn]
    rw [this] at h
    exact absurd h (by decide)
  refine (EReal.coe_toReal (fun e => ?_) (fun e => ?_)).symm
  · subst e; simp at hlt
  · subst e; simp at hlt

theorem finite [Facts] (x0 x1 x2 : FVec Ideal S8x4096x256 .f32) (h : fn (F := Ideal) x0 x1 x2 = fun _ => 1#1) :
    (∀ j, x0 j = ((x0 j : EReal).toReal : EReal)) ∧ ∀ j, x1 j = ((x1 j : EReal).toReal : EReal) := by
  have h0 := congrFun h (fun a => a.elim0)
  unfold fn at h0
  obtain ⟨ha, hb⟩ := IntOp.andi_eq_one.1 h0
  exact ⟨fun j => finite_of_lt _ (Host.reduce_andi_all _ _ _ _ _ ha j), fun j => finite_of_lt _ (Host.reduce_andi_all _ _ _ _ _ hb j)⟩

end Cert.Pre_finite_queries_keys.Stick
-- ==== Proof.Moe.Logic.lean ====
module

public import proofs.«01_k».proof.Proof.Gen.Kernel2Ideal.Skeleton
public import proofs.«01_k».proof.Proof.Gen.Kernel2Ideal.Launch

@[expose] public section

set_option maxRecDepth 16384

noncomputable section

namespace Cert.Kernel2Ideal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel2Ideal Cert.Kernel2Ideal.Gen

variable {F : FTy → Type} [FloatOps F]

local notation "𝕄" => MT nD τ sig Unit (Elt F) ℕ (UR sig nD τ) ℕ

/-- What the buffers of the kernel's body hold: the two tables, the blocks of the inputs, the
    block of the output and the scratches. -/
structure State (F : FTy → Type) where
  a3 : Vec F S256 .i32
  a4 : Vec F S256 .i32
  a5 : Vec F S1024x1024 .f32
  a6 : Vec F S1x1024 .f32
  a7 : Vec F S1x1x1024 .f32
  a8 : Vec F S1x1x1024 .f32
  a9 : Vec F S1x1x1024 .f32
  a10 : Vec F S1024x128 .f32
  a11 : Vec F S1x1024x896 .bf16
  a12 : Vec F S1x1024x896 .bf16
  a13 : Vec F S1x896x1024 .bf16
  a14 : Vec F S1x1024 .f32
  a15 : Vec F S1024x1024 .f32
  a16 : Vec F S1024x1024 .bf16
  a17 : Vec F S1024x1024 .bf16
  a18 : Vec F S1024x128 .f32
  a19 : Vec F S128x1024 .f32
  a20 : Vec F S1024x1024 .bf16
  a21 : Vec F S1024x1024 .f32
  a22 : Vec F S1024x1024 .f32

variable (c : Dev nD)
  (arg3 : Memref sig .tc .smem S256 .i32) (harg3 : arg3.IsWhole)
  (arg4 : Memref sig .tc .smem S256 .i32) (harg4 : arg4.IsWhole)
  (arg5 : Memref sig .tc .vmem S1024x1024 .f32) (harg5 : arg5.IsWhole)
  (arg6 : Memref sig .tc .vmem S1x1024 .f32) (harg6 : arg6.IsWhole)
  (arg7 : Memref sig .tc .vmem S1x1x1024 .f32) (harg7 : arg7.IsWhole)
  (arg8 : Memref sig .tc .vmem S1x1x1024 .f32) (harg8 : arg8.IsWhole)
  (arg9 : Memref sig .tc .vmem S1x1x1024 .f32) (harg9 : arg9.IsWhole)
  (arg10 : Memref sig .tc .vmem S1024x128 .f32) (harg10 : arg10.IsWhole)
  (arg11 : Memref sig .tc .vmem S1x1024x896 .bf16) (harg11 : arg11.IsWhole)
  (arg12 : Memref sig .tc .vmem S1x1024x896 .bf16) (harg12 : arg12.IsWhole)
  (arg13 : Memref sig .tc .vmem S1x896x1024 .bf16) (harg13 : arg13.IsWhole)
  (arg14 : Memref sig .tc .vmem S1x1024 .f32) (harg14 : arg14.IsWhole)
  (arg15 : Memref sig .tc .vmem S1024x1024 .f32) (harg15 : arg15.IsWhole)
  (arg16 : Memref sig .tc .vmem S1024x1024 .bf16) (harg16 : arg16.IsWhole)
  (arg17 : Memref sig .tc .vmem S1024x1024 .bf16) (harg17 : arg17.IsWhole)
  (arg18 : Memref sig .tc .vmem S1024x128 .f32) (harg18 : arg18.IsWhole)
  (arg19 : Memref sig .tc .vmem S128x1024 .f32) (harg19 : arg19.IsWhole)
  (arg20 : Memref sig .tc .vmem S1024x1024 .bf16) (harg20 : arg20.IsWhole)
  (arg21 : Memref sig .tc .vmem S1024x1024 .f32) (harg21 : arg21.IsWhole)
  (arg22 : Memref sig .tc .vmem S1024x1024 .f32) (harg22 : arg22.IsWhole)

/-- The buffers held at the contents a state names. -/
def Own (S : State F) : sProp 𝕄 :=
  iprop(owns (c : Thread nD τ) arg3 fullShare.right S.a3 ∗ owns (c : Thread nD τ) arg4 fullShare.right S.a4 ∗ owns (c : Thread nD τ) arg5 fullShare S.a5 ∗ owns (c : Thread nD τ) arg6 fullShare S.a6 ∗ owns (c : Thread nD τ) arg7 fullShare S.a7 ∗ owns (c : Thread nD τ) arg8 fullShare S.a8 ∗ owns (c : Thread nD τ) arg9 fullShare S.a9 ∗ owns (c : Thread nD τ) arg10 fullShare S.a10 ∗ owns (c : Thread nD τ) arg11 fullShare S.a11 ∗ owns (c : Thread nD τ) arg12 fullShare S.a12 ∗ owns (c : Thread nD τ) arg13 fullShare S.a13 ∗ owns (c : Thread nD τ) arg14 fullShare S.a14 ∗ owns (c : Thread nD τ) arg15 fullShare S.a15 ∗ owns (c : Thread nD τ) arg16 fullShare S.a16 ∗ owns (c : Thread nD τ) arg17 fullShare S.a17 ∗ owns (c : Thread nD τ) arg18 fullShare S.a18 ∗ owns (c : Thread nD τ) arg19 fullShare S.a19 ∗ owns (c : Thread nD τ) arg20 fullShare S.a20 ∗ owns (c : Thread nD τ) arg21 fullShare S.a21 ∗ owns (c : Thread nD τ) arg22 fullShare S.a22)

theorem own_acc3 (S : State F) : Own c arg3 arg4 arg5 arg6 arg7 arg8 arg9 arg10 arg11 arg12 arg13 arg14 arg15 arg16 arg17 arg18 arg19 arg20 arg21 arg22 S
    ⊢ iprop(owns (c : Thread nD τ) arg3 fullShare.right S.a3 ∗ (∀ X, owns (c : Thread nD τ) arg3 fullShare.right X -∗ Own c arg3 arg4 arg5 arg6 arg7 arg8 arg9 arg10 arg11 arg12 arg13 arg14 arg15 arg16 arg17 arg18 arg19 arg20 arg21 arg22 { S with a3 := X })) := by
  unfold Own
  iintro ⟨H3, H4, H5, H6, H7, H8, H9, H10, H11, H12, H13, H14, H15, H16, H17, H18, H19, H20, H21, H22⟩
  isplitl [H3]
  · iexact H3
  iintro %X HX
  isplitl [HX]
  · iexact HX
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  isplitl [H14]
  · iexact H14
  isplitl [H15]
  · iexact H15
  isplitl [H16]
  · iexact H16
  isplitl [H17]
  · iexact H17
  isplitl [H18]
  · iexact H18
  isplitl [H19]
  · iexact H19
  isplitl [H20]
  · iexact H20
  isplitl [H21]
  · iexact H21
  iexact H22

theorem own_acc4 (S : State F) : Own c arg3 arg4 arg5 arg6 arg7 arg8 arg9 arg10 arg11 arg12 arg13 arg14 arg15 arg16 arg17 arg18 arg19 arg20 arg21 arg22 S
    ⊢ iprop(owns (c : Thread nD τ) arg4 fullShare.right S.a4 ∗ (∀ X, owns (c : Thread nD τ) arg4 fullShare.right X -∗ Own c arg3 arg4 arg5 arg6 arg7 arg8 arg9 arg10 arg11 arg12 arg13 arg14 arg15 arg16 arg17 arg18 arg19 arg20 arg21 arg22 { S with a4 := X })) := by
  unfold Own
  iintro ⟨H3, H4, H5, H6, H7, H8, H9, H10, H11, H12, H13, H14, H15, H16, H17, H18, H19, H20, H21, H22⟩
  isplitl [H4]
  · iexact H4
  iintro %X HX
  isplitl [H3]
  · iexact H3
  isplitl [HX]
  · iexact HX
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  isplitl [H14]
  · iexact H14
  isplitl [H15]
  · iexact H15
  isplitl [H16]
  · iexact H16
  isplitl [H17]
  · iexact H17
  isplitl [H18]
  · iexact H18
  isplitl [H19]
  · iexact H19
  isplitl [H20]
  · iexact H20
  isplitl [H21]
  · iexact H21
  iexact H22

theorem own_acc5 (S : State F) : Own c arg3 arg4 arg5 arg6 arg7 arg8 arg9 arg10 arg11 arg12 arg13 arg14 arg15 arg16 arg17 arg18 arg19 arg20 arg21 arg22 S
    ⊢ iprop(owns (c : Thread nD τ) arg5 fullShare S.a5 ∗ (∀ X, owns (c : Thread nD τ) arg5 fullShare X -∗ Own c arg3 arg4 arg5 arg6 arg7 arg8 arg9 arg10 arg11 arg12 arg13 arg14 arg15 arg16 arg17 arg18 arg19 arg20 arg21 arg22 { S with a5 := X })) := by
  unfold Own
  iintro ⟨H3, H4, H5, H6, H7, H8, H9, H10, H11, H12, H13, H14, H15, H16, H17, H18, H19, H20, H21, H22⟩
  isplitl [H5]
  · iexact H5
  iintro %X HX
  isplitl [H3]
  · iexact H3
  isplitl [H4]
  · iexact H4
  isplitl [HX]
  · iexact HX
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  isplitl [H14]
  · iexact H14
  isplitl [H15]
  · iexact H15
  isplitl [H16]
  · iexact H16
  isplitl [H17]
  · iexact H17
  isplitl [H18]
  · iexact H18
  isplitl [H19]
  · iexact H19
  isplitl [H20]
  · iexact H20
  isplitl [H21]
  · iexact H21
  iexact H22

theorem own_acc6 (S : State F) : Own c arg3 arg4 arg5 arg6 arg7 arg8 arg9 arg10 arg11 arg12 arg13 arg14 arg15 arg16 arg17 arg18 arg19 arg20 arg21 arg22 S
    ⊢ iprop(owns (c : Thread nD τ) arg6 fullShare S.a6 ∗ (∀ X, owns (c : Thread nD τ) arg6 fullShare X -∗ Own c arg3 arg4 arg5 arg6 arg7 arg8 arg9 arg10 arg11 arg12 arg13 arg14 arg15 arg16 arg17 arg18 arg19 arg20 arg21 arg22 { S with a6 := X })) := by
  unfold Own
  iintro ⟨H3, H4, H5, H6, H7, H8, H9, H10, H11, H12, H13, H14, H15, H16, H17, H18, H19, H20, H21, H22⟩
  isplitl [H6]
  · iexact H6
  iintro %X HX
  isplitl [H3]
  · iexact H3
  isplitl [H4]
  · iexact H4
  isplitl [H5]
  · iexact H5
  isplitl [HX]
  · iexact HX
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  isplitl [H14]
  · iexact H14
  isplitl [H15]
  · iexact H15
  isplitl [H16]
  · iexact H16
  isplitl [H17]
  · iexact H17
  isplitl [H18]
  · iexact H18
  isplitl [H19]
  · iexact H19
  isplitl [H20]
  · iexact H20
  isplitl [H21]
  · iexact H21
  iexact H22

theorem own_acc7 (S : State F) : Own c arg3 arg4 arg5 arg6 arg7 arg8 arg9 arg10 arg11 arg12 arg13 arg14 arg15 arg16 arg17 arg18 arg19 arg20 arg21 arg22 S
    ⊢ iprop(owns (c : Thread nD τ) arg7 fullShare S.a7 ∗ (∀ X, owns (c : Thread nD τ) arg7 fullShare X -∗ Own c arg3 arg4 arg5 arg6 arg7 arg8 arg9 arg10 arg11 arg12 arg13 arg14 arg15 arg16 arg17 arg18 arg19 arg20 arg21 arg22 { S with a7 := X })) := by
  unfold Own
  iintro ⟨H3, H4, H5, H6, H7, H8, H9, H10, H11, H12, H13, H14, H15, H16, H17, H18, H19, H20, H21, H22⟩
  isplitl [H7]
  · iexact H7
  iintro %X HX
  isplitl [H3]
  · iexact H3
  isplitl [H4]
  · iexact H4
  isplitl [H5]
  · iexact H5
  isplitl [H6]
  · iexact H6
  isplitl [HX]
  · iexact HX
  isplitl [H8]
  · iexact H8
  isplitl [H9]
  · iexact H9
  isplitl [H10]
  · iexact H10
  isplitl [H11]
  · iexact H11
  isplitl [H12]
  · iexact H12
  isplitl [H13]
  · iexact H13
  isplitl [H14]
  · iexact H14
  isplitl [H15]
  · iexact H15
  isplitl [H16]
  · iexact H16
  isplitl [H17]
  · iexact H17
  isplitl [H18]
  · iexact H18
  isplitl [H19]
  · iexact H19
  isplitl [H20]
  · iexact H20
  isplitl [H21]
  · iexact H21
  iexact H22

theorem own_acc8 (S : State F) : Own c arg3 arg4 arg5 arg6 arg7 arg8 arg9 arg10 arg11 arg12 arg13 arg14 arg15 arg16 arg17 arg18 arg19 arg20 arg21 arg22 S
    ⊢ iprop(owns (c : Thread nD τ) arg8 fullShare S.a8 ∗ (∀ X, owns (c : Thread nD τ) arg8 fullShare X -∗ Own c arg3 arg4 arg5 arg6 arg7 arg8 arg9 arg10 arg11 arg12 arg13 arg14 arg15 arg16 arg17 arg18 arg19 arg20 arg21 arg22 { S with a8 := X })) := by
  unfold Own
  iintro ⟨H3, H4, H5, H6, H7, H8, H9, H10, H11, H12, H13, H14, H15, H16, H17, H18, H19, H20, H21, H22⟩
  isplitl [H8]
  · iexact H8
  iintro %X HX
  isplitl [H3]
  · iexact H3
  isplitl [H4]
  · iexact H4
  isplitl [H5]
  · iexact H5
  isplitl [H6]
  · iexact H6
  isplitl [H7]
  · iexact H7
  isplitl [HX]
  · iexact HX
  isplitl [H9]
  · iexact H9
  isplitl [H10]
  · iexact H10
  isplitl [H11]
  · iexact H11
  isplitl [H12]
  · iexact H12
  isplitl [H13]
  · iexact H13
  isplitl [H14]
  · iexact H14
  isplitl [H15]
  · iexact H15
  isplitl [H16]
  · iexact H16
  isplitl [H17]
  · iexact H17
  isplitl [H18]
  · iexact H18
  isplitl [H19]
  · iexact H19
  isplitl [H20]
  · iexact H20
  isplitl [H21]
  · iexact H21
  iexact H22

theorem own_acc9 (S : State F) : Own c arg3 arg4 arg5 arg6 arg7 arg8 arg9 arg10 arg11 arg12 arg13 arg14 arg15 arg16 arg17 arg18 arg19 arg20 arg21 arg22 S
    ⊢ iprop(owns (c : Thread nD τ) arg9 fullShare S.a9 ∗ (∀ X, owns (c : Thread nD τ) arg9 fullShare X -∗ Own c arg3 arg4 arg5 arg6 arg7 arg8 arg9 arg10 arg11 arg12 arg13 arg14 arg15 arg16 arg17 arg18 arg19 arg20 arg21 arg22 { S with a9 := X })) := by
  unfold Own
  iintro ⟨H3, H4, H5, H6, H7, H8, H9, H10, H11, H12, H13, H14, H15, H16, H17, H18, H19, H20, H21, H22⟩
  isplitl [H9]
  · iexact H9
  iintro %X HX
  isplitl [H3]
  · iexact H3
  isplitl [H4]
  · iexact H4
  isplitl [H5]
  · iexact H5
  isplitl [H6]
  · iexact H6
  isplitl [H7]
  · iexact H7
  isplitl [H8]
  · iexact H8
  isplitl [HX]
  · iexact HX
  isplitl [H10]
  · iexact H10
  isplitl [H11]
  · iexact H11
  isplitl [H12]
  · iexact H12
  isplitl [H13]
  · iexact H13
  isplitl [H14]
  · iexact H14
  isplitl [H15]
  · iexact H15
  isplitl [H16]
  · iexact H16
  isplitl [H17]
  · iexact H17
  isplitl [H18]
  · iexact H18
  isplitl [H19]
  · iexact H19
  isplitl [H20]
  · iexact H20
  isplitl [H21]
  · iexact H21
  iexact H22

theorem own_acc10 (S : State F) : Own c arg3 arg4 arg5 arg6 arg7 arg8 arg9 arg10 arg11 arg12 arg13 arg14 arg15 arg16 arg17 arg18 arg19 arg20 arg21 arg22 S
    ⊢ iprop(owns (c : Thread nD τ) arg10 fullShare S.a10 ∗ (∀ X, owns (c : Thread nD τ) arg10 fullShare X -∗ Own c arg3 arg4 arg5 arg6 arg7 arg8 arg9 arg10 arg11 arg12 arg13 arg14 arg15 arg16 arg17 arg18 arg19 arg20 arg21 arg22 { S with a10 := X })) := by
  unfold Own
  iintro ⟨H3, H4, H5, H6, H7, H8, H9, H10, H11, H12, H13, H14, H15, H16, H17, H18, H19, H20, H21, H22⟩
  isplitl [H10]
  · iexact H10
  iintro %X HX
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [HX]
  · iexact HX
  isplitl [H11]
  · iexact H11
  isplitl [H12]
  · iexact H12
  isplitl [H13]
  · iexact H13
  isplitl [H14]
  · iexact H14
  isplitl [H15]
  · iexact H15
  isplitl [H16]
  · iexact H16
  isplitl [H17]
  · iexact H17
  isplitl [H18]
  · iexact H18
  isplitl [H19]
  · iexact H19
  isplitl [H20]
  · iexact H20
  isplitl [H21]
  · iexact H21
  iexact H22

theorem own_acc11 (S : State F) : Own c arg3 arg4 arg5 arg6 arg7 arg8 arg9 arg10 arg11 arg12 arg13 arg14 arg15 arg16 arg17 arg18 arg19 arg20 arg21 arg22 S
    ⊢ iprop(owns (c : Thread nD τ) arg11 fullShare S.a11 ∗ (∀ X, owns (c : Thread nD τ) arg11 fullShare X -∗ Own c arg3 arg4 arg5 arg6 arg7 arg8 arg9 arg10 arg11 arg12 arg13 arg14 arg15 arg16 arg17 arg18 arg19 arg20 arg21 arg22 { S with a11 := X })) := by
  unfold Own
  iintro ⟨H3, H4, H5, H6, H7, H8, H9, H10, H11, H12, H13, H14, H15, H16, H17, H18, H19, H20, H21, H22⟩
  isplitl [H11]
  · iexact H11
  iintro %X HX
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [HX]
  · iexact HX
  isplitl [H12]
  · iexact H12
  isplitl [H13]
  · iexact H13
  isplitl [H14]
  · iexact H14
  isplitl [H15]
  · iexact H15
  isplitl [H16]
  · iexact H16
  isplitl [H17]
  · iexact H17
  isplitl [H18]
  · iexact H18
  isplitl [H19]
  · iexact H19
  isplitl [H20]
  · iexact H20
  isplitl [H21]
  · iexact H21
  iexact H22

theorem own_acc12 (S : State F) : Own c arg3 arg4 arg5 arg6 arg7 arg8 arg9 arg10 arg11 arg12 arg13 arg14 arg15 arg16 arg17 arg18 arg19 arg20 arg21 arg22 S
    ⊢ iprop(owns (c : Thread nD τ) arg12 fullShare S.a12 ∗ (∀ X, owns (c : Thread nD τ) arg12 fullShare X -∗ Own c arg3 arg4 arg5 arg6 arg7 arg8 arg9 arg10 arg11 arg12 arg13 arg14 arg15 arg16 arg17 arg18 arg19 arg20 arg21 arg22 { S with a12 := X })) := by
  unfold Own
  iintro ⟨H3, H4, H5, H6, H7, H8, H9, H10, H11, H12, H13, H14, H15, H16, H17, H18, H19, H20, H21, H22⟩
  isplitl [H12]
  · iexact H12
  iintro %X HX
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [HX]
  · iexact HX
  isplitl [H13]
  · iexact H13
  isplitl [H14]
  · iexact H14
  isplitl [H15]
  · iexact H15
  isplitl [H16]
  · iexact H16
  isplitl [H17]
  · iexact H17
  isplitl [H18]
  · iexact H18
  isplitl [H19]
  · iexact H19
  isplitl [H20]
  · iexact H20
  isplitl [H21]
  · iexact H21
  iexact H22

theorem own_acc13 (S : State F) : Own c arg3 arg4 arg5 arg6 arg7 arg8 arg9 arg10 arg11 arg12 arg13 arg14 arg15 arg16 arg17 arg18 arg19 arg20 arg21 arg22 S
    ⊢ iprop(owns (c : Thread nD τ) arg13 fullShare S.a13 ∗ (∀ X, owns (c : Thread nD τ) arg13 fullShare X -∗ Own c arg3 arg4 arg5 arg6 arg7 arg8 arg9 arg10 arg11 arg12 arg13 arg14 arg15 arg16 arg17 arg18 arg19 arg20 arg21 arg22 { S with a13 := X })) := by
  unfold Own
  iintro ⟨H3, H4, H5, H6, H7, H8, H9, H10, H11, H12, H13, H14, H15, H16, H17, H18, H19, H20, H21, H22⟩
  isplitl [H13]
  · iexact H13
  iintro %X HX
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [HX]
  · iexact HX
  isplitl [H14]
  · iexact H14
  isplitl [H15]
  · iexact H15
  isplitl [H16]
  · iexact H16
  isplitl [H17]
  · iexact H17
  isplitl [H18]
  · iexact H18
  isplitl [H19]
  · iexact H19
  isplitl [H20]
  · iexact H20
  isplitl [H21]
  · iexact H21
  iexact H22

theorem own_acc14 (S : State F) : Own c arg3 arg4 arg5 arg6 arg7 arg8 arg9 arg10 arg11 arg12 arg13 arg14 arg15 arg16 arg17 arg18 arg19 arg20 arg21 arg22 S
    ⊢ iprop(owns (c : Thread nD τ) arg14 fullShare S.a14 ∗ (∀ X, owns (c : Thread nD τ) arg14 fullShare X -∗ Own c arg3 arg4 arg5 arg6 arg7 arg8 arg9 arg10 arg11 arg12 arg13 arg14 arg15 arg16 arg17 arg18 arg19 arg20 arg21 arg22 { S with a14 := X })) := by
  unfold Own
  iintro ⟨H3, H4, H5, H6, H7, H8, H9, H10, H11, H12, H13, H14, H15, H16, H17, H18, H19, H20, H21, H22⟩
  isplitl [H14]
  · iexact H14
  iintro %X HX
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  isplitl [HX]
  · iexact HX
  isplitl [H15]
  · iexact H15
  isplitl [H16]
  · iexact H16
  isplitl [H17]
  · iexact H17
  isplitl [H18]
  · iexact H18
  isplitl [H19]
  · iexact H19
  isplitl [H20]
  · iexact H20
  isplitl [H21]
  · iexact H21
  iexact H22

theorem own_acc15 (S : State F) : Own c arg3 arg4 arg5 arg6 arg7 arg8 arg9 arg10 arg11 arg12 arg13 arg14 arg15 arg16 arg17 arg18 arg19 arg20 arg21 arg22 S
    ⊢ iprop(owns (c : Thread nD τ) arg15 fullShare S.a15 ∗ (∀ X, owns (c : Thread nD τ) arg15 fullShare X -∗ Own c arg3 arg4 arg5 arg6 arg7 arg8 arg9 arg10 arg11 arg12 arg13 arg14 arg15 arg16 arg17 arg18 arg19 arg20 arg21 arg22 { S with a15 := X })) := by
  unfold Own
  iintro ⟨H3, H4, H5, H6, H7, H8, H9, H10, H11, H12, H13, H14, H15, H16, H17, H18, H19, H20, H21, H22⟩
  isplitl [H15]
  · iexact H15
  iintro %X HX
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  isplitl [H14]
  · iexact H14
  isplitl [HX]
  · iexact HX
  isplitl [H16]
  · iexact H16
  isplitl [H17]
  · iexact H17
  isplitl [H18]
  · iexact H18
  isplitl [H19]
  · iexact H19
  isplitl [H20]
  · iexact H20
  isplitl [H21]
  · iexact H21
  iexact H22

theorem own_acc16 (S : State F) : Own c arg3 arg4 arg5 arg6 arg7 arg8 arg9 arg10 arg11 arg12 arg13 arg14 arg15 arg16 arg17 arg18 arg19 arg20 arg21 arg22 S
    ⊢ iprop(owns (c : Thread nD τ) arg16 fullShare S.a16 ∗ (∀ X, owns (c : Thread nD τ) arg16 fullShare X -∗ Own c arg3 arg4 arg5 arg6 arg7 arg8 arg9 arg10 arg11 arg12 arg13 arg14 arg15 arg16 arg17 arg18 arg19 arg20 arg21 arg22 { S with a16 := X })) := by
  unfold Own
  iintro ⟨H3, H4, H5, H6, H7, H8, H9, H10, H11, H12, H13, H14, H15, H16, H17, H18, H19, H20, H21, H22⟩
  isplitl [H16]
  · iexact H16
  iintro %X HX
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  isplitl [H14]
  · iexact H14
  isplitl [H15]
  · iexact H15
  isplitl [HX]
  · iexact HX
  isplitl [H17]
  · iexact H17
  isplitl [H18]
  · iexact H18
  isplitl [H19]
  · iexact H19
  isplitl [H20]
  · iexact H20
  isplitl [H21]
  · iexact H21
  iexact H22

theorem own_acc17 (S : State F) : Own c arg3 arg4 arg5 arg6 arg7 arg8 arg9 arg10 arg11 arg12 arg13 arg14 arg15 arg16 arg17 arg18 arg19 arg20 arg21 arg22 S
    ⊢ iprop(owns (c : Thread nD τ) arg17 fullShare S.a17 ∗ (∀ X, owns (c : Thread nD τ) arg17 fullShare X -∗ Own c arg3 arg4 arg5 arg6 arg7 arg8 arg9 arg10 arg11 arg12 arg13 arg14 arg15 arg16 arg17 arg18 arg19 arg20 arg21 arg22 { S with a17 := X })) := by
  unfold Own
  iintro ⟨H3, H4, H5, H6, H7, H8, H9, H10, H11, H12, H13, H14, H15, H16, H17, H18, H19, H20, H21, H22⟩
  isplitl [H17]
  · iexact H17
  iintro %X HX
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  isplitl [H14]
  · iexact H14
  isplitl [H15]
  · iexact H15
  isplitl [H16]
  · iexact H16
  isplitl [HX]
  · iexact HX
  isplitl [H18]
  · iexact H18
  isplitl [H19]
  · iexact H19
  isplitl [H20]
  · iexact H20
  isplitl [H21]
  · iexact H21
  iexact H22

theorem own_acc18 (S : State F) : Own c arg3 arg4 arg5 arg6 arg7 arg8 arg9 arg10 arg11 arg12 arg13 arg14 arg15 arg16 arg17 arg18 arg19 arg20 arg21 arg22 S
    ⊢ iprop(owns (c : Thread nD τ) arg18 fullShare S.a18 ∗ (∀ X, owns (c : Thread nD τ) arg18 fullShare X -∗ Own c arg3 arg4 arg5 arg6 arg7 arg8 arg9 arg10 arg11 arg12 arg13 arg14 arg15 arg16 arg17 arg18 arg19 arg20 arg21 arg22 { S with a18 := X })) := by
  unfold Own
  iintro ⟨H3, H4, H5, H6, H7, H8, H9, H10, H11, H12, H13, H14, H15, H16, H17, H18, H19, H20, H21, H22⟩
  isplitl [H18]
  · iexact H18
  iintro %X HX
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  isplitl [H14]
  · iexact H14
  isplitl [H15]
  · iexact H15
  isplitl [H16]
  · iexact H16
  isplitl [H17]
  · iexact H17
  isplitl [HX]
  · iexact HX
  isplitl [H19]
  · iexact H19
  isplitl [H20]
  · iexact H20
  isplitl [H21]
  · iexact H21
  iexact H22

theorem own_acc19 (S : State F) : Own c arg3 arg4 arg5 arg6 arg7 arg8 arg9 arg10 arg11 arg12 arg13 arg14 arg15 arg16 arg17 arg18 arg19 arg20 arg21 arg22 S
    ⊢ iprop(owns (c : Thread nD τ) arg19 fullShare S.a19 ∗ (∀ X, owns (c : Thread nD τ) arg19 fullShare X -∗ Own c arg3 arg4 arg5 arg6 arg7 arg8 arg9 arg10 arg11 arg12 arg13 arg14 arg15 arg16 arg17 arg18 arg19 arg20 arg21 arg22 { S with a19 := X })) := by
  unfold Own
  iintro ⟨H3, H4, H5, H6, H7, H8, H9, H10, H11, H12, H13, H14, H15, H16, H17, H18, H19, H20, H21, H22⟩
  isplitl [H19]
  · iexact H19
  iintro %X HX
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  isplitl [H14]
  · iexact H14
  isplitl [H15]
  · iexact H15
  isplitl [H16]
  · iexact H16
  isplitl [H17]
  · iexact H17
  isplitl [H18]
  · iexact H18
  isplitl [HX]
  · iexact HX
  isplitl [H20]
  · iexact H20
  isplitl [H21]
  · iexact H21
  iexact H22

theorem own_acc20 (S : State F) : Own c arg3 arg4 arg5 arg6 arg7 arg8 arg9 arg10 arg11 arg12 arg13 arg14 arg15 arg16 arg17 arg18 arg19 arg20 arg21 arg22 S
    ⊢ iprop(owns (c : Thread nD τ) arg20 fullShare S.a20 ∗ (∀ X, owns (c : Thread nD τ) arg20 fullShare X -∗ Own c arg3 arg4 arg5 arg6 arg7 arg8 arg9 arg10 arg11 arg12 arg13 arg14 arg15 arg16 arg17 arg18 arg19 arg20 arg21 arg22 { S with a20 := X })) := by
  unfold Own
  iintro ⟨H3, H4, H5, H6, H7, H8, H9, H10, H11, H12, H13, H14, H15, H16, H17, H18, H19, H20, H21, H22⟩
  isplitl [H20]
  · iexact H20
  iintro %X HX
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  isplitl [H14]
  · iexact H14
  isplitl [H15]
  · iexact H15
  isplitl [H16]
  · iexact H16
  isplitl [H17]
  · iexact H17
  isplitl [H18]
  · iexact H18
  isplitl [H19]
  · iexact H19
  isplitl [HX]
  · iexact HX
  isplitl [H21]
  · iexact H21
  iexact H22

theorem own_acc21 (S : State F) : Own c arg3 arg4 arg5 arg6 arg7 arg8 arg9 arg10 arg11 arg12 arg13 arg14 arg15 arg16 arg17 arg18 arg19 arg20 arg21 arg22 S
    ⊢ iprop(owns (c : Thread nD τ) arg21 fullShare S.a21 ∗ (∀ X, owns (c : Thread nD τ) arg21 fullShare X -∗ Own c arg3 arg4 arg5 arg6 arg7 arg8 arg9 arg10 arg11 arg12 arg13 arg14 arg15 arg16 arg17 arg18 arg19 arg20 arg21 arg22 { S with a21 := X })) := by
  unfold Own
  iintro ⟨H3, H4, H5, H6, H7, H8, H9, H10, H11, H12, H13, H14, H15, H16, H17, H18, H19, H20, H21, H22⟩
  isplitl [H21]
  · iexact H21
  iintro %X HX
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  isplitl [H14]
  · iexact H14
  isplitl [H15]
  · iexact H15
  isplitl [H16]
  · iexact H16
  isplitl [H17]
  · iexact H17
  isplitl [H18]
  · iexact H18
  isplitl [H19]
  · iexact H19
  isplitl [H20]
  · iexact H20
  isplitl [HX]
  · iexact HX
  iexact H22

theorem own_acc22 (S : State F) : Own c arg3 arg4 arg5 arg6 arg7 arg8 arg9 arg10 arg11 arg12 arg13 arg14 arg15 arg16 arg17 arg18 arg19 arg20 arg21 arg22 S
    ⊢ iprop(owns (c : Thread nD τ) arg22 fullShare S.a22 ∗ (∀ X, owns (c : Thread nD τ) arg22 fullShare X -∗ Own c arg3 arg4 arg5 arg6 arg7 arg8 arg9 arg10 arg11 arg12 arg13 arg14 arg15 arg16 arg17 arg18 arg19 arg20 arg21 arg22 { S with a22 := X })) := by
  unfold Own
  iintro ⟨H3, H4, H5, H6, H7, H8, H9, H10, H11, H12, H13, H14, H15, H16, H17, H18, H19, H20, H21, H22⟩
  isplitl [H22]
  · iexact H22
  iintro %X HX
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  isplitl [H14]
  · iexact H14
  isplitl [H15]
  · iexact H15
  isplitl [H16]
  · iexact H16
  isplitl [H17]
  · iexact H17
  isplitl [H18]
  · iexact H18
  isplitl [H19]
  · iexact H19
  isplitl [H20]
  · iexact H20
  isplitl [H21]
  · iexact H21
  iexact HX

/-- From a state the program ends in a result and a state that stand in the relation `Q`. -/
def Tri {α : Type} (S : State F) (p : Prog (TpuEff nD τ sig (Elt F) Λ₀ .tc) α) (Q : α → State F → Prop) : Prop :=
  ∀ E : Set ℕ, Own c arg3 arg4 arg5 arg6 arg7 arg8 arg9 arg10 arg11 arg12 arg13 arg14 arg15 arg16 arg17 arg18 arg19 arg20 arg21 arg22 S ⊢ wp frame (wpE (defs₀ (F := F)) Variants.none c none) E p
    (fun r => iprop(∃ S' : State F, ⌜Q r S'⌝ ∗ Own c arg3 arg4 arg5 arg6 arg7 arg8 arg9 arg10 arg11 arg12 arg13 arg14 arg15 arg16 arg17 arg18 arg19 arg20 arg21 arg22 S'))

section Rules

variable {α β : Type}

omit [FloatOps F] in
/-- A store through a rectangle, read back: the rectangle's part is replaced. -/
theorem read_write_access {sp : Space} {s : Shape} {e : EltTy} (m : Memref sig .tc sp s e) (r : Rect s)
    (f : m.view.ty.Contents (Elt F)) (w : r.shape.Idx → Elt F e) :
    m.view.read (Elt F) ((m.access r).write (Elt F) f w Finset.univ) = r.overlay (m.view.read (Elt F) f) w := by
  funext j
  by_cases hj : j ∈ r.set
  · obtain ⟨i, hi⟩ : ∃ i, r.emb i = j := by
      rw [← Rect.map_emb_univ] at hj
      obtain ⟨i, -, hi⟩ := Finset.mem_map.1 hj
      exact ⟨i, hi⟩
    subst hi
    rw [Rect.overlay_emb]
    exact View.read_slice_write_emb (v := m.view) r f w (Finset.mem_univ i)
  · rw [Rect.overlay_of_not_mem _ _ _ hj]
    exact View.read_slice_write_of_not_mem (v := m.view) r f w Finset.univ (by rwa [Rect.map_emb_univ])

theorem wp_owns_load {cs : CoreSpace} {s : Shape} {e : EltTy} (m : Memref sig .tc cs s e) (q : PosShare TreeShare) (r : Rect s)
    (X : s.Idx → Elt F e) {hl : m.view.LoadsAt r.toLoadRect} (E : Set ℕ)
    {k : (r.shape.Idx → Elt F e) → Prog (TpuEff nD τ sig (Elt F) Λ₀ .tc) α} {Q : α → sProp 𝕄} :
    owns (c : Thread nD τ) m q X
      ⊢ iprop((owns (c : Thread nD τ) m q X -∗ wp frame (wpE (defs₀ (F := F)) Variants.none c none) E (k (fun i => X (r.emb i))) Q)
        -∗ wp frame (wpE (defs₀ (F := F)) Variants.none c none) E (.op (.load m r.toLoadRect hl) k) Q) := by
  unfold owns
  iintro ⟨%f, %hf, H⟩ Hk
  iapply (wp_load_rect Variants.none (c : Thread nD τ) none E (m := m) (r := r) (hl := hl) (k := k) (Q := Q) (S := m.view.set) (q := q) (f := f) (m.view.set_slice_subset r)) $$ H
  iintro H
  have hX : (m.access r).read (Elt F) f = fun i => X (r.emb i) := by subst hf; rfl
  rw [hX]
  iapply Hk
  iexists f
  isplitr
  · ipureintro; exact hf
  · iexact H

theorem wp_owns_store {cs : CoreSpace} {s : Shape} {e : EltTy} (m : Memref sig .tc cs s e) (r : Rect s) (w : r.shape.Idx → Elt F e)
    (X : s.Idx → Elt F e) {hx : (m.access r).Stores Finset.univ} {hm : Finset.univ = Finset.univ ∨ ∀ a, r.stride a = 1} (E : Set ℕ)
    {k : PUnit → Prog (TpuEff nD τ sig (Elt F) Λ₀ .tc) α} {Q : α → sProp 𝕄} :
    owns (c : Thread nD τ) m fullShare X
      ⊢ iprop((owns (c : Thread nD τ) m fullShare (r.overlay X w) -∗ wp frame (wpE (defs₀ (F := F)) Variants.none c none) E (k ⟨⟩) Q)
        -∗ wp frame (wpE (defs₀ (F := F)) Variants.none c none) E (.op (.store m r w Finset.univ hx hm) k) Q) := by
  unfold owns
  iintro ⟨%f, %hf, H⟩ Hk
  iapply (wp_store Variants.none (c : Thread nD τ) none E (m := m) (r := r) (w := w) (Mk := Finset.univ) (hx := hx) (hm := hm) (k := k) (Q := Q) (S := m.view.set) (f := f) (m.view.set_slice_subset r)) $$ H
  iintro H
  iapply Hk
  iexists ((m.access r).write (Elt F) f w Finset.univ)
  isplitr
  · ipureintro; rw [read_write_access, hf]
  · iexact H

theorem tri_pure (S : State F) (a : α) (Q : α → State F → Prop) (h : Q a S) :
    Tri c arg3 arg4 arg5 arg6 arg7 arg8 arg9 arg10 arg11 arg12 arg13 arg14 arg15 arg16 arg17 arg18 arg19 arg20 arg21 arg22 S (pure a) Q := by
  intro E
  rw [wp_pure]
  iintro H
  iexists S
  isplitr
  · ipureintro; exact h
  · iexact H

theorem tri_bind (S : State F) (p : Prog (TpuEff nD τ sig (Elt F) Λ₀ .tc) α) (k : α → Prog (TpuEff nD τ sig (Elt F) Λ₀ .tc) β)
    (R : α → State F → Prop) (Q : β → State F → Prop) (hp : Tri c arg3 arg4 arg5 arg6 arg7 arg8 arg9 arg10 arg11 arg12 arg13 arg14 arg15 arg16 arg17 arg18 arg19 arg20 arg21 arg22 S p R)
    (hk : ∀ a S', R a S' → Tri c arg3 arg4 arg5 arg6 arg7 arg8 arg9 arg10 arg11 arg12 arg13 arg14 arg15 arg16 arg17 arg18 arg19 arg20 arg21 arg22 S' (k a) Q) : Tri c arg3 arg4 arg5 arg6 arg7 arg8 arg9 arg10 arg11 arg12 arg13 arg14 arg15 arg16 arg17 arg18 arg19 arg20 arg21 arg22 S (p >>= k) Q := by
  intro E
  rw [wp_bind]
  refine (hp E).trans (wp_mono _ _ _ (fun a => ?_))
  iintro ⟨%S', %hR, H⟩
  iapply (hk a S' hR E)
  iexact H

theorem tri_mono (S : State F) (p : Prog (TpuEff nD τ sig (Elt F) Λ₀ .tc) α)
    (R Q : α → State F → Prop) (hp : Tri c arg3 arg4 arg5 arg6 arg7 arg8 arg9 arg10 arg11 arg12 arg13 arg14 arg15 arg16 arg17 arg18 arg19 arg20 arg21 arg22 S p R)
    (hk : ∀ a S', R a S' → Q a S') : Tri c arg3 arg4 arg5 arg6 arg7 arg8 arg9 arg10 arg11 arg12 arg13 arg14 arg15 arg16 arg17 arg18 arg19 arg20 arg21 arg22 S p Q := by
  intro E
  refine (hp E).trans (wp_mono _ _ _ (fun a => ?_))
  iintro ⟨%S', %hR, H⟩
  iexists S'
  isplitr
  · ipureintro; exact hk _ _ hR
  · iexact H

theorem tri_assume (S : State F) (P : Prop) (d : Decidable P) (h : P)
    (k : PLift P → Prog (TpuEff nD τ sig (Elt F) Λ₀ .tc) β) (Q : β → State F → Prop)
    (hk : Tri c arg3 arg4 arg5 arg6 arg7 arg8 arg9 arg10 arg11 arg12 arg13 arg14 arg15 arg16 arg17 arg18 arg19 arg20 arg21 arg22 S (k ⟨h⟩) Q) : Tri c arg3 arg4 arg5 arg6 arg7 arg8 arg9 arg10 arg11 arg12 arg13 arg14 arg15 arg16 arg17 arg18 arg19 arg20 arg21 arg22 S (Prog.lift (TpuEff.assume P d) >>= k) Q := by
  intro E
  exact (hk E).trans (wp_assume Variants.none (c : Thread nD τ) none E h)

theorem tri_load3 (S : State F) (r : Rect S256) (hl : arg3.view.LoadsAt r.toLoadRect)
    (k : (r.shape.Idx → Elt F .i32) → Prog (TpuEff nD τ sig (Elt F) Λ₀ .tc) β) (Q : β → State F → Prop)
    (h : Tri c arg3 arg4 arg5 arg6 arg7 arg8 arg9 arg10 arg11 arg12 arg13 arg14 arg15 arg16 arg17 arg18 arg19 arg20 arg21 arg22 S (k (fun i => S.a3 (r.emb i))) Q) :
    Tri c arg3 arg4 arg5 arg6 arg7 arg8 arg9 arg10 arg11 arg12 arg13 arg14 arg15 arg16 arg17 arg18 arg19 arg20 arg21 arg22 S (Prog.lift (.load arg3 r.toLoadRect hl) >>= k) Q := by
  intro E
  iintro H
  ihave H := (own_acc3 c arg3 arg4 arg5 arg6 arg7 arg8 arg9 arg10 arg11 arg12 arg13 arg14 arg15 arg16 arg17 arg18 arg19 arg20 arg21 arg22 S) $$ H
  icases H with ⟨Hb, Hr⟩
  iapply (wp_owns_load c arg3 fullShare.right r S.a3 E (hl := hl) (k := k)) $$ Hb
  iintro Hb
  ihave H := Hr $$ Hb
  iapply (h E)
  iexact H

theorem tri_smem3 (S : State F) (r : Rect S256) (h1 : r.shape.numel = 1) (hp : EltTy.packing .i32 = 1)
    (k : Elt F .i32 → Prog (TpuEff nD τ sig (Elt F) Λ₀ .tc) β) (Q : β → State F → Prop)
    (h : Tri c arg3 arg4 arg5 arg6 arg7 arg8 arg9 arg10 arg11 arg12 arg13 arg14 arg15 arg16 arg17 arg18 arg19 arg20 arg21 arg22 S (k (S.a3 (r.emb (Shape.Idx.first (h1.symm ▸ Nat.one_pos))))) Q) :
    Tri c arg3 arg4 arg5 arg6 arg7 arg8 arg9 arg10 arg11 arg12 arg13 arg14 arg15 arg16 arg17 arg18 arg19 arg20 arg21 arg22 S (smemLoad arg3 r h1 hp >>= k) Q :=
  tri_load3 c arg3 arg4 arg5 arg6 arg7 arg8 arg9 arg10 arg11 arg12 arg13 arg14 arg15 arg16 arg17 arg18 arg19 arg20 arg21 arg22 S r _ (fun f => k (f (Shape.Idx.first (h1.symm ▸ Nat.one_pos)))) Q h

theorem tri_load4 (S : State F) (r : Rect S256) (hl : arg4.view.LoadsAt r.toLoadRect)
    (k : (r.shape.Idx → Elt F .i32) → Prog (TpuEff nD τ sig (Elt F) Λ₀ .tc) β) (Q : β → State F → Prop)
    (h : Tri c arg3 arg4 arg5 arg6 arg7 arg8 arg9 arg10 arg11 arg12 arg13 arg14 arg15 arg16 arg17 arg18 arg19 arg20 arg21 arg22 S (k (fun i => S.a4 (r.emb i))) Q) :
    Tri c arg3 arg4 arg5 arg6 arg7 arg8 arg9 arg10 arg11 arg12 arg13 arg14 arg15 arg16 arg17 arg18 arg19 arg20 arg21 arg22 S (Prog.lift (.load arg4 r.toLoadRect hl) >>= k) Q := by
  intro E
  iintro H
  ihave H := (own_acc4 c arg3 arg4 arg5 arg6 arg7 arg8 arg9 arg10 arg11 arg12 arg13 arg14 arg15 arg16 arg17 arg18 arg19 arg20 arg21 arg22 S) $$ H
  icases H with ⟨Hb, Hr⟩
  iapply (wp_owns_load c arg4 fullShare.right r S.a4 E (hl := hl) (k := k)) $$ Hb
  iintro Hb
  ihave H := Hr $$ Hb
  iapply (h E)
  iexact H

theorem tri_smem4 (S : State F) (r : Rect S256) (h1 : r.shape.numel = 1) (hp : EltTy.packing .i32 = 1)
    (k : Elt F .i32 → Prog (TpuEff nD τ sig (Elt F) Λ₀ .tc) β) (Q : β → State F → Prop)
    (h : Tri c arg3 arg4 arg5 arg6 arg7 arg8 arg9 arg10 arg11 arg12 arg13 arg14 arg15 arg16 arg17 arg18 arg19 arg20 arg21 arg22 S (k (S.a4 (r.emb (Shape.Idx.first (h1.symm ▸ Nat.one_pos))))) Q) :
    Tri c arg3 arg4 arg5 arg6 arg7 arg8 arg9 arg10 arg11 arg12 arg13 arg14 arg15 arg16 arg17 arg18 arg19 arg20 arg21 arg22 S (smemLoad arg4 r h1 hp >>= k) Q :=
  tri_load4 c arg3 arg4 arg5 arg6 arg7 arg8 arg9 arg10 arg11 arg12 arg13 arg14 arg15 arg16 arg17 arg18 arg19 arg20 arg21 arg22 S r _ (fun f => k (f (Shape.Idx.first (h1.symm ▸ Nat.one_pos)))) Q h

theorem tri_load5 (S : State F) (r : Rect S1024x1024) (hl : arg5.view.LoadsAt r.toLoadRect)
    (k : (r.shape.Idx → Elt F .f32) → Prog (TpuEff nD τ sig (Elt F) Λ₀ .tc) β) (Q : β → State F → Prop)
    (h : Tri c arg3 arg4 arg5 arg6 arg7 arg8 arg9 arg10 arg11 arg12 arg13 arg14 arg15 arg16 arg17 arg18 arg19 arg20 arg21 arg22 S (k (fun i => S.a5 (r.emb i))) Q) :
    Tri c arg3 arg4 arg5 arg6 arg7 arg8 arg9 arg10 arg11 arg12 arg13 arg14 arg15 arg16 arg17 arg18 arg19 arg20 arg21 arg22 S (Prog.lift (.load arg5 r.toLoadRect hl) >>= k) Q := by
  intro E
  iintro H
  ihave H := (own_acc5 c arg3 arg4 arg5 arg6 arg7 arg8 arg9 arg10 arg11 arg12 arg13 arg14 arg15 arg16 arg17 arg18 arg19 arg20 arg21 arg22 S) $$ H
  icases H with ⟨Hb, Hr⟩
  iapply (wp_owns_load c arg5 fullShare r S.a5 E (hl := hl) (k := k)) $$ Hb
  iintro Hb
  ihave H := Hr $$ Hb
  iapply (h E)
  iexact H

theorem tri_load6 (S : State F) (r : Rect S1x1024) (hl : arg6.view.LoadsAt r.toLoadRect)
    (k : (r.shape.Idx → Elt F .f32) → Prog (TpuEff nD τ sig (Elt F) Λ₀ .tc) β) (Q : β → State F → Prop)
    (h : Tri c arg3 arg4 arg5 arg6 arg7 arg8 arg9 arg10 arg11 arg12 arg13 arg14 arg15 arg16 arg17 arg18 arg19 arg20 arg21 arg22 S (k (fun i => S.a6 (r.emb i))) Q) :
    Tri c arg3 arg4 arg5 arg6 arg7 arg8 arg9 arg10 arg11 arg12 arg13 arg14 arg15 arg16 arg17 arg18 arg19 arg20 arg21 arg22 S (Prog.lift (.load arg6 r.toLoadRect hl) >>= k) Q := by
  intro E
  iintro H
  ihave H := (own_acc6 c arg3 arg4 arg5 arg6 arg7 arg8 arg9 arg10 arg11 arg12 arg13 arg14 arg15 arg16 arg17 arg18 arg19 arg20 arg21 arg22 S) $$ H
  icases H with ⟨Hb, Hr⟩
  iapply (wp_owns_load c arg6 fullShare r S.a6 E (hl := hl) (k := k)) $$ Hb
  iintro Hb
  ihave H := Hr $$ Hb
  iapply (h E)
  iexact H

theorem tri_load7 (S : State F) (r : Rect S1x1x1024) (hl : arg7.view.LoadsAt r.toLoadRect)
    (k : (r.shape.Idx → Elt F .f32) → Prog (TpuEff nD τ sig (Elt F) Λ₀ .tc) β) (Q : β → State F → Prop)
    (h : Tri c arg3 arg4 arg5 arg6 arg7 arg8 arg9 arg10 arg11 arg12 arg13 arg14 arg15 arg16 arg17 arg18 arg19 arg20 arg21 arg22 S (k (fun i => S.a7 (r.emb i))) Q) :
    Tri c arg3 arg4 arg5 arg6 arg7 arg8 arg9 arg10 arg11 arg12 arg13 arg14 arg15 arg16 arg17 arg18 arg19 arg20 arg21 arg22 S (Prog.lift (.load arg7 r.toLoadRect hl) >>= k) Q := by
  intro E
  iintro H
  ihave H := (own_acc7 c arg3 arg4 arg5 arg6 arg7 arg8 arg9 arg10 arg11 arg12 arg13 arg14 arg15 arg16 arg17 arg18 arg19 arg20 arg21 arg22 S) $$ H
  icases H with ⟨Hb, Hr⟩
  iapply (wp_owns_load c arg7 fullShare r S.a7 E (hl := hl) (k := k)) $$ Hb
  iintro Hb
  ihave H := Hr $$ Hb
  iapply (h E)
  iexact H

theorem tri_load8 (S : State F) (r : Rect S1x1x1024) (hl : arg8.view.LoadsAt r.toLoadRect)
    (k : (r.shape.Idx → Elt F .f32) → Prog (TpuEff nD τ sig (Elt F) Λ₀ .tc) β) (Q : β → State F → Prop)
    (h : Tri c arg3 arg4 arg5 arg6 arg7 arg8 arg9 arg10 arg11 arg12 arg13 arg14 arg15 arg16 arg17 arg18 arg19 arg20 arg21 arg22 S (k (fun i => S.a8 (r.emb i))) Q) :
    Tri c arg3 arg4 arg5 arg6 arg7 arg8 arg9 arg10 arg11 arg12 arg13 arg14 arg15 arg16 arg17 arg18 arg19 arg20 arg21 arg22 S (Prog.lift (.load arg8 r.toLoadRect hl) >>= k) Q := by
  intro E
  iintro H
  ihave H := (own_acc8 c arg3 arg4 arg5 arg6 arg7 arg8 arg9 arg10 arg11 arg12 arg13 arg14 arg15 arg16 arg17 arg18 arg19 arg20 arg21 arg22 S) $$ H
  icases H with ⟨Hb, Hr⟩
  iapply (wp_owns_load c arg8 fullShare r S.a8 E (hl := hl) (k := k)) $$ Hb
  iintro Hb
  ihave H := Hr $$ Hb
  iapply (h E)
  iexact H

theorem tri_load9 (S : State F) (r : Rect S1x1x1024) (hl : arg9.view.LoadsAt r.toLoadRect)
    (k : (r.shape.Idx → Elt F .f32) → Prog (TpuEff nD τ sig (Elt F) Λ₀ .tc) β) (Q : β → State F → Prop)
    (h : Tri c arg3 arg4 arg5 arg6 arg7 arg8 arg9 arg10 arg11 arg12 arg13 arg14 arg15 arg16 arg17 arg18 arg19 arg20 arg21 arg22 S (k (fun i => S.a9 (r.emb i))) Q) :
    Tri c arg3 arg4 arg5 arg6 arg7 arg8 arg9 arg10 arg11 arg12 arg13 arg14 arg15 arg16 arg17 arg18 arg19 arg20 arg21 arg22 S (Prog.lift (.load arg9 r.toLoadRect hl) >>= k) Q := by
  intro E
  iintro H
  ihave H := (own_acc9 c arg3 arg4 arg5 arg6 arg7 arg8 arg9 arg10 arg11 arg12 arg13 arg14 arg15 arg16 arg17 arg18 arg19 arg20 arg21 arg22 S) $$ H
  icases H with ⟨Hb, Hr⟩
  iapply (wp_owns_load c arg9 fullShare r S.a9 E (hl := hl) (k := k)) $$ Hb
  iintro Hb
  ihave H := Hr $$ Hb
  iapply (h E)
  iexact H

theorem tri_load10 (S : State F) (r : Rect S1024x128) (hl : arg10.view.LoadsAt r.toLoadRect)
    (k : (r.shape.Idx → Elt F .f32) → Prog (TpuEff nD τ sig (Elt F) Λ₀ .tc) β) (Q : β → State F → Prop)
    (h : Tri c arg3 arg4 arg5 arg6 arg7 arg8 arg9 arg10 arg11 arg12 arg13 arg14 arg15 arg16 arg17 arg18 arg19 arg20 arg21 arg22 S (k (fun i => S.a10 (r.emb i))) Q) :
    Tri c arg3 arg4 arg5 arg6 arg7 arg8 arg9 arg10 arg11 arg12 arg13 arg14 arg15 arg16 arg17 arg18 arg19 arg20 arg21 arg22 S (Prog.lift (.load arg10 r.toLoadRect hl) >>= k) Q := by
  intro E
  iintro H
  ihave H := (own_acc10 c arg3 arg4 arg5 arg6 arg7 arg8 arg9 arg10 arg11 arg12 arg13 arg14 arg15 arg16 arg17 arg18 arg19 arg20 arg21 arg22 S) $$ H
  icases H with ⟨Hb, Hr⟩
  iapply (wp_owns_load c arg10 fullShare r S.a10 E (hl := hl) (k := k)) $$ Hb
  iintro Hb
  ihave H := Hr $$ Hb
  iapply (h E)
  iexact H

theorem tri_load11 (S : State F) (r : Rect S1x1024x896) (hl : arg11.view.LoadsAt r.toLoadRect)
    (k : (r.shape.Idx → Elt F .bf16) → Prog (TpuEff nD τ sig (Elt F) Λ₀ .tc) β) (Q : β → State F → Prop)
    (h : Tri c arg3 arg4 arg5 arg6 arg7 arg8 arg9 arg10 arg11 arg12 arg13 arg14 arg15 arg16 arg17 arg18 arg19 arg20 arg21 arg22 S (k (fun i => S.a11 (r.emb i))) Q) :
    Tri c arg3 arg4 arg5 arg6 arg7 arg8 arg9 arg10 arg11 arg12 arg13 arg14 arg15 arg16 arg17 arg18 arg19 arg20 arg21 arg22 S (Prog.lift (.load arg11 r.toLoadRect hl) >>= k) Q := by
  intro E
  iintro H
  ihave H := (own_acc11 c arg3 arg4 arg5 arg6 arg7 arg8 arg9 arg10 arg11 arg12 arg13 arg14 arg15 arg16 arg17 arg18 arg19 arg20 arg21 arg22 S) $$ H
  icases H with ⟨Hb, Hr⟩
  iapply (wp_owns_load c arg11 fullShare r S.a11 E (hl := hl) (k := k)) $$ Hb
  iintro Hb
  ihave H := Hr $$ Hb
  iapply (h E)
  iexact H

theorem tri_load12 (S : State F) (r : Rect S1x1024x896) (hl : arg12.view.LoadsAt r.toLoadRect)
    (k : (r.shape.Idx → Elt F .bf16) → Prog (TpuEff nD τ sig (Elt F) Λ₀ .tc) β) (Q : β → State F → Prop)
    (h : Tri c arg3 arg4 arg5 arg6 arg7 arg8 arg9 arg10 arg11 arg12 arg13 arg14 arg15 arg16 arg17 arg18 arg19 arg20 arg21 arg22 S (k (fun i => S.a12 (r.emb i))) Q) :
    Tri c arg3 arg4 arg5 arg6 arg7 arg8 arg9 arg10 arg11 arg12 arg13 arg14 arg15 arg16 arg17 arg18 arg19 arg20 arg21 arg22 S (Prog.lift (.load arg12 r.toLoadRect hl) >>= k) Q := by
  intro E
  iintro H
  ihave H := (own_acc12 c arg3 arg4 arg5 arg6 arg7 arg8 arg9 arg10 arg11 arg12 arg13 arg14 arg15 arg16 arg17 arg18 arg19 arg20 arg21 arg22 S) $$ H
  icases H with ⟨Hb, Hr⟩
  iapply (wp_owns_load c arg12 fullShare r S.a12 E (hl := hl) (k := k)) $$ Hb
  iintro Hb
  ihave H := Hr $$ Hb
  iapply (h E)
  iexact H

theorem tri_load13 (S : State F) (r : Rect S1x896x1024) (hl : arg13.view.LoadsAt r.toLoadRect)
    (k : (r.shape.Idx → Elt F .bf16) → Prog (TpuEff nD τ sig (Elt F) Λ₀ .tc) β) (Q : β → State F → Prop)
    (h : Tri c arg3 arg4 arg5 arg6 arg7 arg8 arg9 arg10 arg11 arg12 arg13 arg14 arg15 arg16 arg17 arg18 arg19 arg20 arg21 arg22 S (k (fun i => S.a13 (r.emb i))) Q) :
    Tri c arg3 arg4 arg5 arg6 arg7 arg8 arg9 arg10 arg11 arg12 arg13 arg14 arg15 arg16 arg17 arg18 arg19 arg20 arg21 arg22 S (Prog.lift (.load arg13 r.toLoadRect hl) >>= k) Q := by
  intro E
  iintro H
  ihave H := (own_acc13 c arg3 arg4 arg5 arg6 arg7 arg8 arg9 arg10 arg11 arg12 arg13 arg14 arg15 arg16 arg17 arg18 arg19 arg20 arg21 arg22 S) $$ H
  icases H with ⟨Hb, Hr⟩
  iapply (wp_owns_load c arg13 fullShare r S.a13 E (hl := hl) (k := k)) $$ Hb
  iintro Hb
  ihave H := Hr $$ Hb
  iapply (h E)
  iexact H

theorem tri_load14 (S : State F) (r : Rect S1x1024) (hl : arg14.view.LoadsAt r.toLoadRect)
    (k : (r.shape.Idx → Elt F .f32) → Prog (TpuEff nD τ sig (Elt F) Λ₀ .tc) β) (Q : β → State F → Prop)
    (h : Tri c arg3 arg4 arg5 arg6 arg7 arg8 arg9 arg10 arg11 arg12 arg13 arg14 arg15 arg16 arg17 arg18 arg19 arg20 arg21 arg22 S (k (fun i => S.a14 (r.emb i))) Q) :
    Tri c arg3 arg4 arg5 arg6 arg7 arg8 arg9 arg10 arg11 arg12 arg13 arg14 arg15 arg16 arg17 arg18 arg19 arg20 arg21 arg22 S (Prog.lift (.load arg14 r.toLoadRect hl) >>= k) Q := by
  intro E
  iintro H
  ihave H := (own_acc14 c arg3 arg4 arg5 arg6 arg7 arg8 arg9 arg10 arg11 arg12 arg13 arg14 arg15 arg16 arg17 arg18 arg19 arg20 arg21 arg22 S) $$ H
  icases H with ⟨Hb, Hr⟩
  iapply (wp_owns_load c arg14 fullShare r S.a14 E (hl := hl) (k := k)) $$ Hb
  iintro Hb
  ihave H := Hr $$ Hb
  iapply (h E)
  iexact H

theorem tri_load15 (S : State F) (r : Rect S1024x1024) (hl : arg15.view.LoadsAt r.toLoadRect)
    (k : (r.shape.Idx → Elt F .f32) → Prog (TpuEff nD τ sig (Elt F) Λ₀ .tc) β) (Q : β → State F → Prop)
    (h : Tri c arg3 arg4 arg5 arg6 arg7 arg8 arg9 arg10 arg11 arg12 arg13 arg14 arg15 arg16 arg17 arg18 arg19 arg20 arg21 arg22 S (k (fun i => S.a15 (r.emb i))) Q) :
    Tri c arg3 arg4 arg5 arg6 arg7 arg8 arg9 arg10 arg11 arg12 arg13 arg14 arg15 arg16 arg17 arg18 arg19 arg20 arg21 arg22 S (Prog.lift (.load arg15 r.toLoadRect hl) >>= k) Q := by
  intro E
  iintro H
  ihave H := (own_acc15 c arg3 arg4 arg5 arg6 arg7 arg8 arg9 arg10 arg11 arg12 arg13 arg14 arg15 arg16 arg17 arg18 arg19 arg20 arg21 arg22 S) $$ H
  icases H with ⟨Hb, Hr⟩
  iapply (wp_owns_load c arg15 fullShare r S.a15 E (hl := hl) (k := k)) $$ Hb
  iintro Hb
  ihave H := Hr $$ Hb
  iapply (h E)
  iexact H

theorem tri_store15 (S : State F) (r : Rect S1024x1024) (w : r.shape.Idx → Elt F .f32) (hx : (arg15.access r).Stores Finset.univ)
    (hm : Finset.univ = Finset.univ ∨ ∀ a, r.stride a = 1)
    (k : PUnit → Prog (TpuEff nD τ sig (Elt F) Λ₀ .tc) β) (Q : β → State F → Prop)
    (h : Tri c arg3 arg4 arg5 arg6 arg7 arg8 arg9 arg10 arg11 arg12 arg13 arg14 arg15 arg16 arg17 arg18 arg19 arg20 arg21 arg22 { S with a15 := r.overlay S.a15 w } (k ⟨⟩) Q) :
    Tri c arg3 arg4 arg5 arg6 arg7 arg8 arg9 arg10 arg11 arg12 arg13 arg14 arg15 arg16 arg17 arg18 arg19 arg20 arg21 arg22 S (Prog.lift (.store arg15 r w Finset.univ hx hm) >>= k) Q := by
  intro E
  iintro H
  ihave H := (own_acc15 c arg3 arg4 arg5 arg6 arg7 arg8 arg9 arg10 arg11 arg12 arg13 arg14 arg15 arg16 arg17 arg18 arg19 arg20 arg21 arg22 S) $$ H
  icases H with ⟨Hb, Hr⟩
  iapply (wp_owns_store c arg15 r w S.a15 E (hx := hx) (hm := hm) (k := k)) $$ Hb
  iintro Hb
  ihave H := Hr $$ Hb
  iapply (h E)
  iexact H

theorem tri_load16 (S : State F) (r : Rect S1024x1024) (hl : arg16.view.LoadsAt r.toLoadRect)
    (k : (r.shape.Idx → Elt F .bf16) → Prog (TpuEff nD τ sig (Elt F) Λ₀ .tc) β) (Q : β → State F → Prop)
    (h : Tri c arg3 arg4 arg5 arg6 arg7 arg8 arg9 arg10 arg11 arg12 arg13 arg14 arg15 arg16 arg17 arg18 arg19 arg20 arg21 arg22 S (k (fun i => S.a16 (r.emb i))) Q) :
    Tri c arg3 arg4 arg5 arg6 arg7 arg8 arg9 arg10 arg11 arg12 arg13 arg14 arg15 arg16 arg17 arg18 arg19 arg20 arg21 arg22 S (Prog.lift (.load arg16 r.toLoadRect hl) >>= k) Q := by
  intro E
  iintro H
  ihave H := (own_acc16 c arg3 arg4 arg5 arg6 arg7 arg8 arg9 arg10 arg11 arg12 arg13 arg14 arg15 arg16 arg17 arg18 arg19 arg20 arg21 arg22 S) $$ H
  icases H with ⟨Hb, Hr⟩
  iapply (wp_owns_load c arg16 fullShare r S.a16 E (hl := hl) (k := k)) $$ Hb
  iintro Hb
  ihave H := Hr $$ Hb
  iapply (h E)
  iexact H

theorem tri_store16 (S : State F) (r : Rect S1024x1024) (w : r.shape.Idx → Elt F .bf16) (hx : (arg16.access r).Stores Finset.univ)
    (hm : Finset.univ = Finset.univ ∨ ∀ a, r.stride a = 1)
    (k : PUnit → Prog (TpuEff nD τ sig (Elt F) Λ₀ .tc) β) (Q : β → State F → Prop)
    (h : Tri c arg3 arg4 arg5 arg6 arg7 arg8 arg9 arg10 arg11 arg12 arg13 arg14 arg15 arg16 arg17 arg18 arg19 arg20 arg21 arg22 { S with a16 := r.overlay S.a16 w } (k ⟨⟩) Q) :
    Tri c arg3 arg4 arg5 arg6 arg7 arg8 arg9 arg10 arg11 arg12 arg13 arg14 arg15 arg16 arg17 arg18 arg19 arg20 arg21 arg22 S (Prog.lift (.store arg16 r w Finset.univ hx hm) >>= k) Q := by
  intro E
  iintro H
  ihave H := (own_acc16 c arg3 arg4 arg5 arg6 arg7 arg8 arg9 arg10 arg11 arg12 arg13 arg14 arg15 arg16 arg17 arg18 arg19 arg20 arg21 arg22 S) $$ H
  icases H with ⟨Hb, Hr⟩
  iapply (wp_owns_store c arg16 r w S.a16 E (hx := hx) (hm := hm) (k := k)) $$ Hb
  iintro Hb
  ihave H := Hr $$ Hb
  iapply (h E)
  iexact H

theorem tri_load17 (S : State F) (r : Rect S1024x1024) (hl : arg17.view.LoadsAt r.toLoadRect)
    (k : (r.shape.Idx → Elt F .bf16) → Prog (TpuEff nD τ sig (Elt F) Λ₀ .tc) β) (Q : β → State F → Prop)
    (h : Tri c arg3 arg4 arg5 arg6 arg7 arg8 arg9 arg10 arg11 arg12 arg13 arg14 arg15 arg16 arg17 arg18 arg19 arg20 arg21 arg22 S (k (fun i => S.a17 (r.emb i))) Q) :
    Tri c arg3 arg4 arg5 arg6 arg7 arg8 arg9 arg10 arg11 arg12 arg13 arg14 arg15 arg16 arg17 arg18 arg19 arg20 arg21 arg22 S (Prog.lift (.load arg17 r.toLoadRect hl) >>= k) Q := by
  intro E
  iintro H
  ihave H := (own_acc17 c arg3 arg4 arg5 arg6 arg7 arg8 arg9 arg10 arg11 arg12 arg13 arg14 arg15 arg16 arg17 arg18 arg19 arg20 arg21 arg22 S) $$ H
  icases H with ⟨Hb, Hr⟩
  iapply (wp_owns_load c arg17 fullShare r S.a17 E (hl := hl) (k := k)) $$ Hb
  iintro Hb
  ihave H := Hr $$ Hb
  iapply (h E)
  iexact H

theorem tri_store17 (S : State F) (r : Rect S1024x1024) (w : r.shape.Idx → Elt F .bf16) (hx : (arg17.access r).Stores Finset.univ)
    (hm : Finset.univ = Finset.univ ∨ ∀ a, r.stride a = 1)
    (k : PUnit → Prog (TpuEff nD τ sig (Elt F) Λ₀ .tc) β) (Q : β → State F → Prop)
    (h : Tri c arg3 arg4 arg5 arg6 arg7 arg8 arg9 arg10 arg11 arg12 arg13 arg14 arg15 arg16 arg17 arg18 arg19 arg20 arg21 arg22 { S with a17 := r.overlay S.a17 w } (k ⟨⟩) Q) :
    Tri c arg3 arg4 arg5 arg6 arg7 arg8 arg9 arg10 arg11 arg12 arg13 arg14 arg15 arg16 arg17 arg18 arg19 arg20 arg21 arg22 S (Prog.lift (.store arg17 r w Finset.univ hx hm) >>= k) Q := by
  intro E
  iintro H
  ihave H := (own_acc17 c arg3 arg4 arg5 arg6 arg7 arg8 arg9 arg10 arg11 arg12 arg13 arg14 arg15 arg16 arg17 arg18 arg19 arg20 arg21 arg22 S) $$ H
  icases H with ⟨Hb, Hr⟩
  iapply (wp_owns_store c arg17 r w S.a17 E (hx := hx) (hm := hm) (k := k)) $$ Hb
  iintro Hb
  ihave H := Hr $$ Hb
  iapply (h E)
  iexact H

theorem tri_load18 (S : State F) (r : Rect S1024x128) (hl : arg18.view.LoadsAt r.toLoadRect)
    (k : (r.shape.Idx → Elt F .f32) → Prog (TpuEff nD τ sig (Elt F) Λ₀ .tc) β) (Q : β → State F → Prop)
    (h : Tri c arg3 arg4 arg5 arg6 arg7 arg8 arg9 arg10 arg11 arg12 arg13 arg14 arg15 arg16 arg17 arg18 arg19 arg20 arg21 arg22 S (k (fun i => S.a18 (r.emb i))) Q) :
    Tri c arg3 arg4 arg5 arg6 arg7 arg8 arg9 arg10 arg11 arg12 arg13 arg14 arg15 arg16 arg17 arg18 arg19 arg20 arg21 arg22 S (Prog.lift (.load arg18 r.toLoadRect hl) >>= k) Q := by
  intro E
  iintro H
  ihave H := (own_acc18 c arg3 arg4 arg5 arg6 arg7 arg8 arg9 arg10 arg11 arg12 arg13 arg14 arg15 arg16 arg17 arg18 arg19 arg20 arg21 arg22 S) $$ H
  icases H with ⟨Hb, Hr⟩
  iapply (wp_owns_load c arg18 fullShare r S.a18 E (hl := hl) (k := k)) $$ Hb
  iintro Hb
  ihave H := Hr $$ Hb
  iapply (h E)
  iexact H

theorem tri_store18 (S : State F) (r : Rect S1024x128) (w : r.shape.Idx → Elt F .f32) (hx : (arg18.access r).Stores Finset.univ)
    (hm : Finset.univ = Finset.univ ∨ ∀ a, r.stride a = 1)
    (k : PUnit → Prog (TpuEff nD τ sig (Elt F) Λ₀ .tc) β) (Q : β → State F → Prop)
    (h : Tri c arg3 arg4 arg5 arg6 arg7 arg8 arg9 arg10 arg11 arg12 arg13 arg14 arg15 arg16 arg17 arg18 arg19 arg20 arg21 arg22 { S with a18 := r.overlay S.a18 w } (k ⟨⟩) Q) :
    Tri c arg3 arg4 arg5 arg6 arg7 arg8 arg9 arg10 arg11 arg12 arg13 arg14 arg15 arg16 arg17 arg18 arg19 arg20 arg21 arg22 S (Prog.lift (.store arg18 r w Finset.univ hx hm) >>= k) Q := by
  intro E
  iintro H
  ihave H := (own_acc18 c arg3 arg4 arg5 arg6 arg7 arg8 arg9 arg10 arg11 arg12 arg13 arg14 arg15 arg16 arg17 arg18 arg19 arg20 arg21 arg22 S) $$ H
  icases H with ⟨Hb, Hr⟩
  iapply (wp_owns_store c arg18 r w S.a18 E (hx := hx) (hm := hm) (k := k)) $$ Hb
  iintro Hb
  ihave H := Hr $$ Hb
  iapply (h E)
  iexact H

theorem tri_load19 (S : State F) (r : Rect S128x1024) (hl : arg19.view.LoadsAt r.toLoadRect)
    (k : (r.shape.Idx → Elt F .f32) → Prog (TpuEff nD τ sig (Elt F) Λ₀ .tc) β) (Q : β → State F → Prop)
    (h : Tri c arg3 arg4 arg5 arg6 arg7 arg8 arg9 arg10 arg11 arg12 arg13 arg14 arg15 arg16 arg17 arg18 arg19 arg20 arg21 arg22 S (k (fun i => S.a19 (r.emb i))) Q) :
    Tri c arg3 arg4 arg5 arg6 arg7 arg8 arg9 arg10 arg11 arg12 arg13 arg14 arg15 arg16 arg17 arg18 arg19 arg20 arg21 arg22 S (Prog.lift (.load arg19 r.toLoadRect hl) >>= k) Q := by
  intro E
  iintro H
  ihave H := (own_acc19 c arg3 arg4 arg5 arg6 arg7 arg8 arg9 arg10 arg11 arg12 arg13 arg14 arg15 arg16 arg17 arg18 arg19 arg20 arg21 arg22 S) $$ H
  icases H with ⟨Hb, Hr⟩
  iapply (wp_owns_load c arg19 fullShare r S.a19 E (hl := hl) (k := k)) $$ Hb
  iintro Hb
  ihave H := Hr $$ Hb
  iapply (h E)
  iexact H

theorem tri_store19 (S : State F) (r : Rect S128x1024) (w : r.shape.Idx → Elt F .f32) (hx : (arg19.access r).Stores Finset.univ)
    (hm : Finset.univ = Finset.univ ∨ ∀ a, r.stride a = 1)
    (k : PUnit → Prog (TpuEff nD τ sig (Elt F) Λ₀ .tc) β) (Q : β → State F → Prop)
    (h : Tri c arg3 arg4 arg5 arg6 arg7 arg8 arg9 arg10 arg11 arg12 arg13 arg14 arg15 arg16 arg17 arg18 arg19 arg20 arg21 arg22 { S with a19 := r.overlay S.a19 w } (k ⟨⟩) Q) :
    Tri c arg3 arg4 arg5 arg6 arg7 arg8 arg9 arg10 arg11 arg12 arg13 arg14 arg15 arg16 arg17 arg18 arg19 arg20 arg21 arg22 S (Prog.lift (.store arg19 r w Finset.univ hx hm) >>= k) Q := by
  intro E
  iintro H
  ihave H := (own_acc19 c arg3 arg4 arg5 arg6 arg7 arg8 arg9 arg10 arg11 arg12 arg13 arg14 arg15 arg16 arg17 arg18 arg19 arg20 arg21 arg22 S) $$ H
  icases H with ⟨Hb, Hr⟩
  iapply (wp_owns_store c arg19 r w S.a19 E (hx := hx) (hm := hm) (k := k)) $$ Hb
  iintro Hb
  ihave H := Hr $$ Hb
  iapply (h E)
  iexact H

theorem tri_load20 (S : State F) (r : Rect S1024x1024) (hl : arg20.view.LoadsAt r.toLoadRect)
    (k : (r.shape.Idx → Elt F .bf16) → Prog (TpuEff nD τ sig (Elt F) Λ₀ .tc) β) (Q : β → State F → Prop)
    (h : Tri c arg3 arg4 arg5 arg6 arg7 arg8 arg9 arg10 arg11 arg12 arg13 arg14 arg15 arg16 arg17 arg18 arg19 arg20 arg21 arg22 S (k (fun i => S.a20 (r.emb i))) Q) :
    Tri c arg3 arg4 arg5 arg6 arg7 arg8 arg9 arg10 arg11 arg12 arg13 arg14 arg15 arg16 arg17 arg18 arg19 arg20 arg21 arg22 S (Prog.lift (.load arg20 r.toLoadRect hl) >>= k) Q := by
  intro E
  iintro H
  ihave H := (own_acc20 c arg3 arg4 arg5 arg6 arg7 arg8 arg9 arg10 arg11 arg12 arg13 arg14 arg15 arg16 arg17 arg18 arg19 arg20 arg21 arg22 S) $$ H
  icases H with ⟨Hb, Hr⟩
  iapply (wp_owns_load c arg20 fullShare r S.a20 E (hl := hl) (k := k)) $$ Hb
  iintro Hb
  ihave H := Hr $$ Hb
  iapply (h E)
  iexact H

theorem tri_store20 (S : State F) (r : Rect S1024x1024) (w : r.shape.Idx → Elt F .bf16) (hx : (arg20.access r).Stores Finset.univ)
    (hm : Finset.univ = Finset.univ ∨ ∀ a, r.stride a = 1)
    (k : PUnit → Prog (TpuEff nD τ sig (Elt F) Λ₀ .tc) β) (Q : β → State F → Prop)
    (h : Tri c arg3 arg4 arg5 arg6 arg7 arg8 arg9 arg10 arg11 arg12 arg13 arg14 arg15 arg16 arg17 arg18 arg19 arg20 arg21 arg22 { S with a20 := r.overlay S.a20 w } (k ⟨⟩) Q) :
    Tri c arg3 arg4 arg5 arg6 arg7 arg8 arg9 arg10 arg11 arg12 arg13 arg14 arg15 arg16 arg17 arg18 arg19 arg20 arg21 arg22 S (Prog.lift (.store arg20 r w Finset.univ hx hm) >>= k) Q := by
  intro E
  iintro H
  ihave H := (own_acc20 c arg3 arg4 arg5 arg6 arg7 arg8 arg9 arg10 arg11 arg12 arg13 arg14 arg15 arg16 arg17 arg18 arg19 arg20 arg21 arg22 S) $$ H
  icases H with ⟨Hb, Hr⟩
  iapply (wp_owns_store c arg20 r w S.a20 E (hx := hx) (hm := hm) (k := k)) $$ Hb
  iintro Hb
  ihave H := Hr $$ Hb
  iapply (h E)
  iexact H

theorem tri_load21 (S : State F) (r : Rect S1024x1024) (hl : arg21.view.LoadsAt r.toLoadRect)
    (k : (r.shape.Idx → Elt F .f32) → Prog (TpuEff nD τ sig (Elt F) Λ₀ .tc) β) (Q : β → State F → Prop)
    (h : Tri c arg3 arg4 arg5 arg6 arg7 arg8 arg9 arg10 arg11 arg12 arg13 arg14 arg15 arg16 arg17 arg18 arg19 arg20 arg21 arg22 S (k (fun i => S.a21 (r.emb i))) Q) :
    Tri c arg3 arg4 arg5 arg6 arg7 arg8 arg9 arg10 arg11 arg12 arg13 arg14 arg15 arg16 arg17 arg18 arg19 arg20 arg21 arg22 S (Prog.lift (.load arg21 r.toLoadRect hl) >>= k) Q := by
  intro E
  iintro H
  ihave H := (own_acc21 c arg3 arg4 arg5 arg6 arg7 arg8 arg9 arg10 arg11 arg12 arg13 arg14 arg15 arg16 arg17 arg18 arg19 arg20 arg21 arg22 S) $$ H
  icases H with ⟨Hb, Hr⟩
  iapply (wp_owns_load c arg21 fullShare r S.a21 E (hl := hl) (k := k)) $$ Hb
  iintro Hb
  ihave H := Hr $$ Hb
  iapply (h E)
  iexact H

theorem tri_store21 (S : State F) (r : Rect S1024x1024) (w : r.shape.Idx → Elt F .f32) (hx : (arg21.access r).Stores Finset.univ)
    (hm : Finset.univ = Finset.univ ∨ ∀ a, r.stride a = 1)
    (k : PUnit → Prog (TpuEff nD τ sig (Elt F) Λ₀ .tc) β) (Q : β → State F → Prop)
    (h : Tri c arg3 arg4 arg5 arg6 arg7 arg8 arg9 arg10 arg11 arg12 arg13 arg14 arg15 arg16 arg17 arg18 arg19 arg20 arg21 arg22 { S with a21 := r.overlay S.a21 w } (k ⟨⟩) Q) :
    Tri c arg3 arg4 arg5 arg6 arg7 arg8 arg9 arg10 arg11 arg12 arg13 arg14 arg15 arg16 arg17 arg18 arg19 arg20 arg21 arg22 S (Prog.lift (.store arg21 r w Finset.univ hx hm) >>= k) Q := by
  intro E
  iintro H
  ihave H := (own_acc21 c arg3 arg4 arg5 arg6 arg7 arg8 arg9 arg10 arg11 arg12 arg13 arg14 arg15 arg16 arg17 arg18 arg19 arg20 arg21 arg22 S) $$ H
  icases H with ⟨Hb, Hr⟩
  iapply (wp_owns_store c arg21 r w S.a21 E (hx := hx) (hm := hm) (k := k)) $$ Hb
  iintro Hb
  ihave H := Hr $$ Hb
  iapply (h E)
  iexact H

theorem tri_load22 (S : State F) (r : Rect S1024x1024) (hl : arg22.view.LoadsAt r.toLoadRect)
    (k : (r.shape.Idx → Elt F .f32) → Prog (TpuEff nD τ sig (Elt F) Λ₀ .tc) β) (Q : β → State F → Prop)
    (h : Tri c arg3 arg4 arg5 arg6 arg7 arg8 arg9 arg10 arg11 arg12 arg13 arg14 arg15 arg16 arg17 arg18 arg19 arg20 arg21 arg22 S (k (fun i => S.a22 (r.emb i))) Q) :
    Tri c arg3 arg4 arg5 arg6 arg7 arg8 arg9 arg10 arg11 arg12 arg13 arg14 arg15 arg16 arg17 arg18 arg19 arg20 arg21 arg22 S (Prog.lift (.load arg22 r.toLoadRect hl) >>= k) Q := by
  intro E
  iintro H
  ihave H := (own_acc22 c arg3 arg4 arg5 arg6 arg7 arg8 arg9 arg10 arg11 arg12 arg13 arg14 arg15 arg16 arg17 arg18 arg19 arg20 arg21 arg22 S) $$ H
  icases H with ⟨Hb, Hr⟩
  iapply (wp_owns_load c arg22 fullShare r S.a22 E (hl := hl) (k := k)) $$ Hb
  iintro Hb
  ihave H := Hr $$ Hb
  iapply (h E)
  iexact H

theorem tri_store22 (S : State F) (r : Rect S1024x1024) (w : r.shape.Idx → Elt F .f32) (hx : (arg22.access r).Stores Finset.univ)
    (hm : Finset.univ = Finset.univ ∨ ∀ a, r.stride a = 1)
    (k : PUnit → Prog (TpuEff nD τ sig (Elt F) Λ₀ .tc) β) (Q : β → State F → Prop)
    (h : Tri c arg3 arg4 arg5 arg6 arg7 arg8 arg9 arg10 arg11 arg12 arg13 arg14 arg15 arg16 arg17 arg18 arg19 arg20 arg21 arg22 { S with a22 := r.overlay S.a22 w } (k ⟨⟩) Q) :
    Tri c arg3 arg4 arg5 arg6 arg7 arg8 arg9 arg10 arg11 arg12 arg13 arg14 arg15 arg16 arg17 arg18 arg19 arg20 arg21 arg22 S (Prog.lift (.store arg22 r w Finset.univ hx hm) >>= k) Q := by
  intro E
  iintro H
  ihave H := (own_acc22 c arg3 arg4 arg5 arg6 arg7 arg8 arg9 arg10 arg11 arg12 arg13 arg14 arg15 arg16 arg17 arg18 arg19 arg20 arg21 arg22 S) $$ H
  icases H with ⟨Hb, Hr⟩
  iapply (wp_owns_store c arg22 r w S.a22 E (hx := hx) (hm := hm) (k := k)) $$ Hb
  iintro Hb
  ihave H := Hr $$ Hb
  iapply (h E)
  iexact H

end Rules

end Cert.Kernel2Ideal.Moe

end
-- ==== Proof.Moe.Body.lean ====
module

public import proofs.«01_k».proof.Proof.Moe.Logic

@[expose] public section

set_option maxRecDepth 16384

noncomputable section

namespace Cert.Kernel2Ideal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel2Ideal Cert.Kernel2Ideal.Gen

variable {F : FTy → Type} [FloatOps F]

local notation "𝕄" => MT nD τ sig Unit (Elt F) ℕ (UR sig nD τ) ℕ

/-- The state after the first `n` trips of a loop whose trip `k` acts as `f k`. -/
def runTrips {n : ℕ} (f : Fin n → State F → State F) : ℕ → State F → State F
  | 0, S => S
  | k + 1, S => if h : k < n then f ⟨k, h⟩ (runTrips f k S) else runTrips f k S

/-- The bit saying that the size number is `k`. -/
@[reducible] def hit (v3 k : BitVec 32) : BitVec 1 := Scalar.cmpi .ne (Scalar.extui (Scalar.cmpi .eq v3 k) : BitVec 32) 0#32

/-- The bit of the first point of all. -/
@[reducible] def atFirst (i : grid0.Coords) : BitVec 1 :=
  Scalar.cmpi .ne (Scalar.extui (Scalar.andi (Scalar.cmpi .eq (BitVec.ofNat 32 (i 0).val) 0#32)
    (Scalar.andi (Scalar.cmpi .eq (BitVec.ofNat 32 (i 1).val) 0#32) (Scalar.cmpi .eq (BitVec.ofNat 32 (i 2).val) 0#32))) : BitVec 32) 0#32

/-- The bit of the first point of a tile of tokens. -/
@[reducible] def atTile (i : grid0.Coords) : BitVec 1 :=
  Scalar.cmpi .ne (Scalar.extui (Scalar.andi (Scalar.cmpi .eq (BitVec.ofNat 32 (i 1).val) 0#32)
    (Scalar.cmpi .eq (BitVec.ofNat 32 (i 2).val) 0#32)) : BitVec 32) 0#32

/-- The lower triangle is written. -/
def triF (S : State F) : State F :=
  { S with a17 := (Rect.unit (s := S1024x1024) ![0, 0] S1024x1024.size inb_S1024x1024_S1024x1024_0_0).overlay S.a17 k0_pay23 }

/-- The normalised tile is written and the result cleared. -/
def init1 (S : State F) : State F :=
  { S with a16 := (Rect.unit (s := S1024x1024) ![0, 0] S1024x1024.size inb_S1024x1024_S1024x1024_0_0).overlay S.a16 (k0_pay11 (fun j => S.a5 ((Rect.unit (s := S1024x1024) ![0, 0] S1024x1024.size inb_S1024x1024_S1024x1024_0_0).emb j)) (fun j => S.a6 ((Rect.unit (s := S1x1024) ![0, 0] S1x1024.size inb_S1x1024_S1x1024_0_0).emb j)) (fun j => S.a7 ((Rect.unit (s := S1x1x1024) ![0, 0, 0] S1x1x1024.size inb_S1x1x1024_S1x1x1024_0_0_0).emb j)) (fun j => S.a8 ((Rect.unit (s := S1x1x1024) ![0, 0, 0] S1x1x1024.size inb_S1x1x1024_S1x1x1024_0_0_0).emb j))), a22 := (Rect.unit (s := S1024x1024) ![0, 0] S1024x1024.size inb_S1024x1024_S1024x1024_0_0).overlay S.a22 (k0_pay12 (F := F)) }

/-- The ranks are written, as columns and as rows. -/
def init2 (S : State F) : State F :=
  { S with a18 := (Rect.unit (s := S1024x128) ![0, 0] S1024x128.size inb_S1024x128_S1024x128_0_0).overlay S.a18 (k0_pay25 (k0_pay13 (fun j => S.a10 ((Rect.unit (s := S1024x128) ![0, 0] S1024x128.size inb_S1024x128_S1024x128_0_0).emb j))) (Scalar.ofBits .f32 0x00000000#32) (fun j => S.a17 ((Rect.unit (s := S1024x1024) ![0, 0] S1024x1024.size inb_S1024x1024_S1024x1024_0_0).emb j))), a19 := (Rect.unit (s := S128x1024) ![0, 0] S128x1024.size inb_S128x1024_S128x1024_0_0).overlay S.a19 (k0_pay26 (k0_pay13 (fun j => S.a10 ((Rect.unit (s := S1024x128) ![0, 0] S1024x128.size inb_S1024x128_S1024x128_0_0).emb j))) (Scalar.ofBits .f32 0x00000000#32) (fun j => S.a17 ((Rect.unit (s := S1024x1024) ![0, 0] S1024x1024.size inb_S1024x1024_S1024x1024_0_0).emb j))) }

/-- The members of the expert are gathered into 128 rows. -/
def g0 (v55 : Vec F S1x1024 .f32) (S : State F) : State F :=
  { S with a20 := (Rect.unit (s := S1024x1024) ![0, 0] S128x1024.size inb_S1024x1024_S128x1024_0_0).overlay S.a20 (k0_pay27 v55 (fun j => S.a16 ((Rect.unit (s := S1024x1024) ![0, 0] S1024x1024.size inb_S1024x1024_S1024x1024_0_0).emb j))), a21 := (Rect.unit (s := S1024x1024) ![0, 0] S128x1024.size inb_S1024x1024_S128x1024_0_0).overlay S.a21 (k0_pay28 (F := F)) }

/-- The members of the expert are gathered into 192 rows. -/
def g1 (v55 : Vec F S1x1024 .f32) (S : State F) : State F :=
  { S with a20 := (Rect.unit (s := S1024x1024) ![0, 0] S192x1024.size inb_S1024x1024_S192x1024_0_0).overlay S.a20 (k0_pay29 v55 (fun j => S.a16 ((Rect.unit (s := S1024x1024) ![0, 0] S1024x1024.size inb_S1024x1024_S1024x1024_0_0).emb j))), a21 := (Rect.unit (s := S1024x1024) ![0, 0] S192x1024.size inb_S1024x1024_S192x1024_0_0).overlay S.a21 (k0_pay30 (F := F)) }

/-- The members of the expert are gathered into 256 rows. -/
def g2 (v55 : Vec F S1x1024 .f32) (S : State F) : State F :=
  { S with a20 := (Rect.unit (s := S1024x1024) ![0, 0] S256x1024.size inb_S1024x1024_S256x1024_0_0).overlay S.a20 (k0_pay31 v55 (fun j => S.a16 ((Rect.unit (s := S1024x1024) ![0, 0] S1024x1024.size inb_S1024x1024_S1024x1024_0_0).emb j))), a21 := (Rect.unit (s := S1024x1024) ![0, 0] S256x1024.size inb_S1024x1024_S256x1024_0_0).overlay S.a21 (k0_pay32 (F := F)) }

/-- The members of the expert are gathered into 320 rows. -/
def g3 (v55 : Vec F S1x1024 .f32) (S : State F) : State F :=
  { S with a20 := (Rect.unit (s := S1024x1024) ![0, 0] S320x1024.size inb_S1024x1024_S320x1024_0_0).overlay S.a20 (k0_pay33 v55 (fun j => S.a16 ((Rect.unit (s := S1024x1024) ![0, 0] S1024x1024.size inb_S1024x1024_S1024x1024_0_0).emb j))), a21 := (Rect.unit (s := S1024x1024) ![0, 0] S320x1024.size inb_S1024x1024_S320x1024_0_0).overlay S.a21 (k0_pay34 (F := F)) }

/-- The members of the expert are gathered into 384 rows. -/
def g4 (v55 : Vec F S1x1024 .f32) (S : State F) : State F :=
  { S with a20 := (Rect.unit (s := S1024x1024) ![0, 0] S384x1024.size inb_S1024x1024_S384x1024_0_0).overlay S.a20 (k0_pay35 v55 (fun j => S.a16 ((Rect.unit (s := S1024x1024) ![0, 0] S1024x1024.size inb_S1024x1024_S1024x1024_0_0).emb j))), a21 := (Rect.unit (s := S1024x1024) ![0, 0] S384x1024.size inb_S1024x1024_S384x1024_0_0).overlay S.a21 (k0_pay36 (F := F)) }

/-- The members of the expert are gathered into 448 rows. -/
def g5 (v55 : Vec F S1x1024 .f32) (S : State F) : State F :=
  { S with a20 := (Rect.unit (s := S1024x1024) ![0, 0] S448x1024.size inb_S1024x1024_S448x1024_0_0).overlay S.a20 (k0_pay37 v55 (fun j => S.a16 ((Rect.unit (s := S1024x1024) ![0, 0] S1024x1024.size inb_S1024x1024_S1024x1024_0_0).emb j))), a21 := (Rect.unit (s := S1024x1024) ![0, 0] S448x1024.size inb_S1024x1024_S448x1024_0_0).overlay S.a21 (k0_pay38 (F := F)) }

/-- The members of the expert are gathered into 512 rows. -/
def g6 (v55 : Vec F S1x1024 .f32) (S : State F) : State F :=
  { S with a20 := (Rect.unit (s := S1024x1024) ![0, 0] S512x1024.size inb_S1024x1024_S512x1024_0_0).overlay S.a20 (k0_pay39 v55 (fun j => S.a16 ((Rect.unit (s := S1024x1024) ![0, 0] S1024x1024.size inb_S1024x1024_S1024x1024_0_0).emb j))), a21 := (Rect.unit (s := S1024x1024) ![0, 0] S512x1024.size inb_S1024x1024_S512x1024_0_0).overlay S.a21 (k0_pay40 (F := F)) }

/-- A block of the expert acts on 128 rows. -/
def e0 (S : State F) : State F :=
  { S with a21 := (Rect.unit (s := S1024x1024) ![0, 0] S128x1024.size inb_S1024x1024_S128x1024_0_0).overlay S.a21 (k0_pay45 (fun j => S.a20 ((Rect.unit (s := S1024x1024) ![0, 0] S128x1024.size inb_S1024x1024_S128x1024_0_0).emb j)) (fun j => S.a11 ((Rect.unit (s := S1x1024x896) ![0, 0, 0] S1x1024x896.size inb_S1x1024x896_S1x1024x896_0_0_0).emb j)) (fun j => S.a12 ((Rect.unit (s := S1x1024x896) ![0, 0, 0] S1x1024x896.size inb_S1x1024x896_S1x1024x896_0_0_0).emb j)) (fun j => S.a21 ((Rect.unit (s := S1024x1024) ![0, 0] S128x1024.size inb_S1024x1024_S128x1024_0_0).emb j)) (fun j => S.a13 ((Rect.unit (s := S1x896x1024) ![0, 0, 0] S1x896x1024.size inb_S1x896x1024_S1x896x1024_0_0_0).emb j))) }

/-- A block of the expert acts on 192 rows. -/
def e1 (S : State F) : State F :=
  { S with a21 := (Rect.unit (s := S1024x1024) ![0, 0] S192x1024.size inb_S1024x1024_S192x1024_0_0).overlay S.a21 (k0_pay46 (fun j => S.a20 ((Rect.unit (s := S1024x1024) ![0, 0] S192x1024.size inb_S1024x1024_S192x1024_0_0).emb j)) (fun j => S.a11 ((Rect.unit (s := S1x1024x896) ![0, 0, 0] S1x1024x896.size inb_S1x1024x896_S1x1024x896_0_0_0).emb j)) (fun j => S.a12 ((Rect.unit (s := S1x1024x896) ![0, 0, 0] S1x1024x896.size inb_S1x1024x896_S1x1024x896_0_0_0).emb j)) (fun j => S.a21 ((Rect.unit (s := S1024x1024) ![0, 0] S192x1024.size inb_S1024x1024_S192x1024_0_0).emb j)) (fun j => S.a13 ((Rect.unit (s := S1x896x1024) ![0, 0, 0] S1x896x1024.size inb_S1x896x1024_S1x896x1024_0_0_0).emb j))) }

/-- A block of the expert acts on 256 rows. -/
def e2 (S : State F) : State F :=
  { S with a21 := (Rect.unit (s := S1024x1024) ![0, 0] S256x1024.size inb_S1024x1024_S256x1024_0_0).overlay S.a21 (k0_pay47 (fun j => S.a20 ((Rect.unit (s := S1024x1024) ![0, 0] S256x1024.size inb_S1024x1024_S256x1024_0_0).emb j)) (fun j => S.a11 ((Rect.unit (s := S1x1024x896) ![0, 0, 0] S1x1024x896.size inb_S1x1024x896_S1x1024x896_0_0_0).emb j)) (fun j => S.a12 ((Rect.unit (s := S1x1024x896) ![0, 0, 0] S1x1024x896.size inb_S1x1024x896_S1x1024x896_0_0_0).emb j)) (fun j => S.a21 ((Rect.unit (s := S1024x1024) ![0, 0] S256x1024.size inb_S1024x1024_S256x1024_0_0).emb j)) (fun j => S.a13 ((Rect.unit (s := S1x896x1024) ![0, 0, 0] S1x896x1024.size inb_S1x896x1024_S1x896x1024_0_0_0).emb j))) }

/-- A block of the expert acts on 320 rows. -/
def e3 (S : State F) : State F :=
  { S with a21 := (Rect.unit (s := S1024x1024) ![0, 0] S320x1024.size inb_S1024x1024_S320x1024_0_0).overlay S.a21 (k0_pay1 (fun j => S.a20 ((Rect.unit (s := S1024x1024) ![0, 0] S320x1024.size inb_S1024x1024_S320x1024_0_0).emb j)) (fun j => S.a11 ((Rect.unit (s := S1x1024x896) ![0, 0, 0] S1x1024x896.size inb_S1x1024x896_S1x1024x896_0_0_0).emb j)) (fun j => S.a12 ((Rect.unit (s := S1x1024x896) ![0, 0, 0] S1x1024x896.size inb_S1x1024x896_S1x1024x896_0_0_0).emb j)) (fun j => S.a21 ((Rect.unit (s := S1024x1024) ![0, 0] S320x1024.size inb_S1024x1024_S320x1024_0_0).emb j)) (fun j => S.a13 ((Rect.unit (s := S1x896x1024) ![0, 0, 0] S1x896x1024.size inb_S1x896x1024_S1x896x1024_0_0_0).emb j))) }

/-- A block of the expert acts on 384 rows. -/
def e4 (S : State F) : State F :=
  { S with a21 := (Rect.unit (s := S1024x1024) ![0, 0] S384x1024.size inb_S1024x1024_S384x1024_0_0).overlay S.a21 (k0_pay2 (fun j => S.a20 ((Rect.unit (s := S1024x1024) ![0, 0] S384x1024.size inb_S1024x1024_S384x1024_0_0).emb j)) (fun j => S.a11 ((Rect.unit (s := S1x1024x896) ![0, 0, 0] S1x1024x896.size inb_S1x1024x896_S1x1024x896_0_0_0).emb j)) (fun j => S.a12 ((Rect.unit (s := S1x1024x896) ![0, 0, 0] S1x1024x896.size inb_S1x1024x896_S1x1024x896_0_0_0).emb j)) (fun j => S.a21 ((Rect.unit (s := S1024x1024) ![0, 0] S384x1024.size inb_S1024x1024_S384x1024_0_0).emb j)) (fun j => S.a13 ((Rect.unit (s := S1x896x1024) ![0, 0, 0] S1x896x1024.size inb_S1x896x1024_S1x896x1024_0_0_0).emb j))) }

/-- A block of the expert acts on 448 rows. -/
def e5 (S : State F) : State F :=
  { S with a21 := (Rect.unit (s := S1024x1024) ![0, 0] S448x1024.size inb_S1024x1024_S448x1024_0_0).overlay S.a21 (k0_pay3 (fun j => S.a20 ((Rect.unit (s := S1024x1024) ![0, 0] S448x1024.size inb_S1024x1024_S448x1024_0_0).emb j)) (fun j => S.a11 ((Rect.unit (s := S1x1024x896) ![0, 0, 0] S1x1024x896.size inb_S1x1024x896_S1x1024x896_0_0_0).emb j)) (fun j => S.a12 ((Rect.unit (s := S1x1024x896) ![0, 0, 0] S1x1024x896.size inb_S1x1024x896_S1x1024x896_0_0_0).emb j)) (fun j => S.a21 ((Rect.unit (s := S1024x1024) ![0, 0] S448x1024.size inb_S1024x1024_S448x1024_0_0).emb j)) (fun j => S.a13 ((Rect.unit (s := S1x896x1024) ![0, 0, 0] S1x896x1024.size inb_S1x896x1024_S1x896x1024_0_0_0).emb j))) }

/-- A block of the expert acts on 512 rows. -/
def e6 (S : State F) : State F :=
  { S with a21 := (Rect.unit (s := S1024x1024) ![0, 0] S512x1024.size inb_S1024x1024_S512x1024_0_0).overlay S.a21 (k0_pay4 (fun j => S.a20 ((Rect.unit (s := S1024x1024) ![0, 0] S512x1024.size inb_S1024x1024_S512x1024_0_0).emb j)) (fun j => S.a11 ((Rect.unit (s := S1x1024x896) ![0, 0, 0] S1x1024x896.size inb_S1x1024x896_S1x1024x896_0_0_0).emb j)) (fun j => S.a12 ((Rect.unit (s := S1x1024x896) ![0, 0, 0] S1x1024x896.size inb_S1x1024x896_S1x1024x896_0_0_0).emb j)) (fun j => S.a21 ((Rect.unit (s := S1024x1024) ![0, 0] S512x1024.size inb_S1024x1024_S512x1024_0_0).emb j)) (fun j => S.a13 ((Rect.unit (s := S1x896x1024) ![0, 0, 0] S1x896x1024.size inb_S1x896x1024_S1x896x1024_0_0_0).emb j))) }

/-- The 128 rows are added to the members. -/
def s0 (arg1 : BitVec 32) (v57 v62 : Vec F S1024x128 .f32) (S : State F) : State F :=
  { S with a22 := (Rect.unit (s := S1024x1024) ![0, 0] S1024x1024.size inb_S1024x1024_S1024x1024_0_0).overlay S.a22 (k0_pay17 arg1 v57 v62 (fun j => S.a22 ((Rect.unit (s := S1024x1024) ![0, 0] S1024x1024.size inb_S1024x1024_S1024x1024_0_0).emb j)) (fun j => S.a21 ((Rect.unit (s := S1024x1024) ![0, 0] S128x1024.size inb_S1024x1024_S128x1024_0_0).emb j))) }

/-- The 192 rows are added to the members. -/
def s1 (arg1 : BitVec 32) (v57 v62 : Vec F S1024x128 .f32) (S : State F) : State F :=
  { S with a22 := (Rect.unit (s := S1024x1024) ![0, 0] S1024x1024.size inb_S1024x1024_S1024x1024_0_0).overlay S.a22 (k0_pay18 arg1 v57 v62 (fun j => S.a22 ((Rect.unit (s := S1024x1024) ![0, 0] S1024x1024.size inb_S1024x1024_S1024x1024_0_0).emb j)) (fun j => S.a21 ((Rect.unit (s := S1024x1024) ![0, 0] S192x1024.size inb_S1024x1024_S192x1024_0_0).emb j))) }

/-- The 256 rows are added to the members. -/
def s2 (arg1 : BitVec 32) (v57 v62 : Vec F S1024x128 .f32) (S : State F) : State F :=
  { S with a22 := (Rect.unit (s := S1024x1024) ![0, 0] S1024x1024.size inb_S1024x1024_S1024x1024_0_0).overlay S.a22 (k0_pay19 arg1 v57 v62 (fun j => S.a22 ((Rect.unit (s := S1024x1024) ![0, 0] S1024x1024.size inb_S1024x1024_S1024x1024_0_0).emb j)) (fun j => S.a21 ((Rect.unit (s := S1024x1024) ![0, 0] S256x1024.size inb_S1024x1024_S256x1024_0_0).emb j))) }

/-- The 320 rows are added to the members. -/
def s3 (arg1 : BitVec 32) (v57 v62 : Vec F S1024x128 .f32) (S : State F) : State F :=
  { S with a22 := (Rect.unit (s := S1024x1024) ![0, 0] S1024x1024.size inb_S1024x1024_S1024x1024_0_0).overlay S.a22 (k0_pay20 arg1 v57 v62 (fun j => S.a22 ((Rect.unit (s := S1024x1024) ![0, 0] S1024x1024.size inb_S1024x1024_S1024x1024_0_0).emb j)) (fun j => S.a21 ((Rect.unit (s := S1024x1024) ![0, 0] S320x1024.size inb_S1024x1024_S320x1024_0_0).emb j))) }

/-- The 384 rows are added to the members. -/
def s4 (arg1 : BitVec 32) (v57 v62 : Vec F S1024x128 .f32) (S : State F) : State F :=
  { S with a22 := (Rect.unit (s := S1024x1024) ![0, 0] S1024x1024.size inb_S1024x1024_S1024x1024_0_0).overlay S.a22 (k0_pay21 arg1 v57 v62 (fun j => S.a22 ((Rect.unit (s := S1024x1024) ![0, 0] S1024x1024.size inb_S1024x1024_S1024x1024_0_0).emb j)) (fun j => S.a21 ((Rect.unit (s := S1024x1024) ![0, 0] S384x1024.size inb_S1024x1024_S384x1024_0_0).emb j))) }

/-- The 448 rows are added to the members. -/
def s5 (arg1 : BitVec 32) (v57 v62 : Vec F S1024x128 .f32) (S : State F) : State F :=
  { S with a22 := (Rect.unit (s := S1024x1024) ![0, 0] S1024x1024.size inb_S1024x1024_S1024x1024_0_0).overlay S.a22 (k0_pay22 arg1 v57 v62 (fun j => S.a22 ((Rect.unit (s := S1024x1024) ![0, 0] S1024x1024.size inb_S1024x1024_S1024x1024_0_0).emb j)) (fun j => S.a21 ((Rect.unit (s := S1024x1024) ![0, 0] S448x1024.size inb_S1024x1024_S448x1024_0_0).emb j))) }

/-- The 512 rows are added to the members. -/
def s6 (v61 v67 : FVec F S1024x1 .f32) (S : State F) : State F :=
  { S with a22 := (Rect.unit (s := S1024x1024) ![0, 0] S1024x1024.size inb_S1024x1024_S1024x1024_0_0).overlay S.a22 (k0_pay7 v61 v67 (fun j => S.a22 ((Rect.unit (s := S1024x1024) ![0, 0] S1024x1024.size inb_S1024x1024_S1024x1024_0_0).emb j)) (fun j => S.a21 ((Rect.unit (s := S1024x1024) ![0, 0] S512x1024.size inb_S1024x1024_S512x1024_0_0).emb j))) }

/-- One trip of the gathering by chunks of 512 rows. -/
def gl1 (i : grid0.Coords) (v3 v7 : BitVec 32) (hw : k0_chk1 i v3 v7) (h3 : k0_cond3 i = 1#1) (v55 : Vec F S1x1024 .f32) (h11 : k0_cond11 v3 = 1#1) (k : Fin (k0_t1_loop v7).trips) (S : State F) : State F :=
  { S with a20 := (Rect.unit (s := S1024x1024) (k0_off3 v7 k) S512x1024.size (k0_off3_inb i v3 v7 hw k h3 h11)).overlay S.a20 (k0_pay41 v7 v55 k (fun j => S.a16 ((Rect.unit (s := S1024x1024) ![0, 0] S1024x1024.size inb_S1024x1024_S1024x1024_0_0).emb j))), a21 := (Rect.unit (s := S1024x1024) (k0_off3 v7 k) S512x1024.size (k0_off3_inb i v3 v7 hw k h3 h11)).overlay S.a21 (k0_pay42 (F := F)) }

/-- One trip of the gathering by chunks of 512 rows. -/
def gl2 (i : grid0.Coords) (v3 v7 : BitVec 32) (hw : k0_chk1 i v3 v7) (h3 : k0_cond3 i = 1#1) (v55 : Vec F S1x1024 .f32) (h11 : k0_cond11 v3 = 1#1) (k : Fin (k0_t2_loop v7).trips) (S : State F) : State F :=
  { S with a20 := (Rect.unit (s := S1024x1024) (k0_off4 v7 k) S512x1024.size (k0_off4_inb i v3 v7 hw k h3 h11)).overlay S.a20 (k0_pay43 v7 v55 k (fun j => S.a16 ((Rect.unit (s := S1024x1024) ![0, 0] S1024x1024.size inb_S1024x1024_S1024x1024_0_0).emb j))), a21 := (Rect.unit (s := S1024x1024) (k0_off4 v7 k) S512x1024.size (k0_off4_inb i v3 v7 hw k h3 h11)).overlay S.a21 (k0_pay44 (F := F)) }

/-- One trip of the expert by chunks of 512 rows. -/
def el3 (i : grid0.Coords) (v3 v7 : BitVec 32) (hw : k0_chk1 i v3 v7) (h19 : k0_cond19 v3 = 1#1) (k : Fin (k0_t3_loop v7).trips) (S : State F) : State F :=
  { S with a21 := (Rect.unit (s := S1024x1024) (k0_off5 v7 k) S512x1024.size (k0_off5_inb i v3 v7 hw k h19)).overlay S.a21 (k0_pay5 (fun j => S.a20 ((Rect.unit (s := S1024x1024) (k0_off5 v7 k) S512x1024.size (k0_off5_inb i v3 v7 hw k h19)).emb j)) (fun j => S.a11 ((Rect.unit (s := S1x1024x896) ![0, 0, 0] S1x1024x896.size inb_S1x1024x896_S1x1024x896_0_0_0).emb j)) (fun j => S.a12 ((Rect.unit (s := S1x1024x896) ![0, 0, 0] S1x1024x896.size inb_S1x1024x896_S1x1024x896_0_0_0).emb j)) (fun j => S.a21 ((Rect.unit (s := S1024x1024) (k0_off5 v7 k) S512x1024.size (k0_off5_inb i v3 v7 hw k h19)).emb j)) (fun j => S.a13 ((Rect.unit (s := S1x896x1024) ![0, 0, 0] S1x896x1024.size inb_S1x896x1024_S1x896x1024_0_0_0).emb j))) }

/-- One trip of the expert by chunks of 512 rows. -/
def el4 (i : grid0.Coords) (v3 v7 : BitVec 32) (hw : k0_chk1 i v3 v7) (h19 : k0_cond19 v3 = 1#1) (k : Fin (k0_t4_loop v7).trips) (S : State F) : State F :=
  { S with a21 := (Rect.unit (s := S1024x1024) (k0_off6 v7 k) S512x1024.size (k0_off6_inb i v3 v7 hw k h19)).overlay S.a21 (k0_pay6 (fun j => S.a20 ((Rect.unit (s := S1024x1024) (k0_off6 v7 k) S512x1024.size (k0_off6_inb i v3 v7 hw k h19)).emb j)) (fun j => S.a11 ((Rect.unit (s := S1x1024x896) ![0, 0, 0] S1x1024x896.size inb_S1x1024x896_S1x1024x896_0_0_0).emb j)) (fun j => S.a12 ((Rect.unit (s := S1x1024x896) ![0, 0, 0] S1x1024x896.size inb_S1x1024x896_S1x1024x896_0_0_0).emb j)) (fun j => S.a21 ((Rect.unit (s := S1024x1024) (k0_off6 v7 k) S512x1024.size (k0_off6_inb i v3 v7 hw k h19)).emb j)) (fun j => S.a13 ((Rect.unit (s := S1x896x1024) ![0, 0, 0] S1x896x1024.size inb_S1x896x1024_S1x896x1024_0_0_0).emb j))) }

/-- One trip of the adding back by chunks of 512 rows. -/
def sl5 (i : grid0.Coords) (v3 v7 : BitVec 32) (hw : k0_chk1 i v3 v7) (h20 : k0_cond20 i = 1#1) (v61 v67 : FVec F S1024x1 .f32) (h28 : k0_cond28 v3 = 1#1) (k : Fin (k0_t5_loop v7).trips) (S : State F) : State F :=
  { S with a22 := (Rect.unit (s := S1024x1024) ![0, 0] S1024x1024.size inb_S1024x1024_S1024x1024_0_0).overlay S.a22 (k0_pay8 v7 v61 v67 k (fun j => S.a22 ((Rect.unit (s := S1024x1024) ![0, 0] S1024x1024.size inb_S1024x1024_S1024x1024_0_0).emb j)) (fun j => S.a21 ((Rect.unit (s := S1024x1024) (k0_off7 v7 k) S512x1024.size (k0_off7_inb i v3 v7 hw k h20 h28)).emb j))) }

/-- One trip of the adding back by chunks of 512 rows. -/
def sl6 (i : grid0.Coords) (v3 v7 : BitVec 32) (hw : k0_chk1 i v3 v7) (h20 : k0_cond20 i = 1#1) (v61 v67 : FVec F S1024x1 .f32) (h28 : k0_cond28 v3 = 1#1) (k : Fin (k0_t6_loop v7).trips) (S : State F) : State F :=
  { S with a22 := (Rect.unit (s := S1024x1024) ![0, 0] S1024x1024.size inb_S1024x1024_S1024x1024_0_0).overlay S.a22 (k0_pay9 v7 v61 v67 k (fun j => S.a22 ((Rect.unit (s := S1024x1024) ![0, 0] S1024x1024.size inb_S1024x1024_S1024x1024_0_0).emb j)) (fun j => S.a21 ((Rect.unit (s := S1024x1024) (k0_off8 v7 k) S512x1024.size (k0_off8_inb i v3 v7 hw k h20 h28)).emb j))) }

/-- The block of the output is written. -/
def finF (S : State F) : State F :=
  { S with a15 := (Rect.unit (s := S1024x1024) ![0, 0] S1024x1024.size inb_S1024x1024_S1024x1024_0_0).overlay S.a15 (k0_pay10 (fun j => S.a5 ((Rect.unit (s := S1024x1024) ![0, 0] S1024x1024.size inb_S1024x1024_S1024x1024_0_0).emb j)) (fun j => S.a9 ((Rect.unit (s := S1x1x1024) ![0, 0, 0] S1x1x1024.size inb_S1x1x1024_S1x1x1024_0_0_0).emb j)) (fun j => S.a22 ((Rect.unit (s := S1024x1024) ![0, 0] S1024x1024.size inb_S1024x1024_S1024x1024_0_0).emb j)) (fun j => S.a14 ((Rect.unit (s := S1x1024) ![0, 0] S1x1024.size inb_S1x1024_S1x1024_0_0).emb j))) }

/-- The state after `S` where the bit is set. -/
@[reducible] def onBit (b : BitVec 1) (f : State F → State F) (S : State F) : State F := if b = 1#1 then f S else S

/-- The gathering of the members of the expert, at the first block. -/
def gatherF (i : grid0.Coords) (v3 v7 : BitVec 32) (hw : k0_chk1 i v3 v7) (h3 : k0_cond3 i = 1#1) (S : State F) : State F :=
  let v55 : Vec F S1x1024 .f32 := (fun j => S.a19 ((Rect.unit (s := S128x1024) (k0_off2 i) S1x1024.size (k0_off2_inb i h3)).emb j))
  let S1 := (onBit (hit v3 6#32) (g6 v55) (onBit (hit v3 5#32) (g5 v55) (onBit (hit v3 4#32) (g4 v55) (onBit (hit v3 3#32) (g3 v55) (onBit (hit v3 2#32) (g2 v55) (onBit (hit v3 1#32) (g1 v55) (onBit (hit v3 0#32) (g0 v55) S)))))))
  if h : k0_cond11 v3 = 1#1 then runTrips (gl2 i v3 v7 hw h3 v55 h) (k0_t2_loop v7).trips (runTrips (gl1 i v3 v7 hw h3 v55 h) (k0_t1_loop v7).trips S1) else S1

/-- The expert's block acting on the gathered rows. -/
def expertF (i : grid0.Coords) (v3 v7 : BitVec 32) (hw : k0_chk1 i v3 v7) (S : State F) : State F :=
  let S1 := (onBit (hit v3 6#32) e6 (onBit (hit v3 5#32) e5 (onBit (hit v3 4#32) e4 (onBit (hit v3 3#32) e3 (onBit (hit v3 2#32) e2 (onBit (hit v3 1#32) e1 (onBit (hit v3 0#32) e0 S)))))))
  if h : k0_cond19 v3 = 1#1 then runTrips (el4 i v3 v7 hw h) (k0_t4_loop v7).trips (runTrips (el3 i v3 v7 hw h) (k0_t3_loop v7).trips S1) else S1

/-- The rows added back to the members, at the last block. -/
def scatterF (i : grid0.Coords) (v3 v7 : BitVec 32) (hw : k0_chk1 i v3 v7) (h20 : k0_cond20 i = 1#1) (S : State F) : State F :=
  let v57 : Vec F S1024x128 .f32 := (fun j => S.a18 ((Rect.unit (s := S1024x128) ![0, 0] S1024x128.size inb_S1024x128_S1024x128_0_0).emb j))
  let v62 : Vec F S1024x128 .f32 := (fun j => S.a10 ((Rect.unit (s := S1024x128) ![0, 0] S1024x128.size inb_S1024x128_S1024x128_0_0).emb j))
  let a1 : BitVec 32 := BitVec.ofNat 32 (i 1).val
  let S1 := onBit (hit v3 6#32) (s6 (k0_pay15 a1 v57) (k0_pay16 a1 v62)) (onBit (hit v3 5#32) (s5 a1 v57 v62) (onBit (hit v3 4#32) (s4 a1 v57 v62) (onBit (hit v3 3#32) (s3 a1 v57 v62) (onBit (hit v3 2#32) (s2 a1 v57 v62) (onBit (hit v3 1#32) (s1 a1 v57 v62) (onBit (hit v3 0#32) (s0 a1 v57 v62) S))))))
  if h : k0_cond28 v3 = 1#1 then runTrips (sl6 i v3 v7 hw h20 (k0_pay15 a1 v57) (k0_pay16 a1 v62) h) (k0_t6_loop v7).trips (runTrips (sl5 i v3 v7 hw h20 (k0_pay15 a1 v57) (k0_pay16 a1 v62) h) (k0_t5_loop v7).trips S1) else S1

/-- The whole body as a function of the state. -/
def bodyF (i : grid0.Coords) (v3 v7 : BitVec 32) (hw : k0_chk1 i v3 v7) (S : State F) : State F :=
  let S1 := onBit (atTile i) (fun S => init2 (init1 S)) (onBit (atFirst i) triF S)
  let S2 := if h : k0_cond3 i = 1#1 then gatherF i v3 v7 hw h S1 else S1
  let S3 := expertF i v3 v7 hw S2
  let S4 := if h : k0_cond20 i = 1#1 then scatterF i v3 v7 hw h S3 else S3
  onBit (k0_cond29 i) finF S4

variable (c : Dev nD)
  (arg3 : Memref sig .tc .smem S256 .i32) (harg3 : arg3.IsWhole)
  (arg4 : Memref sig .tc .smem S256 .i32) (harg4 : arg4.IsWhole)
  (arg5 : Memref sig .tc .vmem S1024x1024 .f32) (harg5 : arg5.IsWhole)
  (arg6 : Memref sig .tc .vmem S1x1024 .f32) (harg6 : arg6.IsWhole)
  (arg7 : Memref sig .tc .vmem S1x1x1024 .f32) (harg7 : arg7.IsWhole)
  (arg8 : Memref sig .tc .vmem S1x1x1024 .f32) (harg8 : arg8.IsWhole)
  (arg9 : Memref sig .tc .vmem S1x1x1024 .f32) (harg9 : arg9.IsWhole)
  (arg10 : Memref sig .tc .vmem S1024x128 .f32) (harg10 : arg10.IsWhole)
  (arg11 : Memref sig .tc .vmem S1x1024x896 .bf16) (harg11 : arg11.IsWhole)
  (arg12 : Memref sig .tc .vmem S1x1024x896 .bf16) (harg12 : arg12.IsWhole)
  (arg13 : Memref sig .tc .vmem S1x896x1024 .bf16) (harg13 : arg13.IsWhole)
  (arg14 : Memref sig .tc .vmem S1x1024 .f32) (harg14 : arg14.IsWhole)
  (arg15 : Memref sig .tc .vmem S1024x1024 .f32) (harg15 : arg15.IsWhole)
  (arg16 : Memref sig .tc .vmem S1024x1024 .bf16) (harg16 : arg16.IsWhole)
  (arg17 : Memref sig .tc .vmem S1024x1024 .bf16) (harg17 : arg17.IsWhole)
  (arg18 : Memref sig .tc .vmem S1024x128 .f32) (harg18 : arg18.IsWhole)
  (arg19 : Memref sig .tc .vmem S128x1024 .f32) (harg19 : arg19.IsWhole)
  (arg20 : Memref sig .tc .vmem S1024x1024 .bf16) (harg20 : arg20.IsWhole)
  (arg21 : Memref sig .tc .vmem S1024x1024 .f32) (harg21 : arg21.IsWhole)
  (arg22 : Memref sig .tc .vmem S1024x1024 .f32) (harg22 : arg22.IsWhole)

section

variable {α : Type}

theorem tri_jp (S : State F) (b : BitVec 1) (f : State F → State F) (p : Prog (TpuEff nD τ sig (Elt F) Λ₀ .tc) α)
    (jp : PUnit → Prog (TpuEff nD τ sig (Elt F) Λ₀ .tc) α) (Q : α → State F → Prop)
    (h2 : ∀ S', S' = onBit b f S → Tri c arg3 arg4 arg5 arg6 arg7 arg8 arg9 arg10 arg11 arg12 arg13 arg14 arg15 arg16 arg17 arg18 arg19 arg20 arg21 arg22 S' (jp ⟨⟩) Q)
    (h1 : Tri c arg3 arg4 arg5 arg6 arg7 arg8 arg9 arg10 arg11 arg12 arg13 arg14 arg15 arg16 arg17 arg18 arg19 arg20 arg21 arg22 (f S) (jp ⟨⟩) Q → Tri c arg3 arg4 arg5 arg6 arg7 arg8 arg9 arg10 arg11 arg12 arg13 arg14 arg15 arg16 arg17 arg18 arg19 arg20 arg21 arg22 S p Q) :
    Tri c arg3 arg4 arg5 arg6 arg7 arg8 arg9 arg10 arg11 arg12 arg13 arg14 arg15 arg16 arg17 arg18 arg19 arg20 arg21 arg22 S (if b = 1#1 then p else jp ⟨⟩) Q := by
  by_cases hb : b = 1#1
  · rw [if_pos hb]
    exact h1 (by have := h2 _ rfl; rwa [onBit, if_pos hb] at this)
  · rw [if_neg hb]
    have := h2 _ rfl; rwa [onBit, if_neg hb] at this

theorem tri_djp (S : State F) (b : BitVec 1) (f : b = 1#1 → State F → State F) (p : b = 1#1 → Prog (TpuEff nD τ sig (Elt F) Λ₀ .tc) α)
    (jp : PUnit → Prog (TpuEff nD τ sig (Elt F) Λ₀ .tc) α) (Q : α → State F → Prop)
    (h2 : ∀ S', S' = (if h : b = 1#1 then f h S else S) → Tri c arg3 arg4 arg5 arg6 arg7 arg8 arg9 arg10 arg11 arg12 arg13 arg14 arg15 arg16 arg17 arg18 arg19 arg20 arg21 arg22 S' (jp ⟨⟩) Q)
    (h1 : ∀ h : b = 1#1, Tri c arg3 arg4 arg5 arg6 arg7 arg8 arg9 arg10 arg11 arg12 arg13 arg14 arg15 arg16 arg17 arg18 arg19 arg20 arg21 arg22 (f h S) (jp ⟨⟩) Q → Tri c arg3 arg4 arg5 arg6 arg7 arg8 arg9 arg10 arg11 arg12 arg13 arg14 arg15 arg16 arg17 arg18 arg19 arg20 arg21 arg22 S (p h) Q) :
    Tri c arg3 arg4 arg5 arg6 arg7 arg8 arg9 arg10 arg11 arg12 arg13 arg14 arg15 arg16 arg17 arg18 arg19 arg20 arg21 arg22 S (if h : b = 1#1 then p h else jp ⟨⟩) Q := by
  by_cases hb : b = 1#1
  · rw [dif_pos hb]
    exact h1 hb (by have := h2 _ rfl; rwa [dif_pos hb] at this)
  · rw [dif_neg hb]
    have := h2 _ rfl; rwa [dif_neg hb] at this

theorem tri_for (l : Scf.Loop 32) (hok : l.OK) (init : BitVec 32) (S : State F)
    (body : Fin l.trips → BitVec 32 → Prog (TpuEff nD τ sig (Elt F) Λ₀ .tc) (BitVec 32))
    (f : Fin l.trips → State F → State F)
    (hbody : ∀ k acc S, Tri c arg3 arg4 arg5 arg6 arg7 arg8 arg9 arg10 arg11 arg12 arg13 arg14 arg15 arg16 arg17 arg18 arg19 arg20 arg21 arg22 S (body k acc) (fun _ S' => S' = f k S))
    (kk : BitVec 32 → Prog (TpuEff nD τ sig (Elt F) Λ₀ .tc) α) (Q : α → State F → Prop)
    (h : ∀ acc, Tri c arg3 arg4 arg5 arg6 arg7 arg8 arg9 arg10 arg11 arg12 arg13 arg14 arg15 arg16 arg17 arg18 arg19 arg20 arg21 arg22 (runTrips f l.trips S) (kk acc) Q) :
    Tri c arg3 arg4 arg5 arg6 arg7 arg8 arg9 arg10 arg11 arg12 arg13 arg14 arg15 arg16 arg17 arg18 arg19 arg20 arg21 arg22 S (Scf.Loop.for l hok init body >>= kk) Q := by
  intro E
  have hstep : ∀ (k : Fin l.trips) (acc : BitVec 32), Own c arg3 arg4 arg5 arg6 arg7 arg8 arg9 arg10 arg11 arg12 arg13 arg14 arg15 arg16 arg17 arg18 arg19 arg20 arg21 arg22 (runTrips f k.val S) ⊢ wp frame (wpE (defs₀ (F := F)) Variants.none c none) E (body k acc)
      (fun _ => Own c arg3 arg4 arg5 arg6 arg7 arg8 arg9 arg10 arg11 arg12 arg13 arg14 arg15 arg16 arg17 arg18 arg19 arg20 arg21 arg22 (runTrips f (k.val + 1) S)) := by
    intro k acc
    refine (hbody k acc _ E).trans (wp_mono _ _ _ (fun a => ?_))
    iintro ⟨%S', %hR, H⟩
    rw [hR]
    rw [show runTrips f (k.val + 1) S = f k (runTrips f k.val S) from by rw [runTrips, dif_pos k.isLt]]
    iexact H
  have hloop := Scf.wp_for_bind frame (wpE (defs₀ (F := F)) Variants.none c none) E l.lb l.ub l.st hok init body
    (fun k _ => Own c arg3 arg4 arg5 arg6 arg7 arg8 arg9 arg10 arg11 arg12 arg13 arg14 arg15 arg16 arg17 arg18 arg19 arg20 arg21 arg22 (runTrips f k S)) hstep (kk := kk)
    (Q := fun r => iprop(∃ S' : State F, ⌜Q r S'⌝ ∗ Own c arg3 arg4 arg5 arg6 arg7 arg8 arg9 arg10 arg11 arg12 arg13 arg14 arg15 arg16 arg17 arg18 arg19 arg20 arg21 arg22 S'))
  have h0 : Own c arg3 arg4 arg5 arg6 arg7 arg8 arg9 arg10 arg11 arg12 arg13 arg14 arg15 arg16 arg17 arg18 arg19 arg20 arg21 arg22 S ⊢ Own c arg3 arg4 arg5 arg6 arg7 arg8 arg9 arg10 arg11 arg12 arg13 arg14 arg15 arg16 arg17 arg18 arg19 arg20 arg21 arg22 (runTrips f 0 S) := .rfl
  refine (h0.trans hloop).trans ?_
  iintro H
  iapply H
  iintro %acc H
  iapply (h acc E)
  iexact H

end

theorem tri_t1 (i : grid0.Coords) (v3 v7 : BitVec 32) (hw : k0_chk1 i v3 v7) (h3 : k0_cond3 i = 1#1) (v55 : Vec F S1x1024 .f32) (h11 : k0_cond11 v3 = 1#1) (k : Fin (k0_t1_loop v7).trips) (acc : BitVec 32) (S : State F) :
    Tri c arg3 arg4 arg5 arg6 arg7 arg8 arg9 arg10 arg11 arg12 arg13 arg14 arg15 arg16 arg17 arg18 arg19 arg20 arg21 arg22 S (k0_t1_body i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v3 v7 hw h3 v55 h11 k acc)
      (fun _ S' => S' = gl1 i v3 v7 hw h3 v55 h11 k S) := by
  unfold k0_t1_body
  refine tri_load16 (F := F) c arg3 arg4 arg5 arg6 arg7 arg8 arg9 arg10 arg11 arg12 arg13 arg14 arg15 arg16 arg17 arg18 arg19 arg20 arg21 arg22 _ _ _ _ _ ?_
  refine tri_load20 (F := F) c arg3 arg4 arg5 arg6 arg7 arg8 arg9 arg10 arg11 arg12 arg13 arg14 arg15 arg16 arg17 arg18 arg19 arg20 arg21 arg22 _ _ _ _ _ ?_
  refine tri_store20 (F := F) c arg3 arg4 arg5 arg6 arg7 arg8 arg9 arg10 arg11 arg12 arg13 arg14 arg15 arg16 arg17 arg18 arg19 arg20 arg21 arg22 _ (Rect.unit (s := S1024x1024) (k0_off3 v7 k) S512x1024.size (k0_off3_inb i v3 v7 hw k h3 h11)) _ (View.stores_vmem h_S512x1024 (harg20.storeExact_slice rfl _ (k0_off3_packedbf16 i v3 v7 hw k h3 h11)) (fun _ => rfl)) (.inl rfl) _ _ ?_
  refine tri_load21 (F := F) c arg3 arg4 arg5 arg6 arg7 arg8 arg9 arg10 arg11 arg12 arg13 arg14 arg15 arg16 arg17 arg18 arg19 arg20 arg21 arg22 _ _ _ _ _ ?_
  refine tri_store21 (F := F) c arg3 arg4 arg5 arg6 arg7 arg8 arg9 arg10 arg11 arg12 arg13 arg14 arg15 arg16 arg17 arg18 arg19 arg20 arg21 arg22 _ (Rect.unit (s := S1024x1024) (k0_off3 v7 k) S512x1024.size (k0_off3_inb i v3 v7 hw k h3 h11)) _ (View.stores_vmem_bits_univ h_S512x1024 rfl) (.inl rfl) _ _ ?_
  exact tri_pure c arg3 arg4 arg5 arg6 arg7 arg8 arg9 arg10 arg11 arg12 arg13 arg14 arg15 arg16 arg17 arg18 arg19 arg20 arg21 arg22 _ _ _ (by unfold gl1; dsimp only <;> rfl)

theorem tri_t2 (i : grid0.Coords) (v3 v7 : BitVec 32) (hw : k0_chk1 i v3 v7) (h3 : k0_cond3 i = 1#1) (v55 : Vec F S1x1024 .f32) (h11 : k0_cond11 v3 = 1#1) (k : Fin (k0_t2_loop v7).trips) (acc : BitVec 32) (S : State F) :
    Tri c arg3 arg4 arg5 arg6 arg7 arg8 arg9 arg10 arg11 arg12 arg13 arg14 arg15 arg16 arg17 arg18 arg19 arg20 arg21 arg22 S (k0_t2_body i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v3 v7 hw h3 v55 h11 k acc)
      (fun _ S' => S' = gl2 i v3 v7 hw h3 v55 h11 k S) := by
  unfold k0_t2_body
  refine tri_load16 (F := F) c arg3 arg4 arg5 arg6 arg7 arg8 arg9 arg10 arg11 arg12 arg13 arg14 arg15 arg16 arg17 arg18 arg19 arg20 arg21 arg22 _ _ _ _ _ ?_
  refine tri_load20 (F := F) c arg3 arg4 arg5 arg6 arg7 arg8 arg9 arg10 arg11 arg12 arg13 arg14 arg15 arg16 arg17 arg18 arg19 arg20 arg21 arg22 _ _ _ _ _ ?_
  refine tri_store20 (F := F) c arg3 arg4 arg5 arg6 arg7 arg8 arg9 arg10 arg11 arg12 arg13 arg14 arg15 arg16 arg17 arg18 arg19 arg20 arg21 arg22 _ (Rect.unit (s := S1024x1024) (k0_off4 v7 k) S512x1024.size (k0_off4_inb i v3 v7 hw k h3 h11)) _ (View.stores_vmem h_S512x1024 (harg20.storeExact_slice rfl _ (k0_off4_packedbf16 i v3 v7 hw k h3 h11)) (fun _ => rfl)) (.inl rfl) _ _ ?_
  refine tri_load21 (F := F) c arg3 arg4 arg5 arg6 arg7 arg8 arg9 arg10 arg11 arg12 arg13 arg14 arg15 arg16 arg17 arg18 arg19 arg20 arg21 arg22 _ _ _ _ _ ?_
  refine tri_store21 (F := F) c arg3 arg4 arg5 arg6 arg7 arg8 arg9 arg10 arg11 arg12 arg13 arg14 arg15 arg16 arg17 arg18 arg19 arg20 arg21 arg22 _ (Rect.unit (s := S1024x1024) (k0_off4 v7 k) S512x1024.size (k0_off4_inb i v3 v7 hw k h3 h11)) _ (View.stores_vmem_bits_univ h_S512x1024 rfl) (.inl rfl) _ _ ?_
  exact tri_pure c arg3 arg4 arg5 arg6 arg7 arg8 arg9 arg10 arg11 arg12 arg13 arg14 arg15 arg16 arg17 arg18 arg19 arg20 arg21 arg22 _ _ _ (by unfold gl2; dsimp only <;> rfl)

theorem tri_t3 (i : grid0.Coords) (v3 v7 : BitVec 32) (hw : k0_chk1 i v3 v7) (h19 : k0_cond19 v3 = 1#1) (k : Fin (k0_t3_loop v7).trips) (acc : BitVec 32) (S : State F) :
    Tri c arg3 arg4 arg5 arg6 arg7 arg8 arg9 arg10 arg11 arg12 arg13 arg14 arg15 arg16 arg17 arg18 arg19 arg20 arg21 arg22 S (k0_t3_body i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v3 v7 hw h19 k acc)
      (fun _ S' => S' = el3 i v3 v7 hw h19 k S) := by
  unfold k0_t3_body
  refine tri_load20 (F := F) c arg3 arg4 arg5 arg6 arg7 arg8 arg9 arg10 arg11 arg12 arg13 arg14 arg15 arg16 arg17 arg18 arg19 arg20 arg21 arg22 _ _ _ _ _ ?_
  refine tri_load11 (F := F) c arg3 arg4 arg5 arg6 arg7 arg8 arg9 arg10 arg11 arg12 arg13 arg14 arg15 arg16 arg17 arg18 arg19 arg20 arg21 arg22 _ _ _ _ _ ?_
  refine tri_load12 (F := F) c arg3 arg4 arg5 arg6 arg7 arg8 arg9 arg10 arg11 arg12 arg13 arg14 arg15 arg16 arg17 arg18 arg19 arg20 arg21 arg22 _ _ _ _ _ ?_
  refine tri_load21 (F := F) c arg3 arg4 arg5 arg6 arg7 arg8 arg9 arg10 arg11 arg12 arg13 arg14 arg15 arg16 arg17 arg18 arg19 arg20 arg21 arg22 _ _ _ _ _ ?_
  refine tri_load13 (F := F) c arg3 arg4 arg5 arg6 arg7 arg8 arg9 arg10 arg11 arg12 arg13 arg14 arg15 arg16 arg17 arg18 arg19 arg20 arg21 arg22 _ _ _ _ _ ?_
  refine tri_load21 (F := F) c arg3 arg4 arg5 arg6 arg7 arg8 arg9 arg10 arg11 arg12 arg13 arg14 arg15 arg16 arg17 arg18 arg19 arg20 arg21 arg22 _ _ _ _ _ ?_
  refine tri_store21 (F := F) c arg3 arg4 arg5 arg6 arg7 arg8 arg9 arg10 arg11 arg12 arg13 arg14 arg15 arg16 arg17 arg18 arg19 arg20 arg21 arg22 _ (Rect.unit (s := S1024x1024) (k0_off5 v7 k) S512x1024.size (k0_off5_inb i v3 v7 hw k h19)) _ (View.stores_vmem_bits_univ h_S512x1024 rfl) (.inl rfl) _ _ ?_
  exact tri_pure c arg3 arg4 arg5 arg6 arg7 arg8 arg9 arg10 arg11 arg12 arg13 arg14 arg15 arg16 arg17 arg18 arg19 arg20 arg21 arg22 _ _ _ (by unfold el3; dsimp only <;> rfl)

theorem tri_t4 (i : grid0.Coords) (v3 v7 : BitVec 32) (hw : k0_chk1 i v3 v7) (h19 : k0_cond19 v3 = 1#1) (k : Fin (k0_t4_loop v7).trips) (acc : BitVec 32) (S : State F) :
    Tri c arg3 arg4 arg5 arg6 arg7 arg8 arg9 arg10 arg11 arg12 arg13 arg14 arg15 arg16 arg17 arg18 arg19 arg20 arg21 arg22 S (k0_t4_body i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v3 v7 hw h19 k acc)
      (fun _ S' => S' = el4 i v3 v7 hw h19 k S) := by
  unfold k0_t4_body
  refine tri_load20 (F := F) c arg3 arg4 arg5 arg6 arg7 arg8 arg9 arg10 arg11 arg12 arg13 arg14 arg15 arg16 arg17 arg18 arg19 arg20 arg21 arg22 _ _ _ _ _ ?_
  refine tri_load11 (F := F) c arg3 arg4 arg5 arg6 arg7 arg8 arg9 arg10 arg11 arg12 arg13 arg14 arg15 arg16 arg17 arg18 arg19 arg20 arg21 arg22 _ _ _ _ _ ?_
  refine tri_load12 (F := F) c arg3 arg4 arg5 arg6 arg7 arg8 arg9 arg10 arg11 arg12 arg13 arg14 arg15 arg16 arg17 arg18 arg19 arg20 arg21 arg22 _ _ _ _ _ ?_
  refine tri_load21 (F := F) c arg3 arg4 arg5 arg6 arg7 arg8 arg9 arg10 arg11 arg12 arg13 arg14 arg15 arg16 arg17 arg18 arg19 arg20 arg21 arg22 _ _ _ _ _ ?_
  refine tri_load13 (F := F) c arg3 arg4 arg5 arg6 arg7 arg8 arg9 arg10 arg11 arg12 arg13 arg14 arg15 arg16 arg17 arg18 arg19 arg20 arg21 arg22 _ _ _ _ _ ?_
  refine tri_load21 (F := F) c arg3 arg4 arg5 arg6 arg7 arg8 arg9 arg10 arg11 arg12 arg13 arg14 arg15 arg16 arg17 arg18 arg19 arg20 arg21 arg22 _ _ _ _ _ ?_
  refine tri_store21 (F := F) c arg3 arg4 arg5 arg6 arg7 arg8 arg9 arg10 arg11 arg12 arg13 arg14 arg15 arg16 arg17 arg18 arg19 arg20 arg21 arg22 _ (Rect.unit (s := S1024x1024) (k0_off6 v7 k) S512x1024.size (k0_off6_inb i v3 v7 hw k h19)) _ (View.stores_vmem_bits_univ h_S512x1024 rfl) (.inl rfl) _ _ ?_
  exact tri_pure c arg3 arg4 arg5 arg6 arg7 arg8 arg9 arg10 arg11 arg12 arg13 arg14 arg15 arg16 arg17 arg18 arg19 arg20 arg21 arg22 _ _ _ (by unfold el4; dsimp only <;> rfl)

theorem tri_t5 (i : grid0.Coords) (v3 v7 : BitVec 32) (hw : k0_chk1 i v3 v7) (h20 : k0_cond20 i = 1#1) (v61 v67 : FVec F S1024x1 .f32) (h28 : k0_cond28 v3 = 1#1) (k : Fin (k0_t5_loop v7).trips) (acc : BitVec 32) (S : State F) :
    Tri c arg3 arg4 arg5 arg6 arg7 arg8 arg9 arg10 arg11 arg12 arg13 arg14 arg15 arg16 arg17 arg18 arg19 arg20 arg21 arg22 S (k0_t5_body i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v3 v7 hw h20 v61 v67 h28 k acc)
      (fun _ S' => S' = sl5 i v3 v7 hw h20 v61 v67 h28 k S) := by
  unfold k0_t5_body
  refine tri_load22 (F := F) c arg3 arg4 arg5 arg6 arg7 arg8 arg9 arg10 arg11 arg12 arg13 arg14 arg15 arg16 arg17 arg18 arg19 arg20 arg21 arg22 _ _ _ _ _ ?_
  refine tri_load21 (F := F) c arg3 arg4 arg5 arg6 arg7 arg8 arg9 arg10 arg11 arg12 arg13 arg14 arg15 arg16 arg17 arg18 arg19 arg20 arg21 arg22 _ _ _ _ _ ?_
  refine tri_load22 (F := F) c arg3 arg4 arg5 arg6 arg7 arg8 arg9 arg10 arg11 arg12 arg13 arg14 arg15 arg16 arg17 arg18 arg19 arg20 arg21 arg22 _ _ _ _ _ ?_
  refine tri_store22 (F := F) c arg3 arg4 arg5 arg6 arg7 arg8 arg9 arg10 arg11 arg12 arg13 arg14 arg15 arg16 arg17 arg18 arg19 arg20 arg21 arg22 _ (Rect.unit (s := S1024x1024) ![0, 0] S1024x1024.size inb_S1024x1024_S1024x1024_0_0) _ (View.stores_vmem_bits_univ h_S1024x1024 rfl) (.inl rfl) _ _ ?_
  exact tri_pure c arg3 arg4 arg5 arg6 arg7 arg8 arg9 arg10 arg11 arg12 arg13 arg14 arg15 arg16 arg17 arg18 arg19 arg20 arg21 arg22 _ _ _ (by unfold sl5; dsimp only <;> rfl)

theorem tri_t6 (i : grid0.Coords) (v3 v7 : BitVec 32) (hw : k0_chk1 i v3 v7) (h20 : k0_cond20 i = 1#1) (v61 v67 : FVec F S1024x1 .f32) (h28 : k0_cond28 v3 = 1#1) (k : Fin (k0_t6_loop v7).trips) (acc : BitVec 32) (S : State F) :
    Tri c arg3 arg4 arg5 arg6 arg7 arg8 arg9 arg10 arg11 arg12 arg13 arg14 arg15 arg16 arg17 arg18 arg19 arg20 arg21 arg22 S (k0_t6_body i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v3 v7 hw h20 v61 v67 h28 k acc)
      (fun _ S' => S' = sl6 i v3 v7 hw h20 v61 v67 h28 k S) := by
  unfold k0_t6_body
  refine tri_load22 (F := F) c arg3 arg4 arg5 arg6 arg7 arg8 arg9 arg10 arg11 arg12 arg13 arg14 arg15 arg16 arg17 arg18 arg19 arg20 arg21 arg22 _ _ _ _ _ ?_
  refine tri_load21 (F := F) c arg3 arg4 arg5 arg6 arg7 arg8 arg9 arg10 arg11 arg12 arg13 arg14 arg15 arg16 arg17 arg18 arg19 arg20 arg21 arg22 _ _ _ _ _ ?_
  refine tri_load22 (F := F) c arg3 arg4 arg5 arg6 arg7 arg8 arg9 arg10 arg11 arg12 arg13 arg14 arg15 arg16 arg17 arg18 arg19 arg20 arg21 arg22 _ _ _ _ _ ?_
  refine tri_store22 (F := F) c arg3 arg4 arg5 arg6 arg7 arg8 arg9 arg10 arg11 arg12 arg13 arg14 arg15 arg16 arg17 arg18 arg19 arg20 arg21 arg22 _ (Rect.unit (s := S1024x1024) ![0, 0] S1024x1024.size inb_S1024x1024_S1024x1024_0_0) _ (View.stores_vmem_bits_univ h_S1024x1024 rfl) (.inl rfl) _ _ ?_
  exact tri_pure c arg3 arg4 arg5 arg6 arg7 arg8 arg9 arg10 arg11 arg12 arg13 arg14 arg15 arg16 arg17 arg18 arg19 arg20 arg21 arg22 _ _ _ (by unfold sl6; dsimp only <;> rfl)

end Cert.Kernel2Ideal.Moe

end
-- ==== Proof.Moe.Run.lean ====
module

public import proofs.«01_k».proof.Proof.Moe.Body

@[expose] public section

set_option maxRecDepth 16384

noncomputable section

namespace Cert.Kernel2Ideal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel2Ideal Cert.Kernel2Ideal.Gen

variable {F : FTy → Type} [FloatOps F]

local notation "𝕄" => MT nD τ sig Unit (Elt F) ℕ (UR sig nD τ) ℕ

variable (c : Dev nD)
  (arg3 : Memref sig .tc .smem S256 .i32) (harg3 : arg3.IsWhole)
  (arg4 : Memref sig .tc .smem S256 .i32) (harg4 : arg4.IsWhole)
  (arg5 : Memref sig .tc .vmem S1024x1024 .f32) (harg5 : arg5.IsWhole)
  (arg6 : Memref sig .tc .vmem S1x1024 .f32) (harg6 : arg6.IsWhole)
  (arg7 : Memref sig .tc .vmem S1x1x1024 .f32) (harg7 : arg7.IsWhole)
  (arg8 : Memref sig .tc .vmem S1x1x1024 .f32) (harg8 : arg8.IsWhole)
  (arg9 : Memref sig .tc .vmem S1x1x1024 .f32) (harg9 : arg9.IsWhole)
  (arg10 : Memref sig .tc .vmem S1024x128 .f32) (harg10 : arg10.IsWhole)
  (arg11 : Memref sig .tc .vmem S1x1024x896 .bf16) (harg11 : arg11.IsWhole)
  (arg12 : Memref sig .tc .vmem S1x1024x896 .bf16) (harg12 : arg12.IsWhole)
  (arg13 : Memref sig .tc .vmem S1x896x1024 .bf16) (harg13 : arg13.IsWhole)
  (arg14 : Memref sig .tc .vmem S1x1024 .f32) (harg14 : arg14.IsWhole)
  (arg15 : Memref sig .tc .vmem S1024x1024 .f32) (harg15 : arg15.IsWhole)
  (arg16 : Memref sig .tc .vmem S1024x1024 .bf16) (harg16 : arg16.IsWhole)
  (arg17 : Memref sig .tc .vmem S1024x1024 .bf16) (harg17 : arg17.IsWhole)
  (arg18 : Memref sig .tc .vmem S1024x128 .f32) (harg18 : arg18.IsWhole)
  (arg19 : Memref sig .tc .vmem S128x1024 .f32) (harg19 : arg19.IsWhole)
  (arg20 : Memref sig .tc .vmem S1024x1024 .bf16) (harg20 : arg20.IsWhole)
  (arg21 : Memref sig .tc .vmem S1024x1024 .f32) (harg21 : arg21.IsWhole)
  (arg22 : Memref sig .tc .vmem S1024x1024 .f32) (harg22 : arg22.IsWhole)

set_option maxHeartbeats 1000000 in
theorem tri_part2 (i : grid0.Coords) (arg1 v3 : BitVec 32) (S : State F) :
    Tri c arg3 arg4 arg5 arg6 arg7 arg8 arg9 arg10 arg11 arg12 arg13 arg14 arg15 arg16 arg17 arg18 arg19 arg20 arg21 arg22 S (k0_part2 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg1 v3)
      (fun r S' => r = ⟨k0_pay15 arg1 (fun j => S.a18 ((Rect.unit (s := S1024x128) ![0, 0] S1024x128.size inb_S1024x128_S1024x128_0_0).emb j)), k0_pay16 arg1 (fun j => S.a10 ((Rect.unit (s := S1024x128) ![0, 0] S1024x128.size inb_S1024x128_S1024x128_0_0).emb j)), Scalar.cmpi .eq v3 6#32⟩
        ∧ S' = (onBit (hit v3 5#32) (s5 arg1 (fun j => S.a18 ((Rect.unit (s := S1024x128) ![0, 0] S1024x128.size inb_S1024x128_S1024x128_0_0).emb j)) (fun j => S.a10 ((Rect.unit (s := S1024x128) ![0, 0] S1024x128.size inb_S1024x128_S1024x128_0_0).emb j))) (onBit (hit v3 4#32) (s4 arg1 (fun j => S.a18 ((Rect.unit (s := S1024x128) ![0, 0] S1024x128.size inb_S1024x128_S1024x128_0_0).emb j)) (fun j => S.a10 ((Rect.unit (s := S1024x128) ![0, 0] S1024x128.size inb_S1024x128_S1024x128_0_0).emb j))) (onBit (hit v3 3#32) (s3 arg1 (fun j => S.a18 ((Rect.unit (s := S1024x128) ![0, 0] S1024x128.size inb_S1024x128_S1024x128_0_0).emb j)) (fun j => S.a10 ((Rect.unit (s := S1024x128) ![0, 0] S1024x128.size inb_S1024x128_S1024x128_0_0).emb j))) (onBit (hit v3 2#32) (s2 arg1 (fun j => S.a18 ((Rect.unit (s := S1024x128) ![0, 0] S1024x128.size inb_S1024x128_S1024x128_0_0).emb j)) (fun j => S.a10 ((Rect.unit (s := S1024x128) ![0, 0] S1024x128.size inb_S1024x128_S1024x128_0_0).emb j))) (onBit (hit v3 1#32) (s1 arg1 (fun j => S.a18 ((Rect.unit (s := S1024x128) ![0, 0] S1024x128.size inb_S1024x128_S1024x128_0_0).emb j)) (fun j => S.a10 ((Rect.unit (s := S1024x128) ![0, 0] S1024x128.size inb_S1024x128_S1024x128_0_0).emb j))) (onBit (hit v3 0#32) (s0 arg1 (fun j => S.a18 ((Rect.unit (s := S1024x128) ![0, 0] S1024x128.size inb_S1024x128_S1024x128_0_0).emb j)) (fun j => S.a10 ((Rect.unit (s := S1024x128) ![0, 0] S1024x128.size inb_S1024x128_S1024x128_0_0).emb j))) S))))))) := by
  rw [k0_part2_eq_skeleton]
  unfold k0_part2_skel
  refine tri_load18 (F := F) c arg3 arg4 arg5 arg6 arg7 arg8 arg9 arg10 arg11 arg12 arg13 arg14 arg15 arg16 arg17 arg18 arg19 arg20 arg21 arg22 _ _ _ _ _ ?_
  refine tri_load10 (F := F) c arg3 arg4 arg5 arg6 arg7 arg8 arg9 arg10 arg11 arg12 arg13 arg14 arg15 arg16 arg17 arg18 arg19 arg20 arg21 arg22 _ _ _ _ _ ?_
  extract_lets -underBinder x y z jp
  refine tri_jp c arg3 arg4 arg5 arg6 arg7 arg8 arg9 arg10 arg11 arg12 arg13 arg14 arg15 arg16 arg17 arg18 arg19 arg20 arg21 arg22 _ _ (s0 arg1 (fun j => S.a18 ((Rect.unit (s := S1024x128) ![0, 0] S1024x128.size inb_S1024x128_S1024x128_0_0).emb j)) (fun j => S.a10 ((Rect.unit (s := S1024x128) ![0, 0] S1024x128.size inb_S1024x128_S1024x128_0_0).emb j))) _ _ _ (fun S1 E1 => ?_) (fun h => ?_)
  rotate_left
  · refine tri_load22 (F := F) c arg3 arg4 arg5 arg6 arg7 arg8 arg9 arg10 arg11 arg12 arg13 arg14 arg15 arg16 arg17 arg18 arg19 arg20 arg21 arg22 _ _ _ _ _ ?_
    refine tri_load21 (F := F) c arg3 arg4 arg5 arg6 arg7 arg8 arg9 arg10 arg11 arg12 arg13 arg14 arg15 arg16 arg17 arg18 arg19 arg20 arg21 arg22 _ _ _ _ _ ?_
    refine tri_load22 (F := F) c arg3 arg4 arg5 arg6 arg7 arg8 arg9 arg10 arg11 arg12 arg13 arg14 arg15 arg16 arg17 arg18 arg19 arg20 arg21 arg22 _ _ _ _ _ ?_
    refine tri_store22 (F := F) c arg3 arg4 arg5 arg6 arg7 arg8 arg9 arg10 arg11 arg12 arg13 arg14 arg15 arg16 arg17 arg18 arg19 arg20 arg21 arg22 _ (Rect.unit (s := S1024x1024) ![0, 0] S1024x1024.size inb_S1024x1024_S1024x1024_0_0) _ (View.stores_vmem_bits_univ h_S1024x1024 rfl) (.inl rfl) _ _ ?_
    exact h
  show Tri _ _ _ _ _ _ _ _ _ _ _ _ _ _ _ _ _ _ _ _ _ _ (jp ⟨⟩) _
  unfold jp
  extract_lets -underBinder x y z jp
  refine tri_jp c arg3 arg4 arg5 arg6 arg7 arg8 arg9 arg10 arg11 arg12 arg13 arg14 arg15 arg16 arg17 arg18 arg19 arg20 arg21 arg22 _ _ (s1 arg1 (fun j => S.a18 ((Rect.unit (s := S1024x128) ![0, 0] S1024x128.size inb_S1024x128_S1024x128_0_0).emb j)) (fun j => S.a10 ((Rect.unit (s := S1024x128) ![0, 0] S1024x128.size inb_S1024x128_S1024x128_0_0).emb j))) _ _ _ (fun S2 E2 => ?_) (fun h => ?_)
  rotate_left
  · refine tri_load22 (F := F) c arg3 arg4 arg5 arg6 arg7 arg8 arg9 arg10 arg11 arg12 arg13 arg14 arg15 arg16 arg17 arg18 arg19 arg20 arg21 arg22 _ _ _ _ _ ?_
    refine tri_load21 (F := F) c arg3 arg4 arg5 arg6 arg7 arg8 arg9 arg10 arg11 arg12 arg13 arg14 arg15 arg16 arg17 arg18 arg19 arg20 arg21 arg22 _ _ _ _ _ ?_
    refine tri_load22 (F := F) c arg3 arg4 arg5 arg6 arg7 arg8 arg9 arg10 arg11 arg12 arg13 arg14 arg15 arg16 arg17 arg18 arg19 arg20 arg21 arg22 _ _ _ _ _ ?_
    refine tri_store22 (F := F) c arg3 arg4 arg5 arg6 arg7 arg8 arg9 arg10 arg11 arg12 arg13 arg14 arg15 arg16 arg17 arg18 arg19 arg20 arg21 arg22 _ (Rect.unit (s := S1024x1024) ![0, 0] S1024x1024.size inb_S1024x1024_S1024x1024_0_0) _ (View.stores_vmem_bits_univ h_S1024x1024 rfl) (.inl rfl) _ _ ?_
    exact h
  show Tri _ _ _ _ _ _ _ _ _ _ _ _ _ _ _ _ _ _ _ _ _ _ (jp ⟨⟩) _
  unfold jp
  extract_lets -underBinder x y z jp
  refine tri_jp c arg3 arg4 arg5 arg6 arg7 arg8 arg9 arg10 arg11 arg12 arg13 arg14 arg15 arg16 arg17 arg18 arg19 arg20 arg21 arg22 _ _ (s2 arg1 (fun j => S.a18 ((Rect.unit (s := S1024x128) ![0, 0] S1024x128.size inb_S1024x128_S1024x128_0_0).emb j)) (fun j => S.a10 ((Rect.unit (s := S1024x128) ![0, 0] S1024x128.size inb_S1024x128_S1024x128_0_0).emb j))) _ _ _ (fun S3 E3 => ?_) (fun h => ?_)
  rotate_left
  · refine tri_load22 (F := F) c arg3 arg4 arg5 arg6 arg7 arg8 arg9 arg10 arg11 arg12 arg13 arg14 arg15 arg16 arg17 arg18 arg19 arg20 arg21 arg22 _ _ _ _ _ ?_
    refine tri_load21 (F := F) c arg3 arg4 arg5 arg6 arg7 arg8 arg9 arg10 arg11 arg12 arg13 arg14 arg15 arg16 arg17 arg18 arg19 arg20 arg21 arg22 _ _ _ _ _ ?_
    refine tri_load22 (F := F) c arg3 arg4 arg5 arg6 arg7 arg8 arg9 arg10 arg11 arg12 arg13 arg14 arg15 arg16 arg17 arg18 arg19 arg20 arg21 arg22 _ _ _ _ _ ?_
    refine tri_store22 (F := F) c arg3 arg4 arg5 arg6 arg7 arg8 arg9 arg10 arg11 arg12 arg13 arg14 arg15 arg16 arg17 arg18 arg19 arg20 arg21 arg22 _ (Rect.unit (s := S1024x1024) ![0, 0] S1024x1024.size inb_S1024x1024_S1024x1024_0_0) _ (View.stores_vmem_bits_univ h_S1024x1024 rfl) (.inl rfl) _ _ ?_
    exact h
  show Tri _ _ _ _ _ _ _ _ _ _ _ _ _ _ _ _ _ _ _ _ _ _ (jp ⟨⟩) _
  unfold jp
  extract_lets -underBinder x y z jp
  refine tri_jp c arg3 arg4 arg5 arg6 arg7 arg8 arg9 arg10 arg11 arg12 arg13 arg14 arg15 arg16 arg17 arg18 arg19 arg20 arg21 arg22 _ _ (s3 arg1 (fun j => S.a18 ((Rect.unit (s := S1024x128) ![0, 0] S1024x128.size inb_S1024x128_S1024x128_0_0).emb j)) (fun j => S.a10 ((Rect.unit (s := S1024x128) ![0, 0] S1024x128.size inb_S1024x128_S1024x128_0_0).emb j))) _ _ _ (fun S4 E4 => ?_) (fun h => ?_)
  rotate_left
  · refine tri_load22 (F := F) c arg3 arg4 arg5 arg6 arg7 arg8 arg9 arg10 arg11 arg12 arg13 arg14 arg15 arg16 arg17 arg18 arg19 arg20 arg21 arg22 _ _ _ _ _ ?_
    refine tri_load21 (F := F) c arg3 arg4 arg5 arg6 arg7 arg8 arg9 arg10 arg11 arg12 arg13 arg14 arg15 arg16 arg17 arg18 arg19 arg20 arg21 arg22 _ _ _ _ _ ?_
    refine tri_load22 (F := F) c arg3 arg4 arg5 arg6 arg7 arg8 arg9 arg10 arg11 arg12 arg13 arg14 arg15 arg16 arg17 arg18 arg19 arg20 arg21 arg22 _ _ _ _ _ ?_
    refine tri_store22 (F := F) c arg3 arg4 arg5 arg6 arg7 arg8 arg9 arg10 arg11 arg12 arg13 arg14 arg15 arg16 arg17 arg18 arg19 arg20 arg21 arg22 _ (Rect.unit (s := S1024x1024) ![0, 0] S1024x1024.size inb_S1024x1024_S1024x1024_0_0) _ (View.stores_vmem_bits_univ h_S1024x1024 rfl) (.inl rfl) _ _ ?_
    exact h
  show Tri _ _ _ _ _ _ _ _ _ _ _ _ _ _ _ _ _ _ _ _ _ _ (jp ⟨⟩) _
  unfold jp
  extract_lets -underBinder x y z jp
  refine tri_jp c arg3 arg4 arg5 arg6 arg7 arg8 arg9 arg10 arg11 arg12 arg13 arg14 arg15 arg16 arg17 arg18 arg19 arg20 arg21 arg22 _ _ (s4 arg1 (fun j => S.a18 ((Rect.unit (s := S1024x128) ![0, 0] S1024x128.size inb_S1024x128_S1024x128_0_0).emb j)) (fun j => S.a10 ((Rect.unit (s := S1024x128) ![0, 0] S1024x128.size inb_S1024x128_S1024x128_0_0).emb j))) _ _ _ (fun S5 E5 => ?_) (fun h => ?_)
  rotate_left
  · refine tri_load22 (F := F) c arg3 arg4 arg5 arg6 arg7 arg8 arg9 arg10 arg11 arg12 arg13 arg14 arg15 arg16 arg17 arg18 arg19 arg20 arg21 arg22 _ _ _ _ _ ?_
    refine tri_load21 (F := F) c arg3 arg4 arg5 arg6 arg7 arg8 arg9 arg10 arg11 arg12 arg13 arg14 arg15 arg16 arg17 arg18 arg19 arg20 arg21 arg22 _ _ _ _ _ ?_
    refine tri_load22 (F := F) c arg3 arg4 arg5 arg6 arg7 arg8 arg9 arg10 arg11 arg12 arg13 arg14 arg15 arg16 arg17 arg18 arg19 arg20 arg21 arg22 _ _ _ _ _ ?_
    refine tri_store22 (F := F) c arg3 arg4 arg5 arg6 arg7 arg8 arg9 arg10 arg11 arg12 arg13 arg14 arg15 arg16 arg17 arg18 arg19 arg20 arg21 arg22 _ (Rect.unit (s := S1024x1024) ![0, 0] S1024x1024.size inb_S1024x1024_S1024x1024_0_0) _ (View.stores_vmem_bits_univ h_S1024x1024 rfl) (.inl rfl) _ _ ?_
    exact h
  show Tri _ _ _ _ _ _ _ _ _ _ _ _ _ _ _ _ _ _ _ _ _ _ (jp ⟨⟩) _
  unfold jp
  extract_lets -underBinder x y z jp
  refine tri_jp c arg3 arg4 arg5 arg6 arg7 arg8 arg9 arg10 arg11 arg12 arg13 arg14 arg15 arg16 arg17 arg18 arg19 arg20 arg21 arg22 _ _ (s5 arg1 (fun j => S.a18 ((Rect.unit (s := S1024x128) ![0, 0] S1024x128.size inb_S1024x128_S1024x128_0_0).emb j)) (fun j => S.a10 ((Rect.unit (s := S1024x128) ![0, 0] S1024x128.size inb_S1024x128_S1024x128_0_0).emb j))) _ _ _ (fun S6 E6 => ?_) (fun h => ?_)
  rotate_left
  · refine tri_load22 (F := F) c arg3 arg4 arg5 arg6 arg7 arg8 arg9 arg10 arg11 arg12 arg13 arg14 arg15 arg16 arg17 arg18 arg19 arg20 arg21 arg22 _ _ _ _ _ ?_
    refine tri_load21 (F := F) c arg3 arg4 arg5 arg6 arg7 arg8 arg9 arg10 arg11 arg12 arg13 arg14 arg15 arg16 arg17 arg18 arg19 arg20 arg21 arg22 _ _ _ _ _ ?_
    refine tri_load22 (F := F) c arg3 arg4 arg5 arg6 arg7 arg8 arg9 arg10 arg11 arg12 arg13 arg14 arg15 arg16 arg17 arg18 arg19 arg20 arg21 arg22 _ _ _ _ _ ?_
    refine tri_store22 (F := F) c arg3 arg4 arg5 arg6 arg7 arg8 arg9 arg10 arg11 arg12 arg13 arg14 arg15 arg16 arg17 arg18 arg19 arg20 arg21 arg22 _ (Rect.unit (s := S1024x1024) ![0, 0] S1024x1024.size inb_S1024x1024_S1024x1024_0_0) _ (View.stores_vmem_bits_univ h_S1024x1024 rfl) (.inl rfl) _ _ ?_
    exact h
  show Tri _ _ _ _ _ _ _ _ _ _ _ _ _ _ _ _ _ _ _ _ _ _ (jp ⟨⟩) _
  unfold jp
  exact tri_pure c arg3 arg4 arg5 arg6 arg7 arg8 arg9 arg10 arg11 arg12 arg13 arg14 arg15 arg16 arg17 arg18 arg19 arg20 arg21 arg22 _ _ _ ⟨rfl, by subst E1 E2 E3 E4 E5 E6; rfl⟩

end Cert.Kernel2Ideal.Moe

end
-- ==== Proof.Moe.Run3.lean ====
module

public import proofs.«01_k».proof.Proof.Moe.Run

@[expose] public section

set_option maxRecDepth 16384

noncomputable section

namespace Cert.Kernel2Ideal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel2Ideal Cert.Kernel2Ideal.Gen

variable {F : FTy → Type} [FloatOps F]

local notation "𝕄" => MT nD τ sig Unit (Elt F) ℕ (UR sig nD τ) ℕ

variable (c : Dev nD)
  (arg3 : Memref sig .tc .smem S256 .i32) (harg3 : arg3.IsWhole)
  (arg4 : Memref sig .tc .smem S256 .i32) (harg4 : arg4.IsWhole)
  (arg5 : Memref sig .tc .vmem S1024x1024 .f32) (harg5 : arg5.IsWhole)
  (arg6 : Memref sig .tc .vmem S1x1024 .f32) (harg6 : arg6.IsWhole)
  (arg7 : Memref sig .tc .vmem S1x1x1024 .f32) (harg7 : arg7.IsWhole)
  (arg8 : Memref sig .tc .vmem S1x1x1024 .f32) (harg8 : arg8.IsWhole)
  (arg9 : Memref sig .tc .vmem S1x1x1024 .f32) (harg9 : arg9.IsWhole)
  (arg10 : Memref sig .tc .vmem S1024x128 .f32) (harg10 : arg10.IsWhole)
  (arg11 : Memref sig .tc .vmem S1x1024x896 .bf16) (harg11 : arg11.IsWhole)
  (arg12 : Memref sig .tc .vmem S1x1024x896 .bf16) (harg12 : arg12.IsWhole)
  (arg13 : Memref sig .tc .vmem S1x896x1024 .bf16) (harg13 : arg13.IsWhole)
  (arg14 : Memref sig .tc .vmem S1x1024 .f32) (harg14 : arg14.IsWhole)
  (arg15 : Memref sig .tc .vmem S1024x1024 .f32) (harg15 : arg15.IsWhole)
  (arg16 : Memref sig .tc .vmem S1024x1024 .bf16) (harg16 : arg16.IsWhole)
  (arg17 : Memref sig .tc .vmem S1024x1024 .bf16) (harg17 : arg17.IsWhole)
  (arg18 : Memref sig .tc .vmem S1024x128 .f32) (harg18 : arg18.IsWhole)
  (arg19 : Memref sig .tc .vmem S128x1024 .f32) (harg19 : arg19.IsWhole)
  (arg20 : Memref sig .tc .vmem S1024x1024 .bf16) (harg20 : arg20.IsWhole)
  (arg21 : Memref sig .tc .vmem S1024x1024 .f32) (harg21 : arg21.IsWhole)
  (arg22 : Memref sig .tc .vmem S1024x1024 .f32) (harg22 : arg22.IsWhole)

set_option maxHeartbeats 1000000 in
theorem tri_part1 (i : grid0.Coords) (S : State F) :
    Tri c arg3 arg4 arg5 arg6 arg7 arg8 arg9 arg10 arg11 arg12 arg13 arg14 arg15 arg16 arg17 arg18 arg19 arg20 arg21 arg22 S (k0_part1 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22)
      (fun r S' => r = ⟨k0_pay13 (fun j => S.a10 ((Rect.unit (s := S1024x128) ![0, 0] S1024x128.size inb_S1024x128_S1024x128_0_0).emb j)), (Scalar.ofBits .f32 0x00000000#32)⟩ ∧ S' = init1 S) := by
  rw [k0_part1_eq_skeleton]
  unfold k0_part1_skel
  refine tri_load5 (F := F) c arg3 arg4 arg5 arg6 arg7 arg8 arg9 arg10 arg11 arg12 arg13 arg14 arg15 arg16 arg17 arg18 arg19 arg20 arg21 arg22 _ _ _ _ _ ?_
  refine tri_load6 (F := F) c arg3 arg4 arg5 arg6 arg7 arg8 arg9 arg10 arg11 arg12 arg13 arg14 arg15 arg16 arg17 arg18 arg19 arg20 arg21 arg22 _ _ _ _ _ ?_
  refine tri_load7 (F := F) c arg3 arg4 arg5 arg6 arg7 arg8 arg9 arg10 arg11 arg12 arg13 arg14 arg15 arg16 arg17 arg18 arg19 arg20 arg21 arg22 _ _ _ _ _ ?_
  refine tri_load8 (F := F) c arg3 arg4 arg5 arg6 arg7 arg8 arg9 arg10 arg11 arg12 arg13 arg14 arg15 arg16 arg17 arg18 arg19 arg20 arg21 arg22 _ _ _ _ _ ?_
  refine tri_load16 (F := F) c arg3 arg4 arg5 arg6 arg7 arg8 arg9 arg10 arg11 arg12 arg13 arg14 arg15 arg16 arg17 arg18 arg19 arg20 arg21 arg22 _ _ _ _ _ ?_
  refine tri_store16 (F := F) c arg3 arg4 arg5 arg6 arg7 arg8 arg9 arg10 arg11 arg12 arg13 arg14 arg15 arg16 arg17 arg18 arg19 arg20 arg21 arg22 _ (Rect.unit (s := S1024x1024) ![0, 0] S1024x1024.size inb_S1024x1024_S1024x1024_0_0) _ (View.stores_vmem h_S1024x1024 (harg16.storeExact_slice rfl _ packedbf16_S1024x1024_S1024x1024_0_0) (fun _ => rfl)) (.inl rfl) _ _ ?_
  refine tri_load22 (F := F) c arg3 arg4 arg5 arg6 arg7 arg8 arg9 arg10 arg11 arg12 arg13 arg14 arg15 arg16 arg17 arg18 arg19 arg20 arg21 arg22 _ _ _ _ _ ?_
  refine tri_store22 (F := F) c arg3 arg4 arg5 arg6 arg7 arg8 arg9 arg10 arg11 arg12 arg13 arg14 arg15 arg16 arg17 arg18 arg19 arg20 arg21 arg22 _ (Rect.unit (s := S1024x1024) ![0, 0] S1024x1024.size inb_S1024x1024_S1024x1024_0_0) _ (View.stores_vmem_bits_univ h_S1024x1024 rfl) (.inl rfl) _ _ ?_
  refine tri_load10 (F := F) c arg3 arg4 arg5 arg6 arg7 arg8 arg9 arg10 arg11 arg12 arg13 arg14 arg15 arg16 arg17 arg18 arg19 arg20 arg21 arg22 _ _ _ _ _ ?_
  exact tri_pure (F := F) c arg3 arg4 arg5 arg6 arg7 arg8 arg9 arg10 arg11 arg12 arg13 arg14 arg15 arg16 arg17 arg18 arg19 arg20 arg21 arg22 _ _ _ ⟨rfl, by unfold init1; dsimp only <;> rfl⟩

set_option maxHeartbeats 1000000 in
theorem tri_part3 (i : grid0.Coords) (S : State F) (v3 v7 : BitVec 32)
    (e3 : S.a3 ((Rect.unit (s := S256) (k0_off1 i) S1.size (k0_off1_inb i)).emb (Shape.Idx.first (numel1_S1.symm ▸ Nat.one_pos))) = v3)
    (e7 : S.a4 ((Rect.unit (s := S256) (k0_off1 i) S1.size (k0_off1_inb i)).emb (Shape.Idx.first (numel1_S1.symm ▸ Nat.one_pos))) = v7)
    (hw : k0_chk1 i v3 v7) :
    Tri c arg3 arg4 arg5 arg6 arg7 arg8 arg9 arg10 arg11 arg12 arg13 arg14 arg15 arg16 arg17 arg18 arg19 arg20 arg21 arg22 S (k0_part3 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22)
      (fun r S' => r = ⟨BitVec.ofNat 32 (i 1).val, BitVec.ofNat 32 (i 2).val, v3, v7, hw, 3#32⟩
        ∧ S' = (onBit (hit v3 2#32) e2 (onBit (hit v3 1#32) e1 (onBit (hit v3 0#32) e0 (if h : k0_cond3 i = 1#1 then gatherF i v3 v7 hw h (onBit (atTile i) (fun S => init2 (init1 S)) (onBit (atFirst i) triF S)) else (onBit (atTile i) (fun S => init2 (init1 S)) (onBit (atFirst i) triF S))))))) := by
  subst e3 e7
  rw [k0_part3_eq_skeleton]
  unfold k0_part3_skel
  extract_lets -underBinder a0 a1 a2
  refine tri_smem3 (F := F) c arg3 arg4 arg5 arg6 arg7 arg8 arg9 arg10 arg11 arg12 arg13 arg14 arg15 arg16 arg17 arg18 arg19 arg20 arg21 arg22 _ _ _ _ _ _ ?_
  refine tri_smem4 (F := F) c arg3 arg4 arg5 arg6 arg7 arg8 arg9 arg10 arg11 arg12 arg13 arg14 arg15 arg16 arg17 arg18 arg19 arg20 arg21 arg22 _ _ _ _ _ _ ?_
  refine tri_assume (F := F) c arg3 arg4 arg5 arg6 arg7 arg8 arg9 arg10 arg11 arg12 arg13 arg14 arg15 arg16 arg17 arg18 arg19 arg20 arg21 arg22 _ _ _ hw _ _ ?_
  generalize S.a3 ((Rect.unit (s := S256) (k0_off1 i) S1.size (k0_off1_inb i)).emb (Shape.Idx.first (numel1_S1.symm ▸ Nat.one_pos))) = v3 at hw ⊢
  generalize S.a4 ((Rect.unit (s := S256) (k0_off1 i) S1.size (k0_off1_inb i)).emb (Shape.Idx.first (numel1_S1.symm ▸ Nat.one_pos))) = v7 at hw ⊢
  extract_lets -underBinder hw1 v8 v9 v10 v11 v12 v13 v14 jp
  refine tri_djp (F := F) c arg3 arg4 arg5 arg6 arg7 arg8 arg9 arg10 arg11 arg12 arg13 arg14 arg15 arg16 arg17 arg18 arg19 arg20 arg21 arg22 _ _ (fun _ => triF) _ _ _ (fun A1 EA1 => ?_) (fun _ h => ?_)
  rotate_left
  · refine tri_load17 (F := F) c arg3 arg4 arg5 arg6 arg7 arg8 arg9 arg10 arg11 arg12 arg13 arg14 arg15 arg16 arg17 arg18 arg19 arg20 arg21 arg22 _ _ _ _ _ ?_
    refine tri_store17 (F := F) c arg3 arg4 arg5 arg6 arg7 arg8 arg9 arg10 arg11 arg12 arg13 arg14 arg15 arg16 arg17 arg18 arg19 arg20 arg21 arg22 _ (Rect.unit (s := S1024x1024) ![0, 0] S1024x1024.size inb_S1024x1024_S1024x1024_0_0) _ (View.stores_vmem h_S1024x1024 (harg17.storeExact_slice rfl _ packedbf16_S1024x1024_S1024x1024_0_0) (fun _ => rfl)) (.inl rfl) _ _ ?_
    exact h
  show Tri _ _ _ _ _ _ _ _ _ _ _ _ _ _ _ _ _ _ _ _ _ _ (jp ⟨⟩) _
  unfold jp
  extract_lets -underBinder v18 v19 jp
  refine tri_djp (F := F) c arg3 arg4 arg5 arg6 arg7 arg8 arg9 arg10 arg11 arg12 arg13 arg14 arg15 arg16 arg17 arg18 arg19 arg20 arg21 arg22 _ _ (fun _ S => init2 (init1 S)) _ _ _ (fun A2 EA2 => ?_) (fun _ h => ?_)
  rotate_left
  · refine tri_bind (F := F) c arg3 arg4 arg5 arg6 arg7 arg8 arg9 arg10 arg11 arg12 arg13 arg14 arg15 arg16 arg17 arg18 arg19 arg20 arg21 arg22 _ _ _ _ _ (tri_part1 c arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 i _) (fun r S' hr => ?_)
    obtain ⟨rfl, rfl⟩ := hr
    dsimp only
    refine tri_load17 (F := F) c arg3 arg4 arg5 arg6 arg7 arg8 arg9 arg10 arg11 arg12 arg13 arg14 arg15 arg16 arg17 arg18 arg19 arg20 arg21 arg22 _ _ _ _ _ ?_
    refine tri_load18 (F := F) c arg3 arg4 arg5 arg6 arg7 arg8 arg9 arg10 arg11 arg12 arg13 arg14 arg15 arg16 arg17 arg18 arg19 arg20 arg21 arg22 _ _ _ _ _ ?_
    refine tri_store18 (F := F) c arg3 arg4 arg5 arg6 arg7 arg8 arg9 arg10 arg11 arg12 arg13 arg14 arg15 arg16 arg17 arg18 arg19 arg20 arg21 arg22 _ (Rect.unit (s := S1024x128) ![0, 0] S1024x128.size inb_S1024x128_S1024x128_0_0) _ (View.stores_vmem_bits_univ h_S1024x128 rfl) (.inl rfl) _ _ ?_
    refine tri_load19 (F := F) c arg3 arg4 arg5 arg6 arg7 arg8 arg9 arg10 arg11 arg12 arg13 arg14 arg15 arg16 arg17 arg18 arg19 arg20 arg21 arg22 _ _ _ _ _ ?_
    refine tri_store19 (F := F) c arg3 arg4 arg5 arg6 arg7 arg8 arg9 arg10 arg11 arg12 arg13 arg14 arg15 arg16 arg17 arg18 arg19 arg20 arg21 arg22 _ (Rect.unit (s := S128x1024) ![0, 0] S128x1024.size inb_S128x1024_S128x1024_0_0) _ (View.stores_vmem_bits_univ h_S128x1024 rfl) (.inl rfl) _ _ ?_
    exact h
  show Tri _ _ _ _ _ _ _ _ _ _ _ _ _ _ _ _ _ _ _ _ _ _ (jp ⟨⟩) _
  unfold jp
  extract_lets -underBinder jp
  refine tri_djp (F := F) c arg3 arg4 arg5 arg6 arg7 arg8 arg9 arg10 arg11 arg12 arg13 arg14 arg15 arg16 arg17 arg18 arg19 arg20 arg21 arg22 _ _ (fun h S => gatherF i v3 v7 hw h S) _ _ _ (fun A3 EA3 => ?_) (fun h3 hc => ?_)
  rotate_left
  · refine tri_load19 (F := F) c arg3 arg4 arg5 arg6 arg7 arg8 arg9 arg10 arg11 arg12 arg13 arg14 arg15 arg16 arg17 arg18 arg19 arg20 arg21 arg22 _ _ _ _ _ ?_
    extract_lets -underBinder x y z jpg
    refine tri_jp (F := F) c arg3 arg4 arg5 arg6 arg7 arg8 arg9 arg10 arg11 arg12 arg13 arg14 arg15 arg16 arg17 arg18 arg19 arg20 arg21 arg22 _ _ (g0 (fun j => A2.a19 ((Rect.unit (s := S128x1024) (k0_off2 i) S1x1024.size (k0_off2_inb i h3)).emb j))) _ _ _ (fun G0 EG0 => ?_) (fun h => ?_)
    rotate_left
    · refine tri_load16 (F := F) c arg3 arg4 arg5 arg6 arg7 arg8 arg9 arg10 arg11 arg12 arg13 arg14 arg15 arg16 arg17 arg18 arg19 arg20 arg21 arg22 _ _ _ _ _ ?_
      refine tri_load20 (F := F) c arg3 arg4 arg5 arg6 arg7 arg8 arg9 arg10 arg11 arg12 arg13 arg14 arg15 arg16 arg17 arg18 arg19 arg20 arg21 arg22 _ _ _ _ _ ?_
      refine tri_store20 (F := F) c arg3 arg4 arg5 arg6 arg7 arg8 arg9 arg10 arg11 arg12 arg13 arg14 arg15 arg16 arg17 arg18 arg19 arg20 arg21 arg22 _ (Rect.unit (s := S1024x1024) ![0, 0] S128x1024.size inb_S1024x1024_S128x1024_0_0) _ (View.stores_vmem h_S128x1024 (harg20.storeExact_slice rfl _ packedbf16_S1024x1024_S128x1024_0_0) (fun _ => rfl)) (.inl rfl) _ _ ?_
      refine tri_load21 (F := F) c arg3 arg4 arg5 arg6 arg7 arg8 arg9 arg10 arg11 arg12 arg13 arg14 arg15 arg16 arg17 arg18 arg19 arg20 arg21 arg22 _ _ _ _ _ ?_
      refine tri_store21 (F := F) c arg3 arg4 arg5 arg6 arg7 arg8 arg9 arg10 arg11 arg12 arg13 arg14 arg15 arg16 arg17 arg18 arg19 arg20 arg21 arg22 _ (Rect.unit (s := S1024x1024) ![0, 0] S128x1024.size inb_S1024x1024_S128x1024_0_0) _ (View.stores_vmem_bits_univ h_S128x1024 rfl) (.inl rfl) _ _ ?_
      exact h
    show Tri _ _ _ _ _ _ _ _ _ _ _ _ _ _ _ _ _ _ _ _ _ _ (jpg ⟨⟩) _
    unfold jpg
    extract_lets -underBinder x y z jpg
    refine tri_jp (F := F) c arg3 arg4 arg5 arg6 arg7 arg8 arg9 arg10 arg11 arg12 arg13 arg14 arg15 arg16 arg17 arg18 arg19 arg20 arg21 arg22 _ _ (g1 (fun j => A2.a19 ((Rect.unit (s := S128x1024) (k0_off2 i) S1x1024.size (k0_off2_inb i h3)).emb j))) _ _ _ (fun G1 EG1 => ?_) (fun h => ?_)
    rotate_left
    · refine tri_load16 (F := F) c arg3 arg4 arg5 arg6 arg7 arg8 arg9 arg10 arg11 arg12 arg13 arg14 arg15 arg16 arg17 arg18 arg19 arg20 arg21 arg22 _ _ _ _ _ ?_
      refine tri_load20 (F := F) c arg3 arg4 arg5 arg6 arg7 arg8 arg9 arg10 arg11 arg12 arg13 arg14 arg15 arg16 arg17 arg18 arg19 arg20 arg21 arg22 _ _ _ _ _ ?_
      refine tri_store20 (F := F) c arg3 arg4 arg5 arg6 arg7 arg8 arg9 arg10 arg11 arg12 arg13 arg14 arg15 arg16 arg17 arg18 arg19 arg20 arg21 arg22 _ (Rect.unit (s := S1024x1024) ![0, 0] S192x1024.size inb_S1024x1024_S192x1024_0_0) _ (View.stores_vmem h_S192x1024 (harg20.storeExact_slice rfl _ packedbf16_S1024x1024_S192x1024_0_0) (fun _ => rfl)) (.inl rfl) _ _ ?_
      refine tri_load21 (F := F) c arg3 arg4 arg5 arg6 arg7 arg8 arg9 arg10 arg11 arg12 arg13 arg14 arg15 arg16 arg17 arg18 arg19 arg20 arg21 arg22 _ _ _ _ _ ?_
      refine tri_store21 (F := F) c arg3 arg4 arg5 arg6 arg7 arg8 arg9 arg10 arg11 arg12 arg13 arg14 arg15 arg16 arg17 arg18 arg19 arg20 arg21 arg22 _ (Rect.unit (s := S1024x1024) ![0, 0] S192x1024.size inb_S1024x1024_S192x1024_0_0) _ (View.stores_vmem_bits_univ h_S192x1024 rfl) (.inl rfl) _ _ ?_
      exact h
    show Tri _ _ _ _ _ _ _ _ _ _ _ _ _ _ _ _ _ _ _ _ _ _ (jpg ⟨⟩) _
    unfold jpg
    extract_lets -underBinder x y z jpg
    refine tri_jp (F := F) c arg3 arg4 arg5 arg6 arg7 arg8 arg9 arg10 arg11 arg12 arg13 arg14 arg15 arg16 arg17 arg18 arg19 arg20 arg21 arg22 _ _ (g2 (fun j => A2.a19 ((Rect.unit (s := S128x1024) (k0_off2 i) S1x1024.size (k0_off2_inb i h3)).emb j))) _ _ _ (fun G2 EG2 => ?_) (fun h => ?_)
    rotate_left
    · refine tri_load16 (F := F) c arg3 arg4 arg5 arg6 arg7 arg8 arg9 arg10 arg11 arg12 arg13 arg14 arg15 arg16 arg17 arg18 arg19 arg20 arg21 arg22 _ _ _ _ _ ?_
      refine tri_load20 (F := F) c arg3 arg4 arg5 arg6 arg7 arg8 arg9 arg10 arg11 arg12 arg13 arg14 arg15 arg16 arg17 arg18 arg19 arg20 arg21 arg22 _ _ _ _ _ ?_
      refine tri_store20 (F := F) c arg3 arg4 arg5 arg6 arg7 arg8 arg9 arg10 arg11 arg12 arg13 arg14 arg15 arg16 arg17 arg18 arg19 arg20 arg21 arg22 _ (Rect.unit (s := S1024x1024) ![0, 0] S256x1024.size inb_S1024x1024_S256x1024_0_0) _ (View.stores_vmem h_S256x1024 (harg20.storeExact_slice rfl _ packedbf16_S1024x1024_S256x1024_0_0) (fun _ => rfl)) (.inl rfl) _ _ ?_
      refine tri_load21 (F := F) c arg3 arg4 arg5 arg6 arg7 arg8 arg9 arg10 arg11 arg12 arg13 arg14 arg15 arg16 arg17 arg18 arg19 arg20 arg21 arg22 _ _ _ _ _ ?_
      refine tri_store21 (F := F) c arg3 arg4 arg5 arg6 arg7 arg8 arg9 arg10 arg11 arg12 arg13 arg14 arg15 arg16 arg17 arg18 arg19 arg20 arg21 arg22 _ (Rect.unit (s := S1024x1024) ![0, 0] S256x1024.size inb_S1024x1024_S256x1024_0_0) _ (View.stores_vmem_bits_univ h_S256x1024 rfl) (.inl rfl) _ _ ?_
      exact h
    show Tri _ _ _ _ _ _ _ _ _ _ _ _ _ _ _ _ _ _ _ _ _ _ (jpg ⟨⟩) _
    unfold jpg
    extract_lets -underBinder x y z jpg
    refine tri_jp (F := F) c arg3 arg4 arg5 arg6 arg7 arg8 arg9 arg10 arg11 arg12 arg13 arg14 arg15 arg16 arg17 arg18 arg19 arg20 arg21 arg22 _ _ (g3 (fun j => A2.a19 ((Rect.unit (s := S128x1024) (k0_off2 i) S1x1024.size (k0_off2_inb i h3)).emb j))) _ _ _ (fun G3 EG3 => ?_) (fun h => ?_)
    rotate_left
    · refine tri_load16 (F := F) c arg3 arg4 arg5 arg6 arg7 arg8 arg9 arg10 arg11 arg12 arg13 arg14 arg15 arg16 arg17 arg18 arg19 arg20 arg21 arg22 _ _ _ _ _ ?_
      refine tri_load20 (F := F) c arg3 arg4 arg5 arg6 arg7 arg8 arg9 arg10 arg11 arg12 arg13 arg14 arg15 arg16 arg17 arg18 arg19 arg20 arg21 arg22 _ _ _ _ _ ?_
      refine tri_store20 (F := F) c arg3 arg4 arg5 arg6 arg7 arg8 arg9 arg10 arg11 arg12 arg13 arg14 arg15 arg16 arg17 arg18 arg19 arg20 arg21 arg22 _ (Rect.unit (s := S1024x1024) ![0, 0] S320x1024.size inb_S1024x1024_S320x1024_0_0) _ (View.stores_vmem h_S320x1024 (harg20.storeExact_slice rfl _ packedbf16_S1024x1024_S320x1024_0_0) (fun _ => rfl)) (.inl rfl) _ _ ?_
      refine tri_load21 (F := F) c arg3 arg4 arg5 arg6 arg7 arg8 arg9 arg10 arg11 arg12 arg13 arg14 arg15 arg16 arg17 arg18 arg19 arg20 arg21 arg22 _ _ _ _ _ ?_
      refine tri_store21 (F := F) c arg3 arg4 arg5 arg6 arg7 arg8 arg9 arg10 arg11 arg12 arg13 arg14 arg15 arg16 arg17 arg18 arg19 arg20 arg21 arg22 _ (Rect.unit (s := S1024x1024) ![0, 0] S320x1024.size inb_S1024x1024_S320x1024_0_0) _ (View.stores_vmem_bits_univ h_S320x1024 rfl) (.inl rfl) _ _ ?_
      exact h
    show Tri _ _ _ _ _ _ _ _ _ _ _ _ _ _ _ _ _ _ _ _ _ _ (jpg ⟨⟩) _
    unfold jpg
    extract_lets -underBinder x y z jpg
    refine tri_jp (F := F) c arg3 arg4 arg5 arg6 arg7 arg8 arg9 arg10 arg11 arg12 arg13 arg14 arg15 arg16 arg17 arg18 arg19 arg20 arg21 arg22 _ _ (g4 (fun j => A2.a19 ((Rect.unit (s := S128x1024) (k0_off2 i) S1x1024.size (k0_off2_inb i h3)).emb j))) _ _ _ (fun G4 EG4 => ?_) (fun h => ?_)
    rotate_left
    · refine tri_load16 (F := F) c arg3 arg4 arg5 arg6 arg7 arg8 arg9 arg10 arg11 arg12 arg13 arg14 arg15 arg16 arg17 arg18 arg19 arg20 arg21 arg22 _ _ _ _ _ ?_
      refine tri_load20 (F := F) c arg3 arg4 arg5 arg6 arg7 arg8 arg9 arg10 arg11 arg12 arg13 arg14 arg15 arg16 arg17 arg18 arg19 arg20 arg21 arg22 _ _ _ _ _ ?_
      refine tri_store20 (F := F) c arg3 arg4 arg5 arg6 arg7 arg8 arg9 arg10 arg11 arg12 arg13 arg14 arg15 arg16 arg17 arg18 arg19 arg20 arg21 arg22 _ (Rect.unit (s := S1024x1024) ![0, 0] S384x1024.size inb_S1024x1024_S384x1024_0_0) _ (View.stores_vmem h_S384x1024 (harg20.storeExact_slice rfl _ packedbf16_S1024x1024_S384x1024_0_0) (fun _ => rfl)) (.inl rfl) _ _ ?_
      refine tri_load21 (F := F) c arg3 arg4 arg5 arg6 arg7 arg8 arg9 arg10 arg11 arg12 arg13 arg14 arg15 arg16 arg17 arg18 arg19 arg20 arg21 arg22 _ _ _ _ _ ?_
      refine tri_store21 (F := F) c arg3 arg4 arg5 arg6 arg7 arg8 arg9 arg10 arg11 arg12 arg13 arg14 arg15 arg16 arg17 arg18 arg19 arg20 arg21 arg22 _ (Rect.unit (s := S1024x1024) ![0, 0] S384x1024.size inb_S1024x1024_S384x1024_0_0) _ (View.stores_vmem_bits_univ h_S384x1024 rfl) (.inl rfl) _ _ ?_
      exact h
    show Tri _ _ _ _ _ _ _ _ _ _ _ _ _ _ _ _ _ _ _ _ _ _ (jpg ⟨⟩) _
    unfold jpg
    extract_lets -underBinder x y z jpg
    refine tri_jp (F := F) c arg3 arg4 arg5 arg6 arg7 arg8 arg9 arg10 arg11 arg12 arg13 arg14 arg15 arg16 arg17 arg18 arg19 arg20 arg21 arg22 _ _ (g5 (fun j => A2.a19 ((Rect.unit (s := S128x1024) (k0_off2 i) S1x1024.size (k0_off2_inb i h3)).emb j))) _ _ _ (fun G5 EG5 => ?_) (fun h => ?_)
    rotate_left
    · refine tri_load16 (F := F) c arg3 arg4 arg5 arg6 arg7 arg8 arg9 arg10 arg11 arg12 arg13 arg14 arg15 arg16 arg17 arg18 arg19 arg20 arg21 arg22 _ _ _ _ _ ?_
      refine tri_load20 (F := F) c arg3 arg4 arg5 arg6 arg7 arg8 arg9 arg10 arg11 arg12 arg13 arg14 arg15 arg16 arg17 arg18 arg19 arg20 arg21 arg22 _ _ _ _ _ ?_
      refine tri_store20 (F := F) c arg3 arg4 arg5 arg6 arg7 arg8 arg9 arg10 arg11 arg12 arg13 arg14 arg15 arg16 arg17 arg18 arg19 arg20 arg21 arg22 _ (Rect.unit (s := S1024x1024) ![0, 0] S448x1024.size inb_S1024x1024_S448x1024_0_0) _ (View.stores_vmem h_S448x1024 (harg20.storeExact_slice rfl _ packedbf16_S1024x1024_S448x1024_0_0) (fun _ => rfl)) (.inl rfl) _ _ ?_
      refine tri_load21 (F := F) c arg3 arg4 arg5 arg6 arg7 arg8 arg9 arg10 arg11 arg12 arg13 arg14 arg15 arg16 arg17 arg18 arg19 arg20 arg21 arg22 _ _ _ _ _ ?_
      refine tri_store21 (F := F) c arg3 arg4 arg5 arg6 arg7 arg8 arg9 arg10 arg11 arg12 arg13 arg14 arg15 arg16 arg17 arg18 arg19 arg20 arg21 arg22 _ (Rect.unit (s := S1024x1024) ![0, 0] S448x1024.size inb_S1024x1024_S448x1024_0_0) _ (View.stores_vmem_bits_univ h_S448x1024 rfl) (.inl rfl) _ _ ?_
      exact h
    show Tri _ _ _ _ _ _ _ _ _ _ _ _ _ _ _ _ _ _ _ _ _ _ (jpg ⟨⟩) _
    unfold jpg
    extract_lets -underBinder x y z jpg
    refine tri_jp (F := F) c arg3 arg4 arg5 arg6 arg7 arg8 arg9 arg10 arg11 arg12 arg13 arg14 arg15 arg16 arg17 arg18 arg19 arg20 arg21 arg22 _ _ (g6 (fun j => A2.a19 ((Rect.unit (s := S128x1024) (k0_off2 i) S1x1024.size (k0_off2_inb i h3)).emb j))) _ _ _ (fun G6 EG6 => ?_) (fun h => ?_)
    rotate_left
    · refine tri_load16 (F := F) c arg3 arg4 arg5 arg6 arg7 arg8 arg9 arg10 arg11 arg12 arg13 arg14 arg15 arg16 arg17 arg18 arg19 arg20 arg21 arg22 _ _ _ _ _ ?_
      refine tri_load20 (F := F) c arg3 arg4 arg5 arg6 arg7 arg8 arg9 arg10 arg11 arg12 arg13 arg14 arg15 arg16 arg17 arg18 arg19 arg20 arg21 arg22 _ _ _ _ _ ?_
      refine tri_store20 (F := F) c arg3 arg4 arg5 arg6 arg7 arg8 arg9 arg10 arg11 arg12 arg13 arg14 arg15 arg16 arg17 arg18 arg19 arg20 arg21 arg22 _ (Rect.unit (s := S1024x1024) ![0, 0] S512x1024.size inb_S1024x1024_S512x1024_0_0) _ (View.stores_vmem h_S512x1024 (harg20.storeExact_slice rfl _ packedbf16_S1024x1024_S512x1024_0_0) (fun _ => rfl)) (.inl rfl) _ _ ?_
      refine tri_load21 (F := F) c arg3 arg4 arg5 arg6 arg7 arg8 arg9 arg10 arg11 arg12 arg13 arg14 arg15 arg16 arg17 arg18 arg19 arg20 arg21 arg22 _ _ _ _ _ ?_
      refine tri_store21 (F := F) c arg3 arg4 arg5 arg6 arg7 arg8 arg9 arg10 arg11 arg12 arg13 arg14 arg15 arg16 arg17 arg18 arg19 arg20 arg21 arg22 _ (Rect.unit (s := S1024x1024) ![0, 0] S512x1024.size inb_S1024x1024_S512x1024_0_0) _ (View.stores_vmem_bits_univ h_S512x1024 rfl) (.inl rfl) _ _ ?_
      exact h
    show Tri _ _ _ _ _ _ _ _ _ _ _ _ _ _ _ _ _ _ _ _ _ _ (jpg ⟨⟩) _
    unfold jpg
    extract_lets -underBinder jpg
    refine tri_djp (F := F) c arg3 arg4 arg5 arg6 arg7 arg8 arg9 arg10 arg11 arg12 arg13 arg14 arg15 arg16 arg17 arg18 arg19 arg20 arg21 arg22 _ _ (fun h S => runTrips (gl2 i v3 v7 hw h3 (fun j => A2.a19 ((Rect.unit (s := S128x1024) (k0_off2 i) S1x1024.size (k0_off2_inb i h3)).emb j)) h) (k0_t2_loop v7).trips (runTrips (gl1 i v3 v7 hw h3 (fun j => A2.a19 ((Rect.unit (s := S128x1024) (k0_off2 i) S1x1024.size (k0_off2_inb i h3)).emb j)) h) (k0_t1_loop v7).trips S)) _ _ _ (fun G7 EG7 => ?_) (fun h11 h => ?_)
    rotate_left
    · refine tri_for (F := F) c arg3 arg4 arg5 arg6 arg7 arg8 arg9 arg10 arg11 arg12 arg13 arg14 arg15 arg16 arg17 arg18 arg19 arg20 arg21 arg22 _ _ _ _ _ (gl1 i v3 v7 hw h3 (fun j => A2.a19 ((Rect.unit (s := S128x1024) (k0_off2 i) S1x1024.size (k0_off2_inb i h3)).emb j)) h11) (fun k acc S => tri_t1 c arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 i v3 v7 hw h3 _ h11 k acc S) _ _ (fun acc => ?_)
      refine tri_for (F := F) c arg3 arg4 arg5 arg6 arg7 arg8 arg9 arg10 arg11 arg12 arg13 arg14 arg15 arg16 arg17 arg18 arg19 arg20 arg21 arg22 _ _ _ _ _ (gl2 i v3 v7 hw h3 (fun j => A2.a19 ((Rect.unit (s := S128x1024) (k0_off2 i) S1x1024.size (k0_off2_inb i h3)).emb j)) h11) (fun k acc S => tri_t2 c arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 i v3 v7 hw h3 _ h11 k acc S) _ _ (fun acc => ?_)
      exact h
    subst EG7 EG6 EG5 EG4 EG3 EG2 EG1 EG0
    exact hc
  show Tri _ _ _ _ _ _ _ _ _ _ _ _ _ _ _ _ _ _ _ _ _ _ (jp ⟨⟩) _
  unfold jp
  extract_lets -underBinder x y z jp
  refine tri_jp (F := F) c arg3 arg4 arg5 arg6 arg7 arg8 arg9 arg10 arg11 arg12 arg13 arg14 arg15 arg16 arg17 arg18 arg19 arg20 arg21 arg22 _ _ (e0) _ _ _ (fun X0 EX0 => ?_) (fun h => ?_)
  rotate_left
  · refine tri_load20 (F := F) c arg3 arg4 arg5 arg6 arg7 arg8 arg9 arg10 arg11 arg12 arg13 arg14 arg15 arg16 arg17 arg18 arg19 arg20 arg21 arg22 _ _ _ _ _ ?_
    refine tri_load11 (F := F) c arg3 arg4 arg5 arg6 arg7 arg8 arg9 arg10 arg11 arg12 arg13 arg14 arg15 arg16 arg17 arg18 arg19 arg20 arg21 arg22 _ _ _ _ _ ?_
    refine tri_load12 (F := F) c arg3 arg4 arg5 arg6 arg7 arg8 arg9 arg10 arg11 arg12 arg13 arg14 arg15 arg16 arg17 arg18 arg19 arg20 arg21 arg22 _ _ _ _ _ ?_
    refine tri_load21 (F := F) c arg3 arg4 arg5 arg6 arg7 arg8 arg9 arg10 arg11 arg12 arg13 arg14 arg15 arg16 arg17 arg18 arg19 arg20 arg21 arg22 _ _ _ _ _ ?_
    refine tri_load13 (F := F) c arg3 arg4 arg5 arg6 arg7 arg8 arg9 arg10 arg11 arg12 arg13 arg14 arg15 arg16 arg17 arg18 arg19 arg20 arg21 arg22 _ _ _ _ _ ?_
    refine tri_load21 (F := F) c arg3 arg4 arg5 arg6 arg7 arg8 arg9 arg10 arg11 arg12 arg13 arg14 arg15 arg16 arg17 arg18 arg19 arg20 arg21 arg22 _ _ _ _ _ ?_
    refine tri_store21 (F := F) c arg3 arg4 arg5 arg6 arg7 arg8 arg9 arg10 arg11 arg12 arg13 arg14 arg15 arg16 arg17 arg18 arg19 arg20 arg21 arg22 _ (Rect.unit (s := S1024x1024) ![0, 0] S128x1024.size inb_S1024x1024_S128x1024_0_0) _ (View.stores_vmem_bits_univ h_S128x1024 rfl) (.inl rfl) _ _ ?_
    exact h
  show Tri _ _ _ _ _ _ _ _ _ _ _ _ _ _ _ _ _ _ _ _ _ _ (jp ⟨⟩) _
  unfold jp
  extract_lets -underBinder x y z jp
  refine tri_jp (F := F) c arg3 arg4 arg5 arg6 arg7 arg8 arg9 arg10 arg11 arg12 arg13 arg14 arg15 arg16 arg17 arg18 arg19 arg20 arg21 arg22 _ _ (e1) _ _ _ (fun X1 EX1 => ?_) (fun h => ?_)
  rotate_left
  · refine tri_load20 (F := F) c arg3 arg4 arg5 arg6 arg7 arg8 arg9 arg10 arg11 arg12 arg13 arg14 arg15 arg16 arg17 arg18 arg19 arg20 arg21 arg22 _ _ _ _ _ ?_
    refine tri_load11 (F := F) c arg3 arg4 arg5 arg6 arg7 arg8 arg9 arg10 arg11 arg12 arg13 arg14 arg15 arg16 arg17 arg18 arg19 arg20 arg21 arg22 _ _ _ _ _ ?_
    refine tri_load12 (F := F) c arg3 arg4 arg5 arg6 arg7 arg8 arg9 arg10 arg11 arg12 arg13 arg14 arg15 arg16 arg17 arg18 arg19 arg20 arg21 arg22 _ _ _ _ _ ?_
    refine tri_load21 (F := F) c arg3 arg4 arg5 arg6 arg7 arg8 arg9 arg10 arg11 arg12 arg13 arg14 arg15 arg16 arg17 arg18 arg19 arg20 arg21 arg22 _ _ _ _ _ ?_
    refine tri_load13 (F := F) c arg3 arg4 arg5 arg6 arg7 arg8 arg9 arg10 arg11 arg12 arg13 arg14 arg15 arg16 arg17 arg18 arg19 arg20 arg21 arg22 _ _ _ _ _ ?_
    refine tri_load21 (F := F) c arg3 arg4 arg5 arg6 arg7 arg8 arg9 arg10 arg11 arg12 arg13 arg14 arg15 arg16 arg17 arg18 arg19 arg20 arg21 arg22 _ _ _ _ _ ?_
    refine tri_store21 (F := F) c arg3 arg4 arg5 arg6 arg7 arg8 arg9 arg10 arg11 arg12 arg13 arg14 arg15 arg16 arg17 arg18 arg19 arg20 arg21 arg22 _ (Rect.unit (s := S1024x1024) ![0, 0] S192x1024.size inb_S1024x1024_S192x1024_0_0) _ (View.stores_vmem_bits_univ h_S192x1024 rfl) (.inl rfl) _ _ ?_
    exact h
  show Tri _ _ _ _ _ _ _ _ _ _ _ _ _ _ _ _ _ _ _ _ _ _ (jp ⟨⟩) _
  unfold jp
  extract_lets -underBinder x y z jp
  refine tri_jp (F := F) c arg3 arg4 arg5 arg6 arg7 arg8 arg9 arg10 arg11 arg12 arg13 arg14 arg15 arg16 arg17 arg18 arg19 arg20 arg21 arg22 _ _ (e2) _ _ _ (fun X2 EX2 => ?_) (fun h => ?_)
  rotate_left
  · refine tri_load20 (F := F) c arg3 arg4 arg5 arg6 arg7 arg8 arg9 arg10 arg11 arg12 arg13 arg14 arg15 arg16 arg17 arg18 arg19 arg20 arg21 arg22 _ _ _ _ _ ?_
    refine tri_load11 (F := F) c arg3 arg4 arg5 arg6 arg7 arg8 arg9 arg10 arg11 arg12 arg13 arg14 arg15 arg16 arg17 arg18 arg19 arg20 arg21 arg22 _ _ _ _ _ ?_
    refine tri_load12 (F := F) c arg3 arg4 arg5 arg6 arg7 arg8 arg9 arg10 arg11 arg12 arg13 arg14 arg15 arg16 arg17 arg18 arg19 arg20 arg21 arg22 _ _ _ _ _ ?_
    refine tri_load21 (F := F) c arg3 arg4 arg5 arg6 arg7 arg8 arg9 arg10 arg11 arg12 arg13 arg14 arg15 arg16 arg17 arg18 arg19 arg20 arg21 arg22 _ _ _ _ _ ?_
    refine tri_load13 (F := F) c arg3 arg4 arg5 arg6 arg7 arg8 arg9 arg10 arg11 arg12 arg13 arg14 arg15 arg16 arg17 arg18 arg19 arg20 arg21 arg22 _ _ _ _ _ ?_
    refine tri_load21 (F := F) c arg3 arg4 arg5 arg6 arg7 arg8 arg9 arg10 arg11 arg12 arg13 arg14 arg15 arg16 arg17 arg18 arg19 arg20 arg21 arg22 _ _ _ _ _ ?_
    refine tri_store21 (F := F) c arg3 arg4 arg5 arg6 arg7 arg8 arg9 arg10 arg11 arg12 arg13 arg14 arg15 arg16 arg17 arg18 arg19 arg20 arg21 arg22 _ (Rect.unit (s := S1024x1024) ![0, 0] S256x1024.size inb_S1024x1024_S256x1024_0_0) _ (View.stores_vmem_bits_univ h_S256x1024 rfl) (.inl rfl) _ _ ?_
    exact h
  show Tri _ _ _ _ _ _ _ _ _ _ _ _ _ _ _ _ _ _ _ _ _ _ (jp ⟨⟩) _
  unfold jp
  subst EX2 EX1 EX0 EA3 EA2 EA1
  exact tri_pure (F := F) c arg3 arg4 arg5 arg6 arg7 arg8 arg9 arg10 arg11 arg12 arg13 arg14 arg15 arg16 arg17 arg18 arg19 arg20 arg21 arg22 _ _ _ ⟨rfl, rfl⟩

end Cert.Kernel2Ideal.Moe

end
-- ==== Proof.Moe.Run4.lean ====
module

public import proofs.«01_k».proof.Proof.Moe.Run3

@[expose] public section

set_option maxRecDepth 16384

noncomputable section

namespace Cert.Kernel2Ideal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel2Ideal Cert.Kernel2Ideal.Gen

variable {F : FTy → Type} [FloatOps F]

local notation "𝕄" => MT nD τ sig Unit (Elt F) ℕ (UR sig nD τ) ℕ

variable (c : Dev nD)
  (arg3 : Memref sig .tc .smem S256 .i32) (harg3 : arg3.IsWhole)
  (arg4 : Memref sig .tc .smem S256 .i32) (harg4 : arg4.IsWhole)
  (arg5 : Memref sig .tc .vmem S1024x1024 .f32) (harg5 : arg5.IsWhole)
  (arg6 : Memref sig .tc .vmem S1x1024 .f32) (harg6 : arg6.IsWhole)
  (arg7 : Memref sig .tc .vmem S1x1x1024 .f32) (harg7 : arg7.IsWhole)
  (arg8 : Memref sig .tc .vmem S1x1x1024 .f32) (harg8 : arg8.IsWhole)
  (arg9 : Memref sig .tc .vmem S1x1x1024 .f32) (harg9 : arg9.IsWhole)
  (arg10 : Memref sig .tc .vmem S1024x128 .f32) (harg10 : arg10.IsWhole)
  (arg11 : Memref sig .tc .vmem S1x1024x896 .bf16) (harg11 : arg11.IsWhole)
  (arg12 : Memref sig .tc .vmem S1x1024x896 .bf16) (harg12 : arg12.IsWhole)
  (arg13 : Memref sig .tc .vmem S1x896x1024 .bf16) (harg13 : arg13.IsWhole)
  (arg14 : Memref sig .tc .vmem S1x1024 .f32) (harg14 : arg14.IsWhole)
  (arg15 : Memref sig .tc .vmem S1024x1024 .f32) (harg15 : arg15.IsWhole)
  (arg16 : Memref sig .tc .vmem S1024x1024 .bf16) (harg16 : arg16.IsWhole)
  (arg17 : Memref sig .tc .vmem S1024x1024 .bf16) (harg17 : arg17.IsWhole)
  (arg18 : Memref sig .tc .vmem S1024x128 .f32) (harg18 : arg18.IsWhole)
  (arg19 : Memref sig .tc .vmem S128x1024 .f32) (harg19 : arg19.IsWhole)
  (arg20 : Memref sig .tc .vmem S1024x1024 .bf16) (harg20 : arg20.IsWhole)
  (arg21 : Memref sig .tc .vmem S1024x1024 .f32) (harg21 : arg21.IsWhole)
  (arg22 : Memref sig .tc .vmem S1024x1024 .f32) (harg22 : arg22.IsWhole)

set_option maxHeartbeats 1000000 in
theorem tri_body (i : grid0.Coords) (S : State F) (v3 v7 : BitVec 32)
    (t3 : S.a3 ((Rect.unit (s := S256) (k0_off1 i) S1.size (k0_off1_inb i)).emb (Shape.Idx.first (numel1_S1.symm ▸ Nat.one_pos))) = v3)
    (t7 : S.a4 ((Rect.unit (s := S256) (k0_off1 i) S1.size (k0_off1_inb i)).emb (Shape.Idx.first (numel1_S1.symm ▸ Nat.one_pos))) = v7)
    (hw : k0_chk1 i v3 v7) :
    Tri c arg3 arg4 arg5 arg6 arg7 arg8 arg9 arg10 arg11 arg12 arg13 arg14 arg15 arg16 arg17 arg18 arg19 arg20 arg21 arg22 S (cc0_moe i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) (fun _ S' => S' = bodyF i v3 v7 hw S) := by
  rw [cc0_moe_eq_skeleton]
  unfold cc0_moe_skel
  refine tri_bind (F := F) c arg3 arg4 arg5 arg6 arg7 arg8 arg9 arg10 arg11 arg12 arg13 arg14 arg15 arg16 arg17 arg18 arg19 arg20 arg21 arg22 _ _ _ _ _ (tri_part3 c arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 i S v3 v7 t3 t7 hw) (fun r B0 hr => ?_)
  obtain ⟨rfl, EB⟩ := hr
  dsimp -zeta -zetaHave only
  extract_lets -underBinder x y z jp
  refine tri_jp (F := F) c arg3 arg4 arg5 arg6 arg7 arg8 arg9 arg10 arg11 arg12 arg13 arg14 arg15 arg16 arg17 arg18 arg19 arg20 arg21 arg22 _ _ (e3) _ _ _ (fun X3 EX3 => ?_) (fun h => ?_)
  rotate_left
  · refine tri_load20 (F := F) c arg3 arg4 arg5 arg6 arg7 arg8 arg9 arg10 arg11 arg12 arg13 arg14 arg15 arg16 arg17 arg18 arg19 arg20 arg21 arg22 _ _ _ _ _ ?_
    refine tri_load11 (F := F) c arg3 arg4 arg5 arg6 arg7 arg8 arg9 arg10 arg11 arg12 arg13 arg14 arg15 arg16 arg17 arg18 arg19 arg20 arg21 arg22 _ _ _ _ _ ?_
    refine tri_load12 (F := F) c arg3 arg4 arg5 arg6 arg7 arg8 arg9 arg10 arg11 arg12 arg13 arg14 arg15 arg16 arg17 arg18 arg19 arg20 arg21 arg22 _ _ _ _ _ ?_
    refine tri_load21 (F := F) c arg3 arg4 arg5 arg6 arg7 arg8 arg9 arg10 arg11 arg12 arg13 arg14 arg15 arg16 arg17 arg18 arg19 arg20 arg21 arg22 _ _ _ _ _ ?_
    refine tri_load13 (F := F) c arg3 arg4 arg5 arg6 arg7 arg8 arg9 arg10 arg11 arg12 arg13 arg14 arg15 arg16 arg17 arg18 arg19 arg20 arg21 arg22 _ _ _ _ _ ?_
    refine tri_load21 (F := F) c arg3 arg4 arg5 arg6 arg7 arg8 arg9 arg10 arg11 arg12 arg13 arg14 arg15 arg16 arg17 arg18 arg19 arg20 arg21 arg22 _ _ _ _ _ ?_
    refine tri_store21 (F := F) c arg3 arg4 arg5 arg6 arg7 arg8 arg9 arg10 arg11 arg12 arg13 arg14 arg15 arg16 arg17 arg18 arg19 arg20 arg21 arg22 _ (Rect.unit (s := S1024x1024) ![0, 0] S320x1024.size inb_S1024x1024_S320x1024_0_0) _ (View.stores_vmem_bits_univ h_S320x1024 rfl) (.inl rfl) _ _ ?_
    exact h
  show Tri _ _ _ _ _ _ _ _ _ _ _ _ _ _ _ _ _ _ _ _ _ _ (jp ⟨⟩) _
  unfold jp
  extract_lets -underBinder x y z jp
  refine tri_jp (F := F) c arg3 arg4 arg5 arg6 arg7 arg8 arg9 arg10 arg11 arg12 arg13 arg14 arg15 arg16 arg17 arg18 arg19 arg20 arg21 arg22 _ _ (e4) _ _ _ (fun X4 EX4 => ?_) (fun h => ?_)
  rotate_left
  · refine tri_load20 (F := F) c arg3 arg4 arg5 arg6 arg7 arg8 arg9 arg10 arg11 arg12 arg13 arg14 arg15 arg16 arg17 arg18 arg19 arg20 arg21 arg22 _ _ _ _ _ ?_
    refine tri_load11 (F := F) c arg3 arg4 arg5 arg6 arg7 arg8 arg9 arg10 arg11 arg12 arg13 arg14 arg15 arg16 arg17 arg18 arg19 arg20 arg21 arg22 _ _ _ _ _ ?_
    refine tri_load12 (F := F) c arg3 arg4 arg5 arg6 arg7 arg8 arg9 arg10 arg11 arg12 arg13 arg14 arg15 arg16 arg17 arg18 arg19 arg20 arg21 arg22 _ _ _ _ _ ?_
    refine tri_load21 (F := F) c arg3 arg4 arg5 arg6 arg7 arg8 arg9 arg10 arg11 arg12 arg13 arg14 arg15 arg16 arg17 arg18 arg19 arg20 arg21 arg22 _ _ _ _ _ ?_
    refine tri_load13 (F := F) c arg3 arg4 arg5 arg6 arg7 arg8 arg9 arg10 arg11 arg12 arg13 arg14 arg15 arg16 arg17 arg18 arg19 arg20 arg21 arg22 _ _ _ _ _ ?_
    refine tri_load21 (F := F) c arg3 arg4 arg5 arg6 arg7 arg8 arg9 arg10 arg11 arg12 arg13 arg14 arg15 arg16 arg17 arg18 arg19 arg20 arg21 arg22 _ _ _ _ _ ?_
    refine tri_store21 (F := F) c arg3 arg4 arg5 arg6 arg7 arg8 arg9 arg10 arg11 arg12 arg13 arg14 arg15 arg16 arg17 arg18 arg19 arg20 arg21 arg22 _ (Rect.unit (s := S1024x1024) ![0, 0] S384x1024.size inb_S1024x1024_S384x1024_0_0) _ (View.stores_vmem_bits_univ h_S384x1024 rfl) (.inl rfl) _ _ ?_
    exact h
  show Tri _ _ _ _ _ _ _ _ _ _ _ _ _ _ _ _ _ _ _ _ _ _ (jp ⟨⟩) _
  unfold jp
  extract_lets -underBinder x y z jp
  refine tri_jp (F := F) c arg3 arg4 arg5 arg6 arg7 arg8 arg9 arg10 arg11 arg12 arg13 arg14 arg15 arg16 arg17 arg18 arg19 arg20 arg21 arg22 _ _ (e5) _ _ _ (fun X5 EX5 => ?_) (fun h => ?_)
  rotate_left
  · refine tri_load20 (F := F) c arg3 arg4 arg5 arg6 arg7 arg8 arg9 arg10 arg11 arg12 arg13 arg14 arg15 arg16 arg17 arg18 arg19 arg20 arg21 arg22 _ _ _ _ _ ?_
    refine tri_load11 (F := F) c arg3 arg4 arg5 arg6 arg7 arg8 arg9 arg10 arg11 arg12 arg13 arg14 arg15 arg16 arg17 arg18 arg19 arg20 arg21 arg22 _ _ _ _ _ ?_
    refine tri_load12 (F := F) c arg3 arg4 arg5 arg6 arg7 arg8 arg9 arg10 arg11 arg12 arg13 arg14 arg15 arg16 arg17 arg18 arg19 arg20 arg21 arg22 _ _ _ _ _ ?_
    refine tri_load21 (F := F) c arg3 arg4 arg5 arg6 arg7 arg8 arg9 arg10 arg11 arg12 arg13 arg14 arg15 arg16 arg17 arg18 arg19 arg20 arg21 arg22 _ _ _ _ _ ?_
    refine tri_load13 (F := F) c arg3 arg4 arg5 arg6 arg7 arg8 arg9 arg10 arg11 arg12 arg13 arg14 arg15 arg16 arg17 arg18 arg19 arg20 arg21 arg22 _ _ _ _ _ ?_
    refine tri_load21 (F := F) c arg3 arg4 arg5 arg6 arg7 arg8 arg9 arg10 arg11 arg12 arg13 arg14 arg15 arg16 arg17 arg18 arg19 arg20 arg21 arg22 _ _ _ _ _ ?_
    refine tri_store21 (F := F) c arg3 arg4 arg5 arg6 arg7 arg8 arg9 arg10 arg11 arg12 arg13 arg14 arg15 arg16 arg17 arg18 arg19 arg20 arg21 arg22 _ (Rect.unit (s := S1024x1024) ![0, 0] S448x1024.size inb_S1024x1024_S448x1024_0_0) _ (View.stores_vmem_bits_univ h_S448x1024 rfl) (.inl rfl) _ _ ?_
    exact h
  show Tri _ _ _ _ _ _ _ _ _ _ _ _ _ _ _ _ _ _ _ _ _ _ (jp ⟨⟩) _
  unfold jp
  extract_lets -underBinder x y z jp
  refine tri_jp (F := F) c arg3 arg4 arg5 arg6 arg7 arg8 arg9 arg10 arg11 arg12 arg13 arg14 arg15 arg16 arg17 arg18 arg19 arg20 arg21 arg22 _ _ (e6) _ _ _ (fun X6 EX6 => ?_) (fun h => ?_)
  rotate_left
  · refine tri_load20 (F := F) c arg3 arg4 arg5 arg6 arg7 arg8 arg9 arg10 arg11 arg12 arg13 arg14 arg15 arg16 arg17 arg18 arg19 arg20 arg21 arg22 _ _ _ _ _ ?_
    refine tri_load11 (F := F) c arg3 arg4 arg5 arg6 arg7 arg8 arg9 arg10 arg11 arg12 arg13 arg14 arg15 arg16 arg17 arg18 arg19 arg20 arg21 arg22 _ _ _ _ _ ?_
    refine tri_load12 (F := F) c arg3 arg4 arg5 arg6 arg7 arg8 arg9 arg10 arg11 arg12 arg13 arg14 arg15 arg16 arg17 arg18 arg19 arg20 arg21 arg22 _ _ _ _ _ ?_
    refine tri_load21 (F := F) c arg3 arg4 arg5 arg6 arg7 arg8 arg9 arg10 arg11 arg12 arg13 arg14 arg15 arg16 arg17 arg18 arg19 arg20 arg21 arg22 _ _ _ _ _ ?_
    refine tri_load13 (F := F) c arg3 arg4 arg5 arg6 arg7 arg8 arg9 arg10 arg11 arg12 arg13 arg14 arg15 arg16 arg17 arg18 arg19 arg20 arg21 arg22 _ _ _ _ _ ?_
    refine tri_load21 (F := F) c arg3 arg4 arg5 arg6 arg7 arg8 arg9 arg10 arg11 arg12 arg13 arg14 arg15 arg16 arg17 arg18 arg19 arg20 arg21 arg22 _ _ _ _ _ ?_
    refine tri_store21 (F := F) c arg3 arg4 arg5 arg6 arg7 arg8 arg9 arg10 arg11 arg12 arg13 arg14 arg15 arg16 arg17 arg18 arg19 arg20 arg21 arg22 _ (Rect.unit (s := S1024x1024) ![0, 0] S512x1024.size inb_S1024x1024_S512x1024_0_0) _ (View.stores_vmem_bits_univ h_S512x1024 rfl) (.inl rfl) _ _ ?_
    exact h
  show Tri _ _ _ _ _ _ _ _ _ _ _ _ _ _ _ _ _ _ _ _ _ _ (jp ⟨⟩) _
  unfold jp
  extract_lets -underBinder jp
  refine tri_djp (F := F) c arg3 arg4 arg5 arg6 arg7 arg8 arg9 arg10 arg11 arg12 arg13 arg14 arg15 arg16 arg17 arg18 arg19 arg20 arg21 arg22 _ _ (fun h S => runTrips (el4 i v3 v7 hw h) (k0_t4_loop v7).trips (runTrips (el3 i v3 v7 hw h) (k0_t3_loop v7).trips S)) _ _ _ (fun A1 EA1 => ?_) (fun h19 h => ?_)
  rotate_left
  · refine tri_for (F := F) c arg3 arg4 arg5 arg6 arg7 arg8 arg9 arg10 arg11 arg12 arg13 arg14 arg15 arg16 arg17 arg18 arg19 arg20 arg21 arg22 _ _ _ _ _ (el3 i v3 v7 hw h19) (fun k acc S => tri_t3 c arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 i v3 v7 hw h19 k acc S) _ _ (fun acc => ?_)
    refine tri_for (F := F) c arg3 arg4 arg5 arg6 arg7 arg8 arg9 arg10 arg11 arg12 arg13 arg14 arg15 arg16 arg17 arg18 arg19 arg20 arg21 arg22 _ _ _ _ _ (el4 i v3 v7 hw h19) (fun k acc S => tri_t4 c arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 i v3 v7 hw h19 k acc S) _ _ (fun acc => ?_)
    exact h
  show Tri _ _ _ _ _ _ _ _ _ _ _ _ _ _ _ _ _ _ _ _ _ _ (jp ⟨⟩) _
  unfold jp
  extract_lets -underBinder jp
  refine tri_djp (F := F) c arg3 arg4 arg5 arg6 arg7 arg8 arg9 arg10 arg11 arg12 arg13 arg14 arg15 arg16 arg17 arg18 arg19 arg20 arg21 arg22 _ _ (fun h S => scatterF i v3 v7 hw h S) _ _ _ (fun A2 EA2 => ?_) (fun h20 hc => ?_)
  rotate_left
  · refine tri_bind (F := F) c arg3 arg4 arg5 arg6 arg7 arg8 arg9 arg10 arg11 arg12 arg13 arg14 arg15 arg16 arg17 arg18 arg19 arg20 arg21 arg22 _ _ _ _ _ (tri_part2 c arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 i _ v3 A1) (fun r P hr => ?_)
    obtain ⟨rfl, EP⟩ := hr
    dsimp -zeta -zetaHave only
    extract_lets -underBinder y z jpg
    refine tri_jp (F := F) c arg3 arg4 arg5 arg6 arg7 arg8 arg9 arg10 arg11 arg12 arg13 arg14 arg15 arg16 arg17 arg18 arg19 arg20 arg21 arg22 _ _ (s6 (k0_pay15 (BitVec.ofNat 32 (i 1).val) (fun j => A1.a18 ((Rect.unit (s := S1024x128) ![0, 0] S1024x128.size inb_S1024x128_S1024x128_0_0).emb j))) (k0_pay16 (BitVec.ofNat 32 (i 1).val) (fun j => A1.a10 ((Rect.unit (s := S1024x128) ![0, 0] S1024x128.size inb_S1024x128_S1024x128_0_0).emb j)))) _ _ _ (fun G6 EG6 => ?_) (fun h => ?_)
    rotate_left
    · refine tri_load22 (F := F) c arg3 arg4 arg5 arg6 arg7 arg8 arg9 arg10 arg11 arg12 arg13 arg14 arg15 arg16 arg17 arg18 arg19 arg20 arg21 arg22 _ _ _ _ _ ?_
      refine tri_load21 (F := F) c arg3 arg4 arg5 arg6 arg7 arg8 arg9 arg10 arg11 arg12 arg13 arg14 arg15 arg16 arg17 arg18 arg19 arg20 arg21 arg22 _ _ _ _ _ ?_
      refine tri_load22 (F := F) c arg3 arg4 arg5 arg6 arg7 arg8 arg9 arg10 arg11 arg12 arg13 arg14 arg15 arg16 arg17 arg18 arg19 arg20 arg21 arg22 _ _ _ _ _ ?_
      refine tri_store22 (F := F) c arg3 arg4 arg5 arg6 arg7 arg8 arg9 arg10 arg11 arg12 arg13 arg14 arg15 arg16 arg17 arg18 arg19 arg20 arg21 arg22 _ (Rect.unit (s := S1024x1024) ![0, 0] S1024x1024.size inb_S1024x1024_S1024x1024_0_0) _ (View.stores_vmem_bits_univ h_S1024x1024 rfl) (.inl rfl) _ _ ?_
      exact h
    show Tri _ _ _ _ _ _ _ _ _ _ _ _ _ _ _ _ _ _ _ _ _ _ (jpg ⟨⟩) _
    unfold jpg
    extract_lets -underBinder jpg
    refine tri_djp (F := F) c arg3 arg4 arg5 arg6 arg7 arg8 arg9 arg10 arg11 arg12 arg13 arg14 arg15 arg16 arg17 arg18 arg19 arg20 arg21 arg22 _ _ (fun h S => runTrips (sl6 i v3 v7 hw h20 (k0_pay15 (BitVec.ofNat 32 (i 1).val) (fun j => A1.a18 ((Rect.unit (s := S1024x128) ![0, 0] S1024x128.size inb_S1024x128_S1024x128_0_0).emb j))) (k0_pay16 (BitVec.ofNat 32 (i 1).val) (fun j => A1.a10 ((Rect.unit (s := S1024x128) ![0, 0] S1024x128.size inb_S1024x128_S1024x128_0_0).emb j))) h) (k0_t6_loop v7).trips (runTrips (sl5 i v3 v7 hw h20 (k0_pay15 (BitVec.ofNat 32 (i 1).val) (fun j => A1.a18 ((Rect.unit (s := S1024x128) ![0, 0] S1024x128.size inb_S1024x128_S1024x128_0_0).emb j))) (k0_pay16 (BitVec.ofNat 32 (i 1).val) (fun j => A1.a10 ((Rect.unit (s := S1024x128) ![0, 0] S1024x128.size inb_S1024x128_S1024x128_0_0).emb j))) h) (k0_t5_loop v7).trips S)) _ _ _ (fun G7 EG7 => ?_) (fun h28 h => ?_)
    rotate_left
    · refine tri_for (F := F) c arg3 arg4 arg5 arg6 arg7 arg8 arg9 arg10 arg11 arg12 arg13 arg14 arg15 arg16 arg17 arg18 arg19 arg20 arg21 arg22 _ _ _ _ _ (sl5 i v3 v7 hw h20 (k0_pay15 (BitVec.ofNat 32 (i 1).val) (fun j => A1.a18 ((Rect.unit (s := S1024x128) ![0, 0] S1024x128.size inb_S1024x128_S1024x128_0_0).emb j))) (k0_pay16 (BitVec.ofNat 32 (i 1).val) (fun j => A1.a10 ((Rect.unit (s := S1024x128) ![0, 0] S1024x128.size inb_S1024x128_S1024x128_0_0).emb j))) h28) (fun k acc S => tri_t5 c arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 i v3 v7 hw h20 _ _ h28 k acc S) _ _ (fun acc => ?_)
      refine tri_for (F := F) c arg3 arg4 arg5 arg6 arg7 arg8 arg9 arg10 arg11 arg12 arg13 arg14 arg15 arg16 arg17 arg18 arg19 arg20 arg21 arg22 _ _ _ _ _ (sl6 i v3 v7 hw h20 (k0_pay15 (BitVec.ofNat 32 (i 1).val) (fun j => A1.a18 ((Rect.unit (s := S1024x128) ![0, 0] S1024x128.size inb_S1024x128_S1024x128_0_0).emb j))) (k0_pay16 (BitVec.ofNat 32 (i 1).val) (fun j => A1.a10 ((Rect.unit (s := S1024x128) ![0, 0] S1024x128.size inb_S1024x128_S1024x128_0_0).emb j))) h28) (fun k acc S => tri_t6 c arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 i v3 v7 hw h20 _ _ h28 k acc S) _ _ (fun acc => ?_)
      exact h
    subst EG7 EG6 EP
    exact hc
  show Tri _ _ _ _ _ _ _ _ _ _ _ _ _ _ _ _ _ _ _ _ _ _ (jp ⟨⟩) _
  unfold jp
  extract_lets -underBinder jp
  refine tri_djp (F := F) c arg3 arg4 arg5 arg6 arg7 arg8 arg9 arg10 arg11 arg12 arg13 arg14 arg15 arg16 arg17 arg18 arg19 arg20 arg21 arg22 _ _ (fun _ => finF) _ _ _ (fun A3 EA3 => ?_) (fun h29 h => ?_)
  rotate_left
  · refine tri_load5 (F := F) c arg3 arg4 arg5 arg6 arg7 arg8 arg9 arg10 arg11 arg12 arg13 arg14 arg15 arg16 arg17 arg18 arg19 arg20 arg21 arg22 _ _ _ _ _ ?_
    refine tri_load9 (F := F) c arg3 arg4 arg5 arg6 arg7 arg8 arg9 arg10 arg11 arg12 arg13 arg14 arg15 arg16 arg17 arg18 arg19 arg20 arg21 arg22 _ _ _ _ _ ?_
    refine tri_load22 (F := F) c arg3 arg4 arg5 arg6 arg7 arg8 arg9 arg10 arg11 arg12 arg13 arg14 arg15 arg16 arg17 arg18 arg19 arg20 arg21 arg22 _ _ _ _ _ ?_
    refine tri_load14 (F := F) c arg3 arg4 arg5 arg6 arg7 arg8 arg9 arg10 arg11 arg12 arg13 arg14 arg15 arg16 arg17 arg18 arg19 arg20 arg21 arg22 _ _ _ _ _ ?_
    refine tri_load15 (F := F) c arg3 arg4 arg5 arg6 arg7 arg8 arg9 arg10 arg11 arg12 arg13 arg14 arg15 arg16 arg17 arg18 arg19 arg20 arg21 arg22 _ _ _ _ _ ?_
    refine tri_store15 (F := F) c arg3 arg4 arg5 arg6 arg7 arg8 arg9 arg10 arg11 arg12 arg13 arg14 arg15 arg16 arg17 arg18 arg19 arg20 arg21 arg22 _ (Rect.unit (s := S1024x1024) ![0, 0] S1024x1024.size inb_S1024x1024_S1024x1024_0_0) _ (View.stores_vmem_bits_univ h_S1024x1024 rfl) (.inl rfl) _ _ ?_
    exact h
  show Tri _ _ _ _ _ _ _ _ _ _ _ _ _ _ _ _ _ _ _ _ _ _ (jp ⟨⟩) _
  unfold jp
  subst EA3 EA2 EA1 EX6 EX5 EX4 EX3 EB
  exact tri_pure (F := F) c arg3 arg4 arg5 arg6 arg7 arg8 arg9 arg10 arg11 arg12 arg13 arg14 arg15 arg16 arg17 arg18 arg19 arg20 arg21 arg22 _ _ _ rfl

end Cert.Kernel2Ideal.Moe

end
-- ==== Proof.Moe.Check.lean ====
module

public import proofs.«01_k».proof.Proof.Moe.Run4

@[expose] public section

set_option maxRecDepth 16384

noncomputable section

namespace Cert.Kernel2Ideal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel2Ideal Cert.Kernel2Ideal.Gen

variable {F : FTy → Type} [FloatOps F]

local notation "𝕄" => MT nD τ sig Unit (Elt F) ℕ (UR sig nD τ) ℕ

theorem div_one (v : BitVec 32) (h : v ∈ [0#32, 1#32, 2#32]) : Scalar.divsi v 1#32 = v := by
  have : ¬ IntOp.SDivCorner v 1#32 := by
    fin_cases h <;> (unfold IntOp.SDivCorner; decide)
  unfold Scalar.divsi IntOp.divsi
  rw [if_neg this]; simp

theorem tr1 (v : BitVec 32) (h : v ∈ [0#32, 1#32, 2#32]) : k0_t1_loop v = ⟨0#32, v, 1#32⟩ := by
  have : Scalar.subi v 0#32 = v := by simp [Scalar.subi, IntOp.subi]
  unfold k0_t1_loop
  simp only [this, div_one v h]
  congr 1 <;> fin_cases h <;> decide

theorem trips1 (v : BitVec 32) (h : v ∈ [0#32, 1#32, 2#32]) : (k0_t1_loop v).trips = v.toNat := by
  rw [tr1 v h]; fin_cases h <;> decide +kernel

theorem ok1 (v : BitVec 32) (h : v ∈ [0#32, 1#32, 2#32]) : (k0_t1_loop v).OK := by
  rw [tr1 v h]; fin_cases h <;> (unfold Scf.Loop.OK Scf.OK; decide +kernel)

theorem at1 (v : BitVec 32) (h : v ∈ [0#32, 1#32, 2#32]) (k : Fin (k0_t1_loop v).trips) :
    16 ∣ (k0_mult1 v k).toNat ∧ 16 ∣ (k0_mult2 v k).toNat ∧ (∀ a, (k0_off3 v k) a + S512x1024.size a ≤ S1024x1024.size a) ∧ S1024x1024.PackedRowsAt (EltTy.packing .bf16) (k0_off3 v k) S512x1024.size (fun _ => 1) := by
  have hk : k.val < 2 := lt_of_lt_of_le k.isLt (by rw [trips1 v h]; fin_cases h <;> decide)
  unfold k0_off3 k0_mult1 k0_mult2
  generalize k.val = n at hk
  dsimp only
  rcases (by omega : n = 0 ∨ n = 1) with rfl | rfl <;> decide +kernel

theorem tr2 (v : BitVec 32) (h : v ∈ [0#32, 1#32, 2#32]) : k0_t2_loop v = ⟨v, v, 1#32⟩ := by
  have : Scalar.subi v 0#32 = v := by simp [Scalar.subi, IntOp.subi]
  unfold k0_t2_loop
  simp only [this, div_one v h]
  congr 1 <;> fin_cases h <;> decide

theorem trips2 (v : BitVec 32) (h : v ∈ [0#32, 1#32, 2#32]) : (k0_t2_loop v).trips = 0 := by
  rw [tr2 v h]; fin_cases h <;> decide +kernel

theorem ok2 (v : BitVec 32) (h : v ∈ [0#32, 1#32, 2#32]) : (k0_t2_loop v).OK := by
  rw [tr2 v h]; fin_cases h <;> (unfold Scf.Loop.OK Scf.OK; decide +kernel)

theorem at2 (v : BitVec 32) (h : v ∈ [0#32, 1#32, 2#32]) (k : Fin (k0_t2_loop v).trips) :
    16 ∣ (k0_mult3 v k).toNat ∧ 16 ∣ (k0_mult4 v k).toNat ∧ (∀ a, (k0_off4 v k) a + S512x1024.size a ≤ S1024x1024.size a) ∧ S1024x1024.PackedRowsAt (EltTy.packing .bf16) (k0_off4 v k) S512x1024.size (fun _ => 1) := by
  exact absurd (lt_of_lt_of_eq k.isLt (trips2 v h)) (Nat.not_lt_zero _)

theorem tr3 (v : BitVec 32) (h : v ∈ [0#32, 1#32, 2#32]) : k0_t3_loop v = ⟨0#32, v, 1#32⟩ := by
  have : Scalar.subi v 0#32 = v := by simp [Scalar.subi, IntOp.subi]
  unfold k0_t3_loop
  simp only [this, div_one v h]
  congr 1 <;> fin_cases h <;> decide

theorem trips3 (v : BitVec 32) (h : v ∈ [0#32, 1#32, 2#32]) : (k0_t3_loop v).trips = v.toNat := by
  rw [tr3 v h]; fin_cases h <;> decide +kernel

theorem ok3 (v : BitVec 32) (h : v ∈ [0#32, 1#32, 2#32]) : (k0_t3_loop v).OK := by
  rw [tr3 v h]; fin_cases h <;> (unfold Scf.Loop.OK Scf.OK; decide +kernel)

theorem at3 (v : BitVec 32) (h : v ∈ [0#32, 1#32, 2#32]) (k : Fin (k0_t3_loop v).trips) :
    16 ∣ (k0_mult5 v k).toNat ∧ 16 ∣ (k0_mult6 v k).toNat ∧ (∀ a, (k0_off5 v k) a + S512x1024.size a ≤ S1024x1024.size a) := by
  have hk : k.val < 2 := lt_of_lt_of_le k.isLt (by rw [trips3 v h]; fin_cases h <;> decide)
  unfold k0_off5 k0_mult5 k0_mult6
  generalize k.val = n at hk
  dsimp only
  rcases (by omega : n = 0 ∨ n = 1) with rfl | rfl <;> decide +kernel

theorem tr4 (v : BitVec 32) (h : v ∈ [0#32, 1#32, 2#32]) : k0_t4_loop v = ⟨v, v, 1#32⟩ := by
  have : Scalar.subi v 0#32 = v := by simp [Scalar.subi, IntOp.subi]
  unfold k0_t4_loop
  simp only [this, div_one v h]
  congr 1 <;> fin_cases h <;> decide

theorem trips4 (v : BitVec 32) (h : v ∈ [0#32, 1#32, 2#32]) : (k0_t4_loop v).trips = 0 := by
  rw [tr4 v h]; fin_cases h <;> decide +kernel

theorem ok4 (v : BitVec 32) (h : v ∈ [0#32, 1#32, 2#32]) : (k0_t4_loop v).OK := by
  rw [tr4 v h]; fin_cases h <;> (unfold Scf.Loop.OK Scf.OK; decide +kernel)

theorem at4 (v : BitVec 32) (h : v ∈ [0#32, 1#32, 2#32]) (k : Fin (k0_t4_loop v).trips) :
    16 ∣ (k0_mult7 v k).toNat ∧ 16 ∣ (k0_mult8 v k).toNat ∧ (∀ a, (k0_off6 v k) a + S512x1024.size a ≤ S1024x1024.size a) := by
  exact absurd (lt_of_lt_of_eq k.isLt (trips4 v h)) (Nat.not_lt_zero _)

theorem tr5 (v : BitVec 32) (h : v ∈ [0#32, 1#32, 2#32]) : k0_t5_loop v = ⟨0#32, v, 1#32⟩ := by
  have : Scalar.subi v 0#32 = v := by simp [Scalar.subi, IntOp.subi]
  unfold k0_t5_loop
  simp only [this, div_one v h]
  congr 1 <;> fin_cases h <;> decide

theorem trips5 (v : BitVec 32) (h : v ∈ [0#32, 1#32, 2#32]) : (k0_t5_loop v).trips = v.toNat := by
  rw [tr5 v h]; fin_cases h <;> decide +kernel

theorem ok5 (v : BitVec 32) (h : v ∈ [0#32, 1#32, 2#32]) : (k0_t5_loop v).OK := by
  rw [tr5 v h]; fin_cases h <;> (unfold Scf.Loop.OK Scf.OK; decide +kernel)

theorem at5 (v : BitVec 32) (h : v ∈ [0#32, 1#32, 2#32]) (k : Fin (k0_t5_loop v).trips) :
    16 ∣ (k0_mult9 v k).toNat ∧ (∀ a, (k0_off7 v k) a + S512x1024.size a ≤ S1024x1024.size a) := by
  have hk : k.val < 2 := lt_of_lt_of_le k.isLt (by rw [trips5 v h]; fin_cases h <;> decide)
  unfold k0_off7 k0_mult9
  generalize k.val = n at hk
  dsimp only
  rcases (by omega : n = 0 ∨ n = 1) with rfl | rfl <;> decide +kernel

theorem tr6 (v : BitVec 32) (h : v ∈ [0#32, 1#32, 2#32]) : k0_t6_loop v = ⟨v, v, 1#32⟩ := by
  have : Scalar.subi v 0#32 = v := by simp [Scalar.subi, IntOp.subi]
  unfold k0_t6_loop
  simp only [this, div_one v h]
  congr 1 <;> fin_cases h <;> decide

theorem trips6 (v : BitVec 32) (h : v ∈ [0#32, 1#32, 2#32]) : (k0_t6_loop v).trips = 0 := by
  rw [tr6 v h]; fin_cases h <;> decide +kernel

theorem ok6 (v : BitVec 32) (h : v ∈ [0#32, 1#32, 2#32]) : (k0_t6_loop v).OK := by
  rw [tr6 v h]; fin_cases h <;> (unfold Scf.Loop.OK Scf.OK; decide +kernel)

theorem at6 (v : BitVec 32) (h : v ∈ [0#32, 1#32, 2#32]) (k : Fin (k0_t6_loop v).trips) :
    16 ∣ (k0_mult10 v k).toNat ∧ (∀ a, (k0_off8 v k) a + S512x1024.size a ≤ S1024x1024.size a) := by
  exact absurd (lt_of_lt_of_eq k.isLt (trips6 v h)) (Nat.not_lt_zero _)

/-- What the body assumes of the two table entries holds when there are at most two chunks. -/
theorem chk_of (i : grid0.Coords) (v3 v7 : BitVec 32) (h : v7 ∈ [0#32, 1#32, 2#32]) : k0_chk1 i v3 v7 :=
  ⟨fun _ _ => ok1 v7 h, fun k _ _ => (at1 v7 h k).1, fun k _ _ => (at1 v7 h k).2.2.1,
    fun k _ _ _ => (at1 v7 h k).2.2.2, fun k _ _ => (at1 v7 h k).2.1,
    fun _ _ => ok2 v7 h, fun k _ _ => (at2 v7 h k).1, fun k _ _ => (at2 v7 h k).2.2.1,
    fun k _ _ _ => (at2 v7 h k).2.2.2, fun k _ _ => (at2 v7 h k).2.1,
    fun _ => ok3 v7 h, fun k _ => (at3 v7 h k).1, fun k _ => (at3 v7 h k).2.2, fun k _ => (at3 v7 h k).2.1,
    fun _ => ok4 v7 h, fun k _ => (at4 v7 h k).1, fun k _ => (at4 v7 h k).2.2, fun k _ => (at4 v7 h k).2.1,
    fun _ _ => ok5 v7 h, fun k _ _ => (at5 v7 h k).1, fun k _ _ => (at5 v7 h k).2,
    fun _ _ => ok6 v7 h, fun k _ _ => (at6 v7 h k).1, fun k _ _ => (at6 v7 h k).2⟩

end Cert.Kernel2Ideal.Moe

end
-- ==== Proof.Moe.Keep.lean ====
module

public import proofs.«01_k».proof.Proof.Moe.Check

@[expose] public section

set_option maxRecDepth 16384

noncomputable section

namespace Cert.Kernel2Ideal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel2Ideal Cert.Kernel2Ideal.Gen

variable {F : FTy → Type} [FloatOps F]

local notation "𝕄" => MT nD τ sig Unit (Elt F) ℕ (UR sig nD τ) ℕ

/-- The parts of a state that the body only reads. -/
def ins (S : State F) := (S.a3, S.a4, S.a5, S.a6, S.a7, S.a8, S.a9, S.a10, S.a11, S.a12, S.a13, S.a14)

/-- What the scratches of the kernel hold. -/
abbrev Scr (F : FTy → Type) : Type := Vec F S1024x1024 .bf16 × Vec F S1024x1024 .bf16 × Vec F S1024x128 .f32 × Vec F S128x1024 .f32
  × Vec F S1024x1024 .bf16 × Vec F S1024x1024 .f32 × Vec F S1024x1024 .f32

/-- The part of a state that the scratches hold. -/
def scr (S : State F) : Scr F := (S.a16, S.a17, S.a18, S.a19, S.a20, S.a21, S.a22)

theorem ins_triF (S : State F) : ins (triF S) = ins S := by
  unfold triF ins
  rfl
theorem ins_init1 (S : State F) : ins (init1 S) = ins S := by
  unfold init1 ins
  rfl
theorem ins_init2 (S : State F) : ins (init2 S) = ins S := by
  unfold init2 ins
  rfl
theorem ins_finF (S : State F) : ins (finF S) = ins S := by
  unfold finF ins
  rfl
theorem ins_e0 (S : State F) : ins (e0 S) = ins S := by
  unfold e0 ins
  rfl
theorem ins_e1 (S : State F) : ins (e1 S) = ins S := by
  unfold e1 ins
  rfl
theorem ins_e2 (S : State F) : ins (e2 S) = ins S := by
  unfold e2 ins
  rfl
theorem ins_e3 (S : State F) : ins (e3 S) = ins S := by
  unfold e3 ins
  rfl
theorem ins_e4 (S : State F) : ins (e4 S) = ins S := by
  unfold e4 ins
  rfl
theorem ins_e5 (S : State F) : ins (e5 S) = ins S := by
  unfold e5 ins
  rfl
theorem ins_e6 (S : State F) : ins (e6 S) = ins S := by
  unfold e6 ins
  rfl
theorem ins_g0 (v : Vec F S1x1024 .f32) (S : State F) : ins (g0 v S) = ins S := by
  unfold g0 ins
  rfl
theorem ins_g1 (v : Vec F S1x1024 .f32) (S : State F) : ins (g1 v S) = ins S := by
  unfold g1 ins
  rfl
theorem ins_g2 (v : Vec F S1x1024 .f32) (S : State F) : ins (g2 v S) = ins S := by
  unfold g2 ins
  rfl
theorem ins_g3 (v : Vec F S1x1024 .f32) (S : State F) : ins (g3 v S) = ins S := by
  unfold g3 ins
  rfl
theorem ins_g4 (v : Vec F S1x1024 .f32) (S : State F) : ins (g4 v S) = ins S := by
  unfold g4 ins
  rfl
theorem ins_g5 (v : Vec F S1x1024 .f32) (S : State F) : ins (g5 v S) = ins S := by
  unfold g5 ins
  rfl
theorem ins_g6 (v : Vec F S1x1024 .f32) (S : State F) : ins (g6 v S) = ins S := by
  unfold g6 ins
  rfl
theorem ins_s0 (a : BitVec 32) (v w : Vec F S1024x128 .f32) (S : State F) : ins (s0 a v w S) = ins S := by
  unfold s0 ins
  rfl
theorem ins_s1 (a : BitVec 32) (v w : Vec F S1024x128 .f32) (S : State F) : ins (s1 a v w S) = ins S := by
  unfold s1 ins
  rfl
theorem ins_s2 (a : BitVec 32) (v w : Vec F S1024x128 .f32) (S : State F) : ins (s2 a v w S) = ins S := by
  unfold s2 ins
  rfl
theorem ins_s3 (a : BitVec 32) (v w : Vec F S1024x128 .f32) (S : State F) : ins (s3 a v w S) = ins S := by
  unfold s3 ins
  rfl
theorem ins_s4 (a : BitVec 32) (v w : Vec F S1024x128 .f32) (S : State F) : ins (s4 a v w S) = ins S := by
  unfold s4 ins
  rfl
theorem ins_s5 (a : BitVec 32) (v w : Vec F S1024x128 .f32) (S : State F) : ins (s5 a v w S) = ins S := by
  unfold s5 ins
  rfl
theorem ins_s6 (v w : FVec F S1024x1 .f32) (S : State F) : ins (s6 v w S) = ins S := by
  unfold s6 ins
  rfl
theorem ins_gl1 (i : grid0.Coords) (v3 v7 : BitVec 32) (hw : k0_chk1 i v3 v7) (h3 : k0_cond3 i = 1#1) (v55 : Vec F S1x1024 .f32) (h : k0_cond11 v3 = 1#1) (k : Fin (k0_t1_loop v7).trips) (S : State F) : ins (gl1 i v3 v7 hw h3 v55 h k S) = ins S := by
  unfold gl1 ins
  rfl
theorem ins_gl2 (i : grid0.Coords) (v3 v7 : BitVec 32) (hw : k0_chk1 i v3 v7) (h3 : k0_cond3 i = 1#1) (v55 : Vec F S1x1024 .f32) (h : k0_cond11 v3 = 1#1) (k : Fin (k0_t2_loop v7).trips) (S : State F) : ins (gl2 i v3 v7 hw h3 v55 h k S) = ins S := by
  unfold gl2 ins
  rfl
theorem ins_el3 (i : grid0.Coords) (v3 v7 : BitVec 32) (hw : k0_chk1 i v3 v7) (h : k0_cond19 v3 = 1#1) (k : Fin (k0_t3_loop v7).trips) (S : State F) : ins (el3 i v3 v7 hw h k S) = ins S := by
  unfold el3 ins
  rfl
theorem ins_el4 (i : grid0.Coords) (v3 v7 : BitVec 32) (hw : k0_chk1 i v3 v7) (h : k0_cond19 v3 = 1#1) (k : Fin (k0_t4_loop v7).trips) (S : State F) : ins (el4 i v3 v7 hw h k S) = ins S := by
  unfold el4 ins
  rfl
theorem ins_sl5 (i : grid0.Coords) (v3 v7 : BitVec 32) (hw : k0_chk1 i v3 v7) (h20 : k0_cond20 i = 1#1) (v61 v67 : FVec F S1024x1 .f32) (h : k0_cond28 v3 = 1#1) (k : Fin (k0_t5_loop v7).trips) (S : State F) : ins (sl5 i v3 v7 hw h20 v61 v67 h k S) = ins S := by
  unfold sl5 ins
  rfl
theorem ins_sl6 (i : grid0.Coords) (v3 v7 : BitVec 32) (hw : k0_chk1 i v3 v7) (h20 : k0_cond20 i = 1#1) (v61 v67 : FVec F S1024x1 .f32) (h : k0_cond28 v3 = 1#1) (k : Fin (k0_t6_loop v7).trips) (S : State F) : ins (sl6 i v3 v7 hw h20 v61 v67 h k S) = ins S := by
  unfold sl6 ins
  rfl

theorem ins_runTrips {n : ℕ} (f : Fin n → State F → State F) (hf : ∀ k S, ins (f k S) = ins S) : ∀ (k : ℕ) (S : State F), ins (runTrips f k S) = ins S
  | 0, _ => rfl
  | k + 1, S => by
    unfold runTrips
    split
    · exact (hf _ _).trans (ins_runTrips f hf k S)
    · exact ins_runTrips f hf k S

theorem ins_onBit (b : BitVec 1) (f : State F → State F) (hf : ∀ S, ins (f S) = ins S) (S : State F) : ins (onBit b f S) = ins S := by
  unfold onBit
  split
  · exact hf S
  · rfl

theorem ins_gatherF (i : grid0.Coords) (v3 v7 : BitVec 32) (hw : k0_chk1 i v3 v7) (h3 : k0_cond3 i = 1#1) (S : State F) :
    ins (gatherF i v3 v7 hw h3 S) = ins S := by
  unfold gatherF
  dsimp only
  split
  · refine (ins_runTrips _ (ins_gl2 i v3 v7 hw h3 _ _) _ _).trans ?_
    refine (ins_runTrips _ (ins_gl1 i v3 v7 hw h3 _ _) _ _).trans ?_
    refine (ins_onBit _ _ (ins_g6 _) _).trans ?_
    refine (ins_onBit _ _ (ins_g5 _) _).trans ?_
    refine (ins_onBit _ _ (ins_g4 _) _).trans ?_
    refine (ins_onBit _ _ (ins_g3 _) _).trans ?_
    refine (ins_onBit _ _ (ins_g2 _) _).trans ?_
    refine (ins_onBit _ _ (ins_g1 _) _).trans ?_
    refine (ins_onBit _ _ (ins_g0 _) _).trans ?_
    rfl
  · refine (ins_onBit _ _ (ins_g6 _) _).trans ?_
    refine (ins_onBit _ _ (ins_g5 _) _).trans ?_
    refine (ins_onBit _ _ (ins_g4 _) _).trans ?_
    refine (ins_onBit _ _ (ins_g3 _) _).trans ?_
    refine (ins_onBit _ _ (ins_g2 _) _).trans ?_
    refine (ins_onBit _ _ (ins_g1 _) _).trans ?_
    refine (ins_onBit _ _ (ins_g0 _) _).trans ?_
    rfl

theorem ins_expertF (i : grid0.Coords) (v3 v7 : BitVec 32) (hw : k0_chk1 i v3 v7) (S : State F) : ins (expertF i v3 v7 hw S) = ins S := by
  unfold expertF
  dsimp only
  split
  · refine (ins_runTrips _ (ins_el4 i v3 v7 hw _) _ _).trans ?_
    refine (ins_runTrips _ (ins_el3 i v3 v7 hw _) _ _).trans ?_
    refine (ins_onBit _ _ (ins_e6) _).trans ?_
    refine (ins_onBit _ _ (ins_e5) _).trans ?_
    refine (ins_onBit _ _ (ins_e4) _).trans ?_
    refine (ins_onBit _ _ (ins_e3) _).trans ?_
    refine (ins_onBit _ _ (ins_e2) _).trans ?_
    refine (ins_onBit _ _ (ins_e1) _).trans ?_
    refine (ins_onBit _ _ (ins_e0) _).trans ?_
    rfl
  · refine (ins_onBit _ _ (ins_e6) _).trans ?_
    refine (ins_onBit _ _ (ins_e5) _).trans ?_
    refine (ins_onBit _ _ (ins_e4) _).trans ?_
    refine (ins_onBit _ _ (ins_e3) _).trans ?_
    refine (ins_onBit _ _ (ins_e2) _).trans ?_
    refine (ins_onBit _ _ (ins_e1) _).trans ?_
    refine (ins_onBit _ _ (ins_e0) _).trans ?_
    rfl

theorem ins_scatterF (i : grid0.Coords) (v3 v7 : BitVec 32) (hw : k0_chk1 i v3 v7) (h20 : k0_cond20 i = 1#1) (S : State F) :
    ins (scatterF i v3 v7 hw h20 S) = ins S := by
  unfold scatterF
  dsimp only
  split
  · refine (ins_runTrips _ (ins_sl6 i v3 v7 hw h20 _ _ _) _ _).trans ?_
    refine (ins_runTrips _ (ins_sl5 i v3 v7 hw h20 _ _ _) _ _).trans ?_
    refine (ins_onBit _ _ (ins_s6 _ _) _).trans ?_
    refine (ins_onBit _ _ (ins_s5 _ _ _) _).trans ?_
    refine (ins_onBit _ _ (ins_s4 _ _ _) _).trans ?_
    refine (ins_onBit _ _ (ins_s3 _ _ _) _).trans ?_
    refine (ins_onBit _ _ (ins_s2 _ _ _) _).trans ?_
    refine (ins_onBit _ _ (ins_s1 _ _ _) _).trans ?_
    refine (ins_onBit _ _ (ins_s0 _ _ _) _).trans ?_
    rfl
  · refine (ins_onBit _ _ (ins_s6 _ _) _).trans ?_
    refine (ins_onBit _ _ (ins_s5 _ _ _) _).trans ?_
    refine (ins_onBit _ _ (ins_s4 _ _ _) _).trans ?_
    refine (ins_onBit _ _ (ins_s3 _ _ _) _).trans ?_
    refine (ins_onBit _ _ (ins_s2 _ _ _) _).trans ?_
    refine (ins_onBit _ _ (ins_s1 _ _ _) _).trans ?_
    refine (ins_onBit _ _ (ins_s0 _ _ _) _).trans ?_
    rfl

/-- The body leaves what it only reads as it was. -/
theorem ins_bodyF (i : grid0.Coords) (v3 v7 : BitVec 32) (hw : k0_chk1 i v3 v7) (S : State F) : ins (bodyF i v3 v7 hw S) = ins S := by
  unfold bodyF
  dsimp only
  have h0 : ins (onBit (atTile i) (fun S => init2 (init1 S)) (onBit (atFirst i) triF S)) = ins S :=
    (ins_onBit _ _ (fun S => (ins_init2 _).trans (ins_init1 S)) _).trans (ins_onBit _ _ ins_triF _)
  refine (ins_onBit _ _ ins_finF _).trans ?_
  split
  · rw [ins_scatterF, ins_expertF]
    split
    · rw [ins_gatherF, h0]
    · exact h0
  · rw [ins_expertF]
    split
    · rw [ins_gatherF, h0]
    · exact h0

end Cert.Kernel2Ideal.Moe

end
-- ==== Proof.Moe.Count.lean ====
module

public import proofs.«01_k».proof.Proof.Moe.Keep
public import Idealize.ShloMosaic.Lib.Routing.Ops
public import Idealize.ShloMosaic.Lib.Pointwise
public import Idealize.ShloMosaic.Lib.Pipeline.ValueKit.Tiles

@[expose] public section

set_option maxRecDepth 16384

noncomputable section

namespace Cert.Kernel2Ideal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel2Ideal Cert.Kernel2Ideal.Gen
open Idealize.ShloMosaic (ix0 ix1 ix2 ix3)

variable {F : FTy → Type} [FloatOps F]

local notation "𝕄" => MT nD τ sig Unit (Elt F) ℕ (UR sig nD τ) ℕ

/-- A fold of additions of widened bits is the number of the bits that are set. -/
theorem fold_bits (b : Fin 1024 → BitVec 1) : (Finset.univ : Finset (Fin 1024)).fold IntOp.addi (0#32) (fun t => (b t).setWidth 32)
    = BitVec.ofNat 32 (Finset.univ.filter fun t => b t = 1#1).card := by
  classical
  induction (Finset.univ : Finset (Fin 1024)) using Finset.induction_on with
  | empty => rfl
  | insert a s ha ih =>
    rw [Finset.fold_insert ha, ih, Finset.filter_insert]
    have hb : b a = 1#1 ∨ b a = 0#1 := by
      have := (b a).isLt
      rcases (by omega : (b a).toNat = 1 ∨ (b a).toNat = 0) with h | h
      · exact Or.inl (BitVec.eq_of_toNat_eq h)
      · exact Or.inr (BitVec.eq_of_toNat_eq h)
    rcases hb with h | h
    · rw [if_pos h, Finset.card_insert_of_notMem (fun hh => ha (Finset.mem_filter.1 hh).1), h, IntOp.addi_eq_add]
      show BitVec.ofNat 32 1 + BitVec.ofNat 32 _ = _
      rw [← BitVec.ofNat_add, Nat.add_comm]
    · rw [if_neg (by rw [h]; decide), h, IntOp.addi_eq_add]
      exact BitVec.zero_add _

theorem red : S32x1024x8.Reduces [1] S32x8 := by decide

/-- How many of the bits of expert `e` in tile `i` are set. -/
def cnt (b : S32x1024x8.Idx → BitVec 1) (i : Fin 32) (e : Fin 8) : ℕ := (Finset.univ.filter fun t : Fin 1024 => b (ix3 i t e) = 1#1).card

theorem cnt_le (b : S32x1024x8.Idx → BitVec 1) (i : Fin 32) (e : Fin 8) : cnt b i e ≤ 1024 := by
  unfold cnt
  exact (Finset.card_le_univ _).trans (by rw [Fintype.card_fin])

theorem lift_eq (i : Fin 32) (e : Fin 8) (t : Fin 1024) : red.lift (ix2 i e) t = (ix3 i t e : S32x1024x8.Idx) := by
  funext a
  match a with
  | ⟨0, _⟩ => rfl
  | ⟨1, _⟩ => rfl
  | ⟨2, _⟩ => rfl

/-- The sum of the widened bits over the tokens of a tile is their number. -/
theorem reduce_cnt (b : S32x1024x8.Idx → BitVec 1) (hu : 0 < S_.numel) (i : Fin 32) (e : Fin 8) :
    Host.reduce IntOp.addi (extui 32 b natLt_1_32) (constantI S_ 32 0#32) reducesTo_S32x1024x8_S32x8_d1 hu (ix2 i e) = BitVec.ofNat 32 (cnt b i e) := by
  rw [Host.reduce_eq_fold_single IntOp.addi _ _ reducesTo_S32x1024x8_S32x8_d1 red hu]
  refine Eq.trans ?_ (fold_bits fun t => b (ix3 i t e))
  show Finset.univ.fold IntOp.addi 0#32 _ = _
  congr 1
  funext t
  exact congrArg (fun i => (b i).setWidth 32) (lift_eq i e t)

theorem div512 : ∀ n : Fin 1025, IntOp.divsi .host (IntOp.addi (BitVec.ofNat 32 n.val) 511#32) 512#32 = BitVec.ofNat 32 ((n.val + 511) / 512) := by
  decide +kernel

end Cert.Kernel2Ideal.Moe

end
-- ==== Proof.Moe.Launch.lean ====
module

public import proofs.«01_k».proof.Proof.Moe.Count
public import Idealize.ShloMosaic.Lib.Pipeline.Frame
public import Idealize.ShloMosaic.Lib.Pipeline.FrameBody
public import Idealize.ShloMosaic.Lib.Claim

@[expose] public section

set_option maxRecDepth 16384

noncomputable section

namespace Cert.Kernel2Ideal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel2Ideal Cert.Kernel2Ideal.Gen
open Idealize.ShloMosaic.Pipeline (RDat Dat)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A buffer's contents once the host part has run. -/
def V (c : Dev nD) (b : Ref sig .tc) : Buf (Elt F) ((c : Thread nD τ).loc b) :=
  StableHlo.after [hostOps0, hostOps0_1, hostOps0_2].flatten (fun b => m (c, b)) b

theorem hostOps0_fresh : (hostOps0 : List (HloOp τ sig (Elt F))).Forall fun op => op.fresh = ∅ := by
  simp only [List.Forall]; repeat' constructor

theorem hostOps0_1_fresh : (hostOps0_1 : List (HloOp τ sig (Elt F))).Forall fun op => op.fresh = ∅ := by
  simp only [List.Forall]; repeat' constructor

theorem hostOps0_2_fresh : (hostOps0_2 : List (HloOp τ sig (Elt F))).Forall fun op => op.fresh = ∅ := by
  simp only [List.Forall]; repeat' constructor

theorem hmain : Pipeline.HMainP (Ix := Unit) (Name := ℕ) (U := UR sig nD τ) (Lvl := ℕ) pcfgs 0 defs₀ Variants.none m (main (F := F)) (V m) :=
  Pipeline.hmainP_prefixes pcfgs 0 defs₀ Variants.none m main [hostOps0, hostOps0_1, hostOps0_2]
    ⟨hostOps0_sub, hostOps0_1_sub, hostOps0_2_sub⟩ ⟨hostOps0_fresh, hostOps0_1_fresh, hostOps0_2_fresh⟩ main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append, List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append, List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append, List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append, List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append, List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, List.flatten_cons, List.flatten_nil, List.append_nil, List.cons_append, List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, List.flatten_cons, List.flatten_nil, List.append_nil, List.cons_append, List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, List.flatten_cons, List.flatten_nil, List.append_nil, List.cons_append, List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, List.flatten_cons, List.flatten_nil, List.append_nil, List.cons_append, List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, List.flatten_cons, List.flatten_nil, List.append_nil, List.cons_append, List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide)))

attribute [irreducible] V

/-- The two tables, as the host part leaves them. -/
def tabs : (p : Fin 1) → (pcfgs (F := F) p).Adm := fun _ => ⟨fun k => V m 0 (pre0.ref k), trivial⟩

/-- The pipeline at these tables. -/
abbrev cfgT : Pipeline.Cfg sig Λ₀ := Pipeline.pin (pcfgs (F := F)) (tabs m) 0

abbrev ms0 (t : Fin (cfgT m).N) : Memref sig .tc .vmem S1024x1024 .f32 := spec0_0.stage ((cfgT m).slots t 0)
abbrev hs0 (t : Fin (cfgT m).N) : (ms0 m t).IsWhole := hstage0_0 (((cfgT m).slots t 0).cast nbuf0_0)
abbrev ms1 (t : Fin (cfgT m).N) : Memref sig .tc .vmem S1x1024 .f32 := spec0_1.stage ((cfgT m).slots t 1)
abbrev hs1 (t : Fin (cfgT m).N) : (ms1 m t).IsWhole := hstage0_1 (((cfgT m).slots t 1).cast nbuf0_1)
abbrev ms2 (t : Fin (cfgT m).N) : Memref sig .tc .vmem S1x1x1024 .f32 := spec0_2.stage ((cfgT m).slots t 2)
abbrev hs2 (t : Fin (cfgT m).N) : (ms2 m t).IsWhole := hstage0_2 (((cfgT m).slots t 2).cast nbuf0_2)
abbrev ms3 (t : Fin (cfgT m).N) : Memref sig .tc .vmem S1x1x1024 .f32 := spec0_3.stage ((cfgT m).slots t 3)
abbrev hs3 (t : Fin (cfgT m).N) : (ms3 m t).IsWhole := hstage0_3 (((cfgT m).slots t 3).cast nbuf0_3)
abbrev ms4 (t : Fin (cfgT m).N) : Memref sig .tc .vmem S1x1x1024 .f32 := spec0_4.stage ((cfgT m).slots t 4)
abbrev hs4 (t : Fin (cfgT m).N) : (ms4 m t).IsWhole := hstage0_4 (((cfgT m).slots t 4).cast nbuf0_4)
abbrev ms5 (t : Fin (cfgT m).N) : Memref sig .tc .vmem S1024x128 .f32 := spec0_5.stage ((cfgT m).slots t 5)
abbrev hs5 (t : Fin (cfgT m).N) : (ms5 m t).IsWhole := hstage0_5 (((cfgT m).slots t 5).cast nbuf0_5)
abbrev ms6 (t : Fin (cfgT m).N) : Memref sig .tc .vmem S1x1024x896 .bf16 := spec0_6.stage ((cfgT m).slots t 6)
abbrev hs6 (t : Fin (cfgT m).N) : (ms6 m t).IsWhole := hstage0_6 (((cfgT m).slots t 6).cast nbuf0_6)
abbrev ms7 (t : Fin (cfgT m).N) : Memref sig .tc .vmem S1x1024x896 .bf16 := spec0_7.stage ((cfgT m).slots t 7)
abbrev hs7 (t : Fin (cfgT m).N) : (ms7 m t).IsWhole := hstage0_7 (((cfgT m).slots t 7).cast nbuf0_7)
abbrev ms8 (t : Fin (cfgT m).N) : Memref sig .tc .vmem S1x896x1024 .bf16 := spec0_8.stage ((cfgT m).slots t 8)
abbrev hs8 (t : Fin (cfgT m).N) : (ms8 m t).IsWhole := hstage0_8 (((cfgT m).slots t 8).cast nbuf0_8)
abbrev ms9 (t : Fin (cfgT m).N) : Memref sig .tc .vmem S1x1024 .f32 := spec0_9.stage ((cfgT m).slots t 9)
abbrev hs9 (t : Fin (cfgT m).N) : (ms9 m t).IsWhole := hstage0_9 (((cfgT m).slots t 9).cast nbuf0_9)
abbrev ms10 (t : Fin (cfgT m).N) : Memref sig .tc .vmem S1024x1024 .f32 := spec0_10.stage ((cfgT m).slots t 10)
abbrev hs10 (t : Fin (cfgT m).N) : (ms10 m t).IsWhole := hstage0_10 (((cfgT m).slots t 10).cast nbuf0_10)
abbrev scM0 : Memref sig .tc .vmem S1024x1024 .bf16 := Memref.whole cc0_scratch0
abbrev scM1 : Memref sig .tc .vmem S1024x1024 .bf16 := Memref.whole cc0_scratch1
abbrev scM2 : Memref sig .tc .vmem S1024x128 .f32 := Memref.whole cc0_scratch2
abbrev scM3 : Memref sig .tc .vmem S128x1024 .f32 := Memref.whole cc0_scratch3
abbrev scM4 : Memref sig .tc .vmem S1024x1024 .bf16 := Memref.whole cc0_scratch4
abbrev scM5 : Memref sig .tc .vmem S1024x1024 .f32 := Memref.whole cc0_scratch5
abbrev scM6 : Memref sig .tc .vmem S1024x1024 .f32 := Memref.whole cc0_scratch6
abbrev tb0 : Memref sig .tc .smem S256 .i32 := Memref.whole main_v36
abbrev tb1 : Memref sig .tc .smem S256 .i32 := Memref.whole main_v39

theorem PhiA0_eq (c : Dev nD) :
    (Pipeline.ΦA spec0 c : sProp 𝕄)
      = iprop(iprop((∃ d, owns (c : Thread nD τ) scM0 fullShare d) ∗ (∃ d, owns (c : Thread nD τ) scM1 fullShare d) ∗ (∃ d, owns (c : Thread nD τ) scM2 fullShare d) ∗ (∃ d, owns (c : Thread nD τ) scM3 fullShare d) ∗ (∃ d, owns (c : Thread nD τ) scM4 fullShare d) ∗ (∃ d, owns (c : Thread nD τ) scM5 fullShare d) ∗ (∃ d, owns (c : Thread nD τ) scM6 fullShare d)) ∗ (∃ r, prngReg c r)) := by
  unfold Pipeline.ΦA; rw [scopedRest0_eq]; simp only [scM0, scM1, scM2, scM3, scM4, scM5, scM6, owns_whole]; try rfl

theorem PhiT0_eq (c : Dev nD) :
    (Pipeline.ΦT pre0 (tabs m 0).1 c : sProp 𝕄)
      = iprop(owns (c : Thread nD τ) tb0 fullShare.right (V m 0 main_v36) ∗ owns (c : Thread nD τ) tb1 fullShare.right (V m 0 main_v39)) := by
  unfold Pipeline.ΦT Pipeline.prefHeld
  rw [bigSep_univ_eq_bigSepL [(0 : Fin 2), (1 : Fin 2)] (by decide) (by decide)]
  simp only [tb0, tb1, owns_whole]
  rfl

/-- What the scratches hold is `Q`; the tables and the generator register are there. -/
def Held (c : Dev nD) (Q : Scr F) : sProp 𝕄 :=
  iprop(owns (c : Thread nD τ) scM0 fullShare Q.1 ∗ owns (c : Thread nD τ) scM1 fullShare Q.2.1 ∗ owns (c : Thread nD τ) scM2 fullShare Q.2.2.1 ∗ owns (c : Thread nD τ) scM3 fullShare Q.2.2.2.1 ∗ owns (c : Thread nD τ) scM4 fullShare Q.2.2.2.2.1 ∗ owns (c : Thread nD τ) scM5 fullShare Q.2.2.2.2.2.1 ∗ owns (c : Thread nD τ) scM6 fullShare Q.2.2.2.2.2.2 ∗ (owns (c : Thread nD τ) tb0 fullShare.right (V m 0 main_v36) ∗ owns (c : Thread nD τ) tb1 fullShare.right (V m 0 main_v39)) ∗ (∃ r, prngReg c r))

/-- What is known between two points: the scratches hold contents that meet the invariant there. -/
def PhiM (Inv : ℕ → Scr F → Prop) (c : Dev nD) (n : ℕ) : sProp 𝕄 := iprop(∃ Q, ⌜Inv n Q⌝ ∗ Held m c Q)

/-- The proof data: the inputs' buffers are left as found, the output's meets `Out`. -/
def rdat (Inv : ℕ → Scr F → Prop) (Out : ℕ → Vec F S1024x1024 .f32 → Prop) (c : Dev nD) :
    RDat τ (Elt F) Unit ℕ (UR sig nD τ) ℕ (cfgT m) c where
  A w := V m c (Pipeline.arrRef spec0 w)
  after w t Y X := match w with
    | ⟨0, _⟩ => X = Y
    | ⟨1, _⟩ => X = Y
    | ⟨2, _⟩ => X = Y
    | ⟨3, _⟩ => X = Y
    | ⟨4, _⟩ => X = Y
    | ⟨5, _⟩ => X = Y
    | ⟨6, _⟩ => X = Y
    | ⟨7, _⟩ => X = Y
    | ⟨8, _⟩ => X = Y
    | ⟨9, _⟩ => X = Y
    | ⟨10, _⟩ => Out t.val X
  Φ t := PhiM m Inv c t.val
  q _ := fullShare
  owed _ := 0

/-- The block of an input at a point. -/
def iblk (c : Dev nD) (w : Fin 11) (t : Fin (cfgT m).N) : (((cfgT m).win w).xblock ((cfgT m).grid.coords t)).Idx → Elt F ((cfgT m).win w).elt :=
  (((cfgT m).win w).blk t).view.read (Elt F) (V m c (Pipeline.arrRef spec0 w))

variable (Inv : ℕ → Scr F → Prop) (Out : ℕ → Vec F S1024x1024 .f32 → Prop)

theorem finds0 (c : Dev nD) (t : Fin (cfgT m).N) (Y) (h : (rdat m Inv Out c).Finds 0 t Y) : Y = iblk m c 0 t := by
  obtain ⟨d, hd⟩ := (rdat m Inv Out c).finds_in_eq_fetched 0 rfl (fun _ _ _ => rfl) (fun t Y X h => h) t Y h
  exact hd
theorem finds1 (c : Dev nD) (t : Fin (cfgT m).N) (Y) (h : (rdat m Inv Out c).Finds 1 t Y) : Y = iblk m c 1 t := by
  obtain ⟨d, hd⟩ := (rdat m Inv Out c).finds_in_eq_fetched 1 rfl (fun _ _ _ => rfl) (fun t Y X h => h) t Y h
  exact hd
theorem finds2 (c : Dev nD) (t : Fin (cfgT m).N) (Y) (h : (rdat m Inv Out c).Finds 2 t Y) : Y = iblk m c 2 t := by
  obtain ⟨d, hd⟩ := (rdat m Inv Out c).finds_in_eq_fetched 2 rfl (fun _ _ _ => rfl) (fun t Y X h => h) t Y h
  exact hd
theorem finds3 (c : Dev nD) (t : Fin (cfgT m).N) (Y) (h : (rdat m Inv Out c).Finds 3 t Y) : Y = iblk m c 3 t := by
  obtain ⟨d, hd⟩ := (rdat m Inv Out c).finds_in_eq_fetched 3 rfl (fun _ _ _ => rfl) (fun t Y X h => h) t Y h
  exact hd
theorem finds4 (c : Dev nD) (t : Fin (cfgT m).N) (Y) (h : (rdat m Inv Out c).Finds 4 t Y) : Y = iblk m c 4 t := by
  obtain ⟨d, hd⟩ := (rdat m Inv Out c).finds_in_eq_fetched 4 rfl (fun _ _ _ => rfl) (fun t Y X h => h) t Y h
  exact hd
theorem finds5 (c : Dev nD) (t : Fin (cfgT m).N) (Y) (h : (rdat m Inv Out c).Finds 5 t Y) : Y = iblk m c 5 t := by
  obtain ⟨d, hd⟩ := (rdat m Inv Out c).finds_in_eq_fetched 5 rfl (fun _ _ _ => rfl) (fun t Y X h => h) t Y h
  exact hd
theorem finds6 (c : Dev nD) (t : Fin (cfgT m).N) (Y) (h : (rdat m Inv Out c).Finds 6 t Y) : Y = iblk m c 6 t := by
  obtain ⟨d, hd⟩ := (rdat m Inv Out c).finds_in_eq_fetched 6 rfl (fun _ _ _ => rfl) (fun t Y X h => h) t Y h
  exact hd
theorem finds7 (c : Dev nD) (t : Fin (cfgT m).N) (Y) (h : (rdat m Inv Out c).Finds 7 t Y) : Y = iblk m c 7 t := by
  obtain ⟨d, hd⟩ := (rdat m Inv Out c).finds_in_eq_fetched 7 rfl (fun _ _ _ => rfl) (fun t Y X h => h) t Y h
  exact hd
theorem finds8 (c : Dev nD) (t : Fin (cfgT m).N) (Y) (h : (rdat m Inv Out c).Finds 8 t Y) : Y = iblk m c 8 t := by
  obtain ⟨d, hd⟩ := (rdat m Inv Out c).finds_in_eq_fetched 8 rfl (fun _ _ _ => rfl) (fun t Y X h => h) t Y h
  exact hd
theorem finds9 (c : Dev nD) (t : Fin (cfgT m).N) (Y) (h : (rdat m Inv Out c).Finds 9 t Y) : Y = iblk m c 9 t := by
  obtain ⟨d, hd⟩ := (rdat m Inv Out c).finds_in_eq_fetched 9 rfl (fun _ _ _ => rfl) (fun t Y X h => h) t Y h
  exact hd

/-- The state the body meets at a point, from what the scratches and the output's buffer hold. -/
def stAt (c : Dev nD) (t : Fin (cfgT m).N) (Q : Scr F) (Y : Vec F S1024x1024 .f32) : State F where
  a3 := V m 0 main_v36
  a4 := V m 0 main_v39
  a5 := iblk m c 0 t
  a6 := iblk m c 1 t
  a7 := iblk m c 2 t
  a8 := iblk m c 3 t
  a9 := iblk m c 4 t
  a10 := iblk m c 5 t
  a11 := iblk m c 6 t
  a12 := iblk m c 7 t
  a13 := iblk m c 8 t
  a14 := iblk m c 9 t
  a15 := Y
  a16 := Q.1
  a17 := Q.2.1
  a18 := Q.2.2.1
  a19 := Q.2.2.2.1
  a20 := Q.2.2.2.2.1
  a21 := Q.2.2.2.2.2.1
  a22 := Q.2.2.2.2.2.2

theorem scr_stAt (c : Dev nD) (t : Fin (cfgT m).N) (Q : Scr F) (Y : Vec F S1024x1024 .f32) : scr (stAt m c t Q Y) = Q := rfl

/-- The entry of a table at a point. -/
def wordAt (a : Vec F S256 .i32) (i : grid0.Coords) : BitVec 32 :=
  a ((Rect.unit (s := S256) (k0_off1 i) S1.size (k0_off1_inb i)).emb (Shape.Idx.first (numel1_S1.symm ▸ Nat.one_pos)))

/-- The body at a point. -/
def bodyAt (t : Fin (cfgT m).N) : Prog (TpuEff nD τ sig (Elt F) Λ₀ .tc) PUnit :=
  cc0_moe (grid0.coords t) tb0 (Memref.isWhole_whole _) tb1 (Memref.isWhole_whole _) (ms0 m t) (hs0 m t) (ms1 m t) (hs1 m t) (ms2 m t) (hs2 m t) (ms3 m t) (hs3 m t) (ms4 m t) (hs4 m t) (ms5 m t) (hs5 m t) (ms6 m t) (hs6 m t) (ms7 m t) (hs7 m t) (ms8 m t) (hs8 m t) (ms9 m t) (hs9 m t) (ms10 m t) (hs10 m t) scM0 (Memref.isWhole_whole _) scM1 (Memref.isWhole_whole _) scM2 (Memref.isWhole_whole _) scM3 (Memref.isWhole_whole _) scM4 (Memref.isWhole_whole _) scM5 (Memref.isWhole_whole _) scM6 (Memref.isWhole_whole _)

theorem defs₀_row (t : Fin (cfgT m).N) :
    defs₀ (F := F) .tc (cfgT m).body ((cfgT m).bodyArgs t ((cfgT m).slots t)) = bodyAt m t := by
  unfold defs₀; rw [Defs.onTc_tc]; rfl

/-- The obligation of the body at a point, the windows one by one. -/
theorem sound_body (hI : ∀ c (t : Fin (cfgT m).N) Q Y, Inv t.val Q → ∀ hw, Inv (t.val + 1) (scr (bodyF (grid0.coords t) (wordAt (V m 0 main_v36) (grid0.coords t)) (wordAt (V m 0 main_v39) (grid0.coords t)) hw (stAt m c t Q Y)))
      ∧ Out t.val (bodyF (grid0.coords t) (wordAt (V m 0 main_v36) (grid0.coords t)) (wordAt (V m 0 main_v39) (grid0.coords t)) hw (stAt m c t Q Y)).a15)
    (hT : ∀ i, wordAt (F := F) (V m 0 main_v39) i ∈ [0#32, 1#32, 2#32])
    (c : Dev nD) (t : Fin (cfgT m).N) (Y10 : Vec F S1024x1024 .f32) :
    iprop(PhiM m Inv c t.val ∗ (rdat m Inv Out c).owesAt () t.castSucc
      ∗ owns (c : Thread nD τ) (ms0 m t) fullShare (iblk m c 0 t) ∗ owns (c : Thread nD τ) (ms1 m t) fullShare (iblk m c 1 t) ∗ owns (c : Thread nD τ) (ms2 m t) fullShare (iblk m c 2 t) ∗ owns (c : Thread nD τ) (ms3 m t) fullShare (iblk m c 3 t) ∗ owns (c : Thread nD τ) (ms4 m t) fullShare (iblk m c 4 t) ∗ owns (c : Thread nD τ) (ms5 m t) fullShare (iblk m c 5 t) ∗ owns (c : Thread nD τ) (ms6 m t) fullShare (iblk m c 6 t) ∗ owns (c : Thread nD τ) (ms7 m t) fullShare (iblk m c 7 t) ∗ owns (c : Thread nD τ) (ms8 m t) fullShare (iblk m c 8 t) ∗ owns (c : Thread nD τ) (ms9 m t) fullShare (iblk m c 9 t) ∗ owns (c : Thread nD τ) (ms10 m t) fullShare Y10)
    ⊢ wp frame (wpE (defs₀ (F := F)) Variants.none c none) Set.univ (bodyAt m t) (fun _ => iprop(PhiM m Inv c (t.val + 1) ∗ (rdat m Inv Out c).owesAt () t.castSucc
      ∗ owns (c : Thread nD τ) (ms0 m t) fullShare (iblk m c 0 t) ∗ owns (c : Thread nD τ) (ms1 m t) fullShare (iblk m c 1 t) ∗ owns (c : Thread nD τ) (ms2 m t) fullShare (iblk m c 2 t) ∗ owns (c : Thread nD τ) (ms3 m t) fullShare (iblk m c 3 t) ∗ owns (c : Thread nD τ) (ms4 m t) fullShare (iblk m c 4 t) ∗ owns (c : Thread nD τ) (ms5 m t) fullShare (iblk m c 5 t) ∗ owns (c : Thread nD τ) (ms6 m t) fullShare (iblk m c 6 t) ∗ owns (c : Thread nD τ) (ms7 m t) fullShare (iblk m c 7 t) ∗ owns (c : Thread nD τ) (ms8 m t) fullShare (iblk m c 8 t) ∗ owns (c : Thread nD τ) (ms9 m t) fullShare (iblk m c 9 t) ∗ (∃ X, ⌜Out t.val X⌝ ∗ owns (c : Thread nD τ) (ms10 m t) fullShare X))) := by
  have hw := chk_of (grid0.coords t) (wordAt (F := F) (V m 0 main_v36) (grid0.coords t)) _ (hT (grid0.coords t))
  unfold PhiM
  iintro ⟨⟨%Q, %hQ, HH⟩, Ho, H0, H1, H2, H3, H4, H5, H6, H7, H8, H9, H10⟩
  have tri := tri_body c tb0 (Memref.isWhole_whole _) tb1 (Memref.isWhole_whole _) (ms0 m t) (hs0 m t) (ms1 m t) (hs1 m t) (ms2 m t) (hs2 m t) (ms3 m t) (hs3 m t) (ms4 m t) (hs4 m t) (ms5 m t) (hs5 m t) (ms6 m t) (hs6 m t) (ms7 m t) (hs7 m t) (ms8 m t) (hs8 m t) (ms9 m t) (hs9 m t) (ms10 m t) (hs10 m t) scM0 (Memref.isWhole_whole _) scM1 (Memref.isWhole_whole _) scM2 (Memref.isWhole_whole _) scM3 (Memref.isWhole_whole _) scM4 (Memref.isWhole_whole _) scM5 (Memref.isWhole_whole _) scM6 (Memref.isWhole_whole _) (grid0.coords t) (stAt m c t Q Y10) (wordAt (V m 0 main_v36) (grid0.coords t)) (wordAt (V m 0 main_v39) (grid0.coords t)) rfl rfl hw Set.univ
  obtain ⟨hI1, hI2⟩ := hI c t Q Y10 hQ hw
  have hins := ins_bodyF (grid0.coords t) (wordAt (V m 0 main_v36) (grid0.coords t)) (wordAt (V m 0 main_v39) (grid0.coords t)) hw (stAt m c t Q Y10)
  unfold Held
  icases HH with ⟨K0, K1, K2, K3, K4, K5, K6, ⟨T0, T1⟩, Hr⟩
  unfold bodyAt
  iapply (wp_wand_r _ _ _)
  isplitl [T0 T1 H0 H1 H2 H3 H4 H5 H6 H7 H8 H9 H10 K0 K1 K2 K3 K4 K5 K6]
  · iapply tri
    unfold Own stAt
    isplitl [T0]
    · iexact T0
    isplitl [T1]
    · iexact T1
    isplitl [H0]
    · iexact H0
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [K0]
    · iexact K0
    isplitl [K1]
    · iexact K1
    isplitl [K2]
    · iexact K2
    isplitl [K3]
    · iexact K3
    isplitl [K4]
    · iexact K4
    isplitl [K5]
    · iexact K5
    iexact K6
  · iintro %_ ⟨%S', %hS', HO⟩
    dsimp only at hS'
    rw [← hS'] at hins hI1 hI2
    unfold Own
    icases HO with ⟨T0, T1, H0, H1, H2, H3, H4, H5, H6, H7, H8, H9, H10, K0, K1, K2, K3, K4, K5, K6⟩
    have e3 : S'.a3 = V m 0 main_v36 := congrArg (fun z => z.1) hins
    have e4 : S'.a4 = V m 0 main_v39 := congrArg (fun z => z.2.1) hins
    have e5 : S'.a5 = iblk m c 0 t := congrArg (fun z => z.2.2.1) hins
    have e6 : S'.a6 = iblk m c 1 t := congrArg (fun z => z.2.2.2.1) hins
    have e7 : S'.a7 = iblk m c 2 t := congrArg (fun z => z.2.2.2.2.1) hins
    have e8 : S'.a8 = iblk m c 3 t := congrArg (fun z => z.2.2.2.2.2.1) hins
    have e9 : S'.a9 = iblk m c 4 t := congrArg (fun z => z.2.2.2.2.2.2.1) hins
    have e10 : S'.a10 = iblk m c 5 t := congrArg (fun z => z.2.2.2.2.2.2.2.1) hins
    have e11 : S'.a11 = iblk m c 6 t := congrArg (fun z => z.2.2.2.2.2.2.2.2.1) hins
    have e12 : S'.a12 = iblk m c 7 t := congrArg (fun z => z.2.2.2.2.2.2.2.2.2.1) hins
    have e13 : S'.a13 = iblk m c 8 t := congrArg (fun z => z.2.2.2.2.2.2.2.2.2.2.1) hins
    have e14 : S'.a14 = iblk m c 9 t := congrArg (fun z => z.2.2.2.2.2.2.2.2.2.2.2) hins
    rw [e3, e4, e5, e6, e7, e8, e9, e10, e11, e12, e13, e14]
    isplitl [K0 K1 K2 K3 K4 K5 K6 T0 T1 Hr]
    · iexists (scr S')
      isplitr
      · ipureintro; exact hI1
      isplitl [K0]
      · iexact K0
      isplitl [K1]
      · iexact K1
      isplitl [K2]
      · iexact K2
      isplitl [K3]
      · iexact K3
      isplitl [K4]
      · iexact K4
      isplitl [K5]
      · iexact K5
      isplitl [K6]
      · iexact K6
      isplitl [T0 T1]
      · isplitl [T0]
        · iexact T0
        iexact T1
      iexact Hr
    isplitl [Ho]
    · iexact Ho
    isplitl [H0]
    · iexact H0
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    iexists S'.a15
    isplitr
    · ipureintro; exact hI2
    iexact H10

theorem Phi_castSucc (c : Dev nD) (t : Fin (cfgT m).N) : (rdat m Inv Out c).Φ t.castSucc = PhiM m Inv c t.val :=
  congrArg (PhiM m Inv c) (Fin.val_castSucc t)

theorem Phi_succ (c : Dev nD) (t : Fin (cfgT m).N) : (rdat m Inv Out c).Φ t.succ = PhiM m Inv c (t.val + 1) :=
  congrArg (PhiM m Inv c) (Fin.val_succ t)

theorem owns_eqv {c : Thread nD τ} {sp : Space} {s : Shape} {e : EltTy} {M : Memref sig c.2.kind sp s e} {q : PosShare TreeShare} {X X' : s.Idx → Elt F e} (h : X = X') :
    (owns c M q X : sProp 𝕄) ⊢ owns c M q X' := by
  subst h; exact .rfl

theorem owns_some {c : Thread nD τ} {sp : Space} {s : Shape} {e : EltTy} {M : Memref sig c.2.kind sp s e} {q : PosShare TreeShare} {X : s.Idx → Elt F e} {P : (s.Idx → Elt F e) → Prop} (h : P X) :
    (owns c M q X : sProp 𝕄) ⊢ iprop(∃ X, ⌜P X⌝ ∗ owns c M q X) := by
  iintro H
  iexists X
  isplitr
  · ipureintro; exact h
  iexact H

theorem body_obligation (hI : ∀ c (t : Fin (cfgT m).N) Q Y, Inv t.val Q → ∀ hw, Inv (t.val + 1) (scr (bodyF (grid0.coords t) (wordAt (V m 0 main_v36) (grid0.coords t)) (wordAt (V m 0 main_v39) (grid0.coords t)) hw (stAt m c t Q Y)))
      ∧ Out t.val (bodyF (grid0.coords t) (wordAt (V m 0 main_v36) (grid0.coords t)) (wordAt (V m 0 main_v39) (grid0.coords t)) hw (stAt m c t Q Y)).a15)
    (hT : ∀ i, wordAt (F := F) (V m 0 main_v39) i ∈ [0#32, 1#32, 2#32])
    (c : Dev nD) : (rdat m Inv Out c).BodyObligation (defs₀ (F := F)) Variants.none () Set.univ := fun t Y hY => by
  rw [bigSep_W0, bigSep_W0, defs₀_row]
  refine triple_restated (sound_body m Inv Out hI hT c t (Y 10)) rfl ?_ ?_
  · refine BIClass.sep_mono (Entails.of_eq (Phi_castSucc m Inv Out c t)) (BIClass.sep_mono .rfl ?_)
    refine BIClass.sep_mono (owns_eqv (finds0 m Inv Out c t _ (hY 0))) ?_
    refine BIClass.sep_mono (owns_eqv (finds1 m Inv Out c t _ (hY 1))) ?_
    refine BIClass.sep_mono (owns_eqv (finds2 m Inv Out c t _ (hY 2))) ?_
    refine BIClass.sep_mono (owns_eqv (finds3 m Inv Out c t _ (hY 3))) ?_
    refine BIClass.sep_mono (owns_eqv (finds4 m Inv Out c t _ (hY 4))) ?_
    refine BIClass.sep_mono (owns_eqv (finds5 m Inv Out c t _ (hY 5))) ?_
    refine BIClass.sep_mono (owns_eqv (finds6 m Inv Out c t _ (hY 6))) ?_
    refine BIClass.sep_mono (owns_eqv (finds7 m Inv Out c t _ (hY 7))) ?_
    refine BIClass.sep_mono (owns_eqv (finds8 m Inv Out c t _ (hY 8))) ?_
    refine BIClass.sep_mono (owns_eqv (finds9 m Inv Out c t _ (hY 9))) ?_
    exact .rfl
  · intro _
    refine BIClass.sep_mono (Entails.of_eq (Phi_succ m Inv Out c t).symm) (BIClass.sep_mono .rfl ?_)
    refine BIClass.sep_mono ?_ ?_
    · exact owns_some (P := (rdat m Inv Out c).after 0 t (Y 0)) (finds0 m Inv Out c t _ (hY 0)).symm
    refine BIClass.sep_mono ?_ ?_
    · exact owns_some (P := (rdat m Inv Out c).after 1 t (Y 1)) (finds1 m Inv Out c t _ (hY 1)).symm
    refine BIClass.sep_mono ?_ ?_
    · exact owns_some (P := (rdat m Inv Out c).after 2 t (Y 2)) (finds2 m Inv Out c t _ (hY 2)).symm
    refine BIClass.sep_mono ?_ ?_
    · exact owns_some (P := (rdat m Inv Out c).after 3 t (Y 3)) (finds3 m Inv Out c t _ (hY 3)).symm
    refine BIClass.sep_mono ?_ ?_
    · exact owns_some (P := (rdat m Inv Out c).after 4 t (Y 4)) (finds4 m Inv Out c t _ (hY 4)).symm
    refine BIClass.sep_mono ?_ ?_
    · exact owns_some (P := (rdat m Inv Out c).after 5 t (Y 5)) (finds5 m Inv Out c t _ (hY 5)).symm
    refine BIClass.sep_mono ?_ ?_
    · exact owns_some (P := (rdat m Inv Out c).after 6 t (Y 6)) (finds6 m Inv Out c t _ (hY 6)).symm
    refine BIClass.sep_mono ?_ ?_
    · exact owns_some (P := (rdat m Inv Out c).after 7 t (Y 7)) (finds7 m Inv Out c t _ (hY 7)).symm
    refine BIClass.sep_mono ?_ ?_
    · exact owns_some (P := (rdat m Inv Out c).after 8 t (Y 8)) (finds8 m Inv Out c t _ (hY 8)).symm
    refine BIClass.sep_mono ?_ ?_
    · exact owns_some (P := (rdat m Inv Out c).after 9 t (Y 9)) (finds9 m Inv Out c t _ (hY 9)).symm
    exact .rfl

/-- The scratches, at whatever they hold, and the tables are what the first point finds. -/
theorem held_in (h0 : ∀ Q, Inv 0 Q) (c : Dev nD) :
    iprop(Pipeline.ΦA spec0 c ∗ Pipeline.ΦT pre0 (tabs m 0).1 c) ⊢ (PhiM m Inv c 0 : sProp 𝕄) := by
  rw [PhiA0_eq, PhiT0_eq]
  unfold PhiM Held
  iintro ⟨⟨⟨⟨%d0, K0⟩, ⟨%d1, K1⟩, ⟨%d2, K2⟩, ⟨%d3, K3⟩, ⟨%d4, K4⟩, ⟨%d5, K5⟩, ⟨%d6, K6⟩⟩, Hr⟩, HT⟩
  iexists (⟨d0, d1, d2, d3, d4, d5, d6⟩ : Scr F)
  isplitr
  · ipureintro; exact h0 _
  isplitl [K0]
  · iexact K0
  isplitl [K1]
  · iexact K1
  isplitl [K2]
  · iexact K2
  isplitl [K3]
  · iexact K3
  isplitl [K4]
  · iexact K4
  isplitl [K5]
  · iexact K5
  isplitl [K6]
  · iexact K6
  isplitl [HT]
  · iexact HT
  iexact Hr

/-- After the last point the scratches still hold something. -/
theorem held_out (c : Dev nD) (n : ℕ) : (PhiM m Inv c n : sProp 𝕄) ⊢ Pipeline.ΦA spec0 c := by
  rw [PhiA0_eq]
  unfold PhiM Held
  iintro ⟨%Q, %hQ, K0, K1, K2, K3, K4, K5, K6, HT, Hr⟩
  isplitr [Hr]
  · isplitl [K0]
    · iexists _; iexact K0
    isplitl [K1]
    · iexists _; iexact K1
    isplitl [K2]
    · iexists _; iexact K2
    isplitl [K3]
    · iexists _; iexact K3
    isplitl [K4]
    · iexists _; iexact K4
    isplitl [K5]
    · iexists _; iexact K5
    iexists _; iexact K6
  · iexact Hr

set_option backward.isDefEq.respectTransparency.types false in
/-- The run of the whole program: every array is one the points may leave, the rest is untouched, and no counter is left raised. -/
theorem run_main (ρ : Dev nD → PrngReg) (h0 : ∀ Q, Inv 0 Q)
    (hI : ∀ c (t : Fin (cfgT m).N) Q Y, Inv t.val Q → ∀ hw, Inv (t.val + 1) (scr (bodyF (grid0.coords t) (wordAt (V m 0 main_v36) (grid0.coords t)) (wordAt (V m 0 main_v39) (grid0.coords t)) hw (stAt m c t Q Y)))
      ∧ Out t.val (bodyF (grid0.coords t) (wordAt (V m 0 main_v36) (grid0.coords t)) (wordAt (V m 0 main_v39) (grid0.coords t)) hw (stAt m c t Q Y)).a15)
    (hT : ∀ i, wordAt (F := F) (V m 0 main_v39) i ∈ [0#32, 1#32, 2#32]) :
    θ_run defs (onTc (τ := τ) (main (F := F))) (s₀ m ρ)
      (fun r => Pipeline.RDat.FramePost (cfgT m) (rdat m Inv Out) (V m) r ∧ r.2.sem = fun _ => 0) :=
  Pipeline.RDat.θ_run_frameP_track (Q' := _) pcfgs (tabs m) 0 launch0 defs₀ Variants.none (rdat m Inv Out) m ρ main
    (hbody := body_obligation m Inv Out hI hT) (hshare := fun _ _ => by simp [rdat, Pipeline.RDat.share]) (howed := fun _ _ => rfl) (V := V m)
    (hmain := hmain m) (hA := fun _ _ => rfl)
    (hpf := fun c k => by obtain rfl : c = 0 := Subsingleton.elim _ _; rfl)
    (hin := held_in m Inv h0) (hout := fun c => held_out m Inv c _)
    (hQ' := fun _ h => h)

end Cert.Kernel2Ideal.Moe

end
-- ==== Proof.Moe.Tables.lean ====
module

public import proofs.«01_k».proof.Proof.Moe.Launch
public import Idealize.ShloMosaic.Lib.Pointwise

@[expose] public section

set_option maxRecDepth 16384

noncomputable section

namespace Cert.Kernel2Ideal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel2Ideal Cert.Kernel2Ideal.Gen
open Idealize.ShloMosaic (ix0 ix1 ix2 ix3)

variable {F : FTy → Type} [FloatOps F]

local notation "𝕄" => MT nD τ sig Unit (Elt F) ℕ (UR sig nD τ) ℕ

/-- Whether an entry of the combination weights is positive, tile by tile. -/
def bits (x : Vec F S32768x8 .f32) : S32x1024x8.Idx → BitVec 1 :=
  shapeCast S32x1024x8 (cmpf .ogt x (broadcastInDim S32768x8 ![] bcast_S_S32768x8 (constant S_ .f32 0x00000000#32))) shapeCasts_S32768x8_S32x1024x8

/-- The number of tokens of each tile that go to each expert. -/
def counts (x : Vec F S32768x8 .f32) : S256.Idx → BitVec 32 :=
  shapeCast S256 (Host.reduce IntOp.addi (extui 32 (bits x) natLt_1_32) (constantI S_ 32 0#32) reducesTo_S32x1024x8_S32x8_d1 h_S_) shapeCasts_S32x8_S256

/-- The class of a count: how many of the sizes it exceeds. -/
def sidW (n : BitVec 32) : BitVec 32 :=
  IntOp.addi (IntOp.addi (IntOp.addi (IntOp.addi (IntOp.addi (IntOp.addi (IntOp.addi (0#32) ((IntOp.cmpi .sgt n 128#32).setWidth 32)) ((IntOp.cmpi .sgt n 192#32).setWidth 32)) ((IntOp.cmpi .sgt n 256#32).setWidth 32)) ((IntOp.cmpi .sgt n 320#32).setWidth 32)) ((IntOp.cmpi .sgt n 384#32).setWidth 32)) ((IntOp.cmpi .sgt n 448#32).setWidth 32)) ((IntOp.cmpi .sgt n 512#32).setWidth 32)

/-- The sign of a word: −1, 0 or 1. -/
def sgnW (n : BitVec 32) : BitVec 32 := if n = 0 then 0 else if n.msb then -1 else 1

/-- The quotient by 512 rounded down: one less than the quotient towards zero where the signs differ and something remains. -/
def floorW (n : BitVec 32) : BitVec 32 :=
  Scalar.select (IntOp.andi (IntOp.cmpi .ne (sgnW n) (sgnW 512#32)) (IntOp.cmpi .ne (IntOp.remsi .host n 512#32) 0#32))
    (IntOp.subi (IntOp.divsi .host n 512#32) 1#32) (IntOp.divsi .host n 512#32)

/-- The number of chunks of 512 a count fills. -/
def nchW (n : BitVec 32) : BitVec 32 := floorW (IntOp.addi n 511#32)

variable (m : (ℓ : Loc nD τ sig) → Buf (Elt F) ℓ)

set_option maxHeartbeats 1000000 in
theorem V_v36 (c : Dev nD) : V m c main_v36 = fun j => sidW (counts (m (c, Proc.tc.devRef main_arg5)) j) := by
  unfold V; unfold_abbrev_sides
  simp only [hostOps0, hostOps0_1, hostOps0_2, List.flatten_cons, List.flatten_nil, List.append_nil, List.cons_append, List.nil_append, StableHlo.after_cons, StableHlo.after_nil]
  after_results_simp
  rfl

theorem V_v39 (c : Dev nD) : V m c main_v39 = fun j => nchW (counts (m (c, Proc.tc.devRef main_arg5)) j) := by
  unfold V; unfold_abbrev_sides
  simp only [hostOps0, hostOps0_1, hostOps0_2, List.flatten_cons, List.flatten_nil, List.append_nil, List.cons_append, List.nil_append, StableHlo.after_cons, StableHlo.after_nil]
  after_results_simp
  simp only [StableHlo.TRef.ofBuf, StableHlo.TRef.toBuf]
  funext j
  simp only [cast_eq, eq_mpr_eq_cast, eqRec_eq_cast, id_eq]
  rfl

theorem counts_at (x : Vec F S32768x8 .f32) (i : Fin 32) (e : Fin 8) :
    counts x (ix1 ⟨i.val * 8 + e.val, by omega⟩) = BitVec.ofNat 32 (cnt (bits x) i e) := by
  rw [← reduce_cnt (bits x) h_S_ i e]
  unfold counts
  generalize Host.reduce IntOp.addi (extui 32 (bits x) natLt_1_32) (constantI S_ 32 0#32) reducesTo_S32x1024x8_S32x8_d1 h_S_ = y
  pointwise

theorem idx256 (j : S256.Idx) : ∃ (i : Fin 32) (e : Fin 8), j = ix1 ⟨i.val * 8 + e.val, by omega⟩ := by
  have h := (j 0).isLt
  have h' : (j 0).val < 256 := h
  refine ⟨⟨(j 0).val / 8, by omega⟩, ⟨(j 0).val % 8, by omega⟩, ?_⟩
  funext a
  obtain rfl : a = 0 := Subsingleton.elim _ _
  apply Fin.ext
  show (j 0).val = (j 0).val / 8 * 8 + (j 0).val % 8
  omega

theorem nchW_mem : ∀ n : Fin 1025, nchW (BitVec.ofNat 32 n.val) ∈ [0#32, 1#32, 2#32] := by decide +kernel

theorem hT (i : grid0.Coords) : wordAt (F := F) (V m 0 main_v39) i ∈ [0#32, 1#32, 2#32] := by
  unfold wordAt
  rw [V_v39]
  generalize (Rect.unit (s := S256) (k0_off1 i) S1.size (k0_off1_inb i)).emb _ = j
  obtain ⟨a, e, rfl⟩ := idx256 j
  dsimp only
  rw [counts_at]
  exact nchW_mem ⟨cnt (bits (m (0, Proc.tc.devRef main_arg5))) a e, Nat.lt_succ_of_le (cnt_le _ _ _)⟩

/-- Every launch of the program ends, with its arguments as they were and no counter raised. -/
theorem frame (ρ : Dev nD → PrngReg) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) := by
  refine (θ_run defs _ _).mono ?_ (run_main m (fun _ _ => True) (fun _ _ => True) ρ (fun _ => trivial) (fun _ _ _ _ _ _ => ⟨trivial, trivial⟩) (hT m))
  intro r ⟨h, hs⟩
  refine ⟨fun c => ⟨((h c).2 main_arg0 (Pipeline.mem_restRefs_of main_arg0 (by decide) (show ∀ w : Fin 11, (spec0 w).arr.view.ref ≠ main_arg0 by decide))).trans (V_main_arg0 m c), ((h c).2 main_arg1 (Pipeline.mem_restRefs_of main_arg1 (by decide) (show ∀ w : Fin 11, (spec0 w).arr.view.ref ≠ main_arg1 by decide))).trans (V_main_arg1 m c), (Pipeline.RDat.FramePost.arr_in h c 2 rfl).trans (V_main_arg2 m c), (Pipeline.RDat.FramePost.arr_in h c 3 rfl).trans (V_main_arg3 m c), (Pipeline.RDat.FramePost.arr_in h c 4 rfl).trans (V_main_arg4 m c), ((h c).2 main_arg5 (Pipeline.mem_restRefs_of main_arg5 (by decide) (show ∀ w : Fin 11, (spec0 w).arr.view.ref ≠ main_arg5 by decide))).trans (V_main_arg5 m c), ((h c).2 main_arg6 (Pipeline.mem_restRefs_of main_arg6 (by decide) (show ∀ w : Fin 11, (spec0 w).arr.view.ref ≠ main_arg6 by decide))).trans (V_main_arg6 m c), ((h c).2 main_arg7 (Pipeline.mem_restRefs_of main_arg7 (by decide) (show ∀ w : Fin 11, (spec0 w).arr.view.ref ≠ main_arg7 by decide))).trans (V_main_arg7 m c), ((h c).2 main_arg8 (Pipeline.mem_restRefs_of main_arg8 (by decide) (show ∀ w : Fin 11, (spec0 w).arr.view.ref ≠ main_arg8 by decide))).trans (V_main_arg8 m c), ((h c).2 main_arg9 (Pipeline.mem_restRefs_of main_arg9 (by decide) (show ∀ w : Fin 11, (spec0 w).arr.view.ref ≠ main_arg9 by decide))).trans (V_main_arg9 m c)⟩, hs⟩

end Cert.Kernel2Ideal.Moe

end
-- ==== Proof.Moe.FrameBits.lean ====
/- The mixture program read at bit patterns: the same text as the one its run is proved of. -/
module

public import proofs.«01_k».proof.Defs
public import proofs.«01_k».proof.Proof.Gen.Kernel2
public import proofs.«01_k».proof.Proof.Moe.Tables

@[expose] public section
noncomputable section
namespace Cert.Kernel2Ideal.Moe

open Cert.Kernel2Ideal Idealize.ShloMosaic Idealize.ShloMosaic.TcCoe Idealize.SL.Sem

/-- The claim that every launch at bit patterns ends with its arguments as they were and no counter raised. -/
def Ends : Prop :=
  ∀ (m : (ℓ : Loc nD τ sig) → Buf (Elt Bits) ℓ) (ρ : Dev nD → PrngReg), True →
    θ_run (defs (F := Bits)) (onTc (τ := τ) (main (F := Bits))) ⟨m, fun _ => 0, ρ⟩ (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9))
      ∧ r.2.sem = fun _ => 0)

theorem ends : Ends := fun m ρ _ => frame (F := Bits) m ρ

theorem ends_eq : Ends = Cert.quiescent_Kernel2 (hKernel2 := Cert.Kernel2.Gen.facts) := by chain_rfl

/-- The mixture program runs, its arguments are kept, and every counter ends at zero. -/
theorem frame_bits : Cert.quiescent_Kernel2 (hKernel2 := Cert.Kernel2.Gen.facts) := ends_eq ▸ ends

end Cert.Kernel2Ideal.Moe

end
-- ==== Proof.Moe.Rows.lean ====
module

public import proofs.«01_k».proof.Proof.Moe.Tables

@[expose] public section

set_option maxRecDepth 16384

noncomputable section

namespace Cert.Kernel2Ideal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel2Ideal Cert.Kernel2Ideal.Gen
open Idealize.ShloMosaic (ix0 ix1 ix2 ix3)

theorem emb_whole {s : Shape} (off : Fin s.rank → ℕ) (inb) (h : ∀ a, off a = 0) (j : s.Idx) : (Rect.unit (s := s) off s.size inb).emb j = j := by
  funext a
  apply Fin.ext
  show off a + 1 * (j a).val = (j a).val
  rw [h a]; omega

theorem read_whole {s : Shape} {α : Type} (off : Fin s.rank → ℕ) (inb) (h : ∀ a, off a = 0) (X : s.Idx → α) :
    (fun j => X ((Rect.unit (s := s) off s.size inb).emb j)) = X :=
  funext fun j => congrArg X (emb_whole off inb h j)

theorem overlay_whole {s : Shape} {α : Type} (off : Fin s.rank → ℕ) (inb) (h : ∀ a, off a = 0) (X G : s.Idx → α) :
    (Rect.unit (s := s) off s.size inb).overlay X G = G := by
  funext j
  have := Rect.overlay_emb (Rect.unit (s := s) off s.size inb) X G j
  rwa [emb_whole off inb h] at this

theorem emb_rows {R : ℕ} (off : Fin 2 → ℕ) (inb) (o : ℕ) (h : off = ![o, 0]) (r : Fin R) (hr : o + r.val < 1024) (d : Fin 1024) :
    (Rect.unit (s := S1024x1024) off (⟨2, ![R, 1024]⟩ : Shape).size inb).emb (ix2 r d) = ix2 ⟨o + r.val, hr⟩ d := by
  subst h
  funext a
  apply Fin.ext
  match a with
  | ⟨0, _⟩ => show o + 1 * r.val = o + r.val; omega
  | ⟨1, _⟩ => show 0 + 1 * d.val = d.val; omega

theorem overlay_rows {α : Type} {R : ℕ} (off : Fin 2 → ℕ) (inb) (o : ℕ) (h : off = ![o, 0]) (X : S1024x1024.Idx → α) (G) (r : Fin R) (hr : o + r.val < 1024) (d : Fin 1024) :
    (Rect.unit (s := S1024x1024) off (⟨2, ![R, 1024]⟩ : Shape).size inb).overlay X G (ix2 ⟨o + r.val, hr⟩ d) = G (ix2 r d) := by
  rw [← emb_rows off inb o h r hr d]
  exact Rect.overlay_emb _ _ _ _

theorem overlay_rows0 {α : Type} {R : ℕ} (inb) (X : S1024x1024.Idx → α) (G) (r : Fin 1024) (hr : r.val < R) (d : Fin 1024) :
    (Rect.unit (s := S1024x1024) ![0, 0] (⟨2, ![R, 1024]⟩ : Shape).size inb).overlay X G (ix2 r d) = G (ix2 ⟨r.val, hr⟩ d) := by
  have := overlay_rows ![0, 0] inb 0 rfl X G ⟨r.val, hr⟩ (by simp) d
  simpa using this

theorem overlay_above {α : Type} {R : ℕ} (off : Fin 2 → ℕ) (inb) (o : ℕ) (h : off = ![o, 0]) (X : S1024x1024.Idx → α) (G) (r : Fin 1024) (hr : r.val < o) (d : Fin 1024) :
    (Rect.unit (s := S1024x1024) off (⟨2, ![R, 1024]⟩ : Shape).size inb).overlay X G (ix2 r d) = X (ix2 r d) := by
  subst h
  apply Rect.overlay_of_not_mem
  intro hm
  have := (Rect.mem_set_unit.1 hm) 0
  have h2 : o ≤ r.val := this.1
  omega

/-- A small natural number, made a float, is itself. -/
theorem sit (n : ℕ) (h : n < 2147483648) : FloatOps.sitofp (F := Ideal) FTy.f32 (BitVec.ofNat 32 n) = ((n : ℝ) : EReal) := by
  show (((BitVec.ofNat 32 n).toInt : ℝ) : EReal) = _
  rw [BitVec.toInt_eq_toNat_of_lt (by rw [BitVec.toNat_ofNat]; omega), BitVec.toNat_ofNat, Nat.mod_eq_of_lt (by omega)]
  norm_cast

/-- One row of a block of the expert's hidden layer, brought back to the model's width. -/
def hidden (x : Fin 1024 → EReal) (w1 w3 : Vec Ideal S1x1024x896 .bf16) (w2 : Vec Ideal S1x896x1024 .bf16) (d : Fin 1024) : EReal :=
  ∑ n, ((∑ k, x k * w1 (ix3 0 k n)) * Ideal.logistic (∑ k, x k * w1 (ix3 0 k n)) * ∑ k, x k * w3 (ix3 0 k n)) * w2 (ix3 0 n d)

theorem gather0 (v55 : Vec Ideal S1x1024 .f32) (S : State Ideal) (r : Fin 1024) (hr : r.val < 128) (d : Fin 1024) :
    (g0 v55 S).a20 (ix2 r d) = (∑ x, (if ((r.val : ℝ) : EReal) = v55 (ix2 0 x) then 1 else 0) * S.a16 (ix2 x d)) ∧ (g0 v55 S).a21 (ix2 r d) = 0 := by
  unfold g0
  dsimp only
  constructor
  · have h0 := read_whole (s := S1024x1024) ![0, 0] inb_S1024x1024_S1024x1024_0_0 (by decide) S.a16
    dsimp only at h0
    rw [overlay_rows0 (R := 128) _ _ _ r hr d]
    erw [h0]
    pointwise [k0_pay27]
    simp only [sit r.val (by omega)]
  · rw [overlay_rows0 (R := 128) _ _ _ r hr d]
    pointwise [k0_pay28]

theorem expert0 (S : State Ideal) (r : Fin 1024) (hr : r.val < 128) (d : Fin 1024) :
    (e0 S).a21 (ix2 r d) = S.a21 (ix2 r d) + hidden (fun k => S.a20 (ix2 r k)) S.a11 S.a12 S.a13 d := by
  unfold e0 hidden
  dsimp only
  rw [overlay_rows0 (R := 128) _ _ _ r hr d]
  have h1 := read_whole (s := S1x1024x896) ![0, 0, 0] inb_S1x1024x896_S1x1024x896_0_0_0 (by decide) S.a11
  have h2 := read_whole (s := S1x1024x896) ![0, 0, 0] inb_S1x1024x896_S1x1024x896_0_0_0 (by decide) S.a12
  have h3 := read_whole (s := S1x896x1024) ![0, 0, 0] inb_S1x896x1024_S1x896x1024_0_0_0 (by decide) S.a13
  dsimp only at h1 h2 h3
  erw [h1, h2, h3]
  pointwise [k0_pay45]
  simp only [emb_rows (R := 128) _ _ 0 rfl ⟨r.val, hr⟩ (by simp) _, Nat.zero_add]

theorem scatter0 (a1 : BitVec 32) (v57 v62 : Vec Ideal S1024x128 .f32) (S : State Ideal) (t d : Fin 1024) :
    (s0 a1 v57 v62 S).a22 (ix2 t d) = S.a22 (ix2 t d) + k0_pay16 a1 v62 (ix2 t 0) * ∑ x : Fin 128, (if ((x.val : ℝ) : EReal) = k0_pay15 a1 v57 (ix2 t 0) then 1 else 0) * S.a21 (ix2 ⟨x.val, by omega⟩ d) := by
  unfold s0
  dsimp only
  have h0 := read_whole (s := S1024x1024) ![0, 0] inb_S1024x1024_S1024x1024_0_0 (by decide) S.a22
  dsimp only at h0
  rw [overlay_whole _ _ (by decide)]
  erw [h0]
  pointwise [k0_pay17]
  refine congrArg (fun z => S.a22 (ix2 t d) + k0_pay16 a1 v62 (ix2 t 0) * z) (Finset.sum_congr rfl fun x _ => ?_)
  rw [sit x.val (by omega)]
  erw [emb_rows (R := 128) ![0, 0] _ 0 rfl x (by omega) d]
  simp only [Nat.zero_add]

theorem gather1 (v55 : Vec Ideal S1x1024 .f32) (S : State Ideal) (r : Fin 1024) (hr : r.val < 192) (d : Fin 1024) :
    (g1 v55 S).a20 (ix2 r d) = (∑ x, (if ((r.val : ℝ) : EReal) = v55 (ix2 0 x) then 1 else 0) * S.a16 (ix2 x d)) ∧ (g1 v55 S).a21 (ix2 r d) = 0 := by
  unfold g1
  dsimp only
  constructor
  · have h0 := read_whole (s := S1024x1024) ![0, 0] inb_S1024x1024_S1024x1024_0_0 (by decide) S.a16
    dsimp only at h0
    rw [overlay_rows0 (R := 192) _ _ _ r hr d]
    erw [h0]
    pointwise [k0_pay29]
    simp only [sit r.val (by omega)]
  · rw [overlay_rows0 (R := 192) _ _ _ r hr d]
    pointwise [k0_pay30]

theorem expert1 (S : State Ideal) (r : Fin 1024) (hr : r.val < 192) (d : Fin 1024) :
    (e1 S).a21 (ix2 r d) = S.a21 (ix2 r d) + hidden (fun k => S.a20 (ix2 r k)) S.a11 S.a12 S.a13 d := by
  unfold e1 hidden
  dsimp only
  rw [overlay_rows0 (R := 192) _ _ _ r hr d]
  have h1 := read_whole (s := S1x1024x896) ![0, 0, 0] inb_S1x1024x896_S1x1024x896_0_0_0 (by decide) S.a11
  have h2 := read_whole (s := S1x1024x896) ![0, 0, 0] inb_S1x1024x896_S1x1024x896_0_0_0 (by decide) S.a12
  have h3 := read_whole (s := S1x896x1024) ![0, 0, 0] inb_S1x896x1024_S1x896x1024_0_0_0 (by decide) S.a13
  dsimp only at h1 h2 h3
  erw [h1, h2, h3]
  pointwise [k0_pay46]
  simp only [emb_rows (R := 192) _ _ 0 rfl ⟨r.val, hr⟩ (by simp) _, Nat.zero_add]

theorem scatter1 (a1 : BitVec 32) (v57 v62 : Vec Ideal S1024x128 .f32) (S : State Ideal) (t d : Fin 1024) :
    (s1 a1 v57 v62 S).a22 (ix2 t d) = S.a22 (ix2 t d) + k0_pay16 a1 v62 (ix2 t 0) * ∑ x : Fin 192, (if ((x.val : ℝ) : EReal) = k0_pay15 a1 v57 (ix2 t 0) then 1 else 0) * S.a21 (ix2 ⟨x.val, by omega⟩ d) := by
  unfold s1
  dsimp only
  have h0 := read_whole (s := S1024x1024) ![0, 0] inb_S1024x1024_S1024x1024_0_0 (by decide) S.a22
  dsimp only at h0
  rw [overlay_whole _ _ (by decide)]
  erw [h0]
  pointwise [k0_pay18]
  refine congrArg (fun z => S.a22 (ix2 t d) + k0_pay16 a1 v62 (ix2 t 0) * z) (Finset.sum_congr rfl fun x _ => ?_)
  rw [sit x.val (by omega)]
  erw [emb_rows (R := 192) ![0, 0] _ 0 rfl x (by omega) d]
  simp only [Nat.zero_add]

theorem gather2 (v55 : Vec Ideal S1x1024 .f32) (S : State Ideal) (r : Fin 1024) (hr : r.val < 256) (d : Fin 1024) :
    (g2 v55 S).a20 (ix2 r d) = (∑ x, (if ((r.val : ℝ) : EReal) = v55 (ix2 0 x) then 1 else 0) * S.a16 (ix2 x d)) ∧ (g2 v55 S).a21 (ix2 r d) = 0 := by
  unfold g2
  dsimp only
  constructor
  · have h0 := read_whole (s := S1024x1024) ![0, 0] inb_S1024x1024_S1024x1024_0_0 (by decide) S.a16
    dsimp only at h0
    rw [overlay_rows0 (R := 256) _ _ _ r hr d]
    erw [h0]
    pointwise [k0_pay31]
    simp only [sit r.val (by omega)]
  · rw [overlay_rows0 (R := 256) _ _ _ r hr d]
    pointwise [k0_pay32]

theorem expert2 (S : State Ideal) (r : Fin 1024) (hr : r.val < 256) (d : Fin 1024) :
    (e2 S).a21 (ix2 r d) = S.a21 (ix2 r d) + hidden (fun k => S.a20 (ix2 r k)) S.a11 S.a12 S.a13 d := by
  unfold e2 hidden
  dsimp only
  rw [overlay_rows0 (R := 256) _ _ _ r hr d]
  have h1 := read_whole (s := S1x1024x896) ![0, 0, 0] inb_S1x1024x896_S1x1024x896_0_0_0 (by decide) S.a11
  have h2 := read_whole (s := S1x1024x896) ![0, 0, 0] inb_S1x1024x896_S1x1024x896_0_0_0 (by decide) S.a12
  have h3 := read_whole (s := S1x896x1024) ![0, 0, 0] inb_S1x896x1024_S1x896x1024_0_0_0 (by decide) S.a13
  dsimp only at h1 h2 h3
  erw [h1, h2, h3]
  pointwise [k0_pay47]
  simp only [emb_rows (R := 256) _ _ 0 rfl ⟨r.val, hr⟩ (by simp) _, Nat.zero_add]

theorem scatter2 (a1 : BitVec 32) (v57 v62 : Vec Ideal S1024x128 .f32) (S : State Ideal) (t d : Fin 1024) :
    (s2 a1 v57 v62 S).a22 (ix2 t d) = S.a22 (ix2 t d) + k0_pay16 a1 v62 (ix2 t 0) * ∑ x : Fin 256, (if ((x.val : ℝ) : EReal) = k0_pay15 a1 v57 (ix2 t 0) then 1 else 0) * S.a21 (ix2 ⟨x.val, by omega⟩ d) := by
  unfold s2
  dsimp only
  have h0 := read_whole (s := S1024x1024) ![0, 0] inb_S1024x1024_S1024x1024_0_0 (by decide) S.a22
  dsimp only at h0
  rw [overlay_whole _ _ (by decide)]
  erw [h0]
  pointwise [k0_pay19]
  refine congrArg (fun z => S.a22 (ix2 t d) + k0_pay16 a1 v62 (ix2 t 0) * z) (Finset.sum_congr rfl fun x _ => ?_)
  rw [sit x.val (by omega)]
  erw [emb_rows (R := 256) ![0, 0] _ 0 rfl x (by omega) d]
  simp only [Nat.zero_add]

theorem gather3 (v55 : Vec Ideal S1x1024 .f32) (S : State Ideal) (r : Fin 1024) (hr : r.val < 320) (d : Fin 1024) :
    (g3 v55 S).a20 (ix2 r d) = (∑ x, (if ((r.val : ℝ) : EReal) = v55 (ix2 0 x) then 1 else 0) * S.a16 (ix2 x d)) ∧ (g3 v55 S).a21 (ix2 r d) = 0 := by
  unfold g3
  dsimp only
  constructor
  · have h0 := read_whole (s := S1024x1024) ![0, 0] inb_S1024x1024_S1024x1024_0_0 (by decide) S.a16
    dsimp only at h0
    rw [overlay_rows0 (R := 320) _ _ _ r hr d]
    erw [h0]
    pointwise [k0_pay33]
    simp only [sit r.val (by omega)]
  · rw [overlay_rows0 (R := 320) _ _ _ r hr d]
    pointwise [k0_pay34]

theorem expert3 (S : State Ideal) (r : Fin 1024) (hr : r.val < 320) (d : Fin 1024) :
    (e3 S).a21 (ix2 r d) = S.a21 (ix2 r d) + hidden (fun k => S.a20 (ix2 r k)) S.a11 S.a12 S.a13 d := by
  unfold e3 hidden
  dsimp only
  rw [overlay_rows0 (R := 320) _ _ _ r hr d]
  have h1 := read_whole (s := S1x1024x896) ![0, 0, 0] inb_S1x1024x896_S1x1024x896_0_0_0 (by decide) S.a11
  have h2 := read_whole (s := S1x1024x896) ![0, 0, 0] inb_S1x1024x896_S1x1024x896_0_0_0 (by decide) S.a12
  have h3 := read_whole (s := S1x896x1024) ![0, 0, 0] inb_S1x896x1024_S1x896x1024_0_0_0 (by decide) S.a13
  dsimp only at h1 h2 h3
  erw [h1, h2, h3]
  pointwise [k0_pay1]
  simp only [emb_rows (R := 320) _ _ 0 rfl ⟨r.val, hr⟩ (by simp) _, Nat.zero_add]

theorem scatter3 (a1 : BitVec 32) (v57 v62 : Vec Ideal S1024x128 .f32) (S : State Ideal) (t d : Fin 1024) :
    (s3 a1 v57 v62 S).a22 (ix2 t d) = S.a22 (ix2 t d) + k0_pay16 a1 v62 (ix2 t 0) * ∑ x : Fin 320, (if ((x.val : ℝ) : EReal) = k0_pay15 a1 v57 (ix2 t 0) then 1 else 0) * S.a21 (ix2 ⟨x.val, by omega⟩ d) := by
  unfold s3
  dsimp only
  have h0 := read_whole (s := S1024x1024) ![0, 0] inb_S1024x1024_S1024x1024_0_0 (by decide) S.a22
  dsimp only at h0
  rw [overlay_whole _ _ (by decide)]
  erw [h0]
  pointwise [k0_pay20]
  refine congrArg (fun z => S.a22 (ix2 t d) + k0_pay16 a1 v62 (ix2 t 0) * z) (Finset.sum_congr rfl fun x _ => ?_)
  rw [sit x.val (by omega)]
  erw [emb_rows (R := 320) ![0, 0] _ 0 rfl x (by omega) d]
  simp only [Nat.zero_add]

theorem gather4 (v55 : Vec Ideal S1x1024 .f32) (S : State Ideal) (r : Fin 1024) (hr : r.val < 384) (d : Fin 1024) :
    (g4 v55 S).a20 (ix2 r d) = (∑ x, (if ((r.val : ℝ) : EReal) = v55 (ix2 0 x) then 1 else 0) * S.a16 (ix2 x d)) ∧ (g4 v55 S).a21 (ix2 r d) = 0 := by
  unfold g4
  dsimp only
  constructor
  · have h0 := read_whole (s := S1024x1024) ![0, 0] inb_S1024x1024_S1024x1024_0_0 (by decide) S.a16
    dsimp only at h0
    rw [overlay_rows0 (R := 384) _ _ _ r hr d]
    erw [h0]
    pointwise [k0_pay35]
    simp only [sit r.val (by omega)]
  · rw [overlay_rows0 (R := 384) _ _ _ r hr d]
    pointwise [k0_pay36]

theorem expert4 (S : State Ideal) (r : Fin 1024) (hr : r.val < 384) (d : Fin 1024) :
    (e4 S).a21 (ix2 r d) = S.a21 (ix2 r d) + hidden (fun k => S.a20 (ix2 r k)) S.a11 S.a12 S.a13 d := by
  unfold e4 hidden
  dsimp only
  rw [overlay_rows0 (R := 384) _ _ _ r hr d]
  have h1 := read_whole (s := S1x1024x896) ![0, 0, 0] inb_S1x1024x896_S1x1024x896_0_0_0 (by decide) S.a11
  have h2 := read_whole (s := S1x1024x896) ![0, 0, 0] inb_S1x1024x896_S1x1024x896_0_0_0 (by decide) S.a12
  have h3 := read_whole (s := S1x896x1024) ![0, 0, 0] inb_S1x896x1024_S1x896x1024_0_0_0 (by decide) S.a13
  dsimp only at h1 h2 h3
  erw [h1, h2, h3]
  pointwise [k0_pay2]
  simp only [emb_rows (R := 384) _ _ 0 rfl ⟨r.val, hr⟩ (by simp) _, Nat.zero_add]

theorem scatter4 (a1 : BitVec 32) (v57 v62 : Vec Ideal S1024x128 .f32) (S : State Ideal) (t d : Fin 1024) :
    (s4 a1 v57 v62 S).a22 (ix2 t d) = S.a22 (ix2 t d) + k0_pay16 a1 v62 (ix2 t 0) * ∑ x : Fin 384, (if ((x.val : ℝ) : EReal) = k0_pay15 a1 v57 (ix2 t 0) then 1 else 0) * S.a21 (ix2 ⟨x.val, by omega⟩ d) := by
  unfold s4
  dsimp only
  have h0 := read_whole (s := S1024x1024) ![0, 0] inb_S1024x1024_S1024x1024_0_0 (by decide) S.a22
  dsimp only at h0
  rw [overlay_whole _ _ (by decide)]
  erw [h0]
  pointwise [k0_pay21]
  refine congrArg (fun z => S.a22 (ix2 t d) + k0_pay16 a1 v62 (ix2 t 0) * z) (Finset.sum_congr rfl fun x _ => ?_)
  rw [sit x.val (by omega)]
  erw [emb_rows (R := 384) ![0, 0] _ 0 rfl x (by omega) d]
  simp only [Nat.zero_add]

theorem gather5 (v55 : Vec Ideal S1x1024 .f32) (S : State Ideal) (r : Fin 1024) (hr : r.val < 448) (d : Fin 1024) :
    (g5 v55 S).a20 (ix2 r d) = (∑ x, (if ((r.val : ℝ) : EReal) = v55 (ix2 0 x) then 1 else 0) * S.a16 (ix2 x d)) ∧ (g5 v55 S).a21 (ix2 r d) = 0 := by
  unfold g5
  dsimp only
  constructor
  · have h0 := read_whole (s := S1024x1024) ![0, 0] inb_S1024x1024_S1024x1024_0_0 (by decide) S.a16
    dsimp only at h0
    rw [overlay_rows0 (R := 448) _ _ _ r hr d]
    erw [h0]
    pointwise [k0_pay37]
    simp only [sit r.val (by omega)]
  · rw [overlay_rows0 (R := 448) _ _ _ r hr d]
    pointwise [k0_pay38]

theorem expert5 (S : State Ideal) (r : Fin 1024) (hr : r.val < 448) (d : Fin 1024) :
    (e5 S).a21 (ix2 r d) = S.a21 (ix2 r d) + hidden (fun k => S.a20 (ix2 r k)) S.a11 S.a12 S.a13 d := by
  unfold e5 hidden
  dsimp only
  rw [overlay_rows0 (R := 448) _ _ _ r hr d]
  have h1 := read_whole (s := S1x1024x896) ![0, 0, 0] inb_S1x1024x896_S1x1024x896_0_0_0 (by decide) S.a11
  have h2 := read_whole (s := S1x1024x896) ![0, 0, 0] inb_S1x1024x896_S1x1024x896_0_0_0 (by decide) S.a12
  have h3 := read_whole (s := S1x896x1024) ![0, 0, 0] inb_S1x896x1024_S1x896x1024_0_0_0 (by decide) S.a13
  dsimp only at h1 h2 h3
  erw [h1, h2, h3]
  pointwise [k0_pay3]
  simp only [emb_rows (R := 448) _ _ 0 rfl ⟨r.val, hr⟩ (by simp) _, Nat.zero_add]

theorem scatter5 (a1 : BitVec 32) (v57 v62 : Vec Ideal S1024x128 .f32) (S : State Ideal) (t d : Fin 1024) :
    (s5 a1 v57 v62 S).a22 (ix2 t d) = S.a22 (ix2 t d) + k0_pay16 a1 v62 (ix2 t 0) * ∑ x : Fin 448, (if ((x.val : ℝ) : EReal) = k0_pay15 a1 v57 (ix2 t 0) then 1 else 0) * S.a21 (ix2 ⟨x.val, by omega⟩ d) := by
  unfold s5
  dsimp only
  have h0 := read_whole (s := S1024x1024) ![0, 0] inb_S1024x1024_S1024x1024_0_0 (by decide) S.a22
  dsimp only at h0
  rw [overlay_whole _ _ (by decide)]
  erw [h0]
  pointwise [k0_pay22]
  refine congrArg (fun z => S.a22 (ix2 t d) + k0_pay16 a1 v62 (ix2 t 0) * z) (Finset.sum_congr rfl fun x _ => ?_)
  rw [sit x.val (by omega)]
  erw [emb_rows (R := 448) ![0, 0] _ 0 rfl x (by omega) d]
  simp only [Nat.zero_add]

theorem gather6 (v55 : Vec Ideal S1x1024 .f32) (S : State Ideal) (r : Fin 1024) (hr : r.val < 512) (d : Fin 1024) :
    (g6 v55 S).a20 (ix2 r d) = (∑ x, (if ((r.val : ℝ) : EReal) = v55 (ix2 0 x) then 1 else 0) * S.a16 (ix2 x d)) ∧ (g6 v55 S).a21 (ix2 r d) = 0 := by
  unfold g6
  dsimp only
  constructor
  · have h0 := read_whole (s := S1024x1024) ![0, 0] inb_S1024x1024_S1024x1024_0_0 (by decide) S.a16
    dsimp only at h0
    rw [overlay_rows0 (R := 512) _ _ _ r hr d]
    erw [h0]
    pointwise [k0_pay39]
    simp only [sit r.val (by omega)]
  · rw [overlay_rows0 (R := 512) _ _ _ r hr d]
    pointwise [k0_pay40]

theorem expert6 (S : State Ideal) (r : Fin 1024) (hr : r.val < 512) (d : Fin 1024) :
    (e6 S).a21 (ix2 r d) = S.a21 (ix2 r d) + hidden (fun k => S.a20 (ix2 r k)) S.a11 S.a12 S.a13 d := by
  unfold e6 hidden
  dsimp only
  rw [overlay_rows0 (R := 512) _ _ _ r hr d]
  have h1 := read_whole (s := S1x1024x896) ![0, 0, 0] inb_S1x1024x896_S1x1024x896_0_0_0 (by decide) S.a11
  have h2 := read_whole (s := S1x1024x896) ![0, 0, 0] inb_S1x1024x896_S1x1024x896_0_0_0 (by decide) S.a12
  have h3 := read_whole (s := S1x896x1024) ![0, 0, 0] inb_S1x896x1024_S1x896x1024_0_0_0 (by decide) S.a13
  dsimp only at h1 h2 h3
  erw [h1, h2, h3]
  pointwise [k0_pay4]
  simp only [emb_rows (R := 512) _ _ 0 rfl ⟨r.val, hr⟩ (by simp) _, Nat.zero_add]

theorem scatter6 (v61 v67 : FVec Ideal S1024x1 .f32) (S : State Ideal) (t d : Fin 1024) :
    (s6 v61 v67 S).a22 (ix2 t d) = S.a22 (ix2 t d) + v67 (ix2 t 0) * ∑ x : Fin 512, (if ((x.val : ℝ) : EReal) = v61 (ix2 t 0) then 1 else 0) * S.a21 (ix2 ⟨x.val, by omega⟩ d) := by
  unfold s6
  dsimp only
  have h0 := read_whole (s := S1024x1024) ![0, 0] inb_S1024x1024_S1024x1024_0_0 (by decide) S.a22
  dsimp only at h0
  rw [overlay_whole _ _ (by decide)]
  erw [h0]
  pointwise [k0_pay7]
  refine congrArg (fun z => S.a22 (ix2 t d) + v67 (ix2 t 0) * z) (Finset.sum_congr rfl fun x _ => ?_)
  rw [sit x.val (by omega)]
  erw [emb_rows (R := 512) ![0, 0] _ 0 rfl x (by omega) d]
  simp only [Nat.zero_add]

theorem runTrips_two {n : ℕ} (f : Fin n → State Ideal → State Ideal) (h : n = 2) (S : State Ideal) :
    runTrips f n S = f ⟨1, by omega⟩ (f ⟨0, by omega⟩ S) := by
  subst h; rfl

theorem runTrips_zero {n : ℕ} (f : Fin n → State Ideal → State Ideal) (h : n = 0) (S : State Ideal) : runTrips f n S = S := by
  subst h; rfl

theorem off3_at (k : Fin (k0_t1_loop 2#32).trips) : k0_off3 2#32 k = ![512 * k.val, 0] := by
  have hk : k.val < 2 := lt_of_lt_of_eq k.isLt (trips1 _ (by decide))
  unfold k0_off3
  generalize k.val = n at hk
  dsimp only
  rcases (by omega : n = 0 ∨ n = 1) with rfl | rfl <;> decide +kernel

theorem off5_at (k : Fin (k0_t3_loop 2#32).trips) : k0_off5 2#32 k = ![512 * k.val, 0] := by
  have hk : k.val < 2 := lt_of_lt_of_eq k.isLt (trips3 _ (by decide))
  unfold k0_off5
  generalize k.val = n at hk
  dsimp only
  rcases (by omega : n = 0 ∨ n = 1) with rfl | rfl <;> decide +kernel

theorem off7_at (k : Fin (k0_t5_loop 2#32).trips) : k0_off7 2#32 k = ![512 * k.val, 0] := by
  have hk : k.val < 2 := lt_of_lt_of_eq k.isLt (trips5 _ (by decide))
  unfold k0_off7
  generalize k.val = n at hk
  dsimp only
  rcases (by omega : n = 0 ∨ n = 1) with rfl | rfl <;> decide +kernel

theorem slot_at (k : ℕ) (hk : k < 2) (r : Fin 512) : FloatOps.sitofp (F := Ideal) FTy.f32 (BitVec.ofNat 32 r.val) + (((Scalar.muli (Scf.iv 0#32 1#32 k) 512#32).toInt : ℝ) : EReal) = (((512 * k + r.val : ℕ) : ℝ) : EReal) := by
  rw [sit r.val (by omega)]
  have : (Scalar.muli (Scf.iv 0#32 1#32 k) 512#32).toInt = ((512 * k : ℕ) : ℤ) := by
    rcases (by omega : k = 0 ∨ k = 1) with rfl | rfl <;> decide +kernel
  rw [this, ← EReal.coe_add]
  congr 1
  push_cast
  ring

theorem gatherL (i : grid0.Coords) (hw : k0_chk1 i 7#32 2#32) (h3 : k0_cond3 i = 1#1) (v55 : Vec Ideal S1x1024 .f32) (h11 : k0_cond11 7#32 = 1#1) (k : Fin (k0_t1_loop 2#32).trips) (S : State Ideal) (hk : k.val < 2) (r : Fin 512) (d : Fin 1024) :
    (gl1 i 7#32 2#32 hw h3 v55 h11 k S).a20 (ix2 ⟨512 * k.val + r.val, by omega⟩ d) = (∑ x, (if (((512 * k.val + r.val : ℕ) : ℝ) : EReal) = v55 (ix2 0 x) then 1 else 0) * S.a16 (ix2 x d))
    ∧ (gl1 i 7#32 2#32 hw h3 v55 h11 k S).a21 (ix2 ⟨512 * k.val + r.val, by omega⟩ d) = 0 := by
  unfold gl1
  dsimp only
  constructor
  · have h0 := read_whole (s := S1024x1024) ![0, 0] inb_S1024x1024_S1024x1024_0_0 (by decide) S.a16
    dsimp only at h0
    rw [overlay_rows (R := 512) _ _ _ (off3_at k) _ _ r _ d]
    erw [h0]
    pointwise [k0_pay41]
    simp only [slot_at k.val hk r]
  · rw [overlay_rows (R := 512) _ _ _ (off3_at k) _ _ r _ d]
    pointwise [k0_pay42]

theorem gatherL_below (i : grid0.Coords) (hw : k0_chk1 i 7#32 2#32) (h3 : k0_cond3 i = 1#1) (v55 : Vec Ideal S1x1024 .f32) (h11 : k0_cond11 7#32 = 1#1) (k : Fin (k0_t1_loop 2#32).trips) (S : State Ideal) (r : Fin 1024) (hr : r.val < 512 * k.val) (d : Fin 1024) :
    (gl1 i 7#32 2#32 hw h3 v55 h11 k S).a20 (ix2 r d) = S.a20 (ix2 r d)
    ∧ (gl1 i 7#32 2#32 hw h3 v55 h11 k S).a21 (ix2 r d) = S.a21 (ix2 r d) := by
  unfold gl1
  dsimp only
  exact ⟨overlay_above (R := 512) _ _ _ (off3_at k) _ _ r hr d, overlay_above (R := 512) _ _ _ (off3_at k) _ _ r hr d⟩

theorem expertL (i : grid0.Coords) (hw : k0_chk1 i 7#32 2#32) (h19 : k0_cond19 7#32 = 1#1) (k : Fin (k0_t3_loop 2#32).trips) (S : State Ideal) (hk : k.val < 2) (r : Fin 512) (d : Fin 1024) :
    (el3 i 7#32 2#32 hw h19 k S).a21 (ix2 ⟨512 * k.val + r.val, by omega⟩ d) = S.a21 (ix2 ⟨512 * k.val + r.val, by omega⟩ d) + hidden (fun x => S.a20 (ix2 ⟨512 * k.val + r.val, by omega⟩ x)) S.a11 S.a12 S.a13 d := by
  unfold el3 hidden
  dsimp only
  rw [overlay_rows (R := 512) _ _ _ (off5_at k) _ _ r _ d]
  have h1 := read_whole (s := S1x1024x896) ![0, 0, 0] inb_S1x1024x896_S1x1024x896_0_0_0 (by decide) S.a11
  have h2 := read_whole (s := S1x1024x896) ![0, 0, 0] inb_S1x1024x896_S1x1024x896_0_0_0 (by decide) S.a12
  have h3 := read_whole (s := S1x896x1024) ![0, 0, 0] inb_S1x896x1024_S1x896x1024_0_0_0 (by decide) S.a13
  dsimp only at h1 h2 h3
  erw [h1, h2, h3]
  pointwise [k0_pay5]
  simp only [emb_rows (R := 512) _ _ _ (off5_at k) r (by omega) _]

theorem expertL_below (i : grid0.Coords) (hw : k0_chk1 i 7#32 2#32) (h19 : k0_cond19 7#32 = 1#1) (k : Fin (k0_t3_loop 2#32).trips) (S : State Ideal) (r : Fin 1024) (hr : r.val < 512 * k.val) (d : Fin 1024) :
    (el3 i 7#32 2#32 hw h19 k S).a21 (ix2 r d) = S.a21 (ix2 r d) := by
  unfold el3
  dsimp only
  exact overlay_above (R := 512) _ _ _ (off5_at k) _ _ r hr d

theorem expertL_above (i : grid0.Coords) (hw : k0_chk1 i 7#32 2#32) (h19 : k0_cond19 7#32 = 1#1) (k : Fin (k0_t3_loop 2#32).trips) (S : State Ideal) (hk : k.val = 0) (r : Fin 1024) (hr : 512 ≤ r.val) (d : Fin 1024) :
    (el3 i 7#32 2#32 hw h19 k S).a21 (ix2 r d) = S.a21 (ix2 r d) := by
  unfold el3
  dsimp only
  apply Rect.overlay_of_not_mem
  intro hm
  have h1 := (Rect.mem_set_unit.1 hm) 0
  rw [off5_at, hk] at h1
  have h2 : r.val < 512 * 0 + 512 := h1.2
  omega

theorem scatterL (i : grid0.Coords) (hw : k0_chk1 i 7#32 2#32) (h20 : k0_cond20 i = 1#1) (v61 v67 : FVec Ideal S1024x1 .f32) (h28 : k0_cond28 7#32 = 1#1) (k : Fin (k0_t5_loop 2#32).trips) (S : State Ideal) (hk : k.val < 2) (t d : Fin 1024) :
    (sl5 i 7#32 2#32 hw h20 v61 v67 h28 k S).a22 (ix2 t d) = S.a22 (ix2 t d) + v67 (ix2 t 0) * ∑ x : Fin 512, (if (((512 * k.val + x.val : ℕ) : ℝ) : EReal) = v61 (ix2 t 0) then 1 else 0) * S.a21 (ix2 ⟨512 * k.val + x.val, by omega⟩ d) := by
  unfold sl5
  dsimp only
  have h0 := read_whole (s := S1024x1024) ![0, 0] inb_S1024x1024_S1024x1024_0_0 (by decide) S.a22
  dsimp only at h0
  rw [overlay_whole _ _ (by decide)]
  erw [h0]
  pointwise [k0_pay8]
  refine congrArg (fun z => S.a22 (ix2 t d) + v67 (ix2 t 0) * z) (Finset.sum_congr rfl fun x _ => ?_)
  rw [slot_at k.val hk x]
  erw [emb_rows (R := 512) _ _ _ (off7_at k) x (by omega) d]

end Cert.Kernel2Ideal.Moe

end
-- ==== Proof.Moe.Phases.lean ====
module

public import proofs.«01_k».proof.Proof.Moe.Rows
public import Idealize.ShloMosaic.Lib.WordCmp

@[expose] public section

set_option maxRecDepth 16384

noncomputable section

namespace Cert.Kernel2Ideal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel2Ideal Cert.Kernel2Ideal.Gen
open Idealize.ShloMosaic (ix0 ix1 ix2 ix3)

/-- The size number, the number of chunks and the number of rows they stand for. -/
def Case (v3 v7 : BitVec 32) (N : ℕ) : Prop :=
  (v3 = 0#32 ∧ N = 128) ∨ (v3 = 1#32 ∧ N = 192) ∨ (v3 = 2#32 ∧ N = 256) ∨ (v3 = 3#32 ∧ N = 320) ∨ (v3 = 4#32 ∧ N = 384) ∨ (v3 = 5#32 ∧ N = 448) ∨ (v3 = 6#32 ∧ N = 512) ∨ (v3 = 7#32 ∧ v7 = 2#32 ∧ N = 1024)

theorem off2_at (i : grid0.Coords) : k0_off2 i = ![(i 1).val, 0] := by
  have h : (i 1).val < 8 := (i 1).isLt
  unfold k0_off2
  generalize (i 1).val = n at h
  dsimp only
  rcases (by omega : n = 0 ∨ n = 1 ∨ n = 2 ∨ n = 3 ∨ n = 4 ∨ n = 5 ∨ n = 6 ∨ n = 7) with rfl | rfl | rfl | rfl | rfl | rfl | rfl | rfl <;> decide +kernel

/-- The row of ranks of the expert of a point. -/
def rankRow (i : grid0.Coords) (h3 : k0_cond3 i = 1#1) (S : State Ideal) : Vec Ideal S1x1024 .f32 :=
  fun j => S.a19 ((Rect.unit (s := S128x1024) (k0_off2 i) S1x1024.size (k0_off2_inb i h3)).emb j)

theorem rankRow_at (i : grid0.Coords) (h3 : k0_cond3 i = 1#1) (S : State Ideal) (x : Fin 1024) :
    rankRow i h3 S (ix2 0 x) = S.a19 (ix2 ⟨(i 1).val, lt_trans (i 1).isLt (by decide)⟩ x) := by
  unfold rankRow
  refine congrArg S.a19 ?_
  funext a
  apply Fin.ext
  match a with
  | ⟨0, _⟩ => show (k0_off2 i) 0 + 1 * 0 = (i 1).val; rw [off2_at]; rfl
  | ⟨1, _⟩ => show (k0_off2 i) 1 + 1 * x.val = x.val; rw [off2_at]; show 0 + 1 * x.val = x.val; omega

/-- What the gathering leaves. -/
def Gathered (N : ℕ) (v55 : Vec Ideal S1x1024 .f32) (S S' : State Ideal) : Prop :=
  (∀ (r : Fin 1024) (d : Fin 1024), r.val < N → S'.a20 (ix2 r d) = ∑ x, (if ((r.val : ℝ) : EReal) = v55 (ix2 0 x) then 1 else 0) * S.a16 (ix2 x d))
  ∧ (∀ (r : Fin 1024) (d : Fin 1024), r.val < N → S'.a21 (ix2 r d) = 0)
  ∧ S'.a16 = S.a16 ∧ S'.a17 = S.a17 ∧ S'.a18 = S.a18 ∧ S'.a19 = S.a19 ∧ S'.a22 = S.a22

/-- What the expert leaves. -/
def Expert (N : ℕ) (S S' : State Ideal) : Prop :=
  (∀ (r : Fin 1024) (d : Fin 1024), r.val < N → S'.a21 (ix2 r d) = S.a21 (ix2 r d) + hidden (fun k => S.a20 (ix2 r k)) S.a11 S.a12 S.a13 d)
  ∧ S'.a16 = S.a16 ∧ S'.a17 = S.a17 ∧ S'.a18 = S.a18 ∧ S'.a19 = S.a19 ∧ S'.a20 = S.a20 ∧ S'.a22 = S.a22

/-- What the adding back leaves, from the column of ranks and the column of weights. -/
def Scattered (N : ℕ) (rk w : FVec Ideal S1024x1 .f32) (S S' : State Ideal) : Prop :=
  (∀ t d : Fin 1024, w (ix2 t 0) = 0 → S'.a22 (ix2 t d) = S.a22 (ix2 t d))
  ∧ (∀ t d k : Fin 1024, k.val < N → rk (ix2 t 0) = ((k.val : ℝ) : EReal) → S'.a22 (ix2 t d) = S.a22 (ix2 t d) + w (ix2 t 0) * S.a21 (ix2 k d))
  ∧ S'.a16 = S.a16 ∧ S'.a17 = S.a17 ∧ S'.a18 = S.a18 ∧ S'.a19 = S.a19 ∧ S'.a20 = S.a20 ∧ S'.a21 = S.a21

theorem nat_eq (a b : ℕ) : (((a : ℝ) : EReal) = ((b : ℝ) : EReal)) ↔ a = b := by
  rw [EReal.coe_eq_coe_iff, Nat.cast_inj]

theorem one_row {R : ℕ} (o k : ℕ) (h : o ≤ k) (hk : k - o < R) (f : Fin R → EReal) :
    ∑ x : Fin R, (if (((o + x.val : ℕ) : ℝ) : EReal) = ((k : ℝ) : EReal) then (1 : EReal) else 0) * f x = f ⟨k - o, hk⟩ := by
  rw [Finset.sum_eq_single (⟨k - o, hk⟩ : Fin R)]
  · rw [if_pos ((nat_eq _ _).2 (by show o + (k - o) = k; omega)), one_mul]
  · intro x _ hx
    rw [if_neg, zero_mul]
    intro h'
    have := (nat_eq _ _).1 h'
    exact hx (Fin.ext (by show x.val = k - o; omega))
  · intro h'; exact absurd (Finset.mem_univ _) h'

theorem one_row0 {R : ℕ} (k : ℕ) (hk : k < R) (f : Fin R → EReal) :
    ∑ x : Fin R, (if ((x.val : ℝ) : EReal) = ((k : ℝ) : EReal) then (1 : EReal) else 0) * f x = f ⟨k, hk⟩ := by
  have := one_row 0 k (Nat.zero_le _) (by omega) f
  simpa only [Nat.zero_add, Nat.sub_zero] using this

theorem no_row {R : ℕ} (o k : ℕ) (h : k < o ∨ o + R ≤ k) (f : Fin R → EReal) :
    ∑ x : Fin R, (if (((o + x.val : ℕ) : ℝ) : EReal) = ((k : ℝ) : EReal) then (1 : EReal) else 0) * f x = 0 := by
  apply Finset.sum_eq_zero
  intro x _
  rw [if_neg, zero_mul]
  intro h'
  have := (nat_eq _ _).1 h'
  have := x.isLt
  omega

theorem pay15_at (e : Fin 8) (v57 : Vec Ideal S1024x128 .f32) (t : Fin 1024) :
    k0_pay15 (BitVec.ofNat 32 e.val) v57 (ix2 t 0) = v57 (ix2 t ⟨e.val, by omega⟩) := by
  pointwise [k0_pay15, k0_pay14]
  rw [Finset.sum_eq_single (⟨e.val, by omega⟩ : Fin 128)]
  · fin_cases e <;> rfl
  · intro x _ hx
    have hne : BitVec.ofNat 32 x.val ≠ BitVec.ofNat 32 e.val := fun h => hx (Fin.ext (by
      have := congrArg BitVec.toNat h
      rw [BitVec.toNat_ofNat, BitVec.toNat_ofNat, Nat.mod_eq_of_lt (by omega), Nat.mod_eq_of_lt (by omega)] at this
      exact this))
    rw [Idealize.ShloMosaic.WordCmp.cmpi_eq_eq, decide_eq_false hne]
    rfl
  · intro h'; exact absurd (Finset.mem_univ _) h'

theorem pay16_at (e : Fin 8) (v57 : Vec Ideal S1024x128 .f32) (t : Fin 1024) :
    k0_pay16 (BitVec.ofNat 32 e.val) v57 (ix2 t 0) = v57 (ix2 t ⟨e.val, by omega⟩) := by
  pointwise [k0_pay16, k0_pay14]
  rw [Finset.sum_eq_single (⟨e.val, by omega⟩ : Fin 128)]
  · fin_cases e <;> rfl
  · intro x _ hx
    have hne : BitVec.ofNat 32 x.val ≠ BitVec.ofNat 32 e.val := fun h => hx (Fin.ext (by
      have := congrArg BitVec.toNat h
      rw [BitVec.toNat_ofNat, BitVec.toNat_ofNat, Nat.mod_eq_of_lt (by omega), Nat.mod_eq_of_lt (by omega)] at this
      exact this))
    rw [Idealize.ShloMosaic.WordCmp.cmpi_eq_eq, decide_eq_false hne]
    rfl
  · intro h'; exact absurd (Finset.mem_univ _) h'

theorem gatherF0 (i : grid0.Coords) (v7) (hw : k0_chk1 i 0#32 v7) (h3 : k0_cond3 i = 1#1) (S : State Ideal) :
    gatherF i 0#32 v7 hw h3 S = g0 (rankRow i h3 S) S := by
  unfold gatherF
  rw [dif_neg (by decide)]
  simp only [onBit, (eq_true (by decide) : (hit 0#32 0#32 = 1#1) = True), (eq_false (by decide) : (hit 0#32 1#32 = 1#1) = False), (eq_false (by decide) : (hit 0#32 2#32 = 1#1) = False), (eq_false (by decide) : (hit 0#32 3#32 = 1#1) = False), (eq_false (by decide) : (hit 0#32 4#32 = 1#1) = False), (eq_false (by decide) : (hit 0#32 5#32 = 1#1) = False), (eq_false (by decide) : (hit 0#32 6#32 = 1#1) = False), if_true, if_false]
  rfl

theorem expertF0 (i : grid0.Coords) (v7) (hw : k0_chk1 i 0#32 v7) (S : State Ideal) :
    expertF i 0#32 v7 hw S = e0 S := by
  unfold expertF
  rw [dif_neg (by decide)]
  simp only [onBit, (eq_true (by decide) : (hit 0#32 0#32 = 1#1) = True), (eq_false (by decide) : (hit 0#32 1#32 = 1#1) = False), (eq_false (by decide) : (hit 0#32 2#32 = 1#1) = False), (eq_false (by decide) : (hit 0#32 3#32 = 1#1) = False), (eq_false (by decide) : (hit 0#32 4#32 = 1#1) = False), (eq_false (by decide) : (hit 0#32 5#32 = 1#1) = False), (eq_false (by decide) : (hit 0#32 6#32 = 1#1) = False), if_true, if_false]

theorem gatherF1 (i : grid0.Coords) (v7) (hw : k0_chk1 i 1#32 v7) (h3 : k0_cond3 i = 1#1) (S : State Ideal) :
    gatherF i 1#32 v7 hw h3 S = g1 (rankRow i h3 S) S := by
  unfold gatherF
  rw [dif_neg (by decide)]
  simp only [onBit, (eq_false (by decide) : (hit 1#32 0#32 = 1#1) = False), (eq_true (by decide) : (hit 1#32 1#32 = 1#1) = True), (eq_false (by decide) : (hit 1#32 2#32 = 1#1) = False), (eq_false (by decide) : (hit 1#32 3#32 = 1#1) = False), (eq_false (by decide) : (hit 1#32 4#32 = 1#1) = False), (eq_false (by decide) : (hit 1#32 5#32 = 1#1) = False), (eq_false (by decide) : (hit 1#32 6#32 = 1#1) = False), if_true, if_false]
  rfl

theorem expertF1 (i : grid0.Coords) (v7) (hw : k0_chk1 i 1#32 v7) (S : State Ideal) :
    expertF i 1#32 v7 hw S = e1 S := by
  unfold expertF
  rw [dif_neg (by decide)]
  simp only [onBit, (eq_false (by decide) : (hit 1#32 0#32 = 1#1) = False), (eq_true (by decide) : (hit 1#32 1#32 = 1#1) = True), (eq_false (by decide) : (hit 1#32 2#32 = 1#1) = False), (eq_false (by decide) : (hit 1#32 3#32 = 1#1) = False), (eq_false (by decide) : (hit 1#32 4#32 = 1#1) = False), (eq_false (by decide) : (hit 1#32 5#32 = 1#1) = False), (eq_false (by decide) : (hit 1#32 6#32 = 1#1) = False), if_true, if_false]

theorem gatherF2 (i : grid0.Coords) (v7) (hw : k0_chk1 i 2#32 v7) (h3 : k0_cond3 i = 1#1) (S : State Ideal) :
    gatherF i 2#32 v7 hw h3 S = g2 (rankRow i h3 S) S := by
  unfold gatherF
  rw [dif_neg (by decide)]
  simp only [onBit, (eq_false (by decide) : (hit 2#32 0#32 = 1#1) = False), (eq_false (by decide) : (hit 2#32 1#32 = 1#1) = False), (eq_true (by decide) : (hit 2#32 2#32 = 1#1) = True), (eq_false (by decide) : (hit 2#32 3#32 = 1#1) = False), (eq_false (by decide) : (hit 2#32 4#32 = 1#1) = False), (eq_false (by decide) : (hit 2#32 5#32 = 1#1) = False), (eq_false (by decide) : (hit 2#32 6#32 = 1#1) = False), if_true, if_false]
  rfl

theorem expertF2 (i : grid0.Coords) (v7) (hw : k0_chk1 i 2#32 v7) (S : State Ideal) :
    expertF i 2#32 v7 hw S = e2 S := by
  unfold expertF
  rw [dif_neg (by decide)]
  simp only [onBit, (eq_false (by decide) : (hit 2#32 0#32 = 1#1) = False), (eq_false (by decide) : (hit 2#32 1#32 = 1#1) = False), (eq_true (by decide) : (hit 2#32 2#32 = 1#1) = True), (eq_false (by decide) : (hit 2#32 3#32 = 1#1) = False), (eq_false (by decide) : (hit 2#32 4#32 = 1#1) = False), (eq_false (by decide) : (hit 2#32 5#32 = 1#1) = False), (eq_false (by decide) : (hit 2#32 6#32 = 1#1) = False), if_true, if_false]

theorem gatherF3 (i : grid0.Coords) (v7) (hw : k0_chk1 i 3#32 v7) (h3 : k0_cond3 i = 1#1) (S : State Ideal) :
    gatherF i 3#32 v7 hw h3 S = g3 (rankRow i h3 S) S := by
  unfold gatherF
  rw [dif_neg (by decide)]
  simp only [onBit, (eq_false (by decide) : (hit 3#32 0#32 = 1#1) = False), (eq_false (by decide) : (hit 3#32 1#32 = 1#1) = False), (eq_false (by decide) : (hit 3#32 2#32 = 1#1) = False), (eq_true (by decide) : (hit 3#32 3#32 = 1#1) = True), (eq_false (by decide) : (hit 3#32 4#32 = 1#1) = False), (eq_false (by decide) : (hit 3#32 5#32 = 1#1) = False), (eq_false (by decide) : (hit 3#32 6#32 = 1#1) = False), if_true, if_false]
  rfl

theorem expertF3 (i : grid0.Coords) (v7) (hw : k0_chk1 i 3#32 v7) (S : State Ideal) :
    expertF i 3#32 v7 hw S = e3 S := by
  unfold expertF
  rw [dif_neg (by decide)]
  simp only [onBit, (eq_false (by decide) : (hit 3#32 0#32 = 1#1) = False), (eq_false (by decide) : (hit 3#32 1#32 = 1#1) = False), (eq_false (by decide) : (hit 3#32 2#32 = 1#1) = False), (eq_true (by decide) : (hit 3#32 3#32 = 1#1) = True), (eq_false (by decide) : (hit 3#32 4#32 = 1#1) = False), (eq_false (by decide) : (hit 3#32 5#32 = 1#1) = False), (eq_false (by decide) : (hit 3#32 6#32 = 1#1) = False), if_true, if_false]

theorem gatherF4 (i : grid0.Coords) (v7) (hw : k0_chk1 i 4#32 v7) (h3 : k0_cond3 i = 1#1) (S : State Ideal) :
    gatherF i 4#32 v7 hw h3 S = g4 (rankRow i h3 S) S := by
  unfold gatherF
  rw [dif_neg (by decide)]
  simp only [onBit, (eq_false (by decide) : (hit 4#32 0#32 = 1#1) = False), (eq_false (by decide) : (hit 4#32 1#32 = 1#1) = False), (eq_false (by decide) : (hit 4#32 2#32 = 1#1) = False), (eq_false (by decide) : (hit 4#32 3#32 = 1#1) = False), (eq_true (by decide) : (hit 4#32 4#32 = 1#1) = True), (eq_false (by decide) : (hit 4#32 5#32 = 1#1) = False), (eq_false (by decide) : (hit 4#32 6#32 = 1#1) = False), if_true, if_false]
  rfl

theorem expertF4 (i : grid0.Coords) (v7) (hw : k0_chk1 i 4#32 v7) (S : State Ideal) :
    expertF i 4#32 v7 hw S = e4 S := by
  unfold expertF
  rw [dif_neg (by decide)]
  simp only [onBit, (eq_false (by decide) : (hit 4#32 0#32 = 1#1) = False), (eq_false (by decide) : (hit 4#32 1#32 = 1#1) = False), (eq_false (by decide) : (hit 4#32 2#32 = 1#1) = False), (eq_false (by decide) : (hit 4#32 3#32 = 1#1) = False), (eq_true (by decide) : (hit 4#32 4#32 = 1#1) = True), (eq_false (by decide) : (hit 4#32 5#32 = 1#1) = False), (eq_false (by decide) : (hit 4#32 6#32 = 1#1) = False), if_true, if_false]

theorem gatherF5 (i : grid0.Coords) (v7) (hw : k0_chk1 i 5#32 v7) (h3 : k0_cond3 i = 1#1) (S : State Ideal) :
    gatherF i 5#32 v7 hw h3 S = g5 (rankRow i h3 S) S := by
  unfold gatherF
  rw [dif_neg (by decide)]
  simp only [onBit, (eq_false (by decide) : (hit 5#32 0#32 = 1#1) = False), (eq_false (by decide) : (hit 5#32 1#32 = 1#1) = False), (eq_false (by decide) : (hit 5#32 2#32 = 1#1) = False), (eq_false (by decide) : (hit 5#32 3#32 = 1#1) = False), (eq_false (by decide) : (hit 5#32 4#32 = 1#1) = False), (eq_true (by decide) : (hit 5#32 5#32 = 1#1) = True), (eq_false (by decide) : (hit 5#32 6#32 = 1#1) = False), if_true, if_false]
  rfl

theorem expertF5 (i : grid0.Coords) (v7) (hw : k0_chk1 i 5#32 v7) (S : State Ideal) :
    expertF i 5#32 v7 hw S = e5 S := by
  unfold expertF
  rw [dif_neg (by decide)]
  simp only [onBit, (eq_false (by decide) : (hit 5#32 0#32 = 1#1) = False), (eq_false (by decide) : (hit 5#32 1#32 = 1#1) = False), (eq_false (by decide) : (hit 5#32 2#32 = 1#1) = False), (eq_false (by decide) : (hit 5#32 3#32 = 1#1) = False), (eq_false (by decide) : (hit 5#32 4#32 = 1#1) = False), (eq_true (by decide) : (hit 5#32 5#32 = 1#1) = True), (eq_false (by decide) : (hit 5#32 6#32 = 1#1) = False), if_true, if_false]

theorem gatherF6 (i : grid0.Coords) (v7) (hw : k0_chk1 i 6#32 v7) (h3 : k0_cond3 i = 1#1) (S : State Ideal) :
    gatherF i 6#32 v7 hw h3 S = g6 (rankRow i h3 S) S := by
  unfold gatherF
  rw [dif_neg (by decide)]
  simp only [onBit, (eq_false (by decide) : (hit 6#32 0#32 = 1#1) = False), (eq_false (by decide) : (hit 6#32 1#32 = 1#1) = False), (eq_false (by decide) : (hit 6#32 2#32 = 1#1) = False), (eq_false (by decide) : (hit 6#32 3#32 = 1#1) = False), (eq_false (by decide) : (hit 6#32 4#32 = 1#1) = False), (eq_false (by decide) : (hit 6#32 5#32 = 1#1) = False), (eq_true (by decide) : (hit 6#32 6#32 = 1#1) = True), if_true, if_false]
  rfl

theorem expertF6 (i : grid0.Coords) (v7) (hw : k0_chk1 i 6#32 v7) (S : State Ideal) :
    expertF i 6#32 v7 hw S = e6 S := by
  unfold expertF
  rw [dif_neg (by decide)]
  simp only [onBit, (eq_false (by decide) : (hit 6#32 0#32 = 1#1) = False), (eq_false (by decide) : (hit 6#32 1#32 = 1#1) = False), (eq_false (by decide) : (hit 6#32 2#32 = 1#1) = False), (eq_false (by decide) : (hit 6#32 3#32 = 1#1) = False), (eq_false (by decide) : (hit 6#32 4#32 = 1#1) = False), (eq_false (by decide) : (hit 6#32 5#32 = 1#1) = False), (eq_true (by decide) : (hit 6#32 6#32 = 1#1) = True), if_true, if_false]

theorem scatterF0 (i : grid0.Coords) (v7) (hw : k0_chk1 i 0#32 v7) (h20 : k0_cond20 i = 1#1) (S : State Ideal) :
    scatterF i 0#32 v7 hw h20 S = s0 (BitVec.ofNat 32 (i 1).val) S.a18 S.a10 S := by
  unfold scatterF
  rw [dif_neg (by decide)]
  have h1 := read_whole (s := S1024x128) ![0, 0] inb_S1024x128_S1024x128_0_0 (by decide) S.a18
  have h2 := read_whole (s := S1024x128) ![0, 0] inb_S1024x128_S1024x128_0_0 (by decide) S.a10
  simp only [onBit, (eq_true (by decide) : (hit 0#32 0#32 = 1#1) = True), (eq_false (by decide) : (hit 0#32 1#32 = 1#1) = False), (eq_false (by decide) : (hit 0#32 2#32 = 1#1) = False), (eq_false (by decide) : (hit 0#32 3#32 = 1#1) = False), (eq_false (by decide) : (hit 0#32 4#32 = 1#1) = False), (eq_false (by decide) : (hit 0#32 5#32 = 1#1) = False), (eq_false (by decide) : (hit 0#32 6#32 = 1#1) = False), if_true, if_false]
  erw [h1, h2]

theorem scatterF1 (i : grid0.Coords) (v7) (hw : k0_chk1 i 1#32 v7) (h20 : k0_cond20 i = 1#1) (S : State Ideal) :
    scatterF i 1#32 v7 hw h20 S = s1 (BitVec.ofNat 32 (i 1).val) S.a18 S.a10 S := by
  unfold scatterF
  rw [dif_neg (by decide)]
  have h1 := read_whole (s := S1024x128) ![0, 0] inb_S1024x128_S1024x128_0_0 (by decide) S.a18
  have h2 := read_whole (s := S1024x128) ![0, 0] inb_S1024x128_S1024x128_0_0 (by decide) S.a10
  simp only [onBit, (eq_false (by decide) : (hit 1#32 0#32 = 1#1) = False), (eq_true (by decide) : (hit 1#32 1#32 = 1#1) = True), (eq_false (by decide) : (hit 1#32 2#32 = 1#1) = False), (eq_false (by decide) : (hit 1#32 3#32 = 1#1) = False), (eq_false (by decide) : (hit 1#32 4#32 = 1#1) = False), (eq_false (by decide) : (hit 1#32 5#32 = 1#1) = False), (eq_false (by decide) : (hit 1#32 6#32 = 1#1) = False), if_true, if_false]
  erw [h1, h2]

theorem scatterF2 (i : grid0.Coords) (v7) (hw : k0_chk1 i 2#32 v7) (h20 : k0_cond20 i = 1#1) (S : State Ideal) :
    scatterF i 2#32 v7 hw h20 S = s2 (BitVec.ofNat 32 (i 1).val) S.a18 S.a10 S := by
  unfold scatterF
  rw [dif_neg (by decide)]
  have h1 := read_whole (s := S1024x128) ![0, 0] inb_S1024x128_S1024x128_0_0 (by decide) S.a18
  have h2 := read_whole (s := S1024x128) ![0, 0] inb_S1024x128_S1024x128_0_0 (by decide) S.a10
  simp only [onBit, (eq_false (by decide) : (hit 2#32 0#32 = 1#1) = False), (eq_false (by decide) : (hit 2#32 1#32 = 1#1) = False), (eq_true (by decide) : (hit 2#32 2#32 = 1#1) = True), (eq_false (by decide) : (hit 2#32 3#32 = 1#1) = False), (eq_false (by decide) : (hit 2#32 4#32 = 1#1) = False), (eq_false (by decide) : (hit 2#32 5#32 = 1#1) = False), (eq_false (by decide) : (hit 2#32 6#32 = 1#1) = False), if_true, if_false]
  erw [h1, h2]

theorem scatterF3 (i : grid0.Coords) (v7) (hw : k0_chk1 i 3#32 v7) (h20 : k0_cond20 i = 1#1) (S : State Ideal) :
    scatterF i 3#32 v7 hw h20 S = s3 (BitVec.ofNat 32 (i 1).val) S.a18 S.a10 S := by
  unfold scatterF
  rw [dif_neg (by decide)]
  have h1 := read_whole (s := S1024x128) ![0, 0] inb_S1024x128_S1024x128_0_0 (by decide) S.a18
  have h2 := read_whole (s := S1024x128) ![0, 0] inb_S1024x128_S1024x128_0_0 (by decide) S.a10
  simp only [onBit, (eq_false (by decide) : (hit 3#32 0#32 = 1#1) = False), (eq_false (by decide) : (hit 3#32 1#32 = 1#1) = False), (eq_false (by decide) : (hit 3#32 2#32 = 1#1) = False), (eq_true (by decide) : (hit 3#32 3#32 = 1#1) = True), (eq_false (by decide) : (hit 3#32 4#32 = 1#1) = False), (eq_false (by decide) : (hit 3#32 5#32 = 1#1) = False), (eq_false (by decide) : (hit 3#32 6#32 = 1#1) = False), if_true, if_false]
  erw [h1, h2]

theorem scatterF4 (i : grid0.Coords) (v7) (hw : k0_chk1 i 4#32 v7) (h20 : k0_cond20 i = 1#1) (S : State Ideal) :
    scatterF i 4#32 v7 hw h20 S = s4 (BitVec.ofNat 32 (i 1).val) S.a18 S.a10 S := by
  unfold scatterF
  rw [dif_neg (by decide)]
  have h1 := read_whole (s := S1024x128) ![0, 0] inb_S1024x128_S1024x128_0_0 (by decide) S.a18
  have h2 := read_whole (s := S1024x128) ![0, 0] inb_S1024x128_S1024x128_0_0 (by decide) S.a10
  simp only [onBit, (eq_false (by decide) : (hit 4#32 0#32 = 1#1) = False), (eq_false (by decide) : (hit 4#32 1#32 = 1#1) = False), (eq_false (by decide) : (hit 4#32 2#32 = 1#1) = False), (eq_false (by decide) : (hit 4#32 3#32 = 1#1) = False), (eq_true (by decide) : (hit 4#32 4#32 = 1#1) = True), (eq_false (by decide) : (hit 4#32 5#32 = 1#1) = False), (eq_false (by decide) : (hit 4#32 6#32 = 1#1) = False), if_true, if_false]
  erw [h1, h2]

theorem scatterF5 (i : grid0.Coords) (v7) (hw : k0_chk1 i 5#32 v7) (h20 : k0_cond20 i = 1#1) (S : State Ideal) :
    scatterF i 5#32 v7 hw h20 S = s5 (BitVec.ofNat 32 (i 1).val) S.a18 S.a10 S := by
  unfold scatterF
  rw [dif_neg (by decide)]
  have h1 := read_whole (s := S1024x128) ![0, 0] inb_S1024x128_S1024x128_0_0 (by decide) S.a18
  have h2 := read_whole (s := S1024x128) ![0, 0] inb_S1024x128_S1024x128_0_0 (by decide) S.a10
  simp only [onBit, (eq_false (by decide) : (hit 5#32 0#32 = 1#1) = False), (eq_false (by decide) : (hit 5#32 1#32 = 1#1) = False), (eq_false (by decide) : (hit 5#32 2#32 = 1#1) = False), (eq_false (by decide) : (hit 5#32 3#32 = 1#1) = False), (eq_false (by decide) : (hit 5#32 4#32 = 1#1) = False), (eq_true (by decide) : (hit 5#32 5#32 = 1#1) = True), (eq_false (by decide) : (hit 5#32 6#32 = 1#1) = False), if_true, if_false]
  erw [h1, h2]

theorem scatterF6 (i : grid0.Coords) (v7) (hw : k0_chk1 i 6#32 v7) (h20 : k0_cond20 i = 1#1) (S : State Ideal) :
    scatterF i 6#32 v7 hw h20 S = s6 (k0_pay15 (BitVec.ofNat 32 (i 1).val) S.a18) (k0_pay16 (BitVec.ofNat 32 (i 1).val) S.a10) S := by
  unfold scatterF
  rw [dif_neg (by decide)]
  have h1 := read_whole (s := S1024x128) ![0, 0] inb_S1024x128_S1024x128_0_0 (by decide) S.a18
  have h2 := read_whole (s := S1024x128) ![0, 0] inb_S1024x128_S1024x128_0_0 (by decide) S.a10
  simp only [onBit, (eq_false (by decide) : (hit 6#32 0#32 = 1#1) = False), (eq_false (by decide) : (hit 6#32 1#32 = 1#1) = False), (eq_false (by decide) : (hit 6#32 2#32 = 1#1) = False), (eq_false (by decide) : (hit 6#32 3#32 = 1#1) = False), (eq_false (by decide) : (hit 6#32 4#32 = 1#1) = False), (eq_false (by decide) : (hit 6#32 5#32 = 1#1) = False), (eq_true (by decide) : (hit 6#32 6#32 = 1#1) = True), if_true, if_false]
  erw [h1, h2]

theorem gatherF7 (i : grid0.Coords) (hw : k0_chk1 i 7#32 2#32) (h3 : k0_cond3 i = 1#1) (S : State Ideal) :
    ∃ k0 k1 : Fin (k0_t1_loop 2#32).trips, k0.val = 0 ∧ k1.val = 1 ∧ gatherF i 7#32 2#32 hw h3 S = gl1 i 7#32 2#32 hw h3 (rankRow i h3 S) (by decide) k1
      (gl1 i 7#32 2#32 hw h3 (rankRow i h3 S) (by decide) k0 S) := by
  refine ⟨⟨0, by rw [trips1 _ (by decide)]; decide⟩, ⟨1, by rw [trips1 _ (by decide)]; decide⟩, rfl, rfl, ?_⟩
  unfold gatherF
  rw [dif_pos (by decide), runTrips_zero _ (trips2 _ (by decide)), runTrips_two _ (trips1 _ (by decide))]
  simp only [onBit, (eq_false (by decide) : (hit 7#32 0#32 = 1#1) = False), (eq_false (by decide) : (hit 7#32 1#32 = 1#1) = False), (eq_false (by decide) : (hit 7#32 2#32 = 1#1) = False), (eq_false (by decide) : (hit 7#32 3#32 = 1#1) = False), (eq_false (by decide) : (hit 7#32 4#32 = 1#1) = False), (eq_false (by decide) : (hit 7#32 5#32 = 1#1) = False), (eq_false (by decide) : (hit 7#32 6#32 = 1#1) = False), if_false]
  rfl

theorem expertF7 (i : grid0.Coords) (hw : k0_chk1 i 7#32 2#32) (S : State Ideal) :
    ∃ k0 k1 : Fin (k0_t3_loop 2#32).trips, k0.val = 0 ∧ k1.val = 1 ∧ expertF i 7#32 2#32 hw S = el3 i 7#32 2#32 hw (by decide) k1
      (el3 i 7#32 2#32 hw (by decide) k0 S) := by
  refine ⟨⟨0, by rw [trips3 _ (by decide)]; decide⟩, ⟨1, by rw [trips3 _ (by decide)]; decide⟩, rfl, rfl, ?_⟩
  unfold expertF
  rw [dif_pos (by decide), runTrips_zero _ (trips4 _ (by decide)), runTrips_two _ (trips3 _ (by decide))]
  simp only [onBit, (eq_false (by decide) : (hit 7#32 0#32 = 1#1) = False), (eq_false (by decide) : (hit 7#32 1#32 = 1#1) = False), (eq_false (by decide) : (hit 7#32 2#32 = 1#1) = False), (eq_false (by decide) : (hit 7#32 3#32 = 1#1) = False), (eq_false (by decide) : (hit 7#32 4#32 = 1#1) = False), (eq_false (by decide) : (hit 7#32 5#32 = 1#1) = False), (eq_false (by decide) : (hit 7#32 6#32 = 1#1) = False), if_false]

theorem scatterF7 (i : grid0.Coords) (hw : k0_chk1 i 7#32 2#32) (h20 : k0_cond20 i = 1#1) (S : State Ideal) :
    ∃ k0 k1 : Fin (k0_t5_loop 2#32).trips, k0.val = 0 ∧ k1.val = 1 ∧ scatterF i 7#32 2#32 hw h20 S = sl5 i 7#32 2#32 hw h20 (k0_pay15 (BitVec.ofNat 32 (i 1).val) S.a18) (k0_pay16 (BitVec.ofNat 32 (i 1).val) S.a10) (by decide) k1
      (sl5 i 7#32 2#32 hw h20 (k0_pay15 (BitVec.ofNat 32 (i 1).val) S.a18) (k0_pay16 (BitVec.ofNat 32 (i 1).val) S.a10) (by decide) k0 S) := by
  refine ⟨⟨0, by rw [trips5 _ (by decide)]; decide⟩, ⟨1, by rw [trips5 _ (by decide)]; decide⟩, rfl, rfl, ?_⟩
  unfold scatterF
  rw [dif_pos (by decide), runTrips_zero _ (trips6 _ (by decide)), runTrips_two _ (trips5 _ (by decide))]
  have h1 := read_whole (s := S1024x128) ![0, 0] inb_S1024x128_S1024x128_0_0 (by decide) S.a18
  have h2 := read_whole (s := S1024x128) ![0, 0] inb_S1024x128_S1024x128_0_0 (by decide) S.a10
  simp only [onBit, (eq_false (by decide) : (hit 7#32 0#32 = 1#1) = False), (eq_false (by decide) : (hit 7#32 1#32 = 1#1) = False), (eq_false (by decide) : (hit 7#32 2#32 = 1#1) = False), (eq_false (by decide) : (hit 7#32 3#32 = 1#1) = False), (eq_false (by decide) : (hit 7#32 4#32 = 1#1) = False), (eq_false (by decide) : (hit 7#32 5#32 = 1#1) = False), (eq_false (by decide) : (hit 7#32 6#32 = 1#1) = False), if_false]
  erw [h1, h2]

theorem split512 {a b : ℕ} (ha : a = 0) (hb : b = 1) (r : Fin 1024) :
    (∃ x : Fin 512, r = ⟨512 * a + x.val, by omega⟩) ∨ (∃ x : Fin 512, r = ⟨512 * b + x.val, by omega⟩) := by
  by_cases h : r.val < 512
  · exact Or.inl ⟨⟨r.val, h⟩, Fin.ext (by show r.val = 512 * a + r.val; omega)⟩
  · exact Or.inr ⟨⟨r.val - 512, by omega⟩, Fin.ext (by show r.val = 512 * b + (r.val - 512); omega)⟩

theorem gather_spec (i : grid0.Coords) (v3 v7 : BitVec 32) (N : ℕ) (hc : Case v3 v7 N) (hw : k0_chk1 i v3 v7) (h3 : k0_cond3 i = 1#1) (S : State Ideal) :
    Gathered N (rankRow i h3 S) S (gatherF i v3 v7 hw h3 S) := by
  rcases hc with ⟨rfl, rfl⟩ | ⟨rfl, rfl⟩ | ⟨rfl, rfl⟩ | ⟨rfl, rfl⟩ | ⟨rfl, rfl⟩ | ⟨rfl, rfl⟩ | ⟨rfl, rfl⟩ | ⟨rfl, rfl, rfl⟩
  · rw [gatherF0]
    exact ⟨fun r d hr => (gather0 _ S r hr d).1, fun r d hr => (gather0 _ S r hr d).2, rfl, rfl, rfl, rfl, rfl⟩
  · rw [gatherF1]
    exact ⟨fun r d hr => (gather1 _ S r hr d).1, fun r d hr => (gather1 _ S r hr d).2, rfl, rfl, rfl, rfl, rfl⟩
  · rw [gatherF2]
    exact ⟨fun r d hr => (gather2 _ S r hr d).1, fun r d hr => (gather2 _ S r hr d).2, rfl, rfl, rfl, rfl, rfl⟩
  · rw [gatherF3]
    exact ⟨fun r d hr => (gather3 _ S r hr d).1, fun r d hr => (gather3 _ S r hr d).2, rfl, rfl, rfl, rfl, rfl⟩
  · rw [gatherF4]
    exact ⟨fun r d hr => (gather4 _ S r hr d).1, fun r d hr => (gather4 _ S r hr d).2, rfl, rfl, rfl, rfl, rfl⟩
  · rw [gatherF5]
    exact ⟨fun r d hr => (gather5 _ S r hr d).1, fun r d hr => (gather5 _ S r hr d).2, rfl, rfl, rfl, rfl, rfl⟩
  · rw [gatherF6]
    exact ⟨fun r d hr => (gather6 _ S r hr d).1, fun r d hr => (gather6 _ S r hr d).2, rfl, rfl, rfl, rfl, rfl⟩
  · obtain ⟨k0, k1, e0, e1, hF⟩ := gatherF7 i hw h3 S
    rw [hF]
    refine ⟨fun r d _ => ?_, fun r d _ => ?_, by simp only [gl1], by simp only [gl1], by simp only [gl1], by simp only [gl1], by simp only [gl1]⟩
    · rcases split512 e0 e1 r with ⟨x, rfl⟩ | ⟨x, rfl⟩
      · rw [(gatherL_below i hw h3 _ _ k1 _ _ (show 512 * k0.val + x.val < 512 * k1.val by omega) d).1]
        exact (gatherL i hw h3 _ _ k0 S (by omega) x d).1
      · exact (gatherL i hw h3 _ _ k1 _ (by omega) x d).1
    · rcases split512 e0 e1 r with ⟨x, rfl⟩ | ⟨x, rfl⟩
      · rw [(gatherL_below i hw h3 _ _ k1 _ _ (show 512 * k0.val + x.val < 512 * k1.val by omega) d).2]
        exact (gatherL i hw h3 _ _ k0 S (by omega) x d).2
      · exact (gatherL i hw h3 _ _ k1 _ (by omega) x d).2

theorem expert_spec (i : grid0.Coords) (v3 v7 : BitVec 32) (N : ℕ) (hc : Case v3 v7 N) (hw : k0_chk1 i v3 v7) (S : State Ideal) :
    Expert N S (expertF i v3 v7 hw S) := by
  rcases hc with ⟨rfl, rfl⟩ | ⟨rfl, rfl⟩ | ⟨rfl, rfl⟩ | ⟨rfl, rfl⟩ | ⟨rfl, rfl⟩ | ⟨rfl, rfl⟩ | ⟨rfl, rfl⟩ | ⟨rfl, rfl, rfl⟩
  · rw [expertF0]
    exact ⟨fun r d hr => expert0 S r hr d, rfl, rfl, rfl, rfl, rfl, rfl⟩
  · rw [expertF1]
    exact ⟨fun r d hr => expert1 S r hr d, rfl, rfl, rfl, rfl, rfl, rfl⟩
  · rw [expertF2]
    exact ⟨fun r d hr => expert2 S r hr d, rfl, rfl, rfl, rfl, rfl, rfl⟩
  · rw [expertF3]
    exact ⟨fun r d hr => expert3 S r hr d, rfl, rfl, rfl, rfl, rfl, rfl⟩
  · rw [expertF4]
    exact ⟨fun r d hr => expert4 S r hr d, rfl, rfl, rfl, rfl, rfl, rfl⟩
  · rw [expertF5]
    exact ⟨fun r d hr => expert5 S r hr d, rfl, rfl, rfl, rfl, rfl, rfl⟩
  · rw [expertF6]
    exact ⟨fun r d hr => expert6 S r hr d, rfl, rfl, rfl, rfl, rfl, rfl⟩
  · obtain ⟨k0, k1, e0, e1, hF⟩ := expertF7 i hw S
    rw [hF]
    refine ⟨fun r d _ => ?_, by simp only [el3], by simp only [el3], by simp only [el3], by simp only [el3], by simp only [el3], by simp only [el3]⟩
    rcases split512 e0 e1 r with ⟨x, rfl⟩ | ⟨x, rfl⟩
    · rw [expertL_below i hw _ k1 _ _ (show 512 * k0.val + x.val < 512 * k1.val by omega) d]
      exact expertL i hw _ k0 S (by omega) x d
    · refine (expertL i hw _ k1 _ (by omega) x d).trans ?_
      rw [expertL_above i hw _ k0 S e0 _ (show 512 ≤ 512 * k1.val + x.val by omega) d]
      simp only [el3]

theorem scatter_spec (i : grid0.Coords) (v3 v7 : BitVec 32) (N : ℕ) (hc : Case v3 v7 N) (hw : k0_chk1 i v3 v7) (h20 : k0_cond20 i = 1#1) (S : State Ideal) :
    Scattered N (k0_pay15 (BitVec.ofNat 32 (i 1).val) S.a18) (k0_pay16 (BitVec.ofNat 32 (i 1).val) S.a10) S (scatterF i v3 v7 hw h20 S) := by
  rcases hc with ⟨rfl, rfl⟩ | ⟨rfl, rfl⟩ | ⟨rfl, rfl⟩ | ⟨rfl, rfl⟩ | ⟨rfl, rfl⟩ | ⟨rfl, rfl⟩ | ⟨rfl, rfl⟩ | ⟨rfl, rfl, rfl⟩
  · rw [scatterF0]
    refine ⟨fun t d h => ?_, fun t d k hk h => ?_, rfl, rfl, rfl, rfl, rfl, rfl⟩
    · rw [scatter0 _ _ _ S t d, h, zero_mul, add_zero]
    · rw [scatter0 _ _ _ S t d, h, one_row0 k.val hk]
  · rw [scatterF1]
    refine ⟨fun t d h => ?_, fun t d k hk h => ?_, rfl, rfl, rfl, rfl, rfl, rfl⟩
    · rw [scatter1 _ _ _ S t d, h, zero_mul, add_zero]
    · rw [scatter1 _ _ _ S t d, h, one_row0 k.val hk]
  · rw [scatterF2]
    refine ⟨fun t d h => ?_, fun t d k hk h => ?_, rfl, rfl, rfl, rfl, rfl, rfl⟩
    · rw [scatter2 _ _ _ S t d, h, zero_mul, add_zero]
    · rw [scatter2 _ _ _ S t d, h, one_row0 k.val hk]
  · rw [scatterF3]
    refine ⟨fun t d h => ?_, fun t d k hk h => ?_, rfl, rfl, rfl, rfl, rfl, rfl⟩
    · rw [scatter3 _ _ _ S t d, h, zero_mul, add_zero]
    · rw [scatter3 _ _ _ S t d, h, one_row0 k.val hk]
  · rw [scatterF4]
    refine ⟨fun t d h => ?_, fun t d k hk h => ?_, rfl, rfl, rfl, rfl, rfl, rfl⟩
    · rw [scatter4 _ _ _ S t d, h, zero_mul, add_zero]
    · rw [scatter4 _ _ _ S t d, h, one_row0 k.val hk]
  · rw [scatterF5]
    refine ⟨fun t d h => ?_, fun t d k hk h => ?_, rfl, rfl, rfl, rfl, rfl, rfl⟩
    · rw [scatter5 _ _ _ S t d, h, zero_mul, add_zero]
    · rw [scatter5 _ _ _ S t d, h, one_row0 k.val hk]
  · rw [scatterF6]
    refine ⟨fun t d h => ?_, fun t d k hk h => ?_, rfl, rfl, rfl, rfl, rfl, rfl⟩
    · rw [scatter6 _ _ S t d, h, zero_mul, add_zero]
    · rw [scatter6 _ _ S t d, h, one_row0 k.val hk]
  · obtain ⟨k0, k1, e0, e1, hF⟩ := scatterF7 i hw h20 S
    rw [hF]
    refine ⟨fun t d h => ?_, fun t d k hk h => ?_, rfl, rfl, rfl, rfl, rfl, rfl⟩
    · rw [scatterL i hw h20 _ _ _ k1 _ (by omega) t d, scatterL i hw h20 _ _ _ k0 _ (by omega) t d,
        h, zero_mul, add_zero, zero_mul, add_zero]
    · rw [scatterL i hw h20 _ _ _ k1 _ (by omega) t d, scatterL i hw h20 _ _ _ k0 _ (by omega) t d, h]
      by_cases hb : k.val < 512
      · rw [one_row (512 * k0.val) k.val (by omega) (by omega), no_row (512 * k1.val) k.val (Or.inl (by omega)), mul_zero, add_zero]
        have hx : (⟨512 * k0.val + (k.val - 512 * k0.val), by omega⟩ : Fin 1024) = k := Fin.ext (by show 512 * k0.val + (k.val - 512 * k0.val) = k.val; omega)
        exact congrArg (fun z => S.a22 (ix2 t d) + k0_pay16 (BitVec.ofNat 32 (i 1).val) S.a10 (ix2 t 0) * S.a21 (ix2 z d)) hx
      · rw [no_row (512 * k0.val) k.val (Or.inr (by omega)), mul_zero, add_zero, one_row (512 * k1.val) k.val (by omega) (by omega)]
        have hx : (⟨512 * k1.val + (k.val - 512 * k1.val), by omega⟩ : Fin 1024) = k := Fin.ext (by show 512 * k1.val + (k.val - 512 * k1.val) = k.val; omega)
        exact congrArg (fun z => S.a22 (ix2 t d) + k0_pay16 (BitVec.ofNat 32 (i 1).val) S.a10 (ix2 t 0) * S.a21 (ix2 z d)) hx

end Cert.Kernel2Ideal.Moe

end
-- ==== Proof.Moe.Rank.lean ====
module

public import proofs.«01_k».proof.Proof.Moe.Phases

@[expose] public section

set_option maxRecDepth 16384

noncomputable section

namespace Cert.Kernel2Ideal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel2Ideal Cert.Kernel2Ideal.Gen
open Idealize.ShloMosaic (ix0 ix1 ix2 ix3)
open Classical in
/-- How many of the first `t` rows have the property. -/
def rk (P : Fin 1024 → Prop) (t : Fin 1024) : ℕ := (Finset.univ.filter fun s => s.val < t.val ∧ P s).card

open Classical in
theorem rk_lt (P : Fin 1024 → Prop) (t : Fin 1024) (h : P t) : rk P t < (Finset.univ.filter fun s => P s).card := by
  unfold rk
  refine Finset.card_lt_card ⟨fun x hx => ?_, fun h' => ?_⟩
  · simp only [Finset.mem_filter, Finset.mem_univ, true_and] at hx ⊢
    exact hx.2
  · have := h' (show t ∈ _ by simp only [Finset.mem_filter, Finset.mem_univ, true_and]; exact h)
    simp only [Finset.mem_filter, Finset.mem_univ, true_and] at this
    omega

theorem rk_lt_rk (P : Fin 1024 → Prop) (s t : Fin 1024) (h : P s) (hst : s.val < t.val) : rk P s < rk P t := by
  unfold rk
  refine Finset.card_lt_card ⟨fun x hx => ?_, fun h' => ?_⟩
  · simp only [Finset.mem_filter, Finset.mem_univ, true_and] at hx ⊢
    exact ⟨by omega, hx.2⟩
  · have := h' (show s ∈ _ by simp only [Finset.mem_filter, Finset.mem_univ, true_and]; exact ⟨hst, h⟩)
    simp only [Finset.mem_filter, Finset.mem_univ, true_and] at this
    omega

theorem rk_inj (P : Fin 1024 → Prop) (s t : Fin 1024) (hs : P s) (ht : P t) (h : rk P s = rk P t) : s = t := by
  rcases lt_trichotomy s.val t.val with h' | h' | h'
  · have := rk_lt_rk P s t hs h'; omega
  · exact Fin.ext h'
  · have := rk_lt_rk P t s ht h'; omega

open Classical in
theorem sum_card (P : Fin 1024 → Prop) (S : Finset (Fin 1024)) : (∑ s ∈ S, if P s then (1 : EReal) else 0) = (((S.filter P).card : ℝ) : EReal) := by
  induction S using Finset.induction_on with
  | empty => simp
  | insert a S ha ih =>
    rw [Finset.sum_insert ha, ih, Finset.filter_insert]
    by_cases hp : P a
    · rw [if_pos hp, if_pos hp, Finset.card_insert_of_notMem (by simp [ha]), Nat.cast_add, Nat.cast_one, EReal.coe_add, EReal.coe_one, add_comm]
    · rw [if_neg hp, if_neg hp, zero_add]

theorem tri_at (t s : Fin 1024) : (k0_pay23 (F := Ideal)) (ix2 t s) = if s.val < t.val then (1 : EReal) else 0 := by
  pointwise [k0_pay23]
  rw [WordCmp.cmpi_slt_of_lt (by rw [BitVec.toNat_ofNat]; omega) (by rw [BitVec.toNat_ofNat]; omega), WordCmp.select_ofBool,
    BitVec.toNat_ofNat, BitVec.toNat_ofNat, Nat.mod_eq_of_lt (by omega), Nat.mod_eq_of_lt (by omega)]
  simp only [decide_eq_true_eq]

theorem zero_at (t d : Fin 1024) : (k0_pay12 (F := Ideal)) (ix2 t d) = (0 : EReal) := by
  pointwise [k0_pay12]

/-- The rank of a token among an expert's members. -/
def rank (comb : Vec Ideal S1024x128 .f32) (e : Fin 128) (t : Fin 1024) : ℕ := rk (fun s => (0 : EReal) < comb (ix2 s e)) t

theorem rank_at (comb : Vec Ideal S1024x128 .f32) (t : Fin 1024) (e : Fin 128) :
    k0_pay25 (k0_pay13 comb) (Scalar.ofBits .f32 0x00000000#32) (k0_pay23 (F := Ideal)) (ix2 t e) = if (0 : EReal) < comb (ix2 t e) then ((rank comb e t : ℝ) : EReal) else -1 := by
  have h23 := tri_at
  generalize (k0_pay23 (F := Ideal)) = tri at h23
  pointwise [k0_pay25, k0_pay24, k0_pay13]
  by_cases h : (0 : EReal) < comb (ix2 t e)
  · rw [if_pos h, if_pos h, if_pos zero_lt_one]
    refine (Finset.sum_congr rfl fun x _ => ?_).trans ((sum_card (fun s => s.val < t.val ∧ (0 : EReal) < comb (ix2 s e)) Finset.univ).trans ?_)
    · rw [h23]
      by_cases h1 : x.val < t.val <;> by_cases h2 : (0 : EReal) < comb (ix2 x e) <;> simp [h1, h2]
    · unfold rank rk
      congr!
  · rw [if_neg h, if_neg h, if_neg (lt_irrefl _)]
    simp [Ideal.ofBits, Ideal.ieee, -EReal.coe_mul]
    try norm_num

theorem rankT_at (comb : Vec Ideal S1024x128 .f32) (tri : Vec Ideal S1024x1024 .bf16) (t : Fin 1024) (e : Fin 128) :
    k0_pay26 (k0_pay13 comb) (Scalar.ofBits .f32 0x00000000#32) tri (ix2 e t) = k0_pay25 (k0_pay13 comb) (Scalar.ofBits .f32 0x00000000#32) tri (ix2 t e) := by
  pointwise [k0_pay26, k0_pay25]

theorem nat_ne_neg (n : ℕ) : ((n : ℝ) : EReal) ≠ -1 := by
  intro h
  have h1 : (((n : ℝ)) : EReal) = ((-1 : ℝ) : EReal) := by rw [h, EReal.coe_neg, EReal.coe_one]
  have h2 := EReal.coe_eq_coe_iff.1 h1
  have h3 : (0 : ℝ) ≤ n := Nat.cast_nonneg n
  linarith

/-- Only the member itself stands at its rank. -/
theorem rank_pick (comb : Vec Ideal S1024x128 .f32) (e : Fin 128) (t : Fin 1024) (ht : (0 : EReal) < comb (ix2 t e)) (v : Fin 1024 → EReal)
    (hv : ∀ x, v x = if (0 : EReal) < comb (ix2 x e) then ((rank comb e x : ℝ) : EReal) else -1) (f : Fin 1024 → EReal) :
    ∑ x, (if ((rank comb e t : ℝ) : EReal) = v x then (1 : EReal) else 0) * f x = f t := by
  rw [Finset.sum_eq_single t]
  · rw [hv, if_pos ht, if_pos rfl, one_mul]
  · intro x _ hx
    rw [if_neg, zero_mul]
    rw [hv]
    by_cases h : (0 : EReal) < comb (ix2 x e)
    · rw [if_pos h]
      intro h'
      exact hx (rk_inj _ x t h ht ((nat_eq _ _).1 h').symm)
    · rw [if_neg h]
      exact nat_ne_neg _
  · intro h'; exact absurd (Finset.mem_univ _) h'

end Cert.Kernel2Ideal.Moe

end
-- ==== Proof.Moe.Tile.lean ====
module

public import proofs.«01_k».proof.Proof.Moe.Rank

@[expose] public section

set_option maxRecDepth 16384

noncomputable section

namespace Cert.Kernel2Ideal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel2Ideal Cert.Kernel2Ideal.Gen
open Idealize.ShloMosaic (ix0 ix1 ix2 ix3)

/-- The blocks of the arguments: by the number of the tile, of the expert and of the block of its width. -/
structure Args where
  x : ℕ → Vec Ideal S1024x1024 .f32
  g : Vec Ideal S1x1024 .f32
  sc : ℕ → Vec Ideal S1x1x1024 .f32
  sh : ℕ → Vec Ideal S1x1x1024 .f32
  g2 : ℕ → Vec Ideal S1x1x1024 .f32
  comb : ℕ → Vec Ideal S1024x128 .f32
  w1 : ℕ → ℕ → Vec Ideal S1x1024x896 .bf16
  w3 : ℕ → ℕ → Vec Ideal S1x1024x896 .bf16
  w2 : ℕ → ℕ → Vec Ideal S1x896x1024 .bf16
  fg : Vec Ideal S1x1024 .f32

/-- The lane of an expert. -/
def ln (e : ℕ) : Fin 128 := ⟨e % 128, Nat.mod_lt _ (by decide)⟩

variable (A : Args)

/-- The normalised tile. -/
def Args.h (i : ℕ) : Vec Ideal S1024x1024 .bf16 := k0_pay11 (A.x i) A.g (A.sc i) (A.sh i)

/-- The ranks of the tokens of a tile. -/
def Args.r (i : ℕ) : Vec Ideal S1024x128 .f32 := k0_pay25 (k0_pay13 (A.comb i)) (Scalar.ofBits .f32 0x00000000#32) (k0_pay23 (F := Ideal))

/-- The ranks, as rows. -/
def Args.rT (i : ℕ) : Vec Ideal S128x1024 .f32 := k0_pay26 (k0_pay13 (A.comb i)) (Scalar.ofBits .f32 0x00000000#32) (k0_pay23 (F := Ideal))

/-- A token of the tile goes to the expert. -/
def Args.mem (i e : ℕ) (t : Fin 1024) : Prop := (0 : EReal) < A.comb i (ix2 t (ln e))

/-- What the first `j` blocks of an expert's width give for a token. -/
def Args.y (i e : ℕ) (t : Fin 1024) : ℕ → Fin 1024 → EReal
  | 0, _ => 0
  | j + 1, d => Args.y i e t j d + hidden (fun k => A.h i (ix2 t k)) (A.w1 e j) (A.w3 e j) (A.w2 e j) d

/-- What the first `e` experts give for a token. -/
def Args.acc (i : ℕ) (t : Fin 1024) : ℕ → Fin 1024 → EReal
  | 0, _ => 0
  | e + 1, d => Args.acc i t e d + A.comb i (ix2 t (ln e)) * A.y i e t 4 d

/-- What holds between two points of one tile. -/
def Mid (i e : ℕ) (a16 : Vec Ideal S1024x1024 .bf16) (a18 : Vec Ideal S1024x128 .f32) (a19 : Vec Ideal S128x1024 .f32) (a22 : Vec Ideal S1024x1024 .f32) : Prop :=
  a16 = A.h i ∧ a18 = A.r i ∧ a19 = A.rT i ∧ ∀ t d : Fin 1024, a22 (ix2 t d) = A.acc i t e d

/-- What the gathered rows hold between two points of one expert. -/
def Held' (i e j : ℕ) (a20 : Vec Ideal S1024x1024 .bf16) (a21 : Vec Ideal S1024x1024 .f32) : Prop :=
  ∀ t : Fin 1024, A.mem i e t → ∀ r : Fin 1024, r.val = rank (A.comb i) (ln e) t →
    (∀ d : Fin 1024, a20 (ix2 r d) = A.h i (ix2 t d)) ∧ ∀ d : Fin 1024, a21 (ix2 r d) = A.y i e t j d

/-- What holds before a point. -/
def Pre (i e j : ℕ) (Q : Scr Ideal) : Prop :=
  (¬ (i = 0 ∧ e = 0 ∧ j = 0) → Q.2.1 = k0_pay23 (F := Ideal))
  ∧ (¬ (e = 0 ∧ j = 0) → Mid A i e Q.1 Q.2.2.1 Q.2.2.2.1 Q.2.2.2.2.2.2)
  ∧ (j ≠ 0 → Held' A i e j Q.2.2.2.2.1 Q.2.2.2.2.2.1)

/-- The windows hold the blocks of a point. -/
def Here (i e j : ℕ) (S : State Ideal) : Prop :=
  (ins S).2.2 = (A.x i, A.g, A.sc i, A.sh i, A.g2 i, A.comb i, A.w1 e j, A.w3 e j, A.w2 e j, A.fg)

theorem Here.of (i e j : ℕ) (S S' : State Ideal) (h : ins S' = ins S) (H : Here A i e j S) : Here A i e j S' := by
  unfold Here at *
  rw [h]; exact H

theorem here_all (i e j : ℕ) (S : State Ideal) (H : Here A i e j S) :
    S.a5 = A.x i ∧ S.a6 = A.g ∧ S.a7 = A.sc i ∧ S.a8 = A.sh i ∧ S.a9 = A.g2 i ∧ S.a10 = A.comb i ∧ S.a11 = A.w1 e j ∧ S.a12 = A.w3 e j ∧ S.a13 = A.w2 e j ∧ S.a14 = A.fg := by
  unfold Here ins at H
  simpa only [Prod.mk.injEq] using H

theorem bits_first : ∀ (a : Fin 32) (b : Fin 8) (c : Fin 4), (Scalar.cmpi .ne (Scalar.extui (Scalar.andi (Scalar.cmpi .eq (BitVec.ofNat 32 a.val) 0#32)
    (Scalar.andi (Scalar.cmpi .eq (BitVec.ofNat 32 b.val) 0#32) (Scalar.cmpi .eq (BitVec.ofNat 32 c.val) 0#32))) : BitVec 32) 0#32 = 1#1) ↔ (a.val = 0 ∧ b.val = 0 ∧ c.val = 0) := by
  decide +kernel

theorem bits_tile : ∀ (b : Fin 8) (c : Fin 4), (Scalar.cmpi .ne (Scalar.extui (Scalar.andi (Scalar.cmpi .eq (BitVec.ofNat 32 b.val) 0#32)
    (Scalar.cmpi .eq (BitVec.ofNat 32 c.val) 0#32)) : BitVec 32) 0#32 = 1#1) ↔ (b.val = 0 ∧ c.val = 0) := by
  decide +kernel

theorem cond3_iff (ic : grid0.Coords) : k0_cond3 ic = 1#1 ↔ (ic 2).val = 0 := by
  have h : (ic 2).val < 4 := (ic 2).isLt
  unfold k0_cond3
  generalize (ic 2).val = n at h
  rcases (by omega : n = 0 ∨ n = 1 ∨ n = 2 ∨ n = 3) with rfl | rfl | rfl | rfl <;> decide +kernel

theorem cond20_iff (ic : grid0.Coords) : k0_cond20 ic = 1#1 ↔ (ic 2).val = 3 := by
  have h : (ic 2).val < 4 := (ic 2).isLt
  unfold k0_cond20
  generalize (ic 2).val = n at h
  rcases (by omega : n = 0 ∨ n = 1 ∨ n = 2 ∨ n = 3) with rfl | rfl | rfl | rfl <;> decide +kernel

theorem cond29_iff (ic : grid0.Coords) : k0_cond29 ic = 1#1 ↔ ((ic 2).val = 3 ∧ (ic 1).val = 7) := by
  have h : (ic 2).val < 4 := (ic 2).isLt
  have h' : (ic 1).val < 8 := (ic 1).isLt
  unfold k0_cond29
  generalize (ic 2).val = n at h
  generalize (ic 1).val = n' at h'
  rcases (by omega : n = 0 ∨ n = 1 ∨ n = 2 ∨ n = 3) with rfl | rfl | rfl | rfl <;>
    rcases (by omega : n' = 0 ∨ n' = 1 ∨ n' = 2 ∨ n' = 3 ∨ n' = 4 ∨ n' = 5 ∨ n' = 6 ∨ n' = 7) with rfl | rfl | rfl | rfl | rfl | rfl | rfl | rfl <;> decide +kernel

section

variable (ic : grid0.Coords)

theorem first_iff : atFirst ic = 1#1 ↔ ((ic 0).val = 0 ∧ (ic 1).val = 0 ∧ (ic 2).val = 0) := bits_first (ic 0) (ic 1) (ic 2)
theorem tile_iff : atTile ic = 1#1 ↔ ((ic 1).val = 0 ∧ (ic 2).val = 0) := bits_tile (ic 1) (ic 2)

theorem tri_a17 (S : State Ideal) : (triF S).a17 = k0_pay23 (F := Ideal) := by
  unfold triF
  dsimp only
  rw [overlay_whole _ _ (by decide)]

theorem init_out (i e j : ℕ) (S : State Ideal) (H : Here A i e j S) (h17 : S.a17 = k0_pay23 (F := Ideal)) :
    Mid A i 0 (init2 (init1 S)).a16 (init2 (init1 S)).a18 (init2 (init1 S)).a19 (init2 (init1 S)).a22 ∧ (init2 (init1 S)).a17 = k0_pay23 (F := Ideal) := by
  obtain ⟨h5, h6, h7, h8, h9, h10, h11, h12, h13, h14⟩ := here_all A i e j S H
  have r5 := read_whole (s := S1024x1024) ![0, 0] inb_S1024x1024_S1024x1024_0_0 (by decide) S.a5
  have r6 := read_whole (s := S1x1024) ![0, 0] inb_S1x1024_S1x1024_0_0 (by decide) S.a6
  have r7 := read_whole (s := S1x1x1024) ![0, 0, 0] inb_S1x1x1024_S1x1x1024_0_0_0 (by decide) S.a7
  have r8 := read_whole (s := S1x1x1024) ![0, 0, 0] inb_S1x1x1024_S1x1x1024_0_0_0 (by decide) S.a8
  have r10 := read_whole (s := S1024x128) ![0, 0] inb_S1024x128_S1024x128_0_0 (by decide) S.a10
  have r17 := read_whole (s := S1024x1024) ![0, 0] inb_S1024x1024_S1024x1024_0_0 (by decide) S.a17
  unfold init2 init1
  dsimp only
  refine ⟨⟨?_, ?_, ?_, ?_⟩, h17⟩
  · rw [overlay_whole _ _ (by decide)]
    erw [r5, r6, r7, r8]
    rw [h5, h6, h7, h8]; rfl
  · rw [overlay_whole _ _ (by decide)]
    erw [r10, r17]
    rw [h10, h17]; rfl
  · rw [overlay_whole _ _ (by decide)]
    erw [r10, r17]
    rw [h10, h17]; rfl
  · intro t d
    rw [overlay_whole _ _ (by decide), zero_at]; rfl

variable (v3 v7 : BitVec 32) (N : ℕ) (hc : Case v3 v7 N) (hw : k0_chk1 ic v3 v7)

open Classical in
theorem rank_lt (i e : ℕ) (hN : (Finset.univ.filter fun t => A.mem i e t).card ≤ N) (t : Fin 1024) (ht : A.mem i e t) : rank (A.comb i) (ln e) t < N := by
  refine lt_of_lt_of_le ?_ hN
  exact rk_lt (A.mem i e) t ht

theorem ln_coord : (⟨(ic 1).val, by have : (ic 1).val < 8 := (ic 1).isLt; omega⟩ : Fin 128) = ln (ic 1).val :=
  Fin.ext (by have : (ic 1).val < 8 := (ic 1).isLt; show (ic 1).val = (ic 1).val % 128; omega)

include hc
open Classical in
theorem gather_out (i : ℕ) (S : State Ideal) (h3 : k0_cond3 ic = 1#1) (hM : Mid A i (ic 1).val S.a16 S.a18 S.a19 S.a22)
    (hN : (Finset.univ.filter fun t => A.mem i (ic 1).val t).card ≤ N) :
    Mid A i (ic 1).val (gatherF ic v3 v7 hw h3 S).a16 (gatherF ic v3 v7 hw h3 S).a18 (gatherF ic v3 v7 hw h3 S).a19 (gatherF ic v3 v7 hw h3 S).a22
    ∧ (gatherF ic v3 v7 hw h3 S).a17 = S.a17 ∧ Held' A i (ic 1).val 0 (gatherF ic v3 v7 hw h3 S).a20 (gatherF ic v3 v7 hw h3 S).a21 := by
  obtain ⟨g20, g21, k16, k17, k18, k19, k22⟩ := gather_spec ic v3 v7 N hc hw h3 S
  refine ⟨by rw [k16, k18, k19, k22]; exact hM, k17, ?_⟩
  intro t ht r hr
  have hlt := rank_lt A N i (ic 1).val hN t ht
  refine ⟨fun d => ?_, fun d => ?_⟩
  · rw [g20 r d (by omega), hr, hM.1]
    refine rank_pick (A.comb i) (ln (ic 1).val) t ht _ (fun x => ?_) (fun x => A.h i (ix2 x d))
    rw [rankRow_at, hM.2.2.1, ln_coord]
    exact (rankT_at _ _ _ _).trans (rank_at _ _ _)
  · rw [g21 r d (by omega)]; rfl

open Classical in
theorem expert_out (i j : ℕ) (S : State Ideal) (H : Here A i (ic 1).val j S) (hM : Mid A i (ic 1).val S.a16 S.a18 S.a19 S.a22) (hR : Held' A i (ic 1).val j S.a20 S.a21)
    (hN : (Finset.univ.filter fun t => A.mem i (ic 1).val t).card ≤ N) :
    Mid A i (ic 1).val (expertF ic v3 v7 hw S).a16 (expertF ic v3 v7 hw S).a18 (expertF ic v3 v7 hw S).a19 (expertF ic v3 v7 hw S).a22
    ∧ (expertF ic v3 v7 hw S).a17 = S.a17 ∧ Held' A i (ic 1).val (j + 1) (expertF ic v3 v7 hw S).a20 (expertF ic v3 v7 hw S).a21 := by
  obtain ⟨g21, k16, k17, k18, k19, k20, k22⟩ := expert_spec ic v3 v7 N hc hw S
  obtain ⟨h5, h6, h7, h8, h9, h10, h11, h12, h13, h14⟩ := here_all A i _ j S H
  refine ⟨by rw [k16, k18, k19, k22]; exact hM, k17, ?_⟩
  intro t ht r hr
  have hlt := rank_lt A N i (ic 1).val hN t ht
  obtain ⟨q20, q21⟩ := hR t ht r hr
  refine ⟨fun d => by rw [k20]; exact q20 d, fun d => ?_⟩
  rw [g21 r d (by omega), q21 d, h11, h12, h13, funext q20]
  rfl

open Classical in
theorem scatter_out (i j : ℕ) (S : State Ideal) (H : Here A i (ic 1).val j S) (h20 : k0_cond20 ic = 1#1) (hM : Mid A i (ic 1).val S.a16 S.a18 S.a19 S.a22) (hR : Held' A i (ic 1).val 4 S.a20 S.a21)
    (hnn : ∀ t, (0 : EReal) ≤ A.comb i (ix2 t (ln (ic 1).val)))
    (hN : (Finset.univ.filter fun t => A.mem i (ic 1).val t).card ≤ N) :
    Mid A i ((ic 1).val + 1) (scatterF ic v3 v7 hw h20 S).a16 (scatterF ic v3 v7 hw h20 S).a18 (scatterF ic v3 v7 hw h20 S).a19 (scatterF ic v3 v7 hw h20 S).a22
    ∧ (scatterF ic v3 v7 hw h20 S).a17 = S.a17 := by
  obtain ⟨g0, g1, k16, k17, k18, k19, k20, k21⟩ := scatter_spec ic v3 v7 N hc hw h20 S
  obtain ⟨h5, h6, h7, h8, h9, h10, h11, h12, h13, h14⟩ := here_all A i _ j S H
  obtain ⟨m16, m18, m19, m22⟩ := hM
  have hw16 : ∀ t, k0_pay16 (BitVec.ofNat 32 (ic 1).val) S.a10 (ix2 t 0) = A.comb i (ix2 t (ln (ic 1).val)) := fun t => by
    rw [h10]; exact (pay16_at (ic 1) (A.comb i) t).trans (congrArg (fun z => A.comb i (ix2 t z)) (ln_coord ic))
  have hw15 : ∀ t, k0_pay15 (BitVec.ofNat 32 (ic 1).val) S.a18 (ix2 t 0) = A.r i (ix2 t (ln (ic 1).val)) := fun t => by
    rw [m18]; exact (pay15_at (ic 1) (A.r i) t).trans (congrArg (fun z => A.r i (ix2 t z)) (ln_coord ic))
  refine ⟨⟨k16.trans m16, k18.trans m18, k19.trans m19, fun t d => ?_⟩, k17⟩
  by_cases ht : A.mem i (ic 1).val t
  · have hlt := rank_lt A N i (ic 1).val hN t ht
    have hN' : rank (A.comb i) (ln (ic 1).val) t < 1024 := by
      have h1 := rank_lt A _ i (ic 1).val le_rfl t ht
      refine lt_of_lt_of_le h1 ((Finset.card_le_univ _).trans (by rw [Fintype.card_fin]))
    rw [g1 t d ⟨rank (A.comb i) (ln (ic 1).val) t, hN'⟩ hlt (by rw [hw15]; exact (rank_at _ _ _).trans (if_pos ht)), m22, hw16, (hR t ht ⟨_, hN'⟩ rfl).2 d]
    rfl
  · have h0 : A.comb i (ix2 t (ln (ic 1).val)) = 0 := le_antisymm (not_lt.1 ht) (hnn t)
    rw [g0 t d (by rw [hw16, h0]), m22]
    show _ = A.acc i t (ic 1).val d + A.comb i (ix2 t (ln (ic 1).val)) * A.y i (ic 1).val t 4 d
    rw [h0, zero_mul, add_zero]

open Classical in
/-- What holds after a point, from what holds before it. -/
theorem body_step (i e j : ℕ) (h0 : (ic 0).val = i) (h1 : (ic 1).val = e) (h2 : (ic 2).val = j) (S : State Ideal) (H : Here A i e j S) (hP : Pre A i e j (scr S))
    (hnn : ∀ t, (0 : EReal) ≤ A.comb i (ix2 t (ln e)))
    (hN : (Finset.univ.filter fun t => A.mem i e t).card ≤ N) :
    (bodyF ic v3 v7 hw S).a17 = k0_pay23 (F := Ideal)
    ∧ Mid A i (if j = 3 then e + 1 else e) (bodyF ic v3 v7 hw S).a16 (bodyF ic v3 v7 hw S).a18 (bodyF ic v3 v7 hw S).a19 (bodyF ic v3 v7 hw S).a22
    ∧ (j ≠ 3 → Held' A i e (j + 1) (bodyF ic v3 v7 hw S).a20 (bodyF ic v3 v7 hw S).a21)
    ∧ (j = 3 → e = 7 → ∀ t d : Fin 1024, (bodyF ic v3 v7 hw S).a15 (ix2 t d) = k0_pay10 (A.x i) (A.g2 i) (fun y => A.acc i (y 0) 8 (y 1)) A.fg (ix2 t d)) := by
  subst h1
  obtain ⟨p17, pM, pR⟩ := hP
  -- the start of a tile
  have s1 : ∃ S1, onBit (atTile ic) (fun S => init2 (init1 S)) (onBit (atFirst ic) triF S) = S1 ∧ ins S1 = ins S ∧ S1.a17 = k0_pay23 (F := Ideal)
      ∧ Mid A i (ic 1).val S1.a16 S1.a18 S1.a19 S1.a22 ∧ (j ≠ 0 → Held' A i (ic 1).val j S1.a20 S1.a21) := by
    refine ⟨_, rfl, ?_⟩
    have hf := first_iff ic
    have ht := tile_iff ic
    rw [h0, h2] at hf
    rw [h2] at ht
    by_cases c1 : (ic 1).val = 0 ∧ j = 0
    · have h17 : (onBit (atFirst ic) triF S).a17 = k0_pay23 (F := Ideal) := by
        by_cases c0 : i = 0 ∧ (ic 1).val = 0 ∧ j = 0
        · simp only [onBit]; rw [if_pos (hf.2 c0)]; exact tri_a17 S
        · simp only [onBit]; rw [if_neg (fun h => c0 (hf.1 h))]; exact p17 c0
      have hi : ins (onBit (atFirst ic) triF S) = ins S := by
        simp only [onBit]; split
        · exact ins_triF S
        · rfl
      have hx := init_out A i (ic 1).val j (onBit (atFirst ic) triF S) (Here.of A _ _ _ _ _ hi H) h17
      have e1 : onBit (atTile ic) (fun S => init2 (init1 S)) (onBit (atFirst ic) triF S) = init2 (init1 (onBit (atFirst ic) triF S)) := if_pos (ht.2 c1)
      rw [e1]
      refine ⟨((ins_init2 _).trans (ins_init1 _)).trans hi, hx.2, ?_, fun h => absurd c1.2 h⟩
      rw [c1.1]; exact hx.1
    · have c0 : ¬ (i = 0 ∧ (ic 1).val = 0 ∧ j = 0) := fun h => c1 h.2
      have e0 : onBit (atFirst ic) triF S = S := if_neg (fun h => c0 (hf.1 h))
      have e1 : onBit (atTile ic) (fun S => init2 (init1 S)) S = S := if_neg (fun h => c1 (ht.1 h))
      rw [e0, e1]
      exact ⟨rfl, p17 c0, pM c1, pR⟩
  obtain ⟨S1, E1, i1, t17, tM, tR⟩ := s1
  have s2 : ∃ S2, (if h : k0_cond3 ic = 1#1 then gatherF ic v3 v7 hw h S1 else S1) = S2 ∧ ins S2 = ins S ∧ S2.a17 = k0_pay23 (F := Ideal)
      ∧ Mid A i (ic 1).val S2.a16 S2.a18 S2.a19 S2.a22 ∧ Held' A i (ic 1).val j S2.a20 S2.a21 := by
    refine ⟨_, rfl, ?_⟩
    have h3 := cond3_iff ic
    rw [h2] at h3
    by_cases c : j = 0
    · rw [dif_pos (h3.2 c)]
      obtain ⟨x1, x2, x3⟩ := gather_out A ic v3 v7 N hc hw i S1 (h3.2 c) tM hN
      exact ⟨(ins_gatherF _ _ _ _ _ _).trans i1, x2.trans t17, x1, Eq.mpr (congrArg (fun z => Held' A i (ic 1).val z _ _) c) x3⟩
    · rw [dif_neg (fun h => c (h3.1 h))]
      exact ⟨i1, t17, tM, tR c⟩
  obtain ⟨S2, E2, i2, u17, uM, uR⟩ := s2
  have hH2 := Here.of A _ _ _ _ _ i2 H
  obtain ⟨vM, v17, vR⟩ := expert_out A ic v3 v7 N hc hw i j S2 hH2 uM uR hN
  have i3 : ins (expertF ic v3 v7 hw S2) = ins S := (ins_expertF _ _ _ _ _).trans i2
  have v17' := v17.trans u17
  generalize E3 : expertF ic v3 v7 hw S2 = S3 at vM v17 vR i3 v17'
  have s4 : ∃ S4, (if h : k0_cond20 ic = 1#1 then scatterF ic v3 v7 hw h S3 else S3) = S4 ∧ ins S4 = ins S ∧ S4.a17 = k0_pay23 (F := Ideal)
      ∧ Mid A i (if j = 3 then (ic 1).val + 1 else (ic 1).val) S4.a16 S4.a18 S4.a19 S4.a22 ∧ (j ≠ 3 → Held' A i (ic 1).val (j + 1) S4.a20 S4.a21) := by
    refine ⟨_, rfl, ?_⟩
    have h20 := cond20_iff ic
    rw [h2] at h20
    by_cases c : j = 3
    · rw [dif_pos (h20.2 c), if_pos c]
      obtain ⟨x1, x2⟩ := scatter_out A ic v3 v7 N hc hw i j S3 (Here.of A _ _ _ _ _ i3 H) (h20.2 c) vM (by rw [c] at vR; exact vR) hnn hN
      exact ⟨(ins_scatterF _ _ _ _ _ _).trans i3, x2.trans v17', x1, fun h => absurd c h⟩
    · rw [dif_neg (fun h => c (h20.1 h)), if_neg c]
      exact ⟨i3, v17', vM, fun _ => vR⟩
  obtain ⟨S4, E4, i4, w17, wM, wR⟩ := s4
  have EB : bodyF ic v3 v7 hw S = onBit (k0_cond29 ic) finF S4 := by
    unfold bodyF
    dsimp only
    rw [E1, E2, E3, E4]
  have h29 := cond29_iff ic
  rw [h2] at h29
  rw [EB]
  by_cases c : j = 3 ∧ (ic 1).val = 7
  · have e5 : onBit (k0_cond29 ic) finF S4 = finF S4 := if_pos (h29.2 c)
    rw [e5]
    refine ⟨by unfold finF; exact w17, by unfold finF; exact wM, fun h => absurd c.1 h, fun _ _ t d => ?_⟩
    obtain ⟨h5, h6, h7, h8, h9, h10, h11, h12, h13, h14⟩ := here_all A i _ j S4 (Here.of A _ _ _ _ _ i4 H)
    have r5 := read_whole (s := S1024x1024) ![0, 0] inb_S1024x1024_S1024x1024_0_0 (by decide) S4.a5
    have r9 := read_whole (s := S1x1x1024) ![0, 0, 0] inb_S1x1x1024_S1x1x1024_0_0_0 (by decide) S4.a9
    have r22 := read_whole (s := S1024x1024) ![0, 0] inb_S1024x1024_S1024x1024_0_0 (by decide) S4.a22
    have r14 := read_whole (s := S1x1024) ![0, 0] inb_S1x1024_S1x1024_0_0 (by decide) S4.a14
    unfold finF
    dsimp only
    rw [overlay_whole _ _ (by decide)]
    erw [r5, r9, r22, r14]
    rw [h5, h9, h14]
    have ha : S4.a22 = fun y => A.acc i (y 0) 8 (y 1) := by
      funext y
      have := wM.2.2.2 (y 0) (y 1)
      rw [if_pos c.1, c.2] at this
      rw [← this]
      refine congrArg S4.a22 ?_
      funext a
      match a with
      | ⟨0, _⟩ => rfl
      | ⟨1, _⟩ => rfl
    rw [ha]
  · have e5 : onBit (k0_cond29 ic) finF S4 = S4 := if_neg (fun h => c (h29.1 h))
    rw [e5]
    exact ⟨w17, wM, wR, fun a b => absurd ⟨a, b⟩ c⟩

end

end Cert.Kernel2Ideal.Moe

end
-- ==== Proof.Moe.Win.lean ====
module

public import proofs.«01_k».proof.Proof.Moe.Tile
public import proofs.«01_k».proof.Proof.Moe.Tables
public import Idealize.ShloMosaic.Lib.Pipeline.Value
public import Idealize.ShloMosaic.Lib.Pipeline.ValueKit.Geometry
public import Idealize.ShloMosaic.Lib.Pipeline.ValueKit.Point

@[expose] public section

set_option maxRecDepth 16384

noncomputable section

namespace Cert.Kernel2Ideal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel2Ideal Cert.Kernel2Ideal.Gen
open Idealize.ShloMosaic (ix1 ix2 ix3)

section

variable {F : FTy → Type} [FloatOps F] (m : (ℓ : Loc nD τ sig) → Buf (Elt F) ℓ) (c : Dev nD)

theorem coord0 : ∀ t : Fin grid0.N, (grid0.coords t 0).val = t.val / 32 := by decide +kernel
theorem coord1 : ∀ t : Fin grid0.N, (grid0.coords t 1).val = t.val / 4 % 8 := by decide +kernel
theorem coord2 : ∀ t : Fin grid0.N, (grid0.coords t 2).val = t.val % 4 := by decide +kernel

theorem idx0 (t : Fin (cfgT m).N) : ((pcfgs (F := F) 0).win (tabs m 0) 0).index t (0 : Fin 2) = t.val / 32 ∧ ((pcfgs (F := F) 0).win (tabs m 0) 0).index t (1 : Fin 2) = 0 :=
  (by decide +kernel : ∀ t : Fin grid0.N, cc0_transform_0 (grid0.coords t) 0 = t.val / 32 ∧ cc0_transform_0 (grid0.coords t) 1 = 0) t
theorem idx1 (t : Fin (cfgT m).N) : ((pcfgs (F := F) 0).win (tabs m 0) 1).index t (0 : Fin 2) = 0 ∧ ((pcfgs (F := F) 0).win (tabs m 0) 1).index t (1 : Fin 2) = 0 :=
  (by decide +kernel : ∀ t : Fin grid0.N, cc0_transform_1 (grid0.coords t) 0 = 0 ∧ cc0_transform_1 (grid0.coords t) 1 = 0) t
theorem idx2 (t : Fin (cfgT m).N) : ((pcfgs (F := F) 0).win (tabs m 0) 2).index t (0 : Fin 3) = t.val / 32 / 4 ∧ ((pcfgs (F := F) 0).win (tabs m 0) 2).index t (1 : Fin 3) = 0 ∧ ((pcfgs (F := F) 0).win (tabs m 0) 2).index t (2 : Fin 3) = 0 :=
  (by decide +kernel : ∀ t : Fin grid0.N, cc0_transform_2 (grid0.coords t) 0 = t.val / 32 / 4 ∧ cc0_transform_2 (grid0.coords t) 1 = 0 ∧ cc0_transform_2 (grid0.coords t) 2 = 0) t
theorem idx3 (t : Fin (cfgT m).N) : ((pcfgs (F := F) 0).win (tabs m 0) 3).index t (0 : Fin 3) = t.val / 32 / 4 ∧ ((pcfgs (F := F) 0).win (tabs m 0) 3).index t (1 : Fin 3) = 0 ∧ ((pcfgs (F := F) 0).win (tabs m 0) 3).index t (2 : Fin 3) = 0 :=
  (by decide +kernel : ∀ t : Fin grid0.N, cc0_transform_3 (grid0.coords t) 0 = t.val / 32 / 4 ∧ cc0_transform_3 (grid0.coords t) 1 = 0 ∧ cc0_transform_3 (grid0.coords t) 2 = 0) t
theorem idx4 (t : Fin (cfgT m).N) : ((pcfgs (F := F) 0).win (tabs m 0) 4).index t (0 : Fin 3) = t.val / 32 / 4 ∧ ((pcfgs (F := F) 0).win (tabs m 0) 4).index t (1 : Fin 3) = 0 ∧ ((pcfgs (F := F) 0).win (tabs m 0) 4).index t (2 : Fin 3) = 0 :=
  (by decide +kernel : ∀ t : Fin grid0.N, cc0_transform_4 (grid0.coords t) 0 = t.val / 32 / 4 ∧ cc0_transform_4 (grid0.coords t) 1 = 0 ∧ cc0_transform_4 (grid0.coords t) 2 = 0) t
theorem idx5 (t : Fin (cfgT m).N) : ((pcfgs (F := F) 0).win (tabs m 0) 5).index t (0 : Fin 2) = t.val / 32 ∧ ((pcfgs (F := F) 0).win (tabs m 0) 5).index t (1 : Fin 2) = 0 :=
  (by decide +kernel : ∀ t : Fin grid0.N, cc0_transform_5 (grid0.coords t) 0 = t.val / 32 ∧ cc0_transform_5 (grid0.coords t) 1 = 0) t
theorem idx6 (t : Fin (cfgT m).N) : ((pcfgs (F := F) 0).win (tabs m 0) 6).index t (0 : Fin 3) = t.val / 4 % 8 ∧ ((pcfgs (F := F) 0).win (tabs m 0) 6).index t (1 : Fin 3) = 0 ∧ ((pcfgs (F := F) 0).win (tabs m 0) 6).index t (2 : Fin 3) = t.val % 4 :=
  (by decide +kernel : ∀ t : Fin grid0.N, cc0_transform_6 (grid0.coords t) 0 = t.val / 4 % 8 ∧ cc0_transform_6 (grid0.coords t) 1 = 0 ∧ cc0_transform_6 (grid0.coords t) 2 = t.val % 4) t
theorem idx7 (t : Fin (cfgT m).N) : ((pcfgs (F := F) 0).win (tabs m 0) 7).index t (0 : Fin 3) = t.val / 4 % 8 ∧ ((pcfgs (F := F) 0).win (tabs m 0) 7).index t (1 : Fin 3) = 0 ∧ ((pcfgs (F := F) 0).win (tabs m 0) 7).index t (2 : Fin 3) = t.val % 4 :=
  (by decide +kernel : ∀ t : Fin grid0.N, cc0_transform_7 (grid0.coords t) 0 = t.val / 4 % 8 ∧ cc0_transform_7 (grid0.coords t) 1 = 0 ∧ cc0_transform_7 (grid0.coords t) 2 = t.val % 4) t
theorem idx8 (t : Fin (cfgT m).N) : ((pcfgs (F := F) 0).win (tabs m 0) 8).index t (0 : Fin 3) = t.val / 4 % 8 ∧ ((pcfgs (F := F) 0).win (tabs m 0) 8).index t (1 : Fin 3) = t.val % 4 ∧ ((pcfgs (F := F) 0).win (tabs m 0) 8).index t (2 : Fin 3) = 0 :=
  (by decide +kernel : ∀ t : Fin grid0.N, cc0_transform_8 (grid0.coords t) 0 = t.val / 4 % 8 ∧ cc0_transform_8 (grid0.coords t) 1 = t.val % 4 ∧ cc0_transform_8 (grid0.coords t) 2 = 0) t
theorem idx9 (t : Fin (cfgT m).N) : ((pcfgs (F := F) 0).win (tabs m 0) 9).index t (0 : Fin 2) = 0 ∧ ((pcfgs (F := F) 0).win (tabs m 0) 9).index t (1 : Fin 2) = 0 :=
  (by decide +kernel : ∀ t : Fin grid0.N, cc0_transform_9 (grid0.coords t) 0 = 0 ∧ cc0_transform_9 (grid0.coords t) 1 = 0) t
theorem idx10 (t : Fin (cfgT m).N) : ((pcfgs (F := F) 0).win (tabs m 0) 10).index t (0 : Fin 2) = t.val / 32 ∧ ((pcfgs (F := F) 0).win (tabs m 0) 10).index t (1 : Fin 2) = 0 :=
  (by decide +kernel : ∀ t : Fin grid0.N, cc0_transform_10 (grid0.coords t) 0 = t.val / 32 ∧ cc0_transform_10 (grid0.coords t) 1 = 0) t

theorem V_v40 : V m c main_v40 = shapeCast S32768x1024 (m ((c.tc : Thread nD τ).loc main_arg0)) shapeCasts_S8x4096x1024_S32768x1024 := by
  unfold V; unfold_abbrev_sides
  simp only [hostOps0, hostOps0_1, hostOps0_2, List.flatten_cons, List.flatten_nil, List.append_nil, List.cons_append, List.nil_append, StableHlo.after_cons, StableHlo.after_nil]
  after_results_simp
  rfl

theorem V_v41 : V m c main_v41 = shapeCast S1x1024 (m ((c.tc : Thread nD τ).loc main_arg1)) shapeCasts_S1024_S1x1024 := by
  unfold V; unfold_abbrev_sides
  simp only [hostOps0, hostOps0_1, hostOps0_2, List.flatten_cons, List.flatten_nil, List.append_nil, List.cons_append, List.nil_append, StableHlo.after_cons, StableHlo.after_nil]
  after_results_simp
  rfl

theorem V_v45 : V m c main_v45 = shapeCast S1x1024 (m ((c.tc : Thread nD τ).loc main_arg9)) shapeCasts_S1024_S1x1024 := by
  unfold V; unfold_abbrev_sides
  simp only [hostOps0, hostOps0_1, hostOps0_2, List.flatten_cons, List.flatten_nil, List.append_nil, List.cons_append, List.nil_append, StableHlo.after_cons, StableHlo.after_nil]
  after_results_simp
  rfl

theorem V_v42 : V m c main_v42 = truncf .bf16 ((m ((c.tc : Thread nD τ).loc main_arg6)) : FVec F S8x1024x3584 .f32) bitsLt_bf16_f32 := by
  unfold V; unfold_abbrev_sides
  simp only [hostOps0, hostOps0_1, hostOps0_2, List.flatten_cons, List.flatten_nil, List.append_nil, List.cons_append, List.nil_append, StableHlo.after_cons, StableHlo.after_nil]
  after_results_simp

theorem V_v43 : V m c main_v43 = truncf .bf16 ((m ((c.tc : Thread nD τ).loc main_arg7)) : FVec F S8x1024x3584 .f32) bitsLt_bf16_f32 := by
  unfold V; unfold_abbrev_sides
  simp only [hostOps0, hostOps0_1, hostOps0_2, List.flatten_cons, List.flatten_nil, List.append_nil, List.cons_append, List.nil_append, StableHlo.after_cons, StableHlo.after_nil]
  after_results_simp

theorem V_v44 : V m c main_v44 = truncf .bf16 ((m ((c.tc : Thread nD τ).loc main_arg8)) : FVec F S8x3584x1024 .f32) bitsLt_bf16_f32 := by
  unfold V; unfold_abbrev_sides
  simp only [hostOps0, hostOps0_1, hostOps0_2, List.flatten_cons, List.flatten_nil, List.append_nil, List.cons_append, List.nil_append, StableHlo.after_cons, StableHlo.after_nil]
  after_results_simp

theorem V_v1 : V m c main_v1 = concatenate S32768x128 1 [⟨S32768x8, (m ((c.tc : Thread nD τ).loc main_arg5))⟩, ⟨S32768x120, broadcastInDim S32768x120 ![] bcast_S_S32768x120 (constant S_ .f32 0x00000000#32)⟩] concatenates_S32768x8_S32768x120_S32768x128_d1 := by
  unfold V; unfold_abbrev_sides
  simp only [hostOps0, hostOps0_1, hostOps0_2, List.flatten_cons, List.flatten_nil, List.append_nil, List.cons_append, List.nil_append, StableHlo.after_cons, StableHlo.after_nil]
  after_results_simp
  rfl

theorem iblk0_at (t : Fin (cfgT m).N) (a : Fin 1024) (d : Fin 1024) (r : Fin 32768) (hr : r.val = t.val / 32 * 1024 + a.val) :
    (iblk m c 0 t : Vec F S1024x1024 .f32) (ix2 a d) = (V m c main_v40 : Vec F S32768x1024 .f32) (ix2 r d) := by
  have := idx0 m t
  blk_ext [iblk, hr]
  all_goals first | (erw [this.1]; done) | (erw [this.1]; omega) | (erw [this.2]; done) | (erw [this.2]; omega)

theorem iblk1_at (t : Fin (cfgT m).N) (z : Fin 1) (d : Fin 1024) :
    (iblk m c 1 t : Vec F S1x1024 .f32) (ix2 z d) = (V m c main_v41 : Vec F S1x1024 .f32) (ix2 z d) := by
  have := idx1 m t
  blk_ext [iblk]
  all_goals first | (erw [this.1]; done) | (erw [this.1]; omega) | (erw [this.2]; done) | (erw [this.2]; omega)

theorem iblk2_at (t : Fin (cfgT m).N) (z w : Fin 1) (d : Fin 1024) (b : Fin 8) (hb : b.val = t.val / 32 / 4) :
    (iblk m c 2 t : Vec F S1x1x1024 .f32) (ix3 z w d) = (V m c main_arg2 : Vec F S8x1x1024 .f32) (ix3 b w d) := by
  have := idx2 m t
  blk_ext [iblk, hb]
  all_goals first | (erw [this.1]; done) | (erw [this.1]; omega) | (erw [this.2.1]; done) | (erw [this.2.1]; omega) | (erw [this.2.2]; done) | (erw [this.2.2]; omega)

theorem iblk3_at (t : Fin (cfgT m).N) (z w : Fin 1) (d : Fin 1024) (b : Fin 8) (hb : b.val = t.val / 32 / 4) :
    (iblk m c 3 t : Vec F S1x1x1024 .f32) (ix3 z w d) = (V m c main_arg3 : Vec F S8x1x1024 .f32) (ix3 b w d) := by
  have := idx3 m t
  blk_ext [iblk, hb]
  all_goals first | (erw [this.1]; done) | (erw [this.1]; omega) | (erw [this.2.1]; done) | (erw [this.2.1]; omega) | (erw [this.2.2]; done) | (erw [this.2.2]; omega)

theorem iblk4_at (t : Fin (cfgT m).N) (z w : Fin 1) (d : Fin 1024) (b : Fin 8) (hb : b.val = t.val / 32 / 4) :
    (iblk m c 4 t : Vec F S1x1x1024 .f32) (ix3 z w d) = (V m c main_arg4 : Vec F S8x1x1024 .f32) (ix3 b w d) := by
  have := idx4 m t
  blk_ext [iblk, hb]
  all_goals first | (erw [this.1]; done) | (erw [this.1]; omega) | (erw [this.2.1]; done) | (erw [this.2.1]; omega) | (erw [this.2.2]; done) | (erw [this.2.2]; omega)

theorem iblk5_at (t : Fin (cfgT m).N) (a : Fin 1024) (d : Fin 128) (r : Fin 32768) (hr : r.val = t.val / 32 * 1024 + a.val) :
    (iblk m c 5 t : Vec F S1024x128 .f32) (ix2 a d) = (V m c main_v1 : Vec F S32768x128 .f32) (ix2 r d) := by
  have := idx5 m t
  blk_ext [iblk, hr]
  all_goals first | (erw [this.1]; done) | (erw [this.1]; omega) | (erw [this.2]; done) | (erw [this.2]; omega)

theorem iblk6_at (t : Fin (cfgT m).N) (z : Fin 1) (k : Fin 1024) (n : Fin 896) (e : Fin 8) (he : e.val = t.val / 4 % 8) (q : Fin 3584) (hq : q.val = t.val % 4 * 896 + n.val) :
    (iblk m c 6 t : Vec F S1x1024x896 .bf16) (ix3 z k n) = (V m c main_v42 : Vec F S8x1024x3584 .bf16) (ix3 e k q) := by
  have := idx6 m t
  blk_ext [iblk, he, hq]
  all_goals first | (erw [this.1]; done) | (erw [this.1]; omega) | (erw [this.2.1]; done) | (erw [this.2.1]; omega) | (erw [this.2.2]; done) | (erw [this.2.2]; omega)

theorem iblk7_at (t : Fin (cfgT m).N) (z : Fin 1) (k : Fin 1024) (n : Fin 896) (e : Fin 8) (he : e.val = t.val / 4 % 8) (q : Fin 3584) (hq : q.val = t.val % 4 * 896 + n.val) :
    (iblk m c 7 t : Vec F S1x1024x896 .bf16) (ix3 z k n) = (V m c main_v43 : Vec F S8x1024x3584 .bf16) (ix3 e k q) := by
  have := idx7 m t
  blk_ext [iblk, he, hq]
  all_goals first | (erw [this.1]; done) | (erw [this.1]; omega) | (erw [this.2.1]; done) | (erw [this.2.1]; omega) | (erw [this.2.2]; done) | (erw [this.2.2]; omega)

theorem iblk8_at (t : Fin (cfgT m).N) (z : Fin 1) (n : Fin 896) (d : Fin 1024) (e : Fin 8) (he : e.val = t.val / 4 % 8) (q : Fin 3584) (hq : q.val = t.val % 4 * 896 + n.val) :
    (iblk m c 8 t : Vec F S1x896x1024 .bf16) (ix3 z n d) = (V m c main_v44 : Vec F S8x3584x1024 .bf16) (ix3 e q d) := by
  have := idx8 m t
  blk_ext [iblk, he, hq]
  all_goals first | (erw [this.1]; done) | (erw [this.1]; omega) | (erw [this.2.1]; done) | (erw [this.2.1]; omega) | (erw [this.2.2]; done) | (erw [this.2.2]; omega)

theorem iblk9_at (t : Fin (cfgT m).N) (z : Fin 1) (d : Fin 1024) :
    (iblk m c 9 t : Vec F S1x1024 .f32) (ix2 z d) = (V m c main_v45 : Vec F S1x1024 .f32) (ix2 z d) := by
  have := idx9 m t
  blk_ext [iblk]
  all_goals first | (erw [this.1]; done) | (erw [this.1]; omega) | (erw [this.2]; done) | (erw [this.2]; omega)

end

/-- The blocks of the program's arguments. -/
def argsOf (X : Vec Ideal S8x4096x1024 .f32) (G : Vec Ideal S1024 .f32) (SC SH G2 : Vec Ideal S8x1x1024 .f32) (C : Vec Ideal S32768x8 .f32)
    (W1 W3 : Vec Ideal S8x1024x3584 .f32) (W2 : Vec Ideal S8x3584x1024 .f32) (FG : Vec Ideal S1024 .f32) : Args where
  x i := fun y => X (ix3 ⟨i / 4 % 8, by omega⟩ ⟨i % 4 * 1024 + (y 0).val, by have : (y 0).val < 1024 := (y 0).isLt; omega⟩ (y 1))
  g := fun y => G (ix1 (y 1))
  sc i := fun y => SC (ix3 ⟨i / 4 % 8, by omega⟩ 0 (y 2))
  sh i := fun y => SH (ix3 ⟨i / 4 % 8, by omega⟩ 0 (y 2))
  g2 i := fun y => G2 (ix3 ⟨i / 4 % 8, by omega⟩ 0 (y 2))
  comb i := fun y => if h : (y 1).val < 8 then C (ix2 ⟨i % 32 * 1024 + (y 0).val, by have : (y 0).val < 1024 := (y 0).isLt; omega⟩ ⟨(y 1).val, h⟩) else (0 : EReal)
  w1 e j := fun y => W1 (ix3 ⟨e % 8, by omega⟩ (y 1) ⟨j % 4 * 896 + (y 2).val, by have : (y 2).val < 896 := (y 2).isLt; omega⟩)
  w3 e j := fun y => W3 (ix3 ⟨e % 8, by omega⟩ (y 1) ⟨j % 4 * 896 + (y 2).val, by have : (y 2).val < 896 := (y 2).isLt; omega⟩)
  w2 e j := fun y => W2 (ix3 ⟨e % 8, by omega⟩ ⟨j % 4 * 896 + (y 1).val, by have : (y 1).val < 896 := (y 1).isLt; omega⟩ (y 2))
  fg := fun y => FG (ix1 (y 1))

variable (m : (ℓ : Loc nD τ sig) → Buf (Elt Ideal) ℓ) (c : Dev nD)

/-- The blocks of the arguments a memory holds. -/
def argsM : Args := argsOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))

theorem N_1024 : grid0.N = 1024 := by decide

theorem tok_at (x : Vec Ideal S8x4096x1024 .f32) (b : Fin 8) (s : Fin 4096) (d : Fin 1024) :
    shapeCast S32768x1024 x shapeCasts_S8x4096x1024_S32768x1024 (ix2 ⟨b.val * 4096 + s.val, by omega⟩ d) = x (ix3 b s d) := by
  pointwise

theorem vec_at (x : Vec Ideal S1024 .f32) (z : Fin 1) (d : Fin 1024) : shapeCast S1x1024 x shapeCasts_S1024_S1x1024 (ix2 z d) = x (ix1 d) := by
  obtain rfl := Subsingleton.elim z 0
  pointwise

theorem comb_at (x : Vec Ideal S32768x8 .f32) (r : Fin 32768) (e : Fin 128) :
    concatenate S32768x128 1 [⟨S32768x8, x⟩, ⟨S32768x120, broadcastInDim S32768x120 ![] bcast_S_S32768x120 (constant (F := Ideal) S_ .f32 0x00000000#32)⟩] concatenates_S32768x8_S32768x120_S32768x128_d1 (ix2 r e)
      = if h : e.val < 8 then x (ix2 r ⟨e.val, h⟩) else (0 : EReal) := by
  pointwise

theorem w0_eq (t : Fin (cfgT m).N) : iblk m c 0 t = (argsM m c).x (t.val / 32) := by
  have ht : t.val < 1024 := lt_of_lt_of_eq t.isLt N_1024
  funext y
  have hy : (y 0).val < 1024 := (y 0).isLt
  refine (congrArg (iblk m c 0 t) (Idealize.ShloMosaic.eq_ix2 y)).trans ?_
  refine (iblk0_at m c t (y 0) (y 1) ⟨(t.val / 32 / 4 % 8) * 4096 + (t.val / 32 % 4 * 1024 + (y 0).val), by omega⟩ (by dsimp only; omega)).trans ?_
  rw [V_v40]
  exact tok_at _ ⟨t.val / 32 / 4 % 8, by omega⟩ ⟨t.val / 32 % 4 * 1024 + (y 0).val, by omega⟩ (y 1)

theorem w1_eq (t : Fin (cfgT m).N) : iblk m c 1 t = (argsM m c).g := by
  funext y
  refine (congrArg (iblk m c 1 t) (Idealize.ShloMosaic.eq_ix2 y)).trans ?_
  refine (iblk1_at m c t (y 0) (y 1)).trans ?_
  rw [V_v41]
  exact vec_at _ (y 0) (y 1)

theorem w9_eq (t : Fin (cfgT m).N) : iblk m c 9 t = (argsM m c).fg := by
  funext y
  refine (congrArg (iblk m c 9 t) (Idealize.ShloMosaic.eq_ix2 y)).trans ?_
  refine (iblk9_at m c t (y 0) (y 1)).trans ?_
  rw [V_v45]
  exact vec_at _ (y 0) (y 1)

theorem w2_eq (t : Fin (cfgT m).N) : iblk m c 2 t = (argsM m c).sc (t.val / 32) := by
  have ht : t.val < 1024 := lt_of_lt_of_eq t.isLt N_1024
  funext y
  refine (congrArg (iblk m c 2 t) (Idealize.ShloMosaic.eq_ix3 y)).trans ?_
  refine (iblk2_at m c t (y 0) (y 1) (y 2) ⟨t.val / 32 / 4 % 8, by omega⟩ (by dsimp only; omega)).trans ?_
  rw [V_main_arg2]
  have h1 : y 1 = (0 : Fin 1) := Subsingleton.elim (α := Fin 1) _ _
  exact congrArg (fun z : Fin 1 => (m ((c.tc : Thread nD τ).loc main_arg2) : Vec Ideal S8x1x1024 .f32) (ix3 ⟨t.val / 32 / 4 % 8, by omega⟩ z (y 2))) h1

theorem w3_eq (t : Fin (cfgT m).N) : iblk m c 3 t = (argsM m c).sh (t.val / 32) := by
  have ht : t.val < 1024 := lt_of_lt_of_eq t.isLt N_1024
  funext y
  refine (congrArg (iblk m c 3 t) (Idealize.ShloMosaic.eq_ix3 y)).trans ?_
  refine (iblk3_at m c t (y 0) (y 1) (y 2) ⟨t.val / 32 / 4 % 8, by omega⟩ (by dsimp only; omega)).trans ?_
  rw [V_main_arg3]
  have h1 : y 1 = (0 : Fin 1) := Subsingleton.elim (α := Fin 1) _ _
  exact congrArg (fun z : Fin 1 => (m ((c.tc : Thread nD τ).loc main_arg3) : Vec Ideal S8x1x1024 .f32) (ix3 ⟨t.val / 32 / 4 % 8, by omega⟩ z (y 2))) h1

theorem w4_eq (t : Fin (cfgT m).N) : iblk m c 4 t = (argsM m c).g2 (t.val / 32) := by
  have ht : t.val < 1024 := lt_of_lt_of_eq t.isLt N_1024
  funext y
  refine (congrArg (iblk m c 4 t) (Idealize.ShloMosaic.eq_ix3 y)).trans ?_
  refine (iblk4_at m c t (y 0) (y 1) (y 2) ⟨t.val / 32 / 4 % 8, by omega⟩ (by dsimp only; omega)).trans ?_
  rw [V_main_arg4]
  have h1 : y 1 = (0 : Fin 1) := Subsingleton.elim (α := Fin 1) _ _
  exact congrArg (fun z : Fin 1 => (m ((c.tc : Thread nD τ).loc main_arg4) : Vec Ideal S8x1x1024 .f32) (ix3 ⟨t.val / 32 / 4 % 8, by omega⟩ z (y 2))) h1

theorem w5_eq (t : Fin (cfgT m).N) : iblk m c 5 t = (argsM m c).comb (t.val / 32) := by
  have ht : t.val < 1024 := lt_of_lt_of_eq t.isLt N_1024
  funext y
  have hy : (y 0).val < 1024 := (y 0).isLt
  refine (congrArg (iblk m c 5 t) (Idealize.ShloMosaic.eq_ix2 y)).trans ?_
  refine (iblk5_at m c t (y 0) (y 1) ⟨t.val / 32 % 32 * 1024 + (y 0).val, by omega⟩ (by dsimp only; omega)).trans ?_
  rw [V_v1]
  exact comb_at _ _ (y 1)

theorem w6_eq (t : Fin (cfgT m).N) : iblk m c 6 t = (argsM m c).w1 (t.val / 4 % 8) (t.val % 4) := by
  funext y
  have hy : (y 2).val < 896 := (y 2).isLt
  refine (congrArg (iblk m c 6 t) (Idealize.ShloMosaic.eq_ix3 y)).trans ?_
  refine (iblk6_at m c t (y 0) (y 1) (y 2) ⟨t.val / 4 % 8 % 8, by omega⟩ (by dsimp only; omega) ⟨t.val % 4 % 4 * 896 + (y 2).val, by omega⟩ (by dsimp only; omega)).trans ?_
  rw [V_v42]
  rfl

theorem w7_eq (t : Fin (cfgT m).N) : iblk m c 7 t = (argsM m c).w3 (t.val / 4 % 8) (t.val % 4) := by
  funext y
  have hy : (y 2).val < 896 := (y 2).isLt
  refine (congrArg (iblk m c 7 t) (Idealize.ShloMosaic.eq_ix3 y)).trans ?_
  refine (iblk7_at m c t (y 0) (y 1) (y 2) ⟨t.val / 4 % 8 % 8, by omega⟩ (by dsimp only; omega) ⟨t.val % 4 % 4 * 896 + (y 2).val, by omega⟩ (by dsimp only; omega)).trans ?_
  rw [V_v43]
  rfl

theorem w8_eq (t : Fin (cfgT m).N) : iblk m c 8 t = (argsM m c).w2 (t.val / 4 % 8) (t.val % 4) := by
  funext y
  have hy : (y 1).val < 896 := (y 1).isLt
  refine (congrArg (iblk m c 8 t) (Idealize.ShloMosaic.eq_ix3 y)).trans ?_
  refine (iblk8_at m c t (y 0) (y 1) (y 2) ⟨t.val / 4 % 8 % 8, by omega⟩ (by dsimp only; omega) ⟨t.val % 4 % 4 * 896 + (y 1).val, by omega⟩ (by dsimp only; omega)).trans ?_
  rw [V_v44]
  rfl

theorem here (t : Fin (cfgT m).N) (Q : Scr Ideal) (Y : Vec Ideal S1024x1024 .f32) : Here (argsM m c) (t.val / 32) (t.val / 4 % 8) (t.val % 4) (stAt m c t Q Y) := by
  unfold Here ins stAt
  dsimp only
  rw [w0_eq, w1_eq, w2_eq, w3_eq, w4_eq, w5_eq, w6_eq, w7_eq, w8_eq, w9_eq]

end Cert.Kernel2Ideal.Moe

end
-- ==== Proof.Moe.RefNorm.lean ====
/- The reference's normalisations at an index. -/
module

public import proofs.«01_k».proof.Proof.Gen.Reference2Ideal.Read
public import proofs.«01_k».proof.Proof.Moe.Win
public import Idealize.ShloMosaic.Lib.Pointwise

@[expose] public section
noncomputable section
namespace Cert.Reference2Ideal.Moe

open Cert.Reference2Ideal Cert.Reference2Ideal.Gen Cert.Reference2Ideal.Read Idealize.ShloMosaic Idealize.ShloMosaic.TcCoe Idealize.SL.Sem
open Idealize.ShloMosaic (ix1 ix2 ix3)
open scoped BigOperators

/-- One entry of a row divided by the root of the row's mean square. -/
def nrm (x : Fin 1024 → EReal) (d : Fin 1024) : EReal :=
  x d * Ideal.rsqrt (Ideal.div (∑ k, x k * x k) (Ideal.ofBits .f32 0x44800000#32) + Ideal.ofBits .f32 0x358637BD#32)

theorem pay11_at (x : Vec Ideal Kernel2Ideal.S1024x1024 .f32) (g : Vec Ideal Kernel2Ideal.S1x1024 .f32) (sc sh : Vec Ideal Kernel2Ideal.S1x1x1024 .f32) (t d : Fin 1024) :
    Kernel2Ideal.Gen.k0_pay11 (F := Ideal) x g sc sh (ix2 t d) = nrm (fun k => x (ix2 t k)) d * g (ix2 0 d) * (1 + sc (ix3 0 0 d)) + sh (ix3 0 0 d) := by
  pointwise [Kernel2Ideal.Gen.k0_pay11, nrm]

theorem pay10_at (x : Vec Ideal Kernel2Ideal.S1024x1024 .f32) (g2 : Vec Ideal Kernel2Ideal.S1x1x1024 .f32) (acc : Vec Ideal Kernel2Ideal.S1024x1024 .f32) (fg : Vec Ideal Kernel2Ideal.S1x1024 .f32) (t d : Fin 1024) :
    Kernel2Ideal.Gen.k0_pay10 (F := Ideal) x g2 acc fg (ix2 t d) = nrm (fun k => x (ix2 t k) + g2 (ix3 0 0 k) * acc (ix2 t k)) d * fg (ix2 0 d) := by
  pointwise [Kernel2Ideal.Gen.k0_pay10, nrm]

theorem zero_bits : Ideal.ofBits .f32 0x00000000#32 = 0 := by
  show Ideal.ofBits .f32 0x00000000#32 = _
  simp [Ideal.ofBits, Ideal.ieee]

variable (x0 : Vec Ideal S8x4096x1024 .f32) (x1 : Vec Ideal S1024 .f32) (x2 x3 x4 : Vec Ideal S8x1x1024 .f32) (x5 : Vec Ideal S32768x8 .f32)
  (x6 x7 : Vec Ideal S8x1024x3584 .f32) (x8 : Vec Ideal S8x3584x1024 .f32) (x9 : Vec Ideal S1024 .f32)

theorem v19_at (b : Fin 8) (s : Fin 4096) (d : Fin 1024) :
    val_main_v19 (F := Ideal) x0 x1 x2 x3 (ix2 ⟨b.val * 4096 + s.val, by omega⟩ d)
      = nrm (fun k => x0 (ix3 b s k)) d * x1 (ix1 d) * (1 + x2 (ix3 b 0 d)) + x3 (ix3 b 0 d) := by
  pointwise [val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, nrm]

theorem v158_at (b : Fin 8) (s : Fin 4096) (d : Fin 1024) :
    val_main_v158 (F := Ideal) x0 x1 x2 x3 x4 x5 x6 x7 x8 x9 (ix2 ⟨b.val * 4096 + s.val, by omega⟩ d)
      = nrm (fun k => x0 (ix3 b s k) + x4 (ix3 b 0 k) * val_main_v140 (F := Ideal) x0 x1 x2 x3 x5 x6 x7 x8 (ix2 ⟨b.val * 4096 + s.val, by omega⟩ k)) d * x9 (ix1 d) := by
  unfold val_main_v158 val_main_v157 val_main_v154 val_main_v153 val_main_v152 val_main_v151 val_main_v149 val_main_v147 val_main_v146 val_main_v145 val_main_v144 val_main_v143 val_main_v141
  generalize val_main_v140 (F := Ideal) x0 x1 x2 x3 x5 x6 x7 x8 = a
  pointwise [val_main_v142, val_main_v148, val_main_v150, val_main_v155, val_main_v156, val_main_cst_4, val_main_cst_5, val_main_cst_6, nrm]

end Cert.Reference2Ideal.Moe

end
-- ==== Proof.Moe.RefExperts.lean ====
/- The reference's experts at an index. -/
module

public import proofs.«01_k».proof.Proof.Gen.Reference2Ideal.Read
public import Idealize.ShloMosaic.Lib.Pointwise

@[expose] public section
noncomputable section
namespace Cert.Reference2Ideal.Moe

open Cert.Reference2Ideal Cert.Reference2Ideal.Gen Cert.Reference2Ideal.Read Idealize.ShloMosaic Idealize.ShloMosaic.TcCoe Idealize.SL.Sem
open Idealize.ShloMosaic (ix1 ix2 ix3)
open scoped BigOperators

/-- One expert on one token. -/
def ffn (h : Fin 1024 → EReal) (w1 w3 : Vec Ideal S8x1024x3584 .f32) (w2 : Vec Ideal S8x3584x1024 .f32) (e : Fin 8) (d : Fin 1024) : EReal :=
  ∑ n : Fin 3584, ((∑ k, h k * w1 (ix3 e k n)) * Ideal.logistic (∑ k, h k * w1 (ix3 e k n)) * ∑ k, h k * w3 (ix3 e k n)) * w2 (ix3 e n d)

theorem one_bits : Ideal.ofBits .f32 0x3F800000#32 = 1 := by
  show Ideal.ofBits .f32 0x3F800000#32 = _
  simp [Ideal.ofBits, Ideal.ieee, -EReal.coe_mul]; norm_num

variable (x0 : Vec Ideal S8x4096x1024 .f32) (x1 : Vec Ideal S1024 .f32) (x2 x3 : Vec Ideal S8x1x1024 .f32) (x5 : Vec Ideal S32768x8 .f32)
  (x6 x7 : Vec Ideal S8x1024x3584 .f32) (x8 : Vec Ideal S8x3584x1024 .f32)

theorem v28_at (r : Fin 32768) (n : Fin 3584) : val_main_v28 (F := Ideal) x0 x1 x2 x3 x6 (ix2 r n) = ∑ k : Fin 1024, val_main_v19 (F := Ideal) x0 x1 x2 x3 (ix2 r k) * x6 (ix3 0 k n) := by
  unfold val_main_v28
  generalize val_main_v19 (F := Ideal) x0 x1 x2 x3 = h
  pointwise [val_main_v23, val_main_v22]

theorem v30_at (r : Fin 32768) (n : Fin 3584) : val_main_v30 (F := Ideal) x0 x1 x2 x3 x7 (ix2 r n) = ∑ k : Fin 1024, val_main_v19 (F := Ideal) x0 x1 x2 x3 (ix2 r k) * x7 (ix3 0 k n) := by
  unfold val_main_v30
  generalize val_main_v19 (F := Ideal) x0 x1 x2 x3 = h
  pointwise [val_main_v25, val_main_v24]

theorem v31_at (r : Fin 32768) (n : Fin 3584) : val_main_v31 (F := Ideal) x0 x1 x2 x3 x6 x7 (ix2 r n)
    = val_main_v28 (F := Ideal) x0 x1 x2 x3 x6 (ix2 r n) * Ideal.logistic (val_main_v28 (F := Ideal) x0 x1 x2 x3 x6 (ix2 r n)) * val_main_v30 (F := Ideal) x0 x1 x2 x3 x7 (ix2 r n) := by
  unfold val_main_v31 val_main_v29 val_main_call0_v5 val_main_call0_v3 val_main_call0_v1 val_main_call0_v0
  generalize val_main_v28 (F := Ideal) x0 x1 x2 x3 x6 = h
  generalize val_main_v30 (F := Ideal) x0 x1 x2 x3 x7 = g
  pointwise [val_main_call0_v2, val_main_call0_v4, val_main_call0_cst, val_main_call0_cst_0, Ideal.logistic, one_bits]

theorem v35_at (r : Fin 32768) (d : Fin 1024) : val_main_v35 (F := Ideal) x0 x1 x2 x3 x5 x6 x7 x8 (ix2 r d)
    = val_main_v20 (F := Ideal) (ix2 r d) + x5 (ix2 r 0) * ffn (fun k => val_main_v19 (F := Ideal) x0 x1 x2 x3 (ix2 r k)) x6 x7 x8 0 d := by
  have hs : val_main_v32 (F := Ideal) x0 x1 x2 x3 x6 x7 x8 (ix2 r d) = ∑ n : Fin 3584, val_main_v31 (F := Ideal) x0 x1 x2 x3 x6 x7 (ix2 r n) * x8 (ix3 0 n d) := by
    unfold val_main_v32
    generalize val_main_v31 (F := Ideal) x0 x1 x2 x3 x6 x7 = h
    pointwise [val_main_v27, val_main_v26]
  have hw : val_main_v33 (F := Ideal) x5 (ix2 r d) = x5 (ix2 r 0) := by
    pointwise [val_main_v33, val_main_v21]
  have hy : val_main_v32 (F := Ideal) x0 x1 x2 x3 x6 x7 x8 (ix2 r d) = ffn (fun k => val_main_v19 (F := Ideal) x0 x1 x2 x3 (ix2 r k)) x6 x7 x8 0 d := by
    rw [hs]
    unfold ffn
    refine Finset.sum_congr rfl fun n _ => ?_
    rw [v31_at, v28_at, v30_at]
  unfold val_main_v35 val_main_v34
  show _ + val_main_v33 (F := Ideal) x5 (ix2 r d) * val_main_v32 (F := Ideal) x0 x1 x2 x3 x6 x7 x8 (ix2 r d) = _
  rw [hw, hy]

theorem v43_at (r : Fin 32768) (n : Fin 3584) : val_main_v43 (F := Ideal) x0 x1 x2 x3 x6 (ix2 r n) = ∑ k : Fin 1024, val_main_v19 (F := Ideal) x0 x1 x2 x3 (ix2 r k) * x6 (ix3 1 k n) := by
  unfold val_main_v43
  generalize val_main_v19 (F := Ideal) x0 x1 x2 x3 = h
  pointwise [val_main_v38, val_main_v37]

theorem v45_at (r : Fin 32768) (n : Fin 3584) : val_main_v45 (F := Ideal) x0 x1 x2 x3 x7 (ix2 r n) = ∑ k : Fin 1024, val_main_v19 (F := Ideal) x0 x1 x2 x3 (ix2 r k) * x7 (ix3 1 k n) := by
  unfold val_main_v45
  generalize val_main_v19 (F := Ideal) x0 x1 x2 x3 = h
  pointwise [val_main_v40, val_main_v39]

theorem v46_at (r : Fin 32768) (n : Fin 3584) : val_main_v46 (F := Ideal) x0 x1 x2 x3 x6 x7 (ix2 r n)
    = val_main_v43 (F := Ideal) x0 x1 x2 x3 x6 (ix2 r n) * Ideal.logistic (val_main_v43 (F := Ideal) x0 x1 x2 x3 x6 (ix2 r n)) * val_main_v45 (F := Ideal) x0 x1 x2 x3 x7 (ix2 r n) := by
  unfold val_main_v46 val_main_v44 val_main_call1_v5 val_main_call1_v3 val_main_call1_v1 val_main_call1_v0
  generalize val_main_v43 (F := Ideal) x0 x1 x2 x3 x6 = h
  generalize val_main_v45 (F := Ideal) x0 x1 x2 x3 x7 = g
  pointwise [val_main_call1_v2, val_main_call1_v4, val_main_call1_cst, val_main_call1_cst_0, Ideal.logistic, one_bits]

theorem v50_at (r : Fin 32768) (d : Fin 1024) : val_main_v50 (F := Ideal) x0 x1 x2 x3 x5 x6 x7 x8 (ix2 r d)
    = val_main_v35 (F := Ideal) x0 x1 x2 x3 x5 x6 x7 x8 (ix2 r d) + x5 (ix2 r 1) * ffn (fun k => val_main_v19 (F := Ideal) x0 x1 x2 x3 (ix2 r k)) x6 x7 x8 1 d := by
  have hs : val_main_v47 (F := Ideal) x0 x1 x2 x3 x6 x7 x8 (ix2 r d) = ∑ n : Fin 3584, val_main_v46 (F := Ideal) x0 x1 x2 x3 x6 x7 (ix2 r n) * x8 (ix3 1 n d) := by
    unfold val_main_v47
    generalize val_main_v46 (F := Ideal) x0 x1 x2 x3 x6 x7 = h
    pointwise [val_main_v42, val_main_v41]
  have hw : val_main_v48 (F := Ideal) x5 (ix2 r d) = x5 (ix2 r 1) := by
    pointwise [val_main_v48, val_main_v36]
  have hy : val_main_v47 (F := Ideal) x0 x1 x2 x3 x6 x7 x8 (ix2 r d) = ffn (fun k => val_main_v19 (F := Ideal) x0 x1 x2 x3 (ix2 r k)) x6 x7 x8 1 d := by
    rw [hs]
    unfold ffn
    refine Finset.sum_congr rfl fun n _ => ?_
    rw [v46_at, v43_at, v45_at]
  unfold val_main_v50 val_main_v49
  show _ + val_main_v48 (F := Ideal) x5 (ix2 r d) * val_main_v47 (F := Ideal) x0 x1 x2 x3 x6 x7 x8 (ix2 r d) = _
  rw [hw, hy]

theorem v58_at (r : Fin 32768) (n : Fin 3584) : val_main_v58 (F := Ideal) x0 x1 x2 x3 x6 (ix2 r n) = ∑ k : Fin 1024, val_main_v19 (F := Ideal) x0 x1 x2 x3 (ix2 r k) * x6 (ix3 2 k n) := by
  unfold val_main_v58
  generalize val_main_v19 (F := Ideal) x0 x1 x2 x3 = h
  pointwise [val_main_v53, val_main_v52]

theorem v60_at (r : Fin 32768) (n : Fin 3584) : val_main_v60 (F := Ideal) x0 x1 x2 x3 x7 (ix2 r n) = ∑ k : Fin 1024, val_main_v19 (F := Ideal) x0 x1 x2 x3 (ix2 r k) * x7 (ix3 2 k n) := by
  unfold val_main_v60
  generalize val_main_v19 (F := Ideal) x0 x1 x2 x3 = h
  pointwise [val_main_v55, val_main_v54]

theorem v61_at (r : Fin 32768) (n : Fin 3584) : val_main_v61 (F := Ideal) x0 x1 x2 x3 x6 x7 (ix2 r n)
    = val_main_v58 (F := Ideal) x0 x1 x2 x3 x6 (ix2 r n) * Ideal.logistic (val_main_v58 (F := Ideal) x0 x1 x2 x3 x6 (ix2 r n)) * val_main_v60 (F := Ideal) x0 x1 x2 x3 x7 (ix2 r n) := by
  unfold val_main_v61 val_main_v59 val_main_call2_v5 val_main_call2_v3 val_main_call2_v1 val_main_call2_v0
  generalize val_main_v58 (F := Ideal) x0 x1 x2 x3 x6 = h
  generalize val_main_v60 (F := Ideal) x0 x1 x2 x3 x7 = g
  pointwise [val_main_call2_v2, val_main_call2_v4, val_main_call2_cst, val_main_call2_cst_0, Ideal.logistic, one_bits]

theorem v65_at (r : Fin 32768) (d : Fin 1024) : val_main_v65 (F := Ideal) x0 x1 x2 x3 x5 x6 x7 x8 (ix2 r d)
    = val_main_v50 (F := Ideal) x0 x1 x2 x3 x5 x6 x7 x8 (ix2 r d) + x5 (ix2 r 2) * ffn (fun k => val_main_v19 (F := Ideal) x0 x1 x2 x3 (ix2 r k)) x6 x7 x8 2 d := by
  have hs : val_main_v62 (F := Ideal) x0 x1 x2 x3 x6 x7 x8 (ix2 r d) = ∑ n : Fin 3584, val_main_v61 (F := Ideal) x0 x1 x2 x3 x6 x7 (ix2 r n) * x8 (ix3 2 n d) := by
    unfold val_main_v62
    generalize val_main_v61 (F := Ideal) x0 x1 x2 x3 x6 x7 = h
    pointwise [val_main_v57, val_main_v56]
  have hw : val_main_v63 (F := Ideal) x5 (ix2 r d) = x5 (ix2 r 2) := by
    pointwise [val_main_v63, val_main_v51]
  have hy : val_main_v62 (F := Ideal) x0 x1 x2 x3 x6 x7 x8 (ix2 r d) = ffn (fun k => val_main_v19 (F := Ideal) x0 x1 x2 x3 (ix2 r k)) x6 x7 x8 2 d := by
    rw [hs]
    unfold ffn
    refine Finset.sum_congr rfl fun n _ => ?_
    rw [v61_at, v58_at, v60_at]
  unfold val_main_v65 val_main_v64
  show _ + val_main_v63 (F := Ideal) x5 (ix2 r d) * val_main_v62 (F := Ideal) x0 x1 x2 x3 x6 x7 x8 (ix2 r d) = _
  rw [hw, hy]

theorem v73_at (r : Fin 32768) (n : Fin 3584) : val_main_v73 (F := Ideal) x0 x1 x2 x3 x6 (ix2 r n) = ∑ k : Fin 1024, val_main_v19 (F := Ideal) x0 x1 x2 x3 (ix2 r k) * x6 (ix3 3 k n) := by
  unfold val_main_v73
  generalize val_main_v19 (F := Ideal) x0 x1 x2 x3 = h
  pointwise [val_main_v68, val_main_v67]

theorem v75_at (r : Fin 32768) (n : Fin 3584) : val_main_v75 (F := Ideal) x0 x1 x2 x3 x7 (ix2 r n) = ∑ k : Fin 1024, val_main_v19 (F := Ideal) x0 x1 x2 x3 (ix2 r k) * x7 (ix3 3 k n) := by
  unfold val_main_v75
  generalize val_main_v19 (F := Ideal) x0 x1 x2 x3 = h
  pointwise [val_main_v70, val_main_v69]

theorem v76_at (r : Fin 32768) (n : Fin 3584) : val_main_v76 (F := Ideal) x0 x1 x2 x3 x6 x7 (ix2 r n)
    = val_main_v73 (F := Ideal) x0 x1 x2 x3 x6 (ix2 r n) * Ideal.logistic (val_main_v73 (F := Ideal) x0 x1 x2 x3 x6 (ix2 r n)) * val_main_v75 (F := Ideal) x0 x1 x2 x3 x7 (ix2 r n) := by
  unfold val_main_v76 val_main_v74 val_main_call3_v5 val_main_call3_v3 val_main_call3_v1 val_main_call3_v0
  generalize val_main_v73 (F := Ideal) x0 x1 x2 x3 x6 = h
  generalize val_main_v75 (F := Ideal) x0 x1 x2 x3 x7 = g
  pointwise [val_main_call3_v2, val_main_call3_v4, val_main_call3_cst, val_main_call3_cst_0, Ideal.logistic, one_bits]

theorem v80_at (r : Fin 32768) (d : Fin 1024) : val_main_v80 (F := Ideal) x0 x1 x2 x3 x5 x6 x7 x8 (ix2 r d)
    = val_main_v65 (F := Ideal) x0 x1 x2 x3 x5 x6 x7 x8 (ix2 r d) + x5 (ix2 r 3) * ffn (fun k => val_main_v19 (F := Ideal) x0 x1 x2 x3 (ix2 r k)) x6 x7 x8 3 d := by
  have hs : val_main_v77 (F := Ideal) x0 x1 x2 x3 x6 x7 x8 (ix2 r d) = ∑ n : Fin 3584, val_main_v76 (F := Ideal) x0 x1 x2 x3 x6 x7 (ix2 r n) * x8 (ix3 3 n d) := by
    unfold val_main_v77
    generalize val_main_v76 (F := Ideal) x0 x1 x2 x3 x6 x7 = h
    pointwise [val_main_v72, val_main_v71]
  have hw : val_main_v78 (F := Ideal) x5 (ix2 r d) = x5 (ix2 r 3) := by
    pointwise [val_main_v78, val_main_v66]
  have hy : val_main_v77 (F := Ideal) x0 x1 x2 x3 x6 x7 x8 (ix2 r d) = ffn (fun k => val_main_v19 (F := Ideal) x0 x1 x2 x3 (ix2 r k)) x6 x7 x8 3 d := by
    rw [hs]
    unfold ffn
    refine Finset.sum_congr rfl fun n _ => ?_
    rw [v76_at, v73_at, v75_at]
  unfold val_main_v80 val_main_v79
  show _ + val_main_v78 (F := Ideal) x5 (ix2 r d) * val_main_v77 (F := Ideal) x0 x1 x2 x3 x6 x7 x8 (ix2 r d) = _
  rw [hw, hy]

theorem v88_at (r : Fin 32768) (n : Fin 3584) : val_main_v88 (F := Ideal) x0 x1 x2 x3 x6 (ix2 r n) = ∑ k : Fin 1024, val_main_v19 (F := Ideal) x0 x1 x2 x3 (ix2 r k) * x6 (ix3 4 k n) := by
  unfold val_main_v88
  generalize val_main_v19 (F := Ideal) x0 x1 x2 x3 = h
  pointwise [val_main_v83, val_main_v82]

theorem v90_at (r : Fin 32768) (n : Fin 3584) : val_main_v90 (F := Ideal) x0 x1 x2 x3 x7 (ix2 r n) = ∑ k : Fin 1024, val_main_v19 (F := Ideal) x0 x1 x2 x3 (ix2 r k) * x7 (ix3 4 k n) := by
  unfold val_main_v90
  generalize val_main_v19 (F := Ideal) x0 x1 x2 x3 = h
  pointwise [val_main_v85, val_main_v84]

theorem v91_at (r : Fin 32768) (n : Fin 3584) : val_main_v91 (F := Ideal) x0 x1 x2 x3 x6 x7 (ix2 r n)
    = val_main_v88 (F := Ideal) x0 x1 x2 x3 x6 (ix2 r n) * Ideal.logistic (val_main_v88 (F := Ideal) x0 x1 x2 x3 x6 (ix2 r n)) * val_main_v90 (F := Ideal) x0 x1 x2 x3 x7 (ix2 r n) := by
  unfold val_main_v91 val_main_v89 val_main_call4_v5 val_main_call4_v3 val_main_call4_v1 val_main_call4_v0
  generalize val_main_v88 (F := Ideal) x0 x1 x2 x3 x6 = h
  generalize val_main_v90 (F := Ideal) x0 x1 x2 x3 x7 = g
  pointwise [val_main_call4_v2, val_main_call4_v4, val_main_call4_cst, val_main_call4_cst_0, Ideal.logistic, one_bits]

theorem v95_at (r : Fin 32768) (d : Fin 1024) : val_main_v95 (F := Ideal) x0 x1 x2 x3 x5 x6 x7 x8 (ix2 r d)
    = val_main_v80 (F := Ideal) x0 x1 x2 x3 x5 x6 x7 x8 (ix2 r d) + x5 (ix2 r 4) * ffn (fun k => val_main_v19 (F := Ideal) x0 x1 x2 x3 (ix2 r k)) x6 x7 x8 4 d := by
  have hs : val_main_v92 (F := Ideal) x0 x1 x2 x3 x6 x7 x8 (ix2 r d) = ∑ n : Fin 3584, val_main_v91 (F := Ideal) x0 x1 x2 x3 x6 x7 (ix2 r n) * x8 (ix3 4 n d) := by
    unfold val_main_v92
    generalize val_main_v91 (F := Ideal) x0 x1 x2 x3 x6 x7 = h
    pointwise [val_main_v87, val_main_v86]
  have hw : val_main_v93 (F := Ideal) x5 (ix2 r d) = x5 (ix2 r 4) := by
    pointwise [val_main_v93, val_main_v81]
  have hy : val_main_v92 (F := Ideal) x0 x1 x2 x3 x6 x7 x8 (ix2 r d) = ffn (fun k => val_main_v19 (F := Ideal) x0 x1 x2 x3 (ix2 r k)) x6 x7 x8 4 d := by
    rw [hs]
    unfold ffn
    refine Finset.sum_congr rfl fun n _ => ?_
    rw [v91_at, v88_at, v90_at]
  unfold val_main_v95 val_main_v94
  show _ + val_main_v93 (F := Ideal) x5 (ix2 r d) * val_main_v92 (F := Ideal) x0 x1 x2 x3 x6 x7 x8 (ix2 r d) = _
  rw [hw, hy]

theorem v103_at (r : Fin 32768) (n : Fin 3584) : val_main_v103 (F := Ideal) x0 x1 x2 x3 x6 (ix2 r n) = ∑ k : Fin 1024, val_main_v19 (F := Ideal) x0 x1 x2 x3 (ix2 r k) * x6 (ix3 5 k n) := by
  unfold val_main_v103
  generalize val_main_v19 (F := Ideal) x0 x1 x2 x3 = h
  pointwise [val_main_v98, val_main_v97]

theorem v105_at (r : Fin 32768) (n : Fin 3584) : val_main_v105 (F := Ideal) x0 x1 x2 x3 x7 (ix2 r n) = ∑ k : Fin 1024, val_main_v19 (F := Ideal) x0 x1 x2 x3 (ix2 r k) * x7 (ix3 5 k n) := by
  unfold val_main_v105
  generalize val_main_v19 (F := Ideal) x0 x1 x2 x3 = h
  pointwise [val_main_v100, val_main_v99]

theorem v106_at (r : Fin 32768) (n : Fin 3584) : val_main_v106 (F := Ideal) x0 x1 x2 x3 x6 x7 (ix2 r n)
    = val_main_v103 (F := Ideal) x0 x1 x2 x3 x6 (ix2 r n) * Ideal.logistic (val_main_v103 (F := Ideal) x0 x1 x2 x3 x6 (ix2 r n)) * val_main_v105 (F := Ideal) x0 x1 x2 x3 x7 (ix2 r n) := by
  unfold val_main_v106 val_main_v104 val_main_call5_v5 val_main_call5_v3 val_main_call5_v1 val_main_call5_v0
  generalize val_main_v103 (F := Ideal) x0 x1 x2 x3 x6 = h
  generalize val_main_v105 (F := Ideal) x0 x1 x2 x3 x7 = g
  pointwise [val_main_call5_v2, val_main_call5_v4, val_main_call5_cst, val_main_call5_cst_0, Ideal.logistic, one_bits]

theorem v110_at (r : Fin 32768) (d : Fin 1024) : val_main_v110 (F := Ideal) x0 x1 x2 x3 x5 x6 x7 x8 (ix2 r d)
    = val_main_v95 (F := Ideal) x0 x1 x2 x3 x5 x6 x7 x8 (ix2 r d) + x5 (ix2 r 5) * ffn (fun k => val_main_v19 (F := Ideal) x0 x1 x2 x3 (ix2 r k)) x6 x7 x8 5 d := by
  have hs : val_main_v107 (F := Ideal) x0 x1 x2 x3 x6 x7 x8 (ix2 r d) = ∑ n : Fin 3584, val_main_v106 (F := Ideal) x0 x1 x2 x3 x6 x7 (ix2 r n) * x8 (ix3 5 n d) := by
    unfold val_main_v107
    generalize val_main_v106 (F := Ideal) x0 x1 x2 x3 x6 x7 = h
    pointwise [val_main_v102, val_main_v101]
  have hw : val_main_v108 (F := Ideal) x5 (ix2 r d) = x5 (ix2 r 5) := by
    pointwise [val_main_v108, val_main_v96]
  have hy : val_main_v107 (F := Ideal) x0 x1 x2 x3 x6 x7 x8 (ix2 r d) = ffn (fun k => val_main_v19 (F := Ideal) x0 x1 x2 x3 (ix2 r k)) x6 x7 x8 5 d := by
    rw [hs]
    unfold ffn
    refine Finset.sum_congr rfl fun n _ => ?_
    rw [v106_at, v103_at, v105_at]
  unfold val_main_v110 val_main_v109
  show _ + val_main_v108 (F := Ideal) x5 (ix2 r d) * val_main_v107 (F := Ideal) x0 x1 x2 x3 x6 x7 x8 (ix2 r d) = _
  rw [hw, hy]

theorem v118_at (r : Fin 32768) (n : Fin 3584) : val_main_v118 (F := Ideal) x0 x1 x2 x3 x6 (ix2 r n) = ∑ k : Fin 1024, val_main_v19 (F := Ideal) x0 x1 x2 x3 (ix2 r k) * x6 (ix3 6 k n) := by
  unfold val_main_v118
  generalize val_main_v19 (F := Ideal) x0 x1 x2 x3 = h
  pointwise [val_main_v113, val_main_v112]

theorem v120_at (r : Fin 32768) (n : Fin 3584) : val_main_v120 (F := Ideal) x0 x1 x2 x3 x7 (ix2 r n) = ∑ k : Fin 1024, val_main_v19 (F := Ideal) x0 x1 x2 x3 (ix2 r k) * x7 (ix3 6 k n) := by
  unfold val_main_v120
  generalize val_main_v19 (F := Ideal) x0 x1 x2 x3 = h
  pointwise [val_main_v115, val_main_v114]

theorem v121_at (r : Fin 32768) (n : Fin 3584) : val_main_v121 (F := Ideal) x0 x1 x2 x3 x6 x7 (ix2 r n)
    = val_main_v118 (F := Ideal) x0 x1 x2 x3 x6 (ix2 r n) * Ideal.logistic (val_main_v118 (F := Ideal) x0 x1 x2 x3 x6 (ix2 r n)) * val_main_v120 (F := Ideal) x0 x1 x2 x3 x7 (ix2 r n) := by
  unfold val_main_v121 val_main_v119 val_main_call6_v5 val_main_call6_v3 val_main_call6_v1 val_main_call6_v0
  generalize val_main_v118 (F := Ideal) x0 x1 x2 x3 x6 = h
  generalize val_main_v120 (F := Ideal) x0 x1 x2 x3 x7 = g
  pointwise [val_main_call6_v2, val_main_call6_v4, val_main_call6_cst, val_main_call6_cst_0, Ideal.logistic, one_bits]

theorem v125_at (r : Fin 32768) (d : Fin 1024) : val_main_v125 (F := Ideal) x0 x1 x2 x3 x5 x6 x7 x8 (ix2 r d)
    = val_main_v110 (F := Ideal) x0 x1 x2 x3 x5 x6 x7 x8 (ix2 r d) + x5 (ix2 r 6) * ffn (fun k => val_main_v19 (F := Ideal) x0 x1 x2 x3 (ix2 r k)) x6 x7 x8 6 d := by
  have hs : val_main_v122 (F := Ideal) x0 x1 x2 x3 x6 x7 x8 (ix2 r d) = ∑ n : Fin 3584, val_main_v121 (F := Ideal) x0 x1 x2 x3 x6 x7 (ix2 r n) * x8 (ix3 6 n d) := by
    unfold val_main_v122
    generalize val_main_v121 (F := Ideal) x0 x1 x2 x3 x6 x7 = h
    pointwise [val_main_v117, val_main_v116]
  have hw : val_main_v123 (F := Ideal) x5 (ix2 r d) = x5 (ix2 r 6) := by
    pointwise [val_main_v123, val_main_v111]
  have hy : val_main_v122 (F := Ideal) x0 x1 x2 x3 x6 x7 x8 (ix2 r d) = ffn (fun k => val_main_v19 (F := Ideal) x0 x1 x2 x3 (ix2 r k)) x6 x7 x8 6 d := by
    rw [hs]
    unfold ffn
    refine Finset.sum_congr rfl fun n _ => ?_
    rw [v121_at, v118_at, v120_at]
  unfold val_main_v125 val_main_v124
  show _ + val_main_v123 (F := Ideal) x5 (ix2 r d) * val_main_v122 (F := Ideal) x0 x1 x2 x3 x6 x7 x8 (ix2 r d) = _
  rw [hw, hy]

theorem v133_at (r : Fin 32768) (n : Fin 3584) : val_main_v133 (F := Ideal) x0 x1 x2 x3 x6 (ix2 r n) = ∑ k : Fin 1024, val_main_v19 (F := Ideal) x0 x1 x2 x3 (ix2 r k) * x6 (ix3 7 k n) := by
  unfold val_main_v133
  generalize val_main_v19 (F := Ideal) x0 x1 x2 x3 = h
  pointwise [val_main_v128, val_main_v127]

theorem v135_at (r : Fin 32768) (n : Fin 3584) : val_main_v135 (F := Ideal) x0 x1 x2 x3 x7 (ix2 r n) = ∑ k : Fin 1024, val_main_v19 (F := Ideal) x0 x1 x2 x3 (ix2 r k) * x7 (ix3 7 k n) := by
  unfold val_main_v135
  generalize val_main_v19 (F := Ideal) x0 x1 x2 x3 = h
  pointwise [val_main_v130, val_main_v129]

theorem v136_at (r : Fin 32768) (n : Fin 3584) : val_main_v136 (F := Ideal) x0 x1 x2 x3 x6 x7 (ix2 r n)
    = val_main_v133 (F := Ideal) x0 x1 x2 x3 x6 (ix2 r n) * Ideal.logistic (val_main_v133 (F := Ideal) x0 x1 x2 x3 x6 (ix2 r n)) * val_main_v135 (F := Ideal) x0 x1 x2 x3 x7 (ix2 r n) := by
  unfold val_main_v136 val_main_v134 val_main_call7_v5 val_main_call7_v3 val_main_call7_v1 val_main_call7_v0
  generalize val_main_v133 (F := Ideal) x0 x1 x2 x3 x6 = h
  generalize val_main_v135 (F := Ideal) x0 x1 x2 x3 x7 = g
  pointwise [val_main_call7_v2, val_main_call7_v4, val_main_call7_cst, val_main_call7_cst_0, Ideal.logistic, one_bits]

theorem v140_at (r : Fin 32768) (d : Fin 1024) : val_main_v140 (F := Ideal) x0 x1 x2 x3 x5 x6 x7 x8 (ix2 r d)
    = val_main_v125 (F := Ideal) x0 x1 x2 x3 x5 x6 x7 x8 (ix2 r d) + x5 (ix2 r 7) * ffn (fun k => val_main_v19 (F := Ideal) x0 x1 x2 x3 (ix2 r k)) x6 x7 x8 7 d := by
  have hs : val_main_v137 (F := Ideal) x0 x1 x2 x3 x6 x7 x8 (ix2 r d) = ∑ n : Fin 3584, val_main_v136 (F := Ideal) x0 x1 x2 x3 x6 x7 (ix2 r n) * x8 (ix3 7 n d) := by
    unfold val_main_v137
    generalize val_main_v136 (F := Ideal) x0 x1 x2 x3 x6 x7 = h
    pointwise [val_main_v132, val_main_v131]
  have hw : val_main_v138 (F := Ideal) x5 (ix2 r d) = x5 (ix2 r 7) := by
    pointwise [val_main_v138, val_main_v126]
  have hy : val_main_v137 (F := Ideal) x0 x1 x2 x3 x6 x7 x8 (ix2 r d) = ffn (fun k => val_main_v19 (F := Ideal) x0 x1 x2 x3 (ix2 r k)) x6 x7 x8 7 d := by
    rw [hs]
    unfold ffn
    refine Finset.sum_congr rfl fun n _ => ?_
    rw [v136_at, v133_at, v135_at]
  unfold val_main_v140 val_main_v139
  show _ + val_main_v138 (F := Ideal) x5 (ix2 r d) * val_main_v137 (F := Ideal) x0 x1 x2 x3 x6 x7 x8 (ix2 r d) = _
  rw [hw, hy]

end Cert.Reference2Ideal.Moe

end
-- ==== Proof.Moe.Inv.lean ====
module

public import proofs.«01_k».proof.Proof.Moe.Win

@[expose] public section

set_option maxRecDepth 16384

noncomputable section

namespace Cert.Kernel2Ideal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel2Ideal Cert.Kernel2Ideal.Gen
open Idealize.ShloMosaic (ix1 ix2 ix3)

instance (v3 v7 : BitVec 32) (N : ℕ) : Decidable (Case v3 v7 N) := by unfold Case; infer_instance

/-- How many rows the size of a count holds. -/
def capN (n : ℕ) : ℕ := if n ≤ 128 then 128 else if n ≤ 192 then 192 else if n ≤ 256 then 256 else if n ≤ 320 then 320 else if n ≤ 384 then 384 else if n ≤ 448 then 448 else if n ≤ 512 then 512 else 1024

theorem case_of : ∀ n : Fin 1025, Case (sidW (BitVec.ofNat 32 n.val)) (nchW (BitVec.ofNat 32 n.val)) (capN n.val) ∧ n.val ≤ capN n.val := by decide +kernel

theorem off1_at : ∀ t : Fin grid0.N, k0_off1 (grid0.coords t) 0 = t.val / 32 * 8 + t.val / 4 % 8 := by decide +kernel

theorem wordAt_eq (a : Vec Ideal S256 .i32) (t : Fin grid0.N) (i : Fin 32) (e : Fin 8) (hi : i.val = t.val / 32) (he : e.val = t.val / 4 % 8) :
    wordAt (F := Ideal) a (grid0.coords t) = a (ix1 ⟨i.val * 8 + e.val, by omega⟩) := by
  unfold wordAt
  refine congrArg a ?_
  funext b
  match b with
  | ⟨0, _⟩ =>
    refine Fin.ext ?_
    show k0_off1 (grid0.coords t) 0 + _ = i.val * 8 + e.val
    rw [off1_at, hi, he]
    rfl

theorem bits_at (x : Vec Ideal S32768x8 .f32) (i : Fin 32) (t : Fin 1024) (e : Fin 8) :
    bits x (ix3 i t e) = BitVec.ofBool (decide ((0 : EReal) < x (ix2 ⟨i.val * 1024 + t.val, by omega⟩ e))) := by
  pointwise [bits]

variable (m : (ℓ : Loc nD τ sig) → Buf (Elt Ideal) ℓ) (c : Dev nD)

theorem argsM_comb (i : Fin 32) (e : Fin 8) (t : Fin 1024) : (argsM m c).comb i.val (ix2 t (ln e.val)) = ((m ((c.tc : Thread nD τ).loc main_arg5)) : Vec Ideal S32768x8 .f32) (ix2 ⟨i.val * 1024 + t.val, by omega⟩ e) := by
  unfold argsM argsOf
  dsimp only
  have h1 : (ln e.val).val = e.val := by show e.val % 128 = e.val; omega
  refine (dif_pos (show (ln e.val).val < 8 by omega)).trans ?_
  refine congrArg ((m ((c.tc : Thread nD τ).loc main_arg5)) : Vec Ideal S32768x8 .f32) ?_
  funext a
  match a with
  | ⟨0, _⟩ => exact Fin.ext (by show i.val % 32 * 1024 + t.val = i.val * 1024 + t.val; omega)
  | ⟨1, _⟩ => exact Fin.ext h1

open Classical in
theorem cnt_mem (i : Fin 32) (e : Fin 8) : cnt (bits (m ((c.tc : Thread nD τ).loc main_arg5))) i e = (Finset.univ.filter fun t => (argsM m c).mem i.val e.val t).card := by
  unfold cnt
  congr 1
  ext t
  simp only [Finset.mem_filter, Finset.mem_univ, true_and]
  unfold Args.mem
  rw [argsM_comb, bits_at]
  by_cases h : (0 : EReal) < ((m ((c.tc : Thread nD τ).loc main_arg5)) : Vec Ideal S32768x8 .f32) (ix2 ⟨i.val * 1024 + t.val, by omega⟩ e)
  · simp [h]
  · simp [h]

/-- What holds before point `n`. -/
def Inv (n : ℕ) (Q : Scr Ideal) : Prop := Pre (argsM m 0) (n / 32) (n / 4 % 8) (n % 4) Q

/-- What the output's block holds after the last point of its tile. -/
def Out (n : ℕ) (X : Vec Ideal S1024x1024 .f32) : Prop :=
  n % 32 = 31 → ∀ t d : Fin 1024, X (ix2 t d) = k0_pay10 ((argsM m 0).x (n / 32)) ((argsM m 0).g2 (n / 32)) (fun y => (argsM m 0).acc (n / 32) (y 0) 8 (y 1)) (argsM m 0).fg (ix2 t d)

theorem inv_zero (Q : Scr Ideal) : Inv m 0 Q := ⟨fun h => absurd ⟨rfl, rfl, rfl⟩ h, fun h => absurd ⟨rfl, rfl⟩ h, fun h => absurd rfl h⟩

theorem inv_step (hnn : ∀ (r : Fin 32768) (e : Fin 8), (0 : EReal) ≤ (m (((0 : Dev nD).tc : Thread nD τ).loc main_arg5) : Vec Ideal S32768x8 .f32) (ix2 r e))
    (c : Dev nD) (t : Fin (cfgT m).N) (Q : Scr Ideal) (Y : Vec Ideal S1024x1024 .f32) (hI : Inv m t.val Q) (hw) :
    Inv m (t.val + 1) (scr (bodyF (grid0.coords t) (wordAt (V m 0 main_v36) (grid0.coords t)) (wordAt (V m 0 main_v39) (grid0.coords t)) hw (stAt m c t Q Y)))
      ∧ Out m t.val (bodyF (grid0.coords t) (wordAt (V m 0 main_v36) (grid0.coords t)) (wordAt (V m 0 main_v39) (grid0.coords t)) hw (stAt m c t Q Y)).a15 := by
  obtain rfl : c = 0 := Subsingleton.elim _ _
  have ht : t.val < 1024 := lt_of_lt_of_eq t.isLt N_1024
  have hc : Case (wordAt (V m 0 main_v36) (grid0.coords t)) (wordAt (V m 0 main_v39) (grid0.coords t)) (capN (cnt (bits (m ((0 : Dev nD), Proc.tc.devRef main_arg5))) ⟨t.val / 32, by omega⟩ ⟨t.val / 4 % 8, by omega⟩)) := by
    rw [wordAt_eq _ t ⟨t.val / 32, by omega⟩ ⟨t.val / 4 % 8, by omega⟩ rfl rfl, wordAt_eq _ t ⟨t.val / 32, by omega⟩ ⟨t.val / 4 % 8, by omega⟩ rfl rfl, V_v36, V_v39]
    dsimp only
    rw [counts_at _ ⟨t.val / 32, by omega⟩ ⟨t.val / 4 % 8, by omega⟩]
    exact (case_of ⟨_, Nat.lt_succ_of_le (cnt_le _ _ _)⟩).1
  have hN := (case_of ⟨cnt (bits (m ((0 : Dev nD), Proc.tc.devRef main_arg5))) ⟨t.val / 32, by omega⟩ ⟨t.val / 4 % 8, by omega⟩, Nat.lt_succ_of_le (cnt_le _ _ _)⟩).2
  have hN' := (cnt_mem m 0 ⟨t.val / 32, by omega⟩ ⟨t.val / 4 % 8, by omega⟩).symm.trans_le hN
  obtain ⟨q17, qM, qR, qO⟩ := body_step (argsM m 0) (grid0.coords t) _ _ _ hc hw (t.val / 32) (t.val / 4 % 8) (t.val % 4) (coord0 t) (coord1 t) (coord2 t) (stAt m 0 t Q Y)
    (here m 0 t Q Y) hI (fun s => by
      have := argsM_comb m 0 ⟨t.val / 32, by omega⟩ ⟨t.val / 4 % 8, by omega⟩ s
      rw [show (0 : EReal) ≤ _ ↔ _ from by rw [this]]
      exact hnn _ _) hN'
  refine ⟨⟨fun _ => q17, fun h => ?_, fun h => ?_⟩, fun h a d => ?_⟩
  · have e1 : (t.val + 1) / 32 = t.val / 32 := by omega
    have e2 : (t.val + 1) / 4 % 8 = if t.val % 4 = 3 then t.val / 4 % 8 + 1 else t.val / 4 % 8 := by split <;> omega
    rw [e1, e2]; exact qM
  · have e1 : (t.val + 1) / 32 = t.val / 32 := by omega
    have e2 : (t.val + 1) / 4 % 8 = t.val / 4 % 8 := by omega
    have e3 : (t.val + 1) % 4 = t.val % 4 + 1 := by omega
    rw [e1, e2, e3]; exact qR (by omega)
  · exact qO (by omega) (by omega) a d

end Cert.Kernel2Ideal.Moe

end
-- ==== Proof.Moe.Out.lean ====
module

public import proofs.«01_k».proof.Proof.Moe.Inv
public import Idealize.ShloMosaic.Lib.Pipeline.ArrRel
public import Idealize.ShloMosaic.Lib.Pipeline.ValueKit.Geometry

@[expose] public section

set_option maxRecDepth 16384

noncomputable section

namespace Cert.Kernel2Ideal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel2Ideal Cert.Kernel2Ideal.Gen
open Idealize.ShloMosaic (ix1 ix2 ix3)

/-- The result, row by row: the tile a row lies in, and the row's place in the tile. -/
def result (A : Args) : Vec Ideal S32768x1024 .f32 := fun q =>
  k0_pay10 (A.x ((q 0).val / 1024)) (A.g2 ((q 0).val / 1024)) (fun y => A.acc ((q 0).val / 1024) (y 0) 8 (y 1)) A.fg (ix2 ⟨(q 0).val % 1024, Nat.mod_lt _ (by decide)⟩ (q 1))

theorem result_of (A : Args) (q : S32768x1024.Idx) (i : ℕ) (a d : Fin 1024) (h0 : (q 0).val = i * 1024 + a.val) (h1 : (q 1).val = d.val) :
    result A q = k0_pay10 (A.x i) (A.g2 i) (fun y => A.acc i (y 0) 8 (y 1)) A.fg (ix2 a d) := by
  have e0 : (q 0).val / 1024 = i := by omega
  have e1 : (⟨(q 0).val % 1024, Nat.mod_lt _ (by decide)⟩ : Fin 1024) = a := Fin.ext (by dsimp only; omega)
  have e2 : (q 1 : Fin 1024) = d := Fin.ext h1
  unfold result
  rw [e0, e1]
  exact congrArg (fun z : Fin 1024 => k0_pay10 (A.x i) (A.g2 i) (fun y => A.acc i (y 0) 8 (y 1)) A.fg (ix2 a z)) e2

variable (m : (ℓ : Loc nD τ sig) → Buf (Elt Ideal) ℓ)

theorem flush10 (t : Fin (cfgT m).N) : ((pcfgs (F := Ideal) 0).win (tabs m 0) 10).flush t = true ↔ t.val % 32 = 31 :=
  (by decide +kernel : ∀ t : Fin grid0.N, Pipeline.Window.flushOf grid0 true cc0_transform_10 t = true ↔ t.val % 32 = 31) t

/-- The blocks of the last points tile the result. -/
theorem cover10 (q : S32768x1024.Idx) : ∃ t : Fin (cfgT m).N, ((cfgT m).win 10).flush t = true ∧ q ∈ (((cfgT m).win 10).blk t).view.set := by
  have h0 : (q 0 : Nat) < 32768 := (q 0).isLt
  have h1 : (q 1 : Nat) < 1024 := (q 1).isLt
  have hN : (cfgT m).N = 1024 := N_1024
  refine ⟨⟨(q 0 : Nat) / 1024 * 32 + 31, by omega⟩, (flush10 m _).2 (by dsimp only; omega), ?_⟩
  have e := idx10 m ⟨(q 0 : Nat) / 1024 * 32 + 31, by omega⟩
  refine (Pipeline.Window.emb_mem_blk_iff ((cfgT m).win 10) _ (q : S32768x1024.Idx)).2 fun a => ?_
  match a with
  | ⟨0, _⟩ =>
    erw [e.1]
    show ((q 0 : Nat) / 1024 * 32 + 31) / 32 * 1024 ≤ (q 0 : Nat) ∧ (q 0 : Nat) < ((q 0 : Nat) / 1024 * 32 + 31) / 32 * 1024 + 1024
    omega
  | ⟨1, _⟩ =>
    erw [e.2]
    show 0 * 1024 ≤ (q 1 : Nat) ∧ (q 1 : Nat) < 0 * 1024 + 1024
    omega

/-- Every run ends with the result named above, and the arguments as they were. -/
theorem run_value (ρ : Dev nD → PrngReg) (hnn : ∀ (r : Fin 32768) (e : Fin 8), (0 : EReal) ≤ (m (((0 : Dev nD).tc : Thread nD τ).loc main_arg5) : Vec Ideal S32768x8 .f32) (ix2 r e)) :
    θ_run defs (onTc (τ := τ) (main (F := Ideal))) ⟨m, fun _ => 0, ρ⟩ (fun r => ∀ c : Dev nD,
      r.2.mem ((c.tc : Thread nD τ).loc main_v46) = result (argsM m c) ∧ r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8) ∧ r.2.mem ((c.tc : Thread nD τ).loc main_arg9) = m ((c.tc : Thread nD τ).loc main_arg9)) := by
  refine (θ_run defs _ _).mono ?_ (run_main m (Inv m) (Out m) ρ (inv_zero m) (inv_step m hnn) (hT m))
  intro r ⟨h, hs⟩ c
  obtain ⟨after, hL, hA⟩ := Pipeline.RDat.FramePost.exists_exact h c
  refine ⟨(hA 10).trans (Pipeline.Dat.arrAt_eq_of_emb _ 10 _ (fun t hf (y : S1024x1024.Idx) => ?_) (cover10 m)), ((h c).2 main_arg0 (Pipeline.mem_restRefs_of main_arg0 (by decide) (show ∀ w : Fin 11, (spec0 w).arr.view.ref ≠ main_arg0 by decide))).trans (V_main_arg0 m c), ((h c).2 main_arg1 (Pipeline.mem_restRefs_of main_arg1 (by decide) (show ∀ w : Fin 11, (spec0 w).arr.view.ref ≠ main_arg1 by decide))).trans (V_main_arg1 m c), (Pipeline.RDat.FramePost.arr_in h c 2 rfl).trans (V_main_arg2 m c), (Pipeline.RDat.FramePost.arr_in h c 3 rfl).trans (V_main_arg3 m c), (Pipeline.RDat.FramePost.arr_in h c 4 rfl).trans (V_main_arg4 m c), ((h c).2 main_arg5 (Pipeline.mem_restRefs_of main_arg5 (by decide) (show ∀ w : Fin 11, (spec0 w).arr.view.ref ≠ main_arg5 by decide))).trans (V_main_arg5 m c), ((h c).2 main_arg6 (Pipeline.mem_restRefs_of main_arg6 (by decide) (show ∀ w : Fin 11, (spec0 w).arr.view.ref ≠ main_arg6 by decide))).trans (V_main_arg6 m c), ((h c).2 main_arg7 (Pipeline.mem_restRefs_of main_arg7 (by decide) (show ∀ w : Fin 11, (spec0 w).arr.view.ref ≠ main_arg7 by decide))).trans (V_main_arg7 m c), ((h c).2 main_arg8 (Pipeline.mem_restRefs_of main_arg8 (by decide) (show ∀ w : Fin 11, (spec0 w).arr.view.ref ≠ main_arg8 by decide))).trans (V_main_arg8 m c), ((h c).2 main_arg9 (Pipeline.mem_restRefs_of main_arg9 (by decide) (show ∀ w : Fin 11, (spec0 w).arr.view.ref ≠ main_arg9 by decide))).trans (V_main_arg9 m c)⟩
  obtain ⟨Y, -, hO⟩ := hL 10 t hf
  obtain rfl : c = 0 := Subsingleton.elim _ _
  have ht : t.val < 1024 := lt_of_lt_of_eq t.isLt N_1024
  have hmod := (flush10 m t).1 hf
  have y0 : (y 0).val < 1024 := (y 0).isLt
  have y1 : (y 1).val < 1024 := (y 1).isLt
  have hO' : Out m t.val (after 10 t) := hO
  have e := idx10 m t
  refine ((congrArg (after 10 t : Vec Ideal S1024x1024 .f32) (?_ : _ = ix2 (y 0) (y 1))).trans (hO' hmod (y 0) (y 1))).trans (result_of (argsM m 0) _ (t.val / 32) (y 0) (y 1) ?_ ?_).symm
  · funext a
    match a with
    | ⟨0, _⟩ => rfl
    | ⟨1, _⟩ => rfl
  · erw [Pipeline.Window.rect_emb_val ((cfgT m).win 10)]
    erw [e.1]
    rfl
  · erw [Pipeline.Window.rect_emb_val ((cfgT m).win 10)]
    erw [e.2]
    show 0 * 1024 + (y 1).val = (y 1).val
    omega

end Cert.Kernel2Ideal.Moe

end
-- ==== Proof.Moe.Same.lean ====
/- The kernel's result is the reference's. -/
module

public import proofs.«01_k».proof.Proof.Moe.RefNorm
public import proofs.«01_k».proof.Proof.Moe.RefExperts
public import proofs.«01_k».proof.Proof.Moe.Out

@[expose] public section
noncomputable section
namespace Cert.Reference2Ideal.Moe

open Cert.Reference2Ideal Cert.Reference2Ideal.Gen Cert.Reference2Ideal.Read Idealize.ShloMosaic Idealize.ShloMosaic.TcCoe Idealize.SL.Sem
open Idealize.ShloMosaic (ix1 ix2 ix3)
open Cert.Kernel2Ideal.Moe (argsOf ln result)
open scoped BigOperators

variable (x0 : Vec Ideal S8x4096x1024 .f32) (x1 : Vec Ideal S1024 .f32) (x2 x3 x4 : Vec Ideal S8x1x1024 .f32) (x5 : Vec Ideal S32768x8 .f32)
  (x6 x7 : Vec Ideal S8x1024x3584 .f32) (x8 : Vec Ideal S8x3584x1024 .f32) (x9 : Vec Ideal S1024 .f32)

/-- A row, from its tile and its place in the tile. -/
theorem row_eq (i : Fin 32) (t : Fin 1024) :
    (⟨(⟨i.val / 4 % 8, by omega⟩ : Fin 8).val * 4096 + (⟨i.val % 4 * 1024 + t.val, by omega⟩ : Fin 4096).val, by dsimp only; omega⟩ : Fin 32768) = ⟨i.val * 1024 + t.val, by omega⟩ :=
  Fin.ext (by dsimp only; omega)

/-- The normalised rows agree. -/
theorem h_eq (i : Fin 32) (t k : Fin 1024) :
    val_main_v19 (F := Ideal) x0 x1 x2 x3 (ix2 ⟨i.val * 1024 + t.val, by omega⟩ k) = (argsOf x0 x1 x2 x3 x4 x5 x6 x7 x8 x9).h i.val (ix2 t k) := by
  rw [← row_eq i t, v19_at x0 x1 x2 x3]
  exact (pay11_at ((argsOf x0 x1 x2 x3 x4 x5 x6 x7 x8 x9).x i.val) (argsOf x0 x1 x2 x3 x4 x5 x6 x7 x8 x9).g ((argsOf x0 x1 x2 x3 x4 x5 x6 x7 x8 x9).sc i.val) ((argsOf x0 x1 x2 x3 x4 x5 x6 x7 x8 x9).sh i.val) t k).symm

/-- A sum over the width, block by block. -/
theorem sum_width (f : Fin 3584 → EReal) :
    ∑ n, f n = (((0 + ∑ n : Fin 896, f ⟨0 % 4 * 896 + n.val, by omega⟩) + ∑ n : Fin 896, f ⟨1 % 4 * 896 + n.val, by omega⟩)
      + ∑ n : Fin 896, f ⟨2 % 4 * 896 + n.val, by omega⟩) + ∑ n : Fin 896, f ⟨3 % 4 * 896 + n.val, by omega⟩ := by
  have e : ∑ n, f n = ∑ p : Fin 4 × Fin 896, f ⟨p.1.val % 4 * 896 + p.2.val, by omega⟩ := by
    refine (Fintype.sum_equiv (finProdFinEquiv (m := 4) (n := 896)) _ _ fun p => ?_).symm
    refine congrArg f (Fin.ext ?_)
    show p.1.val % 4 * 896 + p.2.val = p.2.val + 896 * p.1.val
    have := p.1.isLt
    omega
  rw [e, Fintype.sum_prod_type, Fin.sum_univ_four, zero_add]
  rfl

/-- The expert's blocks add up to the expert. -/
theorem y_eq (i : Fin 32) (e : Fin 8) (t d : Fin 1024) :
    (argsOf x0 x1 x2 x3 x4 x5 x6 x7 x8 x9).y i.val e.val t 4 d
      = ffn (fun k => val_main_v19 (F := Ideal) x0 x1 x2 x3 (ix2 ⟨i.val * 1024 + t.val, by omega⟩ k)) x6 x7 x8 e d := by
  have hh := fun k => h_eq x0 x1 x2 x3 x4 x5 x6 x7 x8 x9 i t k
  simp only [hh]
  unfold ffn
  rw [sum_width]
  have he : (⟨e.val % 8, Nat.mod_lt _ (by decide)⟩ : Fin 8) = e := Fin.ext (by dsimp only; omega)
  have blk : ∀ j : ℕ, Kernel2Ideal.Moe.hidden (fun k => (argsOf x0 x1 x2 x3 x4 x5 x6 x7 x8 x9).h i.val (ix2 t k)) ((argsOf x0 x1 x2 x3 x4 x5 x6 x7 x8 x9).w1 e.val j) ((argsOf x0 x1 x2 x3 x4 x5 x6 x7 x8 x9).w3 e.val j) ((argsOf x0 x1 x2 x3 x4 x5 x6 x7 x8 x9).w2 e.val j) d
      = ∑ n : Fin 896, (fun n : Fin 3584 => ((∑ k, (argsOf x0 x1 x2 x3 x4 x5 x6 x7 x8 x9).h i.val (ix2 t k) * x6 (ix3 e k n)) * Ideal.logistic (∑ k, (argsOf x0 x1 x2 x3 x4 x5 x6 x7 x8 x9).h i.val (ix2 t k) * x6 (ix3 e k n)) * ∑ k, (argsOf x0 x1 x2 x3 x4 x5 x6 x7 x8 x9).h i.val (ix2 t k) * x7 (ix3 e k n)) * x8 (ix3 e n d))
          ⟨j % 4 * 896 + n.val, by omega⟩ := by
    intro j
    generalize (argsOf x0 x1 x2 x3 x4 x5 x6 x7 x8 x9).h i.val = h
    unfold Kernel2Ideal.Moe.hidden
    refine Finset.sum_congr rfl fun n _ => ?_
    have e1 : ∀ k : Fin 1024, (argsOf x0 x1 x2 x3 x4 x5 x6 x7 x8 x9).w1 e.val j (ix3 0 k n) = x6 (ix3 e k ⟨j % 4 * 896 + n.val, by omega⟩) := fun k =>
      congrArg (fun z => x6 (ix3 z k ⟨j % 4 * 896 + n.val, by omega⟩)) he
    have e3 : ∀ k : Fin 1024, (argsOf x0 x1 x2 x3 x4 x5 x6 x7 x8 x9).w3 e.val j (ix3 0 k n) = x7 (ix3 e k ⟨j % 4 * 896 + n.val, by omega⟩) := fun k =>
      congrArg (fun z => x7 (ix3 z k ⟨j % 4 * 896 + n.val, by omega⟩)) he
    have e2 : (argsOf x0 x1 x2 x3 x4 x5 x6 x7 x8 x9).w2 e.val j (ix3 0 n d) = x8 (ix3 e ⟨j % 4 * 896 + n.val, by omega⟩ d) :=
      congrArg (fun z => x8 (ix3 z ⟨j % 4 * 896 + n.val, by omega⟩ d)) he
    simp only [e1, e2, e3]
  simp only [Kernel2Ideal.Moe.Args.y]
  rw [blk 0, blk 1, blk 2, blk 3]

theorem comb_eq (i : Fin 32) (e : Fin 8) (t : Fin 1024) :
    (argsOf x0 x1 x2 x3 x4 x5 x6 x7 x8 x9).comb i.val (ix2 t (ln e.val)) = x5 (ix2 ⟨i.val * 1024 + t.val, by omega⟩ e) := by
  have h1 : (ln e.val).val = e.val := by show e.val % 128 = e.val; omega
  refine (dif_pos (show (ln e.val).val < 8 by omega)).trans (congrArg x5 ?_)
  funext a
  match a with
  | ⟨0, _⟩ => exact Fin.ext (by show i.val % 32 * 1024 + t.val = i.val * 1024 + t.val; omega)
  | ⟨1, _⟩ => exact Fin.ext h1

/-- The weighted sums over the experts agree. -/
theorem acc_eq (i : Fin 32) (t d : Fin 1024) :
    val_main_v140 (F := Ideal) x0 x1 x2 x3 x5 x6 x7 x8 (ix2 ⟨i.val * 1024 + t.val, by omega⟩ d) = (argsOf x0 x1 x2 x3 x4 x5 x6 x7 x8 x9).acc i.val t 8 d := by
  have z : val_main_v20 (F := Ideal) (ix2 ⟨i.val * 1024 + t.val, by omega⟩ d) = 0 := zero_bits
  have c := fun e => comb_eq x0 x1 x2 x3 x4 x5 x6 x7 x8 x9 i e t
  have y := fun e => y_eq x0 x1 x2 x3 x4 x5 x6 x7 x8 x9 i e t d
  rw [v140_at, v125_at, v110_at, v95_at, v80_at, v65_at, v50_at, v35_at, z]
  simp only [← y, ← c]
  rfl

/-- The kernel's result is the reference's. -/
theorem result_eq : result (argsOf x0 x1 x2 x3 x4 x5 x6 x7 x8 x9) = val_main_v158 (F := Ideal) x0 x1 x2 x3 x4 x5 x6 x7 x8 x9 := by
  funext q
  have h0 : (q 0).val < 32768 := (q 0).isLt
  have hq : q = ix2 (⟨(q 0).val / 1024 * 1024 + (q 0).val % 1024, by omega⟩ : Fin 32768) (q 1) := by
    refine (Idealize.ShloMosaic.eq_ix2 q).trans ?_
    exact congrArg (fun z : Fin 32768 => ix2 z (q 1)) (Fin.ext (by show (q 0).val = _; dsimp only; omega))
  have key : ∀ (i : Fin 32) (t d : Fin 1024), result (argsOf x0 x1 x2 x3 x4 x5 x6 x7 x8 x9) (ix2 ⟨i.val * 1024 + t.val, by omega⟩ d)
      = val_main_v158 (F := Ideal) x0 x1 x2 x3 x4 x5 x6 x7 x8 x9 (ix2 ⟨i.val * 1024 + t.val, by omega⟩ d) := by
    intro i t d
    rw [Kernel2Ideal.Moe.result_of _ _ i.val t d rfl rfl, pay10_at]
    have e := v158_at x0 x1 x2 x3 x4 x5 x6 x7 x8 x9 ⟨i.val / 4 % 8, by omega⟩ ⟨i.val % 4 * 1024 + t.val, by omega⟩ d
    rw [row_eq i t] at e
    rw [e]
    have a := fun k => acc_eq x0 x1 x2 x3 x4 x5 x6 x7 x8 x9 i t k
    simp only [a]
    rfl
  rw [hq]
  exact key ⟨(q 0).val / 1024, by omega⟩ ⟨(q 0).val % 1024, by omega⟩ (q 1)

end Cert.Reference2Ideal.Moe

end
-- ==== Proof.Moe.Nonneg.lean ====
/- The precondition read: every combination weight is at least zero. -/
module

public import proofs.«01_k».proof.Defs
public import Idealize.ShloMosaic.Lib.ReduceAll

@[expose] public section
noncomputable section
namespace Cert.Pre_nonnegative_weights.Moe

open Cert.Pre_nonnegative_weights Idealize.ShloMosaic Idealize.SL.Sem

/-- The side conditions of the precondition's operations. -/
theorem facts : Facts where
  bcast_S_S32768x8 := by decide
  reducesTo_S32768x8_S_d0_1 := by decide
  h_S_ := by decide

theorem zero_bits : Ideal.ofBits .f32 0x00000000#32 = 0 := by
  simp [Ideal.ofBits, Ideal.ieee]

theorem nonneg_of_ge (x : EReal) (h : BitVec.ofBool (decide (Ideal.ofBits .f32 0x00000000#32 ≤ x)) = 1#1) : 0 ≤ x := by
  rw [zero_bits] at h
  by_contra hn
  simp [hn] at h

instance : Subsingleton S_.Idx := ⟨fun a b => funext fun i => i.elim0⟩

theorem nonneg [Facts] (x0 : FVec Ideal S8x4096x1024 .f32) (x1 : FVec Ideal S1024 .f32) (x2 x3 x4 : FVec Ideal S8x1x1024 .f32) (x5 : FVec Ideal S32768x8 .f32)
    (x6 x7 : FVec Ideal S8x1024x3584 .f32) (x8 : FVec Ideal S8x3584x1024 .f32) (x9 : FVec Ideal S1024 .f32)
    (h : fn (F := Ideal) x0 x1 x2 x3 x4 x5 x6 x7 x8 x9 = fun _ => 1#1) (j : S32768x8.Idx) : (0 : EReal) ≤ x5 j := by
  have h0 := congrFun h (fun a => a.elim0)
  unfold fn at h0
  exact nonneg_of_ge _ (Host.reduce_andi_all _ _ _ _ _ h0 j)

end Cert.Pre_nonnegative_weights.Moe

end
-- ==== Proof.Ffn.Body.lean ====
/- What the dense feed-forward kernel's body leaves at a grid point, in its two cases. -/
module

public import proofs.«01_k».proof.Proof.Gen.Kernel3Ideal.Value
public import Idealize.ShloMosaic.Lib.Pipeline.Value
public import Idealize.ShloMosaic.Lib.Pipeline.ValueKit.Acc
public import Idealize.ShloMosaic.Lib.Pipeline.ValueKit.Point

@[expose] public section
set_option maxRecDepth 16384
noncomputable section
namespace Cert.Kernel3Ideal.Ffn

open Cert.Kernel3Ideal Cert.Kernel3Ideal.Gen Idealize.ShloMosaic Idealize.ShloMosaic.TcCoe Idealize.ShloMosaic.Tactic Idealize.SL.Sem Idealize.ShloMosaic.StableHlo

variable {F : FTy → Type} [FloatOps F] (m : (ℓ : Loc nD τ sig) → Buf (Elt F) ℓ) (c : Dev nD)

/-- At the first point of a run the normalised rows are stored. -/
theorem first_h (t : Fin cfg0.N) (h : t.val % 2 = 0) :
    (outsAt0 m c t.val t.isLt).2.1 = k0_pay1 (iblk m c 0 t) (iblk m c 1 t) (iblk m c 2 t) (iblk m c 3 t) := by
  rw [outsAt0_A m c t h (by omega)]
  frame_out

/-- At the first point of a run the sum holds the first block of the width. -/
theorem first_acc (t : Fin cfg0.N) (h : t.val % 2 = 0) :
    (outsAt0 m c t.val t.isLt).2.2 = k0_pay3 (k0_pay1 (iblk m c 0 t) (iblk m c 1 t) (iblk m c 2 t) (iblk m c 3 t)) (iblk m c 5 t) (iblk m c 6 t) k0_pay2 (iblk m c 7 t) := by
  rw [outsAt0_A m c t h (by omega)]
  frame_out

/-- At the last point of a run the block is written, from the sum with the second block of the width added. -/
theorem last_out (t : Fin cfg0.N) (h : t.val % 2 = 1) :
    (outsAt0 m c t.val t.isLt).1 = k0_pay4 (iblk m c 0 t) (iblk m c 4 t)
      (k0_pay3 (outsAt0 m c (t.val - 1) (Nat.lt_of_le_of_lt (Nat.sub_le _ _) t.isLt)).2.1 (iblk m c 5 t) (iblk m c 6 t)
        (outsAt0 m c (t.val - 1) (Nat.lt_of_le_of_lt (Nat.sub_le _ _) t.isLt)).2.2 (iblk m c 7 t)) := by
  rw [outsAt0_B m c t (by omega) h]
  frame_out
  exact congrArg₂ (fun a b => k0_pay4 (iblk m c 0 t) (iblk m c 4 t) (k0_pay3 a (iblk m c 5 t) (iblk m c 6 t) b (iblk m c 7 t)))
    (Memref.IsWhole.read_unread (m := scM0_0) (Memref.isWhole_whole _) _) (Memref.IsWhole.read_unread (m := scM0_1) (Memref.isWhole_whole _) _)

theorem idx0 : ∀ t : Fin cfg0.N, win0_0.index t 0 = t.val / 2 ∧ win0_0.index t 1 = 0 :=
  (by decide +kernel : ∀ t : Fin grid0.N, win0_0.index t 0 = t.val / 2 ∧ win0_0.index t 1 = 0)
theorem idx1 : ∀ t : Fin cfg0.N, win0_1.index t 0 = 0 ∧ win0_1.index t 1 = 0 :=
  (by decide +kernel : ∀ t : Fin grid0.N, win0_1.index t 0 = 0 ∧ win0_1.index t 1 = 0)
theorem idx2 : ∀ t : Fin cfg0.N, win0_2.index t 0 = t.val / 2 / 8 ∧ win0_2.index t 1 = 0 ∧ win0_2.index t 2 = 0 :=
  (by decide +kernel : ∀ t : Fin grid0.N, win0_2.index t 0 = t.val / 2 / 8 ∧ win0_2.index t 1 = 0 ∧ win0_2.index t 2 = 0)
theorem idx3 : ∀ t : Fin cfg0.N, win0_3.index t 0 = t.val / 2 / 8 ∧ win0_3.index t 1 = 0 ∧ win0_3.index t 2 = 0 :=
  (by decide +kernel : ∀ t : Fin grid0.N, win0_3.index t 0 = t.val / 2 / 8 ∧ win0_3.index t 1 = 0 ∧ win0_3.index t 2 = 0)
theorem idx4 : ∀ t : Fin cfg0.N, win0_4.index t 0 = t.val / 2 / 8 ∧ win0_4.index t 1 = 0 ∧ win0_4.index t 2 = 0 :=
  (by decide +kernel : ∀ t : Fin grid0.N, win0_4.index t 0 = t.val / 2 / 8 ∧ win0_4.index t 1 = 0 ∧ win0_4.index t 2 = 0)
theorem idx5 : ∀ t : Fin cfg0.N, win0_5.index t 0 = 0 ∧ win0_5.index t 1 = t.val % 2 :=
  (by decide +kernel : ∀ t : Fin grid0.N, win0_5.index t 0 = 0 ∧ win0_5.index t 1 = t.val % 2)
theorem idx6 : ∀ t : Fin cfg0.N, win0_6.index t 0 = 0 ∧ win0_6.index t 1 = t.val % 2 :=
  (by decide +kernel : ∀ t : Fin grid0.N, win0_6.index t 0 = 0 ∧ win0_6.index t 1 = t.val % 2)
theorem idx7 : ∀ t : Fin cfg0.N, win0_7.index t 0 = t.val % 2 ∧ win0_7.index t 1 = 0 :=
  (by decide +kernel : ∀ t : Fin grid0.N, win0_7.index t 0 = t.val % 2 ∧ win0_7.index t 1 = 0)

theorem V_v0 : V m c main_v0 = shapeCast S32768x1024 (m ((c.tc : Thread nD τ).loc main_arg0)) shapeCasts_S8x4096x1024_S32768x1024 := by
  unfold V; unfold_abbrev_sides
  simp only [hostOps0, StableHlo.after_cons, StableHlo.after_nil]
  after_results_simp
  rfl

theorem V_v1 : V m c main_v1 = shapeCast S1x1024 (m ((c.tc : Thread nD τ).loc main_arg1)) shapeCasts_S1024_S1x1024 := by
  unfold V; unfold_abbrev_sides
  simp only [hostOps0, StableHlo.after_cons, StableHlo.after_nil]
  after_results_simp
  rfl

theorem V_v2 : V m c main_v2 = truncf .bf16 ((m ((c.tc : Thread nD τ).loc main_arg5)) : FVec F S1024x2816 .f32) bitsLt_bf16_f32 := by
  unfold V; unfold_abbrev_sides
  simp only [hostOps0, StableHlo.after_cons, StableHlo.after_nil]
  after_results_simp

theorem V_v3 : V m c main_v3 = truncf .bf16 ((m ((c.tc : Thread nD τ).loc main_arg6)) : FVec F S1024x2816 .f32) bitsLt_bf16_f32 := by
  unfold V; unfold_abbrev_sides
  simp only [hostOps0, StableHlo.after_cons, StableHlo.after_nil]
  after_results_simp

theorem V_v4 : V m c main_v4 = truncf .bf16 ((m ((c.tc : Thread nD τ).loc main_arg7)) : FVec F S2816x1024 .f32) bitsLt_bf16_f32 := by
  unfold V; unfold_abbrev_sides
  simp only [hostOps0, StableHlo.after_cons, StableHlo.after_nil]
  after_results_simp

theorem iblk0_at (t : Fin cfg0.N) (r : Fin 512) (d : Fin 1024) (s : Fin 32768) (hs : s.val = 512 * (t.val / 2) + r.val) :
    (iblk m c 0 t : Vec F S512x1024 .f32) (ix2 r d) = (V m c main_v0 : Vec F S32768x1024 .f32) (ix2 s d) := by
  have := idx0 t
  blk_ext [iblk, this.1, this.2, hs]

theorem iblk1_at (t : Fin cfg0.N) (d : Fin 1024) :
    (iblk m c 1 t : Vec F S1x1024 .f32) (ix2 0 d) = (V m c main_v1 : Vec F S1x1024 .f32) (ix2 0 d) := by
  have := idx1 t
  blk_ext [iblk, this.1, this.2]

theorem iblk2_at (t : Fin cfg0.N) (d : Fin 1024) (b : Fin 8) (hb : b.val = t.val / 2 / 8) :
    (iblk m c 2 t : Vec F S1x1x1024 .f32) (ix3 0 0 d) = (V m c main_arg2 : Vec F S8x1x1024 .f32) (ix3 b 0 d) := by
  have := idx2 t
  blk_ext [iblk, this.1, this.2.1, this.2.2, hb]

theorem iblk3_at (t : Fin cfg0.N) (d : Fin 1024) (b : Fin 8) (hb : b.val = t.val / 2 / 8) :
    (iblk m c 3 t : Vec F S1x1x1024 .f32) (ix3 0 0 d) = (V m c main_arg3 : Vec F S8x1x1024 .f32) (ix3 b 0 d) := by
  have := idx3 t
  blk_ext [iblk, this.1, this.2.1, this.2.2, hb]

theorem iblk4_at (t : Fin cfg0.N) (d : Fin 1024) (b : Fin 8) (hb : b.val = t.val / 2 / 8) :
    (iblk m c 4 t : Vec F S1x1x1024 .f32) (ix3 0 0 d) = (V m c main_arg4 : Vec F S8x1x1024 .f32) (ix3 b 0 d) := by
  have := idx4 t
  blk_ext [iblk, this.1, this.2.1, this.2.2, hb]

theorem iblk5_at (t : Fin cfg0.N) (k : Fin 1024) (n : Fin 1408) (f : Fin 2816) (hf : f.val = 1408 * (t.val % 2) + n.val) :
    (iblk m c 5 t : Vec F S1024x1408 .bf16) (ix2 k n) = (V m c main_v2 : Vec F S1024x2816 .bf16) (ix2 k f) := by
  have := idx5 t
  blk_ext [iblk, this.1, this.2, hf]

theorem iblk6_at (t : Fin cfg0.N) (k : Fin 1024) (n : Fin 1408) (f : Fin 2816) (hf : f.val = 1408 * (t.val % 2) + n.val) :
    (iblk m c 6 t : Vec F S1024x1408 .bf16) (ix2 k n) = (V m c main_v3 : Vec F S1024x2816 .bf16) (ix2 k f) := by
  have := idx6 t
  blk_ext [iblk, this.1, this.2, hf]

theorem iblk7_at (t : Fin cfg0.N) (n : Fin 1408) (d : Fin 1024) (f : Fin 2816) (hf : f.val = 1408 * (t.val % 2) + n.val) :
    (iblk m c 7 t : Vec F S1408x1024 .bf16) (ix2 n d) = (V m c main_v4 : Vec F S2816x1024 .bf16) (ix2 f d) := by
  have := idx7 t
  blk_ext [iblk, this.1, this.2, hf]

end Cert.Kernel3Ideal.Ffn

end
-- ==== Proof.Ffn.Ref.lean ====
/- The dense feed-forward reference at an index, and the kernel's payloads at an index. -/
module

public import proofs.«01_k».proof.Proof.Gen.Reference3Ideal.Read
public import proofs.«01_k».proof.Proof.Ffn.Body
public import Idealize.ShloMosaic.Lib.Pointwise

@[expose] public section
noncomputable section
namespace Cert.Reference3Ideal.Ffn

open Cert.Reference3Ideal Cert.Reference3Ideal.Gen Cert.Reference3Ideal.Read Idealize.ShloMosaic Idealize.ShloMosaic.TcCoe Idealize.SL.Sem
open Idealize.ShloMosaic (ix1 ix2 ix3)
open scoped BigOperators

/-- One entry of a row divided by the root of the row's mean square. -/
def nrm (x : Fin 1024 → EReal) (d : Fin 1024) : EReal :=
  x d * Ideal.rsqrt (Ideal.div (∑ k, x k * x k) (Ideal.ofBits .f32 0x44800000#32) + Ideal.ofBits .f32 0x358637BD#32)

/-- One entry of the gated hidden row. -/
def hid {N : ℕ} (h : Fin 1024 → EReal) (w1 w3 : Fin 1024 → Fin N → EReal) (n : Fin N) : EReal :=
  (∑ k, h k * w1 k n) * Ideal.logistic (∑ k, h k * w1 k n) * ∑ k, h k * w3 k n

theorem one_bits : Ideal.ofBits .f32 0x3F800000#32 = 1 := by
  show Ideal.ofBits .f32 0x3F800000#32 = _
  simp [Ideal.ofBits, Ideal.ieee, -EReal.coe_mul]; norm_num

theorem zero_bits : Ideal.ofBits .f32 0x00000000#32 = 0 := by
  show Ideal.ofBits .f32 0x00000000#32 = _
  simp [Ideal.ofBits, Ideal.ieee]

theorem pay1_at (x : Vec Ideal Kernel3Ideal.S512x1024 .f32) (g : Vec Ideal Kernel3Ideal.S1x1024 .f32) (sc sh : Vec Ideal Kernel3Ideal.S1x1x1024 .f32) (t : Fin 512) (d : Fin 1024) :
    Kernel3Ideal.Gen.k0_pay1 (F := Ideal) x g sc sh (ix2 t d) = nrm (fun k => x (ix2 t k)) d * g (ix2 0 d) * (1 + sc (ix3 0 0 d)) + sh (ix3 0 0 d) := by
  pointwise [Kernel3Ideal.Gen.k0_pay1, nrm]

theorem pay2_at (t : Fin 512) (d : Fin 1024) : Kernel3Ideal.Gen.k0_pay2 (F := Ideal) (ix2 t d) = 0 := by
  pointwise [Kernel3Ideal.Gen.k0_pay2]

theorem pay3_at (h : Vec Ideal Kernel3Ideal.S512x1024 .bf16) (w1 w3 : Vec Ideal Kernel3Ideal.S1024x1408 .bf16) (acc : Vec Ideal Kernel3Ideal.S512x1024 .f32) (w2 : Vec Ideal Kernel3Ideal.S1408x1024 .bf16) (t : Fin 512) (d : Fin 1024) :
    Kernel3Ideal.Gen.k0_pay3 (F := Ideal) h w1 w3 acc w2 (ix2 t d)
      = acc (ix2 t d) + ∑ n : Fin 1408, hid (fun k => h (ix2 t k)) (fun k n => w1 (ix2 k n)) (fun k n => w3 (ix2 k n)) n * w2 (ix2 n d) := by
  pointwise [Kernel3Ideal.Gen.k0_pay3, hid]

theorem pay4_at (x : Vec Ideal Kernel3Ideal.S512x1024 .f32) (g2 : Vec Ideal Kernel3Ideal.S1x1x1024 .f32) (acc : Vec Ideal Kernel3Ideal.S512x1024 .f32) (t : Fin 512) (d : Fin 1024) :
    Kernel3Ideal.Gen.k0_pay4 (F := Ideal) x g2 acc (ix2 t d) = x (ix2 t d) + g2 (ix3 0 0 d) * acc (ix2 t d) := by
  pointwise [Kernel3Ideal.Gen.k0_pay4]

variable (x0 : Vec Ideal S8x4096x1024 .f32) (x1 : Vec Ideal S1024 .f32) (x2 x3 x4 : Vec Ideal S8x1x1024 .f32)
  (x5 x6 : Vec Ideal S1024x2816 .f32) (x7 : Vec Ideal S2816x1024 .f32)

theorem v18_at (b : Fin 8) (s : Fin 4096) (d : Fin 1024) :
    val_main_v18 (F := Ideal) x0 x1 x2 x3 (ix3 b s d)
      = nrm (fun k => x0 (ix3 b s k)) d * x1 (ix1 d) * (1 + x2 (ix3 b 0 d)) + x3 (ix3 b 0 d) := by
  pointwise [val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, nrm]

theorem v19_at (b : Fin 8) (s : Fin 4096) (n : Fin 2816) : val_main_v19 (F := Ideal) x0 x1 x2 x3 x5 (ix3 b s n) = ∑ k : Fin 1024, val_main_v18 (F := Ideal) x0 x1 x2 x3 (ix3 b s k) * x5 (ix2 k n) := by
  unfold val_main_v19
  generalize val_main_v18 (F := Ideal) x0 x1 x2 x3 = h
  pointwise []

theorem v21_at (b : Fin 8) (s : Fin 4096) (n : Fin 2816) : val_main_v21 (F := Ideal) x0 x1 x2 x3 x6 (ix3 b s n) = ∑ k : Fin 1024, val_main_v18 (F := Ideal) x0 x1 x2 x3 (ix3 b s k) * x6 (ix2 k n) := by
  unfold val_main_v21
  generalize val_main_v18 (F := Ideal) x0 x1 x2 x3 = h
  pointwise []

theorem v22_at (b : Fin 8) (s : Fin 4096) (n : Fin 2816) : val_main_v22 (F := Ideal) x0 x1 x2 x3 x5 x6 (ix3 b s n)
    = hid (fun k => val_main_v18 (F := Ideal) x0 x1 x2 x3 (ix3 b s k)) (fun k n => x5 (ix2 k n)) (fun k n => x6 (ix2 k n)) n := by
  unfold hid
  rw [← v19_at, ← v21_at]
  unfold val_main_v22 val_main_v20 val_main_call0_v5 val_main_call0_v3 val_main_call0_v1 val_main_call0_v0
  generalize val_main_v19 (F := Ideal) x0 x1 x2 x3 x5 = h
  generalize val_main_v21 (F := Ideal) x0 x1 x2 x3 x6 = g
  pointwise [val_main_call0_v2, val_main_call0_v4, val_main_call0_cst, val_main_call0_cst_0, Ideal.logistic, one_bits]

theorem v23_at (b : Fin 8) (s : Fin 4096) (d : Fin 1024) : val_main_v23 (F := Ideal) x0 x1 x2 x3 x5 x6 x7 (ix3 b s d)
    = ∑ n : Fin 2816, hid (fun k => val_main_v18 (F := Ideal) x0 x1 x2 x3 (ix3 b s k)) (fun k n => x5 (ix2 k n)) (fun k n => x6 (ix2 k n)) n * x7 (ix2 n d) := by
  simp only [← v22_at]
  unfold val_main_v23
  generalize val_main_v22 (F := Ideal) x0 x1 x2 x3 x5 x6 = h
  pointwise []

theorem v27_at (b : Fin 8) (s : Fin 4096) (d : Fin 1024) : val_main_v27 (F := Ideal) x0 x1 x2 x3 x4 x5 x6 x7 (ix2 ⟨b.val * 4096 + s.val, by omega⟩ d)
    = x0 (ix3 b s d) + x4 (ix3 b 0 d) * val_main_v23 (F := Ideal) x0 x1 x2 x3 x5 x6 x7 (ix3 b s d) := by
  unfold val_main_v27 val_main_v26 val_main_v25
  generalize val_main_v23 (F := Ideal) x0 x1 x2 x3 x5 x6 x7 = h
  pointwise [val_main_v24]

/-- A sum over the width, block by block. -/
theorem sum_width (f : Fin 2816 → EReal) :
    ∑ n, f n = (0 + ∑ n : Fin 1408, f ⟨1408 * 0 + n.val, by omega⟩) + ∑ n : Fin 1408, f ⟨1408 * 1 + n.val, by omega⟩ := by
  have e : ∑ n, f n = ∑ p : Fin 2 × Fin 1408, f ⟨1408 * p.1.val + p.2.val, by omega⟩ := by
    refine (Fintype.sum_equiv (finProdFinEquiv (m := 2) (n := 1408)) _ _ fun p => ?_).symm
    refine congrArg f (Fin.ext ?_)
    show 1408 * p.1.val + p.2.val = p.2.val + 1408 * p.1.val
    omega
  rw [e, Fintype.sum_prod_type, Fin.sum_univ_two, zero_add]
  rfl

end Cert.Reference3Ideal.Ffn

end
-- ==== Proof.Ffn.Same.lean ====
/- The dense feed-forward kernel's result is the reference's. -/
module

public import proofs.«01_k».proof.Proof.Ffn.Ref

@[expose] public section
noncomputable section
namespace Cert.Kernel3Ideal.Ffn

open Cert.Kernel3Ideal Cert.Kernel3Ideal.Gen Idealize.ShloMosaic Idealize.ShloMosaic.TcCoe Idealize.SL.Sem
open Idealize.ShloMosaic (ix1 ix2 ix3)
open Cert.Reference3Ideal.Ffn (nrm hid pay1_at pay2_at pay3_at pay4_at sum_width v18_at v23_at v27_at)
open Cert.Reference3Ideal.Read (val_main_v18 val_main_v23 val_main_v27)
open scoped BigOperators

variable (m : (ℓ : Loc nD τ sig) → Buf (Elt Ideal) ℓ) (c : Dev nD)

/-- The arguments. -/
abbrev a0 : Vec Ideal S8x4096x1024 .f32 := m ((c.tc : Thread nD τ).loc main_arg0)
abbrev a1 : Vec Ideal S1024 .f32 := m ((c.tc : Thread nD τ).loc main_arg1)
abbrev a2 : Vec Ideal S8x1x1024 .f32 := m ((c.tc : Thread nD τ).loc main_arg2)
abbrev a3 : Vec Ideal S8x1x1024 .f32 := m ((c.tc : Thread nD τ).loc main_arg3)
abbrev a4 : Vec Ideal S8x1x1024 .f32 := m ((c.tc : Thread nD τ).loc main_arg4)
abbrev a5 : Vec Ideal S1024x2816 .f32 := m ((c.tc : Thread nD τ).loc main_arg5)
abbrev a6 : Vec Ideal S1024x2816 .f32 := m ((c.tc : Thread nD τ).loc main_arg6)
abbrev a7 : Vec Ideal S2816x1024 .f32 := m ((c.tc : Thread nD τ).loc main_arg7)

theorem flat_at (x : Vec Ideal S8x4096x1024 .f32) (b : Fin 8) (s : Fin 4096) (d : Fin 1024) :
    shapeCast S32768x1024 x shapeCasts_S8x4096x1024_S32768x1024 (ix2 ⟨b.val * 4096 + s.val, by omega⟩ d) = x (ix3 b s d) := by
  pointwise []

theorem row_at (x : Vec Ideal S1024 .f32) (d : Fin 1024) :
    shapeCast S1x1024 x shapeCasts_S1024_S1x1024 (ix2 0 d) = x (ix1 d) := by
  pointwise []

theorem x_at (t : Fin cfg0.N) (r : Fin 512) (d : Fin 1024) (b : Fin 8) (s : Fin 4096) (hs : b.val * 4096 + s.val = 512 * (t.val / 2) + r.val) :
    (iblk m c 0 t : Vec Ideal S512x1024 .f32) (ix2 r d) = a0 m c (ix3 b s d) := by
  rw [iblk0_at m c t r d ⟨b.val * 4096 + s.val, by omega⟩ hs, V_v0, flat_at]

theorem g_at (t : Fin cfg0.N) (d : Fin 1024) : (iblk m c 1 t : Vec Ideal S1x1024 .f32) (ix2 0 d) = a1 m c (ix1 d) := by
  rw [iblk1_at, V_v1, row_at]

theorem sc_at (t : Fin cfg0.N) (d : Fin 1024) (b : Fin 8) (hb : b.val = t.val / 2 / 8) :
    (iblk m c 2 t : Vec Ideal S1x1x1024 .f32) (ix3 0 0 d) = a2 m c (ix3 b 0 d) := by
  rw [iblk2_at m c t d b hb, V_main_arg2]

theorem sh_at (t : Fin cfg0.N) (d : Fin 1024) (b : Fin 8) (hb : b.val = t.val / 2 / 8) :
    (iblk m c 3 t : Vec Ideal S1x1x1024 .f32) (ix3 0 0 d) = a3 m c (ix3 b 0 d) := by
  rw [iblk3_at m c t d b hb, V_main_arg3]

theorem g2_at (t : Fin cfg0.N) (d : Fin 1024) (b : Fin 8) (hb : b.val = t.val / 2 / 8) :
    (iblk m c 4 t : Vec Ideal S1x1x1024 .f32) (ix3 0 0 d) = a4 m c (ix3 b 0 d) := by
  rw [iblk4_at m c t d b hb, V_main_arg4]

theorem w1_at (t : Fin cfg0.N) (k : Fin 1024) (n : Fin 1408) (f : Fin 2816) (hf : f.val = 1408 * (t.val % 2) + n.val) :
    (iblk m c 5 t : Vec Ideal S1024x1408 .bf16) (ix2 k n) = a5 m c (ix2 k f) := by
  rw [iblk5_at m c t k n f hf, V_v2]
  rfl

theorem w3_at (t : Fin cfg0.N) (k : Fin 1024) (n : Fin 1408) (f : Fin 2816) (hf : f.val = 1408 * (t.val % 2) + n.val) :
    (iblk m c 6 t : Vec Ideal S1024x1408 .bf16) (ix2 k n) = a6 m c (ix2 k f) := by
  rw [iblk6_at m c t k n f hf, V_v3]
  rfl

theorem w2_at (t : Fin cfg0.N) (n : Fin 1408) (d : Fin 1024) (f : Fin 2816) (hf : f.val = 1408 * (t.val % 2) + n.val) :
    (iblk m c 7 t : Vec Ideal S1408x1024 .bf16) (ix2 n d) = a7 m c (ix2 f d) := by
  rw [iblk7_at m c t n d f hf, V_v4]
  rfl

/-- The stored rows are the reference's normalised rows. -/
theorem h_at (t : Fin cfg0.N) (ht : t.val % 2 = 0) (r : Fin 512) (k : Fin 1024) (b : Fin 8) (s : Fin 4096) (hb : b.val = t.val / 2 / 8)
    (hs : b.val * 4096 + s.val = 512 * (t.val / 2) + r.val) :
    (k0_pay1 (iblk m c 0 t : Vec Ideal S512x1024 .f32) (iblk m c 1 t) (iblk m c 2 t) (iblk m c 3 t)) (ix2 r k)
      = val_main_v18 (F := Ideal) (a0 m c) (a1 m c) (a2 m c) (a3 m c) (ix3 b s k) := by
  rw [pay1_at, v18_at, g_at, sc_at m c t k b hb, sh_at m c t k b hb]
  simp only [x_at m c t r _ b s hs]

/-- What a block of the width adds to the sum. -/
theorem block_at (t : Fin cfg0.N) (j : ℕ) (hj : t.val % 2 = j) (hj2 : j < 2) (h : Fin 1024 → EReal) (d : Fin 1024) :
    ∑ n : Fin 1408, hid h (fun k n => (iblk m c 5 t : Vec Ideal S1024x1408 .bf16) (ix2 k n)) (fun k n => (iblk m c 6 t : Vec Ideal S1024x1408 .bf16) (ix2 k n)) n
        * (iblk m c 7 t : Vec Ideal S1408x1024 .bf16) (ix2 n d)
      = ∑ n : Fin 1408, (fun n : Fin 2816 => hid h (fun k n => a5 m c (ix2 k n)) (fun k n => a6 m c (ix2 k n)) n * a7 m c (ix2 n d)) ⟨1408 * j + n.val, by omega⟩ := by
  subst hj
  refine Finset.sum_congr rfl fun n _ => ?_
  unfold hid
  simp only [w1_at m c t _ n ⟨1408 * (t.val % 2) + n.val, by omega⟩ rfl, w3_at m c t _ n ⟨1408 * (t.val % 2) + n.val, by omega⟩ rfl,
    w2_at m c t n _ ⟨1408 * (t.val % 2) + n.val, by omega⟩ rfl]

/-- The block written at the last point of a run is the reference's. -/
theorem last_at (t : Fin cfg0.N) (ht : t.val % 2 = 1) (r : Fin 512) (d : Fin 1024) (b : Fin 8) (s : Fin 4096) (hb : b.val = t.val / 2 / 8)
    (hs : b.val * 4096 + s.val = 512 * (t.val / 2) + r.val) :
    (outsAt0 m c t.val t.isLt).1 (ix2 r d)
      = val_main_v27 (F := Ideal) (a0 m c) (a1 m c) (a2 m c) (a3 m c) (a4 m c) (a5 m c) (a6 m c) (a7 m c) (ix2 ⟨b.val * 4096 + s.val, by omega⟩ d) := by
  have hp : t.val - 1 < cfg0.N := Nat.lt_of_le_of_lt (Nat.sub_le _ _) t.isLt
  have hp2 : (⟨t.val - 1, hp⟩ : Fin cfg0.N).val % 2 = 0 := by show (t.val - 1) % 2 = 0; omega
  have e1 := first_h m c ⟨t.val - 1, hp⟩ hp2
  have e2 := first_acc m c ⟨t.val - 1, hp⟩ hp2
  have hb' : b.val = (⟨t.val - 1, hp⟩ : Fin cfg0.N).val / 2 / 8 := by show b.val = (t.val - 1) / 2 / 8; omega
  have hs' : b.val * 4096 + s.val = 512 * ((⟨t.val - 1, hp⟩ : Fin cfg0.N).val / 2) + r.val := by
    show _ = 512 * ((t.val - 1) / 2) + r.val; omega
  rw [last_out m c t ht]
  dsimp only at e1 e2
  rw [e1, e2, pay4_at, pay3_at, pay3_at, pay2_at, v27_at, v23_at, x_at m c t r d b s hs, g2_at m c t d b hb]
  simp only [h_at m c ⟨t.val - 1, hp⟩ hp2 r _ b s hb' hs']
  rw [block_at m c ⟨t.val - 1, hp⟩ 0 hp2 (by decide), block_at m c t 1 ht (by decide), sum_width]

/-- The kernel's result is the reference's. -/
theorem final (c : Dev nD) : Value.G8 m c = val_main_v27 (F := Ideal) (a0 m c) (a1 m c) (a2 m c) (a3 m c) (a4 m c) (a5 m c) (a6 m c) (a7 m c) := by
  funext q
  have h0 : (q 0).val < 32768 := (q 0).isLt
  have hN : cfg0.N = 128 := N_0
  have h1 : (q 1).val < 1024 := (q 1).isLt
  have hpt : Value.pt8Of q = 2 * ((q 0).val / 512) + 1 := by
    show 2 * (1 * ((q 0).val / 512 - 0) + 1 * ((q 1).val / 1024 - 0)) + 1 = _
    omega
  have hp : Value.pt8Of q < cfg0.N := by
    rw [hpt]
    omega
  unfold Value.G8
  rw [dif_pos hp, ← Value.outsAt0_sweep m c _ hp]
  have hl : Value.loc8Of q = ix2 (⟨(q 0).val % 512, by omega⟩ : Fin 512) (q 1) := by
    funext a
    match a with
    | ⟨0, _⟩ => rfl
    | ⟨1, _⟩ => exact Fin.ext (by show (q 1).val % 1024 = (q 1).val; omega)
  have hq : q = ix2 (⟨(⟨(q 0).val / 4096, by omega⟩ : Fin 8).val * 4096 + (⟨(q 0).val % 4096, by omega⟩ : Fin 4096).val, by dsimp only; omega⟩ : Fin 32768) (q 1) := by
    refine (Idealize.ShloMosaic.eq_ix2 q).trans ?_
    exact congrArg (fun z : Fin 32768 => ix2 z (q 1)) (Fin.ext (by show (q 0).val = _; dsimp only; omega))
  rw [hl]
  conv_rhs => rw [hq]
  refine last_at m c ⟨Value.pt8Of q, hp⟩ ?_ _ _ _ _ ?_ ?_
  · show Value.pt8Of q % 2 = 1
    rw [hpt]
    omega
  · show (q 0).val / 4096 = Value.pt8Of q / 2 / 8
    rw [hpt]
    omega
  · show (q 0).val / 4096 * 4096 + (q 0).val % 4096 = 512 * (Value.pt8Of q / 2) + (q 0).val % 512
    rw [hpt]
    omega

end Cert.Kernel3Ideal.Ffn

end
-- ==== Proof.Merge.Body.lean ====
/- What the merging kernel's body leaves at a grid point, entry by entry, and its operands' blocks. -/
module

public import proofs.«01_k».proof.Proof.Gen.Kernel4Ideal.Value
public import Idealize.ShloMosaic.Lib.Pipeline.Value
public import Idealize.ShloMosaic.Lib.Pipeline.ValueKit.Acc
public import Idealize.ShloMosaic.Lib.Pipeline.ValueKit.Point
public import Idealize.ShloMosaic.Lib.Pointwise

@[expose] public section
set_option maxRecDepth 16384
noncomputable section
namespace Cert.Kernel4Ideal.Merge

open Cert.Kernel4Ideal Cert.Kernel4Ideal.Gen Idealize.ShloMosaic Idealize.ShloMosaic.TcCoe Idealize.ShloMosaic.Tactic Idealize.SL.Sem Idealize.ShloMosaic.StableHlo
open Idealize.ShloMosaic (ix1 ix2 ix3)
open scoped BigOperators

/-- One entry of a row divided by the root of the row's mean square. -/
def nrm (x : Fin 1024 → EReal) (d : Fin 1024) : EReal :=
  x d * Ideal.rsqrt (Ideal.div (∑ k, x k * x k) (Ideal.ofBits .f32 0x44800000#32) + Ideal.ofBits .f32 0x358637BD#32)

/-- One branch's entry of the mixture: the gate of the normalised row times the branch's row through its matrix. -/
def term (h w : Fin 1024 → EReal) (y b : Fin 256 → EReal) : EReal :=
  Ideal.logistic (∑ k, h k * w k) * ∑ j, y j * b j

section loads
variable {F : FTy → Type} [FloatOps F]

/-- Head `h`'s rows of a branch's block. -/
def head (x : Vec F S4x512x64 .bf16) (h : Fin 4) : Vec F S1x512x64 .bf16 := fun j => x (ix3 h (j 1) (j 2))

theorem head_eq (x : Vec F S4x512x64 .bf16) (h : Fin 4) (off : Fin 3 → Nat) (ho : off = ![h.val, 0, 0])
    (inb : ∀ a, off a + S1x512x64.size a ≤ S4x512x64.size a) :
    View.ld x (Rect.unit (s := S4x512x64) off S1x512x64.size inb) = head x h := by
  subst ho
  funext j
  refine View.ld_unit_apply_of _ _ _ _ _ _ fun a => ?_
  have h0 : (j 0).val < 1 := (j 0).isLt
  fin_cases a
  · show h.val = h.val + (j 0).val
    omega
  · show (j 1).val = 0 + (j 1).val
    omega
  · show (j 2).val = 0 + (j 2).val
    omega

/-- Branch `n`'s matrix. -/
def branch (x : Vec F S4x256x1024 .bf16) (n : Fin 4) : Vec F S1x256x1024 .bf16 := fun j => x (ix3 n (j 1) (j 2))

theorem branch_eq (x : Vec F S4x256x1024 .bf16) (n : Fin 4) (off : Fin 3 → Nat) (ho : off = ![n.val, 0, 0])
    (inb : ∀ a, off a + S1x256x1024.size a ≤ S4x256x1024.size a) :
    View.ld x (Rect.unit (s := S4x256x1024) off S1x256x1024.size inb) = branch x n := by
  subst ho
  funext j
  refine View.ld_unit_apply_of _ _ _ _ _ _ fun a => ?_
  have h0 : (j 0).val < 1 := (j 0).isLt
  fin_cases a
  · show n.val = n.val + (j 0).val
    omega
  · show (j 1).val = 0 + (j 1).val
    omega
  · show (j 2).val = 0 + (j 2).val
    omega

/-- Branch `n`'s columns of the gates' matrix. -/
def gateCols (x : Vec F S1024x4096 .bf16) (n : Fin 4) : Vec F S1024x1024 .bf16 :=
  fun j => x (ix2 (j 0) ⟨(1024 * n.val + (j 1).val) % 4096, Nat.mod_lt _ (by norm_num)⟩)

theorem gateCols_eq (x : Vec F S1024x4096 .bf16) (n : Fin 4) (off : Fin 2 → Nat) (ho : off = ![0, 1024 * n.val])
    (inb : ∀ a, off a + S1024x1024.size a ≤ S1024x4096.size a) :
    View.ld x (Rect.unit (s := S1024x4096) off S1024x1024.size inb) = gateCols x n := by
  subst ho
  funext j
  refine View.ld_unit_apply_of _ _ _ _ _ _ fun a => ?_
  have h1 : (j 1).val < 1024 := (j 1).isLt
  fin_cases a
  · show (j 0).val = 0 + (j 0).val
    omega
  · show (1024 * n.val + (j 1).val) % 4096 = 1024 * n.val + (j 1).val
    omega

/-- The heads' rows side by side. -/
def flat (x : Vec F S4x512x64 .bf16) : FVec F S512x256 .bf16 :=
  fun j => x (ix3 ⟨(j 1).val / 64, by have : (j 1).val < 256 := (j 1).isLt; show (j 1).val / 64 < 4; omega⟩ (j 0) ⟨(j 1).val % 64, Nat.mod_lt _ (by norm_num)⟩)

theorem flat_eq (x : Vec F S4x512x64 .bf16) :
    concatenate S512x256 1 [⟨S512x64, (shapeCast S512x64 (head x 0) shapeCasts_S1x512x64_S512x64 : FVec F S512x64 .bf16)⟩,
      ⟨S512x64, (shapeCast S512x64 (head x 1) shapeCasts_S1x512x64_S512x64 : FVec F S512x64 .bf16)⟩,
      ⟨S512x64, (shapeCast S512x64 (head x 2) shapeCasts_S1x512x64_S512x64 : FVec F S512x64 .bf16)⟩,
      ⟨S512x64, (shapeCast S512x64 (head x 3) shapeCasts_S1x512x64_S512x64 : FVec F S512x64 .bf16)⟩] concatenates_S512x64_S512x64_S512x64_S512x64_S512x256_d1 = flat x := by
  funext j
  have hj : (j 1).val < 256 := (j 1).isLt
  rw [Idealize.ShloMosaic.eq_ix2 j]
  pointwise [flat, head]
  split_ifs with h1 h2 h3 <;> congr 2 <;> exact Fin.ext (by dsimp only; omega)

end loads

theorem pay3_at (x : Vec Ideal S512x1024 .f32) (g : Vec Ideal S1x1024 .f32) (sc sh : Vec Ideal S1x1x1024 .f32) (r : Fin 512) (d : Fin 1024) :
    k0_pay3 (F := Ideal) x g sc sh (ix2 r d) = nrm (fun k => x (ix2 r k)) d * g (ix2 0 d) * (1 + sc (ix3 0 0 d)) + sh (ix3 0 0 d) := by
  pointwise [k0_pay3, k0_pay2, nrm]

theorem pay5_at (x : Vec Ideal S512x1024 .f32) (g : Vec Ideal S1x1024 .f32) (sc sh : Vec Ideal S1x1x1024 .f32) (w : Vec Ideal S1024x1024 .bf16) (r : Fin 512) (d : Fin 1024) :
    k0_pay5 (F := Ideal) x g sc sh w (ix2 r d) = Ideal.logistic (∑ k : Fin 1024, k0_pay3 (F := Ideal) x g sc sh (ix2 r k) * w (ix2 k d)) := by
  unfold k0_pay5
  generalize k0_pay3 (F := Ideal) x g sc sh = h
  pointwise []

theorem pay9_at (h : FVec Ideal S512x1024 .bf16) (w : Vec Ideal S1024x1024 .bf16) (r : Fin 512) (d : Fin 1024) :
    k0_pay9 (F := Ideal) h w (ix2 r d) = Ideal.logistic (∑ k : Fin 1024, h (ix2 r k) * w (ix2 k d)) := by
  pointwise [k0_pay9]

theorem pay7_at (h : FVec Ideal S512x1024 .bf16) (a g : FVec Ideal S512x1024 .f32) (y z : Vec Ideal S4x512x64 .bf16) (b0 b1 : Vec Ideal S1x256x1024 .bf16)
    (w : Vec Ideal S1024x1024 .bf16) (r : Fin 512) (d : Fin 1024) :
    k0_pay7 (F := Ideal) h a g (k0_pay6 (head y 0)) (head y 1) (head y 2) (head y 3) b0 w (head z 0) (head z 1) (head z 2) (head z 3) b1 (ix2 r d)
      = a (ix2 r d) + g (ix2 r d) * ∑ j : Fin 256, flat y (ix2 r j) * b0 (ix3 0 j d)
        + term (fun k => h (ix2 r k)) (fun k => w (ix2 k d)) (fun j => flat z (ix2 r j)) (fun j => b1 (ix3 0 j d)) := by
  unfold k0_pay7 k0_pay6
  dsimp only
  rw [flat_eq y, flat_eq z]
  generalize flat y = u
  generalize flat z = v
  pointwise [term]

theorem pay8_at (h : FVec Ideal S512x1024 .bf16) (a : FVec Ideal S512x1024 .f32) (y : Vec Ideal S4x512x64 .bf16) (b0 : Vec Ideal S1x256x1024 .bf16)
    (w : Vec Ideal S1024x1024 .bf16) (r : Fin 512) (d : Fin 1024) :
    k0_pay8 (F := Ideal) h a w (head y 0) (head y 1) (head y 2) (head y 3) b0 (ix2 r d)
      = a (ix2 r d) + term (fun k => h (ix2 r k)) (fun k => w (ix2 k d)) (fun j => flat y (ix2 r j)) (fun j => b0 (ix3 0 j d)) := by
  unfold k0_pay8
  rw [flat_eq y]
  generalize flat y = u
  pointwise [term]

theorem pay1_at (x a g : FVec Ideal S512x1024 .f32) (y : Vec Ideal S4x512x64 .bf16) (b : Vec Ideal S1x256x1024 .bf16) (g1 : Vec Ideal S1x1x1024 .f32)
    (w : Vec Ideal S1024x1024 .bf16) (r : Fin 512) (d : Fin 1024) :
    k0_pay1 (F := Ideal) x a g (k0_pay10 (head y 0)) (k0_pay11 (head y 1)) (k0_pay12 (head y 2)) (head y 3) b g1 w (ix2 r d)
      = x (ix2 r d) + g1 (ix3 0 0 d) * ∑ e : Fin 1024, (a (ix2 r e) + g (ix2 r e) * ∑ j : Fin 256, flat y (ix2 r j) * b (ix3 0 j e)) * w (ix2 e d) := by
  unfold k0_pay1 k0_pay10 k0_pay11 k0_pay12
  dsimp only
  rw [flat_eq y]
  generalize flat y = u
  pointwise []

/-- The normalised and modulated row of a block. -/
def hrow (x : Vec Ideal S512x1024 .f32) (g : Vec Ideal S1x1024 .f32) (sc sh : Vec Ideal S1x1x1024 .f32) (r : Fin 512) (k : Fin 1024) : EReal :=
  nrm (fun k => x (ix2 r k)) k * g (ix2 0 k) * (1 + sc (ix3 0 0 k)) + sh (ix3 0 0 k)

/-- What the body writes, from its operands' blocks. -/
theorem out_at (x0 : Vec Ideal S512x1024 .f32) (x1 : Vec Ideal S1x1024 .f32) (x2 x3 x4 : Vec Ideal S1x1x1024 .f32) (x5 x6 x7 x8 : Vec Ideal S4x512x64 .bf16)
    (x9 : Vec Ideal S1024x4096 .bf16) (x10 : Vec Ideal S4x256x1024 .bf16) (x11 : Vec Ideal S1024x1024 .bf16) (r : Fin 512) (d : Fin 1024) :
    out0_12 x0 x1 x2 x3 x4 x5 x6 x7 x8 x9 x10 x11 (ix2 r d)
      = x0 (ix2 r d) + x4 (ix3 0 0 d) * ∑ e : Fin 1024, (0
          + term (hrow x0 x1 x2 x3 r) (fun k => gateCols x9 0 (ix2 k e)) (fun j => flat x5 (ix2 r j)) (fun j => branch x10 0 (ix3 0 j e))
          + term (hrow x0 x1 x2 x3 r) (fun k => gateCols x9 1 (ix2 k e)) (fun j => flat x6 (ix2 r j)) (fun j => branch x10 1 (ix3 0 j e))
          + term (hrow x0 x1 x2 x3 r) (fun k => gateCols x9 2 (ix2 k e)) (fun j => flat x7 (ix2 r j)) (fun j => branch x10 2 (ix3 0 j e))
          + term (hrow x0 x1 x2 x3 r) (fun k => gateCols x9 3 (ix2 k e)) (fun j => flat x8 (ix2 r j)) (fun j => branch x10 3 (ix3 0 j e))) * x11 (ix2 e d) := by
  unfold out0_12 k0_pay13
  refine (congrFun (View.canon_cons_unit_lit _ _ _ (by decide)) (ix2 r d)).trans ?_
  rw [show View.ld x0 r0_0 = x0 from View.ld_unit_lit _ _ (by decide), show View.ld x1 r0_1 = x1 from View.ld_unit_lit _ _ (by decide),
    show View.ld x2 r0_2 = x2 from View.ld_unit_lit _ _ (by decide), show View.ld x3 r0_2 = x3 from View.ld_unit_lit _ _ (by decide),
    show View.ld x4 r0_2 = x4 from View.ld_unit_lit _ _ (by decide), show View.ld x11 r0_15 = x11 from View.ld_unit_lit _ _ (by decide)]
  rw [show View.ld x5 r0_4 = head x5 0 from head_eq x5 0 _ rfl _, show View.ld x5 r0_5 = head x5 1 from head_eq x5 1 _ rfl _, show View.ld x5 r0_6 = head x5 2 from head_eq x5 2 _ rfl _, show View.ld x5 r0_7 = head x5 3 from head_eq x5 3 _ rfl _, show View.ld x6 r0_4 = head x6 0 from head_eq x6 0 _ rfl _, show View.ld x6 r0_5 = head x6 1 from head_eq x6 1 _ rfl _, show View.ld x6 r0_6 = head x6 2 from head_eq x6 2 _ rfl _, show View.ld x6 r0_7 = head x6 3 from head_eq x6 3 _ rfl _,
    show View.ld x7 r0_4 = head x7 0 from head_eq x7 0 _ rfl _, show View.ld x7 r0_5 = head x7 1 from head_eq x7 1 _ rfl _, show View.ld x7 r0_6 = head x7 2 from head_eq x7 2 _ rfl _, show View.ld x7 r0_7 = head x7 3 from head_eq x7 3 _ rfl _, show View.ld x8 r0_4 = head x8 0 from head_eq x8 0 _ rfl _, show View.ld x8 r0_5 = head x8 1 from head_eq x8 1 _ rfl _, show View.ld x8 r0_6 = head x8 2 from head_eq x8 2 _ rfl _, show View.ld x8 r0_7 = head x8 3 from head_eq x8 3 _ rfl _,
    show View.ld x10 r0_8 = branch x10 0 from branch_eq x10 0 _ rfl _, show View.ld x10 r0_10 = branch x10 1 from branch_eq x10 1 _ rfl _, show View.ld x10 r0_12 = branch x10 2 from branch_eq x10 2 _ rfl _, show View.ld x10 r0_14 = branch x10 3 from branch_eq x10 3 _ rfl _,
    show View.ld x9 r0_3 = gateCols x9 0 from gateCols_eq x9 0 _ rfl _, show View.ld x9 r0_9 = gateCols x9 1 from gateCols_eq x9 1 _ rfl _, show View.ld x9 r0_11 = gateCols x9 2 from gateCols_eq x9 2 _ rfl _, show View.ld x9 r0_13 = gateCols x9 3 from gateCols_eq x9 3 _ rfl _]
  rw [pay1_at]
  simp only [pay8_at, pay7_at, pay5_at, pay9_at, pay3_at]
  pointwise [k0_pay2, k0_pay4, term, hrow]

section blocks
variable {F : FTy → Type} [FloatOps F] (m : (ℓ : Loc nD τ sig) → Buf (Elt F) ℓ) (c : Dev nD)

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = 0 ∧ win0_1.index t 1 = 0 :=
  (by decide +kernel : ∀ t : Fin grid0.N, win0_1.index t 0 = 0 ∧ win0_1.index t 1 = 0)
theorem idx2 : ∀ t : Fin cfg0.N, win0_2.index t 0 = t.val / 8 ∧ win0_2.index t 1 = 0 ∧ win0_2.index t 2 = 0 :=
  (by decide +kernel : ∀ t : Fin grid0.N, win0_2.index t 0 = t.val / 8 ∧ win0_2.index t 1 = 0 ∧ win0_2.index t 2 = 0)
theorem idx3 : ∀ t : Fin cfg0.N, win0_3.index t 0 = t.val / 8 ∧ win0_3.index t 1 = 0 ∧ win0_3.index t 2 = 0 :=
  (by decide +kernel : ∀ t : Fin grid0.N, win0_3.index t 0 = t.val / 8 ∧ win0_3.index t 1 = 0 ∧ win0_3.index t 2 = 0)
theorem idx4 : ∀ t : Fin cfg0.N, win0_4.index t 0 = t.val / 8 ∧ win0_4.index t 1 = 0 ∧ win0_4.index t 2 = 0 :=
  (by decide +kernel : ∀ t : Fin grid0.N, win0_4.index t 0 = t.val / 8 ∧ win0_4.index t 1 = 0 ∧ win0_4.index t 2 = 0)
theorem idx5 : ∀ t : Fin cfg0.N, win0_5.index t 0 = 0 ∧ win0_5.index t 1 = t.val ∧ win0_5.index t 2 = 0 :=
  (by decide +kernel : ∀ t : Fin grid0.N, win0_5.index t 0 = 0 ∧ win0_5.index t 1 = t.val ∧ win0_5.index t 2 = 0)
theorem idx6 : ∀ t : Fin cfg0.N, win0_6.index t 0 = 0 ∧ win0_6.index t 1 = t.val ∧ win0_6.index t 2 = 0 :=
  (by decide +kernel : ∀ t : Fin grid0.N, win0_6.index t 0 = 0 ∧ win0_6.index t 1 = t.val ∧ win0_6.index t 2 = 0)
theorem idx7 : ∀ t : Fin cfg0.N, win0_7.index t 0 = 0 ∧ win0_7.index t 1 = t.val ∧ win0_7.index t 2 = 0 :=
  (by decide +kernel : ∀ t : Fin grid0.N, win0_7.index t 0 = 0 ∧ win0_7.index t 1 = t.val ∧ win0_7.index t 2 = 0)
theorem idx8 : ∀ t : Fin cfg0.N, win0_8.index t 0 = 0 ∧ win0_8.index t 1 = t.val ∧ win0_8.index t 2 = 0 :=
  (by decide +kernel : ∀ t : Fin grid0.N, win0_8.index t 0 = 0 ∧ win0_8.index t 1 = t.val ∧ win0_8.index t 2 = 0)
theorem idx9 : ∀ t : Fin cfg0.N, win0_9.index t 0 = 0 ∧ win0_9.index t 1 = 0 :=
  (by decide +kernel : ∀ t : Fin grid0.N, win0_9.index t 0 = 0 ∧ win0_9.index t 1 = 0)
theorem idx10 : ∀ t : Fin cfg0.N, win0_10.index t 0 = 0 ∧ win0_10.index t 1 = 0 ∧ win0_10.index t 2 = 0 :=
  (by decide +kernel : ∀ t : Fin grid0.N, win0_10.index t 0 = 0 ∧ win0_10.index t 1 = 0 ∧ win0_10.index t 2 = 0)
theorem idx11 : ∀ t : Fin cfg0.N, win0_11.index t 0 = 0 ∧ win0_11.index t 1 = 0 :=
  (by decide +kernel : ∀ t : Fin grid0.N, win0_11.index t 0 = 0 ∧ win0_11.index t 1 = 0)

theorem V_v0 : V m c main_v0 = shapeCast S32768x1024 (m ((c.tc : Thread nD τ).loc main_arg0)) shapeCasts_S8x4096x1024_S32768x1024 := by
  unfold V; unfold_abbrev_sides
  simp only [hostOps0, StableHlo.after_cons, StableHlo.after_nil]
  after_results_simp
  rfl

theorem V_v1 : V m c main_v1 = shapeCast S1x1024 (m ((c.tc : Thread nD τ).loc main_arg1)) shapeCasts_S1024_S1x1024 := by
  unfold V; unfold_abbrev_sides
  simp only [hostOps0, StableHlo.after_cons, StableHlo.after_nil]
  after_results_simp
  rfl

theorem V_v3 : V m c main_v3 = truncf .bf16 (extractStridedSlice S1024x4096 ![0, 2660] ((m ((c.tc : Thread nD τ).loc main_arg9)) : FVec F S1024x6756 .f32) slices_S1024x6756_S1024x4096_0_2660 : FVec F S1024x4096 .f32) bitsLt_bf16_f32 := by
  unfold V; unfold_abbrev_sides
  simp only [hostOps0, StableHlo.after_cons, StableHlo.after_nil]
  after_results_simp

theorem V_v4 : V m c main_v4 = truncf .bf16 ((m ((c.tc : Thread nD τ).loc main_arg10)) : FVec F S4x256x1024 .f32) bitsLt_bf16_f32 := by
  unfold V; unfold_abbrev_sides
  simp only [hostOps0, StableHlo.after_cons, StableHlo.after_nil]
  after_results_simp

theorem V_v5 : V m c main_v5 = truncf .bf16 ((m ((c.tc : Thread nD τ).loc main_arg11)) : FVec F S1024x1024 .f32) bitsLt_bf16_f32 := by
  unfold V; unfold_abbrev_sides
  simp only [hostOps0, StableHlo.after_cons, StableHlo.after_nil]
  after_results_simp

theorem iblk0_at (t : Fin cfg0.N) (r : Fin 512) (d : Fin 1024) (s : Fin 32768) (hs : s.val = 512 * t.val + r.val) :
    (iblk m c 0 t : Vec F S512x1024 .f32) (ix2 r d) = (V m c main_v0 : Vec F S32768x1024 .f32) (ix2 s d) := by
  have := idx0 t
  blk_ext [iblk, this.1, this.2, hs]

theorem iblk1_at (t : Fin cfg0.N) (d : Fin 1024) :
    (iblk m c 1 t : Vec F S1x1024 .f32) (ix2 0 d) = (V m c main_v1 : Vec F S1x1024 .f32) (ix2 0 d) := by
  have := idx1 t
  blk_ext [iblk, this.1, this.2]

theorem iblk2_at (t : Fin cfg0.N) (d : Fin 1024) (b : Fin 8) (hb : b.val = t.val / 8) :
    (iblk m c 2 t : Vec F S1x1x1024 .f32) (ix3 0 0 d) = (V m c main_arg2 : Vec F S8x1x1024 .f32) (ix3 b 0 d) := by
  have := idx2 t
  blk_ext [iblk, this.1, this.2.1, this.2.2, hb]

theorem iblk3_at (t : Fin cfg0.N) (d : Fin 1024) (b : Fin 8) (hb : b.val = t.val / 8) :
    (iblk m c 3 t : Vec F S1x1x1024 .f32) (ix3 0 0 d) = (V m c main_arg3 : Vec F S8x1x1024 .f32) (ix3 b 0 d) := by
  have := idx3 t
  blk_ext [iblk, this.1, this.2.1, this.2.2, hb]

theorem iblk4_at (t : Fin cfg0.N) (d : Fin 1024) (b : Fin 8) (hb : b.val = t.val / 8) :
    (iblk m c 4 t : Vec F S1x1x1024 .f32) (ix3 0 0 d) = (V m c main_arg4 : Vec F S8x1x1024 .f32) (ix3 b 0 d) := by
  have := idx4 t
  blk_ext [iblk, this.1, this.2.1, this.2.2, hb]

theorem iblk5_at (t : Fin cfg0.N) (h : Fin 4) (r : Fin 512) (d : Fin 64) (s : Fin 32768) (hs : s.val = 512 * t.val + r.val) :
    (iblk m c 5 t : Vec F S4x512x64 .bf16) (ix3 h r d) = (V m c main_arg5 : Vec F S4x32768x64 .bf16) (ix3 h s d) := by
  have := idx5 t
  blk_ext [iblk, this.1, this.2.1, this.2.2, hs]

theorem iblk6_at (t : Fin cfg0.N) (h : Fin 4) (r : Fin 512) (d : Fin 64) (s : Fin 32768) (hs : s.val = 512 * t.val + r.val) :
    (iblk m c 6 t : Vec F S4x512x64 .bf16) (ix3 h r d) = (V m c main_arg6 : Vec F S4x32768x64 .bf16) (ix3 h s d) := by
  have := idx6 t
  blk_ext [iblk, this.1, this.2.1, this.2.2, hs]

theorem iblk7_at (t : Fin cfg0.N) (h : Fin 4) (r : Fin 512) (d : Fin 64) (s : Fin 32768) (hs : s.val = 512 * t.val + r.val) :
    (iblk m c 7 t : Vec F S4x512x64 .bf16) (ix3 h r d) = (V m c main_arg7 : Vec F S4x32768x64 .bf16) (ix3 h s d) := by
  have := idx7 t
  blk_ext [iblk, this.1, this.2.1, this.2.2, hs]

theorem iblk8_at (t : Fin cfg0.N) (h : Fin 4) (r : Fin 512) (d : Fin 64) (s : Fin 32768) (hs : s.val = 512 * t.val + r.val) :
    (iblk m c 8 t : Vec F S4x512x64 .bf16) (ix3 h r d) = (V m c main_arg8 : Vec F S4x32768x64 .bf16) (ix3 h s d) := by
  have := idx8 t
  blk_ext [iblk, this.1, this.2.1, this.2.2, hs]

theorem iblk9_at (t : Fin cfg0.N) (k : Fin 1024) (n : Fin 4096) :
    (iblk m c 9 t : Vec F S1024x4096 .bf16) (ix2 k n) = (V m c main_v3 : Vec F S1024x4096 .bf16) (ix2 k n) := by
  have := idx9 t
  blk_ext [iblk, this.1, this.2]

theorem iblk10_at (t : Fin cfg0.N) (n : Fin 4) (k : Fin 256) (d : Fin 1024) :
    (iblk m c 10 t : Vec F S4x256x1024 .bf16) (ix3 n k d) = (V m c main_v4 : Vec F S4x256x1024 .bf16) (ix3 n k d) := by
  have := idx10 t
  blk_ext [iblk, this.1, this.2.1, this.2.2]

theorem iblk11_at (t : Fin cfg0.N) (k : Fin 1024) (d : Fin 1024) :
    (iblk m c 11 t : Vec F S1024x1024 .bf16) (ix2 k d) = (V m c main_v5 : Vec F S1024x1024 .bf16) (ix2 k d) := by
  have := idx11 t
  blk_ext [iblk, this.1, this.2]

end blocks

end Cert.Kernel4Ideal.Merge

end
-- ==== Proof.Merge.Ref.lean ====
/- The merging's reference at an index. -/
module

public import proofs.«01_k».proof.Proof.Gen.Reference4Ideal.Read
public import proofs.«01_k».proof.Proof.Merge.Body

@[expose] public section
noncomputable section
namespace Cert.Reference4Ideal.Merge

open Cert.Reference4Ideal Cert.Reference4Ideal.Gen Cert.Reference4Ideal.Read Idealize.ShloMosaic Idealize.ShloMosaic.TcCoe Idealize.SL.Sem
open Idealize.ShloMosaic (ix1 ix2 ix3 ix4)
open Cert.Kernel4Ideal.Merge (nrm term)
open scoped BigOperators

theorem one_bits : Ideal.ofBits .f32 0x3F800000#32 = 1 := by
  show Ideal.ofBits .f32 0x3F800000#32 = _
  simp [Ideal.ofBits, Ideal.ieee, -EReal.coe_mul]; norm_num

variable (x0 : Vec Ideal S8x4096x1024 .f32) (x1 : Vec Ideal S1024 .f32) (x2 x3 x4 : Vec Ideal S8x1x1024 .f32)
  (x5 x6 x7 x8 : Vec Ideal S4x32768x64 .bf16) (x9 : Vec Ideal S1024x6756 .f32) (x10 : Vec Ideal S4x256x1024 .f32) (x11 : Vec Ideal S1024x1024 .f32)

theorem v18_at (b : Fin 8) (s : Fin 4096) (d : Fin 1024) :
    val_main_v18 (F := Ideal) x0 x1 x2 x3 (ix3 b s d)
      = nrm (fun k => x0 (ix3 b s k)) d * x1 (ix1 d) * (1 + x2 (ix3 b 0 d)) + x3 (ix3 b 0 d) := by
  pointwise [val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, nrm, one_bits]

theorem v19_at (b : Fin 8) (s : Fin 4096) (n : Fin 6756) : val_main_v19 (F := Ideal) x0 x1 x2 x3 x9 (ix3 b s n) = ∑ k : Fin 1024, val_main_v18 (F := Ideal) x0 x1 x2 x3 (ix3 b s k) * x9 (ix2 k n) := by
  unfold val_main_v19
  generalize val_main_v18 (F := Ideal) x0 x1 x2 x3 = h
  pointwise []

theorem v26_at (b : Fin 8) (s : Fin 4096) (n : Fin 4096) : val_main_v26 (F := Ideal) x0 x1 x2 x3 x9 (ix3 b s n)
    = Ideal.logistic (∑ k : Fin 1024, val_main_v18 (F := Ideal) x0 x1 x2 x3 (ix3 b s k) * x9 (ix2 k ⟨2660 + n.val, by omega⟩)) := by
  rw [← v19_at]
  unfold val_main_v26 val_main_v24 val_main_v22 val_main_v21 val_main_v20
  generalize val_main_v19 (F := Ideal) x0 x1 x2 x3 x9 = h
  pointwise [val_main_v23, val_main_v25, val_main_cst_3, val_main_cst_4, Ideal.logistic, one_bits]

theorem v27_at (b : Fin 8) (s : Fin 4096) (n : Fin 4) (d : Fin 1024) : val_main_v27 (F := Ideal) x0 x1 x2 x3 x9 (ix4 b s n d)
    = val_main_v26 (F := Ideal) x0 x1 x2 x3 x9 (ix3 b s ⟨1024 * n.val + d.val, by omega⟩) := by
  unfold val_main_v27
  generalize val_main_v26 (F := Ideal) x0 x1 x2 x3 x9 = h
  pointwise []
  exact congrArg (fun z => h (ix3 b s z)) (Fin.ext (by dsimp only; omega))

/-- A position's branch row, the heads side by side. -/
def yrow (y : Vec Ideal S4x32768x64 .bf16) (b : Fin 8) (s : Fin 4096) (j : Fin 256) : EReal :=
  y (ix3 ⟨j.val / 64, by omega⟩ ⟨b.val * 4096 + s.val, by omega⟩ ⟨j.val % 64, by omega⟩)

/-- The gate's column of the projection. -/
def wcol (n : Fin 4) (d : Fin 1024) (k : Fin 1024) : EReal := x9 (ix2 k ⟨2660 + (1024 * n.val + d.val), by omega⟩)

theorem v32_at (b : Fin 8) (s : Fin 4096) (j : Fin 256) : val_main_v32 (F := Ideal) x5 (ix3 b s j) = yrow x5 b s j := by
  pointwise [val_main_v32, val_main_v31, val_main_v30, val_main_v29, yrow]

theorem v38_at (b : Fin 8) (s : Fin 4096) (d : Fin 1024) : val_main_v38 (F := Ideal) x0 x1 x2 x3 x5 x9 x10 (ix3 b s d)
    = term (fun k => val_main_v18 (F := Ideal) x0 x1 x2 x3 (ix3 b s k)) (wcol x9 0 d) (yrow x5 b s) (fun j => x10 (ix3 0 j d)) := by
  unfold term wcol
  simp only [← v32_at]
  rw [← v26_at x0 x1 x2 x3 x9 b s ⟨1024 * (0 : Fin 4).val + d.val, by omega⟩, ← v27_at]
  unfold val_main_v38 val_main_v37 val_main_v34 val_main_v33
  generalize val_main_v27 (F := Ideal) x0 x1 x2 x3 x9 = h
  generalize val_main_v32 (F := Ideal) x5 = y
  pointwise [val_main_v36, val_main_v35]

theorem v43_at (b : Fin 8) (s : Fin 4096) (j : Fin 256) : val_main_v43 (F := Ideal) x6 (ix3 b s j) = yrow x6 b s j := by
  pointwise [val_main_v43, val_main_v42, val_main_v41, val_main_v40, yrow]

theorem v49_at (b : Fin 8) (s : Fin 4096) (d : Fin 1024) : val_main_v49 (F := Ideal) x0 x1 x2 x3 x6 x9 x10 (ix3 b s d)
    = term (fun k => val_main_v18 (F := Ideal) x0 x1 x2 x3 (ix3 b s k)) (wcol x9 1 d) (yrow x6 b s) (fun j => x10 (ix3 1 j d)) := by
  unfold term wcol
  simp only [← v43_at]
  rw [← v26_at x0 x1 x2 x3 x9 b s ⟨1024 * (1 : Fin 4).val + d.val, by omega⟩, ← v27_at]
  unfold val_main_v49 val_main_v48 val_main_v45 val_main_v44
  generalize val_main_v27 (F := Ideal) x0 x1 x2 x3 x9 = h
  generalize val_main_v43 (F := Ideal) x6 = y
  pointwise [val_main_v47, val_main_v46]

theorem v54_at (b : Fin 8) (s : Fin 4096) (j : Fin 256) : val_main_v54 (F := Ideal) x7 (ix3 b s j) = yrow x7 b s j := by
  pointwise [val_main_v54, val_main_v53, val_main_v52, val_main_v51, yrow]

theorem v60_at (b : Fin 8) (s : Fin 4096) (d : Fin 1024) : val_main_v60 (F := Ideal) x0 x1 x2 x3 x7 x9 x10 (ix3 b s d)
    = term (fun k => val_main_v18 (F := Ideal) x0 x1 x2 x3 (ix3 b s k)) (wcol x9 2 d) (yrow x7 b s) (fun j => x10 (ix3 2 j d)) := by
  unfold term wcol
  simp only [← v54_at]
  rw [← v26_at x0 x1 x2 x3 x9 b s ⟨1024 * (2 : Fin 4).val + d.val, by omega⟩, ← v27_at]
  unfold val_main_v60 val_main_v59 val_main_v56 val_main_v55
  generalize val_main_v27 (F := Ideal) x0 x1 x2 x3 x9 = h
  generalize val_main_v54 (F := Ideal) x7 = y
  pointwise [val_main_v58, val_main_v57]

theorem v65_at (b : Fin 8) (s : Fin 4096) (j : Fin 256) : val_main_v65 (F := Ideal) x8 (ix3 b s j) = yrow x8 b s j := by
  pointwise [val_main_v65, val_main_v64, val_main_v63, val_main_v62, yrow]

theorem v71_at (b : Fin 8) (s : Fin 4096) (d : Fin 1024) : val_main_v71 (F := Ideal) x0 x1 x2 x3 x8 x9 x10 (ix3 b s d)
    = term (fun k => val_main_v18 (F := Ideal) x0 x1 x2 x3 (ix3 b s k)) (wcol x9 3 d) (yrow x8 b s) (fun j => x10 (ix3 3 j d)) := by
  unfold term wcol
  simp only [← v65_at]
  rw [← v26_at x0 x1 x2 x3 x9 b s ⟨1024 * (3 : Fin 4).val + d.val, by omega⟩, ← v27_at]
  unfold val_main_v71 val_main_v70 val_main_v67 val_main_v66
  generalize val_main_v27 (F := Ideal) x0 x1 x2 x3 x9 = h
  generalize val_main_v65 (F := Ideal) x8 = y
  pointwise [val_main_v69, val_main_v68]

theorem v72_at (b : Fin 8) (s : Fin 4096) (d : Fin 1024) : val_main_v72 (F := Ideal) x0 x1 x2 x3 x5 x6 x7 x8 x9 x10 (ix3 b s d)
    = 0 + val_main_v38 (F := Ideal) x0 x1 x2 x3 x5 x9 x10 (ix3 b s d) + val_main_v49 (F := Ideal) x0 x1 x2 x3 x6 x9 x10 (ix3 b s d)
      + val_main_v60 (F := Ideal) x0 x1 x2 x3 x7 x9 x10 (ix3 b s d) + val_main_v71 (F := Ideal) x0 x1 x2 x3 x8 x9 x10 (ix3 b s d) := by
  unfold val_main_v72 val_main_v61 val_main_v50 val_main_v39
  generalize val_main_v38 (F := Ideal) x0 x1 x2 x3 x5 x9 x10 = p0
  generalize val_main_v49 (F := Ideal) x0 x1 x2 x3 x6 x9 x10 = p1
  generalize val_main_v60 (F := Ideal) x0 x1 x2 x3 x7 x9 x10 = p2
  generalize val_main_v71 (F := Ideal) x0 x1 x2 x3 x8 x9 x10 = p3
  pointwise [val_main_v28, val_main_cst_5]

theorem v73_at (b : Fin 8) (s : Fin 4096) (d : Fin 1024) : val_main_v73 (F := Ideal) x0 x1 x2 x3 x5 x6 x7 x8 x9 x10 x11 (ix3 b s d)
    = ∑ e : Fin 1024, val_main_v72 (F := Ideal) x0 x1 x2 x3 x5 x6 x7 x8 x9 x10 (ix3 b s e) * x11 (ix2 e d) := by
  unfold val_main_v73
  generalize val_main_v72 (F := Ideal) x0 x1 x2 x3 x5 x6 x7 x8 x9 x10 = h
  pointwise []

theorem v77_at (b : Fin 8) (s : Fin 4096) (d : Fin 1024) : val_main_v77 (F := Ideal) x0 x1 x2 x3 x4 x5 x6 x7 x8 x9 x10 x11 (ix2 ⟨b.val * 4096 + s.val, by omega⟩ d)
    = x0 (ix3 b s d) + x4 (ix3 b 0 d) * val_main_v73 (F := Ideal) x0 x1 x2 x3 x5 x6 x7 x8 x9 x10 x11 (ix3 b s d) := by
  unfold val_main_v77 val_main_v76 val_main_v75
  generalize val_main_v73 (F := Ideal) x0 x1 x2 x3 x5 x6 x7 x8 x9 x10 x11 = h
  pointwise [val_main_v74]

end Cert.Reference4Ideal.Merge

end
-- ==== Proof.Merge.Same.lean ====
/- The merging kernel's result is the reference's. -/
module

public import proofs.«01_k».proof.Proof.Merge.Ref

@[expose] public section
noncomputable section
namespace Cert.Kernel4Ideal.Merge

open Cert.Kernel4Ideal Cert.Kernel4Ideal.Gen Idealize.ShloMosaic Idealize.ShloMosaic.TcCoe Idealize.ShloMosaic.Tactic Idealize.SL.Sem
open Idealize.ShloMosaic (ix1 ix2 ix3)
open Cert.Reference4Ideal.Merge (yrow wcol v18_at v38_at v49_at v60_at v71_at v72_at v73_at v77_at)
open Cert.Reference4Ideal.Read (val_main_v18 val_main_v77)
open scoped BigOperators

variable (m : (ℓ : Loc nD τ sig) → Buf (Elt Ideal) ℓ) (c : Dev nD)

/-- The arguments. -/
abbrev a0 : Vec Ideal S8x4096x1024 .f32 := m ((c.tc : Thread nD τ).loc main_arg0)
abbrev a1 : Vec Ideal S1024 .f32 := m ((c.tc : Thread nD τ).loc main_arg1)
abbrev a2 : Vec Ideal S8x1x1024 .f32 := m ((c.tc : Thread nD τ).loc main_arg2)
abbrev a3 : Vec Ideal S8x1x1024 .f32 := m ((c.tc : Thread nD τ).loc main_arg3)
abbrev a4 : Vec Ideal S8x1x1024 .f32 := m ((c.tc : Thread nD τ).loc main_arg4)
abbrev a5 : Vec Ideal S4x32768x64 .bf16 := m ((c.tc : Thread nD τ).loc main_arg5)
abbrev a6 : Vec Ideal S4x32768x64 .bf16 := m ((c.tc : Thread nD τ).loc main_arg6)
abbrev a7 : Vec Ideal S4x32768x64 .bf16 := m ((c.tc : Thread nD τ).loc main_arg7)
abbrev a8 : Vec Ideal S4x32768x64 .bf16 := m ((c.tc : Thread nD τ).loc main_arg8)
abbrev a9 : Vec Ideal S1024x6756 .f32 := m ((c.tc : Thread nD τ).loc main_arg9)
abbrev a10 : Vec Ideal S4x256x1024 .f32 := m ((c.tc : Thread nD τ).loc main_arg10)
abbrev a11 : Vec Ideal S1024x1024 .f32 := m ((c.tc : Thread nD τ).loc main_arg11)

theorem flat_row (x : Vec Ideal S8x4096x1024 .f32) (b : Fin 8) (s : Fin 4096) (d : Fin 1024) :
    shapeCast S32768x1024 x shapeCasts_S8x4096x1024_S32768x1024 (ix2 ⟨b.val * 4096 + s.val, by omega⟩ d) = x (ix3 b s d) := by
  pointwise []

theorem row_at (x : Vec Ideal S1024 .f32) (d : Fin 1024) :
    shapeCast S1x1024 x shapeCasts_S1024_S1x1024 (ix2 0 d) = x (ix1 d) := by
  pointwise []

theorem x_at (t : Fin cfg0.N) (r : Fin 512) (d : Fin 1024) (b : Fin 8) (s : Fin 4096) (hs : b.val * 4096 + s.val = 512 * t.val + r.val) :
    (iblk m c 0 t : Vec Ideal S512x1024 .f32) (ix2 r d) = a0 m c (ix3 b s d) := by
  rw [iblk0_at m c t r d ⟨b.val * 4096 + s.val, by omega⟩ hs, V_v0, flat_row]

theorem g_at (t : Fin cfg0.N) (d : Fin 1024) : (iblk m c 1 t : Vec Ideal S1x1024 .f32) (ix2 0 d) = a1 m c (ix1 d) := by
  rw [iblk1_at, V_v1, row_at]

theorem mod2_at (t : Fin cfg0.N) (d : Fin 1024) (b : Fin 8) (hb : b.val = t.val / 8) :
    (iblk m c 2 t : Vec Ideal S1x1x1024 .f32) (ix3 0 0 d) = a2 m c (ix3 b 0 d) := by
  rw [iblk2_at m c t d b hb, V_main_arg2]

theorem mod3_at (t : Fin cfg0.N) (d : Fin 1024) (b : Fin 8) (hb : b.val = t.val / 8) :
    (iblk m c 3 t : Vec Ideal S1x1x1024 .f32) (ix3 0 0 d) = a3 m c (ix3 b 0 d) := by
  rw [iblk3_at m c t d b hb, V_main_arg3]

theorem mod4_at (t : Fin cfg0.N) (d : Fin 1024) (b : Fin 8) (hb : b.val = t.val / 8) :
    (iblk m c 4 t : Vec Ideal S1x1x1024 .f32) (ix3 0 0 d) = a4 m c (ix3 b 0 d) := by
  rw [iblk4_at m c t d b hb, V_main_arg4]

theorem y5_at (t : Fin cfg0.N) (r : Fin 512) (j : Fin 256) (b : Fin 8) (s : Fin 4096) (hs : b.val * 4096 + s.val = 512 * t.val + r.val) :
    flat (iblk m c 5 t : Vec Ideal S4x512x64 .bf16) (ix2 r j) = yrow (a5 m c) b s j := by
  refine (iblk5_at m c t ⟨j.val / 64, by omega⟩ r ⟨j.val % 64, by omega⟩ ⟨b.val * 4096 + s.val, by omega⟩ hs).trans ?_
  rw [V_main_arg5]
  rfl

theorem y6_at (t : Fin cfg0.N) (r : Fin 512) (j : Fin 256) (b : Fin 8) (s : Fin 4096) (hs : b.val * 4096 + s.val = 512 * t.val + r.val) :
    flat (iblk m c 6 t : Vec Ideal S4x512x64 .bf16) (ix2 r j) = yrow (a6 m c) b s j := by
  refine (iblk6_at m c t ⟨j.val / 64, by omega⟩ r ⟨j.val % 64, by omega⟩ ⟨b.val * 4096 + s.val, by omega⟩ hs).trans ?_
  rw [V_main_arg6]
  rfl

theorem y7_at (t : Fin cfg0.N) (r : Fin 512) (j : Fin 256) (b : Fin 8) (s : Fin 4096) (hs : b.val * 4096 + s.val = 512 * t.val + r.val) :
    flat (iblk m c 7 t : Vec Ideal S4x512x64 .bf16) (ix2 r j) = yrow (a7 m c) b s j := by
  refine (iblk7_at m c t ⟨j.val / 64, by omega⟩ r ⟨j.val % 64, by omega⟩ ⟨b.val * 4096 + s.val, by omega⟩ hs).trans ?_
  rw [V_main_arg7]
  rfl

theorem y8_at (t : Fin cfg0.N) (r : Fin 512) (j : Fin 256) (b : Fin 8) (s : Fin 4096) (hs : b.val * 4096 + s.val = 512 * t.val + r.val) :
    flat (iblk m c 8 t : Vec Ideal S4x512x64 .bf16) (ix2 r j) = yrow (a8 m c) b s j := by
  refine (iblk8_at m c t ⟨j.val / 64, by omega⟩ r ⟨j.val % 64, by omega⟩ ⟨b.val * 4096 + s.val, by omega⟩ hs).trans ?_
  rw [V_main_arg8]
  rfl

theorem gate_at (x : Vec Ideal S1024x6756 .f32) (k : Fin 1024) (n : Fin 4096) :
    (truncf .bf16 (extractStridedSlice S1024x4096 ![0, 2660] x slices_S1024x6756_S1024x4096_0_2660 : FVec Ideal S1024x4096 .f32) bitsLt_bf16_f32) (ix2 k n)
      = x (ix2 k ⟨2660 + n.val, by omega⟩) := by
  pointwise []

theorem w_at (t : Fin cfg0.N) (n : Fin 4) (k d : Fin 1024) :
    gateCols (iblk m c 9 t : Vec Ideal S1024x4096 .bf16) n (ix2 k d) = wcol (a9 m c) n d k := by
  refine (iblk9_at m c t k ⟨(1024 * n.val + d.val) % 4096, Nat.mod_lt _ (by norm_num)⟩).trans ?_
  rw [V_v3, gate_at]
  exact congrArg (fun z => a9 m c (ix2 k z)) (Fin.ext (by show 2660 + (1024 * n.val + d.val) % 4096 = 2660 + (1024 * n.val + d.val); omega))

theorem b_at (t : Fin cfg0.N) (n : Fin 4) (j : Fin 256) (d : Fin 1024) :
    branch (iblk m c 10 t : Vec Ideal S4x256x1024 .bf16) n (ix3 0 j d) = a10 m c (ix3 n j d) := by
  refine (iblk10_at m c t n j d).trans ?_
  rw [V_v4]
  rfl

theorem o_at (t : Fin cfg0.N) (k d : Fin 1024) : (iblk m c 11 t : Vec Ideal S1024x1024 .bf16) (ix2 k d) = a11 m c (ix2 k d) := by
  rw [iblk11_at, V_v5]
  rfl

/-- The kernel's normalised row is the reference's. -/
theorem h_at (t : Fin cfg0.N) (r : Fin 512) (b : Fin 8) (s : Fin 4096) (hb : b.val = t.val / 8) (hs : b.val * 4096 + s.val = 512 * t.val + r.val) :
    hrow (iblk m c 0 t : Vec Ideal S512x1024 .f32) (iblk m c 1 t) (iblk m c 2 t) (iblk m c 3 t) r
      = fun k => val_main_v18 (F := Ideal) (a0 m c) (a1 m c) (a2 m c) (a3 m c) (ix3 b s k) := by
  funext k
  unfold hrow
  rw [v18_at, g_at, mod2_at m c t k b hb, mod3_at m c t k b hb]
  simp only [x_at m c t r _ b s hs]

/-- The reference's result, of the arguments. -/
abbrev result : Vec Ideal S32768x1024 .f32 :=
  val_main_v77 (F := Ideal) (a0 m c) (a1 m c) (a2 m c) (a3 m c) (a4 m c) (a5 m c) (a6 m c) (a7 m c) (a8 m c) (a9 m c) (a10 m c) (a11 m c)

/-- The block written at a point is the reference's. -/
theorem block_at (t : Fin cfg0.N) (r : Fin 512) (d : Fin 1024) (b : Fin 8) (s : Fin 4096) (hb : b.val = t.val / 8) (hs : b.val * 4096 + s.val = 512 * t.val + r.val) :
    out0_12 (iblk m c 0 t : Vec Ideal S512x1024 .f32) (iblk m c 1 t) (iblk m c 2 t) (iblk m c 3 t) (iblk m c 4 t) (iblk m c 5 t) (iblk m c 6 t) (iblk m c 7 t) (iblk m c 8 t)
        (iblk m c 9 t) (iblk m c 10 t) (iblk m c 11 t) (ix2 r d)
      = result m c (ix2 ⟨b.val * 4096 + s.val, by omega⟩ d) := by
  unfold result
  rw [out_at, v77_at, v73_at, x_at m c t r d b s hs, mod4_at m c t d b hb, h_at m c t r b s hb hs]
  simp only [v72_at, v38_at, v49_at, v60_at, v71_at, y5_at m c t r _ b s hs, y6_at m c t r _ b s hs, y7_at m c t r _ b s hs, y8_at m c t r _ b s hs, w_at, b_at, o_at]

theorem idx12 : ∀ t : Fin cfg0.N, win0_12.index t 0 = t.val ∧ win0_12.index t 1 = 0 :=
  (by decide +kernel : ∀ t : Fin grid0.N, win0_12.index t 0 = t.val ∧ win0_12.index t 1 = 0)

/-- The kernel's result is the reference's. -/
theorem final : (dats m 0 c).arrAt 12 cfg0.N = result m c := by
  refine (dats m 0 c).arrAt_eq_of_covers 12 _ (by decide +kernel) fun t hf y => ?_
  have hN : t.val < 64 := lt_of_lt_of_eq t.isLt N_0
  have hi := idx12 t
  have hy0 : (y 0).val < 512 := (y 0).isLt
  have hy1 : (y 1).val < 1024 := (y 1).isLt
  rw [after0_12]
  refine (show _ = out0_12 (iblk m c 0 t : Vec Ideal S512x1024 .f32) (iblk m c 1 t) (iblk m c 2 t) (iblk m c 3 t) (iblk m c 4 t) (iblk m c 5 t) (iblk m c 6 t) (iblk m c 7 t) (iblk m c 8 t)
        (iblk m c 9 t) (iblk m c 10 t) (iblk m c 11 t) (ix2 (y 0) (y 1)) from ?_).trans ((block_at m c t (y 0) (y 1) ⟨(512 * t.val + (y 0).val) / 4096, by omega⟩
          ⟨(512 * t.val + (y 0).val) % 4096, by omega⟩ (by dsimp only; omega) (by dsimp only; omega)).trans ?_)
  · blk_ext
  · refine congrArg (result m c) ?_
    funext a
    match a with
    | ⟨0, _⟩ => exact Fin.ext (by
        show (512 * t.val + (y 0).val) / 4096 * 4096 + (512 * t.val + (y 0).val) % 4096 = win0_12.index t 0 * 512 + 1 * (y 0).val
        rw [hi.1]; omega)
    | ⟨1, _⟩ => exact Fin.ext (by
        show (y 1).val = win0_12.index t 1 * 1024 + 1 * (y 1).val
        rw [hi.2]; omega)

end Cert.Kernel4Ideal.Merge

end
-- ==== Proof.lean ====
module

public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel3.Frame
public import proofs.«01_k».proof.Proof.Gen.Kernel3Ideal.Frame
public import proofs.«01_k».proof.Proof.Gen.Reference3Ideal.Run
public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2Ideal
public import proofs.«01_k».proof.Proof.Gen.Kernel2Ideal.Skeleton
public import proofs.«01_k».proof.Proof.Gen.Kernel2Ideal.Loops
public import proofs.«01_k».proof.Proof.Gen.Kernel2Ideal.Launch
public import proofs.«01_k».proof.Proof.Gen.Reference2Ideal
public import proofs.«01_k».proof.Proof.Gen.Reference2Ideal.Run
public import proofs.«01_k».proof.Proof.Gen.Reference2Ideal.Read
public import proofs.«01_k».proof.Proof.Finite
public import proofs.«01_k».proof.Proof.Moe.FrameBits
public import proofs.«01_k».proof.Proof.Moe.Same
public import proofs.«01_k».proof.Proof.Moe.Nonneg
public import proofs.«01_k».proof.Proof.Ffn.Same
public import proofs.«01_k».proof.Proof.Merge.Same
public import Idealize.ShloMosaic.Adequacy
public import Idealize.ShloMosaic.Init

@[expose] public section

noncomputable section

namespace Cert.Proof

open Idealize.ShloMosaic Idealize.ShloMosaic.TcCoe Idealize.SL.Sem

/-- The reference runs, its arguments are kept, and every counter ends at zero. -/
theorem frame_ref : Cert.quiescent_ReferenceIdeal (hReferenceIdeal := Cert.ReferenceIdeal.Gen.facts) := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

theorem algebraic [Cert.Pre_finite_queries_keys.Facts] :
    Cert.algebraic_KernelIdeal_ReferenceIdeal_pre_finite_queries_keys (hKernelIdeal := Cert.KernelIdeal.Gen.facts) (hReferenceIdeal := Cert.ReferenceIdeal.Gen.facts) := by
  intro m ρ m' ρ' hpre hag
  have fin := fun c => Cert.Pre_finite_queries_keys.Stick.finite _ _ _ (hpre c)
  refine ⟨fun c => Cert.KernelIdeal.Stick.stickRows (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) (m ((c.tc : Thread Cert.KernelIdeal.nD Cert.KernelIdeal.τ).loc Cert.KernelIdeal.main_arg2)),
    (θ_run _ _ _).mono (fun r h c => ⟨(h c).1.trans (Cert.KernelIdeal.Stick.final m c (fin c).1 (fin c).2), (h c).2⟩) (Cert.KernelIdeal.Value.run_blocks (F := Ideal) m ρ),
    (θ_run _ _ _).mono (fun r h c => ⟨(h c).1.trans ?_, (h c).2⟩) (Cert.ReferenceIdeal.Value.run (F := Ideal) m' ρ')⟩
  rw [Cert.ReferenceIdeal.Read.val_main_v26_eq, (hag c).1, (hag c).2.1, (hag c).2.2]
  exact Cert.ReferenceIdeal.Stick.v26_at _ _ _ (fin c).1 (fin c).2

/-- The mixture's reference runs, its arguments are kept, and every counter ends at zero. -/
theorem frame_ref2 : Cert.quiescent_Reference2Ideal (hReference2Ideal := Cert.Reference2Ideal.Gen.facts) := fun m ρ _ =>
  (θ_run Cert.Reference2Ideal.defs _ _).mono (fun r h => ⟨fun c => (h c).2, Idealize.ShloMosaic.sem_eq_zero_of_no_sems (by decide) r.2⟩)
    (Cert.Reference2Ideal.Value.run (F := Ideal) m ρ)

theorem algebraic2 [Cert.Pre_nonnegative_weights.Facts] :
    Cert.algebraic_Kernel2Ideal_Reference2Ideal_pre_nonnegative_weights (hKernel2Ideal := Cert.Kernel2Ideal.Gen.facts) (hReference2Ideal := Cert.Reference2Ideal.Gen.facts) := by
  intro m ρ m' ρ' hpre hag
  refine ⟨fun c => Cert.Kernel2Ideal.Moe.result (Cert.Kernel2Ideal.Moe.argsM m c),
    Cert.Kernel2Ideal.Moe.run_value m ρ (fun r e => Cert.Pre_nonnegative_weights.Moe.nonneg _ _ _ _ _ _ _ _ _ _ (hpre 0) _),
    (θ_run _ _ _).mono (fun r h c => ⟨(h c).1.trans ?_, (h c).2⟩) (Cert.Reference2Ideal.Value.run (F := Ideal) m' ρ')⟩
  obtain ⟨e0, e1, e2, e3, e4, e5, e6, e7, e8, e9⟩ := hag c
  rw [Cert.Reference2Ideal.Read.val_main_v158_eq,
    show StableHlo.launchContents m' c (Proc.tc.devRef Cert.Reference2Ideal.main_arg0) = (m ((c.tc : Thread Cert.Kernel2Ideal.nD Cert.Kernel2Ideal.τ).loc Cert.Kernel2Ideal.main_arg0)) from e0,
    show StableHlo.launchContents m' c (Proc.tc.devRef Cert.Reference2Ideal.main_arg1) = (m ((c.tc : Thread Cert.Kernel2Ideal.nD Cert.Kernel2Ideal.τ).loc Cert.Kernel2Ideal.main_arg1)) from e1,
    show StableHlo.launchContents m' c (Proc.tc.devRef Cert.Reference2Ideal.main_arg2) = (m ((c.tc : Thread Cert.Kernel2Ideal.nD Cert.Kernel2Ideal.τ).loc Cert.Kernel2Ideal.main_arg2)) from e2,
    show StableHlo.launchContents m' c (Proc.tc.devRef Cert.Reference2Ideal.main_arg3) = (m ((c.tc : Thread Cert.Kernel2Ideal.nD Cert.Kernel2Ideal.τ).loc Cert.Kernel2Ideal.main_arg3)) from e3,
    show StableHlo.launchContents m' c (Proc.tc.devRef Cert.Reference2Ideal.main_arg4) = (m ((c.tc : Thread Cert.Kernel2Ideal.nD Cert.Kernel2Ideal.τ).loc Cert.Kernel2Ideal.main_arg4)) from e4,
    show StableHlo.launchContents m' c (Proc.tc.devRef Cert.Reference2Ideal.main_arg5) = (m ((c.tc : Thread Cert.Kernel2Ideal.nD Cert.Kernel2Ideal.τ).loc Cert.Kernel2Ideal.main_arg5)) from e5,
    show StableHlo.launchContents m' c (Proc.tc.devRef Cert.Reference2Ideal.main_arg6) = (m ((c.tc : Thread Cert.Kernel2Ideal.nD Cert.Kernel2Ideal.τ).loc Cert.Kernel2Ideal.main_arg6)) from e6,
    show StableHlo.launchContents m' c (Proc.tc.devRef Cert.Reference2Ideal.main_arg7) = (m ((c.tc : Thread Cert.Kernel2Ideal.nD Cert.Kernel2Ideal.τ).loc Cert.Kernel2Ideal.main_arg7)) from e7,
    show StableHlo.launchContents m' c (Proc.tc.devRef Cert.Reference2Ideal.main_arg8) = (m ((c.tc : Thread Cert.Kernel2Ideal.nD Cert.Kernel2Ideal.τ).loc Cert.Kernel2Ideal.main_arg8)) from e8,
    show StableHlo.launchContents m' c (Proc.tc.devRef Cert.Reference2Ideal.main_arg9) = (m ((c.tc : Thread Cert.Kernel2Ideal.nD Cert.Kernel2Ideal.τ).loc Cert.Kernel2Ideal.main_arg9)) from e9]
  exact (Cert.Reference2Ideal.Moe.result_eq (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9))).symm

/-- The feed-forward's reference runs, its arguments are kept, and every counter ends at zero. -/
theorem frame_ref3 : Cert.quiescent_Reference3Ideal (hReference3Ideal := Cert.Reference3Ideal.Gen.facts) := fun m ρ _ =>
  (θ_run Cert.Reference3Ideal.defs _ _).mono (fun r h => ⟨fun c => (h c).2, Idealize.ShloMosaic.sem_eq_zero_of_no_sems (by decide) r.2⟩)
    (Cert.Reference3Ideal.Value.run (F := Ideal) m ρ)

theorem algebraic3 :
    Cert.algebraic_Kernel3Ideal_Reference3Ideal (hKernel3Ideal := Cert.Kernel3Ideal.Gen.facts) (hReference3Ideal := Cert.Reference3Ideal.Gen.facts) := by
  intro m ρ m' ρ' _ hag
  refine ⟨fun c => Cert.Kernel3Ideal.Value.G8 m c,
    Cert.Kernel3Ideal.Value.run (F := Ideal) m ρ,
    (θ_run _ _ _).mono (fun r h c => ⟨(h c).1.trans ?_, (h c).2⟩) (Cert.Reference3Ideal.Value.run (F := Ideal) m' ρ')⟩
  obtain ⟨e0, e1, e2, e3, e4, e5, e6, e7⟩ := hag c
  rw [Cert.Reference3Ideal.Read.val_main_v27_eq, e0, e1, e2, e3, e4, e5, e6, e7]
  exact (Cert.Kernel3Ideal.Ffn.final m c).symm

/-- The merging's reference runs, its arguments are kept, and every counter ends at zero. -/
theorem frame_ref4 : Cert.quiescent_Reference4Ideal (hReference4Ideal := Cert.Reference4Ideal.Gen.facts) := fun m ρ _ =>
  (θ_run Cert.Reference4Ideal.defs _ _).mono (fun r h => ⟨fun c => (h c).2, Idealize.ShloMosaic.sem_eq_zero_of_no_sems (by decide) r.2⟩)
    (Cert.Reference4Ideal.Value.run (F := Ideal) m ρ)

theorem algebraic4 :
    Cert.algebraic_Kernel4Ideal_Reference4Ideal (hKernel4Ideal := Cert.Kernel4Ideal.Gen.facts) (hReference4Ideal := Cert.Reference4Ideal.Gen.facts) := by
  intro m ρ m' ρ' _ hag
  refine ⟨fun c => Cert.Kernel4Ideal.Merge.result m c,
    (θ_run _ _ _).mono (fun r h c => ⟨(h c).1.trans (Cert.Kernel4Ideal.Merge.final m c), (h c).2⟩) (Cert.Kernel4Ideal.Value.run_blocks (F := Ideal) m ρ),
    (θ_run _ _ _).mono (fun r h c => ⟨(h c).1.trans ?_, (h c).2⟩) (Cert.Reference4Ideal.Value.run (F := Ideal) m' ρ')⟩
  obtain ⟨e0, e1, e2, e3, e4, e5, e6, e7, e8, e9, e10, e11⟩ := hag c
  rw [Cert.Reference4Ideal.Read.val_main_v77_eq, e0, e1, e2, e3, e4, e5, e6, e7, e8, e9, e10, e11]

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Pre_finite_queries_keys.Stick.facts, Cert.Pre_nonnegative_weights.Moe.facts,
    fun m ρ _ => Cert.Kernel.Gen.frame m ρ,
    fun m ρ _ => Cert.KernelIdeal.Gen.frame m ρ,
    fun m ρ _ => Cert.KernelIdeal.Gen.frame m ρ,
    frame_ref,
    fun m ρ _ => frame_ref m ρ trivial,
    Cert.Kernel2Ideal.Moe.frame_bits,
    fun m ρ _ => Cert.Kernel2Ideal.Moe.frame (F := Ideal) m ρ,
    fun m ρ _ => Cert.Kernel2Ideal.Moe.frame (F := Ideal) m ρ,
    frame_ref2,
    fun m ρ _ => frame_ref2 m ρ trivial,
    fun m ρ _ => Cert.Kernel3.Gen.frame m ρ,
    fun m ρ _ => Cert.Kernel3Ideal.Gen.frame m ρ,
    frame_ref3,
    fun m ρ _ => Cert.Kernel4.Gen.frame m ρ,
    fun m ρ _ => Cert.Kernel4Ideal.Gen.frame m ρ,
    frame_ref4,
    IdealRules.named_const.statement Cert.KernelIdeal.κ "neg_log2e" .f32 0xBFB8AA3B#32 _ rfl,
    @algebraic Cert.Pre_finite_queries_keys.Stick.facts,
    trivial,
    @algebraic2 Cert.Pre_nonnegative_weights.Moe.facts,
    trivial,
    algebraic3,
    trivial,
    algebraic4⟩

end Cert.Proof

end
